-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_FIn (m : (ℓ : Loc Cert.FIn.nD Cert.FIn.τ Cert.FIn.sig) → Buf (Elt Bits) ℓ) : Prop :=
  True

def Pre_FInIdeal (m : (ℓ : Loc Cert.FInIdeal.nD Cert.FInIdeal.τ Cert.FInIdeal.sig) → Buf (Elt Ideal) ℓ) : Prop :=
  True

def Pre_FInRefIdeal (m : (ℓ : Loc Cert.FInRefIdeal.nD Cert.FInRefIdeal.τ Cert.FInRefIdeal.sig) → Buf (Elt Ideal) ℓ) : Prop :=
  True

def Pre_FOut (m : (ℓ : Loc Cert.FOut.nD Cert.FOut.τ Cert.FOut.sig) → Buf (Elt Bits) ℓ) : Prop :=
  True

def Pre_FOutIdeal (m : (ℓ : Loc Cert.FOutIdeal.nD Cert.FOutIdeal.τ Cert.FOutIdeal.sig) → Buf (Elt Ideal) ℓ) : Prop :=
  True

def Pre_FOutRefIdeal (m : (ℓ : Loc Cert.FOutRefIdeal.nD Cert.FOutRefIdeal.τ Cert.FOutRefIdeal.sig) → Buf (Elt Ideal) ℓ) : Prop :=
  True

def Pre_DWin (m : (ℓ : Loc Cert.DWin.nD Cert.DWin.τ Cert.DWin.sig) → Buf (Elt Bits) ℓ) : Prop :=
  True

def Pre_DWinIdeal (m : (ℓ : Loc Cert.DWinIdeal.nD Cert.DWinIdeal.τ Cert.DWinIdeal.sig) → Buf (Elt Ideal) ℓ) : Prop :=
  True

def Pre_DWinRefIdeal (m : (ℓ : Loc Cert.DWinRefIdeal.nD Cert.DWinRefIdeal.τ Cert.DWinRefIdeal.sig) → Buf (Elt Ideal) ℓ) : Prop :=
  True

def Pre_DWout (m : (ℓ : Loc Cert.DWout.nD Cert.DWout.τ Cert.DWout.sig) → Buf (Elt Bits) ℓ) : Prop :=
  True

def Pre_DWoutIdeal (m : (ℓ : Loc Cert.DWoutIdeal.nD Cert.DWoutIdeal.τ Cert.DWoutIdeal.sig) → Buf (Elt Ideal) ℓ) : Prop :=
  True

def Pre_DWoutRefIdeal (m : (ℓ : Loc Cert.DWoutRefIdeal.nD Cert.DWoutRefIdeal.τ Cert.DWoutRefIdeal.sig) → Buf (Elt Ideal) ℓ) : Prop :=
  True

def Pre_AtInB (m : (ℓ : Loc Cert.AtInB.nD Cert.AtInB.τ Cert.AtInB.sig) → Buf (Elt Bits) ℓ) : Prop :=
  True

def Pre_AtInBIdeal (m : (ℓ : Loc Cert.AtInBIdeal.nD Cert.AtInBIdeal.τ Cert.AtInBIdeal.sig) → Buf (Elt Ideal) ℓ) : Prop :=
  True

def Pre_AtInBRefIdeal (m : (ℓ : Loc Cert.AtInBRefIdeal.nD Cert.AtInBRefIdeal.τ Cert.AtInBRefIdeal.sig) → Buf (Elt Ideal) ℓ) : Prop :=
  True

def Pre_MlInB (m : (ℓ : Loc Cert.MlInB.nD Cert.MlInB.τ Cert.MlInB.sig) → Buf (Elt Bits) ℓ) : Prop :=
  True

def Pre_MlInBIdeal (m : (ℓ : Loc Cert.MlInBIdeal.nD Cert.MlInBIdeal.τ Cert.MlInBIdeal.sig) → Buf (Elt Ideal) ℓ) : Prop :=
  True

def Pre_MlInBRefIdeal (m : (ℓ : Loc Cert.MlInBRefIdeal.nD Cert.MlInBRefIdeal.τ Cert.MlInBRefIdeal.sig) → Buf (Elt Ideal) ℓ) : Prop :=
  True

def Pre_AtDWin (m : (ℓ : Loc Cert.AtDWin.nD Cert.AtDWin.τ Cert.AtDWin.sig) → Buf (Elt Bits) ℓ) : Prop :=
  True

def Pre_AtDWinIdeal (m : (ℓ : Loc Cert.AtDWinIdeal.nD Cert.AtDWinIdeal.τ Cert.AtDWinIdeal.sig) → Buf (Elt Ideal) ℓ) : Prop :=
  True

def Pre_AtDWinRefIdeal (m : (ℓ : Loc Cert.AtDWinRefIdeal.nD Cert.AtDWinRefIdeal.τ Cert.AtDWinRefIdeal.sig) → Buf (Elt Ideal) ℓ) : Prop :=
  True

def Pre_MlDWin (m : (ℓ : Loc Cert.MlDWin.nD Cert.MlDWin.τ Cert.MlDWin.sig) → Buf (Elt Bits) ℓ) : Prop :=
  True

def Pre_MlDWinIdeal (m : (ℓ : Loc Cert.MlDWinIdeal.nD Cert.MlDWinIdeal.τ Cert.MlDWinIdeal.sig) → Buf (Elt Ideal) ℓ) : Prop :=
  True

def Pre_MlDWinRefIdeal (m : (ℓ : Loc Cert.MlDWinRefIdeal.nD Cert.MlDWinRefIdeal.τ Cert.MlDWinRefIdeal.sig) → Buf (Elt Ideal) ℓ) : Prop :=
  True

def Pre_MxDWout (m : (ℓ : Loc Cert.MxDWout.nD Cert.MxDWout.τ Cert.MxDWout.sig) → Buf (Elt Bits) ℓ) : Prop :=
  True

def Pre_MxDWoutIdeal (m : (ℓ : Loc Cert.MxDWoutIdeal.nD Cert.MxDWoutIdeal.τ Cert.MxDWoutIdeal.sig) → Buf (Elt Ideal) ℓ) : Prop :=
  True

def Pre_MxDWoutRefIdeal (m : (ℓ : Loc Cert.MxDWoutRefIdeal.nD Cert.MxDWoutRefIdeal.τ Cert.MxDWoutRefIdeal.sig) → Buf (Elt Ideal) ℓ) : Prop :=
  True

def Pre_MxOut (m : (ℓ : Loc Cert.MxOut.nD Cert.MxOut.τ Cert.MxOut.sig) → Buf (Elt Bits) ℓ) : Prop :=
  True

def Pre_MxOutIdeal (m : (ℓ : Loc Cert.MxOutIdeal.nD Cert.MxOutIdeal.τ Cert.MxOutIdeal.sig) → Buf (Elt Ideal) ℓ) : Prop :=
  True

def Pre_MxOutRefIdeal (m : (ℓ : Loc Cert.MxOutRefIdeal.nD Cert.MxOutRefIdeal.τ Cert.MxOutRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AdaB (m : (ℓ : Loc Cert.AdaB.nD Cert.AdaB.τ Cert.AdaB.sig) → Buf (Elt Bits) ℓ) : Prop :=
  True

def Pre_AdaBIdeal (m : (ℓ : Loc Cert.AdaBIdeal.nD Cert.AdaBIdeal.τ Cert.AdaBIdeal.sig) → Buf (Elt Ideal) ℓ) : Prop :=
  True

def Pre_AdaBRefIdeal (m : (ℓ : Loc Cert.AdaBRefIdeal.nD Cert.AdaBRefIdeal.τ Cert.AdaBRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamL (m : (ℓ : Loc Cert.AdamL.nD Cert.AdamL.τ Cert.AdamL.sig) → Buf (Elt Bits) ℓ) : Prop :=
  True

def Pre_AdamLIdeal (m : (ℓ : Loc Cert.AdamLIdeal.nD Cert.AdamLIdeal.τ Cert.AdamLIdeal.sig) → Buf (Elt Ideal) ℓ) : Prop :=
  True

def Pre_AdamLRefIdeal (m : (ℓ : Loc Cert.AdamLRefIdeal.nD Cert.AdamLRefIdeal.τ Cert.AdamLRefIdeal.sig) → Buf (Elt Ideal) ℓ) : Prop :=
  True

def Pre_AdamG (m : (ℓ : Loc Cert.AdamG.nD Cert.AdamG.τ Cert.AdamG.sig) → Buf (Elt Bits) ℓ) : Prop :=
  True

def Pre_AdamGIdeal (m : (ℓ : Loc Cert.AdamGIdeal.nD Cert.AdamGIdeal.τ Cert.AdamGIdeal.sig) → Buf (Elt Ideal) ℓ) : Prop :=
  True

def Pre_AdamGRefIdeal (m : (ℓ : Loc Cert.AdamGRefIdeal.nD Cert.AdamGRefIdeal.τ Cert.AdamGRefIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_AdamCRefIdeal (m : (ℓ : Loc Cert.AdamCRefIdeal.nD Cert.AdamCRefIdeal.τ Cert.AdamCRefIdeal.sig) → Buf (Elt Ideal) ℓ) : Prop :=
  True

def Pre_AdamH (m : (ℓ : Loc Cert.AdamH.nD Cert.AdamH.τ Cert.AdamH.sig) → Buf (Elt Bits) ℓ) : Prop :=
  True

def Pre_AdamHIdeal (m : (ℓ : Loc Cert.AdamHIdeal.nD Cert.AdamHIdeal.τ Cert.AdamHIdeal.sig) → Buf (Elt Ideal) ℓ) : Prop :=
  True

def Pre_AdamHRefIdeal (m : (ℓ : Loc Cert.AdamHRefIdeal.nD Cert.AdamHRefIdeal.τ Cert.AdamHRefIdeal.sig) → Buf (Elt Ideal) ℓ) : Prop :=
  True

def Pre_RedO (m : (ℓ : Loc Cert.RedO.nD Cert.RedO.τ Cert.RedO.sig) → Buf (Elt Bits) ℓ) : Prop :=
  True

def Pre_RedOIdeal (m : (ℓ : Loc Cert.RedOIdeal.nD Cert.RedOIdeal.τ Cert.RedOIdeal.sig) → Buf (Elt Ideal) ℓ) : Prop :=
  True

def Pre_RedORefIdeal (m : (ℓ : Loc Cert.RedORefIdeal.nD Cert.RedORefIdeal.τ Cert.RedORefIdeal.sig) → Buf (Elt Ideal) ℓ) : Prop :=
  True

def Pre_RedM (m : (ℓ : Loc Cert.RedM.nD Cert.RedM.τ Cert.RedM.sig) → Buf (Elt Bits) ℓ) : Prop :=
  True

def Pre_RedMIdeal (m : (ℓ : Loc Cert.RedMIdeal.nD Cert.RedMIdeal.τ Cert.RedMIdeal.sig) → Buf (Elt Ideal) ℓ) : Prop :=
  True

def Pre_RedMRefIdeal (m : (ℓ : Loc Cert.RedMRefIdeal.nD Cert.RedMRefIdeal.τ Cert.RedMRefIdeal.sig) → Buf (Elt Ideal) ℓ) : Prop :=
  True

def Pre_RedA (m : (ℓ : Loc Cert.RedA.nD Cert.RedA.τ Cert.RedA.sig) → Buf (Elt Bits) ℓ) : Prop :=
  True

def Pre_RedAIdeal (m : (ℓ : Loc Cert.RedAIdeal.nD Cert.RedAIdeal.τ Cert.RedAIdeal.sig) → Buf (Elt Ideal) ℓ) : Prop :=
  True

def Pre_RedARefIdeal (m : (ℓ : Loc Cert.RedARefIdeal.nD Cert.RedARefIdeal.τ Cert.RedARefIdeal.sig) → Buf (Elt Ideal) ℓ) : Prop :=
  True

def Pre_RedFi (m : (ℓ : Loc Cert.RedFi.nD Cert.RedFi.τ Cert.RedFi.sig) → Buf (Elt Bits) ℓ) : Prop :=
  True

def Pre_RedFiIdeal (m : (ℓ : Loc Cert.RedFiIdeal.nD Cert.RedFiIdeal.τ Cert.RedFiIdeal.sig) → Buf (Elt Ideal) ℓ) : Prop :=
  True

def Pre_RedFiRefIdeal (m : (ℓ : Loc Cert.RedFiRefIdeal.nD Cert.RedFiRefIdeal.τ Cert.RedFiRefIdeal.sig) → Buf (Elt Ideal) ℓ) : Prop :=
  True

def Pre_RedFo (m : (ℓ : Loc Cert.RedFo.nD Cert.RedFo.τ Cert.RedFo.sig) → Buf (Elt Bits) ℓ) : Prop :=
  True

def Pre_RedFoIdeal (m : (ℓ : Loc Cert.RedFoIdeal.nD Cert.RedFoIdeal.τ Cert.RedFoIdeal.sig) → Buf (Elt Ideal) ℓ) : Prop :=
  True

def Pre_RedFoRefIdeal (m : (ℓ : Loc Cert.RedFoRefIdeal.nD Cert.RedFoRefIdeal.τ Cert.RedFoRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SSum (m : (ℓ : Loc Cert.SSum.nD Cert.SSum.τ Cert.SSum.sig) → Buf (Elt Bits) ℓ) : Prop :=
  True

def Pre_SSumIdeal (m : (ℓ : Loc Cert.SSumIdeal.nD Cert.SSumIdeal.τ Cert.SSumIdeal.sig) → Buf (Elt Ideal) ℓ) : Prop :=
  True

def Pre_SSumRefIdeal (m : (ℓ : Loc Cert.SSumRefIdeal.nD Cert.SSumRefIdeal.τ Cert.SSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2)
      ∧ r.2.mem ((c.tc : Thread Cert.InB.nD Cert.InB.τ).loc Cert.InB.main_arg3) = m ((c.tc : Thread Cert.InB.nD Cert.InB.τ).loc Cert.InB.main_arg3)
      ∧ r.2.mem ((c.tc : Thread Cert.InB.nD Cert.InB.τ).loc Cert.InB.main_arg4) = m ((c.tc : Thread Cert.InB.nD Cert.InB.τ).loc Cert.InB.main_arg4))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
      ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
      ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2)
      ∧ r.2.mem ((c.tc : Thread Cert.InBRefIdeal.nD Cert.InBRefIdeal.τ).loc Cert.InBRefIdeal.main_arg3) = m ((c.tc : Thread Cert.InBRefIdeal.nD Cert.InBRefIdeal.τ).loc Cert.InBRefIdeal.main_arg3)
      ∧ r.2.mem ((c.tc : Thread Cert.InBRefIdeal.nD Cert.InBRefIdeal.τ).loc Cert.InBRefIdeal.main_arg4) = m ((c.tc : Thread Cert.InBRefIdeal.nD Cert.InBRefIdeal.τ).loc Cert.InBRefIdeal.main_arg4))
      ∧ r.2.sem = fun _ => 0)

def quiescent_FIn [hFIn : Cert.FIn.Facts] : Prop :=
  ∀ (m : (ℓ : Loc Cert.FIn.nD Cert.FIn.τ Cert.FIn.sig) → Buf (Elt Bits) ℓ) (g : Dev Cert.FIn.nD → PrngReg), Pre_FIn m →
    θ_run (Cert.FIn.defs (F := Bits)) (onTc (τ := Cert.FIn.τ) (Cert.FIn.main (F := Bits))) ⟨m, fun _ => 0, g⟩ (fun r => (∀ c : Dev Cert.FIn.nD,
      r.2.mem ((c.tc : Thread Cert.FIn.nD Cert.FIn.τ).loc Cert.FIn.main_arg0) = m ((c.tc : Thread Cert.FIn.nD Cert.FIn.τ).loc Cert.FIn.main_arg0)
      ∧ r.2.mem ((c.tc : Thread Cert.FIn.nD Cert.FIn.τ).loc Cert.FIn.main_arg1) = m ((c.tc : Thread Cert.FIn.nD Cert.FIn.τ).loc Cert.FIn.main_arg1)
      ∧ r.2.mem ((c.tc : Thread Cert.FIn.nD Cert.FIn.τ).loc Cert.FIn.main_arg2) = m ((c.tc : Thread Cert.FIn.nD Cert.FIn.τ).loc Cert.FIn.main_arg2))
      ∧ r.2.sem = fun _ => 0)

def quiescent_FInIdeal [hFInIdeal : Cert.FInIdeal.Facts] : Prop :=
  ∀ (m : (ℓ : Loc Cert.FInIdeal.nD Cert.FInIdeal.τ Cert.FInIdeal.sig) → Buf (Elt Ideal) ℓ) (g : Dev Cert.FInIdeal.nD → PrngReg), Pre_FInIdeal m →
    θ_run (Cert.FInIdeal.defs (F := Ideal)) (onTc (τ := Cert.FInIdeal.τ) (Cert.FInIdeal.main (F := Ideal))) ⟨m, fun _ => 0, g⟩ (fun r => (∀ c : Dev Cert.FInIdeal.nD,
      r.2.mem ((c.tc : Thread Cert.FInIdeal.nD Cert.FInIdeal.τ).loc Cert.FInIdeal.main_arg0) = m ((c.tc : Thread Cert.FInIdeal.nD Cert.FInIdeal.τ).loc Cert.FInIdeal.main_arg0)
      ∧ r.2.mem ((c.tc : Thread Cert.FInIdeal.nD Cert.FInIdeal.τ).loc Cert.FInIdeal.main_arg1) = m ((c.tc : Thread Cert.FInIdeal.nD Cert.FInIdeal.τ).loc Cert.FInIdeal.main_arg1)
      ∧ r.2.mem ((c.tc : Thread Cert.FInIdeal.nD Cert.FInIdeal.τ).loc Cert.FInIdeal.main_arg2) = m ((c.tc : Thread Cert.FInIdeal.nD Cert.FInIdeal.τ).loc Cert.FInIdeal.main_arg2))
      ∧ r.2.sem = fun _ => 0)

def quiescent_FInRefIdeal [hFInRefIdeal : Cert.FInRefIdeal.Facts] : Prop :=
  ∀ (m : (ℓ : Loc Cert.FInRefIdeal.nD Cert.FInRefIdeal.τ Cert.FInRefIdeal.sig) → Buf (Elt Ideal) ℓ) (g : Dev Cert.FInRefIdeal.nD → PrngReg), Pre_FInRefIdeal m →
    θ_run (Cert.FInRefIdeal.defs (F := Ideal)) (onTc (τ := Cert.FInRefIdeal.τ) (Cert.FInRefIdeal.main (F := Ideal))) ⟨m, fun _ => 0, g⟩ (fun r => (∀ c : Dev Cert.FInRefIdeal.nD,
      r.2.mem ((c.tc : Thread Cert.FInRefIdeal.nD Cert.FInRefIdeal.τ).loc Cert.FInRefIdeal.main_arg0) = m ((c.tc : Thread Cert.FInRefIdeal.nD Cert.FInRefIdeal.τ).loc Cert.FInRefIdeal.main_arg0)
      ∧ r.2.mem ((c.tc : Thread Cert.FInRefIdeal.nD Cert.FInRefIdeal.τ).loc Cert.FInRefIdeal.main_arg1) = m ((c.tc : Thread Cert.FInRefIdeal.nD Cert.FInRefIdeal.τ).loc Cert.FInRefIdeal.main_arg1)
      ∧ r.2.mem ((c.tc : Thread Cert.FInRefIdeal.nD Cert.FInRefIdeal.τ).loc Cert.FInRefIdeal.main_arg2) = m ((c.tc : Thread Cert.FInRefIdeal.nD Cert.FInRefIdeal.τ).loc Cert.FInRefIdeal.main_arg2))
      ∧ r.2.sem = fun _ => 0)

def quiescent_FOut [hFOut : Cert.FOut.Facts] : Prop :=
  ∀ (m : (ℓ : Loc Cert.FOut.nD Cert.FOut.τ Cert.FOut.sig) → Buf (Elt Bits) ℓ) (g : Dev Cert.FOut.nD → PrngReg), Pre_FOut m →
    θ_run (Cert.FOut.defs (F := Bits)) (onTc (τ := Cert.FOut.τ) (Cert.FOut.main (F := Bits))) ⟨m, fun _ => 0, g⟩ (fun r => (∀ c : Dev Cert.FOut.nD,
      r.2.mem ((c.tc : Thread Cert.FOut.nD Cert.FOut.τ).loc Cert.FOut.main_arg0) = m ((c.tc : Thread Cert.FOut.nD Cert.FOut.τ).loc Cert.FOut.main_arg0)
      ∧ r.2.mem ((c.tc : Thread Cert.FOut.nD Cert.FOut.τ).loc Cert.FOut.main_arg1) = m ((c.tc : Thread Cert.FOut.nD Cert.FOut.τ).loc Cert.FOut.main_arg1)
      ∧ r.2.mem ((c.tc : Thread Cert.FOut.nD Cert.FOut.τ).loc Cert.FOut.main_arg2) = m ((c.tc : Thread Cert.FOut.nD Cert.FOut.τ).loc Cert.FOut.main_arg2)
      ∧ r.2.mem ((c.tc : Thread Cert.FOut.nD Cert.FOut.τ).loc Cert.FOut.main_arg3) = m ((c.tc : Thread Cert.FOut.nD Cert.FOut.τ).loc Cert.FOut.main_arg3)
      ∧ r.2.mem ((c.tc : Thread Cert.FOut.nD Cert.FOut.τ).loc Cert.FOut.main_arg4) = m ((c.tc : Thread Cert.FOut.nD Cert.FOut.τ).loc Cert.FOut.main_arg4)
      ∧ r.2.mem ((c.tc : Thread Cert.FOut.nD Cert.FOut.τ).loc Cert.FOut.main_arg5) = m ((c.tc : Thread Cert.FOut.nD Cert.FOut.τ).loc Cert.FOut.main_arg5))
      ∧ r.2.sem = fun _ => 0)

def quiescent_FOutIdeal [hFOutIdeal : Cert.FOutIdeal.Facts] : Prop :=
  ∀ (m : (ℓ : Loc Cert.FOutIdeal.nD Cert.FOutIdeal.τ Cert.FOutIdeal.sig) → Buf (Elt Ideal) ℓ) (g : Dev Cert.FOutIdeal.nD → PrngReg), Pre_FOutIdeal m →
    θ_run (Cert.FOutIdeal.defs (F := Ideal)) (onTc (τ := Cert.FOutIdeal.τ) (Cert.FOutIdeal.main (F := Ideal))) ⟨m, fun _ => 0, g⟩ (fun r => (∀ c : Dev Cert.FOutIdeal.nD,
      r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
      ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1)
      ∧ r.2.mem ((c.tc : Thread Cert.FOutIdeal.nD Cert.FOutIdeal.τ).loc Cert.FOutIdeal.main_arg2) = m ((c.tc : Thread Cert.FOutIdeal.nD Cert.FOutIdeal.τ).loc Cert.FOutIdeal.main_arg2)
      ∧ r.2.mem ((c.tc : Thread Cert.FOutIdeal.nD Cert.FOutIdeal.τ).loc Cert.FOutIdeal.main_arg3) = m ((c.tc : Thread Cert.FOutIdeal.nD Cert.FOutIdeal.τ).loc Cert.FOutIdeal.main_arg3)
      ∧ r.2.mem ((c.tc : Thread Cert.FOutIdeal.nD Cert.FOutIdeal.τ).loc Cert.FOutIdeal.main_arg4) = m ((c.tc : Thread Cert.FOutIdeal.nD Cert.FOutIdeal.τ).loc Cert.FOutIdeal.main_arg4)
      ∧ r.2.mem ((c.tc : Thread Cert.FOutIdeal.nD Cert.FOutIdeal.τ).loc Cert.FOutIdeal.main_arg5) = m ((c.tc : Thread Cert.FOutIdeal.nD Cert.FOutIdeal.τ).loc Cert.FOutIdeal.main_arg5))
      ∧ r.2.sem = fun _ => 0)

def quiescent_FOutRefIdeal [hFOutRefIdeal : Cert.FOutRefIdeal.Facts] : Prop :=
  ∀ (m : (ℓ : Loc Cert.FOutRefIdeal.nD Cert.FOutRefIdeal.τ Cert.FOutRefIdeal.sig) → Buf (Elt Ideal) ℓ) (g : Dev Cert.FOutRefIdeal.nD → PrngReg), Pre_FOutRefIdeal m →
    θ_run (Cert.FOutRefIdeal.defs (F := Ideal)) (onTc (τ := Cert.FOutRefIdeal.τ) (Cert.FOutRefIdeal.main (F := Ideal))) ⟨m, fun _ => 0, g⟩ (fun r => (∀ c : Dev Cert.FOutRefIdeal.nD,
      r.2.mem ((c.tc : Thread Cert.FOutRefIdeal.nD Cert.FOutRefIdeal.τ).loc Cert.FOutRefIdeal.main_arg0) = m ((c.tc : Thread Cert.FOutRefIdeal.nD Cert.FOutRefIdeal.τ).loc Cert.FOutRefIdeal.main_arg0)
      ∧ r.2.mem ((c.tc : Thread Cert.FOutRefIdeal.nD Cert.FOutRefIdeal.τ).loc Cert.FOutRefIdeal.main_arg1) = m ((c.tc : Thread Cert.FOutRefIdeal.nD Cert.FOutRefIdeal.τ).loc Cert.FOutRefIdeal.main_arg1)
      ∧ r.2.mem ((c.tc : Thread Cert.FOutRefIdeal.nD Cert.FOutRefIdeal.τ).loc Cert.FOutRefIdeal.main_arg2) = m ((c.tc : Thread Cert.FOutRefIdeal.nD Cert.FOutRefIdeal.τ).loc Cert.FOutRefIdeal.main_arg2)
      ∧ r.2.mem ((c.tc : Thread Cert.FOutRefIdeal.nD Cert.FOutRefIdeal.τ).loc Cert.FOutRefIdeal.main_arg3) = m ((c.tc : Thread Cert.FOutRefIdeal.nD Cert.FOutRefIdeal.τ).loc Cert.FOutRefIdeal.main_arg3)
      ∧ r.2.mem ((c.tc : Thread Cert.FOutRefIdeal.nD Cert.FOutRefIdeal.τ).loc Cert.FOutRefIdeal.main_arg4) = m ((c.tc : Thread Cert.FOutRefIdeal.nD Cert.FOutRefIdeal.τ).loc Cert.FOutRefIdeal.main_arg4)
      ∧ r.2.mem ((c.tc : Thread Cert.FOutRefIdeal.nD Cert.FOutRefIdeal.τ).loc Cert.FOutRefIdeal.main_arg5) = m ((c.tc : Thread Cert.FOutRefIdeal.nD Cert.FOutRefIdeal.τ).loc Cert.FOutRefIdeal.main_arg5))
      ∧ r.2.sem = fun _ => 0)

def quiescent_DWin [hDWin : Cert.DWin.Facts] : Prop :=
  ∀ (m : (ℓ : Loc Cert.DWin.nD Cert.DWin.τ Cert.DWin.sig) → Buf (Elt Bits) ℓ) (g : Dev Cert.DWin.nD → PrngReg), Pre_DWin m →
    θ_run (Cert.DWin.defs (F := Bits)) (onTc (τ := Cert.DWin.τ) (Cert.DWin.main (F := Bits))) ⟨m, fun _ => 0, g⟩ (fun r => (∀ c : Dev Cert.DWin.nD,
      r.2.mem ((c.tc : Thread Cert.DWin.nD Cert.DWin.τ).loc Cert.DWin.main_arg0) = m ((c.tc : Thread Cert.DWin.nD Cert.DWin.τ).loc Cert.DWin.main_arg0)
      ∧ r.2.mem ((c.tc : Thread Cert.DWin.nD Cert.DWin.τ).loc Cert.DWin.main_arg1) = m ((c.tc : Thread Cert.DWin.nD Cert.DWin.τ).loc Cert.DWin.main_arg1))
      ∧ r.2.sem = fun _ => 0)

def quiescent_DWinIdeal [hDWinIdeal : Cert.DWinIdeal.Facts] : Prop :=
  ∀ (m : (ℓ : Loc Cert.DWinIdeal.nD Cert.DWinIdeal.τ Cert.DWinIdeal.sig) → Buf (Elt Ideal) ℓ) (g : Dev Cert.DWinIdeal.nD → PrngReg), Pre_DWinIdeal m →
    θ_run (Cert.DWinIdeal.defs (F := Ideal)) (onTc (τ := Cert.DWinIdeal.τ) (Cert.DWinIdeal.main (F := Ideal))) ⟨m, fun _ => 0, g⟩ (fun r => (∀ c : Dev Cert.DWinIdeal.nD,
      r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
      ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ r.2.sem = fun _ => 0)

def quiescent_DWinRefIdeal [hDWinRefIdeal : Cert.DWinRefIdeal.Facts] : Prop :=
  ∀ (m : (ℓ : Loc Cert.DWinRefIdeal.nD Cert.DWinRefIdeal.τ Cert.DWinRefIdeal.sig) → Buf (Elt Ideal) ℓ) (g : Dev Cert.DWinRefIdeal.nD → PrngReg), Pre_DWinRefIdeal m →
    θ_run (Cert.DWinRefIdeal.defs (F := Ideal)) (onTc (τ := Cert.DWinRefIdeal.τ) (Cert.DWinRefIdeal.main (F := Ideal))) ⟨m, fun _ => 0, g⟩ (fun r => (∀ c : Dev Cert.DWinRefIdeal.nD,
      r.2.mem ((c.tc : Thread Cert.DWinRefIdeal.nD Cert.DWinRefIdeal.τ).loc Cert.DWinRefIdeal.main_arg0) = m ((c.tc : Thread Cert.DWinRefIdeal.nD Cert.DWinRefIdeal.τ).loc Cert.DWinRefIdeal.main_arg0)
      ∧ r.2.mem ((c.tc : Thread Cert.DWinRefIdeal.nD Cert.DWinRefIdeal.τ).loc Cert.DWinRefIdeal.main_arg1) = m ((c.tc : Thread Cert.DWinRefIdeal.nD Cert.DWinRefIdeal.τ).loc Cert.DWinRefIdeal.main_arg1))
      ∧ r.2.sem = fun _ => 0)

def quiescent_DWout [hDWout : Cert.DWout.Facts] : Prop :=
  ∀ (m : (ℓ : Loc Cert.DWout.nD Cert.DWout.τ Cert.DWout.sig) → Buf (Elt Bits) ℓ) (g : Dev Cert.DWout.nD → PrngReg), Pre_DWout m →
    θ_run (Cert.DWout.defs (F := Bits)) (onTc (τ := Cert.DWout.τ) (Cert.DWout.main (F := Bits))) ⟨m, fun _ => 0, g⟩ (fun r => (∀ c : Dev Cert.DWout.nD,
      r.2.mem ((c.tc : Thread Cert.DWout.nD Cert.DWout.τ).loc Cert.DWout.main_arg0) = m ((c.tc : Thread Cert.DWout.nD Cert.DWout.τ).loc Cert.DWout.main_arg0)
      ∧ r.2.mem ((c.tc : Thread Cert.DWout.nD Cert.DWout.τ).loc Cert.DWout.main_arg1) = m ((c.tc : Thread Cert.DWout.nD Cert.DWout.τ).loc Cert.DWout.main_arg1))
      ∧ r.2.sem = fun _ => 0)

def quiescent_DWoutIdeal [hDWoutIdeal : Cert.DWoutIdeal.Facts] : Prop :=
  ∀ (m : (ℓ : Loc Cert.DWoutIdeal.nD Cert.DWoutIdeal.τ Cert.DWoutIdeal.sig) → Buf (Elt Ideal) ℓ) (g : Dev Cert.DWoutIdeal.nD → PrngReg), Pre_DWoutIdeal m →
    θ_run (Cert.DWoutIdeal.defs (F := Ideal)) (onTc (τ := Cert.DWoutIdeal.τ) (Cert.DWoutIdeal.main (F := Ideal))) ⟨m, fun _ => 0, g⟩ (fun r => (∀ c : Dev Cert.DWoutIdeal.nD,
      r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
      ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ r.2.sem = fun _ => 0)

def quiescent_DWoutRefIdeal [hDWoutRefIdeal : Cert.DWoutRefIdeal.Facts] : Prop :=
  ∀ (m : (ℓ : Loc Cert.DWoutRefIdeal.nD Cert.DWoutRefIdeal.τ Cert.DWoutRefIdeal.sig) → Buf (Elt Ideal) ℓ) (g : Dev Cert.DWoutRefIdeal.nD → PrngReg), Pre_DWoutRefIdeal m →
    θ_run (Cert.DWoutRefIdeal.defs (F := Ideal)) (onTc (τ := Cert.DWoutRefIdeal.τ) (Cert.DWoutRefIdeal.main (F := Ideal))) ⟨m, fun _ => 0, g⟩ (fun r => (∀ c : Dev Cert.DWoutRefIdeal.nD,
      r.2.mem ((c.tc : Thread Cert.DWoutRefIdeal.nD Cert.DWoutRefIdeal.τ).loc Cert.DWoutRefIdeal.main_arg0) = m ((c.tc : Thread Cert.DWoutRefIdeal.nD Cert.DWoutRefIdeal.τ).loc Cert.DWoutRefIdeal.main_arg0)
      ∧ r.2.mem ((c.tc : Thread Cert.DWoutRefIdeal.nD Cert.DWoutRefIdeal.τ).loc Cert.DWoutRefIdeal.main_arg1) = m ((c.tc : Thread Cert.DWoutRefIdeal.nD Cert.DWoutRefIdeal.τ).loc Cert.DWoutRefIdeal.main_arg1))
      ∧ r.2.sem = fun _ => 0)

def quiescent_AtInB [hAtInB : Cert.AtInB.Facts] : Prop :=
  ∀ (m : (ℓ : Loc Cert.AtInB.nD Cert.AtInB.τ Cert.AtInB.sig) → Buf (Elt Bits) ℓ) (g : Dev Cert.AtInB.nD → PrngReg), Pre_AtInB m →
    θ_run (Cert.AtInB.defs (F := Bits)) (onTc (τ := Cert.AtInB.τ) (Cert.AtInB.main (F := Bits))) ⟨m, fun _ => 0, g⟩ (fun r => (∀ c : Dev Cert.AtInB.nD,
      r.2.mem ((c.tc : Thread Cert.AtInB.nD Cert.AtInB.τ).loc Cert.AtInB.main_arg0) = m ((c.tc : Thread Cert.AtInB.nD Cert.AtInB.τ).loc Cert.AtInB.main_arg0)
      ∧ r.2.mem ((c.tc : Thread Cert.AtInB.nD Cert.AtInB.τ).loc Cert.AtInB.main_arg1) = m ((c.tc : Thread Cert.AtInB.nD Cert.AtInB.τ).loc Cert.AtInB.main_arg1)
      ∧ r.2.mem ((c.tc : Thread Cert.AtInB.nD Cert.AtInB.τ).loc Cert.AtInB.main_arg2) = m ((c.tc : Thread Cert.AtInB.nD Cert.AtInB.τ).loc Cert.AtInB.main_arg2)
      ∧ r.2.mem ((c.tc : Thread Cert.AtInB.nD Cert.AtInB.τ).loc Cert.AtInB.main_arg3) = m ((c.tc : Thread Cert.AtInB.nD Cert.AtInB.τ).loc Cert.AtInB.main_arg3)
      ∧ r.2.mem ((c.tc : Thread Cert.AtInB.nD Cert.AtInB.τ).loc Cert.AtInB.main_arg4) = m ((c.tc : Thread Cert.AtInB.nD Cert.AtInB.τ).loc Cert.AtInB.main_arg4))
      ∧ r.2.sem = fun _ => 0)

def quiescent_AtInBIdeal [hAtInBIdeal : Cert.AtInBIdeal.Facts] : Prop :=
  ∀ (m : (ℓ : Loc Cert.AtInBIdeal.nD Cert.AtInBIdeal.τ Cert.AtInBIdeal.sig) → Buf (Elt Ideal) ℓ) (g : Dev Cert.AtInBIdeal.nD → PrngReg), Pre_AtInBIdeal m →
    θ_run (Cert.AtInBIdeal.defs (F := Ideal)) (onTc (τ := Cert.AtInBIdeal.τ) (Cert.AtInBIdeal.main (F := Ideal))) ⟨m, fun _ => 0, g⟩ (fun r => (∀ c : Dev Cert.AtInBIdeal.nD,
      r.2.mem ((c.tc : Thread Cert.AtInBIdeal.nD Cert.AtInBIdeal.τ).loc Cert.AtInBIdeal.main_arg0) = m ((c.tc : Thread Cert.AtInBIdeal.nD Cert.AtInBIdeal.τ).loc Cert.AtInBIdeal.main_arg0)
      ∧ r.2.mem ((c.tc : Thread Cert.AtInBIdeal.nD Cert.AtInBIdeal.τ).loc Cert.AtInBIdeal.main_arg1) = m ((c.tc : Thread Cert.AtInBIdeal.nD Cert.AtInBIdeal.τ).loc Cert.AtInBIdeal.main_arg1)
      ∧ r.2.mem ((c.tc : Thread Cert.AtInBIdeal.nD Cert.AtInBIdeal.τ).loc Cert.AtInBIdeal.main_arg2) = m ((c.tc : Thread Cert.AtInBIdeal.nD Cert.AtInBIdeal.τ).loc Cert.AtInBIdeal.main_arg2)
      ∧ r.2.mem ((c.tc : Thread Cert.AtInBIdeal.nD Cert.AtInBIdeal.τ).loc Cert.AtInBIdeal.main_arg3) = m ((c.tc : Thread Cert.AtInBIdeal.nD Cert.AtInBIdeal.τ).loc Cert.AtInBIdeal.main_arg3)
      ∧ r.2.mem ((c.tc : Thread Cert.AtInBIdeal.nD Cert.AtInBIdeal.τ).loc Cert.AtInBIdeal.main_arg4) = m ((c.tc : Thread Cert.AtInBIdeal.nD Cert.AtInBIdeal.τ).loc Cert.AtInBIdeal.main_arg4))
      ∧ r.2.sem = fun _ => 0)

def quiescent_AtInBRefIdeal [hAtInBRefIdeal : Cert.AtInBRefIdeal.Facts] : Prop :=
  ∀ (m : (ℓ : Loc Cert.AtInBRefIdeal.nD Cert.AtInBRefIdeal.τ Cert.AtInBRefIdeal.sig) → Buf (Elt Ideal) ℓ) (g : Dev Cert.AtInBRefIdeal.nD → PrngReg), Pre_AtInBRefIdeal m →
    θ_run (Cert.AtInBRefIdeal.defs (F := Ideal)) (onTc (τ := Cert.AtInBRefIdeal.τ) (Cert.AtInBRefIdeal.main (F := Ideal))) ⟨m, fun _ => 0, g⟩ (fun r => (∀ c : Dev Cert.AtInBRefIdeal.nD,
      r.2.mem ((c.tc : Thread Cert.AtInBRefIdeal.nD Cert.AtInBRefIdeal.τ).loc Cert.AtInBRefIdeal.main_arg0) = m ((c.tc : Thread Cert.AtInBRefIdeal.nD Cert.AtInBRefIdeal.τ).loc Cert.AtInBRefIdeal.main_arg0)
      ∧ r.2.mem ((c.tc : Thread Cert.AtInBRefIdeal.nD Cert.AtInBRefIdeal.τ).loc Cert.AtInBRefIdeal.main_arg1) = m ((c.tc : Thread Cert.AtInBRefIdeal.nD Cert.AtInBRefIdeal.τ).loc Cert.AtInBRefIdeal.main_arg1)
      ∧ r.2.mem ((c.tc : Thread Cert.AtInBRefIdeal.nD Cert.AtInBRefIdeal.τ).loc Cert.AtInBRefIdeal.main_arg2) = m ((c.tc : Thread Cert.AtInBRefIdeal.nD Cert.AtInBRefIdeal.τ).loc Cert.AtInBRefIdeal.main_arg2)
      ∧ r.2.mem ((c.tc : Thread Cert.AtInBRefIdeal.nD Cert.AtInBRefIdeal.τ).loc Cert.AtInBRefIdeal.main_arg3) = m ((c.tc : Thread Cert.AtInBRefIdeal.nD Cert.AtInBRefIdeal.τ).loc Cert.AtInBRefIdeal.main_arg3)
      ∧ r.2.mem ((c.tc : Thread Cert.AtInBRefIdeal.nD Cert.AtInBRefIdeal.τ).loc Cert.AtInBRefIdeal.main_arg4) = m ((c.tc : Thread Cert.AtInBRefIdeal.nD Cert.AtInBRefIdeal.τ).loc Cert.AtInBRefIdeal.main_arg4))
      ∧ r.2.sem = fun _ => 0)

def quiescent_MlInB [hMlInB : Cert.MlInB.Facts] : Prop :=
  ∀ (m : (ℓ : Loc Cert.MlInB.nD Cert.MlInB.τ Cert.MlInB.sig) → Buf (Elt Bits) ℓ) (g : Dev Cert.MlInB.nD → PrngReg), Pre_MlInB m →
    θ_run (Cert.MlInB.defs (F := Bits)) (onTc (τ := Cert.MlInB.τ) (Cert.MlInB.main (F := Bits))) ⟨m, fun _ => 0, g⟩ (fun r => (∀ c : Dev Cert.MlInB.nD,
      r.2.mem ((c.tc : Thread Cert.MlInB.nD Cert.MlInB.τ).loc Cert.MlInB.main_arg0) = m ((c.tc : Thread Cert.MlInB.nD Cert.MlInB.τ).loc Cert.MlInB.main_arg0)
      ∧ r.2.mem ((c.tc : Thread Cert.MlInB.nD Cert.MlInB.τ).loc Cert.MlInB.main_arg1) = m ((c.tc : Thread Cert.MlInB.nD Cert.MlInB.τ).loc Cert.MlInB.main_arg1)
      ∧ r.2.mem ((c.tc : Thread Cert.MlInB.nD Cert.MlInB.τ).loc Cert.MlInB.main_arg2) = m ((c.tc : Thread Cert.MlInB.nD Cert.MlInB.τ).loc Cert.MlInB.main_arg2)
      ∧ r.2.mem ((c.tc : Thread Cert.MlInB.nD Cert.MlInB.τ).loc Cert.MlInB.main_arg3) = m ((c.tc : Thread Cert.MlInB.nD Cert.MlInB.τ).loc Cert.MlInB.main_arg3)
      ∧ r.2.mem ((c.tc : Thread Cert.MlInB.nD Cert.MlInB.τ).loc Cert.MlInB.main_arg4) = m ((c.tc : Thread Cert.MlInB.nD Cert.MlInB.τ).loc Cert.MlInB.main_arg4))
      ∧ r.2.sem = fun _ => 0)

def quiescent_MlInBIdeal [hMlInBIdeal : Cert.MlInBIdeal.Facts] : Prop :=
  ∀ (m : (ℓ : Loc Cert.MlInBIdeal.nD Cert.MlInBIdeal.τ Cert.MlInBIdeal.sig) → Buf (Elt Ideal) ℓ) (g : Dev Cert.MlInBIdeal.nD → PrngReg), Pre_MlInBIdeal m →
    θ_run (Cert.MlInBIdeal.defs (F := Ideal)) (onTc (τ := Cert.MlInBIdeal.τ) (Cert.MlInBIdeal.main (F := Ideal))) ⟨m, fun _ => 0, g⟩ (fun r => (∀ c : Dev Cert.MlInBIdeal.nD,
      r.2.mem ((c.tc : Thread Cert.MlInBIdeal.nD Cert.MlInBIdeal.τ).loc Cert.MlInBIdeal.main_arg0) = m ((c.tc : Thread Cert.MlInBIdeal.nD Cert.MlInBIdeal.τ).loc Cert.MlInBIdeal.main_arg0)
      ∧ r.2.mem ((c.tc : Thread Cert.MlInBIdeal.nD Cert.MlInBIdeal.τ).loc Cert.MlInBIdeal.main_arg1) = m ((c.tc : Thread Cert.MlInBIdeal.nD Cert.MlInBIdeal.τ).loc Cert.MlInBIdeal.main_arg1)
      ∧ r.2.mem ((c.tc : Thread Cert.MlInBIdeal.nD Cert.MlInBIdeal.τ).loc Cert.MlInBIdeal.main_arg2) = m ((c.tc : Thread Cert.MlInBIdeal.nD Cert.MlInBIdeal.τ).loc Cert.MlInBIdeal.main_arg2)
      ∧ r.2.mem ((c.tc : Thread Cert.MlInBIdeal.nD Cert.MlInBIdeal.τ).loc Cert.MlInBIdeal.main_arg3) = m ((c.tc : Thread Cert.MlInBIdeal.nD Cert.MlInBIdeal.τ).loc Cert.MlInBIdeal.main_arg3)
      ∧ r.2.mem ((c.tc : Thread Cert.MlInBIdeal.nD Cert.MlInBIdeal.τ).loc Cert.MlInBIdeal.main_arg4) = m ((c.tc : Thread Cert.MlInBIdeal.nD Cert.MlInBIdeal.τ).loc Cert.MlInBIdeal.main_arg4))
      ∧ r.2.sem = fun _ => 0)

def quiescent_MlInBRefIdeal [hMlInBRefIdeal : Cert.MlInBRefIdeal.Facts] : Prop :=
  ∀ (m : (ℓ : Loc Cert.MlInBRefIdeal.nD Cert.MlInBRefIdeal.τ Cert.MlInBRefIdeal.sig) → Buf (Elt Ideal) ℓ) (g : Dev Cert.MlInBRefIdeal.nD → PrngReg), Pre_MlInBRefIdeal m →
    θ_run (Cert.MlInBRefIdeal.defs (F := Ideal)) (onTc (τ := Cert.MlInBRefIdeal.τ) (Cert.MlInBRefIdeal.main (F := Ideal))) ⟨m, fun _ => 0, g⟩ (fun r => (∀ c : Dev Cert.MlInBRefIdeal.nD,
      r.2.mem ((c.tc : Thread Cert.MlInBRefIdeal.nD Cert.MlInBRefIdeal.τ).loc Cert.MlInBRefIdeal.main_arg0) = m ((c.tc : Thread Cert.MlInBRefIdeal.nD Cert.MlInBRefIdeal.τ).loc Cert.MlInBRefIdeal.main_arg0)
      ∧ r.2.mem ((c.tc : Thread Cert.MlInBRefIdeal.nD Cert.MlInBRefIdeal.τ).loc Cert.MlInBRefIdeal.main_arg1) = m ((c.tc : Thread Cert.MlInBRefIdeal.nD Cert.MlInBRefIdeal.τ).loc Cert.MlInBRefIdeal.main_arg1)
      ∧ r.2.mem ((c.tc : Thread Cert.MlInBRefIdeal.nD Cert.MlInBRefIdeal.τ).loc Cert.MlInBRefIdeal.main_arg2) = m ((c.tc : Thread Cert.MlInBRefIdeal.nD Cert.MlInBRefIdeal.τ).loc Cert.MlInBRefIdeal.main_arg2)
      ∧ r.2.mem ((c.tc : Thread Cert.MlInBRefIdeal.nD Cert.MlInBRefIdeal.τ).loc Cert.MlInBRefIdeal.main_arg3) = m ((c.tc : Thread Cert.MlInBRefIdeal.nD Cert.MlInBRefIdeal.τ).loc Cert.MlInBRefIdeal.main_arg3)
      ∧ r.2.mem ((c.tc : Thread Cert.MlInBRefIdeal.nD Cert.MlInBRefIdeal.τ).loc Cert.MlInBRefIdeal.main_arg4) = m ((c.tc : Thread Cert.MlInBRefIdeal.nD Cert.MlInBRefIdeal.τ).loc Cert.MlInBRefIdeal.main_arg4))
      ∧ r.2.sem = fun _ => 0)

def quiescent_AtDWin [hAtDWin : Cert.AtDWin.Facts] : Prop :=
  ∀ (m : (ℓ : Loc Cert.AtDWin.nD Cert.AtDWin.τ Cert.AtDWin.sig) → Buf (Elt Bits) ℓ) (g : Dev Cert.AtDWin.nD → PrngReg), Pre_AtDWin m →
    θ_run (Cert.AtDWin.defs (F := Bits)) (onTc (τ := Cert.AtDWin.τ) (Cert.AtDWin.main (F := Bits))) ⟨m, fun _ => 0, g⟩ (fun r => (∀ c : Dev Cert.AtDWin.nD,
      r.2.mem ((c.tc : Thread Cert.AtDWin.nD Cert.AtDWin.τ).loc Cert.AtDWin.main_arg0) = m ((c.tc : Thread Cert.AtDWin.nD Cert.AtDWin.τ).loc Cert.AtDWin.main_arg0)
      ∧ r.2.mem ((c.tc : Thread Cert.AtDWin.nD Cert.AtDWin.τ).loc Cert.AtDWin.main_arg1) = m ((c.tc : Thread Cert.AtDWin.nD Cert.AtDWin.τ).loc Cert.AtDWin.main_arg1))
      ∧ r.2.sem = fun _ => 0)

def quiescent_AtDWinIdeal [hAtDWinIdeal : Cert.AtDWinIdeal.Facts] : Prop :=
  ∀ (m : (ℓ : Loc Cert.AtDWinIdeal.nD Cert.AtDWinIdeal.τ Cert.AtDWinIdeal.sig) → Buf (Elt Ideal) ℓ) (g : Dev Cert.AtDWinIdeal.nD → PrngReg), Pre_AtDWinIdeal m →
    θ_run (Cert.AtDWinIdeal.defs (F := Ideal)) (onTc (τ := Cert.AtDWinIdeal.τ) (Cert.AtDWinIdeal.main (F := Ideal))) ⟨m, fun _ => 0, g⟩ (fun r => (∀ c : Dev Cert.AtDWinIdeal.nD,
      r.2.mem ((c.tc : Thread Cert.AtDWinIdeal.nD Cert.AtDWinIdeal.τ).loc Cert.AtDWinIdeal.main_arg0) = m ((c.tc : Thread Cert.AtDWinIdeal.nD Cert.AtDWinIdeal.τ).loc Cert.AtDWinIdeal.main_arg0)
      ∧ r.2.mem ((c.tc : Thread Cert.AtDWinIdeal.nD Cert.AtDWinIdeal.τ).loc Cert.AtDWinIdeal.main_arg1) = m ((c.tc : Thread Cert.AtDWinIdeal.nD Cert.AtDWinIdeal.τ).loc Cert.AtDWinIdeal.main_arg1))
      ∧ r.2.sem = fun _ => 0)

def quiescent_AtDWinRefIdeal [hAtDWinRefIdeal : Cert.AtDWinRefIdeal.Facts] : Prop :=
  ∀ (m : (ℓ : Loc Cert.AtDWinRefIdeal.nD Cert.AtDWinRefIdeal.τ Cert.AtDWinRefIdeal.sig) → Buf (Elt Ideal) ℓ) (g : Dev Cert.AtDWinRefIdeal.nD → PrngReg), Pre_AtDWinRefIdeal m →
    θ_run (Cert.AtDWinRefIdeal.defs (F := Ideal)) (onTc (τ := Cert.AtDWinRefIdeal.τ) (Cert.AtDWinRefIdeal.main (F := Ideal))) ⟨m, fun _ => 0, g⟩ (fun r => (∀ c : Dev Cert.AtDWinRefIdeal.nD,
      r.2.mem ((c.tc : Thread Cert.AtDWinRefIdeal.nD Cert.AtDWinRefIdeal.τ).loc Cert.AtDWinRefIdeal.main_arg0) = m ((c.tc : Thread Cert.AtDWinRefIdeal.nD Cert.AtDWinRefIdeal.τ).loc Cert.AtDWinRefIdeal.main_arg0)
      ∧ r.2.mem ((c.tc : Thread Cert.AtDWinRefIdeal.nD Cert.AtDWinRefIdeal.τ).loc Cert.AtDWinRefIdeal.main_arg1) = m ((c.tc : Thread Cert.AtDWinRefIdeal.nD Cert.AtDWinRefIdeal.τ).loc Cert.AtDWinRefIdeal.main_arg1))
      ∧ r.2.sem = fun _ => 0)

def quiescent_MlDWin [hMlDWin : Cert.MlDWin.Facts] : Prop :=
  ∀ (m : (ℓ : Loc Cert.MlDWin.nD Cert.MlDWin.τ Cert.MlDWin.sig) → Buf (Elt Bits) ℓ) (g : Dev Cert.MlDWin.nD → PrngReg), Pre_MlDWin m →
    θ_run (Cert.MlDWin.defs (F := Bits)) (onTc (τ := Cert.MlDWin.τ) (Cert.MlDWin.main (F := Bits))) ⟨m, fun _ => 0, g⟩ (fun r => (∀ c : Dev Cert.MlDWin.nD,
      r.2.mem ((c.tc : Thread Cert.MlDWin.nD Cert.MlDWin.τ).loc Cert.MlDWin.main_arg0) = m ((c.tc : Thread Cert.MlDWin.nD Cert.MlDWin.τ).loc Cert.MlDWin.main_arg0)
      ∧ r.2.mem ((c.tc : Thread Cert.MlDWin.nD Cert.MlDWin.τ).loc Cert.MlDWin.main_arg1) = m ((c.tc : Thread Cert.MlDWin.nD Cert.MlDWin.τ).loc Cert.MlDWin.main_arg1))
      ∧ r.2.sem = fun _ => 0)

def quiescent_MlDWinIdeal [hMlDWinIdeal : Cert.MlDWinIdeal.Facts] : Prop :=
  ∀ (m : (ℓ : Loc Cert.MlDWinIdeal.nD Cert.MlDWinIdeal.τ Cert.MlDWinIdeal.sig) → Buf (Elt Ideal) ℓ) (g : Dev Cert.MlDWinIdeal.nD → PrngReg), Pre_MlDWinIdeal m →
    θ_run (Cert.MlDWinIdeal.defs (F := Ideal)) (onTc (τ := Cert.MlDWinIdeal.τ) (Cert.MlDWinIdeal.main (F := Ideal))) ⟨m, fun _ => 0, g⟩ (fun r => (∀ c : Dev Cert.MlDWinIdeal.nD,
      r.2.mem ((c.tc : Thread Cert.MlDWinIdeal.nD Cert.MlDWinIdeal.τ).loc Cert.MlDWinIdeal.main_arg0) = m ((c.tc : Thread Cert.MlDWinIdeal.nD Cert.MlDWinIdeal.τ).loc Cert.MlDWinIdeal.main_arg0)
      ∧ r.2.mem ((c.tc : Thread Cert.MlDWinIdeal.nD Cert.MlDWinIdeal.τ).loc Cert.MlDWinIdeal.main_arg1) = m ((c.tc : Thread Cert.MlDWinIdeal.nD Cert.MlDWinIdeal.τ).loc Cert.MlDWinIdeal.main_arg1))
      ∧ r.2.sem = fun _ => 0)

def quiescent_MlDWinRefIdeal [hMlDWinRefIdeal : Cert.MlDWinRefIdeal.Facts] : Prop :=
  ∀ (m : (ℓ : Loc Cert.MlDWinRefIdeal.nD Cert.MlDWinRefIdeal.τ Cert.MlDWinRefIdeal.sig) → Buf (Elt Ideal) ℓ) (g : Dev Cert.MlDWinRefIdeal.nD → PrngReg), Pre_MlDWinRefIdeal m →
    θ_run (Cert.MlDWinRefIdeal.defs (F := Ideal)) (onTc (τ := Cert.MlDWinRefIdeal.τ) (Cert.MlDWinRefIdeal.main (F := Ideal))) ⟨m, fun _ => 0, g⟩ (fun r => (∀ c : Dev Cert.MlDWinRefIdeal.nD,
      r.2.mem ((c.tc : Thread Cert.MlDWinRefIdeal.nD Cert.MlDWinRefIdeal.τ).loc Cert.MlDWinRefIdeal.main_arg0) = m ((c.tc : Thread Cert.MlDWinRefIdeal.nD Cert.MlDWinRefIdeal.τ).loc Cert.MlDWinRefIdeal.main_arg0)
      ∧ r.2.mem ((c.tc : Thread Cert.MlDWinRefIdeal.nD Cert.MlDWinRefIdeal.τ).loc Cert.MlDWinRefIdeal.main_arg1) = m ((c.tc : Thread Cert.MlDWinRefIdeal.nD Cert.MlDWinRefIdeal.τ).loc Cert.MlDWinRefIdeal.main_arg1))
      ∧ r.2.sem = fun _ => 0)

def quiescent_MxDWout [hMxDWout : Cert.MxDWout.Facts] : Prop :=
  ∀ (m : (ℓ : Loc Cert.MxDWout.nD Cert.MxDWout.τ Cert.MxDWout.sig) → Buf (Elt Bits) ℓ) (g : Dev Cert.MxDWout.nD → PrngReg), Pre_MxDWout m →
    θ_run (Cert.MxDWout.defs (F := Bits)) (onTc (τ := Cert.MxDWout.τ) (Cert.MxDWout.main (F := Bits))) ⟨m, fun _ => 0, g⟩ (fun r => (∀ c : Dev Cert.MxDWout.nD,
      r.2.mem ((c.tc : Thread Cert.MxDWout.nD Cert.MxDWout.τ).loc Cert.MxDWout.main_arg0) = m ((c.tc : Thread Cert.MxDWout.nD Cert.MxDWout.τ).loc Cert.MxDWout.main_arg0)
      ∧ r.2.mem ((c.tc : Thread Cert.MxDWout.nD Cert.MxDWout.τ).loc Cert.MxDWout.main_arg1) = m ((c.tc : Thread Cert.MxDWout.nD Cert.MxDWout.τ).loc Cert.MxDWout.main_arg1))
      ∧ r.2.sem = fun _ => 0)

def quiescent_MxDWoutIdeal [hMxDWoutIdeal : Cert.MxDWoutIdeal.Facts] : Prop :=
  ∀ (m : (ℓ : Loc Cert.MxDWoutIdeal.nD Cert.MxDWoutIdeal.τ Cert.MxDWoutIdeal.sig) → Buf (Elt Ideal) ℓ) (g : Dev Cert.MxDWoutIdeal.nD → PrngReg), Pre_MxDWoutIdeal m →
    θ_run (Cert.MxDWoutIdeal.defs (F := Ideal)) (onTc (τ := Cert.MxDWoutIdeal.τ) (Cert.MxDWoutIdeal.main (F := Ideal))) ⟨m, fun _ => 0, g⟩ (fun r => (∀ c : Dev Cert.MxDWoutIdeal.nD,
      r.2.mem ((c.tc : Thread Cert.MxDWoutIdeal.nD Cert.MxDWoutIdeal.τ).loc Cert.MxDWoutIdeal.main_arg0) = m ((c.tc : Thread Cert.MxDWoutIdeal.nD Cert.MxDWoutIdeal.τ).loc Cert.MxDWoutIdeal.main_arg0)
      ∧ r.2.mem ((c.tc : Thread Cert.MxDWoutIdeal.nD Cert.MxDWoutIdeal.τ).loc Cert.MxDWoutIdeal.main_arg1) = m ((c.tc : Thread Cert.MxDWoutIdeal.nD Cert.MxDWoutIdeal.τ).loc Cert.MxDWoutIdeal.main_arg1))
      ∧ r.2.sem = fun _ => 0)

def quiescent_MxDWoutRefIdeal [hMxDWoutRefIdeal : Cert.MxDWoutRefIdeal.Facts] : Prop :=
  ∀ (m : (ℓ : Loc Cert.MxDWoutRefIdeal.nD Cert.MxDWoutRefIdeal.τ Cert.MxDWoutRefIdeal.sig) → Buf (Elt Ideal) ℓ) (g : Dev Cert.MxDWoutRefIdeal.nD → PrngReg), Pre_MxDWoutRefIdeal m →
    θ_run (Cert.MxDWoutRefIdeal.defs (F := Ideal)) (onTc (τ := Cert.MxDWoutRefIdeal.τ) (Cert.MxDWoutRefIdeal.main (F := Ideal))) ⟨m, fun _ => 0, g⟩ (fun r => (∀ c : Dev Cert.MxDWoutRefIdeal.nD,
      r.2.mem ((c.tc : Thread Cert.MxDWoutRefIdeal.nD Cert.MxDWoutRefIdeal.τ).loc Cert.MxDWoutRefIdeal.main_arg0) = m ((c.tc : Thread Cert.MxDWoutRefIdeal.nD Cert.MxDWoutRefIdeal.τ).loc Cert.MxDWoutRefIdeal.main_arg0)
      ∧ r.2.mem ((c.tc : Thread Cert.MxDWoutRefIdeal.nD Cert.MxDWoutRefIdeal.τ).loc Cert.MxDWoutRefIdeal.main_arg1) = m ((c.tc : Thread Cert.MxDWoutRefIdeal.nD Cert.MxDWoutRefIdeal.τ).loc Cert.MxDWoutRefIdeal.main_arg1))
      ∧ r.2.sem = fun _ => 0)

def quiescent_MxOut [hMxOut : Cert.MxOut.Facts] : Prop :=
  ∀ (m : (ℓ : Loc Cert.MxOut.nD Cert.MxOut.τ Cert.MxOut.sig) → Buf (Elt Bits) ℓ) (g : Dev Cert.MxOut.nD → PrngReg), Pre_MxOut m →
    θ_run (Cert.MxOut.defs (F := Bits)) (onTc (τ := Cert.MxOut.τ) (Cert.MxOut.main (F := Bits))) ⟨m, fun _ => 0, g⟩ (fun r => (∀ c : Dev Cert.MxOut.nD,
      r.2.mem ((c.tc : Thread Cert.MxOut.nD Cert.MxOut.τ).loc Cert.MxOut.main_arg0) = m ((c.tc : Thread Cert.MxOut.nD Cert.MxOut.τ).loc Cert.MxOut.main_arg0)
      ∧ r.2.mem ((c.tc : Thread Cert.MxOut.nD Cert.MxOut.τ).loc Cert.MxOut.main_arg1) = m ((c.tc : Thread Cert.MxOut.nD Cert.MxOut.τ).loc Cert.MxOut.main_arg1)
      ∧ r.2.mem ((c.tc : Thread Cert.MxOut.nD Cert.MxOut.τ).loc Cert.MxOut.main_arg2) = m ((c.tc : Thread Cert.MxOut.nD Cert.MxOut.τ).loc Cert.MxOut.main_arg2)
      ∧ r.2.mem ((c.tc : Thread Cert.MxOut.nD Cert.MxOut.τ).loc Cert.MxOut.main_arg3) = m ((c.tc : Thread Cert.MxOut.nD Cert.MxOut.τ).loc Cert.MxOut.main_arg3)
      ∧ r.2.mem ((c.tc : Thread Cert.MxOut.nD Cert.MxOut.τ).loc Cert.MxOut.main_arg4) = m ((c.tc : Thread Cert.MxOut.nD Cert.MxOut.τ).loc Cert.MxOut.main_arg4)
      ∧ r.2.mem ((c.tc : Thread Cert.MxOut.nD Cert.MxOut.τ).loc Cert.MxOut.main_arg5) = m ((c.tc : Thread Cert.MxOut.nD Cert.MxOut.τ).loc Cert.MxOut.main_arg5))
      ∧ r.2.sem = fun _ => 0)

def quiescent_MxOutIdeal [hMxOutIdeal : Cert.MxOutIdeal.Facts] : Prop :=
  ∀ (m : (ℓ : Loc Cert.MxOutIdeal.nD Cert.MxOutIdeal.τ Cert.MxOutIdeal.sig) → Buf (Elt Ideal) ℓ) (g : Dev Cert.MxOutIdeal.nD → PrngReg), Pre_MxOutIdeal m →
    θ_run (Cert.MxOutIdeal.defs (F := Ideal)) (onTc (τ := Cert.MxOutIdeal.τ) (Cert.MxOutIdeal.main (F := Ideal))) ⟨m, fun _ => 0, g⟩ (fun r => (∀ c : Dev Cert.MxOutIdeal.nD,
      r.2.mem ((c.tc : Thread Cert.MxOutIdeal.nD Cert.MxOutIdeal.τ).loc Cert.MxOutIdeal.main_arg0) = m ((c.tc : Thread Cert.MxOutIdeal.nD Cert.MxOutIdeal.τ).loc Cert.MxOutIdeal.main_arg0)
      ∧ r.2.mem ((c.tc : Thread Cert.MxOutIdeal.nD Cert.MxOutIdeal.τ).loc Cert.MxOutIdeal.main_arg1) = m ((c.tc : Thread Cert.MxOutIdeal.nD Cert.MxOutIdeal.τ).loc Cert.MxOutIdeal.main_arg1)
      ∧ r.2.mem ((c.tc : Thread Cert.MxOutIdeal.nD Cert.MxOutIdeal.τ).loc Cert.MxOutIdeal.main_arg2) = m ((c.tc : Thread Cert.MxOutIdeal.nD Cert.MxOutIdeal.τ).loc Cert.MxOutIdeal.main_arg2)
      ∧ r.2.mem ((c.tc : Thread Cert.MxOutIdeal.nD Cert.MxOutIdeal.τ).loc Cert.MxOutIdeal.main_arg3) = m ((c.tc : Thread Cert.MxOutIdeal.nD Cert.MxOutIdeal.τ).loc Cert.MxOutIdeal.main_arg3)
      ∧ r.2.mem ((c.tc : Thread Cert.MxOutIdeal.nD Cert.MxOutIdeal.τ).loc Cert.MxOutIdeal.main_arg4) = m ((c.tc : Thread Cert.MxOutIdeal.nD Cert.MxOutIdeal.τ).loc Cert.MxOutIdeal.main_arg4)
      ∧ r.2.mem ((c.tc : Thread Cert.MxOutIdeal.nD Cert.MxOutIdeal.τ).loc Cert.MxOutIdeal.main_arg5) = m ((c.tc : Thread Cert.MxOutIdeal.nD Cert.MxOutIdeal.τ).loc Cert.MxOutIdeal.main_arg5))
      ∧ r.2.sem = fun _ => 0)

def quiescent_MxOutRefIdeal [hMxOutRefIdeal : Cert.MxOutRefIdeal.Facts] : Prop :=
  ∀ (m : (ℓ : Loc Cert.MxOutRefIdeal.nD Cert.MxOutRefIdeal.τ Cert.MxOutRefIdeal.sig) → Buf (Elt Ideal) ℓ) (g : Dev Cert.MxOutRefIdeal.nD → PrngReg), Pre_MxOutRefIdeal m →
    θ_run (Cert.MxOutRefIdeal.defs (F := Ideal)) (onTc (τ := Cert.MxOutRefIdeal.τ) (Cert.MxOutRefIdeal.main (F := Ideal))) ⟨m, fun _ => 0, g⟩ (fun r => (∀ c : Dev Cert.MxOutRefIdeal.nD,
      r.2.mem ((c.tc : Thread Cert.MxOutRefIdeal.nD Cert.MxOutRefIdeal.τ).loc Cert.MxOutRefIdeal.main_arg0) = m ((c.tc : Thread Cert.MxOutRefIdeal.nD Cert.MxOutRefIdeal.τ).loc Cert.MxOutRefIdeal.main_arg0)
      ∧ r.2.mem ((c.tc : Thread Cert.MxOutRefIdeal.nD Cert.MxOutRefIdeal.τ).loc Cert.MxOutRefIdeal.main_arg1) = m ((c.tc : Thread Cert.MxOutRefIdeal.nD Cert.MxOutRefIdeal.τ).loc Cert.MxOutRefIdeal.main_arg1)
      ∧ r.2.mem ((c.tc : Thread Cert.MxOutRefIdeal.nD Cert.MxOutRefIdeal.τ).loc Cert.MxOutRefIdeal.main_arg2) = m ((c.tc : Thread Cert.MxOutRefIdeal.nD Cert.MxOutRefIdeal.τ).loc Cert.MxOutRefIdeal.main_arg2)
      ∧ r.2.mem ((c.tc : Thread Cert.MxOutRefIdeal.nD Cert.MxOutRefIdeal.τ).loc Cert.MxOutRefIdeal.main_arg3) = m ((c.tc : Thread Cert.MxOutRefIdeal.nD Cert.MxOutRefIdeal.τ).loc Cert.MxOutRefIdeal.main_arg3)
      ∧ r.2.mem ((c.tc : Thread Cert.MxOutRefIdeal.nD Cert.MxOutRefIdeal.τ).loc Cert.MxOutRefIdeal.main_arg4) = m ((c.tc : Thread Cert.MxOutRefIdeal.nD Cert.MxOutRefIdeal.τ).loc Cert.MxOutRefIdeal.main_arg4)
      ∧ r.2.mem ((c.tc : Thread Cert.MxOutRefIdeal.nD Cert.MxOutRefIdeal.τ).loc Cert.MxOutRefIdeal.main_arg5) = m ((c.tc : Thread Cert.MxOutRefIdeal.nD Cert.MxOutRefIdeal.τ).loc Cert.MxOutRefIdeal.main_arg5))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_AdaB [hAdaB : Cert.AdaB.Facts] : Prop :=
  ∀ (m : (ℓ : Loc Cert.AdaB.nD Cert.AdaB.τ Cert.AdaB.sig) → Buf (Elt Bits) ℓ) (g : Dev Cert.AdaB.nD → PrngReg), Pre_AdaB m →
    θ_run (Cert.AdaB.defs (F := Bits)) (onTc (τ := Cert.AdaB.τ) (Cert.AdaB.main (F := Bits))) ⟨m, fun _ => 0, g⟩ (fun r => (∀ c : Dev Cert.AdaB.nD,
      r.2.mem ((c.tc : Thread Cert.AdaB.nD Cert.AdaB.τ).loc Cert.AdaB.main_arg0) = m ((c.tc : Thread Cert.AdaB.nD Cert.AdaB.τ).loc Cert.AdaB.main_arg0)
      ∧ r.2.mem ((c.tc : Thread Cert.AdaB.nD Cert.AdaB.τ).loc Cert.AdaB.main_arg1) = m ((c.tc : Thread Cert.AdaB.nD Cert.AdaB.τ).loc Cert.AdaB.main_arg1)
      ∧ r.2.mem ((c.tc : Thread Cert.AdaB.nD Cert.AdaB.τ).loc Cert.AdaB.main_arg2) = m ((c.tc : Thread Cert.AdaB.nD Cert.AdaB.τ).loc Cert.AdaB.main_arg2))
      ∧ r.2.sem = fun _ => 0)

def quiescent_AdaBIdeal [hAdaBIdeal : Cert.AdaBIdeal.Facts] : Prop :=
  ∀ (m : (ℓ : Loc Cert.AdaBIdeal.nD Cert.AdaBIdeal.τ Cert.AdaBIdeal.sig) → Buf (Elt Ideal) ℓ) (g : Dev Cert.AdaBIdeal.nD → PrngReg), Pre_AdaBIdeal m →
    θ_run (Cert.AdaBIdeal.defs (F := Ideal)) (onTc (τ := Cert.AdaBIdeal.τ) (Cert.AdaBIdeal.main (F := Ideal))) ⟨m, fun _ => 0, g⟩ (fun r => (∀ c : Dev Cert.AdaBIdeal.nD,
      r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
      ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
      ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ r.2.sem = fun _ => 0)

def quiescent_AdaBRefIdeal [hAdaBRefIdeal : Cert.AdaBRefIdeal.Facts] : Prop :=
  ∀ (m : (ℓ : Loc Cert.AdaBRefIdeal.nD Cert.AdaBRefIdeal.τ Cert.AdaBRefIdeal.sig) → Buf (Elt Ideal) ℓ) (g : Dev Cert.AdaBRefIdeal.nD → PrngReg), Pre_AdaBRefIdeal m →
    θ_run (Cert.AdaBRefIdeal.defs (F := Ideal)) (onTc (τ := Cert.AdaBRefIdeal.τ) (Cert.AdaBRefIdeal.main (F := Ideal))) ⟨m, fun _ => 0, g⟩ (fun r => (∀ c : Dev Cert.AdaBRefIdeal.nD,
      r.2.mem ((c.tc : Thread Cert.AdaBRefIdeal.nD Cert.AdaBRefIdeal.τ).loc Cert.AdaBRefIdeal.main_arg0) = m ((c.tc : Thread Cert.AdaBRefIdeal.nD Cert.AdaBRefIdeal.τ).loc Cert.AdaBRefIdeal.main_arg0)
      ∧ r.2.mem ((c.tc : Thread Cert.AdaBRefIdeal.nD Cert.AdaBRefIdeal.τ).loc Cert.AdaBRefIdeal.main_arg1) = m ((c.tc : Thread Cert.AdaBRefIdeal.nD Cert.AdaBRefIdeal.τ).loc Cert.AdaBRefIdeal.main_arg1)
      ∧ r.2.mem ((c.tc : Thread Cert.AdaBRefIdeal.nD Cert.AdaBRefIdeal.τ).loc Cert.AdaBRefIdeal.main_arg2) = m ((c.tc : Thread Cert.AdaBRefIdeal.nD Cert.AdaBRefIdeal.τ).loc Cert.AdaBRefIdeal.main_arg2))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamL [hAdamL : Cert.AdamL.Facts] : Prop :=
  ∀ (m : (ℓ : Loc Cert.AdamL.nD Cert.AdamL.τ Cert.AdamL.sig) → Buf (Elt Bits) ℓ) (g : Dev Cert.AdamL.nD → PrngReg), Pre_AdamL m →
    θ_run (Cert.AdamL.defs (F := Bits)) (onTc (τ := Cert.AdamL.τ) (Cert.AdamL.main (F := Bits))) ⟨m, fun _ => 0, g⟩ (fun r => (∀ c : Dev Cert.AdamL.nD,
      r.2.mem ((c.tc : Thread Cert.AdamL.nD Cert.AdamL.τ).loc Cert.AdamL.main_arg0) = m ((c.tc : Thread Cert.AdamL.nD Cert.AdamL.τ).loc Cert.AdamL.main_arg0)
      ∧ r.2.mem ((c.tc : Thread Cert.AdamL.nD Cert.AdamL.τ).loc Cert.AdamL.main_arg1) = m ((c.tc : Thread Cert.AdamL.nD Cert.AdamL.τ).loc Cert.AdamL.main_arg1)
      ∧ r.2.mem ((c.tc : Thread Cert.AdamL.nD Cert.AdamL.τ).loc Cert.AdamL.main_arg2) = m ((c.tc : Thread Cert.AdamL.nD Cert.AdamL.τ).loc Cert.AdamL.main_arg2)
      ∧ r.2.mem ((c.tc : Thread Cert.AdamL.nD Cert.AdamL.τ).loc Cert.AdamL.main_arg3) = m ((c.tc : Thread Cert.AdamL.nD Cert.AdamL.τ).loc Cert.AdamL.main_arg3))
      ∧ r.2.sem = fun _ => 0)

def quiescent_AdamLIdeal [hAdamLIdeal : Cert.AdamLIdeal.Facts] : Prop :=
  ∀ (m : (ℓ : Loc Cert.AdamLIdeal.nD Cert.AdamLIdeal.τ Cert.AdamLIdeal.sig) → Buf (Elt Ideal) ℓ) (g : Dev Cert.AdamLIdeal.nD → PrngReg), Pre_AdamLIdeal m →
    θ_run (Cert.AdamLIdeal.defs (F := Ideal)) (onTc (τ := Cert.AdamLIdeal.τ) (Cert.AdamLIdeal.main (F := Ideal))) ⟨m, fun _ => 0, g⟩ (fun r => (∀ c : Dev Cert.AdamLIdeal.nD,
      r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
      ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
      ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
      ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3))
      ∧ r.2.sem = fun _ => 0)

def quiescent_AdamLRefIdeal [hAdamLRefIdeal : Cert.AdamLRefIdeal.Facts] : Prop :=
  ∀ (m : (ℓ : Loc Cert.AdamLRefIdeal.nD Cert.AdamLRefIdeal.τ Cert.AdamLRefIdeal.sig) → Buf (Elt Ideal) ℓ) (g : Dev Cert.AdamLRefIdeal.nD → PrngReg), Pre_AdamLRefIdeal m →
    θ_run (Cert.AdamLRefIdeal.defs (F := Ideal)) (onTc (τ := Cert.AdamLRefIdeal.τ) (Cert.AdamLRefIdeal.main (F := Ideal))) ⟨m, fun _ => 0, g⟩ (fun r => (∀ c : Dev Cert.AdamLRefIdeal.nD,
      r.2.mem ((c.tc : Thread Cert.AdamLRefIdeal.nD Cert.AdamLRefIdeal.τ).loc Cert.AdamLRefIdeal.main_arg0) = m ((c.tc : Thread Cert.AdamLRefIdeal.nD Cert.AdamLRefIdeal.τ).loc Cert.AdamLRefIdeal.main_arg0)
      ∧ r.2.mem ((c.tc : Thread Cert.AdamLRefIdeal.nD Cert.AdamLRefIdeal.τ).loc Cert.AdamLRefIdeal.main_arg1) = m ((c.tc : Thread Cert.AdamLRefIdeal.nD Cert.AdamLRefIdeal.τ).loc Cert.AdamLRefIdeal.main_arg1)
      ∧ r.2.mem ((c.tc : Thread Cert.AdamLRefIdeal.nD Cert.AdamLRefIdeal.τ).loc Cert.AdamLRefIdeal.main_arg2) = m ((c.tc : Thread Cert.AdamLRefIdeal.nD Cert.AdamLRefIdeal.τ).loc Cert.AdamLRefIdeal.main_arg2)
      ∧ r.2.mem ((c.tc : Thread Cert.AdamLRefIdeal.nD Cert.AdamLRefIdeal.τ).loc Cert.AdamLRefIdeal.main_arg3) = m ((c.tc : Thread Cert.AdamLRefIdeal.nD Cert.AdamLRefIdeal.τ).loc Cert.AdamLRefIdeal.main_arg3))
      ∧ r.2.sem = fun _ => 0)

def quiescent_AdamG [hAdamG : Cert.AdamG.Facts] : Prop :=
  ∀ (m : (ℓ : Loc Cert.AdamG.nD Cert.AdamG.τ Cert.AdamG.sig) → Buf (Elt Bits) ℓ) (g : Dev Cert.AdamG.nD → PrngReg), Pre_AdamG m →
    θ_run (Cert.AdamG.defs (F := Bits)) (onTc (τ := Cert.AdamG.τ) (Cert.AdamG.main (F := Bits))) ⟨m, fun _ => 0, g⟩ (fun r => (∀ c : Dev Cert.AdamG.nD,
      r.2.mem ((c.tc : Thread Cert.AdamG.nD Cert.AdamG.τ).loc Cert.AdamG.main_arg0) = m ((c.tc : Thread Cert.AdamG.nD Cert.AdamG.τ).loc Cert.AdamG.main_arg0)
      ∧ r.2.mem ((c.tc : Thread Cert.AdamG.nD Cert.AdamG.τ).loc Cert.AdamG.main_arg1) = m ((c.tc : Thread Cert.AdamG.nD Cert.AdamG.τ).loc Cert.AdamG.main_arg1)
      ∧ r.2.mem ((c.tc : Thread Cert.AdamG.nD Cert.AdamG.τ).loc Cert.AdamG.main_arg2) = m ((c.tc : Thread Cert.AdamG.nD Cert.AdamG.τ).loc Cert.AdamG.main_arg2)
      ∧ r.2.mem ((c.tc : Thread Cert.AdamG.nD Cert.AdamG.τ).loc Cert.AdamG.main_arg3) = m ((c.tc : Thread Cert.AdamG.nD Cert.AdamG.τ).loc Cert.AdamG.main_arg3))
      ∧ r.2.sem = fun _ => 0)

def quiescent_AdamGIdeal [hAdamGIdeal : Cert.AdamGIdeal.Facts] : Prop :=
  ∀ (m : (ℓ : Loc Cert.AdamGIdeal.nD Cert.AdamGIdeal.τ Cert.AdamGIdeal.sig) → Buf (Elt Ideal) ℓ) (g : Dev Cert.AdamGIdeal.nD → PrngReg), Pre_AdamGIdeal m →
    θ_run (Cert.AdamGIdeal.defs (F := Ideal)) (onTc (τ := Cert.AdamGIdeal.τ) (Cert.AdamGIdeal.main (F := Ideal))) ⟨m, fun _ => 0, g⟩ (fun r => (∀ c : Dev Cert.AdamGIdeal.nD,
      r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
      ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
      ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
      ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ r.2.sem = fun _ => 0)

def quiescent_AdamGRefIdeal [hAdamGRefIdeal : Cert.AdamGRefIdeal.Facts] : Prop :=
  ∀ (m : (ℓ : Loc Cert.AdamGRefIdeal.nD Cert.AdamGRefIdeal.τ Cert.AdamGRefIdeal.sig) → Buf (Elt Ideal) ℓ) (g : Dev Cert.AdamGRefIdeal.nD → PrngReg), Pre_AdamGRefIdeal m →
    θ_run (Cert.AdamGRefIdeal.defs (F := Ideal)) (onTc (τ := Cert.AdamGRefIdeal.τ) (Cert.AdamGRefIdeal.main (F := Ideal))) ⟨m, fun _ => 0, g⟩ (fun r => (∀ c : Dev Cert.AdamGRefIdeal.nD,
      r.2.mem ((c.tc : Thread Cert.AdamGRefIdeal.nD Cert.AdamGRefIdeal.τ).loc Cert.AdamGRefIdeal.main_arg0) = m ((c.tc : Thread Cert.AdamGRefIdeal.nD Cert.AdamGRefIdeal.τ).loc Cert.AdamGRefIdeal.main_arg0)
      ∧ r.2.mem ((c.tc : Thread Cert.AdamGRefIdeal.nD Cert.AdamGRefIdeal.τ).loc Cert.AdamGRefIdeal.main_arg1) = m ((c.tc : Thread Cert.AdamGRefIdeal.nD Cert.AdamGRefIdeal.τ).loc Cert.AdamGRefIdeal.main_arg1)
      ∧ r.2.mem ((c.tc : Thread Cert.AdamGRefIdeal.nD Cert.AdamGRefIdeal.τ).loc Cert.AdamGRefIdeal.main_arg2) = m ((c.tc : Thread Cert.AdamGRefIdeal.nD Cert.AdamGRefIdeal.τ).loc Cert.AdamGRefIdeal.main_arg2)
      ∧ r.2.mem ((c.tc : Thread Cert.AdamGRefIdeal.nD Cert.AdamGRefIdeal.τ).loc Cert.AdamGRefIdeal.main_arg3) = m ((c.tc : Thread Cert.AdamGRefIdeal.nD Cert.AdamGRefIdeal.τ).loc Cert.AdamGRefIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_AdamCRefIdeal [hAdamCRefIdeal : Cert.AdamCRefIdeal.Facts] : Prop :=
  ∀ (m : (ℓ : Loc Cert.AdamCRefIdeal.nD Cert.AdamCRefIdeal.τ Cert.AdamCRefIdeal.sig) → Buf (Elt Ideal) ℓ) (g : Dev Cert.AdamCRefIdeal.nD → PrngReg), Pre_AdamCRefIdeal m →
    θ_run (Cert.AdamCRefIdeal.defs (F := Ideal)) (onTc (τ := Cert.AdamCRefIdeal.τ) (Cert.AdamCRefIdeal.main (F := Ideal))) ⟨m, fun _ => 0, g⟩ (fun r => (∀ c : Dev Cert.AdamCRefIdeal.nD,
      r.2.mem ((c.tc : Thread Cert.AdamCRefIdeal.nD Cert.AdamCRefIdeal.τ).loc Cert.AdamCRefIdeal.main_arg0) = m ((c.tc : Thread Cert.AdamCRefIdeal.nD Cert.AdamCRefIdeal.τ).loc Cert.AdamCRefIdeal.main_arg0)
      ∧ r.2.mem ((c.tc : Thread Cert.AdamCRefIdeal.nD Cert.AdamCRefIdeal.τ).loc Cert.AdamCRefIdeal.main_arg1) = m ((c.tc : Thread Cert.AdamCRefIdeal.nD Cert.AdamCRefIdeal.τ).loc Cert.AdamCRefIdeal.main_arg1)
      ∧ r.2.mem ((c.tc : Thread Cert.AdamCRefIdeal.nD Cert.AdamCRefIdeal.τ).loc Cert.AdamCRefIdeal.main_arg2) = m ((c.tc : Thread Cert.AdamCRefIdeal.nD Cert.AdamCRefIdeal.τ).loc Cert.AdamCRefIdeal.main_arg2)
      ∧ r.2.mem ((c.tc : Thread Cert.AdamCRefIdeal.nD Cert.AdamCRefIdeal.τ).loc Cert.AdamCRefIdeal.main_arg3) = m ((c.tc : Thread Cert.AdamCRefIdeal.nD Cert.AdamCRefIdeal.τ).loc Cert.AdamCRefIdeal.main_arg3))
      ∧ r.2.sem = fun _ => 0)

def quiescent_AdamH [hAdamH : Cert.AdamH.Facts] : Prop :=
  ∀ (m : (ℓ : Loc Cert.AdamH.nD Cert.AdamH.τ Cert.AdamH.sig) → Buf (Elt Bits) ℓ) (g : Dev Cert.AdamH.nD → PrngReg), Pre_AdamH m →
    θ_run (Cert.AdamH.defs (F := Bits)) (onTc (τ := Cert.AdamH.τ) (Cert.AdamH.main (F := Bits))) ⟨m, fun _ => 0, g⟩ (fun r => (∀ c : Dev Cert.AdamH.nD,
      r.2.mem ((c.tc : Thread Cert.AdamH.nD Cert.AdamH.τ).loc Cert.AdamH.main_arg0) = m ((c.tc : Thread Cert.AdamH.nD Cert.AdamH.τ).loc Cert.AdamH.main_arg0)
      ∧ r.2.mem ((c.tc : Thread Cert.AdamH.nD Cert.AdamH.τ).loc Cert.AdamH.main_arg1) = m ((c.tc : Thread Cert.AdamH.nD Cert.AdamH.τ).loc Cert.AdamH.main_arg1)
      ∧ r.2.mem ((c.tc : Thread Cert.AdamH.nD Cert.AdamH.τ).loc Cert.AdamH.main_arg2) = m ((c.tc : Thread Cert.AdamH.nD Cert.AdamH.τ).loc Cert.AdamH.main_arg2)
      ∧ r.2.mem ((c.tc : Thread Cert.AdamH.nD Cert.AdamH.τ).loc Cert.AdamH.main_arg3) = m ((c.tc : Thread Cert.AdamH.nD Cert.AdamH.τ).loc Cert.AdamH.main_arg3))
      ∧ r.2.sem = fun _ => 0)

def quiescent_AdamHIdeal [hAdamHIdeal : Cert.AdamHIdeal.Facts] : Prop :=
  ∀ (m : (ℓ : Loc Cert.AdamHIdeal.nD Cert.AdamHIdeal.τ Cert.AdamHIdeal.sig) → Buf (Elt Ideal) ℓ) (g : Dev Cert.AdamHIdeal.nD → PrngReg), Pre_AdamHIdeal m →
    θ_run (Cert.AdamHIdeal.defs (F := Ideal)) (onTc (τ := Cert.AdamHIdeal.τ) (Cert.AdamHIdeal.main (F := Ideal))) ⟨m, fun _ => 0, g⟩ (fun r => (∀ c : Dev Cert.AdamHIdeal.nD,
      r.2.mem ((c.tc : Thread Cert.AdamHIdeal.nD Cert.AdamHIdeal.τ).loc Cert.AdamHIdeal.main_arg0) = m ((c.tc : Thread Cert.AdamHIdeal.nD Cert.AdamHIdeal.τ).loc Cert.AdamHIdeal.main_arg0)
      ∧ r.2.mem ((c.tc : Thread Cert.AdamHIdeal.nD Cert.AdamHIdeal.τ).loc Cert.AdamHIdeal.main_arg1) = m ((c.tc : Thread Cert.AdamHIdeal.nD Cert.AdamHIdeal.τ).loc Cert.AdamHIdeal.main_arg1)
      ∧ r.2.mem ((c.tc : Thread Cert.AdamHIdeal.nD Cert.AdamHIdeal.τ).loc Cert.AdamHIdeal.main_arg2) = m ((c.tc : Thread Cert.AdamHIdeal.nD Cert.AdamHIdeal.τ).loc Cert.AdamHIdeal.main_arg2)
      ∧ r.2.mem ((c.tc : Thread Cert.AdamHIdeal.nD Cert.AdamHIdeal.τ).loc Cert.AdamHIdeal.main_arg3) = m ((c.tc : Thread Cert.AdamHIdeal.nD Cert.AdamHIdeal.τ).loc Cert.AdamHIdeal.main_arg3))
      ∧ r.2.sem = fun _ => 0)

def quiescent_AdamHRefIdeal [hAdamHRefIdeal : Cert.AdamHRefIdeal.Facts] : Prop :=
  ∀ (m : (ℓ : Loc Cert.AdamHRefIdeal.nD Cert.AdamHRefIdeal.τ Cert.AdamHRefIdeal.sig) → Buf (Elt Ideal) ℓ) (g : Dev Cert.AdamHRefIdeal.nD → PrngReg), Pre_AdamHRefIdeal m →
    θ_run (Cert.AdamHRefIdeal.defs (F := Ideal)) (onTc (τ := Cert.AdamHRefIdeal.τ) (Cert.AdamHRefIdeal.main (F := Ideal))) ⟨m, fun _ => 0, g⟩ (fun r => (∀ c : Dev Cert.AdamHRefIdeal.nD,
      r.2.mem ((c.tc : Thread Cert.AdamHRefIdeal.nD Cert.AdamHRefIdeal.τ).loc Cert.AdamHRefIdeal.main_arg0) = m ((c.tc : Thread Cert.AdamHRefIdeal.nD Cert.AdamHRefIdeal.τ).loc Cert.AdamHRefIdeal.main_arg0)
      ∧ r.2.mem ((c.tc : Thread Cert.AdamHRefIdeal.nD Cert.AdamHRefIdeal.τ).loc Cert.AdamHRefIdeal.main_arg1) = m ((c.tc : Thread Cert.AdamHRefIdeal.nD Cert.AdamHRefIdeal.τ).loc Cert.AdamHRefIdeal.main_arg1)
      ∧ r.2.mem ((c.tc : Thread Cert.AdamHRefIdeal.nD Cert.AdamHRefIdeal.τ).loc Cert.AdamHRefIdeal.main_arg2) = m ((c.tc : Thread Cert.AdamHRefIdeal.nD Cert.AdamHRefIdeal.τ).loc Cert.AdamHRefIdeal.main_arg2)
      ∧ r.2.mem ((c.tc : Thread Cert.AdamHRefIdeal.nD Cert.AdamHRefIdeal.τ).loc Cert.AdamHRefIdeal.main_arg3) = m ((c.tc : Thread Cert.AdamHRefIdeal.nD Cert.AdamHRefIdeal.τ).loc Cert.AdamHRefIdeal.main_arg3))
      ∧ r.2.sem = fun _ => 0)

def quiescent_RedO [hRedO : Cert.RedO.Facts] : Prop :=
  ∀ (m : (ℓ : Loc Cert.RedO.nD Cert.RedO.τ Cert.RedO.sig) → Buf (Elt Bits) ℓ) (g : Dev Cert.RedO.nD → PrngReg), Pre_RedO m →
    θ_run (Cert.RedO.defs (F := Bits)) (onTc (τ := Cert.RedO.τ) (Cert.RedO.main (F := Bits))) ⟨m, fun _ => 0, g⟩ (fun r => (∀ c : Dev Cert.RedO.nD,
      r.2.mem ((c.tc : Thread Cert.RedO.nD Cert.RedO.τ).loc Cert.RedO.main_arg0) = m ((c.tc : Thread Cert.RedO.nD Cert.RedO.τ).loc Cert.RedO.main_arg0)
      ∧ r.2.mem ((c.tc : Thread Cert.RedO.nD Cert.RedO.τ).loc Cert.RedO.main_arg1) = m ((c.tc : Thread Cert.RedO.nD Cert.RedO.τ).loc Cert.RedO.main_arg1)
      ∧ r.2.mem ((c.tc : Thread Cert.RedO.nD Cert.RedO.τ).loc Cert.RedO.main_arg2) = m ((c.tc : Thread Cert.RedO.nD Cert.RedO.τ).loc Cert.RedO.main_arg2)
      ∧ r.2.mem ((c.tc : Thread Cert.RedO.nD Cert.RedO.τ).loc Cert.RedO.main_arg3) = m ((c.tc : Thread Cert.RedO.nD Cert.RedO.τ).loc Cert.RedO.main_arg3)
      ∧ r.2.mem ((c.tc : Thread Cert.RedO.nD Cert.RedO.τ).loc Cert.RedO.main_arg4) = m ((c.tc : Thread Cert.RedO.nD Cert.RedO.τ).loc Cert.RedO.main_arg4)
      ∧ r.2.mem ((c.tc : Thread Cert.RedO.nD Cert.RedO.τ).loc Cert.RedO.main_arg5) = m ((c.tc : Thread Cert.RedO.nD Cert.RedO.τ).loc Cert.RedO.main_arg5))
      ∧ r.2.sem = fun _ => 0)

def quiescent_RedOIdeal [hRedOIdeal : Cert.RedOIdeal.Facts] : Prop :=
  ∀ (m : (ℓ : Loc Cert.RedOIdeal.nD Cert.RedOIdeal.τ Cert.RedOIdeal.sig) → Buf (Elt Ideal) ℓ) (g : Dev Cert.RedOIdeal.nD → PrngReg), Pre_RedOIdeal m →
    θ_run (Cert.RedOIdeal.defs (F := Ideal)) (onTc (τ := Cert.RedOIdeal.τ) (Cert.RedOIdeal.main (F := Ideal))) ⟨m, fun _ => 0, g⟩ (fun r => (∀ c : Dev Cert.RedOIdeal.nD,
      r.2.mem ((c.tc : Thread Cert.RedOIdeal.nD Cert.RedOIdeal.τ).loc Cert.RedOIdeal.main_arg0) = m ((c.tc : Thread Cert.RedOIdeal.nD Cert.RedOIdeal.τ).loc Cert.RedOIdeal.main_arg0)
      ∧ r.2.mem ((c.tc : Thread Cert.RedOIdeal.nD Cert.RedOIdeal.τ).loc Cert.RedOIdeal.main_arg1) = m ((c.tc : Thread Cert.RedOIdeal.nD Cert.RedOIdeal.τ).loc Cert.RedOIdeal.main_arg1)
      ∧ r.2.mem ((c.tc : Thread Cert.RedOIdeal.nD Cert.RedOIdeal.τ).loc Cert.RedOIdeal.main_arg2) = m ((c.tc : Thread Cert.RedOIdeal.nD Cert.RedOIdeal.τ).loc Cert.RedOIdeal.main_arg2)
      ∧ r.2.mem ((c.tc : Thread Cert.RedOIdeal.nD Cert.RedOIdeal.τ).loc Cert.RedOIdeal.main_arg3) = m ((c.tc : Thread Cert.RedOIdeal.nD Cert.RedOIdeal.τ).loc Cert.RedOIdeal.main_arg3)
      ∧ r.2.mem ((c.tc : Thread Cert.RedOIdeal.nD Cert.RedOIdeal.τ).loc Cert.RedOIdeal.main_arg4) = m ((c.tc : Thread Cert.RedOIdeal.nD Cert.RedOIdeal.τ).loc Cert.RedOIdeal.main_arg4)
      ∧ r.2.mem ((c.tc : Thread Cert.RedOIdeal.nD Cert.RedOIdeal.τ).loc Cert.RedOIdeal.main_arg5) = m ((c.tc : Thread Cert.RedOIdeal.nD Cert.RedOIdeal.τ).loc Cert.RedOIdeal.main_arg5))
      ∧ r.2.sem = fun _ => 0)

def quiescent_RedORefIdeal [hRedORefIdeal : Cert.RedORefIdeal.Facts] : Prop :=
  ∀ (m : (ℓ : Loc Cert.RedORefIdeal.nD Cert.RedORefIdeal.τ Cert.RedORefIdeal.sig) → Buf (Elt Ideal) ℓ) (g : Dev Cert.RedORefIdeal.nD → PrngReg), Pre_RedORefIdeal m →
    θ_run (Cert.RedORefIdeal.defs (F := Ideal)) (onTc (τ := Cert.RedORefIdeal.τ) (Cert.RedORefIdeal.main (F := Ideal))) ⟨m, fun _ => 0, g⟩ (fun r => (∀ c : Dev Cert.RedORefIdeal.nD,
      r.2.mem ((c.tc : Thread Cert.RedORefIdeal.nD Cert.RedORefIdeal.τ).loc Cert.RedORefIdeal.main_arg0) = m ((c.tc : Thread Cert.RedORefIdeal.nD Cert.RedORefIdeal.τ).loc Cert.RedORefIdeal.main_arg0)
      ∧ r.2.mem ((c.tc : Thread Cert.RedORefIdeal.nD Cert.RedORefIdeal.τ).loc Cert.RedORefIdeal.main_arg1) = m ((c.tc : Thread Cert.RedORefIdeal.nD Cert.RedORefIdeal.τ).loc Cert.RedORefIdeal.main_arg1)
      ∧ r.2.mem ((c.tc : Thread Cert.RedORefIdeal.nD Cert.RedORefIdeal.τ).loc Cert.RedORefIdeal.main_arg2) = m ((c.tc : Thread Cert.RedORefIdeal.nD Cert.RedORefIdeal.τ).loc Cert.RedORefIdeal.main_arg2)
      ∧ r.2.mem ((c.tc : Thread Cert.RedORefIdeal.nD Cert.RedORefIdeal.τ).loc Cert.RedORefIdeal.main_arg3) = m ((c.tc : Thread Cert.RedORefIdeal.nD Cert.RedORefIdeal.τ).loc Cert.RedORefIdeal.main_arg3)
      ∧ r.2.mem ((c.tc : Thread Cert.RedORefIdeal.nD Cert.RedORefIdeal.τ).loc Cert.RedORefIdeal.main_arg4) = m ((c.tc : Thread Cert.RedORefIdeal.nD Cert.RedORefIdeal.τ).loc Cert.RedORefIdeal.main_arg4)
      ∧ r.2.mem ((c.tc : Thread Cert.RedORefIdeal.nD Cert.RedORefIdeal.τ).loc Cert.RedORefIdeal.main_arg5) = m ((c.tc : Thread Cert.RedORefIdeal.nD Cert.RedORefIdeal.τ).loc Cert.RedORefIdeal.main_arg5))
      ∧ r.2.sem = fun _ => 0)

def quiescent_RedM [hRedM : Cert.RedM.Facts] : Prop :=
  ∀ (m : (ℓ : Loc Cert.RedM.nD Cert.RedM.τ Cert.RedM.sig) → Buf (Elt Bits) ℓ) (g : Dev Cert.RedM.nD → PrngReg), Pre_RedM m →
    θ_run (Cert.RedM.defs (F := Bits)) (onTc (τ := Cert.RedM.τ) (Cert.RedM.main (F := Bits))) ⟨m, fun _ => 0, g⟩ (fun r => (∀ c : Dev Cert.RedM.nD,
      r.2.mem ((c.tc : Thread Cert.RedM.nD Cert.RedM.τ).loc Cert.RedM.main_arg0) = m ((c.tc : Thread Cert.RedM.nD Cert.RedM.τ).loc Cert.RedM.main_arg0)
      ∧ r.2.mem ((c.tc : Thread Cert.RedM.nD Cert.RedM.τ).loc Cert.RedM.main_arg1) = m ((c.tc : Thread Cert.RedM.nD Cert.RedM.τ).loc Cert.RedM.main_arg1)
      ∧ r.2.mem ((c.tc : Thread Cert.RedM.nD Cert.RedM.τ).loc Cert.RedM.main_arg2) = m ((c.tc : Thread Cert.RedM.nD Cert.RedM.τ).loc Cert.RedM.main_arg2)
      ∧ r.2.mem ((c.tc : Thread Cert.RedM.nD Cert.RedM.τ).loc Cert.RedM.main_arg3) = m ((c.tc : Thread Cert.RedM.nD Cert.RedM.τ).loc Cert.RedM.main_arg3)
      ∧ r.2.mem ((c.tc : Thread Cert.RedM.nD Cert.RedM.τ).loc Cert.RedM.main_arg4) = m ((c.tc : Thread Cert.RedM.nD Cert.RedM.τ).loc Cert.RedM.main_arg4)
      ∧ r.2.mem ((c.tc : Thread Cert.RedM.nD Cert.RedM.τ).loc Cert.RedM.main_arg5) = m ((c.tc : Thread Cert.RedM.nD Cert.RedM.τ).loc Cert.RedM.main_arg5))
      ∧ r.2.sem = fun _ => 0)

def quiescent_RedMIdeal [hRedMIdeal : Cert.RedMIdeal.Facts] : Prop :=
  ∀ (m : (ℓ : Loc Cert.RedMIdeal.nD Cert.RedMIdeal.τ Cert.RedMIdeal.sig) → Buf (Elt Ideal) ℓ) (g : Dev Cert.RedMIdeal.nD → PrngReg), Pre_RedMIdeal m →
    θ_run (Cert.RedMIdeal.defs (F := Ideal)) (onTc (τ := Cert.RedMIdeal.τ) (Cert.RedMIdeal.main (F := Ideal))) ⟨m, fun _ => 0, g⟩ (fun r => (∀ c : Dev Cert.RedMIdeal.nD,
      r.2.mem ((c.tc : Thread Cert.RedMIdeal.nD Cert.RedMIdeal.τ).loc Cert.RedMIdeal.main_arg0) = m ((c.tc : Thread Cert.RedMIdeal.nD Cert.RedMIdeal.τ).loc Cert.RedMIdeal.main_arg0)
      ∧ r.2.mem ((c.tc : Thread Cert.RedMIdeal.nD Cert.RedMIdeal.τ).loc Cert.RedMIdeal.main_arg1) = m ((c.tc : Thread Cert.RedMIdeal.nD Cert.RedMIdeal.τ).loc Cert.RedMIdeal.main_arg1)
      ∧ r.2.mem ((c.tc : Thread Cert.RedMIdeal.nD Cert.RedMIdeal.τ).loc Cert.RedMIdeal.main_arg2) = m ((c.tc : Thread Cert.RedMIdeal.nD Cert.RedMIdeal.τ).loc Cert.RedMIdeal.main_arg2)
      ∧ r.2.mem ((c.tc : Thread Cert.RedMIdeal.nD Cert.RedMIdeal.τ).loc Cert.RedMIdeal.main_arg3) = m ((c.tc : Thread Cert.RedMIdeal.nD Cert.RedMIdeal.τ).loc Cert.RedMIdeal.main_arg3)
      ∧ r.2.mem ((c.tc : Thread Cert.RedMIdeal.nD Cert.RedMIdeal.τ).loc Cert.RedMIdeal.main_arg4) = m ((c.tc : Thread Cert.RedMIdeal.nD Cert.RedMIdeal.τ).loc Cert.RedMIdeal.main_arg4)
      ∧ r.2.mem ((c.tc : Thread Cert.RedMIdeal.nD Cert.RedMIdeal.τ).loc Cert.RedMIdeal.main_arg5) = m ((c.tc : Thread Cert.RedMIdeal.nD Cert.RedMIdeal.τ).loc Cert.RedMIdeal.main_arg5))
      ∧ r.2.sem = fun _ => 0)

def quiescent_RedMRefIdeal [hRedMRefIdeal : Cert.RedMRefIdeal.Facts] : Prop :=
  ∀ (m : (ℓ : Loc Cert.RedMRefIdeal.nD Cert.RedMRefIdeal.τ Cert.RedMRefIdeal.sig) → Buf (Elt Ideal) ℓ) (g : Dev Cert.RedMRefIdeal.nD → PrngReg), Pre_RedMRefIdeal m →
    θ_run (Cert.RedMRefIdeal.defs (F := Ideal)) (onTc (τ := Cert.RedMRefIdeal.τ) (Cert.RedMRefIdeal.main (F := Ideal))) ⟨m, fun _ => 0, g⟩ (fun r => (∀ c : Dev Cert.RedMRefIdeal.nD,
      r.2.mem ((c.tc : Thread Cert.RedMRefIdeal.nD Cert.RedMRefIdeal.τ).loc Cert.RedMRefIdeal.main_arg0) = m ((c.tc : Thread Cert.RedMRefIdeal.nD Cert.RedMRefIdeal.τ).loc Cert.RedMRefIdeal.main_arg0)
      ∧ r.2.mem ((c.tc : Thread Cert.RedMRefIdeal.nD Cert.RedMRefIdeal.τ).loc Cert.RedMRefIdeal.main_arg1) = m ((c.tc : Thread Cert.RedMRefIdeal.nD Cert.RedMRefIdeal.τ).loc Cert.RedMRefIdeal.main_arg1)
      ∧ r.2.mem ((c.tc : Thread Cert.RedMRefIdeal.nD Cert.RedMRefIdeal.τ).loc Cert.RedMRefIdeal.main_arg2) = m ((c.tc : Thread Cert.RedMRefIdeal.nD Cert.RedMRefIdeal.τ).loc Cert.RedMRefIdeal.main_arg2)
      ∧ r.2.mem ((c.tc : Thread Cert.RedMRefIdeal.nD Cert.RedMRefIdeal.τ).loc Cert.RedMRefIdeal.main_arg3) = m ((c.tc : Thread Cert.RedMRefIdeal.nD Cert.RedMRefIdeal.τ).loc Cert.RedMRefIdeal.main_arg3)
      ∧ r.2.mem ((c.tc : Thread Cert.RedMRefIdeal.nD Cert.RedMRefIdeal.τ).loc Cert.RedMRefIdeal.main_arg4) = m ((c.tc : Thread Cert.RedMRefIdeal.nD Cert.RedMRefIdeal.τ).loc Cert.RedMRefIdeal.main_arg4)
      ∧ r.2.mem ((c.tc : Thread Cert.RedMRefIdeal.nD Cert.RedMRefIdeal.τ).loc Cert.RedMRefIdeal.main_arg5) = m ((c.tc : Thread Cert.RedMRefIdeal.nD Cert.RedMRefIdeal.τ).loc Cert.RedMRefIdeal.main_arg5))
      ∧ r.2.sem = fun _ => 0)

def quiescent_RedA [hRedA : Cert.RedA.Facts] : Prop :=
  ∀ (m : (ℓ : Loc Cert.RedA.nD Cert.RedA.τ Cert.RedA.sig) → Buf (Elt Bits) ℓ) (g : Dev Cert.RedA.nD → PrngReg), Pre_RedA m →
    θ_run (Cert.RedA.defs (F := Bits)) (onTc (τ := Cert.RedA.τ) (Cert.RedA.main (F := Bits))) ⟨m, fun _ => 0, g⟩ (fun r => (∀ c : Dev Cert.RedA.nD,
      r.2.mem ((c.tc : Thread Cert.RedA.nD Cert.RedA.τ).loc Cert.RedA.main_arg0) = m ((c.tc : Thread Cert.RedA.nD Cert.RedA.τ).loc Cert.RedA.main_arg0)
      ∧ r.2.mem ((c.tc : Thread Cert.RedA.nD Cert.RedA.τ).loc Cert.RedA.main_arg1) = m ((c.tc : Thread Cert.RedA.nD Cert.RedA.τ).loc Cert.RedA.main_arg1)
      ∧ r.2.mem ((c.tc : Thread Cert.RedA.nD Cert.RedA.τ).loc Cert.RedA.main_arg2) = m ((c.tc : Thread Cert.RedA.nD Cert.RedA.τ).loc Cert.RedA.main_arg2)
      ∧ r.2.mem ((c.tc : Thread Cert.RedA.nD Cert.RedA.τ).loc Cert.RedA.main_arg3) = m ((c.tc : Thread Cert.RedA.nD Cert.RedA.τ).loc Cert.RedA.main_arg3)
      ∧ r.2.mem ((c.tc : Thread Cert.RedA.nD Cert.RedA.τ).loc Cert.RedA.main_arg4) = m ((c.tc : Thread Cert.RedA.nD Cert.RedA.τ).loc Cert.RedA.main_arg4)
      ∧ r.2.mem ((c.tc : Thread Cert.RedA.nD Cert.RedA.τ).loc Cert.RedA.main_arg5) = m ((c.tc : Thread Cert.RedA.nD Cert.RedA.τ).loc Cert.RedA.main_arg5))
      ∧ r.2.sem = fun _ => 0)

def quiescent_RedAIdeal [hRedAIdeal : Cert.RedAIdeal.Facts] : Prop :=
  ∀ (m : (ℓ : Loc Cert.RedAIdeal.nD Cert.RedAIdeal.τ Cert.RedAIdeal.sig) → Buf (Elt Ideal) ℓ) (g : Dev Cert.RedAIdeal.nD → PrngReg), Pre_RedAIdeal m →
    θ_run (Cert.RedAIdeal.defs (F := Ideal)) (onTc (τ := Cert.RedAIdeal.τ) (Cert.RedAIdeal.main (F := Ideal))) ⟨m, fun _ => 0, g⟩ (fun r => (∀ c : Dev Cert.RedAIdeal.nD,
      r.2.mem ((c.tc : Thread Cert.RedAIdeal.nD Cert.RedAIdeal.τ).loc Cert.RedAIdeal.main_arg0) = m ((c.tc : Thread Cert.RedAIdeal.nD Cert.RedAIdeal.τ).loc Cert.RedAIdeal.main_arg0)
      ∧ r.2.mem ((c.tc : Thread Cert.RedAIdeal.nD Cert.RedAIdeal.τ).loc Cert.RedAIdeal.main_arg1) = m ((c.tc : Thread Cert.RedAIdeal.nD Cert.RedAIdeal.τ).loc Cert.RedAIdeal.main_arg1)
      ∧ r.2.mem ((c.tc : Thread Cert.RedAIdeal.nD Cert.RedAIdeal.τ).loc Cert.RedAIdeal.main_arg2) = m ((c.tc : Thread Cert.RedAIdeal.nD Cert.RedAIdeal.τ).loc Cert.RedAIdeal.main_arg2)
      ∧ r.2.mem ((c.tc : Thread Cert.RedAIdeal.nD Cert.RedAIdeal.τ).loc Cert.RedAIdeal.main_arg3) = m ((c.tc : Thread Cert.RedAIdeal.nD Cert.RedAIdeal.τ).loc Cert.RedAIdeal.main_arg3)
      ∧ r.2.mem ((c.tc : Thread Cert.RedAIdeal.nD Cert.RedAIdeal.τ).loc Cert.RedAIdeal.main_arg4) = m ((c.tc : Thread Cert.RedAIdeal.nD Cert.RedAIdeal.τ).loc Cert.RedAIdeal.main_arg4)
      ∧ r.2.mem ((c.tc : Thread Cert.RedAIdeal.nD Cert.RedAIdeal.τ).loc Cert.RedAIdeal.main_arg5) = m ((c.tc : Thread Cert.RedAIdeal.nD Cert.RedAIdeal.τ).loc Cert.RedAIdeal.main_arg5))
      ∧ r.2.sem = fun _ => 0)

def quiescent_RedARefIdeal [hRedARefIdeal : Cert.RedARefIdeal.Facts] : Prop :=
  ∀ (m : (ℓ : Loc Cert.RedARefIdeal.nD Cert.RedARefIdeal.τ Cert.RedARefIdeal.sig) → Buf (Elt Ideal) ℓ) (g : Dev Cert.RedARefIdeal.nD → PrngReg), Pre_RedARefIdeal m →
    θ_run (Cert.RedARefIdeal.defs (F := Ideal)) (onTc (τ := Cert.RedARefIdeal.τ) (Cert.RedARefIdeal.main (F := Ideal))) ⟨m, fun _ => 0, g⟩ (fun r => (∀ c : Dev Cert.RedARefIdeal.nD,
      r.2.mem ((c.tc : Thread Cert.RedARefIdeal.nD Cert.RedARefIdeal.τ).loc Cert.RedARefIdeal.main_arg0) = m ((c.tc : Thread Cert.RedARefIdeal.nD Cert.RedARefIdeal.τ).loc Cert.RedARefIdeal.main_arg0)
      ∧ r.2.mem ((c.tc : Thread Cert.RedARefIdeal.nD Cert.RedARefIdeal.τ).loc Cert.RedARefIdeal.main_arg1) = m ((c.tc : Thread Cert.RedARefIdeal.nD Cert.RedARefIdeal.τ).loc Cert.RedARefIdeal.main_arg1)
      ∧ r.2.mem ((c.tc : Thread Cert.RedARefIdeal.nD Cert.RedARefIdeal.τ).loc Cert.RedARefIdeal.main_arg2) = m ((c.tc : Thread Cert.RedARefIdeal.nD Cert.RedARefIdeal.τ).loc Cert.RedARefIdeal.main_arg2)
      ∧ r.2.mem ((c.tc : Thread Cert.RedARefIdeal.nD Cert.RedARefIdeal.τ).loc Cert.RedARefIdeal.main_arg3) = m ((c.tc : Thread Cert.RedARefIdeal.nD Cert.RedARefIdeal.τ).loc Cert.RedARefIdeal.main_arg3)
      ∧ r.2.mem ((c.tc : Thread Cert.RedARefIdeal.nD Cert.RedARefIdeal.τ).loc Cert.RedARefIdeal.main_arg4) = m ((c.tc : Thread Cert.RedARefIdeal.nD Cert.RedARefIdeal.τ).loc Cert.RedARefIdeal.main_arg4)
      ∧ r.2.mem ((c.tc : Thread Cert.RedARefIdeal.nD Cert.RedARefIdeal.τ).loc Cert.RedARefIdeal.main_arg5) = m ((c.tc : Thread Cert.RedARefIdeal.nD Cert.RedARefIdeal.τ).loc Cert.RedARefIdeal.main_arg5))
      ∧ r.2.sem = fun _ => 0)

def quiescent_RedFi [hRedFi : Cert.RedFi.Facts] : Prop :=
  ∀ (m : (ℓ : Loc Cert.RedFi.nD Cert.RedFi.τ Cert.RedFi.sig) → Buf (Elt Bits) ℓ) (g : Dev Cert.RedFi.nD → PrngReg), Pre_RedFi m →
    θ_run (Cert.RedFi.defs (F := Bits)) (onTc (τ := Cert.RedFi.τ) (Cert.RedFi.main (F := Bits))) ⟨m, fun _ => 0, g⟩ (fun r => (∀ c : Dev Cert.RedFi.nD,
      r.2.mem ((c.tc : Thread Cert.RedFi.nD Cert.RedFi.τ).loc Cert.RedFi.main_arg0) = m ((c.tc : Thread Cert.RedFi.nD Cert.RedFi.τ).loc Cert.RedFi.main_arg0)
      ∧ r.2.mem ((c.tc : Thread Cert.RedFi.nD Cert.RedFi.τ).loc Cert.RedFi.main_arg1) = m ((c.tc : Thread Cert.RedFi.nD Cert.RedFi.τ).loc Cert.RedFi.main_arg1)
      ∧ r.2.mem ((c.tc : Thread Cert.RedFi.nD Cert.RedFi.τ).loc Cert.RedFi.main_arg2) = m ((c.tc : Thread Cert.RedFi.nD Cert.RedFi.τ).loc Cert.RedFi.main_arg2)
      ∧ r.2.mem ((c.tc : Thread Cert.RedFi.nD Cert.RedFi.τ).loc Cert.RedFi.main_arg3) = m ((c.tc : Thread Cert.RedFi.nD Cert.RedFi.τ).loc Cert.RedFi.main_arg3)
      ∧ r.2.mem ((c.tc : Thread Cert.RedFi.nD Cert.RedFi.τ).loc Cert.RedFi.main_arg4) = m ((c.tc : Thread Cert.RedFi.nD Cert.RedFi.τ).loc Cert.RedFi.main_arg4)
      ∧ r.2.mem ((c.tc : Thread Cert.RedFi.nD Cert.RedFi.τ).loc Cert.RedFi.main_arg5) = m ((c.tc : Thread Cert.RedFi.nD Cert.RedFi.τ).loc Cert.RedFi.main_arg5)
      ∧ r.2.mem ((c.tc : Thread Cert.RedFi.nD Cert.RedFi.τ).loc Cert.RedFi.main_arg6) = m ((c.tc : Thread Cert.RedFi.nD Cert.RedFi.τ).loc Cert.RedFi.main_arg6)
      ∧ r.2.mem ((c.tc : Thread Cert.RedFi.nD Cert.RedFi.τ).loc Cert.RedFi.main_arg7) = m ((c.tc : Thread Cert.RedFi.nD Cert.RedFi.τ).loc Cert.RedFi.main_arg7)
      ∧ r.2.mem ((c.tc : Thread Cert.RedFi.nD Cert.RedFi.τ).loc Cert.RedFi.main_arg8) = m ((c.tc : Thread Cert.RedFi.nD Cert.RedFi.τ).loc Cert.RedFi.main_arg8)
      ∧ r.2.mem ((c.tc : Thread Cert.RedFi.nD Cert.RedFi.τ).loc Cert.RedFi.main_arg9) = m ((c.tc : Thread Cert.RedFi.nD Cert.RedFi.τ).loc Cert.RedFi.main_arg9)
      ∧ r.2.mem ((c.tc : Thread Cert.RedFi.nD Cert.RedFi.τ).loc Cert.RedFi.main_arg10) = m ((c.tc : Thread Cert.RedFi.nD Cert.RedFi.τ).loc Cert.RedFi.main_arg10)
      ∧ r.2.mem ((c.tc : Thread Cert.RedFi.nD Cert.RedFi.τ).loc Cert.RedFi.main_arg11) = m ((c.tc : Thread Cert.RedFi.nD Cert.RedFi.τ).loc Cert.RedFi.main_arg11))
      ∧ r.2.sem = fun _ => 0)

def quiescent_RedFiIdeal [hRedFiIdeal : Cert.RedFiIdeal.Facts] : Prop :=
  ∀ (m : (ℓ : Loc Cert.RedFiIdeal.nD Cert.RedFiIdeal.τ Cert.RedFiIdeal.sig) → Buf (Elt Ideal) ℓ) (g : Dev Cert.RedFiIdeal.nD → PrngReg), Pre_RedFiIdeal m →
    θ_run (Cert.RedFiIdeal.defs (F := Ideal)) (onTc (τ := Cert.RedFiIdeal.τ) (Cert.RedFiIdeal.main (F := Ideal))) ⟨m, fun _ => 0, g⟩ (fun r => (∀ c : Dev Cert.RedFiIdeal.nD,
      r.2.mem ((c.tc : Thread Cert.RedFiIdeal.nD Cert.RedFiIdeal.τ).loc Cert.RedFiIdeal.main_arg0) = m ((c.tc : Thread Cert.RedFiIdeal.nD Cert.RedFiIdeal.τ).loc Cert.RedFiIdeal.main_arg0)
      ∧ r.2.mem ((c.tc : Thread Cert.RedFiIdeal.nD Cert.RedFiIdeal.τ).loc Cert.RedFiIdeal.main_arg1) = m ((c.tc : Thread Cert.RedFiIdeal.nD Cert.RedFiIdeal.τ).loc Cert.RedFiIdeal.main_arg1)
      ∧ r.2.mem ((c.tc : Thread Cert.RedFiIdeal.nD Cert.RedFiIdeal.τ).loc Cert.RedFiIdeal.main_arg2) = m ((c.tc : Thread Cert.RedFiIdeal.nD Cert.RedFiIdeal.τ).loc Cert.RedFiIdeal.main_arg2)
      ∧ r.2.mem ((c.tc : Thread Cert.RedFiIdeal.nD Cert.RedFiIdeal.τ).loc Cert.RedFiIdeal.main_arg3) = m ((c.tc : Thread Cert.RedFiIdeal.nD Cert.RedFiIdeal.τ).loc Cert.RedFiIdeal.main_arg3)
      ∧ r.2.mem ((c.tc : Thread Cert.RedFiIdeal.nD Cert.RedFiIdeal.τ).loc Cert.RedFiIdeal.main_arg4) = m ((c.tc : Thread Cert.RedFiIdeal.nD Cert.RedFiIdeal.τ).loc Cert.RedFiIdeal.main_arg4)
      ∧ r.2.mem ((c.tc : Thread Cert.RedFiIdeal.nD Cert.RedFiIdeal.τ).loc Cert.RedFiIdeal.main_arg5) = m ((c.tc : Thread Cert.RedFiIdeal.nD Cert.RedFiIdeal.τ).loc Cert.RedFiIdeal.main_arg5)
      ∧ r.2.mem ((c.tc : Thread Cert.RedFiIdeal.nD Cert.RedFiIdeal.τ).loc Cert.RedFiIdeal.main_arg6) = m ((c.tc : Thread Cert.RedFiIdeal.nD Cert.RedFiIdeal.τ).loc Cert.RedFiIdeal.main_arg6)
      ∧ r.2.mem ((c.tc : Thread Cert.RedFiIdeal.nD Cert.RedFiIdeal.τ).loc Cert.RedFiIdeal.main_arg7) = m ((c.tc : Thread Cert.RedFiIdeal.nD Cert.RedFiIdeal.τ).loc Cert.RedFiIdeal.main_arg7)
      ∧ r.2.mem ((c.tc : Thread Cert.RedFiIdeal.nD Cert.RedFiIdeal.τ).loc Cert.RedFiIdeal.main_arg8) = m ((c.tc : Thread Cert.RedFiIdeal.nD Cert.RedFiIdeal.τ).loc Cert.RedFiIdeal.main_arg8)
      ∧ r.2.mem ((c.tc : Thread Cert.RedFiIdeal.nD Cert.RedFiIdeal.τ).loc Cert.RedFiIdeal.main_arg9) = m ((c.tc : Thread Cert.RedFiIdeal.nD Cert.RedFiIdeal.τ).loc Cert.RedFiIdeal.main_arg9)
      ∧ r.2.mem ((c.tc : Thread Cert.RedFiIdeal.nD Cert.RedFiIdeal.τ).loc Cert.RedFiIdeal.main_arg10) = m ((c.tc : Thread Cert.RedFiIdeal.nD Cert.RedFiIdeal.τ).loc Cert.RedFiIdeal.main_arg10)
      ∧ r.2.mem ((c.tc : Thread Cert.RedFiIdeal.nD Cert.RedFiIdeal.τ).loc Cert.RedFiIdeal.main_arg11) = m ((c.tc : Thread Cert.RedFiIdeal.nD Cert.RedFiIdeal.τ).loc Cert.RedFiIdeal.main_arg11))
      ∧ r.2.sem = fun _ => 0)

def quiescent_RedFiRefIdeal [hRedFiRefIdeal : Cert.RedFiRefIdeal.Facts] : Prop :=
  ∀ (m : (ℓ : Loc Cert.RedFiRefIdeal.nD Cert.RedFiRefIdeal.τ Cert.RedFiRefIdeal.sig) → Buf (Elt Ideal) ℓ) (g : Dev Cert.RedFiRefIdeal.nD → PrngReg), Pre_RedFiRefIdeal m →
    θ_run (Cert.RedFiRefIdeal.defs (F := Ideal)) (onTc (τ := Cert.RedFiRefIdeal.τ) (Cert.RedFiRefIdeal.main (F := Ideal))) ⟨m, fun _ => 0, g⟩ (fun r => (∀ c : Dev Cert.RedFiRefIdeal.nD,
      r.2.mem ((c.tc : Thread Cert.RedFiRefIdeal.nD Cert.RedFiRefIdeal.τ).loc Cert.RedFiRefIdeal.main_arg0) = m ((c.tc : Thread Cert.RedFiRefIdeal.nD Cert.RedFiRefIdeal.τ).loc Cert.RedFiRefIdeal.main_arg0)
      ∧ r.2.mem ((c.tc : Thread Cert.RedFiRefIdeal.nD Cert.RedFiRefIdeal.τ).loc Cert.RedFiRefIdeal.main_arg1) = m ((c.tc : Thread Cert.RedFiRefIdeal.nD Cert.RedFiRefIdeal.τ).loc Cert.RedFiRefIdeal.main_arg1)
      ∧ r.2.mem ((c.tc : Thread Cert.RedFiRefIdeal.nD Cert.RedFiRefIdeal.τ).loc Cert.RedFiRefIdeal.main_arg2) = m ((c.tc : Thread Cert.RedFiRefIdeal.nD Cert.RedFiRefIdeal.τ).loc Cert.RedFiRefIdeal.main_arg2)
      ∧ r.2.mem ((c.tc : Thread Cert.RedFiRefIdeal.nD Cert.RedFiRefIdeal.τ).loc Cert.RedFiRefIdeal.main_arg3) = m ((c.tc : Thread Cert.RedFiRefIdeal.nD Cert.RedFiRefIdeal.τ).loc Cert.RedFiRefIdeal.main_arg3)
      ∧ r.2.mem ((c.tc : Thread Cert.RedFiRefIdeal.nD Cert.RedFiRefIdeal.τ).loc Cert.RedFiRefIdeal.main_arg4) = m ((c.tc : Thread Cert.RedFiRefIdeal.nD Cert.RedFiRefIdeal.τ).loc Cert.RedFiRefIdeal.main_arg4)
      ∧ r.2.mem ((c.tc : Thread Cert.RedFiRefIdeal.nD Cert.RedFiRefIdeal.τ).loc Cert.RedFiRefIdeal.main_arg5) = m ((c.tc : Thread Cert.RedFiRefIdeal.nD Cert.RedFiRefIdeal.τ).loc Cert.RedFiRefIdeal.main_arg5)
      ∧ r.2.mem ((c.tc : Thread Cert.RedFiRefIdeal.nD Cert.RedFiRefIdeal.τ).loc Cert.RedFiRefIdeal.main_arg6) = m ((c.tc : Thread Cert.RedFiRefIdeal.nD Cert.RedFiRefIdeal.τ).loc Cert.RedFiRefIdeal.main_arg6)
      ∧ r.2.mem ((c.tc : Thread Cert.RedFiRefIdeal.nD Cert.RedFiRefIdeal.τ).loc Cert.RedFiRefIdeal.main_arg7) = m ((c.tc : Thread Cert.RedFiRefIdeal.nD Cert.RedFiRefIdeal.τ).loc Cert.RedFiRefIdeal.main_arg7)
      ∧ r.2.mem ((c.tc : Thread Cert.RedFiRefIdeal.nD Cert.RedFiRefIdeal.τ).loc Cert.RedFiRefIdeal.main_arg8) = m ((c.tc : Thread Cert.RedFiRefIdeal.nD Cert.RedFiRefIdeal.τ).loc Cert.RedFiRefIdeal.main_arg8)
      ∧ r.2.mem ((c.tc : Thread Cert.RedFiRefIdeal.nD Cert.RedFiRefIdeal.τ).loc Cert.RedFiRefIdeal.main_arg9) = m ((c.tc : Thread Cert.RedFiRefIdeal.nD Cert.RedFiRefIdeal.τ).loc Cert.RedFiRefIdeal.main_arg9)
      ∧ r.2.mem ((c.tc : Thread Cert.RedFiRefIdeal.nD Cert.RedFiRefIdeal.τ).loc Cert.RedFiRefIdeal.main_arg10) = m ((c.tc : Thread Cert.RedFiRefIdeal.nD Cert.RedFiRefIdeal.τ).loc Cert.RedFiRefIdeal.main_arg10)
      ∧ r.2.mem ((c.tc : Thread Cert.RedFiRefIdeal.nD Cert.RedFiRefIdeal.τ).loc Cert.RedFiRefIdeal.main_arg11) = m ((c.tc : Thread Cert.RedFiRefIdeal.nD Cert.RedFiRefIdeal.τ).loc Cert.RedFiRefIdeal.main_arg11))
      ∧ r.2.sem = fun _ => 0)

def quiescent_RedFo [hRedFo : Cert.RedFo.Facts] : Prop :=
  ∀ (m : (ℓ : Loc Cert.RedFo.nD Cert.RedFo.τ Cert.RedFo.sig) → Buf (Elt Bits) ℓ) (g : Dev Cert.RedFo.nD → PrngReg), Pre_RedFo m →
    θ_run (Cert.RedFo.defs (F := Bits)) (onTc (τ := Cert.RedFo.τ) (Cert.RedFo.main (F := Bits))) ⟨m, fun _ => 0, g⟩ (fun r => (∀ c : Dev Cert.RedFo.nD,
      r.2.mem ((c.tc : Thread Cert.RedFo.nD Cert.RedFo.τ).loc Cert.RedFo.main_arg0) = m ((c.tc : Thread Cert.RedFo.nD Cert.RedFo.τ).loc Cert.RedFo.main_arg0)
      ∧ r.2.mem ((c.tc : Thread Cert.RedFo.nD Cert.RedFo.τ).loc Cert.RedFo.main_arg1) = m ((c.tc : Thread Cert.RedFo.nD Cert.RedFo.τ).loc Cert.RedFo.main_arg1)
      ∧ r.2.mem ((c.tc : Thread Cert.RedFo.nD Cert.RedFo.τ).loc Cert.RedFo.main_arg2) = m ((c.tc : Thread Cert.RedFo.nD Cert.RedFo.τ).loc Cert.RedFo.main_arg2)
      ∧ r.2.mem ((c.tc : Thread Cert.RedFo.nD Cert.RedFo.τ).loc Cert.RedFo.main_arg3) = m ((c.tc : Thread Cert.RedFo.nD Cert.RedFo.τ).loc Cert.RedFo.main_arg3)
      ∧ r.2.mem ((c.tc : Thread Cert.RedFo.nD Cert.RedFo.τ).loc Cert.RedFo.main_arg4) = m ((c.tc : Thread Cert.RedFo.nD Cert.RedFo.τ).loc Cert.RedFo.main_arg4)
      ∧ r.2.mem ((c.tc : Thread Cert.RedFo.nD Cert.RedFo.τ).loc Cert.RedFo.main_arg5) = m ((c.tc : Thread Cert.RedFo.nD Cert.RedFo.τ).loc Cert.RedFo.main_arg5)
      ∧ r.2.mem ((c.tc : Thread Cert.RedFo.nD Cert.RedFo.τ).loc Cert.RedFo.main_arg6) = m ((c.tc : Thread Cert.RedFo.nD Cert.RedFo.τ).loc Cert.RedFo.main_arg6)
      ∧ r.2.mem ((c.tc : Thread Cert.RedFo.nD Cert.RedFo.τ).loc Cert.RedFo.main_arg7) = m ((c.tc : Thread Cert.RedFo.nD Cert.RedFo.τ).loc Cert.RedFo.main_arg7)
      ∧ r.2.mem ((c.tc : Thread Cert.RedFo.nD Cert.RedFo.τ).loc Cert.RedFo.main_arg8) = m ((c.tc : Thread Cert.RedFo.nD Cert.RedFo.τ).loc Cert.RedFo.main_arg8)
      ∧ r.2.mem ((c.tc : Thread Cert.RedFo.nD Cert.RedFo.τ).loc Cert.RedFo.main_arg9) = m ((c.tc : Thread Cert.RedFo.nD Cert.RedFo.τ).loc Cert.RedFo.main_arg9)
      ∧ r.2.mem ((c.tc : Thread Cert.RedFo.nD Cert.RedFo.τ).loc Cert.RedFo.main_arg10) = m ((c.tc : Thread Cert.RedFo.nD Cert.RedFo.τ).loc Cert.RedFo.main_arg10)
      ∧ r.2.mem ((c.tc : Thread Cert.RedFo.nD Cert.RedFo.τ).loc Cert.RedFo.main_arg11) = m ((c.tc : Thread Cert.RedFo.nD Cert.RedFo.τ).loc Cert.RedFo.main_arg11))
      ∧ r.2.sem = fun _ => 0)

def quiescent_RedFoIdeal [hRedFoIdeal : Cert.RedFoIdeal.Facts] : Prop :=
  ∀ (m : (ℓ : Loc Cert.RedFoIdeal.nD Cert.RedFoIdeal.τ Cert.RedFoIdeal.sig) → Buf (Elt Ideal) ℓ) (g : Dev Cert.RedFoIdeal.nD → PrngReg), Pre_RedFoIdeal m →
    θ_run (Cert.RedFoIdeal.defs (F := Ideal)) (onTc (τ := Cert.RedFoIdeal.τ) (Cert.RedFoIdeal.main (F := Ideal))) ⟨m, fun _ => 0, g⟩ (fun r => (∀ c : Dev Cert.RedFoIdeal.nD,
      r.2.mem ((c.tc : Thread Cert.RedFoIdeal.nD Cert.RedFoIdeal.τ).loc Cert.RedFoIdeal.main_arg0) = m ((c.tc : Thread Cert.RedFoIdeal.nD Cert.RedFoIdeal.τ).loc Cert.RedFoIdeal.main_arg0)
      ∧ r.2.mem ((c.tc : Thread Cert.RedFoIdeal.nD Cert.RedFoIdeal.τ).loc Cert.RedFoIdeal.main_arg1) = m ((c.tc : Thread Cert.RedFoIdeal.nD Cert.RedFoIdeal.τ).loc Cert.RedFoIdeal.main_arg1)
      ∧ r.2.mem ((c.tc : Thread Cert.RedFoIdeal.nD Cert.RedFoIdeal.τ).loc Cert.RedFoIdeal.main_arg2) = m ((c.tc : Thread Cert.RedFoIdeal.nD Cert.RedFoIdeal.τ).loc Cert.RedFoIdeal.main_arg2)
      ∧ r.2.mem ((c.tc : Thread Cert.RedFoIdeal.nD Cert.RedFoIdeal.τ).loc Cert.RedFoIdeal.main_arg3) = m ((c.tc : Thread Cert.RedFoIdeal.nD Cert.RedFoIdeal.τ).loc Cert.RedFoIdeal.main_arg3)
      ∧ r.2.mem ((c.tc : Thread Cert.RedFoIdeal.nD Cert.RedFoIdeal.τ).loc Cert.RedFoIdeal.main_arg4) = m ((c.tc : Thread Cert.RedFoIdeal.nD Cert.RedFoIdeal.τ).loc Cert.RedFoIdeal.main_arg4)
      ∧ r.2.mem ((c.tc : Thread Cert.RedFoIdeal.nD Cert.RedFoIdeal.τ).loc Cert.RedFoIdeal.main_arg5) = m ((c.tc : Thread Cert.RedFoIdeal.nD Cert.RedFoIdeal.τ).loc Cert.RedFoIdeal.main_arg5)
      ∧ r.2.mem ((c.tc : Thread Cert.RedFoIdeal.nD Cert.RedFoIdeal.τ).loc Cert.RedFoIdeal.main_arg6) = m ((c.tc : Thread Cert.RedFoIdeal.nD Cert.RedFoIdeal.τ).loc Cert.RedFoIdeal.main_arg6)
      ∧ r.2.mem ((c.tc : Thread Cert.RedFoIdeal.nD Cert.RedFoIdeal.τ).loc Cert.RedFoIdeal.main_arg7) = m ((c.tc : Thread Cert.RedFoIdeal.nD Cert.RedFoIdeal.τ).loc Cert.RedFoIdeal.main_arg7)
      ∧ r.2.mem ((c.tc : Thread Cert.RedFoIdeal.nD Cert.RedFoIdeal.τ).loc Cert.RedFoIdeal.main_arg8) = m ((c.tc : Thread Cert.RedFoIdeal.nD Cert.RedFoIdeal.τ).loc Cert.RedFoIdeal.main_arg8)
      ∧ r.2.mem ((c.tc : Thread Cert.RedFoIdeal.nD Cert.RedFoIdeal.τ).loc Cert.RedFoIdeal.main_arg9) = m ((c.tc : Thread Cert.RedFoIdeal.nD Cert.RedFoIdeal.τ).loc Cert.RedFoIdeal.main_arg9)
      ∧ r.2.mem ((c.tc : Thread Cert.RedFoIdeal.nD Cert.RedFoIdeal.τ).loc Cert.RedFoIdeal.main_arg10) = m ((c.tc : Thread Cert.RedFoIdeal.nD Cert.RedFoIdeal.τ).loc Cert.RedFoIdeal.main_arg10)
      ∧ r.2.mem ((c.tc : Thread Cert.RedFoIdeal.nD Cert.RedFoIdeal.τ).loc Cert.RedFoIdeal.main_arg11) = m ((c.tc : Thread Cert.RedFoIdeal.nD Cert.RedFoIdeal.τ).loc Cert.RedFoIdeal.main_arg11))
      ∧ r.2.sem = fun _ => 0)

def quiescent_RedFoRefIdeal [hRedFoRefIdeal : Cert.RedFoRefIdeal.Facts] : Prop :=
  ∀ (m : (ℓ : Loc Cert.RedFoRefIdeal.nD Cert.RedFoRefIdeal.τ Cert.RedFoRefIdeal.sig) → Buf (Elt Ideal) ℓ) (g : Dev Cert.RedFoRefIdeal.nD → PrngReg), Pre_RedFoRefIdeal m →
    θ_run (Cert.RedFoRefIdeal.defs (F := Ideal)) (onTc (τ := Cert.RedFoRefIdeal.τ) (Cert.RedFoRefIdeal.main (F := Ideal))) ⟨m, fun _ => 0, g⟩ (fun r => (∀ c : Dev Cert.RedFoRefIdeal.nD,
      r.2.mem ((c.tc : Thread Cert.RedFoRefIdeal.nD Cert.RedFoRefIdeal.τ).loc Cert.RedFoRefIdeal.main_arg0) = m ((c.tc : Thread Cert.RedFoRefIdeal.nD Cert.RedFoRefIdeal.τ).loc Cert.RedFoRefIdeal.main_arg0)
      ∧ r.2.mem ((c.tc : Thread Cert.RedFoRefIdeal.nD Cert.RedFoRefIdeal.τ).loc Cert.RedFoRefIdeal.main_arg1) = m ((c.tc : Thread Cert.RedFoRefIdeal.nD Cert.RedFoRefIdeal.τ).loc Cert.RedFoRefIdeal.main_arg1)
      ∧ r.2.mem ((c.tc : Thread Cert.RedFoRefIdeal.nD Cert.RedFoRefIdeal.τ).loc Cert.RedFoRefIdeal.main_arg2) = m ((c.tc : Thread Cert.RedFoRefIdeal.nD Cert.RedFoRefIdeal.τ).loc Cert.RedFoRefIdeal.main_arg2)
      ∧ r.2.mem ((c.tc : Thread Cert.RedFoRefIdeal.nD Cert.RedFoRefIdeal.τ).loc Cert.RedFoRefIdeal.main_arg3) = m ((c.tc : Thread Cert.RedFoRefIdeal.nD Cert.RedFoRefIdeal.τ).loc Cert.RedFoRefIdeal.main_arg3)
      ∧ r.2.mem ((c.tc : Thread Cert.RedFoRefIdeal.nD Cert.RedFoRefIdeal.τ).loc Cert.RedFoRefIdeal.main_arg4) = m ((c.tc : Thread Cert.RedFoRefIdeal.nD Cert.RedFoRefIdeal.τ).loc Cert.RedFoRefIdeal.main_arg4)
      ∧ r.2.mem ((c.tc : Thread Cert.RedFoRefIdeal.nD Cert.RedFoRefIdeal.τ).loc Cert.RedFoRefIdeal.main_arg5) = m ((c.tc : Thread Cert.RedFoRefIdeal.nD Cert.RedFoRefIdeal.τ).loc Cert.RedFoRefIdeal.main_arg5)
      ∧ r.2.mem ((c.tc : Thread Cert.RedFoRefIdeal.nD Cert.RedFoRefIdeal.τ).loc Cert.RedFoRefIdeal.main_arg6) = m ((c.tc : Thread Cert.RedFoRefIdeal.nD Cert.RedFoRefIdeal.τ).loc Cert.RedFoRefIdeal.main_arg6)
      ∧ r.2.mem ((c.tc : Thread Cert.RedFoRefIdeal.nD Cert.RedFoRefIdeal.τ).loc Cert.RedFoRefIdeal.main_arg7) = m ((c.tc : Thread Cert.RedFoRefIdeal.nD Cert.RedFoRefIdeal.τ).loc Cert.RedFoRefIdeal.main_arg7)
      ∧ r.2.mem ((c.tc : Thread Cert.RedFoRefIdeal.nD Cert.RedFoRefIdeal.τ).loc Cert.RedFoRefIdeal.main_arg8) = m ((c.tc : Thread Cert.RedFoRefIdeal.nD Cert.RedFoRefIdeal.τ).loc Cert.RedFoRefIdeal.main_arg8)
      ∧ r.2.mem ((c.tc : Thread Cert.RedFoRefIdeal.nD Cert.RedFoRefIdeal.τ).loc Cert.RedFoRefIdeal.main_arg9) = m ((c.tc : Thread Cert.RedFoRefIdeal.nD Cert.RedFoRefIdeal.τ).loc Cert.RedFoRefIdeal.main_arg9)
      ∧ r.2.mem ((c.tc : Thread Cert.RedFoRefIdeal.nD Cert.RedFoRefIdeal.τ).loc Cert.RedFoRefIdeal.main_arg10) = m ((c.tc : Thread Cert.RedFoRefIdeal.nD Cert.RedFoRefIdeal.τ).loc Cert.RedFoRefIdeal.main_arg10)
      ∧ r.2.mem ((c.tc : Thread Cert.RedFoRefIdeal.nD Cert.RedFoRefIdeal.τ).loc Cert.RedFoRefIdeal.main_arg11) = m ((c.tc : Thread Cert.RedFoRefIdeal.nD Cert.RedFoRefIdeal.τ).loc Cert.RedFoRefIdeal.main_arg11))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SSum [hSSum : Cert.SSum.Facts] : Prop :=
  ∀ (m : (ℓ : Loc Cert.SSum.nD Cert.SSum.τ Cert.SSum.sig) → Buf (Elt Bits) ℓ) (g : Dev Cert.SSum.nD → PrngReg), Pre_SSum m →
    θ_run (Cert.SSum.defs (F := Bits)) (onTc (τ := Cert.SSum.τ) (Cert.SSum.main (F := Bits))) ⟨m, fun _ => 0, g⟩ (fun r => (∀ c : Dev Cert.SSum.nD,
      r.2.mem ((c.tc : Thread Cert.SSum.nD Cert.SSum.τ).loc Cert.SSum.main_arg0) = m ((c.tc : Thread Cert.SSum.nD Cert.SSum.τ).loc Cert.SSum.main_arg0))
      ∧ r.2.sem = fun _ => 0)

def quiescent_SSumIdeal [hSSumIdeal : Cert.SSumIdeal.Facts] : Prop :=
  ∀ (m : (ℓ : Loc Cert.SSumIdeal.nD Cert.SSumIdeal.τ Cert.SSumIdeal.sig) → Buf (Elt Ideal) ℓ) (g : Dev Cert.SSumIdeal.nD → PrngReg), Pre_SSumIdeal m →
    θ_run (Cert.SSumIdeal.defs (F := Ideal)) (onTc (τ := Cert.SSumIdeal.τ) (Cert.SSumIdeal.main (F := Ideal))) ⟨m, fun _ => 0, g⟩ (fun r => (∀ c : Dev Cert.SSumIdeal.nD,
      r.2.mem ((c.tc : Thread Cert.SSumIdeal.nD Cert.SSumIdeal.τ).loc Cert.SSumIdeal.main_arg0) = m ((c.tc : Thread Cert.SSumIdeal.nD Cert.SSumIdeal.τ).loc Cert.SSumIdeal.main_arg0))
      ∧ r.2.sem = fun _ => 0)

def quiescent_SSumRefIdeal [hSSumRefIdeal : Cert.SSumRefIdeal.Facts] : Prop :=
  ∀ (m : (ℓ : Loc Cert.SSumRefIdeal.nD Cert.SSumRefIdeal.τ Cert.SSumRefIdeal.sig) → Buf (Elt Ideal) ℓ) (g : Dev Cert.SSumRefIdeal.nD → PrngReg), Pre_SSumRefIdeal m →
    θ_run (Cert.SSumRefIdeal.defs (F := Ideal)) (onTc (τ := Cert.SSumRefIdeal.τ) (Cert.SSumRefIdeal.main (F := Ideal))) ⟨m, fun _ => 0, g⟩ (fun r => (∀ c : Dev Cert.SSumRefIdeal.nD,
      r.2.mem ((c.tc : Thread Cert.SSumRefIdeal.nD Cert.SSumRefIdeal.τ).loc Cert.SSumRefIdeal.main_arg0) = m ((c.tc : Thread Cert.SSumRefIdeal.nD Cert.SSumRefIdeal.τ).loc Cert.SSumRefIdeal.main_arg0))
      ∧ r.2.sem = fun _ => 0)

def preserves_Kernel_KernelIdeal : Prop :=
  IdealRules.named_const.Statement Cert.KernelIdeal.κ "mask" .f32 0xF149F2CA#32 ⊥

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)
      ∧ m' ((c.tc : Thread Cert.InBRefIdeal.nD Cert.InBRefIdeal.τ).loc Cert.InBRefIdeal.main_arg3) = m ((c.tc : Thread Cert.InBIdeal.nD Cert.InBIdeal.τ).loc Cert.InBIdeal.main_arg3)
      ∧ m' ((c.tc : Thread Cert.InBRefIdeal.nD Cert.InBRefIdeal.τ).loc Cert.InBRefIdeal.main_arg4) = m ((c.tc : Thread Cert.InBIdeal.nD Cert.InBIdeal.τ).loc Cert.InBIdeal.main_arg4)) →
    ∃ (v0 : (c : Dev Cert.InBIdeal.nD) → Buf (Elt Ideal) ((c.tc : Thread Cert.InBIdeal.nD Cert.InBIdeal.τ).loc Cert.InBIdeal.main_v0_0)) (v1 : (c : Dev Cert.InBIdeal.nD) → Buf (Elt Ideal) ((c.tc : Thread Cert.InBIdeal.nD Cert.InBIdeal.τ).loc Cert.InBIdeal.main_v0_1)) (v2 : (c : Dev Cert.InBIdeal.nD) → Buf (Elt Ideal) ((c.tc : Thread Cert.InBIdeal.nD Cert.InBIdeal.τ).loc Cert.InBIdeal.main_v0_2)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v0_0) = v0 c
          ∧ r.2.mem ((c.tc : Thread Cert.InBIdeal.nD Cert.InBIdeal.τ).loc Cert.InBIdeal.main_v0_1) = v1 c
          ∧ r.2.mem ((c.tc : Thread Cert.InBIdeal.nD Cert.InBIdeal.τ).loc Cert.InBIdeal.main_v0_2) = v2 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2)
          ∧ r.2.mem ((c.tc : Thread Cert.InBIdeal.nD Cert.InBIdeal.τ).loc Cert.InBIdeal.main_arg3) = m ((c.tc : Thread Cert.InBIdeal.nD Cert.InBIdeal.τ).loc Cert.InBIdeal.main_arg3)
          ∧ r.2.mem ((c.tc : Thread Cert.InBIdeal.nD Cert.InBIdeal.τ).loc Cert.InBIdeal.main_arg4) = m ((c.tc : Thread Cert.InBIdeal.nD Cert.InBIdeal.τ).loc Cert.InBIdeal.main_arg4))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v27) = v0 c
          ∧ r.2.mem ((c.tc : Thread Cert.InBRefIdeal.nD Cert.InBRefIdeal.τ).loc Cert.InBRefIdeal.main_v20) = v1 c
          ∧ r.2.mem ((c.tc : Thread Cert.InBRefIdeal.nD Cert.InBRefIdeal.τ).loc Cert.InBRefIdeal.main_v23) = v2 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2)
          ∧ r.2.mem ((c.tc : Thread Cert.InBRefIdeal.nD Cert.InBRefIdeal.τ).loc Cert.InBRefIdeal.main_arg3) = m' ((c.tc : Thread Cert.InBRefIdeal.nD Cert.InBRefIdeal.τ).loc Cert.InBRefIdeal.main_arg3)
          ∧ r.2.mem ((c.tc : Thread Cert.InBRefIdeal.nD Cert.InBRefIdeal.τ).loc Cert.InBRefIdeal.main_arg4) = m' ((c.tc : Thread Cert.InBRefIdeal.nD Cert.InBRefIdeal.τ).loc Cert.InBRefIdeal.main_arg4))

def preserves_FIn_FInIdeal : Prop :=
  True

def algebraic_FInIdeal_FInRefIdeal [hFInIdeal : Cert.FInIdeal.Facts] [hFInRefIdeal : Cert.FInRefIdeal.Facts] : Prop :=
  ∀ (m : (ℓ : Loc Cert.FInIdeal.nD Cert.FInIdeal.τ Cert.FInIdeal.sig) → Buf (Elt Ideal) ℓ) (g : Dev Cert.FInIdeal.nD → PrngReg)
    (m' : (ℓ : Loc Cert.FInRefIdeal.nD Cert.FInRefIdeal.τ Cert.FInRefIdeal.sig) → Buf (Elt Ideal) ℓ) (g' : Dev Cert.FInRefIdeal.nD → PrngReg), Pre_FInIdeal m →
    (∀ c : Dev Cert.FInIdeal.nD,
      m' ((c.tc : Thread Cert.FInRefIdeal.nD Cert.FInRefIdeal.τ).loc Cert.FInRefIdeal.main_arg0) = m ((c.tc : Thread Cert.FInIdeal.nD Cert.FInIdeal.τ).loc Cert.FInIdeal.main_arg0)
      ∧ m' ((c.tc : Thread Cert.FInRefIdeal.nD Cert.FInRefIdeal.τ).loc Cert.FInRefIdeal.main_arg1) = m ((c.tc : Thread Cert.FInIdeal.nD Cert.FInIdeal.τ).loc Cert.FInIdeal.main_arg1)
      ∧ m' ((c.tc : Thread Cert.FInRefIdeal.nD Cert.FInRefIdeal.τ).loc Cert.FInRefIdeal.main_arg2) = m ((c.tc : Thread Cert.FInIdeal.nD Cert.FInIdeal.τ).loc Cert.FInIdeal.main_arg2)) →
    ∃ (v0 : (c : Dev Cert.FInIdeal.nD) → Buf (Elt Ideal) ((c.tc : Thread Cert.FInIdeal.nD Cert.FInIdeal.τ).loc Cert.FInIdeal.main_v0_0)) (v1 : (c : Dev Cert.FInIdeal.nD) → Buf (Elt Ideal) ((c.tc : Thread Cert.FInIdeal.nD Cert.FInIdeal.τ).loc Cert.FInIdeal.main_v0_1)) (v2 : (c : Dev Cert.FInIdeal.nD) → Buf (Elt Ideal) ((c.tc : Thread Cert.FInIdeal.nD Cert.FInIdeal.τ).loc Cert.FInIdeal.main_v0_2)) (v3 : (c : Dev Cert.FInIdeal.nD) → Buf (Elt Ideal) ((c.tc : Thread Cert.FInIdeal.nD Cert.FInIdeal.τ).loc Cert.FInIdeal.main_v0_3)),
      θ_run (Cert.FInIdeal.defs (F := Ideal)) (onTc (τ := Cert.FInIdeal.τ) (Cert.FInIdeal.main (F := Ideal))) ⟨m, fun _ => 0, g⟩ (fun r => ∀ c : Dev Cert.FInIdeal.nD,
          r.2.mem ((c.tc : Thread Cert.FInIdeal.nD Cert.FInIdeal.τ).loc Cert.FInIdeal.main_v0_0) = v0 c
          ∧ r.2.mem ((c.tc : Thread Cert.FInIdeal.nD Cert.FInIdeal.τ).loc Cert.FInIdeal.main_v0_1) = v1 c
          ∧ r.2.mem ((c.tc : Thread Cert.FInIdeal.nD Cert.FInIdeal.τ).loc Cert.FInIdeal.main_v0_2) = v2 c
          ∧ r.2.mem ((c.tc : Thread Cert.FInIdeal.nD Cert.FInIdeal.τ).loc Cert.FInIdeal.main_v0_3) = v3 c
          ∧ r.2.mem ((c.tc : Thread Cert.FInIdeal.nD Cert.FInIdeal.τ).loc Cert.FInIdeal.main_arg0) = m ((c.tc : Thread Cert.FInIdeal.nD Cert.FInIdeal.τ).loc Cert.FInIdeal.main_arg0)
          ∧ r.2.mem ((c.tc : Thread Cert.FInIdeal.nD Cert.FInIdeal.τ).loc Cert.FInIdeal.main_arg1) = m ((c.tc : Thread Cert.FInIdeal.nD Cert.FInIdeal.τ).loc Cert.FInIdeal.main_arg1)
          ∧ r.2.mem ((c.tc : Thread Cert.FInIdeal.nD Cert.FInIdeal.τ).loc Cert.FInIdeal.main_arg2) = m ((c.tc : Thread Cert.FInIdeal.nD Cert.FInIdeal.τ).loc Cert.FInIdeal.main_arg2))
      ∧ θ_run (Cert.FInRefIdeal.defs (F := Ideal)) (onTc (τ := Cert.FInRefIdeal.τ) (Cert.FInRefIdeal.main (F := Ideal))) ⟨m', fun _ => 0, g'⟩ (fun r => ∀ c : Dev Cert.FInRefIdeal.nD,
          r.2.mem ((c.tc : Thread Cert.FInRefIdeal.nD Cert.FInRefIdeal.τ).loc Cert.FInRefIdeal.main_v17) = v0 c
          ∧ r.2.mem ((c.tc : Thread Cert.FInRefIdeal.nD Cert.FInRefIdeal.τ).loc Cert.FInRefIdeal.main_v18) = v1 c
          ∧ r.2.mem ((c.tc : Thread Cert.FInRefIdeal.nD Cert.FInRefIdeal.τ).loc Cert.FInRefIdeal.main_v19) = v2 c
          ∧ r.2.mem ((c.tc : Thread Cert.FInRefIdeal.nD Cert.FInRefIdeal.τ).loc Cert.FInRefIdeal.main_v20) = v3 c
          ∧ r.2.mem ((c.tc : Thread Cert.FInRefIdeal.nD Cert.FInRefIdeal.τ).loc Cert.FInRefIdeal.main_arg0) = m' ((c.tc : Thread Cert.FInRefIdeal.nD Cert.FInRefIdeal.τ).loc Cert.FInRefIdeal.main_arg0)
          ∧ r.2.mem ((c.tc : Thread Cert.FInRefIdeal.nD Cert.FInRefIdeal.τ).loc Cert.FInRefIdeal.main_arg1) = m' ((c.tc : Thread Cert.FInRefIdeal.nD Cert.FInRefIdeal.τ).loc Cert.FInRefIdeal.main_arg1)
          ∧ r.2.mem ((c.tc : Thread Cert.FInRefIdeal.nD Cert.FInRefIdeal.τ).loc Cert.FInRefIdeal.main_arg2) = m' ((c.tc : Thread Cert.FInRefIdeal.nD Cert.FInRefIdeal.τ).loc Cert.FInRefIdeal.main_arg2))

def preserves_FOut_FOutIdeal : Prop :=
  True

def algebraic_FOutIdeal_FOutRefIdeal [hFOutIdeal : Cert.FOutIdeal.Facts] [hFOutRefIdeal : Cert.FOutRefIdeal.Facts] : Prop :=
  ∀ (m : (ℓ : Loc Cert.FOutIdeal.nD Cert.FOutIdeal.τ Cert.FOutIdeal.sig) → Buf (Elt Ideal) ℓ) (g : Dev Cert.FOutIdeal.nD → PrngReg)
    (m' : (ℓ : Loc Cert.FOutRefIdeal.nD Cert.FOutRefIdeal.τ Cert.FOutRefIdeal.sig) → Buf (Elt Ideal) ℓ) (g' : Dev Cert.FOutRefIdeal.nD → PrngReg), Pre_FOutIdeal m →
    (∀ c : Dev Cert.FOutIdeal.nD,
      m' ((c.tc : Thread Cert.FOutRefIdeal.nD Cert.FOutRefIdeal.τ).loc Cert.FOutRefIdeal.main_arg0) = m ((c.tc : Thread Cert.FOutIdeal.nD Cert.FOutIdeal.τ).loc Cert.FOutIdeal.main_arg0)
      ∧ m' ((c.tc : Thread Cert.FOutRefIdeal.nD Cert.FOutRefIdeal.τ).loc Cert.FOutRefIdeal.main_arg1) = m ((c.tc : Thread Cert.FOutIdeal.nD Cert.FOutIdeal.τ).loc Cert.FOutIdeal.main_arg1)
      ∧ m' ((c.tc : Thread Cert.FOutRefIdeal.nD Cert.FOutRefIdeal.τ).loc Cert.FOutRefIdeal.main_arg2) = m ((c.tc : Thread Cert.FOutIdeal.nD Cert.FOutIdeal.τ).loc Cert.FOutIdeal.main_arg2)
      ∧ m' ((c.tc : Thread Cert.FOutRefIdeal.nD Cert.FOutRefIdeal.τ).loc Cert.FOutRefIdeal.main_arg3) = m ((c.tc : Thread Cert.FOutIdeal.nD Cert.FOutIdeal.τ).loc Cert.FOutIdeal.main_arg3)
      ∧ m' ((c.tc : Thread Cert.FOutRefIdeal.nD Cert.FOutRefIdeal.τ).loc Cert.FOutRefIdeal.main_arg4) = m ((c.tc : Thread Cert.FOutIdeal.nD Cert.FOutIdeal.τ).loc Cert.FOutIdeal.main_arg4)
      ∧ m' ((c.tc : Thread Cert.FOutRefIdeal.nD Cert.FOutRefIdeal.τ).loc Cert.FOutRefIdeal.main_arg5) = m ((c.tc : Thread Cert.FOutIdeal.nD Cert.FOutIdeal.τ).loc Cert.FOutIdeal.main_arg5)) →
    ∃ (v0 : (c : Dev Cert.FOutIdeal.nD) → Buf (Elt Ideal) ((c.tc : Thread Cert.FOutIdeal.nD Cert.FOutIdeal.τ).loc Cert.FOutIdeal.main_v0_0)) (v1 : (c : Dev Cert.FOutIdeal.nD) → Buf (Elt Ideal) ((c.tc : Thread Cert.FOutIdeal.nD Cert.FOutIdeal.τ).loc Cert.FOutIdeal.main_v0_1)),
      θ_run (Cert.FOutIdeal.defs (F := Ideal)) (onTc (τ := Cert.FOutIdeal.τ) (Cert.FOutIdeal.main (F := Ideal))) ⟨m, fun _ => 0, g⟩ (fun r => ∀ c : Dev Cert.FOutIdeal.nD,
          r.2.mem ((c.tc : Thread Cert.FOutIdeal.nD Cert.FOutIdeal.τ).loc Cert.FOutIdeal.main_v0_0) = v0 c
          ∧ r.2.mem ((c.tc : Thread Cert.FOutIdeal.nD Cert.FOutIdeal.τ).loc Cert.FOutIdeal.main_v0_1) = v1 c
          ∧ r.2.mem ((c.tc : Thread Cert.FOutIdeal.nD Cert.FOutIdeal.τ).loc Cert.FOutIdeal.main_arg0) = m ((c.tc : Thread Cert.FOutIdeal.nD Cert.FOutIdeal.τ).loc Cert.FOutIdeal.main_arg0)
          ∧ r.2.mem ((c.tc : Thread Cert.FOutIdeal.nD Cert.FOutIdeal.τ).loc Cert.FOutIdeal.main_arg1) = m ((c.tc : Thread Cert.FOutIdeal.nD Cert.FOutIdeal.τ).loc Cert.FOutIdeal.main_arg1)
          ∧ r.2.mem ((c.tc : Thread Cert.FOutIdeal.nD Cert.FOutIdeal.τ).loc Cert.FOutIdeal.main_arg2) = m ((c.tc : Thread Cert.FOutIdeal.nD Cert.FOutIdeal.τ).loc Cert.FOutIdeal.main_arg2)
          ∧ r.2.mem ((c.tc : Thread Cert.FOutIdeal.nD Cert.FOutIdeal.τ).loc Cert.FOutIdeal.main_arg3) = m ((c.tc : Thread Cert.FOutIdeal.nD Cert.FOutIdeal.τ).loc Cert.FOutIdeal.main_arg3)
          ∧ r.2.mem ((c.tc : Thread Cert.FOutIdeal.nD Cert.FOutIdeal.τ).loc Cert.FOutIdeal.main_arg4) = m ((c.tc : Thread Cert.FOutIdeal.nD Cert.FOutIdeal.τ).loc Cert.FOutIdeal.main_arg4)
          ∧ r.2.mem ((c.tc : Thread Cert.FOutIdeal.nD Cert.FOutIdeal.τ).loc Cert.FOutIdeal.main_arg5) = m ((c.tc : Thread Cert.FOutIdeal.nD Cert.FOutIdeal.τ).loc Cert.FOutIdeal.main_arg5))
      ∧ θ_run (Cert.FOutRefIdeal.defs (F := Ideal)) (onTc (τ := Cert.FOutRefIdeal.τ) (Cert.FOutRefIdeal.main (F := Ideal))) ⟨m', fun _ => 0, g'⟩ (fun r => ∀ c : Dev Cert.FOutRefIdeal.nD,
          r.2.mem ((c.tc : Thread Cert.FOutRefIdeal.nD Cert.FOutRefIdeal.τ).loc Cert.FOutRefIdeal.main_v0) = v0 c
          ∧ r.2.mem ((c.tc : Thread Cert.FOutRefIdeal.nD Cert.FOutRefIdeal.τ).loc Cert.FOutRefIdeal.main_v37) = v1 c
          ∧ r.2.mem ((c.tc : Thread Cert.FOutRefIdeal.nD Cert.FOutRefIdeal.τ).loc Cert.FOutRefIdeal.main_arg0) = m' ((c.tc : Thread Cert.FOutRefIdeal.nD Cert.FOutRefIdeal.τ).loc Cert.FOutRefIdeal.main_arg0)
          ∧ r.2.mem ((c.tc : Thread Cert.FOutRefIdeal.nD Cert.FOutRefIdeal.τ).loc Cert.FOutRefIdeal.main_arg1) = m' ((c.tc : Thread Cert.FOutRefIdeal.nD Cert.FOutRefIdeal.τ).loc Cert.FOutRefIdeal.main_arg1)
          ∧ r.2.mem ((c.tc : Thread Cert.FOutRefIdeal.nD Cert.FOutRefIdeal.τ).loc Cert.FOutRefIdeal.main_arg2) = m' ((c.tc : Thread Cert.FOutRefIdeal.nD Cert.FOutRefIdeal.τ).loc Cert.FOutRefIdeal.main_arg2)
          ∧ r.2.mem ((c.tc : Thread Cert.FOutRefIdeal.nD Cert.FOutRefIdeal.τ).loc Cert.FOutRefIdeal.main_arg3) = m' ((c.tc : Thread Cert.FOutRefIdeal.nD Cert.FOutRefIdeal.τ).loc Cert.FOutRefIdeal.main_arg3)
          ∧ r.2.mem ((c.tc : Thread Cert.FOutRefIdeal.nD Cert.FOutRefIdeal.τ).loc Cert.FOutRefIdeal.main_arg4) = m' ((c.tc : Thread Cert.FOutRefIdeal.nD Cert.FOutRefIdeal.τ).loc Cert.FOutRefIdeal.main_arg4)
          ∧ r.2.mem ((c.tc : Thread Cert.FOutRefIdeal.nD Cert.FOutRefIdeal.τ).loc Cert.FOutRefIdeal.main_arg5) = m' ((c.tc : Thread Cert.FOutRefIdeal.nD Cert.FOutRefIdeal.τ).loc Cert.FOutRefIdeal.main_arg5))

def preserves_DWin_DWinIdeal : Prop :=
  True

def algebraic_DWinIdeal_DWinRefIdeal [hDWinIdeal : Cert.DWinIdeal.Facts] [hDWinRefIdeal : Cert.DWinRefIdeal.Facts] : Prop :=
  ∀ (m : (ℓ : Loc Cert.DWinIdeal.nD Cert.DWinIdeal.τ Cert.DWinIdeal.sig) → Buf (Elt Ideal) ℓ) (g : Dev Cert.DWinIdeal.nD → PrngReg)
    (m' : (ℓ : Loc Cert.DWinRefIdeal.nD Cert.DWinRefIdeal.τ Cert.DWinRefIdeal.sig) → Buf (Elt Ideal) ℓ) (g' : Dev Cert.DWinRefIdeal.nD → PrngReg), Pre_DWinIdeal m →
    (∀ c : Dev Cert.DWinIdeal.nD,
      m' ((c.tc : Thread Cert.DWinRefIdeal.nD Cert.DWinRefIdeal.τ).loc Cert.DWinRefIdeal.main_arg0) = m ((c.tc : Thread Cert.DWinIdeal.nD Cert.DWinIdeal.τ).loc Cert.DWinIdeal.main_arg0)
      ∧ m' ((c.tc : Thread Cert.DWinRefIdeal.nD Cert.DWinRefIdeal.τ).loc Cert.DWinRefIdeal.main_arg1) = m ((c.tc : Thread Cert.DWinIdeal.nD Cert.DWinIdeal.τ).loc Cert.DWinIdeal.main_arg1)) →
    ∃ (v0 : (c : Dev Cert.DWinIdeal.nD) → Buf (Elt Ideal) ((c.tc : Thread Cert.DWinIdeal.nD Cert.DWinIdeal.τ).loc Cert.DWinIdeal.main_v0_0)) (v1 : (c : Dev Cert.DWinIdeal.nD) → Buf (Elt Ideal) ((c.tc : Thread Cert.DWinIdeal.nD Cert.DWinIdeal.τ).loc Cert.DWinIdeal.main_v0_1)),
      θ_run (Cert.DWinIdeal.defs (F := Ideal)) (onTc (τ := Cert.DWinIdeal.τ) (Cert.DWinIdeal.main (F := Ideal))) ⟨m, fun _ => 0, g⟩ (fun r => ∀ c : Dev Cert.DWinIdeal.nD,
          r.2.mem ((c.tc : Thread Cert.DWinIdeal.nD Cert.DWinIdeal.τ).loc Cert.DWinIdeal.main_v0_0) = v0 c
          ∧ r.2.mem ((c.tc : Thread Cert.DWinIdeal.nD Cert.DWinIdeal.τ).loc Cert.DWinIdeal.main_v0_1) = v1 c
          ∧ r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
          ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ θ_run (Cert.DWinRefIdeal.defs (F := Ideal)) (onTc (τ := Cert.DWinRefIdeal.τ) (Cert.DWinRefIdeal.main (F := Ideal))) ⟨m', fun _ => 0, g'⟩ (fun r => ∀ c : Dev Cert.DWinRefIdeal.nD,
          r.2.mem ((c.tc : Thread Cert.DWinRefIdeal.nD Cert.DWinRefIdeal.τ).loc Cert.DWinRefIdeal.main_v9) = v0 c
          ∧ r.2.mem ((c.tc : Thread Cert.DWinRefIdeal.nD Cert.DWinRefIdeal.τ).loc Cert.DWinRefIdeal.main_v10) = v1 c
          ∧ r.2.mem ((c.tc : Thread Cert.DWinRefIdeal.nD Cert.DWinRefIdeal.τ).loc Cert.DWinRefIdeal.main_arg0) = m' ((c.tc : Thread Cert.DWinRefIdeal.nD Cert.DWinRefIdeal.τ).loc Cert.DWinRefIdeal.main_arg0)
          ∧ r.2.mem ((c.tc : Thread Cert.DWinRefIdeal.nD Cert.DWinRefIdeal.τ).loc Cert.DWinRefIdeal.main_arg1) = m' ((c.tc : Thread Cert.DWinRefIdeal.nD Cert.DWinRefIdeal.τ).loc Cert.DWinRefIdeal.main_arg1))

def preserves_DWout_DWoutIdeal : Prop :=
  True

def algebraic_DWoutIdeal_DWoutRefIdeal [hDWoutIdeal : Cert.DWoutIdeal.Facts] [hDWoutRefIdeal : Cert.DWoutRefIdeal.Facts] : Prop :=
  ∀ (m : (ℓ : Loc Cert.DWoutIdeal.nD Cert.DWoutIdeal.τ Cert.DWoutIdeal.sig) → Buf (Elt Ideal) ℓ) (g : Dev Cert.DWoutIdeal.nD → PrngReg)
    (m' : (ℓ : Loc Cert.DWoutRefIdeal.nD Cert.DWoutRefIdeal.τ Cert.DWoutRefIdeal.sig) → Buf (Elt Ideal) ℓ) (g' : Dev Cert.DWoutRefIdeal.nD → PrngReg), Pre_DWoutIdeal m →
    (∀ c : Dev Cert.DWoutIdeal.nD,
      m' ((c.tc : Thread Cert.DWoutRefIdeal.nD Cert.DWoutRefIdeal.τ).loc Cert.DWoutRefIdeal.main_arg0) = m ((c.tc : Thread Cert.DWoutIdeal.nD Cert.DWoutIdeal.τ).loc Cert.DWoutIdeal.main_arg0)
      ∧ m' ((c.tc : Thread Cert.DWoutRefIdeal.nD Cert.DWoutRefIdeal.τ).loc Cert.DWoutRefIdeal.main_arg1) = m ((c.tc : Thread Cert.DWoutIdeal.nD Cert.DWoutIdeal.τ).loc Cert.DWoutIdeal.main_arg1)) →
    ∃ (v0 : (c : Dev Cert.DWoutIdeal.nD) → Buf (Elt Ideal) ((c.tc : Thread Cert.DWoutIdeal.nD Cert.DWoutIdeal.τ).loc Cert.DWoutIdeal.main_v0_0)) (v1 : (c : Dev Cert.DWoutIdeal.nD) → Buf (Elt Ideal) ((c.tc : Thread Cert.DWoutIdeal.nD Cert.DWoutIdeal.τ).loc Cert.DWoutIdeal.main_v0_1)),
      θ_run (Cert.DWoutIdeal.defs (F := Ideal)) (onTc (τ := Cert.DWoutIdeal.τ) (Cert.DWoutIdeal.main (F := Ideal))) ⟨m, fun _ => 0, g⟩ (fun r => ∀ c : Dev Cert.DWoutIdeal.nD,
          r.2.mem ((c.tc : Thread Cert.DWoutIdeal.nD Cert.DWoutIdeal.τ).loc Cert.DWoutIdeal.main_v0_0) = v0 c
          ∧ r.2.mem ((c.tc : Thread Cert.DWoutIdeal.nD Cert.DWoutIdeal.τ).loc Cert.DWoutIdeal.main_v0_1) = v1 c
          ∧ r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
          ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ θ_run (Cert.DWoutRefIdeal.defs (F := Ideal)) (onTc (τ := Cert.DWoutRefIdeal.τ) (Cert.DWoutRefIdeal.main (F := Ideal))) ⟨m', fun _ => 0, g'⟩ (fun r => ∀ c : Dev Cert.DWoutRefIdeal.nD,
          r.2.mem ((c.tc : Thread Cert.DWoutRefIdeal.nD Cert.DWoutRefIdeal.τ).loc Cert.DWoutRefIdeal.main_v5) = v0 c
          ∧ r.2.mem ((c.tc : Thread Cert.DWoutRefIdeal.nD Cert.DWoutRefIdeal.τ).loc Cert.DWoutRefIdeal.main_v6) = v1 c
          ∧ r.2.mem ((c.tc : Thread Cert.DWoutRefIdeal.nD Cert.DWoutRefIdeal.τ).loc Cert.DWoutRefIdeal.main_arg0) = m' ((c.tc : Thread Cert.DWoutRefIdeal.nD Cert.DWoutRefIdeal.τ).loc Cert.DWoutRefIdeal.main_arg0)
          ∧ r.2.mem ((c.tc : Thread Cert.DWoutRefIdeal.nD Cert.DWoutRefIdeal.τ).loc Cert.DWoutRefIdeal.main_arg1) = m' ((c.tc : Thread Cert.DWoutRefIdeal.nD Cert.DWoutRefIdeal.τ).loc Cert.DWoutRefIdeal.main_arg1))

def preserves_AtInB_AtInBIdeal : Prop :=
  True

def algebraic_AtInBIdeal_AtInBRefIdeal [hAtInBIdeal : Cert.AtInBIdeal.Facts] [hAtInBRefIdeal : Cert.AtInBRefIdeal.Facts] : Prop :=
  ∀ (m : (ℓ : Loc Cert.AtInBIdeal.nD Cert.AtInBIdeal.τ Cert.AtInBIdeal.sig) → Buf (Elt Ideal) ℓ) (g : Dev Cert.AtInBIdeal.nD → PrngReg)
    (m' : (ℓ : Loc Cert.AtInBRefIdeal.nD Cert.AtInBRefIdeal.τ Cert.AtInBRefIdeal.sig) → Buf (Elt Ideal) ℓ) (g' : Dev Cert.AtInBRefIdeal.nD → PrngReg), Pre_AtInBIdeal m →
    (∀ c : Dev Cert.AtInBIdeal.nD,
      m' ((c.tc : Thread Cert.AtInBRefIdeal.nD Cert.AtInBRefIdeal.τ).loc Cert.AtInBRefIdeal.main_arg0) = m ((c.tc : Thread Cert.AtInBIdeal.nD Cert.AtInBIdeal.τ).loc Cert.AtInBIdeal.main_arg0)
      ∧ m' ((c.tc : Thread Cert.AtInBRefIdeal.nD Cert.AtInBRefIdeal.τ).loc Cert.AtInBRefIdeal.main_arg1) = m ((c.tc : Thread Cert.AtInBIdeal.nD Cert.AtInBIdeal.τ).loc Cert.AtInBIdeal.main_arg1)
      ∧ m' ((c.tc : Thread Cert.AtInBRefIdeal.nD Cert.AtInBRefIdeal.τ).loc Cert.AtInBRefIdeal.main_arg2) = m ((c.tc : Thread Cert.AtInBIdeal.nD Cert.AtInBIdeal.τ).loc Cert.AtInBIdeal.main_arg2)
      ∧ m' ((c.tc : Thread Cert.AtInBRefIdeal.nD Cert.AtInBRefIdeal.τ).loc Cert.AtInBRefIdeal.main_arg3) = m ((c.tc : Thread Cert.AtInBIdeal.nD Cert.AtInBIdeal.τ).loc Cert.AtInBIdeal.main_arg3)
      ∧ m' ((c.tc : Thread Cert.AtInBRefIdeal.nD Cert.AtInBRefIdeal.τ).loc Cert.AtInBRefIdeal.main_arg4) = m ((c.tc : Thread Cert.AtInBIdeal.nD Cert.AtInBIdeal.τ).loc Cert.AtInBIdeal.main_arg4)) →
    ∃ (v0 : (c : Dev Cert.AtInBIdeal.nD) → Buf (Elt Ideal) ((c.tc : Thread Cert.AtInBIdeal.nD Cert.AtInBIdeal.τ).loc Cert.AtInBIdeal.main_v0_0)) (v1 : (c : Dev Cert.AtInBIdeal.nD) → Buf (Elt Ideal) ((c.tc : Thread Cert.AtInBIdeal.nD Cert.AtInBIdeal.τ).loc Cert.AtInBIdeal.main_v0_1)) (v2 : (c : Dev Cert.AtInBIdeal.nD) → Buf (Elt Ideal) ((c.tc : Thread Cert.AtInBIdeal.nD Cert.AtInBIdeal.τ).loc Cert.AtInBIdeal.main_v0_2)),
      θ_run (Cert.AtInBIdeal.defs (F := Ideal)) (onTc (τ := Cert.AtInBIdeal.τ) (Cert.AtInBIdeal.main (F := Ideal))) ⟨m, fun _ => 0, g⟩ (fun r => ∀ c : Dev Cert.AtInBIdeal.nD,
          r.2.mem ((c.tc : Thread Cert.AtInBIdeal.nD Cert.AtInBIdeal.τ).loc Cert.AtInBIdeal.main_v0_0) = v0 c
          ∧ r.2.mem ((c.tc : Thread Cert.AtInBIdeal.nD Cert.AtInBIdeal.τ).loc Cert.AtInBIdeal.main_v0_1) = v1 c
          ∧ r.2.mem ((c.tc : Thread Cert.AtInBIdeal.nD Cert.AtInBIdeal.τ).loc Cert.AtInBIdeal.main_v0_2) = v2 c
          ∧ r.2.mem ((c.tc : Thread Cert.AtInBIdeal.nD Cert.AtInBIdeal.τ).loc Cert.AtInBIdeal.main_arg0) = m ((c.tc : Thread Cert.AtInBIdeal.nD Cert.AtInBIdeal.τ).loc Cert.AtInBIdeal.main_arg0)
          ∧ r.2.mem ((c.tc : Thread Cert.AtInBIdeal.nD Cert.AtInBIdeal.τ).loc Cert.AtInBIdeal.main_arg1) = m ((c.tc : Thread Cert.AtInBIdeal.nD Cert.AtInBIdeal.τ).loc Cert.AtInBIdeal.main_arg1)
          ∧ r.2.mem ((c.tc : Thread Cert.AtInBIdeal.nD Cert.AtInBIdeal.τ).loc Cert.AtInBIdeal.main_arg2) = m ((c.tc : Thread Cert.AtInBIdeal.nD Cert.AtInBIdeal.τ).loc Cert.AtInBIdeal.main_arg2)
          ∧ r.2.mem ((c.tc : Thread Cert.AtInBIdeal.nD Cert.AtInBIdeal.τ).loc Cert.AtInBIdeal.main_arg3) = m ((c.tc : Thread Cert.AtInBIdeal.nD Cert.AtInBIdeal.τ).loc Cert.AtInBIdeal.main_arg3)
          ∧ r.2.mem ((c.tc : Thread Cert.AtInBIdeal.nD Cert.AtInBIdeal.τ).loc Cert.AtInBIdeal.main_arg4) = m ((c.tc : Thread Cert.AtInBIdeal.nD Cert.AtInBIdeal.τ).loc Cert.AtInBIdeal.main_arg4))
      ∧ θ_run (Cert.AtInBRefIdeal.defs (F := Ideal)) (onTc (τ := Cert.AtInBRefIdeal.τ) (Cert.AtInBRefIdeal.main (F := Ideal))) ⟨m', fun _ => 0, g'⟩ (fun r => ∀ c : Dev Cert.AtInBRefIdeal.nD,
          r.2.mem ((c.tc : Thread Cert.AtInBRefIdeal.nD Cert.AtInBRefIdeal.τ).loc Cert.AtInBRefIdeal.main_v27) = v0 c
          ∧ r.2.mem ((c.tc : Thread Cert.AtInBRefIdeal.nD Cert.AtInBRefIdeal.τ).loc Cert.AtInBRefIdeal.main_v20) = v1 c
          ∧ r.2.mem ((c.tc : Thread Cert.AtInBRefIdeal.nD Cert.AtInBRefIdeal.τ).loc Cert.AtInBRefIdeal.main_v23) = v2 c
          ∧ r.2.mem ((c.tc : Thread Cert.AtInBRefIdeal.nD Cert.AtInBRefIdeal.τ).loc Cert.AtInBRefIdeal.main_arg0) = m' ((c.tc : Thread Cert.AtInBRefIdeal.nD Cert.AtInBRefIdeal.τ).loc Cert.AtInBRefIdeal.main_arg0)
          ∧ r.2.mem ((c.tc : Thread Cert.AtInBRefIdeal.nD Cert.AtInBRefIdeal.τ).loc Cert.AtInBRefIdeal.main_arg1) = m' ((c.tc : Thread Cert.AtInBRefIdeal.nD Cert.AtInBRefIdeal.τ).loc Cert.AtInBRefIdeal.main_arg1)
          ∧ r.2.mem ((c.tc : Thread Cert.AtInBRefIdeal.nD Cert.AtInBRefIdeal.τ).loc Cert.AtInBRefIdeal.main_arg2) = m' ((c.tc : Thread Cert.AtInBRefIdeal.nD Cert.AtInBRefIdeal.τ).loc Cert.AtInBRefIdeal.main_arg2)
          ∧ r.2.mem ((c.tc : Thread Cert.AtInBRefIdeal.nD Cert.AtInBRefIdeal.τ).loc Cert.AtInBRefIdeal.main_arg3) = m' ((c.tc : Thread Cert.AtInBRefIdeal.nD Cert.AtInBRefIdeal.τ).loc Cert.AtInBRefIdeal.main_arg3)
          ∧ r.2.mem ((c.tc : Thread Cert.AtInBRefIdeal.nD Cert.AtInBRefIdeal.τ).loc Cert.AtInBRefIdeal.main_arg4) = m' ((c.tc : Thread Cert.AtInBRefIdeal.nD Cert.AtInBRefIdeal.τ).loc Cert.AtInBRefIdeal.main_arg4))

def preserves_MlInB_MlInBIdeal : Prop :=
  True

def algebraic_MlInBIdeal_MlInBRefIdeal [hMlInBIdeal : Cert.MlInBIdeal.Facts] [hMlInBRefIdeal : Cert.MlInBRefIdeal.Facts] : Prop :=
  ∀ (m : (ℓ : Loc Cert.MlInBIdeal.nD Cert.MlInBIdeal.τ Cert.MlInBIdeal.sig) → Buf (Elt Ideal) ℓ) (g : Dev Cert.MlInBIdeal.nD → PrngReg)
    (m' : (ℓ : Loc Cert.MlInBRefIdeal.nD Cert.MlInBRefIdeal.τ Cert.MlInBRefIdeal.sig) → Buf (Elt Ideal) ℓ) (g' : Dev Cert.MlInBRefIdeal.nD → PrngReg), Pre_MlInBIdeal m →
    (∀ c : Dev Cert.MlInBIdeal.nD,
      m' ((c.tc : Thread Cert.MlInBRefIdeal.nD Cert.MlInBRefIdeal.τ).loc Cert.MlInBRefIdeal.main_arg0) = m ((c.tc : Thread Cert.MlInBIdeal.nD Cert.MlInBIdeal.τ).loc Cert.MlInBIdeal.main_arg0)
      ∧ m' ((c.tc : Thread Cert.MlInBRefIdeal.nD Cert.MlInBRefIdeal.τ).loc Cert.MlInBRefIdeal.main_arg1) = m ((c.tc : Thread Cert.MlInBIdeal.nD Cert.MlInBIdeal.τ).loc Cert.MlInBIdeal.main_arg1)
      ∧ m' ((c.tc : Thread Cert.MlInBRefIdeal.nD Cert.MlInBRefIdeal.τ).loc Cert.MlInBRefIdeal.main_arg2) = m ((c.tc : Thread Cert.MlInBIdeal.nD Cert.MlInBIdeal.τ).loc Cert.MlInBIdeal.main_arg2)
      ∧ m' ((c.tc : Thread Cert.MlInBRefIdeal.nD Cert.MlInBRefIdeal.τ).loc Cert.MlInBRefIdeal.main_arg3) = m ((c.tc : Thread Cert.MlInBIdeal.nD Cert.MlInBIdeal.τ).loc Cert.MlInBIdeal.main_arg3)
      ∧ m' ((c.tc : Thread Cert.MlInBRefIdeal.nD Cert.MlInBRefIdeal.τ).loc Cert.MlInBRefIdeal.main_arg4) = m ((c.tc : Thread Cert.MlInBIdeal.nD Cert.MlInBIdeal.τ).loc Cert.MlInBIdeal.main_arg4)) →
    ∃ (v0 : (c : Dev Cert.MlInBIdeal.nD) → Buf (Elt Ideal) ((c.tc : Thread Cert.MlInBIdeal.nD Cert.MlInBIdeal.τ).loc Cert.MlInBIdeal.main_v0_0)) (v1 : (c : Dev Cert.MlInBIdeal.nD) → Buf (Elt Ideal) ((c.tc : Thread Cert.MlInBIdeal.nD Cert.MlInBIdeal.τ).loc Cert.MlInBIdeal.main_v0_1)) (v2 : (c : Dev Cert.MlInBIdeal.nD) → Buf (Elt Ideal) ((c.tc : Thread Cert.MlInBIdeal.nD Cert.MlInBIdeal.τ).loc Cert.MlInBIdeal.main_v0_2)),
      θ_run (Cert.MlInBIdeal.defs (F := Ideal)) (onTc (τ := Cert.MlInBIdeal.τ) (Cert.MlInBIdeal.main (F := Ideal))) ⟨m, fun _ => 0, g⟩ (fun r => ∀ c : Dev Cert.MlInBIdeal.nD,
          r.2.mem ((c.tc : Thread Cert.MlInBIdeal.nD Cert.MlInBIdeal.τ).loc Cert.MlInBIdeal.main_v0_0) = v0 c
          ∧ r.2.mem ((c.tc : Thread Cert.MlInBIdeal.nD Cert.MlInBIdeal.τ).loc Cert.MlInBIdeal.main_v0_1) = v1 c
          ∧ r.2.mem ((c.tc : Thread Cert.MlInBIdeal.nD Cert.MlInBIdeal.τ).loc Cert.MlInBIdeal.main_v0_2) = v2 c
          ∧ r.2.mem ((c.tc : Thread Cert.MlInBIdeal.nD Cert.MlInBIdeal.τ).loc Cert.MlInBIdeal.main_arg0) = m ((c.tc : Thread Cert.MlInBIdeal.nD Cert.MlInBIdeal.τ).loc Cert.MlInBIdeal.main_arg0)
          ∧ r.2.mem ((c.tc : Thread Cert.MlInBIdeal.nD Cert.MlInBIdeal.τ).loc Cert.MlInBIdeal.main_arg1) = m ((c.tc : Thread Cert.MlInBIdeal.nD Cert.MlInBIdeal.τ).loc Cert.MlInBIdeal.main_arg1)
          ∧ r.2.mem ((c.tc : Thread Cert.MlInBIdeal.nD Cert.MlInBIdeal.τ).loc Cert.MlInBIdeal.main_arg2) = m ((c.tc : Thread Cert.MlInBIdeal.nD Cert.MlInBIdeal.τ).loc Cert.MlInBIdeal.main_arg2)
          ∧ r.2.mem ((c.tc : Thread Cert.MlInBIdeal.nD Cert.MlInBIdeal.τ).loc Cert.MlInBIdeal.main_arg3) = m ((c.tc : Thread Cert.MlInBIdeal.nD Cert.MlInBIdeal.τ).loc Cert.MlInBIdeal.main_arg3)
          ∧ r.2.mem ((c.tc : Thread Cert.MlInBIdeal.nD Cert.MlInBIdeal.τ).loc Cert.MlInBIdeal.main_arg4) = m ((c.tc : Thread Cert.MlInBIdeal.nD Cert.MlInBIdeal.τ).loc Cert.MlInBIdeal.main_arg4))
      ∧ θ_run (Cert.MlInBRefIdeal.defs (F := Ideal)) (onTc (τ := Cert.MlInBRefIdeal.τ) (Cert.MlInBRefIdeal.main (F := Ideal))) ⟨m', fun _ => 0, g'⟩ (fun r => ∀ c : Dev Cert.MlInBRefIdeal.nD,
          r.2.mem ((c.tc : Thread Cert.MlInBRefIdeal.nD Cert.MlInBRefIdeal.τ).loc Cert.MlInBRefIdeal.main_v25) = v0 c
          ∧ r.2.mem ((c.tc : Thread Cert.MlInBRefIdeal.nD Cert.MlInBRefIdeal.τ).loc Cert.MlInBRefIdeal.main_v18) = v1 c
          ∧ r.2.mem ((c.tc : Thread Cert.MlInBRefIdeal.nD Cert.MlInBRefIdeal.τ).loc Cert.MlInBRefIdeal.main_v21) = v2 c
          ∧ r.2.mem ((c.tc : Thread Cert.MlInBRefIdeal.nD Cert.MlInBRefIdeal.τ).loc Cert.MlInBRefIdeal.main_arg0) = m' ((c.tc : Thread Cert.MlInBRefIdeal.nD Cert.MlInBRefIdeal.τ).loc Cert.MlInBRefIdeal.main_arg0)
          ∧ r.2.mem ((c.tc : Thread Cert.MlInBRefIdeal.nD Cert.MlInBRefIdeal.τ).loc Cert.MlInBRefIdeal.main_arg1) = m' ((c.tc : Thread Cert.MlInBRefIdeal.nD Cert.MlInBRefIdeal.τ).loc Cert.MlInBRefIdeal.main_arg1)
          ∧ r.2.mem ((c.tc : Thread Cert.MlInBRefIdeal.nD Cert.MlInBRefIdeal.τ).loc Cert.MlInBRefIdeal.main_arg2) = m' ((c.tc : Thread Cert.MlInBRefIdeal.nD Cert.MlInBRefIdeal.τ).loc Cert.MlInBRefIdeal.main_arg2)
          ∧ r.2.mem ((c.tc : Thread Cert.MlInBRefIdeal.nD Cert.MlInBRefIdeal.τ).loc Cert.MlInBRefIdeal.main_arg3) = m' ((c.tc : Thread Cert.MlInBRefIdeal.nD Cert.MlInBRefIdeal.τ).loc Cert.MlInBRefIdeal.main_arg3)
          ∧ r.2.mem ((c.tc : Thread Cert.MlInBRefIdeal.nD Cert.MlInBRefIdeal.τ).loc Cert.MlInBRefIdeal.main_arg4) = m' ((c.tc : Thread Cert.MlInBRefIdeal.nD Cert.MlInBRefIdeal.τ).loc Cert.MlInBRefIdeal.main_arg4))

def preserves_AtDWin_AtDWinIdeal : Prop :=
  True

def algebraic_AtDWinIdeal_AtDWinRefIdeal [hAtDWinIdeal : Cert.AtDWinIdeal.Facts] [hAtDWinRefIdeal : Cert.AtDWinRefIdeal.Facts] : Prop :=
  ∀ (m : (ℓ : Loc Cert.AtDWinIdeal.nD Cert.AtDWinIdeal.τ Cert.AtDWinIdeal.sig) → Buf (Elt Ideal) ℓ) (g : Dev Cert.AtDWinIdeal.nD → PrngReg)
    (m' : (ℓ : Loc Cert.AtDWinRefIdeal.nD Cert.AtDWinRefIdeal.τ Cert.AtDWinRefIdeal.sig) → Buf (Elt Ideal) ℓ) (g' : Dev Cert.AtDWinRefIdeal.nD → PrngReg), Pre_AtDWinIdeal m →
    (∀ c : Dev Cert.AtDWinIdeal.nD,
      m' ((c.tc : Thread Cert.AtDWinRefIdeal.nD Cert.AtDWinRefIdeal.τ).loc Cert.AtDWinRefIdeal.main_arg0) = m ((c.tc : Thread Cert.AtDWinIdeal.nD Cert.AtDWinIdeal.τ).loc Cert.AtDWinIdeal.main_arg0)
      ∧ m' ((c.tc : Thread Cert.AtDWinRefIdeal.nD Cert.AtDWinRefIdeal.τ).loc Cert.AtDWinRefIdeal.main_arg1) = m ((c.tc : Thread Cert.AtDWinIdeal.nD Cert.AtDWinIdeal.τ).loc Cert.AtDWinIdeal.main_arg1)) →
    ∃ (v0 : (c : Dev Cert.AtDWinIdeal.nD) → Buf (Elt Ideal) ((c.tc : Thread Cert.AtDWinIdeal.nD Cert.AtDWinIdeal.τ).loc Cert.AtDWinIdeal.main_v0_0)) (v1 : (c : Dev Cert.AtDWinIdeal.nD) → Buf (Elt Ideal) ((c.tc : Thread Cert.AtDWinIdeal.nD Cert.AtDWinIdeal.τ).loc Cert.AtDWinIdeal.main_v0_1)),
      θ_run (Cert.AtDWinIdeal.defs (F := Ideal)) (onTc (τ := Cert.AtDWinIdeal.τ) (Cert.AtDWinIdeal.main (F := Ideal))) ⟨m, fun _ => 0, g⟩ (fun r => ∀ c : Dev Cert.AtDWinIdeal.nD,
          r.2.mem ((c.tc : Thread Cert.AtDWinIdeal.nD Cert.AtDWinIdeal.τ).loc Cert.AtDWinIdeal.main_v0_0) = v0 c
          ∧ r.2.mem ((c.tc : Thread Cert.AtDWinIdeal.nD Cert.AtDWinIdeal.τ).loc Cert.AtDWinIdeal.main_v0_1) = v1 c
          ∧ r.2.mem ((c.tc : Thread Cert.AtDWinIdeal.nD Cert.AtDWinIdeal.τ).loc Cert.AtDWinIdeal.main_arg0) = m ((c.tc : Thread Cert.AtDWinIdeal.nD Cert.AtDWinIdeal.τ).loc Cert.AtDWinIdeal.main_arg0)
          ∧ r.2.mem ((c.tc : Thread Cert.AtDWinIdeal.nD Cert.AtDWinIdeal.τ).loc Cert.AtDWinIdeal.main_arg1) = m ((c.tc : Thread Cert.AtDWinIdeal.nD Cert.AtDWinIdeal.τ).loc Cert.AtDWinIdeal.main_arg1))
      ∧ θ_run (Cert.AtDWinRefIdeal.defs (F := Ideal)) (onTc (τ := Cert.AtDWinRefIdeal.τ) (Cert.AtDWinRefIdeal.main (F := Ideal))) ⟨m', fun _ => 0, g'⟩ (fun r => ∀ c : Dev Cert.AtDWinRefIdeal.nD,
          r.2.mem ((c.tc : Thread Cert.AtDWinRefIdeal.nD Cert.AtDWinRefIdeal.τ).loc Cert.AtDWinRefIdeal.main_v7) = v0 c
          ∧ r.2.mem ((c.tc : Thread Cert.AtDWinRefIdeal.nD Cert.AtDWinRefIdeal.τ).loc Cert.AtDWinRefIdeal.main_v8) = v1 c
          ∧ r.2.mem ((c.tc : Thread Cert.AtDWinRefIdeal.nD Cert.AtDWinRefIdeal.τ).loc Cert.AtDWinRefIdeal.main_arg0) = m' ((c.tc : Thread Cert.AtDWinRefIdeal.nD Cert.AtDWinRefIdeal.τ).loc Cert.AtDWinRefIdeal.main_arg0)
          ∧ r.2.mem ((c.tc : Thread Cert.AtDWinRefIdeal.nD Cert.AtDWinRefIdeal.τ).loc Cert.AtDWinRefIdeal.main_arg1) = m' ((c.tc : Thread Cert.AtDWinRefIdeal.nD Cert.AtDWinRefIdeal.τ).loc Cert.AtDWinRefIdeal.main_arg1))

def preserves_MlDWin_MlDWinIdeal : Prop :=
  True

def algebraic_MlDWinIdeal_MlDWinRefIdeal [hMlDWinIdeal : Cert.MlDWinIdeal.Facts] [hMlDWinRefIdeal : Cert.MlDWinRefIdeal.Facts] : Prop :=
  ∀ (m : (ℓ : Loc Cert.MlDWinIdeal.nD Cert.MlDWinIdeal.τ Cert.MlDWinIdeal.sig) → Buf (Elt Ideal) ℓ) (g : Dev Cert.MlDWinIdeal.nD → PrngReg)
    (m' : (ℓ : Loc Cert.MlDWinRefIdeal.nD Cert.MlDWinRefIdeal.τ Cert.MlDWinRefIdeal.sig) → Buf (Elt Ideal) ℓ) (g' : Dev Cert.MlDWinRefIdeal.nD → PrngReg), Pre_MlDWinIdeal m →
    (∀ c : Dev Cert.MlDWinIdeal.nD,
      m' ((c.tc : Thread Cert.MlDWinRefIdeal.nD Cert.MlDWinRefIdeal.τ).loc Cert.MlDWinRefIdeal.main_arg0) = m ((c.tc : Thread Cert.MlDWinIdeal.nD Cert.MlDWinIdeal.τ).loc Cert.MlDWinIdeal.main_arg0)
      ∧ m' ((c.tc : Thread Cert.MlDWinRefIdeal.nD Cert.MlDWinRefIdeal.τ).loc Cert.MlDWinRefIdeal.main_arg1) = m ((c.tc : Thread Cert.MlDWinIdeal.nD Cert.MlDWinIdeal.τ).loc Cert.MlDWinIdeal.main_arg1)) →
    ∃ (v0 : (c : Dev Cert.MlDWinIdeal.nD) → Buf (Elt Ideal) ((c.tc : Thread Cert.MlDWinIdeal.nD Cert.MlDWinIdeal.τ).loc Cert.MlDWinIdeal.main_v0_0)) (v1 : (c : Dev Cert.MlDWinIdeal.nD) → Buf (Elt Ideal) ((c.tc : Thread Cert.MlDWinIdeal.nD Cert.MlDWinIdeal.τ).loc Cert.MlDWinIdeal.main_v0_1)),
      θ_run (Cert.MlDWinIdeal.defs (F := Ideal)) (onTc (τ := Cert.MlDWinIdeal.τ) (Cert.MlDWinIdeal.main (F := Ideal))) ⟨m, fun _ => 0, g⟩ (fun r => ∀ c : Dev Cert.MlDWinIdeal.nD,
          r.2.mem ((c.tc : Thread Cert.MlDWinIdeal.nD Cert.MlDWinIdeal.τ).loc Cert.MlDWinIdeal.main_v0_0) = v0 c
          ∧ r.2.mem ((c.tc : Thread Cert.MlDWinIdeal.nD Cert.MlDWinIdeal.τ).loc Cert.MlDWinIdeal.main_v0_1) = v1 c
          ∧ r.2.mem ((c.tc : Thread Cert.MlDWinIdeal.nD Cert.MlDWinIdeal.τ).loc Cert.MlDWinIdeal.main_arg0) = m ((c.tc : Thread Cert.MlDWinIdeal.nD Cert.MlDWinIdeal.τ).loc Cert.MlDWinIdeal.main_arg0)
          ∧ r.2.mem ((c.tc : Thread Cert.MlDWinIdeal.nD Cert.MlDWinIdeal.τ).loc Cert.MlDWinIdeal.main_arg1) = m ((c.tc : Thread Cert.MlDWinIdeal.nD Cert.MlDWinIdeal.τ).loc Cert.MlDWinIdeal.main_arg1))
      ∧ θ_run (Cert.MlDWinRefIdeal.defs (F := Ideal)) (onTc (τ := Cert.MlDWinRefIdeal.τ) (Cert.MlDWinRefIdeal.main (F := Ideal))) ⟨m', fun _ => 0, g'⟩ (fun r => ∀ c : Dev Cert.MlDWinRefIdeal.nD,
          r.2.mem ((c.tc : Thread Cert.MlDWinRefIdeal.nD Cert.MlDWinRefIdeal.τ).loc Cert.MlDWinRefIdeal.main_v7) = v0 c
          ∧ r.2.mem ((c.tc : Thread Cert.MlDWinRefIdeal.nD Cert.MlDWinRefIdeal.τ).loc Cert.MlDWinRefIdeal.main_v8) = v1 c
          ∧ r.2.mem ((c.tc : Thread Cert.MlDWinRefIdeal.nD Cert.MlDWinRefIdeal.τ).loc Cert.MlDWinRefIdeal.main_arg0) = m' ((c.tc : Thread Cert.MlDWinRefIdeal.nD Cert.MlDWinRefIdeal.τ).loc Cert.MlDWinRefIdeal.main_arg0)
          ∧ r.2.mem ((c.tc : Thread Cert.MlDWinRefIdeal.nD Cert.MlDWinRefIdeal.τ).loc Cert.MlDWinRefIdeal.main_arg1) = m' ((c.tc : Thread Cert.MlDWinRefIdeal.nD Cert.MlDWinRefIdeal.τ).loc Cert.MlDWinRefIdeal.main_arg1))

def preserves_MxDWout_MxDWoutIdeal : Prop :=
  True

def algebraic_MxDWoutIdeal_MxDWoutRefIdeal [hMxDWoutIdeal : Cert.MxDWoutIdeal.Facts] [hMxDWoutRefIdeal : Cert.MxDWoutRefIdeal.Facts] : Prop :=
  ∀ (m : (ℓ : Loc Cert.MxDWoutIdeal.nD Cert.MxDWoutIdeal.τ Cert.MxDWoutIdeal.sig) → Buf (Elt Ideal) ℓ) (g : Dev Cert.MxDWoutIdeal.nD → PrngReg)
    (m' : (ℓ : Loc Cert.MxDWoutRefIdeal.nD Cert.MxDWoutRefIdeal.τ Cert.MxDWoutRefIdeal.sig) → Buf (Elt Ideal) ℓ) (g' : Dev Cert.MxDWoutRefIdeal.nD → PrngReg), Pre_MxDWoutIdeal m →
    (∀ c : Dev Cert.MxDWoutIdeal.nD,
      m' ((c.tc : Thread Cert.MxDWoutRefIdeal.nD Cert.MxDWoutRefIdeal.τ).loc Cert.MxDWoutRefIdeal.main_arg0) = m ((c.tc : Thread Cert.MxDWoutIdeal.nD Cert.MxDWoutIdeal.τ).loc Cert.MxDWoutIdeal.main_arg0)
      ∧ m' ((c.tc : Thread Cert.MxDWoutRefIdeal.nD Cert.MxDWoutRefIdeal.τ).loc Cert.MxDWoutRefIdeal.main_arg1) = m ((c.tc : Thread Cert.MxDWoutIdeal.nD Cert.MxDWoutIdeal.τ).loc Cert.MxDWoutIdeal.main_arg1)) →
    ∃ (v0 : (c : Dev Cert.MxDWoutIdeal.nD) → Buf (Elt Ideal) ((c.tc : Thread Cert.MxDWoutIdeal.nD Cert.MxDWoutIdeal.τ).loc Cert.MxDWoutIdeal.main_v0_0)) (v1 : (c : Dev Cert.MxDWoutIdeal.nD) → Buf (Elt Ideal) ((c.tc : Thread Cert.MxDWoutIdeal.nD Cert.MxDWoutIdeal.τ).loc Cert.MxDWoutIdeal.main_v0_1)),
      θ_run (Cert.MxDWoutIdeal.defs (F := Ideal)) (onTc (τ := Cert.MxDWoutIdeal.τ) (Cert.MxDWoutIdeal.main (F := Ideal))) ⟨m, fun _ => 0, g⟩ (fun r => ∀ c : Dev Cert.MxDWoutIdeal.nD,
          r.2.mem ((c.tc : Thread Cert.MxDWoutIdeal.nD Cert.MxDWoutIdeal.τ).loc Cert.MxDWoutIdeal.main_v0_0) = v0 c
          ∧ r.2.mem ((c.tc : Thread Cert.MxDWoutIdeal.nD Cert.MxDWoutIdeal.τ).loc Cert.MxDWoutIdeal.main_v0_1) = v1 c
          ∧ r.2.mem ((c.tc : Thread Cert.MxDWoutIdeal.nD Cert.MxDWoutIdeal.τ).loc Cert.MxDWoutIdeal.main_arg0) = m ((c.tc : Thread Cert.MxDWoutIdeal.nD Cert.MxDWoutIdeal.τ).loc Cert.MxDWoutIdeal.main_arg0)
          ∧ r.2.mem ((c.tc : Thread Cert.MxDWoutIdeal.nD Cert.MxDWoutIdeal.τ).loc Cert.MxDWoutIdeal.main_arg1) = m ((c.tc : Thread Cert.MxDWoutIdeal.nD Cert.MxDWoutIdeal.τ).loc Cert.MxDWoutIdeal.main_arg1))
      ∧ θ_run (Cert.MxDWoutRefIdeal.defs (F := Ideal)) (onTc (τ := Cert.MxDWoutRefIdeal.τ) (Cert.MxDWoutRefIdeal.main (F := Ideal))) ⟨m', fun _ => 0, g'⟩ (fun r => ∀ c : Dev Cert.MxDWoutRefIdeal.nD,
          r.2.mem ((c.tc : Thread Cert.MxDWoutRefIdeal.nD Cert.MxDWoutRefIdeal.τ).loc Cert.MxDWoutRefIdeal.main_v7) = v0 c
          ∧ r.2.mem ((c.tc : Thread Cert.MxDWoutRefIdeal.nD Cert.MxDWoutRefIdeal.τ).loc Cert.MxDWoutRefIdeal.main_v8) = v1 c
          ∧ r.2.mem ((c.tc : Thread Cert.MxDWoutRefIdeal.nD Cert.MxDWoutRefIdeal.τ).loc Cert.MxDWoutRefIdeal.main_arg0) = m' ((c.tc : Thread Cert.MxDWoutRefIdeal.nD Cert.MxDWoutRefIdeal.τ).loc Cert.MxDWoutRefIdeal.main_arg0)
          ∧ r.2.mem ((c.tc : Thread Cert.MxDWoutRefIdeal.nD Cert.MxDWoutRefIdeal.τ).loc Cert.MxDWoutRefIdeal.main_arg1) = m' ((c.tc : Thread Cert.MxDWoutRefIdeal.nD Cert.MxDWoutRefIdeal.τ).loc Cert.MxDWoutRefIdeal.main_arg1))

def preserves_MxOut_MxOutIdeal : Prop :=
  True

def algebraic_MxOutIdeal_MxOutRefIdeal [hMxOutIdeal : Cert.MxOutIdeal.Facts] [hMxOutRefIdeal : Cert.MxOutRefIdeal.Facts] : Prop :=
  ∀ (m : (ℓ : Loc Cert.MxOutIdeal.nD Cert.MxOutIdeal.τ Cert.MxOutIdeal.sig) → Buf (Elt Ideal) ℓ) (g : Dev Cert.MxOutIdeal.nD → PrngReg)
    (m' : (ℓ : Loc Cert.MxOutRefIdeal.nD Cert.MxOutRefIdeal.τ Cert.MxOutRefIdeal.sig) → Buf (Elt Ideal) ℓ) (g' : Dev Cert.MxOutRefIdeal.nD → PrngReg), Pre_MxOutIdeal m →
    (∀ c : Dev Cert.MxOutIdeal.nD,
      m' ((c.tc : Thread Cert.MxOutRefIdeal.nD Cert.MxOutRefIdeal.τ).loc Cert.MxOutRefIdeal.main_arg0) = m ((c.tc : Thread Cert.MxOutIdeal.nD Cert.MxOutIdeal.τ).loc Cert.MxOutIdeal.main_arg0)
      ∧ m' ((c.tc : Thread Cert.MxOutRefIdeal.nD Cert.MxOutRefIdeal.τ).loc Cert.MxOutRefIdeal.main_arg1) = m ((c.tc : Thread Cert.MxOutIdeal.nD Cert.MxOutIdeal.τ).loc Cert.MxOutIdeal.main_arg1)
      ∧ m' ((c.tc : Thread Cert.MxOutRefIdeal.nD Cert.MxOutRefIdeal.τ).loc Cert.MxOutRefIdeal.main_arg2) = m ((c.tc : Thread Cert.MxOutIdeal.nD Cert.MxOutIdeal.τ).loc Cert.MxOutIdeal.main_arg2)
      ∧ m' ((c.tc : Thread Cert.MxOutRefIdeal.nD Cert.MxOutRefIdeal.τ).loc Cert.MxOutRefIdeal.main_arg3) = m ((c.tc : Thread Cert.MxOutIdeal.nD Cert.MxOutIdeal.τ).loc Cert.MxOutIdeal.main_arg3)
      ∧ m' ((c.tc : Thread Cert.MxOutRefIdeal.nD Cert.MxOutRefIdeal.τ).loc Cert.MxOutRefIdeal.main_arg4) = m ((c.tc : Thread Cert.MxOutIdeal.nD Cert.MxOutIdeal.τ).loc Cert.MxOutIdeal.main_arg4)
      ∧ m' ((c.tc : Thread Cert.MxOutRefIdeal.nD Cert.MxOutRefIdeal.τ).loc Cert.MxOutRefIdeal.main_arg5) = m ((c.tc : Thread Cert.MxOutIdeal.nD Cert.MxOutIdeal.τ).loc Cert.MxOutIdeal.main_arg5)) →
    ∃ (v0 : (c : Dev Cert.MxOutIdeal.nD) → Buf (Elt Ideal) ((c.tc : Thread Cert.MxOutIdeal.nD Cert.MxOutIdeal.τ).loc Cert.MxOutIdeal.main_v1_0)) (v1 : (c : Dev Cert.MxOutIdeal.nD) → Buf (Elt Ideal) ((c.tc : Thread Cert.MxOutIdeal.nD Cert.MxOutIdeal.τ).loc Cert.MxOutIdeal.main_v1_1)),
      θ_run (Cert.MxOutIdeal.defs (F := Ideal)) (onTc (τ := Cert.MxOutIdeal.τ) (Cert.MxOutIdeal.main (F := Ideal))) ⟨m, fun _ => 0, g⟩ (fun r => ∀ c : Dev Cert.MxOutIdeal.nD,
          r.2.mem ((c.tc : Thread Cert.MxOutIdeal.nD Cert.MxOutIdeal.τ).loc Cert.MxOutIdeal.main_v1_0) = v0 c
          ∧ r.2.mem ((c.tc : Thread Cert.MxOutIdeal.nD Cert.MxOutIdeal.τ).loc Cert.MxOutIdeal.main_v1_1) = v1 c
          ∧ r.2.mem ((c.tc : Thread Cert.MxOutIdeal.nD Cert.MxOutIdeal.τ).loc Cert.MxOutIdeal.main_arg0) = m ((c.tc : Thread Cert.MxOutIdeal.nD Cert.MxOutIdeal.τ).loc Cert.MxOutIdeal.main_arg0)
          ∧ r.2.mem ((c.tc : Thread Cert.MxOutIdeal.nD Cert.MxOutIdeal.τ).loc Cert.MxOutIdeal.main_arg1) = m ((c.tc : Thread Cert.MxOutIdeal.nD Cert.MxOutIdeal.τ).loc Cert.MxOutIdeal.main_arg1)
          ∧ r.2.mem ((c.tc : Thread Cert.MxOutIdeal.nD Cert.MxOutIdeal.τ).loc Cert.MxOutIdeal.main_arg2) = m ((c.tc : Thread Cert.MxOutIdeal.nD Cert.MxOutIdeal.τ).loc Cert.MxOutIdeal.main_arg2)
          ∧ r.2.mem ((c.tc : Thread Cert.MxOutIdeal.nD Cert.MxOutIdeal.τ).loc Cert.MxOutIdeal.main_arg3) = m ((c.tc : Thread Cert.MxOutIdeal.nD Cert.MxOutIdeal.τ).loc Cert.MxOutIdeal.main_arg3)
          ∧ r.2.mem ((c.tc : Thread Cert.MxOutIdeal.nD Cert.MxOutIdeal.τ).loc Cert.MxOutIdeal.main_arg4) = m ((c.tc : Thread Cert.MxOutIdeal.nD Cert.MxOutIdeal.τ).loc Cert.MxOutIdeal.main_arg4)
          ∧ r.2.mem ((c.tc : Thread Cert.MxOutIdeal.nD Cert.MxOutIdeal.τ).loc Cert.MxOutIdeal.main_arg5) = m ((c.tc : Thread Cert.MxOutIdeal.nD Cert.MxOutIdeal.τ).loc Cert.MxOutIdeal.main_arg5))
      ∧ θ_run (Cert.MxOutRefIdeal.defs (F := Ideal)) (onTc (τ := Cert.MxOutRefIdeal.τ) (Cert.MxOutRefIdeal.main (F := Ideal))) ⟨m', fun _ => 0, g'⟩ (fun r => ∀ c : Dev Cert.MxOutRefIdeal.nD,
          r.2.mem ((c.tc : Thread Cert.MxOutRefIdeal.nD Cert.MxOutRefIdeal.τ).loc Cert.MxOutRefIdeal.main_v1) = v0 c
          ∧ r.2.mem ((c.tc : Thread Cert.MxOutRefIdeal.nD Cert.MxOutRefIdeal.τ).loc Cert.MxOutRefIdeal.main_v36) = v1 c
          ∧ r.2.mem ((c.tc : Thread Cert.MxOutRefIdeal.nD Cert.MxOutRefIdeal.τ).loc Cert.MxOutRefIdeal.main_arg0) = m' ((c.tc : Thread Cert.MxOutRefIdeal.nD Cert.MxOutRefIdeal.τ).loc Cert.MxOutRefIdeal.main_arg0)
          ∧ r.2.mem ((c.tc : Thread Cert.MxOutRefIdeal.nD Cert.MxOutRefIdeal.τ).loc Cert.MxOutRefIdeal.main_arg1) = m' ((c.tc : Thread Cert.MxOutRefIdeal.nD Cert.MxOutRefIdeal.τ).loc Cert.MxOutRefIdeal.main_arg1)
          ∧ r.2.mem ((c.tc : Thread Cert.MxOutRefIdeal.nD Cert.MxOutRefIdeal.τ).loc Cert.MxOutRefIdeal.main_arg2) = m' ((c.tc : Thread Cert.MxOutRefIdeal.nD Cert.MxOutRefIdeal.τ).loc Cert.MxOutRefIdeal.main_arg2)
          ∧ r.2.mem ((c.tc : Thread Cert.MxOutRefIdeal.nD Cert.MxOutRefIdeal.τ).loc Cert.MxOutRefIdeal.main_arg3) = m' ((c.tc : Thread Cert.MxOutRefIdeal.nD Cert.MxOutRefIdeal.τ).loc Cert.MxOutRefIdeal.main_arg3)
          ∧ r.2.mem ((c.tc : Thread Cert.MxOutRefIdeal.nD Cert.MxOutRefIdeal.τ).loc Cert.MxOutRefIdeal.main_arg4) = m' ((c.tc : Thread Cert.MxOutRefIdeal.nD Cert.MxOutRefIdeal.τ).loc Cert.MxOutRefIdeal.main_arg4)
          ∧ r.2.mem ((c.tc : Thread Cert.MxOutRefIdeal.nD Cert.MxOutRefIdeal.τ).loc Cert.MxOutRefIdeal.main_arg5) = m' ((c.tc : Thread Cert.MxOutRefIdeal.nD Cert.MxOutRefIdeal.τ).loc Cert.MxOutRefIdeal.main_arg5))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_AdaB_AdaBIdeal : Prop :=
  True

def algebraic_AdaBIdeal_AdaBRefIdeal [hAdaBIdeal : Cert.AdaBIdeal.Facts] [hAdaBRefIdeal : Cert.AdaBRefIdeal.Facts] : Prop :=
  ∀ (m : (ℓ : Loc Cert.AdaBIdeal.nD Cert.AdaBIdeal.τ Cert.AdaBIdeal.sig) → Buf (Elt Ideal) ℓ) (g : Dev Cert.AdaBIdeal.nD → PrngReg)
    (m' : (ℓ : Loc Cert.AdaBRefIdeal.nD Cert.AdaBRefIdeal.τ Cert.AdaBRefIdeal.sig) → Buf (Elt Ideal) ℓ) (g' : Dev Cert.AdaBRefIdeal.nD → PrngReg), Pre_AdaBIdeal m →
    (∀ c : Dev Cert.AdaBIdeal.nD,
      m' ((c.tc : Thread Cert.AdaBRefIdeal.nD Cert.AdaBRefIdeal.τ).loc Cert.AdaBRefIdeal.main_arg0) = m ((c.tc : Thread Cert.AdaBIdeal.nD Cert.AdaBIdeal.τ).loc Cert.AdaBIdeal.main_arg0)
      ∧ m' ((c.tc : Thread Cert.AdaBRefIdeal.nD Cert.AdaBRefIdeal.τ).loc Cert.AdaBRefIdeal.main_arg1) = m ((c.tc : Thread Cert.AdaBIdeal.nD Cert.AdaBIdeal.τ).loc Cert.AdaBIdeal.main_arg1)
      ∧ m' ((c.tc : Thread Cert.AdaBRefIdeal.nD Cert.AdaBRefIdeal.τ).loc Cert.AdaBRefIdeal.main_arg2) = m ((c.tc : Thread Cert.AdaBIdeal.nD Cert.AdaBIdeal.τ).loc Cert.AdaBIdeal.main_arg2)) →
    ∃ (v0 : (c : Dev Cert.AdaBIdeal.nD) → Buf (Elt Ideal) ((c.tc : Thread Cert.AdaBIdeal.nD Cert.AdaBIdeal.τ).loc Cert.AdaBIdeal.main_v1_0)) (v1 : (c : Dev Cert.AdaBIdeal.nD) → Buf (Elt Ideal) ((c.tc : Thread Cert.AdaBIdeal.nD Cert.AdaBIdeal.τ).loc Cert.AdaBIdeal.main_v1_1)),
      θ_run (Cert.AdaBIdeal.defs (F := Ideal)) (onTc (τ := Cert.AdaBIdeal.τ) (Cert.AdaBIdeal.main (F := Ideal))) ⟨m, fun _ => 0, g⟩ (fun r => ∀ c : Dev Cert.AdaBIdeal.nD,
          r.2.mem ((c.tc : Thread Cert.AdaBIdeal.nD Cert.AdaBIdeal.τ).loc Cert.AdaBIdeal.main_v1_0) = v0 c
          ∧ r.2.mem ((c.tc : Thread Cert.AdaBIdeal.nD Cert.AdaBIdeal.τ).loc Cert.AdaBIdeal.main_v1_1) = v1 c
          ∧ r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
          ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
          ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ θ_run (Cert.AdaBRefIdeal.defs (F := Ideal)) (onTc (τ := Cert.AdaBRefIdeal.τ) (Cert.AdaBRefIdeal.main (F := Ideal))) ⟨m', fun _ => 0, g'⟩ (fun r => ∀ c : Dev Cert.AdaBRefIdeal.nD,
          r.2.mem ((c.tc : Thread Cert.AdaBRefIdeal.nD Cert.AdaBRefIdeal.τ).loc Cert.AdaBRefIdeal.main_v6) = v0 c
          ∧ r.2.mem ((c.tc : Thread Cert.AdaBRefIdeal.nD Cert.AdaBRefIdeal.τ).loc Cert.AdaBRefIdeal.main_v10) = v1 c
          ∧ r.2.mem ((c.tc : Thread Cert.AdaBRefIdeal.nD Cert.AdaBRefIdeal.τ).loc Cert.AdaBRefIdeal.main_arg0) = m' ((c.tc : Thread Cert.AdaBRefIdeal.nD Cert.AdaBRefIdeal.τ).loc Cert.AdaBRefIdeal.main_arg0)
          ∧ r.2.mem ((c.tc : Thread Cert.AdaBRefIdeal.nD Cert.AdaBRefIdeal.τ).loc Cert.AdaBRefIdeal.main_arg1) = m' ((c.tc : Thread Cert.AdaBRefIdeal.nD Cert.AdaBRefIdeal.τ).loc Cert.AdaBRefIdeal.main_arg1)
          ∧ r.2.mem ((c.tc : Thread Cert.AdaBRefIdeal.nD Cert.AdaBRefIdeal.τ).loc Cert.AdaBRefIdeal.main_arg2) = m' ((c.tc : Thread Cert.AdaBRefIdeal.nD Cert.AdaBRefIdeal.τ).loc Cert.AdaBRefIdeal.main_arg2))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v23) = v0 c
          ∧ r.2.mem ((c.tc : Thread Cert.AdamBRefIdeal.nD Cert.AdamBRefIdeal.τ).loc Cert.AdamBRefIdeal.main_v4) = v1 c
          ∧ r.2.mem ((c.tc : Thread Cert.AdamBRefIdeal.nD Cert.AdamBRefIdeal.τ).loc Cert.AdamBRefIdeal.main_v10) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamL_AdamLIdeal : Prop :=
  True

def algebraic_AdamLIdeal_AdamLRefIdeal [hAdamLIdeal : Cert.AdamLIdeal.Facts] [hAdamLRefIdeal : Cert.AdamLRefIdeal.Facts] : Prop :=
  ∀ (m : (ℓ : Loc Cert.AdamLIdeal.nD Cert.AdamLIdeal.τ Cert.AdamLIdeal.sig) → Buf (Elt Ideal) ℓ) (g : Dev Cert.AdamLIdeal.nD → PrngReg)
    (m' : (ℓ : Loc Cert.AdamLRefIdeal.nD Cert.AdamLRefIdeal.τ Cert.AdamLRefIdeal.sig) → Buf (Elt Ideal) ℓ) (g' : Dev Cert.AdamLRefIdeal.nD → PrngReg), Pre_AdamLIdeal m →
    (∀ c : Dev Cert.AdamLIdeal.nD,
      m' ((c.tc : Thread Cert.AdamLRefIdeal.nD Cert.AdamLRefIdeal.τ).loc Cert.AdamLRefIdeal.main_arg0) = m ((c.tc : Thread Cert.AdamLIdeal.nD Cert.AdamLIdeal.τ).loc Cert.AdamLIdeal.main_arg0)
      ∧ m' ((c.tc : Thread Cert.AdamLRefIdeal.nD Cert.AdamLRefIdeal.τ).loc Cert.AdamLRefIdeal.main_arg1) = m ((c.tc : Thread Cert.AdamLIdeal.nD Cert.AdamLIdeal.τ).loc Cert.AdamLIdeal.main_arg1)
      ∧ m' ((c.tc : Thread Cert.AdamLRefIdeal.nD Cert.AdamLRefIdeal.τ).loc Cert.AdamLRefIdeal.main_arg2) = m ((c.tc : Thread Cert.AdamLIdeal.nD Cert.AdamLIdeal.τ).loc Cert.AdamLIdeal.main_arg2)
      ∧ m' ((c.tc : Thread Cert.AdamLRefIdeal.nD Cert.AdamLRefIdeal.τ).loc Cert.AdamLRefIdeal.main_arg3) = m ((c.tc : Thread Cert.AdamLIdeal.nD Cert.AdamLIdeal.τ).loc Cert.AdamLIdeal.main_arg3)) →
    ∃ (v0 : (c : Dev Cert.AdamLIdeal.nD) → Buf (Elt Ideal) ((c.tc : Thread Cert.AdamLIdeal.nD Cert.AdamLIdeal.τ).loc Cert.AdamLIdeal.main_v0_0)) (v1 : (c : Dev Cert.AdamLIdeal.nD) → Buf (Elt Ideal) ((c.tc : Thread Cert.AdamLIdeal.nD Cert.AdamLIdeal.τ).loc Cert.AdamLIdeal.main_v0_1)) (v2 : (c : Dev Cert.AdamLIdeal.nD) → Buf (Elt Ideal) ((c.tc : Thread Cert.AdamLIdeal.nD Cert.AdamLIdeal.τ).loc Cert.AdamLIdeal.main_v0_2)),
      θ_run (Cert.AdamLIdeal.defs (F := Ideal)) (onTc (τ := Cert.AdamLIdeal.τ) (Cert.AdamLIdeal.main (F := Ideal))) ⟨m, fun _ => 0, g⟩ (fun r => ∀ c : Dev Cert.AdamLIdeal.nD,
          r.2.mem ((c.tc : Thread Cert.AdamLIdeal.nD Cert.AdamLIdeal.τ).loc Cert.AdamLIdeal.main_v0_0) = v0 c
          ∧ r.2.mem ((c.tc : Thread Cert.AdamLIdeal.nD Cert.AdamLIdeal.τ).loc Cert.AdamLIdeal.main_v0_1) = v1 c
          ∧ r.2.mem ((c.tc : Thread Cert.AdamLIdeal.nD Cert.AdamLIdeal.τ).loc Cert.AdamLIdeal.main_v0_2) = v2 c
          ∧ r.2.mem ((c.tc : Thread Cert.AdamLIdeal.nD Cert.AdamLIdeal.τ).loc Cert.AdamLIdeal.main_arg0) = m ((c.tc : Thread Cert.AdamLIdeal.nD Cert.AdamLIdeal.τ).loc Cert.AdamLIdeal.main_arg0)
          ∧ r.2.mem ((c.tc : Thread Cert.AdamLIdeal.nD Cert.AdamLIdeal.τ).loc Cert.AdamLIdeal.main_arg1) = m ((c.tc : Thread Cert.AdamLIdeal.nD Cert.AdamLIdeal.τ).loc Cert.AdamLIdeal.main_arg1)
          ∧ r.2.mem ((c.tc : Thread Cert.AdamLIdeal.nD Cert.AdamLIdeal.τ).loc Cert.AdamLIdeal.main_arg2) = m ((c.tc : Thread Cert.AdamLIdeal.nD Cert.AdamLIdeal.τ).loc Cert.AdamLIdeal.main_arg2)
          ∧ r.2.mem ((c.tc : Thread Cert.AdamLIdeal.nD Cert.AdamLIdeal.τ).loc Cert.AdamLIdeal.main_arg3) = m ((c.tc : Thread Cert.AdamLIdeal.nD Cert.AdamLIdeal.τ).loc Cert.AdamLIdeal.main_arg3))
      ∧ θ_run (Cert.AdamLRefIdeal.defs (F := Ideal)) (onTc (τ := Cert.AdamLRefIdeal.τ) (Cert.AdamLRefIdeal.main (F := Ideal))) ⟨m', fun _ => 0, g'⟩ (fun r => ∀ c : Dev Cert.AdamLRefIdeal.nD,
          r.2.mem ((c.tc : Thread Cert.AdamLRefIdeal.nD Cert.AdamLRefIdeal.τ).loc Cert.AdamLRefIdeal.main_v23) = v0 c
          ∧ r.2.mem ((c.tc : Thread Cert.AdamLRefIdeal.nD Cert.AdamLRefIdeal.τ).loc Cert.AdamLRefIdeal.main_v4) = v1 c
          ∧ r.2.mem ((c.tc : Thread Cert.AdamLRefIdeal.nD Cert.AdamLRefIdeal.τ).loc Cert.AdamLRefIdeal.main_v10) = v2 c
          ∧ r.2.mem ((c.tc : Thread Cert.AdamLRefIdeal.nD Cert.AdamLRefIdeal.τ).loc Cert.AdamLRefIdeal.main_arg0) = m' ((c.tc : Thread Cert.AdamLRefIdeal.nD Cert.AdamLRefIdeal.τ).loc Cert.AdamLRefIdeal.main_arg0)
          ∧ r.2.mem ((c.tc : Thread Cert.AdamLRefIdeal.nD Cert.AdamLRefIdeal.τ).loc Cert.AdamLRefIdeal.main_arg1) = m' ((c.tc : Thread Cert.AdamLRefIdeal.nD Cert.AdamLRefIdeal.τ).loc Cert.AdamLRefIdeal.main_arg1)
          ∧ r.2.mem ((c.tc : Thread Cert.AdamLRefIdeal.nD Cert.AdamLRefIdeal.τ).loc Cert.AdamLRefIdeal.main_arg2) = m' ((c.tc : Thread Cert.AdamLRefIdeal.nD Cert.AdamLRefIdeal.τ).loc Cert.AdamLRefIdeal.main_arg2)
          ∧ r.2.mem ((c.tc : Thread Cert.AdamLRefIdeal.nD Cert.AdamLRefIdeal.τ).loc Cert.AdamLRefIdeal.main_arg3) = m' ((c.tc : Thread Cert.AdamLRefIdeal.nD Cert.AdamLRefIdeal.τ).loc Cert.AdamLRefIdeal.main_arg3))

def preserves_AdamG_AdamGIdeal : Prop :=
  True

def algebraic_AdamGIdeal_AdamGRefIdeal [hAdamGIdeal : Cert.AdamGIdeal.Facts] [hAdamGRefIdeal : Cert.AdamGRefIdeal.Facts] : Prop :=
  ∀ (m : (ℓ : Loc Cert.AdamGIdeal.nD Cert.AdamGIdeal.τ Cert.AdamGIdeal.sig) → Buf (Elt Ideal) ℓ) (g : Dev Cert.AdamGIdeal.nD → PrngReg)
    (m' : (ℓ : Loc Cert.AdamGRefIdeal.nD Cert.AdamGRefIdeal.τ Cert.AdamGRefIdeal.sig) → Buf (Elt Ideal) ℓ) (g' : Dev Cert.AdamGRefIdeal.nD → PrngReg), Pre_AdamGIdeal m →
    (∀ c : Dev Cert.AdamGIdeal.nD,
      m' ((c.tc : Thread Cert.AdamGRefIdeal.nD Cert.AdamGRefIdeal.τ).loc Cert.AdamGRefIdeal.main_arg0) = m ((c.tc : Thread Cert.AdamGIdeal.nD Cert.AdamGIdeal.τ).loc Cert.AdamGIdeal.main_arg0)
      ∧ m' ((c.tc : Thread Cert.AdamGRefIdeal.nD Cert.AdamGRefIdeal.τ).loc Cert.AdamGRefIdeal.main_arg1) = m ((c.tc : Thread Cert.AdamGIdeal.nD Cert.AdamGIdeal.τ).loc Cert.AdamGIdeal.main_arg1)
      ∧ m' ((c.tc : Thread Cert.AdamGRefIdeal.nD Cert.AdamGRefIdeal.τ).loc Cert.AdamGRefIdeal.main_arg2) = m ((c.tc : Thread Cert.AdamGIdeal.nD Cert.AdamGIdeal.τ).loc Cert.AdamGIdeal.main_arg2)
      ∧ m' ((c.tc : Thread Cert.AdamGRefIdeal.nD Cert.AdamGRefIdeal.τ).loc Cert.AdamGRefIdeal.main_arg3) = m ((c.tc : Thread Cert.AdamGIdeal.nD Cert.AdamGIdeal.τ).loc Cert.AdamGIdeal.main_arg3)) →
    ∃ (v0 : (c : Dev Cert.AdamGIdeal.nD) → Buf (Elt Ideal) ((c.tc : Thread Cert.AdamGIdeal.nD Cert.AdamGIdeal.τ).loc Cert.AdamGIdeal.main_v0_0)) (v1 : (c : Dev Cert.AdamGIdeal.nD) → Buf (Elt Ideal) ((c.tc : Thread Cert.AdamGIdeal.nD Cert.AdamGIdeal.τ).loc Cert.AdamGIdeal.main_v0_1)) (v2 : (c : Dev Cert.AdamGIdeal.nD) → Buf (Elt Ideal) ((c.tc : Thread Cert.AdamGIdeal.nD Cert.AdamGIdeal.τ).loc Cert.AdamGIdeal.main_v0_2)),
      θ_run (Cert.AdamGIdeal.defs (F := Ideal)) (onTc (τ := Cert.AdamGIdeal.τ) (Cert.AdamGIdeal.main (F := Ideal))) ⟨m, fun _ => 0, g⟩ (fun r => ∀ c : Dev Cert.AdamGIdeal.nD,
          r.2.mem ((c.tc : Thread Cert.AdamGIdeal.nD Cert.AdamGIdeal.τ).loc Cert.AdamGIdeal.main_v0_0) = v0 c
          ∧ r.2.mem ((c.tc : Thread Cert.AdamGIdeal.nD Cert.AdamGIdeal.τ).loc Cert.AdamGIdeal.main_v0_1) = v1 c
          ∧ r.2.mem ((c.tc : Thread Cert.AdamGIdeal.nD Cert.AdamGIdeal.τ).loc Cert.AdamGIdeal.main_v0_2) = v2 c
          ∧ r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
          ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
          ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
          ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ θ_run (Cert.AdamGRefIdeal.defs (F := Ideal)) (onTc (τ := Cert.AdamGRefIdeal.τ) (Cert.AdamGRefIdeal.main (F := Ideal))) ⟨m', fun _ => 0, g'⟩ (fun r => ∀ c : Dev Cert.AdamGRefIdeal.nD,
          r.2.mem ((c.tc : Thread Cert.AdamGRefIdeal.nD Cert.AdamGRefIdeal.τ).loc Cert.AdamGRefIdeal.main_v23) = v0 c
          ∧ r.2.mem ((c.tc : Thread Cert.AdamGRefIdeal.nD Cert.AdamGRefIdeal.τ).loc Cert.AdamGRefIdeal.main_v4) = v1 c
          ∧ r.2.mem ((c.tc : Thread Cert.AdamGRefIdeal.nD Cert.AdamGRefIdeal.τ).loc Cert.AdamGRefIdeal.main_v10) = v2 c
          ∧ r.2.mem ((c.tc : Thread Cert.AdamGRefIdeal.nD Cert.AdamGRefIdeal.τ).loc Cert.AdamGRefIdeal.main_arg0) = m' ((c.tc : Thread Cert.AdamGRefIdeal.nD Cert.AdamGRefIdeal.τ).loc Cert.AdamGRefIdeal.main_arg0)
          ∧ r.2.mem ((c.tc : Thread Cert.AdamGRefIdeal.nD Cert.AdamGRefIdeal.τ).loc Cert.AdamGRefIdeal.main_arg1) = m' ((c.tc : Thread Cert.AdamGRefIdeal.nD Cert.AdamGRefIdeal.τ).loc Cert.AdamGRefIdeal.main_arg1)
          ∧ r.2.mem ((c.tc : Thread Cert.AdamGRefIdeal.nD Cert.AdamGRefIdeal.τ).loc Cert.AdamGRefIdeal.main_arg2) = m' ((c.tc : Thread Cert.AdamGRefIdeal.nD Cert.AdamGRefIdeal.τ).loc Cert.AdamGRefIdeal.main_arg2)
          ∧ r.2.mem ((c.tc : Thread Cert.AdamGRefIdeal.nD Cert.AdamGRefIdeal.τ).loc Cert.AdamGRefIdeal.main_arg3) = m' ((c.tc : Thread Cert.AdamGRefIdeal.nD Cert.AdamGRefIdeal.τ).loc Cert.AdamGRefIdeal.main_arg3))

def preserves_AdamC_AdamCIdeal : Prop :=
  True

def algebraic_AdamCIdeal_AdamCRefIdeal [hAdamCIdeal : Cert.AdamCIdeal.Facts] [hAdamCRefIdeal : Cert.AdamCRefIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.AdamCRefIdeal.nD Cert.AdamCRefIdeal.τ Cert.AdamCRefIdeal.sig) → Buf (Elt Ideal) ℓ) (g' : Dev Cert.AdamCRefIdeal.nD → PrngReg), Pre_AdamCIdeal m →
    (∀ c : Dev Cert.AdamCIdeal.nD,
      m' ((c.tc : Thread Cert.AdamCRefIdeal.nD Cert.AdamCRefIdeal.τ).loc Cert.AdamCRefIdeal.main_arg0) = m ((c.tc : Thread Cert.AdamCIdeal.nD Cert.AdamCIdeal.τ).loc Cert.AdamCIdeal.main_arg0)
      ∧ m' ((c.tc : Thread Cert.AdamCRefIdeal.nD Cert.AdamCRefIdeal.τ).loc Cert.AdamCRefIdeal.main_arg1) = m ((c.tc : Thread Cert.AdamCIdeal.nD Cert.AdamCIdeal.τ).loc Cert.AdamCIdeal.main_arg1)
      ∧ m' ((c.tc : Thread Cert.AdamCRefIdeal.nD Cert.AdamCRefIdeal.τ).loc Cert.AdamCRefIdeal.main_arg2) = m ((c.tc : Thread Cert.AdamCIdeal.nD Cert.AdamCIdeal.τ).loc Cert.AdamCIdeal.main_arg2)
      ∧ m' ((c.tc : Thread Cert.AdamCRefIdeal.nD Cert.AdamCRefIdeal.τ).loc Cert.AdamCRefIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.AdamCRefIdeal.defs (F := Ideal)) (onTc (τ := Cert.AdamCRefIdeal.τ) (Cert.AdamCRefIdeal.main (F := Ideal))) ⟨m', fun _ => 0, g'⟩ (fun r => ∀ c : Dev Cert.AdamCRefIdeal.nD,
          r.2.mem ((c.tc : Thread Cert.AdamCRefIdeal.nD Cert.AdamCRefIdeal.τ).loc Cert.AdamCRefIdeal.main_v23) = v0 c
          ∧ r.2.mem ((c.tc : Thread Cert.AdamCRefIdeal.nD Cert.AdamCRefIdeal.τ).loc Cert.AdamCRefIdeal.main_v4) = v1 c
          ∧ r.2.mem ((c.tc : Thread Cert.AdamCRefIdeal.nD Cert.AdamCRefIdeal.τ).loc Cert.AdamCRefIdeal.main_v10) = v2 c
          ∧ r.2.mem ((c.tc : Thread Cert.AdamCRefIdeal.nD Cert.AdamCRefIdeal.τ).loc Cert.AdamCRefIdeal.main_arg0) = m' ((c.tc : Thread Cert.AdamCRefIdeal.nD Cert.AdamCRefIdeal.τ).loc Cert.AdamCRefIdeal.main_arg0)
          ∧ r.2.mem ((c.tc : Thread Cert.AdamCRefIdeal.nD Cert.AdamCRefIdeal.τ).loc Cert.AdamCRefIdeal.main_arg1) = m' ((c.tc : Thread Cert.AdamCRefIdeal.nD Cert.AdamCRefIdeal.τ).loc Cert.AdamCRefIdeal.main_arg1)
          ∧ r.2.mem ((c.tc : Thread Cert.AdamCRefIdeal.nD Cert.AdamCRefIdeal.τ).loc Cert.AdamCRefIdeal.main_arg2) = m' ((c.tc : Thread Cert.AdamCRefIdeal.nD Cert.AdamCRefIdeal.τ).loc Cert.AdamCRefIdeal.main_arg2)
          ∧ r.2.mem ((c.tc : Thread Cert.AdamCRefIdeal.nD Cert.AdamCRefIdeal.τ).loc Cert.AdamCRefIdeal.main_arg3) = m' ((c.tc : Thread Cert.AdamCRefIdeal.nD Cert.AdamCRefIdeal.τ).loc Cert.AdamCRefIdeal.main_arg3))

def preserves_AdamH_AdamHIdeal : Prop :=
  True

def algebraic_AdamHIdeal_AdamHRefIdeal [hAdamHIdeal : Cert.AdamHIdeal.Facts] [hAdamHRefIdeal : Cert.AdamHRefIdeal.Facts] : Prop :=
  ∀ (m : (ℓ : Loc Cert.AdamHIdeal.nD Cert.AdamHIdeal.τ Cert.AdamHIdeal.sig) → Buf (Elt Ideal) ℓ) (g : Dev Cert.AdamHIdeal.nD → PrngReg)
    (m' : (ℓ : Loc Cert.AdamHRefIdeal.nD Cert.AdamHRefIdeal.τ Cert.AdamHRefIdeal.sig) → Buf (Elt Ideal) ℓ) (g' : Dev Cert.AdamHRefIdeal.nD → PrngReg), Pre_AdamHIdeal m →
    (∀ c : Dev Cert.AdamHIdeal.nD,
      m' ((c.tc : Thread Cert.AdamHRefIdeal.nD Cert.AdamHRefIdeal.τ).loc Cert.AdamHRefIdeal.main_arg0) = m ((c.tc : Thread Cert.AdamHIdeal.nD Cert.AdamHIdeal.τ).loc Cert.AdamHIdeal.main_arg0)
      ∧ m' ((c.tc : Thread Cert.AdamHRefIdeal.nD Cert.AdamHRefIdeal.τ).loc Cert.AdamHRefIdeal.main_arg1) = m ((c.tc : Thread Cert.AdamHIdeal.nD Cert.AdamHIdeal.τ).loc Cert.AdamHIdeal.main_arg1)
      ∧ m' ((c.tc : Thread Cert.AdamHRefIdeal.nD Cert.AdamHRefIdeal.τ).loc Cert.AdamHRefIdeal.main_arg2) = m ((c.tc : Thread Cert.AdamHIdeal.nD Cert.AdamHIdeal.τ).loc Cert.AdamHIdeal.main_arg2)
      ∧ m' ((c.tc : Thread Cert.AdamHRefIdeal.nD Cert.AdamHRefIdeal.τ).loc Cert.AdamHRefIdeal.main_arg3) = m ((c.tc : Thread Cert.AdamHIdeal.nD Cert.AdamHIdeal.τ).loc Cert.AdamHIdeal.main_arg3)) →
    ∃ (v0 : (c : Dev Cert.AdamHIdeal.nD) → Buf (Elt Ideal) ((c.tc : Thread Cert.AdamHIdeal.nD Cert.AdamHIdeal.τ).loc Cert.AdamHIdeal.main_v0_0)) (v1 : (c : Dev Cert.AdamHIdeal.nD) → Buf (Elt Ideal) ((c.tc : Thread Cert.AdamHIdeal.nD Cert.AdamHIdeal.τ).loc Cert.AdamHIdeal.main_v0_1)) (v2 : (c : Dev Cert.AdamHIdeal.nD) → Buf (Elt Ideal) ((c.tc : Thread Cert.AdamHIdeal.nD Cert.AdamHIdeal.τ).loc Cert.AdamHIdeal.main_v0_2)),
      θ_run (Cert.AdamHIdeal.defs (F := Ideal)) (onTc (τ := Cert.AdamHIdeal.τ) (Cert.AdamHIdeal.main (F := Ideal))) ⟨m, fun _ => 0, g⟩ (fun r => ∀ c : Dev Cert.AdamHIdeal.nD,
          r.2.mem ((c.tc : Thread Cert.AdamHIdeal.nD Cert.AdamHIdeal.τ).loc Cert.AdamHIdeal.main_v0_0) = v0 c
          ∧ r.2.mem ((c.tc : Thread Cert.AdamHIdeal.nD Cert.AdamHIdeal.τ).loc Cert.AdamHIdeal.main_v0_1) = v1 c
          ∧ r.2.mem ((c.tc : Thread Cert.AdamHIdeal.nD Cert.AdamHIdeal.τ).loc Cert.AdamHIdeal.main_v0_2) = v2 c
          ∧ r.2.mem ((c.tc : Thread Cert.AdamHIdeal.nD Cert.AdamHIdeal.τ).loc Cert.AdamHIdeal.main_arg0) = m ((c.tc : Thread Cert.AdamHIdeal.nD Cert.AdamHIdeal.τ).loc Cert.AdamHIdeal.main_arg0)
          ∧ r.2.mem ((c.tc : Thread Cert.AdamHIdeal.nD Cert.AdamHIdeal.τ).loc Cert.AdamHIdeal.main_arg1) = m ((c.tc : Thread Cert.AdamHIdeal.nD Cert.AdamHIdeal.τ).loc Cert.AdamHIdeal.main_arg1)
          ∧ r.2.mem ((c.tc : Thread Cert.AdamHIdeal.nD Cert.AdamHIdeal.τ).loc Cert.AdamHIdeal.main_arg2) = m ((c.tc : Thread Cert.AdamHIdeal.nD Cert.AdamHIdeal.τ).loc Cert.AdamHIdeal.main_arg2)
          ∧ r.2.mem ((c.tc : Thread Cert.AdamHIdeal.nD Cert.AdamHIdeal.τ).loc Cert.AdamHIdeal.main_arg3) = m ((c.tc : Thread Cert.AdamHIdeal.nD Cert.AdamHIdeal.τ).loc Cert.AdamHIdeal.main_arg3))
      ∧ θ_run (Cert.AdamHRefIdeal.defs (F := Ideal)) (onTc (τ := Cert.AdamHRefIdeal.τ) (Cert.AdamHRefIdeal.main (F := Ideal))) ⟨m', fun _ => 0, g'⟩ (fun r => ∀ c : Dev Cert.AdamHRefIdeal.nD,
          r.2.mem ((c.tc : Thread Cert.AdamHRefIdeal.nD Cert.AdamHRefIdeal.τ).loc Cert.AdamHRefIdeal.main_v23) = v0 c
          ∧ r.2.mem ((c.tc : Thread Cert.AdamHRefIdeal.nD Cert.AdamHRefIdeal.τ).loc Cert.AdamHRefIdeal.main_v4) = v1 c
          ∧ r.2.mem ((c.tc : Thread Cert.AdamHRefIdeal.nD Cert.AdamHRefIdeal.τ).loc Cert.AdamHRefIdeal.main_v10) = v2 c
          ∧ r.2.mem ((c.tc : Thread Cert.AdamHRefIdeal.nD Cert.AdamHRefIdeal.τ).loc Cert.AdamHRefIdeal.main_arg0) = m' ((c.tc : Thread Cert.AdamHRefIdeal.nD Cert.AdamHRefIdeal.τ).loc Cert.AdamHRefIdeal.main_arg0)
          ∧ r.2.mem ((c.tc : Thread Cert.AdamHRefIdeal.nD Cert.AdamHRefIdeal.τ).loc Cert.AdamHRefIdeal.main_arg1) = m' ((c.tc : Thread Cert.AdamHRefIdeal.nD Cert.AdamHRefIdeal.τ).loc Cert.AdamHRefIdeal.main_arg1)
          ∧ r.2.mem ((c.tc : Thread Cert.AdamHRefIdeal.nD Cert.AdamHRefIdeal.τ).loc Cert.AdamHRefIdeal.main_arg2) = m' ((c.tc : Thread Cert.AdamHRefIdeal.nD Cert.AdamHRefIdeal.τ).loc Cert.AdamHRefIdeal.main_arg2)
          ∧ r.2.mem ((c.tc : Thread Cert.AdamHRefIdeal.nD Cert.AdamHRefIdeal.τ).loc Cert.AdamHRefIdeal.main_arg3) = m' ((c.tc : Thread Cert.AdamHRefIdeal.nD Cert.AdamHRefIdeal.τ).loc Cert.AdamHRefIdeal.main_arg3))

def preserves_RedO_RedOIdeal : Prop :=
  True

def algebraic_RedOIdeal_RedORefIdeal [hRedOIdeal : Cert.RedOIdeal.Facts] [hRedORefIdeal : Cert.RedORefIdeal.Facts] : Prop :=
  ∀ (m : (ℓ : Loc Cert.RedOIdeal.nD Cert.RedOIdeal.τ Cert.RedOIdeal.sig) → Buf (Elt Ideal) ℓ) (g : Dev Cert.RedOIdeal.nD → PrngReg)
    (m' : (ℓ : Loc Cert.RedORefIdeal.nD Cert.RedORefIdeal.τ Cert.RedORefIdeal.sig) → Buf (Elt Ideal) ℓ) (g' : Dev Cert.RedORefIdeal.nD → PrngReg), Pre_RedOIdeal m →
    (∀ c : Dev Cert.RedOIdeal.nD,
      m' ((c.tc : Thread Cert.RedORefIdeal.nD Cert.RedORefIdeal.τ).loc Cert.RedORefIdeal.main_arg0) = m ((c.tc : Thread Cert.RedOIdeal.nD Cert.RedOIdeal.τ).loc Cert.RedOIdeal.main_arg0)
      ∧ m' ((c.tc : Thread Cert.RedORefIdeal.nD Cert.RedORefIdeal.τ).loc Cert.RedORefIdeal.main_arg1) = m ((c.tc : Thread Cert.RedOIdeal.nD Cert.RedOIdeal.τ).loc Cert.RedOIdeal.main_arg1)
      ∧ m' ((c.tc : Thread Cert.RedORefIdeal.nD Cert.RedORefIdeal.τ).loc Cert.RedORefIdeal.main_arg2) = m ((c.tc : Thread Cert.RedOIdeal.nD Cert.RedOIdeal.τ).loc Cert.RedOIdeal.main_arg2)
      ∧ m' ((c.tc : Thread Cert.RedORefIdeal.nD Cert.RedORefIdeal.τ).loc Cert.RedORefIdeal.main_arg3) = m ((c.tc : Thread Cert.RedOIdeal.nD Cert.RedOIdeal.τ).loc Cert.RedOIdeal.main_arg3)
      ∧ m' ((c.tc : Thread Cert.RedORefIdeal.nD Cert.RedORefIdeal.τ).loc Cert.RedORefIdeal.main_arg4) = m ((c.tc : Thread Cert.RedOIdeal.nD Cert.RedOIdeal.τ).loc Cert.RedOIdeal.main_arg4)
      ∧ m' ((c.tc : Thread Cert.RedORefIdeal.nD Cert.RedORefIdeal.τ).loc Cert.RedORefIdeal.main_arg5) = m ((c.tc : Thread Cert.RedOIdeal.nD Cert.RedOIdeal.τ).loc Cert.RedOIdeal.main_arg5)) →
    ∃ (v0 : (c : Dev Cert.RedOIdeal.nD) → Buf (Elt Ideal) ((c.tc : Thread Cert.RedOIdeal.nD Cert.RedOIdeal.τ).loc Cert.RedOIdeal.main_v0_0)) (v1 : (c : Dev Cert.RedOIdeal.nD) → Buf (Elt Ideal) ((c.tc : Thread Cert.RedOIdeal.nD Cert.RedOIdeal.τ).loc Cert.RedOIdeal.main_v0_1)) (v2 : (c : Dev Cert.RedOIdeal.nD) → Buf (Elt Ideal) ((c.tc : Thread Cert.RedOIdeal.nD Cert.RedOIdeal.τ).loc Cert.RedOIdeal.main_v0_2)) (v3 : (c : Dev Cert.RedOIdeal.nD) → Buf (Elt Ideal) ((c.tc : Thread Cert.RedOIdeal.nD Cert.RedOIdeal.τ).loc Cert.RedOIdeal.main_v0_3)),
      θ_run (Cert.RedOIdeal.defs (F := Ideal)) (onTc (τ := Cert.RedOIdeal.τ) (Cert.RedOIdeal.main (F := Ideal))) ⟨m, fun _ => 0, g⟩ (fun r => ∀ c : Dev Cert.RedOIdeal.nD,
          r.2.mem ((c.tc : Thread Cert.RedOIdeal.nD Cert.RedOIdeal.τ).loc Cert.RedOIdeal.main_v0_0) = v0 c
          ∧ r.2.mem ((c.tc : Thread Cert.RedOIdeal.nD Cert.RedOIdeal.τ).loc Cert.RedOIdeal.main_v0_1) = v1 c
          ∧ r.2.mem ((c.tc : Thread Cert.RedOIdeal.nD Cert.RedOIdeal.τ).loc Cert.RedOIdeal.main_v0_2) = v2 c
          ∧ r.2.mem ((c.tc : Thread Cert.RedOIdeal.nD Cert.RedOIdeal.τ).loc Cert.RedOIdeal.main_v0_3) = v3 c
          ∧ r.2.mem ((c.tc : Thread Cert.RedOIdeal.nD Cert.RedOIdeal.τ).loc Cert.RedOIdeal.main_arg0) = m ((c.tc : Thread Cert.RedOIdeal.nD Cert.RedOIdeal.τ).loc Cert.RedOIdeal.main_arg0)
          ∧ r.2.mem ((c.tc : Thread Cert.RedOIdeal.nD Cert.RedOIdeal.τ).loc Cert.RedOIdeal.main_arg1) = m ((c.tc : Thread Cert.RedOIdeal.nD Cert.RedOIdeal.τ).loc Cert.RedOIdeal.main_arg1)
          ∧ r.2.mem ((c.tc : Thread Cert.RedOIdeal.nD Cert.RedOIdeal.τ).loc Cert.RedOIdeal.main_arg2) = m ((c.tc : Thread Cert.RedOIdeal.nD Cert.RedOIdeal.τ).loc Cert.RedOIdeal.main_arg2)
          ∧ r.2.mem ((c.tc : Thread Cert.RedOIdeal.nD Cert.RedOIdeal.τ).loc Cert.RedOIdeal.main_arg3) = m ((c.tc : Thread Cert.RedOIdeal.nD Cert.RedOIdeal.τ).loc Cert.RedOIdeal.main_arg3)
          ∧ r.2.mem ((c.tc : Thread Cert.RedOIdeal.nD Cert.RedOIdeal.τ).loc Cert.RedOIdeal.main_arg4) = m ((c.tc : Thread Cert.RedOIdeal.nD Cert.RedOIdeal.τ).loc Cert.RedOIdeal.main_arg4)
          ∧ r.2.mem ((c.tc : Thread Cert.RedOIdeal.nD Cert.RedOIdeal.τ).loc Cert.RedOIdeal.main_arg5) = m ((c.tc : Thread Cert.RedOIdeal.nD Cert.RedOIdeal.τ).loc Cert.RedOIdeal.main_arg5))
      ∧ θ_run (Cert.RedORefIdeal.defs (F := Ideal)) (onTc (τ := Cert.RedORefIdeal.τ) (Cert.RedORefIdeal.main (F := Ideal))) ⟨m', fun _ => 0, g'⟩ (fun r => ∀ c : Dev Cert.RedORefIdeal.nD,
          r.2.mem ((c.tc : Thread Cert.RedORefIdeal.nD Cert.RedORefIdeal.τ).loc Cert.RedORefIdeal.main_v6) = v0 c
          ∧ r.2.mem ((c.tc : Thread Cert.RedORefIdeal.nD Cert.RedORefIdeal.τ).loc Cert.RedORefIdeal.main_v30) = v1 c
          ∧ r.2.mem ((c.tc : Thread Cert.RedORefIdeal.nD Cert.RedORefIdeal.τ).loc Cert.RedORefIdeal.main_v11) = v2 c
          ∧ r.2.mem ((c.tc : Thread Cert.RedORefIdeal.nD Cert.RedORefIdeal.τ).loc Cert.RedORefIdeal.main_v17) = v3 c
          ∧ r.2.mem ((c.tc : Thread Cert.RedORefIdeal.nD Cert.RedORefIdeal.τ).loc Cert.RedORefIdeal.main_arg0) = m' ((c.tc : Thread Cert.RedORefIdeal.nD Cert.RedORefIdeal.τ).loc Cert.RedORefIdeal.main_arg0)
          ∧ r.2.mem ((c.tc : Thread Cert.RedORefIdeal.nD Cert.RedORefIdeal.τ).loc Cert.RedORefIdeal.main_arg1) = m' ((c.tc : Thread Cert.RedORefIdeal.nD Cert.RedORefIdeal.τ).loc Cert.RedORefIdeal.main_arg1)
          ∧ r.2.mem ((c.tc : Thread Cert.RedORefIdeal.nD Cert.RedORefIdeal.τ).loc Cert.RedORefIdeal.main_arg2) = m' ((c.tc : Thread Cert.RedORefIdeal.nD Cert.RedORefIdeal.τ).loc Cert.RedORefIdeal.main_arg2)
          ∧ r.2.mem ((c.tc : Thread Cert.RedORefIdeal.nD Cert.RedORefIdeal.τ).loc Cert.RedORefIdeal.main_arg3) = m' ((c.tc : Thread Cert.RedORefIdeal.nD Cert.RedORefIdeal.τ).loc Cert.RedORefIdeal.main_arg3)
          ∧ r.2.mem ((c.tc : Thread Cert.RedORefIdeal.nD Cert.RedORefIdeal.τ).loc Cert.RedORefIdeal.main_arg4) = m' ((c.tc : Thread Cert.RedORefIdeal.nD Cert.RedORefIdeal.τ).loc Cert.RedORefIdeal.main_arg4)
          ∧ r.2.mem ((c.tc : Thread Cert.RedORefIdeal.nD Cert.RedORefIdeal.τ).loc Cert.RedORefIdeal.main_arg5) = m' ((c.tc : Thread Cert.RedORefIdeal.nD Cert.RedORefIdeal.τ).loc Cert.RedORefIdeal.main_arg5))

def preserves_RedM_RedMIdeal : Prop :=
  True

def algebraic_RedMIdeal_RedMRefIdeal [hRedMIdeal : Cert.RedMIdeal.Facts] [hRedMRefIdeal : Cert.RedMRefIdeal.Facts] : Prop :=
  ∀ (m : (ℓ : Loc Cert.RedMIdeal.nD Cert.RedMIdeal.τ Cert.RedMIdeal.sig) → Buf (Elt Ideal) ℓ) (g : Dev Cert.RedMIdeal.nD → PrngReg)
    (m' : (ℓ : Loc Cert.RedMRefIdeal.nD Cert.RedMRefIdeal.τ Cert.RedMRefIdeal.sig) → Buf (Elt Ideal) ℓ) (g' : Dev Cert.RedMRefIdeal.nD → PrngReg), Pre_RedMIdeal m →
    (∀ c : Dev Cert.RedMIdeal.nD,
      m' ((c.tc : Thread Cert.RedMRefIdeal.nD Cert.RedMRefIdeal.τ).loc Cert.RedMRefIdeal.main_arg0) = m ((c.tc : Thread Cert.RedMIdeal.nD Cert.RedMIdeal.τ).loc Cert.RedMIdeal.main_arg0)
      ∧ m' ((c.tc : Thread Cert.RedMRefIdeal.nD Cert.RedMRefIdeal.τ).loc Cert.RedMRefIdeal.main_arg1) = m ((c.tc : Thread Cert.RedMIdeal.nD Cert.RedMIdeal.τ).loc Cert.RedMIdeal.main_arg1)
      ∧ m' ((c.tc : Thread Cert.RedMRefIdeal.nD Cert.RedMRefIdeal.τ).loc Cert.RedMRefIdeal.main_arg2) = m ((c.tc : Thread Cert.RedMIdeal.nD Cert.RedMIdeal.τ).loc Cert.RedMIdeal.main_arg2)
      ∧ m' ((c.tc : Thread Cert.RedMRefIdeal.nD Cert.RedMRefIdeal.τ).loc Cert.RedMRefIdeal.main_arg3) = m ((c.tc : Thread Cert.RedMIdeal.nD Cert.RedMIdeal.τ).loc Cert.RedMIdeal.main_arg3)
      ∧ m' ((c.tc : Thread Cert.RedMRefIdeal.nD Cert.RedMRefIdeal.τ).loc Cert.RedMRefIdeal.main_arg4) = m ((c.tc : Thread Cert.RedMIdeal.nD Cert.RedMIdeal.τ).loc Cert.RedMIdeal.main_arg4)
      ∧ m' ((c.tc : Thread Cert.RedMRefIdeal.nD Cert.RedMRefIdeal.τ).loc Cert.RedMRefIdeal.main_arg5) = m ((c.tc : Thread Cert.RedMIdeal.nD Cert.RedMIdeal.τ).loc Cert.RedMIdeal.main_arg5)) →
    ∃ (v0 : (c : Dev Cert.RedMIdeal.nD) → Buf (Elt Ideal) ((c.tc : Thread Cert.RedMIdeal.nD Cert.RedMIdeal.τ).loc Cert.RedMIdeal.main_v0_0)) (v1 : (c : Dev Cert.RedMIdeal.nD) → Buf (Elt Ideal) ((c.tc : Thread Cert.RedMIdeal.nD Cert.RedMIdeal.τ).loc Cert.RedMIdeal.main_v0_1)) (v2 : (c : Dev Cert.RedMIdeal.nD) → Buf (Elt Ideal) ((c.tc : Thread Cert.RedMIdeal.nD Cert.RedMIdeal.τ).loc Cert.RedMIdeal.main_v0_2)) (v3 : (c : Dev Cert.RedMIdeal.nD) → Buf (Elt Ideal) ((c.tc : Thread Cert.RedMIdeal.nD Cert.RedMIdeal.τ).loc Cert.RedMIdeal.main_v0_3)),
      θ_run (Cert.RedMIdeal.defs (F := Ideal)) (onTc (τ := Cert.RedMIdeal.τ) (Cert.RedMIdeal.main (F := Ideal))) ⟨m, fun _ => 0, g⟩ (fun r => ∀ c : Dev Cert.RedMIdeal.nD,
          r.2.mem ((c.tc : Thread Cert.RedMIdeal.nD Cert.RedMIdeal.τ).loc Cert.RedMIdeal.main_v0_0) = v0 c
          ∧ r.2.mem ((c.tc : Thread Cert.RedMIdeal.nD Cert.RedMIdeal.τ).loc Cert.RedMIdeal.main_v0_1) = v1 c
          ∧ r.2.mem ((c.tc : Thread Cert.RedMIdeal.nD Cert.RedMIdeal.τ).loc Cert.RedMIdeal.main_v0_2) = v2 c
          ∧ r.2.mem ((c.tc : Thread Cert.RedMIdeal.nD Cert.RedMIdeal.τ).loc Cert.RedMIdeal.main_v0_3) = v3 c
          ∧ r.2.mem ((c.tc : Thread Cert.RedMIdeal.nD Cert.RedMIdeal.τ).loc Cert.RedMIdeal.main_arg0) = m ((c.tc : Thread Cert.RedMIdeal.nD Cert.RedMIdeal.τ).loc Cert.RedMIdeal.main_arg0)
          ∧ r.2.mem ((c.tc : Thread Cert.RedMIdeal.nD Cert.RedMIdeal.τ).loc Cert.RedMIdeal.main_arg1) = m ((c.tc : Thread Cert.RedMIdeal.nD Cert.RedMIdeal.τ).loc Cert.RedMIdeal.main_arg1)
          ∧ r.2.mem ((c.tc : Thread Cert.RedMIdeal.nD Cert.RedMIdeal.τ).loc Cert.RedMIdeal.main_arg2) = m ((c.tc : Thread Cert.RedMIdeal.nD Cert.RedMIdeal.τ).loc Cert.RedMIdeal.main_arg2)
          ∧ r.2.mem ((c.tc : Thread Cert.RedMIdeal.nD Cert.RedMIdeal.τ).loc Cert.RedMIdeal.main_arg3) = m ((c.tc : Thread Cert.RedMIdeal.nD Cert.RedMIdeal.τ).loc Cert.RedMIdeal.main_arg3)
          ∧ r.2.mem ((c.tc : Thread Cert.RedMIdeal.nD Cert.RedMIdeal.τ).loc Cert.RedMIdeal.main_arg4) = m ((c.tc : Thread Cert.RedMIdeal.nD Cert.RedMIdeal.τ).loc Cert.RedMIdeal.main_arg4)
          ∧ r.2.mem ((c.tc : Thread Cert.RedMIdeal.nD Cert.RedMIdeal.τ).loc Cert.RedMIdeal.main_arg5) = m ((c.tc : Thread Cert.RedMIdeal.nD Cert.RedMIdeal.τ).loc Cert.RedMIdeal.main_arg5))
      ∧ θ_run (Cert.RedMRefIdeal.defs (F := Ideal)) (onTc (τ := Cert.RedMRefIdeal.τ) (Cert.RedMRefIdeal.main (F := Ideal))) ⟨m', fun _ => 0, g'⟩ (fun r => ∀ c : Dev Cert.RedMRefIdeal.nD,
          r.2.mem ((c.tc : Thread Cert.RedMRefIdeal.nD Cert.RedMRefIdeal.τ).loc Cert.RedMRefIdeal.main_v6) = v0 c
          ∧ r.2.mem ((c.tc : Thread Cert.RedMRefIdeal.nD Cert.RedMRefIdeal.τ).loc Cert.RedMRefIdeal.main_v30) = v1 c
          ∧ r.2.mem ((c.tc : Thread Cert.RedMRefIdeal.nD Cert.RedMRefIdeal.τ).loc Cert.RedMRefIdeal.main_v11) = v2 c
          ∧ r.2.mem ((c.tc : Thread Cert.RedMRefIdeal.nD Cert.RedMRefIdeal.τ).loc Cert.RedMRefIdeal.main_v17) = v3 c
          ∧ r.2.mem ((c.tc : Thread Cert.RedMRefIdeal.nD Cert.RedMRefIdeal.τ).loc Cert.RedMRefIdeal.main_arg0) = m' ((c.tc : Thread Cert.RedMRefIdeal.nD Cert.RedMRefIdeal.τ).loc Cert.RedMRefIdeal.main_arg0)
          ∧ r.2.mem ((c.tc : Thread Cert.RedMRefIdeal.nD Cert.RedMRefIdeal.τ).loc Cert.RedMRefIdeal.main_arg1) = m' ((c.tc : Thread Cert.RedMRefIdeal.nD Cert.RedMRefIdeal.τ).loc Cert.RedMRefIdeal.main_arg1)
          ∧ r.2.mem ((c.tc : Thread Cert.RedMRefIdeal.nD Cert.RedMRefIdeal.τ).loc Cert.RedMRefIdeal.main_arg2) = m' ((c.tc : Thread Cert.RedMRefIdeal.nD Cert.RedMRefIdeal.τ).loc Cert.RedMRefIdeal.main_arg2)
          ∧ r.2.mem ((c.tc : Thread Cert.RedMRefIdeal.nD Cert.RedMRefIdeal.τ).loc Cert.RedMRefIdeal.main_arg3) = m' ((c.tc : Thread Cert.RedMRefIdeal.nD Cert.RedMRefIdeal.τ).loc Cert.RedMRefIdeal.main_arg3)
          ∧ r.2.mem ((c.tc : Thread Cert.RedMRefIdeal.nD Cert.RedMRefIdeal.τ).loc Cert.RedMRefIdeal.main_arg4) = m' ((c.tc : Thread Cert.RedMRefIdeal.nD Cert.RedMRefIdeal.τ).loc Cert.RedMRefIdeal.main_arg4)
          ∧ r.2.mem ((c.tc : Thread Cert.RedMRefIdeal.nD Cert.RedMRefIdeal.τ).loc Cert.RedMRefIdeal.main_arg5) = m' ((c.tc : Thread Cert.RedMRefIdeal.nD Cert.RedMRefIdeal.τ).loc Cert.RedMRefIdeal.main_arg5))

def preserves_RedA_RedAIdeal : Prop :=
  True

def algebraic_RedAIdeal_RedARefIdeal [hRedAIdeal : Cert.RedAIdeal.Facts] [hRedARefIdeal : Cert.RedARefIdeal.Facts] : Prop :=
  ∀ (m : (ℓ : Loc Cert.RedAIdeal.nD Cert.RedAIdeal.τ Cert.RedAIdeal.sig) → Buf (Elt Ideal) ℓ) (g : Dev Cert.RedAIdeal.nD → PrngReg)
    (m' : (ℓ : Loc Cert.RedARefIdeal.nD Cert.RedARefIdeal.τ Cert.RedARefIdeal.sig) → Buf (Elt Ideal) ℓ) (g' : Dev Cert.RedARefIdeal.nD → PrngReg), Pre_RedAIdeal m →
    (∀ c : Dev Cert.RedAIdeal.nD,
      m' ((c.tc : Thread Cert.RedARefIdeal.nD Cert.RedARefIdeal.τ).loc Cert.RedARefIdeal.main_arg0) = m ((c.tc : Thread Cert.RedAIdeal.nD Cert.RedAIdeal.τ).loc Cert.RedAIdeal.main_arg0)
      ∧ m' ((c.tc : Thread Cert.RedARefIdeal.nD Cert.RedARefIdeal.τ).loc Cert.RedARefIdeal.main_arg1) = m ((c.tc : Thread Cert.RedAIdeal.nD Cert.RedAIdeal.τ).loc Cert.RedAIdeal.main_arg1)
      ∧ m' ((c.tc : Thread Cert.RedARefIdeal.nD Cert.RedARefIdeal.τ).loc Cert.RedARefIdeal.main_arg2) = m ((c.tc : Thread Cert.RedAIdeal.nD Cert.RedAIdeal.τ).loc Cert.RedAIdeal.main_arg2)
      ∧ m' ((c.tc : Thread Cert.RedARefIdeal.nD Cert.RedARefIdeal.τ).loc Cert.RedARefIdeal.main_arg3) = m ((c.tc : Thread Cert.RedAIdeal.nD Cert.RedAIdeal.τ).loc Cert.RedAIdeal.main_arg3)
      ∧ m' ((c.tc : Thread Cert.RedARefIdeal.nD Cert.RedARefIdeal.τ).loc Cert.RedARefIdeal.main_arg4) = m ((c.tc : Thread Cert.RedAIdeal.nD Cert.RedAIdeal.τ).loc Cert.RedAIdeal.main_arg4)
      ∧ m' ((c.tc : Thread Cert.RedARefIdeal.nD Cert.RedARefIdeal.τ).loc Cert.RedARefIdeal.main_arg5) = m ((c.tc : Thread Cert.RedAIdeal.nD Cert.RedAIdeal.τ).loc Cert.RedAIdeal.main_arg5)) →
    ∃ (v0 : (c : Dev Cert.RedAIdeal.nD) → Buf (Elt Ideal) ((c.tc : Thread Cert.RedAIdeal.nD Cert.RedAIdeal.τ).loc Cert.RedAIdeal.main_v0_0)) (v1 : (c : Dev Cert.RedAIdeal.nD) → Buf (Elt Ideal) ((c.tc : Thread Cert.RedAIdeal.nD Cert.RedAIdeal.τ).loc Cert.RedAIdeal.main_v0_1)) (v2 : (c : Dev Cert.RedAIdeal.nD) → Buf (Elt Ideal) ((c.tc : Thread Cert.RedAIdeal.nD Cert.RedAIdeal.τ).loc Cert.RedAIdeal.main_v0_2)) (v3 : (c : Dev Cert.RedAIdeal.nD) → Buf (Elt Ideal) ((c.tc : Thread Cert.RedAIdeal.nD Cert.RedAIdeal.τ).loc Cert.RedAIdeal.main_v0_3)),
      θ_run (Cert.RedAIdeal.defs (F := Ideal)) (onTc (τ := Cert.RedAIdeal.τ) (Cert.RedAIdeal.main (F := Ideal))) ⟨m, fun _ => 0, g⟩ (fun r => ∀ c : Dev Cert.RedAIdeal.nD,
          r.2.mem ((c.tc : Thread Cert.RedAIdeal.nD Cert.RedAIdeal.τ).loc Cert.RedAIdeal.main_v0_0) = v0 c
          ∧ r.2.mem ((c.tc : Thread Cert.RedAIdeal.nD Cert.RedAIdeal.τ).loc Cert.RedAIdeal.main_v0_1) = v1 c
          ∧ r.2.mem ((c.tc : Thread Cert.RedAIdeal.nD Cert.RedAIdeal.τ).loc Cert.RedAIdeal.main_v0_2) = v2 c
          ∧ r.2.mem ((c.tc : Thread Cert.RedAIdeal.nD Cert.RedAIdeal.τ).loc Cert.RedAIdeal.main_v0_3) = v3 c
          ∧ r.2.mem ((c.tc : Thread Cert.RedAIdeal.nD Cert.RedAIdeal.τ).loc Cert.RedAIdeal.main_arg0) = m ((c.tc : Thread Cert.RedAIdeal.nD Cert.RedAIdeal.τ).loc Cert.RedAIdeal.main_arg0)
          ∧ r.2.mem ((c.tc : Thread Cert.RedAIdeal.nD Cert.RedAIdeal.τ).loc Cert.RedAIdeal.main_arg1) = m ((c.tc : Thread Cert.RedAIdeal.nD Cert.RedAIdeal.τ).loc Cert.RedAIdeal.main_arg1)
          ∧ r.2.mem ((c.tc : Thread Cert.RedAIdeal.nD Cert.RedAIdeal.τ).loc Cert.RedAIdeal.main_arg2) = m ((c.tc : Thread Cert.RedAIdeal.nD Cert.RedAIdeal.τ).loc Cert.RedAIdeal.main_arg2)
          ∧ r.2.mem ((c.tc : Thread Cert.RedAIdeal.nD Cert.RedAIdeal.τ).loc Cert.RedAIdeal.main_arg3) = m ((c.tc : Thread Cert.RedAIdeal.nD Cert.RedAIdeal.τ).loc Cert.RedAIdeal.main_arg3)
          ∧ r.2.mem ((c.tc : Thread Cert.RedAIdeal.nD Cert.RedAIdeal.τ).loc Cert.RedAIdeal.main_arg4) = m ((c.tc : Thread Cert.RedAIdeal.nD Cert.RedAIdeal.τ).loc Cert.RedAIdeal.main_arg4)
          ∧ r.2.mem ((c.tc : Thread Cert.RedAIdeal.nD Cert.RedAIdeal.τ).loc Cert.RedAIdeal.main_arg5) = m ((c.tc : Thread Cert.RedAIdeal.nD Cert.RedAIdeal.τ).loc Cert.RedAIdeal.main_arg5))
      ∧ θ_run (Cert.RedARefIdeal.defs (F := Ideal)) (onTc (τ := Cert.RedARefIdeal.τ) (Cert.RedARefIdeal.main (F := Ideal))) ⟨m', fun _ => 0, g'⟩ (fun r => ∀ c : Dev Cert.RedARefIdeal.nD,
          r.2.mem ((c.tc : Thread Cert.RedARefIdeal.nD Cert.RedARefIdeal.τ).loc Cert.RedARefIdeal.main_v6) = v0 c
          ∧ r.2.mem ((c.tc : Thread Cert.RedARefIdeal.nD Cert.RedARefIdeal.τ).loc Cert.RedARefIdeal.main_v30) = v1 c
          ∧ r.2.mem ((c.tc : Thread Cert.RedARefIdeal.nD Cert.RedARefIdeal.τ).loc Cert.RedARefIdeal.main_v11) = v2 c
          ∧ r.2.mem ((c.tc : Thread Cert.RedARefIdeal.nD Cert.RedARefIdeal.τ).loc Cert.RedARefIdeal.main_v17) = v3 c
          ∧ r.2.mem ((c.tc : Thread Cert.RedARefIdeal.nD Cert.RedARefIdeal.τ).loc Cert.RedARefIdeal.main_arg0) = m' ((c.tc : Thread Cert.RedARefIdeal.nD Cert.RedARefIdeal.τ).loc Cert.RedARefIdeal.main_arg0)
          ∧ r.2.mem ((c.tc : Thread Cert.RedARefIdeal.nD Cert.RedARefIdeal.τ).loc Cert.RedARefIdeal.main_arg1) = m' ((c.tc : Thread Cert.RedARefIdeal.nD Cert.RedARefIdeal.τ).loc Cert.RedARefIdeal.main_arg1)
          ∧ r.2.mem ((c.tc : Thread Cert.RedARefIdeal.nD Cert.RedARefIdeal.τ).loc Cert.RedARefIdeal.main_arg2) = m' ((c.tc : Thread Cert.RedARefIdeal.nD Cert.RedARefIdeal.τ).loc Cert.RedARefIdeal.main_arg2)
          ∧ r.2.mem ((c.tc : Thread Cert.RedARefIdeal.nD Cert.RedARefIdeal.τ).loc Cert.RedARefIdeal.main_arg3) = m' ((c.tc : Thread Cert.RedARefIdeal.nD Cert.RedARefIdeal.τ).loc Cert.RedARefIdeal.main_arg3)
          ∧ r.2.mem ((c.tc : Thread Cert.RedARefIdeal.nD Cert.RedARefIdeal.τ).loc Cert.RedARefIdeal.main_arg4) = m' ((c.tc : Thread Cert.RedARefIdeal.nD Cert.RedARefIdeal.τ).loc Cert.RedARefIdeal.main_arg4)
          ∧ r.2.mem ((c.tc : Thread Cert.RedARefIdeal.nD Cert.RedARefIdeal.τ).loc Cert.RedARefIdeal.main_arg5) = m' ((c.tc : Thread Cert.RedARefIdeal.nD Cert.RedARefIdeal.τ).loc Cert.RedARefIdeal.main_arg5))

def preserves_RedFi_RedFiIdeal : Prop :=
  True

def algebraic_RedFiIdeal_RedFiRefIdeal [hRedFiIdeal : Cert.RedFiIdeal.Facts] [hRedFiRefIdeal : Cert.RedFiRefIdeal.Facts] : Prop :=
  ∀ (m : (ℓ : Loc Cert.RedFiIdeal.nD Cert.RedFiIdeal.τ Cert.RedFiIdeal.sig) → Buf (Elt Ideal) ℓ) (g : Dev Cert.RedFiIdeal.nD → PrngReg)
    (m' : (ℓ : Loc Cert.RedFiRefIdeal.nD Cert.RedFiRefIdeal.τ Cert.RedFiRefIdeal.sig) → Buf (Elt Ideal) ℓ) (g' : Dev Cert.RedFiRefIdeal.nD → PrngReg), Pre_RedFiIdeal m →
    (∀ c : Dev Cert.RedFiIdeal.nD,
      m' ((c.tc : Thread Cert.RedFiRefIdeal.nD Cert.RedFiRefIdeal.τ).loc Cert.RedFiRefIdeal.main_arg0) = m ((c.tc : Thread Cert.RedFiIdeal.nD Cert.RedFiIdeal.τ).loc Cert.RedFiIdeal.main_arg0)
      ∧ m' ((c.tc : Thread Cert.RedFiRefIdeal.nD Cert.RedFiRefIdeal.τ).loc Cert.RedFiRefIdeal.main_arg1) = m ((c.tc : Thread Cert.RedFiIdeal.nD Cert.RedFiIdeal.τ).loc Cert.RedFiIdeal.main_arg1)
      ∧ m' ((c.tc : Thread Cert.RedFiRefIdeal.nD Cert.RedFiRefIdeal.τ).loc Cert.RedFiRefIdeal.main_arg2) = m ((c.tc : Thread Cert.RedFiIdeal.nD Cert.RedFiIdeal.τ).loc Cert.RedFiIdeal.main_arg2)
      ∧ m' ((c.tc : Thread Cert.RedFiRefIdeal.nD Cert.RedFiRefIdeal.τ).loc Cert.RedFiRefIdeal.main_arg3) = m ((c.tc : Thread Cert.RedFiIdeal.nD Cert.RedFiIdeal.τ).loc Cert.RedFiIdeal.main_arg3)
      ∧ m' ((c.tc : Thread Cert.RedFiRefIdeal.nD Cert.RedFiRefIdeal.τ).loc Cert.RedFiRefIdeal.main_arg4) = m ((c.tc : Thread Cert.RedFiIdeal.nD Cert.RedFiIdeal.τ).loc Cert.RedFiIdeal.main_arg4)
      ∧ m' ((c.tc : Thread Cert.RedFiRefIdeal.nD Cert.RedFiRefIdeal.τ).loc Cert.RedFiRefIdeal.main_arg5) = m ((c.tc : Thread Cert.RedFiIdeal.nD Cert.RedFiIdeal.τ).loc Cert.RedFiIdeal.main_arg5)
      ∧ m' ((c.tc : Thread Cert.RedFiRefIdeal.nD Cert.RedFiRefIdeal.τ).loc Cert.RedFiRefIdeal.main_arg6) = m ((c.tc : Thread Cert.RedFiIdeal.nD Cert.RedFiIdeal.τ).loc Cert.RedFiIdeal.main_arg6)
      ∧ m' ((c.tc : Thread Cert.RedFiRefIdeal.nD Cert.RedFiRefIdeal.τ).loc Cert.RedFiRefIdeal.main_arg7) = m ((c.tc : Thread Cert.RedFiIdeal.nD Cert.RedFiIdeal.τ).loc Cert.RedFiIdeal.main_arg7)
      ∧ m' ((c.tc : Thread Cert.RedFiRefIdeal.nD Cert.RedFiRefIdeal.τ).loc Cert.RedFiRefIdeal.main_arg8) = m ((c.tc : Thread Cert.RedFiIdeal.nD Cert.RedFiIdeal.τ).loc Cert.RedFiIdeal.main_arg8)
      ∧ m' ((c.tc : Thread Cert.RedFiRefIdeal.nD Cert.RedFiRefIdeal.τ).loc Cert.RedFiRefIdeal.main_arg9) = m ((c.tc : Thread Cert.RedFiIdeal.nD Cert.RedFiIdeal.τ).loc Cert.RedFiIdeal.main_arg9)
      ∧ m' ((c.tc : Thread Cert.RedFiRefIdeal.nD Cert.RedFiRefIdeal.τ).loc Cert.RedFiRefIdeal.main_arg10) = m ((c.tc : Thread Cert.RedFiIdeal.nD Cert.RedFiIdeal.τ).loc Cert.RedFiIdeal.main_arg10)
      ∧ m' ((c.tc : Thread Cert.RedFiRefIdeal.nD Cert.RedFiRefIdeal.τ).loc Cert.RedFiRefIdeal.main_arg11) = m ((c.tc : Thread Cert.RedFiIdeal.nD Cert.RedFiIdeal.τ).loc Cert.RedFiIdeal.main_arg11)) →
    ∃ (v0 : (c : Dev Cert.RedFiIdeal.nD) → Buf (Elt Ideal) ((c.tc : Thread Cert.RedFiIdeal.nD Cert.RedFiIdeal.τ).loc Cert.RedFiIdeal.main_v0_0)) (v1 : (c : Dev Cert.RedFiIdeal.nD) → Buf (Elt Ideal) ((c.tc : Thread Cert.RedFiIdeal.nD Cert.RedFiIdeal.τ).loc Cert.RedFiIdeal.main_v0_1)) (v2 : (c : Dev Cert.RedFiIdeal.nD) → Buf (Elt Ideal) ((c.tc : Thread Cert.RedFiIdeal.nD Cert.RedFiIdeal.τ).loc Cert.RedFiIdeal.main_v0_2)) (v3 : (c : Dev Cert.RedFiIdeal.nD) → Buf (Elt Ideal) ((c.tc : Thread Cert.RedFiIdeal.nD Cert.RedFiIdeal.τ).loc Cert.RedFiIdeal.main_v0_3)),
      θ_run (Cert.RedFiIdeal.defs (F := Ideal)) (onTc (τ := Cert.RedFiIdeal.τ) (Cert.RedFiIdeal.main (F := Ideal))) ⟨m, fun _ => 0, g⟩ (fun r => ∀ c : Dev Cert.RedFiIdeal.nD,
          r.2.mem ((c.tc : Thread Cert.RedFiIdeal.nD Cert.RedFiIdeal.τ).loc Cert.RedFiIdeal.main_v0_0) = v0 c
          ∧ r.2.mem ((c.tc : Thread Cert.RedFiIdeal.nD Cert.RedFiIdeal.τ).loc Cert.RedFiIdeal.main_v0_1) = v1 c
          ∧ r.2.mem ((c.tc : Thread Cert.RedFiIdeal.nD Cert.RedFiIdeal.τ).loc Cert.RedFiIdeal.main_v0_2) = v2 c
          ∧ r.2.mem ((c.tc : Thread Cert.RedFiIdeal.nD Cert.RedFiIdeal.τ).loc Cert.RedFiIdeal.main_v0_3) = v3 c
          ∧ r.2.mem ((c.tc : Thread Cert.RedFiIdeal.nD Cert.RedFiIdeal.τ).loc Cert.RedFiIdeal.main_arg0) = m ((c.tc : Thread Cert.RedFiIdeal.nD Cert.RedFiIdeal.τ).loc Cert.RedFiIdeal.main_arg0)
          ∧ r.2.mem ((c.tc : Thread Cert.RedFiIdeal.nD Cert.RedFiIdeal.τ).loc Cert.RedFiIdeal.main_arg1) = m ((c.tc : Thread Cert.RedFiIdeal.nD Cert.RedFiIdeal.τ).loc Cert.RedFiIdeal.main_arg1)
          ∧ r.2.mem ((c.tc : Thread Cert.RedFiIdeal.nD Cert.RedFiIdeal.τ).loc Cert.RedFiIdeal.main_arg2) = m ((c.tc : Thread Cert.RedFiIdeal.nD Cert.RedFiIdeal.τ).loc Cert.RedFiIdeal.main_arg2)
          ∧ r.2.mem ((c.tc : Thread Cert.RedFiIdeal.nD Cert.RedFiIdeal.τ).loc Cert.RedFiIdeal.main_arg3) = m ((c.tc : Thread Cert.RedFiIdeal.nD Cert.RedFiIdeal.τ).loc Cert.RedFiIdeal.main_arg3)
          ∧ r.2.mem ((c.tc : Thread Cert.RedFiIdeal.nD Cert.RedFiIdeal.τ).loc Cert.RedFiIdeal.main_arg4) = m ((c.tc : Thread Cert.RedFiIdeal.nD Cert.RedFiIdeal.τ).loc Cert.RedFiIdeal.main_arg4)
          ∧ r.2.mem ((c.tc : Thread Cert.RedFiIdeal.nD Cert.RedFiIdeal.τ).loc Cert.RedFiIdeal.main_arg5) = m ((c.tc : Thread Cert.RedFiIdeal.nD Cert.RedFiIdeal.τ).loc Cert.RedFiIdeal.main_arg5)
          ∧ r.2.mem ((c.tc : Thread Cert.RedFiIdeal.nD Cert.RedFiIdeal.τ).loc Cert.RedFiIdeal.main_arg6) = m ((c.tc : Thread Cert.RedFiIdeal.nD Cert.RedFiIdeal.τ).loc Cert.RedFiIdeal.main_arg6)
          ∧ r.2.mem ((c.tc : Thread Cert.RedFiIdeal.nD Cert.RedFiIdeal.τ).loc Cert.RedFiIdeal.main_arg7) = m ((c.tc : Thread Cert.RedFiIdeal.nD Cert.RedFiIdeal.τ).loc Cert.RedFiIdeal.main_arg7)
          ∧ r.2.mem ((c.tc : Thread Cert.RedFiIdeal.nD Cert.RedFiIdeal.τ).loc Cert.RedFiIdeal.main_arg8) = m ((c.tc : Thread Cert.RedFiIdeal.nD Cert.RedFiIdeal.τ).loc Cert.RedFiIdeal.main_arg8)
          ∧ r.2.mem ((c.tc : Thread Cert.RedFiIdeal.nD Cert.RedFiIdeal.τ).loc Cert.RedFiIdeal.main_arg9) = m ((c.tc : Thread Cert.RedFiIdeal.nD Cert.RedFiIdeal.τ).loc Cert.RedFiIdeal.main_arg9)
          ∧ r.2.mem ((c.tc : Thread Cert.RedFiIdeal.nD Cert.RedFiIdeal.τ).loc Cert.RedFiIdeal.main_arg10) = m ((c.tc : Thread Cert.RedFiIdeal.nD Cert.RedFiIdeal.τ).loc Cert.RedFiIdeal.main_arg10)
          ∧ r.2.mem ((c.tc : Thread Cert.RedFiIdeal.nD Cert.RedFiIdeal.τ).loc Cert.RedFiIdeal.main_arg11) = m ((c.tc : Thread Cert.RedFiIdeal.nD Cert.RedFiIdeal.τ).loc Cert.RedFiIdeal.main_arg11))
      ∧ θ_run (Cert.RedFiRefIdeal.defs (F := Ideal)) (onTc (τ := Cert.RedFiRefIdeal.τ) (Cert.RedFiRefIdeal.main (F := Ideal))) ⟨m', fun _ => 0, g'⟩ (fun r => ∀ c : Dev Cert.RedFiRefIdeal.nD,
          r.2.mem ((c.tc : Thread Cert.RedFiRefIdeal.nD Cert.RedFiRefIdeal.τ).loc Cert.RedFiRefIdeal.main_v28) = v0 c
          ∧ r.2.mem ((c.tc : Thread Cert.RedFiRefIdeal.nD Cert.RedFiRefIdeal.τ).loc Cert.RedFiRefIdeal.main_v52) = v1 c
          ∧ r.2.mem ((c.tc : Thread Cert.RedFiRefIdeal.nD Cert.RedFiRefIdeal.τ).loc Cert.RedFiRefIdeal.main_v33) = v2 c
          ∧ r.2.mem ((c.tc : Thread Cert.RedFiRefIdeal.nD Cert.RedFiRefIdeal.τ).loc Cert.RedFiRefIdeal.main_v39) = v3 c
          ∧ r.2.mem ((c.tc : Thread Cert.RedFiRefIdeal.nD Cert.RedFiRefIdeal.τ).loc Cert.RedFiRefIdeal.main_arg0) = m' ((c.tc : Thread Cert.RedFiRefIdeal.nD Cert.RedFiRefIdeal.τ).loc Cert.RedFiRefIdeal.main_arg0)
          ∧ r.2.mem ((c.tc : Thread Cert.RedFiRefIdeal.nD Cert.RedFiRefIdeal.τ).loc Cert.RedFiRefIdeal.main_arg1) = m' ((c.tc : Thread Cert.RedFiRefIdeal.nD Cert.RedFiRefIdeal.τ).loc Cert.RedFiRefIdeal.main_arg1)
          ∧ r.2.mem ((c.tc : Thread Cert.RedFiRefIdeal.nD Cert.RedFiRefIdeal.τ).loc Cert.RedFiRefIdeal.main_arg2) = m' ((c.tc : Thread Cert.RedFiRefIdeal.nD Cert.RedFiRefIdeal.τ).loc Cert.RedFiRefIdeal.main_arg2)
          ∧ r.2.mem ((c.tc : Thread Cert.RedFiRefIdeal.nD Cert.RedFiRefIdeal.τ).loc Cert.RedFiRefIdeal.main_arg3) = m' ((c.tc : Thread Cert.RedFiRefIdeal.nD Cert.RedFiRefIdeal.τ).loc Cert.RedFiRefIdeal.main_arg3)
          ∧ r.2.mem ((c.tc : Thread Cert.RedFiRefIdeal.nD Cert.RedFiRefIdeal.τ).loc Cert.RedFiRefIdeal.main_arg4) = m' ((c.tc : Thread Cert.RedFiRefIdeal.nD Cert.RedFiRefIdeal.τ).loc Cert.RedFiRefIdeal.main_arg4)
          ∧ r.2.mem ((c.tc : Thread Cert.RedFiRefIdeal.nD Cert.RedFiRefIdeal.τ).loc Cert.RedFiRefIdeal.main_arg5) = m' ((c.tc : Thread Cert.RedFiRefIdeal.nD Cert.RedFiRefIdeal.τ).loc Cert.RedFiRefIdeal.main_arg5)
          ∧ r.2.mem ((c.tc : Thread Cert.RedFiRefIdeal.nD Cert.RedFiRefIdeal.τ).loc Cert.RedFiRefIdeal.main_arg6) = m' ((c.tc : Thread Cert.RedFiRefIdeal.nD Cert.RedFiRefIdeal.τ).loc Cert.RedFiRefIdeal.main_arg6)
          ∧ r.2.mem ((c.tc : Thread Cert.RedFiRefIdeal.nD Cert.RedFiRefIdeal.τ).loc Cert.RedFiRefIdeal.main_arg7) = m' ((c.tc : Thread Cert.RedFiRefIdeal.nD Cert.RedFiRefIdeal.τ).loc Cert.RedFiRefIdeal.main_arg7)
          ∧ r.2.mem ((c.tc : Thread Cert.RedFiRefIdeal.nD Cert.RedFiRefIdeal.τ).loc Cert.RedFiRefIdeal.main_arg8) = m' ((c.tc : Thread Cert.RedFiRefIdeal.nD Cert.RedFiRefIdeal.τ).loc Cert.RedFiRefIdeal.main_arg8)
          ∧ r.2.mem ((c.tc : Thread Cert.RedFiRefIdeal.nD Cert.RedFiRefIdeal.τ).loc Cert.RedFiRefIdeal.main_arg9) = m' ((c.tc : Thread Cert.RedFiRefIdeal.nD Cert.RedFiRefIdeal.τ).loc Cert.RedFiRefIdeal.main_arg9)
          ∧ r.2.mem ((c.tc : Thread Cert.RedFiRefIdeal.nD Cert.RedFiRefIdeal.τ).loc Cert.RedFiRefIdeal.main_arg10) = m' ((c.tc : Thread Cert.RedFiRefIdeal.nD Cert.RedFiRefIdeal.τ).loc Cert.RedFiRefIdeal.main_arg10)
          ∧ r.2.mem ((c.tc : Thread Cert.RedFiRefIdeal.nD Cert.RedFiRefIdeal.τ).loc Cert.RedFiRefIdeal.main_arg11) = m' ((c.tc : Thread Cert.RedFiRefIdeal.nD Cert.RedFiRefIdeal.τ).loc Cert.RedFiRefIdeal.main_arg11))

def preserves_RedFo_RedFoIdeal : Prop :=
  True

def algebraic_RedFoIdeal_RedFoRefIdeal [hRedFoIdeal : Cert.RedFoIdeal.Facts] [hRedFoRefIdeal : Cert.RedFoRefIdeal.Facts] : Prop :=
  ∀ (m : (ℓ : Loc Cert.RedFoIdeal.nD Cert.RedFoIdeal.τ Cert.RedFoIdeal.sig) → Buf (Elt Ideal) ℓ) (g : Dev Cert.RedFoIdeal.nD → PrngReg)
    (m' : (ℓ : Loc Cert.RedFoRefIdeal.nD Cert.RedFoRefIdeal.τ Cert.RedFoRefIdeal.sig) → Buf (Elt Ideal) ℓ) (g' : Dev Cert.RedFoRefIdeal.nD → PrngReg), Pre_RedFoIdeal m →
    (∀ c : Dev Cert.RedFoIdeal.nD,
      m' ((c.tc : Thread Cert.RedFoRefIdeal.nD Cert.RedFoRefIdeal.τ).loc Cert.RedFoRefIdeal.main_arg0) = m ((c.tc : Thread Cert.RedFoIdeal.nD Cert.RedFoIdeal.τ).loc Cert.RedFoIdeal.main_arg0)
      ∧ m' ((c.tc : Thread Cert.RedFoRefIdeal.nD Cert.RedFoRefIdeal.τ).loc Cert.RedFoRefIdeal.main_arg1) = m ((c.tc : Thread Cert.RedFoIdeal.nD Cert.RedFoIdeal.τ).loc Cert.RedFoIdeal.main_arg1)
      ∧ m' ((c.tc : Thread Cert.RedFoRefIdeal.nD Cert.RedFoRefIdeal.τ).loc Cert.RedFoRefIdeal.main_arg2) = m ((c.tc : Thread Cert.RedFoIdeal.nD Cert.RedFoIdeal.τ).loc Cert.RedFoIdeal.main_arg2)
      ∧ m' ((c.tc : Thread Cert.RedFoRefIdeal.nD Cert.RedFoRefIdeal.τ).loc Cert.RedFoRefIdeal.main_arg3) = m ((c.tc : Thread Cert.RedFoIdeal.nD Cert.RedFoIdeal.τ).loc Cert.RedFoIdeal.main_arg3)
      ∧ m' ((c.tc : Thread Cert.RedFoRefIdeal.nD Cert.RedFoRefIdeal.τ).loc Cert.RedFoRefIdeal.main_arg4) = m ((c.tc : Thread Cert.RedFoIdeal.nD Cert.RedFoIdeal.τ).loc Cert.RedFoIdeal.main_arg4)
      ∧ m' ((c.tc : Thread Cert.RedFoRefIdeal.nD Cert.RedFoRefIdeal.τ).loc Cert.RedFoRefIdeal.main_arg5) = m ((c.tc : Thread Cert.RedFoIdeal.nD Cert.RedFoIdeal.τ).loc Cert.RedFoIdeal.main_arg5)
      ∧ m' ((c.tc : Thread Cert.RedFoRefIdeal.nD Cert.RedFoRefIdeal.τ).loc Cert.RedFoRefIdeal.main_arg6) = m ((c.tc : Thread Cert.RedFoIdeal.nD Cert.RedFoIdeal.τ).loc Cert.RedFoIdeal.main_arg6)
      ∧ m' ((c.tc : Thread Cert.RedFoRefIdeal.nD Cert.RedFoRefIdeal.τ).loc Cert.RedFoRefIdeal.main_arg7) = m ((c.tc : Thread Cert.RedFoIdeal.nD Cert.RedFoIdeal.τ).loc Cert.RedFoIdeal.main_arg7)
      ∧ m' ((c.tc : Thread Cert.RedFoRefIdeal.nD Cert.RedFoRefIdeal.τ).loc Cert.RedFoRefIdeal.main_arg8) = m ((c.tc : Thread Cert.RedFoIdeal.nD Cert.RedFoIdeal.τ).loc Cert.RedFoIdeal.main_arg8)
      ∧ m' ((c.tc : Thread Cert.RedFoRefIdeal.nD Cert.RedFoRefIdeal.τ).loc Cert.RedFoRefIdeal.main_arg9) = m ((c.tc : Thread Cert.RedFoIdeal.nD Cert.RedFoIdeal.τ).loc Cert.RedFoIdeal.main_arg9)
      ∧ m' ((c.tc : Thread Cert.RedFoRefIdeal.nD Cert.RedFoRefIdeal.τ).loc Cert.RedFoRefIdeal.main_arg10) = m ((c.tc : Thread Cert.RedFoIdeal.nD Cert.RedFoIdeal.τ).loc Cert.RedFoIdeal.main_arg10)
      ∧ m' ((c.tc : Thread Cert.RedFoRefIdeal.nD Cert.RedFoRefIdeal.τ).loc Cert.RedFoRefIdeal.main_arg11) = m ((c.tc : Thread Cert.RedFoIdeal.nD Cert.RedFoIdeal.τ).loc Cert.RedFoIdeal.main_arg11)) →
    ∃ (v0 : (c : Dev Cert.RedFoIdeal.nD) → Buf (Elt Ideal) ((c.tc : Thread Cert.RedFoIdeal.nD Cert.RedFoIdeal.τ).loc Cert.RedFoIdeal.main_v0_0)) (v1 : (c : Dev Cert.RedFoIdeal.nD) → Buf (Elt Ideal) ((c.tc : Thread Cert.RedFoIdeal.nD Cert.RedFoIdeal.τ).loc Cert.RedFoIdeal.main_v0_1)) (v2 : (c : Dev Cert.RedFoIdeal.nD) → Buf (Elt Ideal) ((c.tc : Thread Cert.RedFoIdeal.nD Cert.RedFoIdeal.τ).loc Cert.RedFoIdeal.main_v0_2)) (v3 : (c : Dev Cert.RedFoIdeal.nD) → Buf (Elt Ideal) ((c.tc : Thread Cert.RedFoIdeal.nD Cert.RedFoIdeal.τ).loc Cert.RedFoIdeal.main_v0_3)),
      θ_run (Cert.RedFoIdeal.defs (F := Ideal)) (onTc (τ := Cert.RedFoIdeal.τ) (Cert.RedFoIdeal.main (F := Ideal))) ⟨m, fun _ => 0, g⟩ (fun r => ∀ c : Dev Cert.RedFoIdeal.nD,
          r.2.mem ((c.tc : Thread Cert.RedFoIdeal.nD Cert.RedFoIdeal.τ).loc Cert.RedFoIdeal.main_v0_0) = v0 c
          ∧ r.2.mem ((c.tc : Thread Cert.RedFoIdeal.nD Cert.RedFoIdeal.τ).loc Cert.RedFoIdeal.main_v0_1) = v1 c
          ∧ r.2.mem ((c.tc : Thread Cert.RedFoIdeal.nD Cert.RedFoIdeal.τ).loc Cert.RedFoIdeal.main_v0_2) = v2 c
          ∧ r.2.mem ((c.tc : Thread Cert.RedFoIdeal.nD Cert.RedFoIdeal.τ).loc Cert.RedFoIdeal.main_v0_3) = v3 c
          ∧ r.2.mem ((c.tc : Thread Cert.RedFoIdeal.nD Cert.RedFoIdeal.τ).loc Cert.RedFoIdeal.main_arg0) = m ((c.tc : Thread Cert.RedFoIdeal.nD Cert.RedFoIdeal.τ).loc Cert.RedFoIdeal.main_arg0)
          ∧ r.2.mem ((c.tc : Thread Cert.RedFoIdeal.nD Cert.RedFoIdeal.τ).loc Cert.RedFoIdeal.main_arg1) = m ((c.tc : Thread Cert.RedFoIdeal.nD Cert.RedFoIdeal.τ).loc Cert.RedFoIdeal.main_arg1)
          ∧ r.2.mem ((c.tc : Thread Cert.RedFoIdeal.nD Cert.RedFoIdeal.τ).loc Cert.RedFoIdeal.main_arg2) = m ((c.tc : Thread Cert.RedFoIdeal.nD Cert.RedFoIdeal.τ).loc Cert.RedFoIdeal.main_arg2)
          ∧ r.2.mem ((c.tc : Thread Cert.RedFoIdeal.nD Cert.RedFoIdeal.τ).loc Cert.RedFoIdeal.main_arg3) = m ((c.tc : Thread Cert.RedFoIdeal.nD Cert.RedFoIdeal.τ).loc Cert.RedFoIdeal.main_arg3)
          ∧ r.2.mem ((c.tc : Thread Cert.RedFoIdeal.nD Cert.RedFoIdeal.τ).loc Cert.RedFoIdeal.main_arg4) = m ((c.tc : Thread Cert.RedFoIdeal.nD Cert.RedFoIdeal.τ).loc Cert.RedFoIdeal.main_arg4)
          ∧ r.2.mem ((c.tc : Thread Cert.RedFoIdeal.nD Cert.RedFoIdeal.τ).loc Cert.RedFoIdeal.main_arg5) = m ((c.tc : Thread Cert.RedFoIdeal.nD Cert.RedFoIdeal.τ).loc Cert.RedFoIdeal.main_arg5)
          ∧ r.2.mem ((c.tc : Thread Cert.RedFoIdeal.nD Cert.RedFoIdeal.τ).loc Cert.RedFoIdeal.main_arg6) = m ((c.tc : Thread Cert.RedFoIdeal.nD Cert.RedFoIdeal.τ).loc Cert.RedFoIdeal.main_arg6)
          ∧ r.2.mem ((c.tc : Thread Cert.RedFoIdeal.nD Cert.RedFoIdeal.τ).loc Cert.RedFoIdeal.main_arg7) = m ((c.tc : Thread Cert.RedFoIdeal.nD Cert.RedFoIdeal.τ).loc Cert.RedFoIdeal.main_arg7)
          ∧ r.2.mem ((c.tc : Thread Cert.RedFoIdeal.nD Cert.RedFoIdeal.τ).loc Cert.RedFoIdeal.main_arg8) = m ((c.tc : Thread Cert.RedFoIdeal.nD Cert.RedFoIdeal.τ).loc Cert.RedFoIdeal.main_arg8)
          ∧ r.2.mem ((c.tc : Thread Cert.RedFoIdeal.nD Cert.RedFoIdeal.τ).loc Cert.RedFoIdeal.main_arg9) = m ((c.tc : Thread Cert.RedFoIdeal.nD Cert.RedFoIdeal.τ).loc Cert.RedFoIdeal.main_arg9)
          ∧ r.2.mem ((c.tc : Thread Cert.RedFoIdeal.nD Cert.RedFoIdeal.τ).loc Cert.RedFoIdeal.main_arg10) = m ((c.tc : Thread Cert.RedFoIdeal.nD Cert.RedFoIdeal.τ).loc Cert.RedFoIdeal.main_arg10)
          ∧ r.2.mem ((c.tc : Thread Cert.RedFoIdeal.nD Cert.RedFoIdeal.τ).loc Cert.RedFoIdeal.main_arg11) = m ((c.tc : Thread Cert.RedFoIdeal.nD Cert.RedFoIdeal.τ).loc Cert.RedFoIdeal.main_arg11))
      ∧ θ_run (Cert.RedFoRefIdeal.defs (F := Ideal)) (onTc (τ := Cert.RedFoRefIdeal.τ) (Cert.RedFoRefIdeal.main (F := Ideal))) ⟨m', fun _ => 0, g'⟩ (fun r => ∀ c : Dev Cert.RedFoRefIdeal.nD,
          r.2.mem ((c.tc : Thread Cert.RedFoRefIdeal.nD Cert.RedFoRefIdeal.τ).loc Cert.RedFoRefIdeal.main_v28) = v0 c
          ∧ r.2.mem ((c.tc : Thread Cert.RedFoRefIdeal.nD Cert.RedFoRefIdeal.τ).loc Cert.RedFoRefIdeal.main_v52) = v1 c
          ∧ r.2.mem ((c.tc : Thread Cert.RedFoRefIdeal.nD Cert.RedFoRefIdeal.τ).loc Cert.RedFoRefIdeal.main_v33) = v2 c
          ∧ r.2.mem ((c.tc : Thread Cert.RedFoRefIdeal.nD Cert.RedFoRefIdeal.τ).loc Cert.RedFoRefIdeal.main_v39) = v3 c
          ∧ r.2.mem ((c.tc : Thread Cert.RedFoRefIdeal.nD Cert.RedFoRefIdeal.τ).loc Cert.RedFoRefIdeal.main_arg0) = m' ((c.tc : Thread Cert.RedFoRefIdeal.nD Cert.RedFoRefIdeal.τ).loc Cert.RedFoRefIdeal.main_arg0)
          ∧ r.2.mem ((c.tc : Thread Cert.RedFoRefIdeal.nD Cert.RedFoRefIdeal.τ).loc Cert.RedFoRefIdeal.main_arg1) = m' ((c.tc : Thread Cert.RedFoRefIdeal.nD Cert.RedFoRefIdeal.τ).loc Cert.RedFoRefIdeal.main_arg1)
          ∧ r.2.mem ((c.tc : Thread Cert.RedFoRefIdeal.nD Cert.RedFoRefIdeal.τ).loc Cert.RedFoRefIdeal.main_arg2) = m' ((c.tc : Thread Cert.RedFoRefIdeal.nD Cert.RedFoRefIdeal.τ).loc Cert.RedFoRefIdeal.main_arg2)
          ∧ r.2.mem ((c.tc : Thread Cert.RedFoRefIdeal.nD Cert.RedFoRefIdeal.τ).loc Cert.RedFoRefIdeal.main_arg3) = m' ((c.tc : Thread Cert.RedFoRefIdeal.nD Cert.RedFoRefIdeal.τ).loc Cert.RedFoRefIdeal.main_arg3)
          ∧ r.2.mem ((c.tc : Thread Cert.RedFoRefIdeal.nD Cert.RedFoRefIdeal.τ).loc Cert.RedFoRefIdeal.main_arg4) = m' ((c.tc : Thread Cert.RedFoRefIdeal.nD Cert.RedFoRefIdeal.τ).loc Cert.RedFoRefIdeal.main_arg4)
          ∧ r.2.mem ((c.tc : Thread Cert.RedFoRefIdeal.nD Cert.RedFoRefIdeal.τ).loc Cert.RedFoRefIdeal.main_arg5) = m' ((c.tc : Thread Cert.RedFoRefIdeal.nD Cert.RedFoRefIdeal.τ).loc Cert.RedFoRefIdeal.main_arg5)
          ∧ r.2.mem ((c.tc : Thread Cert.RedFoRefIdeal.nD Cert.RedFoRefIdeal.τ).loc Cert.RedFoRefIdeal.main_arg6) = m' ((c.tc : Thread Cert.RedFoRefIdeal.nD Cert.RedFoRefIdeal.τ).loc Cert.RedFoRefIdeal.main_arg6)
          ∧ r.2.mem ((c.tc : Thread Cert.RedFoRefIdeal.nD Cert.RedFoRefIdeal.τ).loc Cert.RedFoRefIdeal.main_arg7) = m' ((c.tc : Thread Cert.RedFoRefIdeal.nD Cert.RedFoRefIdeal.τ).loc Cert.RedFoRefIdeal.main_arg7)
          ∧ r.2.mem ((c.tc : Thread Cert.RedFoRefIdeal.nD Cert.RedFoRefIdeal.τ).loc Cert.RedFoRefIdeal.main_arg8) = m' ((c.tc : Thread Cert.RedFoRefIdeal.nD Cert.RedFoRefIdeal.τ).loc Cert.RedFoRefIdeal.main_arg8)
          ∧ r.2.mem ((c.tc : Thread Cert.RedFoRefIdeal.nD Cert.RedFoRefIdeal.τ).loc Cert.RedFoRefIdeal.main_arg9) = m' ((c.tc : Thread Cert.RedFoRefIdeal.nD Cert.RedFoRefIdeal.τ).loc Cert.RedFoRefIdeal.main_arg9)
          ∧ r.2.mem ((c.tc : Thread Cert.RedFoRefIdeal.nD Cert.RedFoRefIdeal.τ).loc Cert.RedFoRefIdeal.main_arg10) = m' ((c.tc : Thread Cert.RedFoRefIdeal.nD Cert.RedFoRefIdeal.τ).loc Cert.RedFoRefIdeal.main_arg10)
          ∧ r.2.mem ((c.tc : Thread Cert.RedFoRefIdeal.nD Cert.RedFoRefIdeal.τ).loc Cert.RedFoRefIdeal.main_arg11) = m' ((c.tc : Thread Cert.RedFoRefIdeal.nD Cert.RedFoRefIdeal.τ).loc Cert.RedFoRefIdeal.main_arg11))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SSum_SSumIdeal : Prop :=
  True

def algebraic_SSumIdeal_SSumRefIdeal [hSSumIdeal : Cert.SSumIdeal.Facts] [hSSumRefIdeal : Cert.SSumRefIdeal.Facts] : Prop :=
  ∀ (m : (ℓ : Loc Cert.SSumIdeal.nD Cert.SSumIdeal.τ Cert.SSumIdeal.sig) → Buf (Elt Ideal) ℓ) (g : Dev Cert.SSumIdeal.nD → PrngReg)
    (m' : (ℓ : Loc Cert.SSumRefIdeal.nD Cert.SSumRefIdeal.τ Cert.SSumRefIdeal.sig) → Buf (Elt Ideal) ℓ) (g' : Dev Cert.SSumRefIdeal.nD → PrngReg), Pre_SSumIdeal m →
    (∀ c : Dev Cert.SSumIdeal.nD,
      m' ((c.tc : Thread Cert.SSumRefIdeal.nD Cert.SSumRefIdeal.τ).loc Cert.SSumRefIdeal.main_arg0) = m ((c.tc : Thread Cert.SSumIdeal.nD Cert.SSumIdeal.τ).loc Cert.SSumIdeal.main_arg0)) →
    ∃ (v0 : (c : Dev Cert.SSumIdeal.nD) → Buf (Elt Ideal) ((c.tc : Thread Cert.SSumIdeal.nD Cert.SSumIdeal.τ).loc Cert.SSumIdeal.main_v0)),
      θ_run (Cert.SSumIdeal.defs (F := Ideal)) (onTc (τ := Cert.SSumIdeal.τ) (Cert.SSumIdeal.main (F := Ideal))) ⟨m, fun _ => 0, g⟩ (fun r => ∀ c : Dev Cert.SSumIdeal.nD,
          r.2.mem ((c.tc : Thread Cert.SSumIdeal.nD Cert.SSumIdeal.τ).loc Cert.SSumIdeal.main_v0) = v0 c
          ∧ r.2.mem ((c.tc : Thread Cert.SSumIdeal.nD Cert.SSumIdeal.τ).loc Cert.SSumIdeal.main_arg0) = m ((c.tc : Thread Cert.SSumIdeal.nD Cert.SSumIdeal.τ).loc Cert.SSumIdeal.main_arg0))
      ∧ θ_run (Cert.SSumRefIdeal.defs (F := Ideal)) (onTc (τ := Cert.SSumRefIdeal.τ) (Cert.SSumRefIdeal.main (F := Ideal))) ⟨m', fun _ => 0, g'⟩ (fun r => ∀ c : Dev Cert.SSumRefIdeal.nD,
          r.2.mem ((c.tc : Thread Cert.SSumRefIdeal.nD Cert.SSumRefIdeal.τ).loc Cert.SSumRefIdeal.main_v0) = v0 c
          ∧ r.2.mem ((c.tc : Thread Cert.SSumRefIdeal.nD Cert.SSumRefIdeal.τ).loc Cert.SSumRefIdeal.main_arg0) = m' ((c.tc : Thread Cert.SSumRefIdeal.nD Cert.SSumRefIdeal.τ).loc Cert.SSumRefIdeal.main_arg0))

def Claim : Prop :=
  ∃ (hKernel : Cert.Kernel.Facts) (hKernelIdeal : Cert.KernelIdeal.Facts) (hInB : Cert.InB.Facts) (hInBIdeal : Cert.InBIdeal.Facts) (hInBRefIdeal : Cert.InBRefIdeal.Facts) (hFIn : Cert.FIn.Facts) (hFInIdeal : Cert.FInIdeal.Facts) (hFInRefIdeal : Cert.FInRefIdeal.Facts) (hFOut : Cert.FOut.Facts) (hFOutIdeal : Cert.FOutIdeal.Facts) (hFOutRefIdeal : Cert.FOutRefIdeal.Facts) (hDWin : Cert.DWin.Facts) (hDWinIdeal : Cert.DWinIdeal.Facts) (hDWinRefIdeal : Cert.DWinRefIdeal.Facts) (hDWout : Cert.DWout.Facts) (hDWoutIdeal : Cert.DWoutIdeal.Facts) (hDWoutRefIdeal : Cert.DWoutRefIdeal.Facts) (hAtInB : Cert.AtInB.Facts) (hAtInBIdeal : Cert.AtInBIdeal.Facts) (hAtInBRefIdeal : Cert.AtInBRefIdeal.Facts) (hMlInB : Cert.MlInB.Facts) (hMlInBIdeal : Cert.MlInBIdeal.Facts) (hMlInBRefIdeal : Cert.MlInBRefIdeal.Facts) (hAtDWin : Cert.AtDWin.Facts) (hAtDWinIdeal : Cert.AtDWinIdeal.Facts) (hAtDWinRefIdeal : Cert.AtDWinRefIdeal.Facts) (hMlDWin : Cert.MlDWin.Facts) (hMlDWinIdeal : Cert.MlDWinIdeal.Facts) (hMlDWinRefIdeal : Cert.MlDWinRefIdeal.Facts) (hMxDWout : Cert.MxDWout.Facts) (hMxDWoutIdeal : Cert.MxDWoutIdeal.Facts) (hMxDWoutRefIdeal : Cert.MxDWoutRefIdeal.Facts) (hMxOut : Cert.MxOut.Facts) (hMxOutIdeal : Cert.MxOutIdeal.Facts) (hMxOutRefIdeal : Cert.MxOutRefIdeal.Facts) (hAdamW : Cert.AdamW.Facts) (hAdamWIdeal : Cert.AdamWIdeal.Facts) (hAdamWRefIdeal : Cert.AdamWRefIdeal.Facts) (hAdaB : Cert.AdaB.Facts) (hAdaBIdeal : Cert.AdaBIdeal.Facts) (hAdaBRefIdeal : Cert.AdaBRefIdeal.Facts) (hAdamB : Cert.AdamB.Facts) (hAdamBIdeal : Cert.AdamBIdeal.Facts) (hAdamBRefIdeal : Cert.AdamBRefIdeal.Facts) (hAdamL : Cert.AdamL.Facts) (hAdamLIdeal : Cert.AdamLIdeal.Facts) (hAdamLRefIdeal : Cert.AdamLRefIdeal.Facts) (hAdamG : Cert.AdamG.Facts) (hAdamGIdeal : Cert.AdamGIdeal.Facts) (hAdamGRefIdeal : Cert.AdamGRefIdeal.Facts) (hAdamC : Cert.AdamC.Facts) (hAdamCIdeal : Cert.AdamCIdeal.Facts) (hAdamCRefIdeal : Cert.AdamCRefIdeal.Facts) (hAdamH : Cert.AdamH.Facts) (hAdamHIdeal : Cert.AdamHIdeal.Facts) (hAdamHRefIdeal : Cert.AdamHRefIdeal.Facts) (hRedO : Cert.RedO.Facts) (hRedOIdeal : Cert.RedOIdeal.Facts) (hRedORefIdeal : Cert.RedORefIdeal.Facts) (hRedM : Cert.RedM.Facts) (hRedMIdeal : Cert.RedMIdeal.Facts) (hRedMRefIdeal : Cert.RedMRefIdeal.Facts) (hRedA : Cert.RedA.Facts) (hRedAIdeal : Cert.RedAIdeal.Facts) (hRedARefIdeal : Cert.RedARefIdeal.Facts) (hRedFi : Cert.RedFi.Facts) (hRedFiIdeal : Cert.RedFiIdeal.Facts) (hRedFiRefIdeal : Cert.RedFiRefIdeal.Facts) (hRedFo : Cert.RedFo.Facts) (hRedFoIdeal : Cert.RedFoIdeal.Facts) (hRedFoRefIdeal : Cert.RedFoRefIdeal.Facts) (hLoss : Cert.Loss.Facts) (hLossIdeal : Cert.LossIdeal.Facts) (hLossRefIdeal : Cert.LossRefIdeal.Facts) (hSSum : Cert.SSum.Facts) (hSSumIdeal : Cert.SSumIdeal.Facts) (hSSumRefIdeal : Cert.SSumRefIdeal.Facts),
    quiescent_Kernel (hKernel := hKernel)
    ∧ quiescent_KernelIdeal (hKernelIdeal := hKernelIdeal)
    ∧ quiescent_InB (hInB := hInB)
    ∧ quiescent_InBIdeal (hInBIdeal := hInBIdeal)
    ∧ quiescent_InBRefIdeal (hInBRefIdeal := hInBRefIdeal)
    ∧ quiescent_FIn (hFIn := hFIn)
    ∧ quiescent_FInIdeal (hFInIdeal := hFInIdeal)
    ∧ quiescent_FInRefIdeal (hFInRefIdeal := hFInRefIdeal)
    ∧ quiescent_FOut (hFOut := hFOut)
    ∧ quiescent_FOutIdeal (hFOutIdeal := hFOutIdeal)
    ∧ quiescent_FOutRefIdeal (hFOutRefIdeal := hFOutRefIdeal)
    ∧ quiescent_DWin (hDWin := hDWin)
    ∧ quiescent_DWinIdeal (hDWinIdeal := hDWinIdeal)
    ∧ quiescent_DWinRefIdeal (hDWinRefIdeal := hDWinRefIdeal)
    ∧ quiescent_DWout (hDWout := hDWout)
    ∧ quiescent_DWoutIdeal (hDWoutIdeal := hDWoutIdeal)
    ∧ quiescent_DWoutRefIdeal (hDWoutRefIdeal := hDWoutRefIdeal)
    ∧ quiescent_AtInB (hAtInB := hAtInB)
    ∧ quiescent_AtInBIdeal (hAtInBIdeal := hAtInBIdeal)
    ∧ quiescent_AtInBRefIdeal (hAtInBRefIdeal := hAtInBRefIdeal)
    ∧ quiescent_MlInB (hMlInB := hMlInB)
    ∧ quiescent_MlInBIdeal (hMlInBIdeal := hMlInBIdeal)
    ∧ quiescent_MlInBRefIdeal (hMlInBRefIdeal := hMlInBRefIdeal)
    ∧ quiescent_AtDWin (hAtDWin := hAtDWin)
    ∧ quiescent_AtDWinIdeal (hAtDWinIdeal := hAtDWinIdeal)
    ∧ quiescent_AtDWinRefIdeal (hAtDWinRefIdeal := hAtDWinRefIdeal)
    ∧ quiescent_MlDWin (hMlDWin := hMlDWin)
    ∧ quiescent_MlDWinIdeal (hMlDWinIdeal := hMlDWinIdeal)
    ∧ quiescent_MlDWinRefIdeal (hMlDWinRefIdeal := hMlDWinRefIdeal)
    ∧ quiescent_MxDWout (hMxDWout := hMxDWout)
    ∧ quiescent_MxDWoutIdeal (hMxDWoutIdeal := hMxDWoutIdeal)
    ∧ quiescent_MxDWoutRefIdeal (hMxDWoutRefIdeal := hMxDWoutRefIdeal)
    ∧ quiescent_MxOut (hMxOut := hMxOut)
    ∧ quiescent_MxOutIdeal (hMxOutIdeal := hMxOutIdeal)
    ∧ quiescent_MxOutRefIdeal (hMxOutRefIdeal := hMxOutRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AdaB (hAdaB := hAdaB)
    ∧ quiescent_AdaBIdeal (hAdaBIdeal := hAdaBIdeal)
    ∧ quiescent_AdaBRefIdeal (hAdaBRefIdeal := hAdaBRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamL (hAdamL := hAdamL)
    ∧ quiescent_AdamLIdeal (hAdamLIdeal := hAdamLIdeal)
    ∧ quiescent_AdamLRefIdeal (hAdamLRefIdeal := hAdamLRefIdeal)
    ∧ quiescent_AdamG (hAdamG := hAdamG)
    ∧ quiescent_AdamGIdeal (hAdamGIdeal := hAdamGIdeal)
    ∧ quiescent_AdamGRefIdeal (hAdamGRefIdeal := hAdamGRefIdeal)
    ∧ quiescent_AdamC (hAdamC := hAdamC)
    ∧ quiescent_AdamCIdeal (hAdamCIdeal := hAdamCIdeal)
    ∧ quiescent_AdamCRefIdeal (hAdamCRefIdeal := hAdamCRefIdeal)
    ∧ quiescent_AdamH (hAdamH := hAdamH)
    ∧ quiescent_AdamHIdeal (hAdamHIdeal := hAdamHIdeal)
    ∧ quiescent_AdamHRefIdeal (hAdamHRefIdeal := hAdamHRefIdeal)
    ∧ quiescent_RedO (hRedO := hRedO)
    ∧ quiescent_RedOIdeal (hRedOIdeal := hRedOIdeal)
    ∧ quiescent_RedORefIdeal (hRedORefIdeal := hRedORefIdeal)
    ∧ quiescent_RedM (hRedM := hRedM)
    ∧ quiescent_RedMIdeal (hRedMIdeal := hRedMIdeal)
    ∧ quiescent_RedMRefIdeal (hRedMRefIdeal := hRedMRefIdeal)
    ∧ quiescent_RedA (hRedA := hRedA)
    ∧ quiescent_RedAIdeal (hRedAIdeal := hRedAIdeal)
    ∧ quiescent_RedARefIdeal (hRedARefIdeal := hRedARefIdeal)
    ∧ quiescent_RedFi (hRedFi := hRedFi)
    ∧ quiescent_RedFiIdeal (hRedFiIdeal := hRedFiIdeal)
    ∧ quiescent_RedFiRefIdeal (hRedFiRefIdeal := hRedFiRefIdeal)
    ∧ quiescent_RedFo (hRedFo := hRedFo)
    ∧ quiescent_RedFoIdeal (hRedFoIdeal := hRedFoIdeal)
    ∧ quiescent_RedFoRefIdeal (hRedFoRefIdeal := hRedFoRefIdeal)
    ∧ quiescent_Loss (hLoss := hLoss)
    ∧ quiescent_LossIdeal (hLossIdeal := hLossIdeal)
    ∧ quiescent_LossRefIdeal (hLossRefIdeal := hLossRefIdeal)
    ∧ quiescent_SSum (hSSum := hSSum)
    ∧ quiescent_SSumIdeal (hSSumIdeal := hSSumIdeal)
    ∧ quiescent_SSumRefIdeal (hSSumRefIdeal := hSSumRefIdeal)
    ∧ preserves_Kernel_KernelIdeal
    ∧ preserves_InB_InBIdeal
    ∧ algebraic_InBIdeal_InBRefIdeal (hInBIdeal := hInBIdeal) (hInBRefIdeal := hInBRefIdeal)
    ∧ preserves_FIn_FInIdeal
    ∧ algebraic_FInIdeal_FInRefIdeal (hFInIdeal := hFInIdeal) (hFInRefIdeal := hFInRefIdeal)
    ∧ preserves_FOut_FOutIdeal
    ∧ algebraic_FOutIdeal_FOutRefIdeal (hFOutIdeal := hFOutIdeal) (hFOutRefIdeal := hFOutRefIdeal)
    ∧ preserves_DWin_DWinIdeal
    ∧ algebraic_DWinIdeal_DWinRefIdeal (hDWinIdeal := hDWinIdeal) (hDWinRefIdeal := hDWinRefIdeal)
    ∧ preserves_DWout_DWoutIdeal
    ∧ algebraic_DWoutIdeal_DWoutRefIdeal (hDWoutIdeal := hDWoutIdeal) (hDWoutRefIdeal := hDWoutRefIdeal)
    ∧ preserves_AtInB_AtInBIdeal
    ∧ algebraic_AtInBIdeal_AtInBRefIdeal (hAtInBIdeal := hAtInBIdeal) (hAtInBRefIdeal := hAtInBRefIdeal)
    ∧ preserves_MlInB_MlInBIdeal
    ∧ algebraic_MlInBIdeal_MlInBRefIdeal (hMlInBIdeal := hMlInBIdeal) (hMlInBRefIdeal := hMlInBRefIdeal)
    ∧ preserves_AtDWin_AtDWinIdeal
    ∧ algebraic_AtDWinIdeal_AtDWinRefIdeal (hAtDWinIdeal := hAtDWinIdeal) (hAtDWinRefIdeal := hAtDWinRefIdeal)
    ∧ preserves_MlDWin_MlDWinIdeal
    ∧ algebraic_MlDWinIdeal_MlDWinRefIdeal (hMlDWinIdeal := hMlDWinIdeal) (hMlDWinRefIdeal := hMlDWinRefIdeal)
    ∧ preserves_MxDWout_MxDWoutIdeal
    ∧ algebraic_MxDWoutIdeal_MxDWoutRefIdeal (hMxDWoutIdeal := hMxDWoutIdeal) (hMxDWoutRefIdeal := hMxDWoutRefIdeal)
    ∧ preserves_MxOut_MxOutIdeal
    ∧ algebraic_MxOutIdeal_MxOutRefIdeal (hMxOutIdeal := hMxOutIdeal) (hMxOutRefIdeal := hMxOutRefIdeal)
    ∧ preserves_AdamW_AdamWIdeal
    ∧ algebraic_AdamWIdeal_AdamWRefIdeal (hAdamWIdeal := hAdamWIdeal) (hAdamWRefIdeal := hAdamWRefIdeal)
    ∧ preserves_AdaB_AdaBIdeal
    ∧ algebraic_AdaBIdeal_AdaBRefIdeal (hAdaBIdeal := hAdaBIdeal) (hAdaBRefIdeal := hAdaBRefIdeal)
    ∧ preserves_AdamB_AdamBIdeal
    ∧ algebraic_AdamBIdeal_AdamBRefIdeal (hAdamBIdeal := hAdamBIdeal) (hAdamBRefIdeal := hAdamBRefIdeal)
    ∧ preserves_AdamL_AdamLIdeal
    ∧ algebraic_AdamLIdeal_AdamLRefIdeal (hAdamLIdeal := hAdamLIdeal) (hAdamLRefIdeal := hAdamLRefIdeal)
    ∧ preserves_AdamG_AdamGIdeal
    ∧ algebraic_AdamGIdeal_AdamGRefIdeal (hAdamGIdeal := hAdamGIdeal) (hAdamGRefIdeal := hAdamGRefIdeal)
    ∧ preserves_AdamC_AdamCIdeal
    ∧ algebraic_AdamCIdeal_AdamCRefIdeal (hAdamCIdeal := hAdamCIdeal) (hAdamCRefIdeal := hAdamCRefIdeal)
    ∧ preserves_AdamH_AdamHIdeal
    ∧ algebraic_AdamHIdeal_AdamHRefIdeal (hAdamHIdeal := hAdamHIdeal) (hAdamHRefIdeal := hAdamHRefIdeal)
    ∧ preserves_RedO_RedOIdeal
    ∧ algebraic_RedOIdeal_RedORefIdeal (hRedOIdeal := hRedOIdeal) (hRedORefIdeal := hRedORefIdeal)
    ∧ preserves_RedM_RedMIdeal
    ∧ algebraic_RedMIdeal_RedMRefIdeal (hRedMIdeal := hRedMIdeal) (hRedMRefIdeal := hRedMRefIdeal)
    ∧ preserves_RedA_RedAIdeal
    ∧ algebraic_RedAIdeal_RedARefIdeal (hRedAIdeal := hRedAIdeal) (hRedARefIdeal := hRedARefIdeal)
    ∧ preserves_RedFi_RedFiIdeal
    ∧ algebraic_RedFiIdeal_RedFiRefIdeal (hRedFiIdeal := hRedFiIdeal) (hRedFiRefIdeal := hRedFiRefIdeal)
    ∧ preserves_RedFo_RedFoIdeal
    ∧ algebraic_RedFoIdeal_RedFoRefIdeal (hRedFoIdeal := hRedFoIdeal) (hRedFoRefIdeal := hRedFoRefIdeal)
    ∧ preserves_Loss_LossIdeal
    ∧ algebraic_LossIdeal_LossRefIdeal (hLossIdeal := hLossIdeal) (hLossRefIdeal := hLossRefIdeal)
    ∧ preserves_SSum_SSumIdeal
    ∧ algebraic_SSumIdeal_SSumRefIdeal (hSSumIdeal := hSSumIdeal) (hSSumRefIdeal := hSSumRefIdeal)
-- ==== Kernel.lean ====
abbrev S8192x9216 : Shape := ⟨2, ![8192, 9216]⟩
abbrev S8192x1024 : Shape := ⟨2, ![8192, 1024]⟩
abbrev S2x4096x8x128 : Shape := ⟨4, ![2, 4096, 8, 128]⟩
abbrev S2x4096x8 : Shape := ⟨3, ![2, 4096, 8]⟩
abbrev S2x4096x3x3x8x128 : Shape := ⟨6, ![2, 4096, 3, 3, 8, 128]⟩
abbrev S2x4096x1x1x8x128 : Shape := ⟨6, ![2, 4096, 1, 1, 8, 128]⟩
abbrev S_ : Shape := ⟨0, ![]⟩
abbrev S2x4096x1x8x128 : Shape := ⟨5, ![2, 4096, 1, 8, 128]⟩
abbrev S2x1x4096x8x128 : Shape := ⟨5, ![2, 1, 4096, 8, 128]⟩
abbrev S2x1x32x128x8x128 : Shape := ⟨6, ![2, 1, 32, 128, 8, 128]⟩
abbrev S2x1x1x128x8x128 : Shape := ⟨6, ![2, 1, 1, 128, 8, 128]⟩
abbrev S2x1x31x128x8x128 : Shape := ⟨6, ![2, 1, 31, 128, 8, 128]⟩
abbrev S2x1x32x256x8x128 : Shape := ⟨6, ![2, 1, 32, 256, 8, 128]⟩
abbrev S2x1x32x8x128x256 : Shape := ⟨6, ![2, 1, 32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x128x256 : Shape := ⟨4, ![32, 1, 128, 256]⟩
abbrev S2x1x32x8x128 : Shape := ⟨5, ![2, 1, 32, 8, 128]⟩
abbrev S2x1x32x8x128x1 : Shape := ⟨6, ![2, 1, 32, 8, 128, 1]⟩
abbrev S2x1x32x8x128x128 : Shape := ⟨6, ![2, 1, 32, 8, 128, 128]⟩
abbrev S2x1x32x128x8 : Shape := ⟨5, ![2, 1, 32, 128, 8]⟩
abbrev S2x1x32x128x8x1 : Shape := ⟨6, ![2, 1, 32, 128, 8, 1]⟩
abbrev S2x1x4096x8 : Shape := ⟨4, ![2, 1, 4096, 8]⟩
abbrev S2x4096x1x8 : Shape := ⟨4, ![2, 4096, 1, 8]⟩
abbrev S2x4096x8x1 : Shape := ⟨4, ![2, 4096, 8, 1]⟩
abbrev S2x4096x9216 : Shape := ⟨3, ![2, 4096, 9216]⟩
abbrev S2x4096x1024 : Shape := ⟨3, ![2, 4096, 1024]⟩
abbrev S1x4096x128 : Shape := ⟨3, ![1, 4096, 128]⟩
abbrev S4096x128 : Shape := ⟨2, ![4096, 128]⟩
abbrev S128x128 : Shape := ⟨2, ![128, 128]⟩
abbrev S4096 : Shape := ⟨1, ![4096]⟩
abbrev S4096x1 : Shape := ⟨2, ![4096, 1]⟩

abbrev nBuf : Space → Nat
  | .hbm => 143
  | .vmem => 28
  | .smem => 0
  | _ => 0

abbrev hbmTy0_0 (i : Nat) : BufTy := match i % 128 with
  | 0 => ⟨S8192x9216, .bf16⟩
  | 1 => ⟨S8192x1024, .bf16⟩
  | 2 => ⟨S2x4096x8x128, .f32⟩
  | 3 => ⟨S2x4096x8, .f32⟩
  | 4 => ⟨S2x4096x8x128, .f32⟩
  | 5 => ⟨S2x4096x8, .f32⟩
  | 6 => ⟨S8192x9216, .f32⟩
  | 7 => ⟨S2x4096x3x3x8x128, .f32⟩
  | 8 => ⟨S2x4096x1x1x8x128, .f32⟩
  | 9 => ⟨S2x4096x8x128, .f32⟩
  | 10 => ⟨S2x4096x1x1x8x128, .f32⟩
  | 11 => ⟨S2x4096x8x128, .f32⟩
  | 12 => ⟨S2x4096x1x1x8x128, .f32⟩
  | 13 => ⟨S2x4096x8x128, .f32⟩
  | 14 => ⟨S_, .i32⟩
  | 15 => ⟨S_, .f32⟩
  | 16 => ⟨S2x4096x8x128, .f32⟩
  | 17 => ⟨S2x4096x1x8x128, .f32⟩
  | 18 => ⟨S2x1x4096x8x128, .f32⟩
  | 19 => ⟨S2x1x32x128x8x128, .f32⟩
  | 20 => ⟨S_, .i32⟩
  | 21 => ⟨S_, .f32⟩
  | 22 => ⟨S2x4096x8x128, .f32⟩
  | 23 => ⟨S2x4096x1x8x128, .f32⟩
  | 24 => ⟨S2x1x4096x8x128, .f32⟩
  | 25 => ⟨S2x1x32x128x8x128, .f32⟩
  | 26 => ⟨S2x1x1x128x8x128, .f32⟩
  | 27 => ⟨S_, .f32⟩
  | 28 => ⟨S2x1x1x128x8x128, .f32⟩
  | 29 => ⟨S2x1x31x128x8x128, .f32⟩
  | 30 => ⟨S2x1x32x128x8x128, .f32⟩
  | 31 => ⟨S2x1x32x256x8x128, .f32⟩
  | 32 => ⟨S_, .i32⟩
  | 33 => ⟨S_, .f32⟩
  | 34 => ⟨S2x4096x8x128, .f32⟩
  | 35 => ⟨S2x4096x1x8x128, .f32⟩
  | 36 => ⟨S2x1x4096x8x128, .f32⟩
  | 37 => ⟨S2x1x32x128x8x128, .f32⟩
  | 38 => ⟨S2x1x1x128x8x128, .f32⟩
  | 39 => ⟨S_, .f32⟩
  | 40 => ⟨S2x1x1x128x8x128, .f32⟩
  | 41 => ⟨S2x1x31x128x8x128, .f32⟩
  | 42 => ⟨S2x1x32x128x8x128, .f32⟩
  | 43 => ⟨S2x1x32x256x8x128, .f32⟩
  | 44 => ⟨S2x1x32x8x128x256, .f32⟩
  | 45 => ⟨S_, .f32⟩
  | 46 => ⟨S2x1x32x8x128x256, .f32⟩
  | 47 => ⟨S2x1x32x8x128x256, .f32⟩
  | 48 => ⟨S128, .i32⟩
  | 49 => ⟨S128x1, .i32⟩
  | 50 => ⟨S256, .i32⟩
  | 51 => ⟨S1x256, .i32⟩
  | 52 => ⟨S128x256, .i32⟩
  | 53 => ⟨S128x256, .i32⟩
  | 54 => ⟨S128x256, .i1⟩
  | 55 => ⟨S_, .i32⟩
  | 56 => ⟨S128x1, .i32⟩
  | 57 => ⟨S128x1, .i32⟩
  | 58 => ⟨S128x256, .i32⟩
  | 59 => ⟨S128x256, .i32⟩
  | 60 => ⟨S128x256, .i1⟩
  | 61 => ⟨S128x256, .i1⟩
  | 62 => ⟨S32, .i32⟩
  | 63 => ⟨S_, .i32⟩
  | 64 => ⟨S32, .i32⟩
  | 65 => ⟨S32, .i1⟩
  | 66 => ⟨S32x1x1, .i1⟩
  | 67 => ⟨S_, .i32⟩
  | 68 => ⟨S1x256, .i32⟩
  | 69 => ⟨S1x256, .i1⟩
  | 70 => ⟨S1x1x256, .i1⟩
  | 71 => ⟨S32x1x256, .i1⟩
  | 72 => ⟨S32x1x256, .i1⟩
  | 73 => ⟨S32x1x256, .i1⟩
  | 74 => ⟨S1x128x256, .i1⟩
  | 75 => ⟨S32x128x256, .i1⟩
  | 76 => ⟨S32x128x256, .i1⟩
  | 77 => ⟨S32x128x256, .i1⟩
  | 78 => ⟨S32x1x128x256, .i1⟩
  | 79 => ⟨S_, .f32⟩
  | 80 => ⟨S_, .f32⟩
  | 81 => ⟨S2x1x32x8x128x256, .i1⟩
  | 82 => ⟨S2x1x32x8x128x256, .f32⟩
  | 83 => ⟨S2x1x32x8x128x256, .f32⟩
  | 84 => ⟨S_, .f32⟩
  | 85 => ⟨S2x1x32x8x128, .f32⟩
  | 86 => ⟨S2x1x32x8x128x1, .f32⟩
  | 87 => ⟨S2x1x32x8x128x256, .f32⟩
  | 88 => ⟨S2x1x32x8x128x256, .f32⟩
  | 89 => ⟨S2x1x32x8x128x256, .f32⟩
  | 90 => ⟨S_, .f32⟩
  | 91 => ⟨S2x1x32x8x128, .f32⟩
  | 92 => ⟨S2x1x32x8x128x128, .f32⟩
  | 93 => ⟨S2x1x32x128x8x128, .f32⟩
  | 94 => ⟨S2x1x32x128x8, .f32⟩
  | 95 => ⟨S2x1x32x128x8x1, .f32⟩
  | 96 => ⟨S2x1x32x128x8x128, .f32⟩
  | 97 => ⟨S2x1x32x128x8x128, .f32⟩
  | 98 => ⟨S2x1x32x8x128, .f32⟩
  | 99 => ⟨S2x1x32x8x128, .f32⟩
  | 100 => ⟨S2x1x32x8x128, .f32⟩
  | 101 => ⟨S2x1x32x128x8, .f32⟩
  | 102 => ⟨S2x1x4096x8x128, .f32⟩
  | 103 => ⟨S2x4096x1x8x128, .f32⟩
  | 104 => ⟨S2x4096x8x128, .f32⟩
  | 105 => ⟨S2x1x4096x8, .f32⟩
  | 106 => ⟨S2x4096x1x8, .f32⟩
  | 107 => ⟨S2x4096x8, .f32⟩
  | 108 => ⟨S2x4096x8, .f32⟩
  | 109 => ⟨S2x4096x8, .f32⟩
  | 110 => ⟨S2x4096x8, .f32⟩
  | 111 => ⟨S2x4096x8, .f32⟩
  | 112 => ⟨S2x4096x8, .f32⟩
  | 113 => ⟨S2x4096x8, .f32⟩
  | 114 => ⟨S2x4096x8, .f32⟩
  | 115 => ⟨S2x4096x8, .f32⟩
  | 116 => ⟨S2x4096x8, .f32⟩
  | 117 => ⟨S2x4096x8, .f32⟩
  | 118 => ⟨S2x4096x8x1, .f32⟩
  | 119 => ⟨S2x4096x8x128, .f32⟩
  | 120 => ⟨S2x4096x8x128, .f32⟩
  | 121 => ⟨S2x4096x8x1, .f32⟩
  | 122 => ⟨S2x4096x8x128, .f32⟩
  | 123 => ⟨S2x4096x8x128, .f32⟩
  | 124 => ⟨S2x4096x8x128, .f32⟩
  | 125 => ⟨S2x4096x8x1, .f32⟩
  | 126 => ⟨S2x4096x8x128, .f32⟩
  | 127 => ⟨S2x4096x8x128, .f32⟩
  | _ => ⟨S8192x9216, .bf16⟩

abbrev hbmTy0_1 (i : Nat) : BufTy := match i % 128 with
  | 0 => ⟨S2x4096x8x128, .f32⟩
  | 1 => ⟨S2x4096x8x1, .f32⟩
  | 2 => ⟨S2x4096x8x128, .f32⟩
  | 3 => ⟨S2x4096x8x128, .f32⟩
  | 4 => ⟨S2x4096x8, .f32⟩
  | 5 => ⟨S2x4096x8, .f32⟩
  | 6 => ⟨S2x4096x8x1, .f32⟩
  | 7 => ⟨S2x4096x8x128, .f32⟩
  | 8 => ⟨S2x4096x9216, .bf16⟩
  | 9 => ⟨S2x4096x1024, .bf16⟩
  | 10 => ⟨S2x4096x1024, .f32⟩
  | 11 => ⟨S2x4096x1024, .f32⟩
  | 12 => ⟨S2x4096x1024, .bf16⟩
  | 13 => ⟨S2x4096x1024, .bf16⟩
  | 14 => ⟨S2x4096x1024, .bf16⟩
  | _ => ⟨S8192x9216, .bf16⟩

abbrev hbmTy (i : Nat) : BufTy := match i / 128 with
  | 0 => hbmTy0_0 i
  | 1 => hbmTy0_1 i
  | _ => ⟨S8192x9216, .bf16⟩

abbrev bufTy : (tb : Table) → Fin (tcTables nBuf tb) → BufTy
  | .hbm, ⟨i, _⟩ => hbmTy i
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .bf16⟩
  | .local _ .vmem, ⟨13, _⟩ => ⟨S1x4096x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S4096x128, .f32⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S4096x128, .bf16⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_call2_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116_0 : Ref sig .tc := ⟨.hbm, 140, rfl⟩
abbrev main_v116_1 : Ref sig .tc := ⟨.hbm, 141, rfl⟩
abbrev main_v116_2 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c32_i32 : BitVec 32 := 32#32
  let v52 : BitVec 32 := Scalar.addi c0_i32 c32_i32
  let c1_i32 : BitVec 32 := 1#32
  ⟨c0_i32, v52, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c128_i32 : BitVec 32 := 128#32
  let v90 : BitVec 32 := Scalar.muli arg21 c128_i32
  v90
def k0_mult2 (k0_t1 : Fin k0_t1_loop.trips) : BitVec 32 :=
  let c0_i32 : BitVec 32 := 0#32
  let c1_i32 : BitVec 32 := 1#32
  let arg21 : BitVec 32 := Scf.iv c0_i32 c1_i32 k0_t1
  let c1_i32_76 : BitVec 32 := 1#32
  let v92 : BitVec 32 := Scalar.subi arg21 c1_i32_76
  let c0_i32_77 : BitVec 32 := 0#32
  let v93 : BitVec 32 := Scalar.maxsi v92 c0_i32_77
  let c128_i32_78 : BitVec 32 := 128#32
  let v94 : BitVec 32 := Scalar.muli v93 c128_i32_78
  v94
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v90 : BitVec 32 := Scalar.muli arg21 c128_i32
  let v91 : BitVec 32 := v90
  let v96 : Index := Scalar.indexCast v91
  let c0_79 : Index := 0#32
  ![v96.toNat, 0]
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c1_i32_76 : BitVec 32 := 1#32
  let v92 : BitVec 32 := Scalar.subi arg21 c1_i32_76
  let c0_i32_77 : BitVec 32 := 0#32
  let v93 : BitVec 32 := Scalar.maxsi v92 c0_i32_77
  let c128_i32_78 : BitVec 32 := 128#32
  let v94 : BitVec 32 := Scalar.muli v93 c128_i32_78
  let v95 : BitVec 32 := v94
  let v100 : Index := Scalar.indexCast v95
  let c0_81 : Index := 0#32
  ![v100.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== InB.lean ====
abbrev S8x8192x704 : Shape := ⟨3, ![8, 8192, 704]⟩
abbrev S8x1024x704 : Shape := ⟨3, ![8, 1024, 704]⟩
abbrev S8192x1024 : Shape := ⟨2, ![8192, 1024]⟩
abbrev S2x3x1024 : Shape := ⟨3, ![2, 3, 1024]⟩
abbrev S2x1x1024 : Shape := ⟨3, ![2, 1, 1024]⟩
abbrev S8x256x704 : Shape := ⟨3, ![8, 256, 704]⟩
abbrev S256x1024 : Shape := ⟨2, ![256, 1024]⟩
abbrev S1x3x1024 : Shape := ⟨3, ![1, 3, 1024]⟩
abbrev S1x1x1024 : Shape := ⟨3, ![1, 1, 1024]⟩
abbrev S1x256x704 : Shape := ⟨3, ![1, 256, 704]⟩
abbrev S256x704 : Shape := ⟨2, ![256, 704]⟩
abbrev S1x1024x704 : Shape := ⟨3, ![1, 1024, 704]⟩
abbrev S1024x704 : Shape := ⟨2, ![1024, 704]⟩
abbrev S3x1024 : Shape := ⟨2, ![3, 1024]⟩
abbrev S1x1024 : Shape := ⟨2, ![1, 1024]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .hbm, ⟨3, _⟩ => ⟨S2x3x1024, .f32⟩
  | .hbm, ⟨4, _⟩ => ⟨S8192x1024, .f32⟩
  | .hbm, ⟨5, _⟩ => ⟨S8192x1024, .f32⟩
  | .hbm, ⟨6, _⟩ => ⟨S2x1x1024, .f32⟩
  | .hbm, ⟨7, _⟩ => ⟨S2x1x1024, .f32⟩
  | .local _ .vmem, ⟨0, _⟩ => ⟨S8x256x704, .bf16⟩
  | .local _ .vmem, ⟨1, _⟩ => ⟨S8x256x704, .bf16⟩
  | .local _ .vmem, ⟨2, _⟩ => ⟨S8x1024x704, .bf16⟩
  | .local _ .vmem, ⟨3, _⟩ => ⟨S256x1024, .f32⟩
  | .local _ .vmem, ⟨4, _⟩ => ⟨S256x1024, .f32⟩
  | .local _ .vmem, ⟨5, _⟩ => ⟨S1x3x1024, .f32⟩
  | .local _ .vmem, ⟨6, _⟩ => ⟨S1x3x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S256x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_80 : BitVec 32 := 0#32
  let v83 : BitVec 1 := Scalar.cmpi .eq arg1 c0_i32_80
  let v84 : BitVec 32 := Scalar.extui v83
  let c0_i32_81 : BitVec 32 := 0#32
  let v85 : BitVec 1 := Scalar.cmpi .ne v84 c0_i32_81
  v85

def k0_cond3 (i : grid0.Coords) : BitVec 1 :=
  let arg0 : BitVec 32 := BitVec.ofNat 32 (i 0).val
  let c16_i32 : BitVec 32 := 16#32
  let c0_i32_94 : BitVec 32 := 0#32
  let v98 : BitVec 1 := Scalar.cmpi .eq c16_i32 c0_i32_94
  let c1_i32 : BitVec 32 := 1#32
  let v99 : BitVec 32 := Scalar.select v98 c1_i32 c16_i32
  let v100 : BitVec 32 := Scalar.remsi arg0 v99
  let c0_i32_96 : BitVec 32 := 0#32
  let v102 : BitVec 1 := Scalar.cmpi .slt v100 c0_i32_96
  let c0_i32_97 : BitVec 32 := 0#32
  let v103 : BitVec 1 := Scalar.cmpi .slt v99 c0_i32_97
  let v104 : BitVec 1 := Scalar.xori v102 v103
  let c0_i32_95 : BitVec 32 := 0#32
  let v101 : BitVec 1 := Scalar.cmpi .ne v100 c0_i32_95
  let v105 : BitVec 1 := Scalar.andi v104 v101
  let v106 : BitVec 32 := Scalar.addi v100 v99
  let v107 : BitVec 32 := Scalar.select v105 v106 v100
  let c0_i32_98 : BitVec 32 := 0#32
  let v108 : BitVec 1 := Scalar.cmpi .eq v107 c0_i32_98
  let v109 : BitVec 32 := Scalar.extui v108
  let c0_i32_99 : BitVec 32 := 0#32
  let v110 : BitVec 1 := Scalar.cmpi .ne v109 c0_i32_99
  v110

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InBRefIdeal.lean ====
abbrev S8x8192x704 : Shape := ⟨3, ![8, 8192, 704]⟩
abbrev S8x1024x704 : Shape := ⟨3, ![8, 1024, 704]⟩
abbrev S8192x1024 : Shape := ⟨2, ![8192, 1024]⟩
abbrev S2x3x1024 : Shape := ⟨3, ![2, 3, 1024]⟩
abbrev S2x1x1024 : Shape := ⟨3, ![2, 1, 1024]⟩
abbrev S2x4096x1024 : Shape := ⟨3, ![2, 4096, 1024]⟩
abbrev S_ : Shape := ⟨0, ![]⟩
abbrev S8x704x8192 : Shape := ⟨3, ![8, 704, 8192]⟩
abbrev S2x1024 : Shape := ⟨2, ![2, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .hbm, ⟨3, _⟩ => ⟨S2x3x1024, .f32⟩
  | .hbm, ⟨4, _⟩ => ⟨S8192x1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x1024, .bf16⟩
  | .hbm, ⟨17, _⟩ => ⟨S8x704x8192, .f32⟩
  | .hbm, ⟨18, _⟩ => ⟨S8x8192x704, .f32⟩
  | .hbm, ⟨19, _⟩ => ⟨S8x8192x704, .f32⟩
  | .hbm, ⟨20, _⟩ => ⟨S8x704x8192, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S2x4096x1024, .f32⟩
  | .hbm, ⟨25, _⟩ => ⟨S_, .f32⟩
  | .hbm, ⟨26, _⟩ => ⟨S2x1024, .f32⟩
  | .hbm, ⟨27, _⟩ => ⟨S2x1x1024, .f32⟩
  | .hbm, ⟨28, _⟩ => ⟨S2x4096x1024, .f32⟩
  | .hbm, ⟨29, _⟩ => ⟨S_, .f32⟩
  | .hbm, ⟨30, _⟩ => ⟨S2x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S8192x1024, .f32⟩
  | .hbm, ⟨35, _⟩ => ⟨S8192x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== FIn.lean ====
abbrev S8192x1024 : Shape := ⟨2, ![8192, 1024]⟩
abbrev S2x3x1024 : Shape := ⟨3, ![2, 3, 1024]⟩
abbrev S8x1024x704 : Shape := ⟨3, ![8, 1024, 704]⟩
abbrev S4x8192x704 : Shape := ⟨3, ![4, 8192, 704]⟩
abbrev S4x8192x1024 : Shape := ⟨3, ![4, 8192, 1024]⟩
abbrev S1024x1024 : Shape := ⟨2, ![1024, 1024]⟩
abbrev S1x3x1024 : Shape := ⟨3, ![1, 3, 1024]⟩
abbrev S1x1024x704 : Shape := ⟨3, ![1, 1024, 704]⟩
abbrev S1x1024x1024 : Shape := ⟨3, ![1, 1024, 1024]⟩
abbrev S3x1024 : Shape := ⟨2, ![3, 1024]⟩
abbrev S1x1024 : Shape := ⟨2, ![1, 1024]⟩
abbrev S1024x704 : Shape := ⟨2, ![1024, 704]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S2x3x1024, .f32⟩
  | .hbm, ⟨2, _⟩ => ⟨S8x1024x704, .bf16⟩
  | .hbm, ⟨3, _⟩ => ⟨S4x8192x704, .bf16⟩
  | .hbm, ⟨4, _⟩ => ⟨S4x8192x704, .bf16⟩
  | .hbm, ⟨5, _⟩ => ⟨S4x8192x704, .bf16⟩
  | .hbm, ⟨6, _⟩ => ⟨S4x8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x1024, .bf16⟩
  | .local _ .vmem, ⟨15, _⟩ => ⟨S1x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FInRefIdeal.lean ====
abbrev S8192x1024 : Shape := ⟨2, ![8192, 1024]⟩
abbrev S2x3x1024 : Shape := ⟨3, ![2, 3, 1024]⟩
abbrev S8x1024x704 : Shape := ⟨3, ![8, 1024, 704]⟩
abbrev S2x4096x1024 : Shape := ⟨3, ![2, 4096, 1024]⟩
abbrev S2x1x1024 : Shape := ⟨3, ![2, 1, 1024]⟩
abbrev S_ : Shape := ⟨0, ![]⟩
abbrev S8x704x8192 : Shape := ⟨3, ![8, 704, 8192]⟩
abbrev S8x8192x704 : Shape := ⟨3, ![8, 8192, 704]⟩
abbrev S4x8192x704 : Shape := ⟨3, ![4, 8192, 704]⟩
abbrev S4x8192x1024 : Shape := ⟨3, ![4, 8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x3x1024, .f32⟩
  | .hbm, ⟨2, _⟩ => ⟨S8x1024x704, .bf16⟩
  | .hbm, ⟨3, _⟩ => ⟨S2x4096x1024, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x4096x1024, .f32⟩
  | .hbm, ⟨9, _⟩ => ⟨S2x4096x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S8192x1024, .f32⟩
  | .hbm, ⟨14, _⟩ => ⟨S8192x1024, .bf16⟩
  | .hbm, ⟨15, _⟩ => ⟨S8x704x8192, .f32⟩
  | .hbm, ⟨16, _⟩ => ⟨S8x8192x704, .f32⟩
  | .hbm, ⟨17, _⟩ => ⟨S4x8192x704, .f32⟩
  | .hbm, ⟨18, _⟩ => ⟨S4x8192x704, .f32⟩
  | .hbm, ⟨19, _⟩ => ⟨S4x8192x704, .f32⟩
  | .hbm, ⟨20, _⟩ => ⟨S4x8192x704, .f32⟩
  | .hbm, ⟨21, _⟩ => ⟨S_, .f32⟩
  | .hbm, ⟨22, _⟩ => ⟨S4x8192x704, .f32⟩
  | .hbm, ⟨23, _⟩ => ⟨S4x8192x704, .f32⟩
  | .hbm, ⟨24, _⟩ => ⟨S_, .f32⟩
  | .hbm, ⟨25, _⟩ => ⟨S4x8192x704, .f32⟩
  | .hbm, ⟨26, _⟩ => ⟨S4x8192x704, .f32⟩
  | .hbm, ⟨27, _⟩ => ⟨S4x8192x704, .f32⟩
  | .hbm, ⟨28, _⟩ => ⟨S4x8192x704, .f32⟩
  | .hbm, ⟨29, _⟩ => ⟨S4x8192x704, .bf16⟩
  | .hbm, ⟨30, _⟩ => ⟨S4x8192x704, .bf16⟩
  | .hbm, ⟨31, _⟩ => ⟨S4x8192x704, .bf16⟩
  | .hbm, ⟨32, _⟩ => ⟨S4x8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== FOut.lean ====
abbrev S4x8192x704 : Shape := ⟨3, ![4, 8192, 704]⟩
abbrev S4x704x1024 : Shape := ⟨3, ![4, 704, 1024]⟩
abbrev S8192x1024 : Shape := ⟨2, ![8192, 1024]⟩
abbrev S2x3x1024 : Shape := ⟨3, ![2, 3, 1024]⟩
abbrev S1x1024 : Shape := ⟨2, ![1, 1024]⟩
abbrev S4x512x704 : Shape := ⟨3, ![4, 512, 704]⟩
abbrev S512x1024 : Shape := ⟨2, ![512, 1024]⟩
abbrev S1x3x1024 : Shape := ⟨3, ![1, 3, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S3x1024 : Shape := ⟨2, ![3, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S2x3x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FOutRefIdeal.lean ====
abbrev S4x8192x704 : Shape := ⟨3, ![4, 8192, 704]⟩
abbrev S4x704x1024 : Shape := ⟨3, ![4, 704, 1024]⟩
abbrev S8192x1024 : Shape := ⟨2, ![8192, 1024]⟩
abbrev S2x3x1024 : Shape := ⟨3, ![2, 3, 1024]⟩
abbrev S1x1024 : Shape := ⟨2, ![1, 1024]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S2x3x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S2x4096x1024, .f32⟩
  | .hbm, ⟨8, _⟩ => ⟨S_, .f32⟩
  | .hbm, ⟨9, _⟩ => ⟨S2x4096x1024, .f32⟩
  | .hbm, ⟨10, _⟩ => ⟨S2x4096x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S_, .f32⟩
  | .hbm, ⟨32, _⟩ => ⟨S2x4096, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x1, .f32⟩
  | .hbm, ⟨43, _⟩ => ⟨S2x4096x1024, .f32⟩
  | .hbm, ⟨44, _⟩ => ⟨S2x4096x1024, .f32⟩
  | .hbm, ⟨45, _⟩ => ⟨S1x1x1024, .f32⟩
  | .hbm, ⟨46, _⟩ => ⟨S2x4096x1024, .f32⟩
  | .hbm, ⟨47, _⟩ => ⟨S2x4096x1024, .f32⟩
  | .hbm, ⟨48, _⟩ => ⟨S1x1x1024, .f32⟩
  | .hbm, ⟨49, _⟩ => ⟨S2x4096x1024, .f32⟩
  | .hbm, ⟨50, _⟩ => ⟨S2x4096x1024, .f32⟩
  | .hbm, ⟨51, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== DWin.lean ====
abbrev S4x8192x1024 : Shape := ⟨3, ![4, 8192, 1024]⟩
abbrev S8x8192x704 : Shape := ⟨3, ![8, 8192, 704]⟩
abbrev S8x1024x704 : Shape := ⟨3, ![8, 1024, 704]⟩
abbrev S1x2048x1024 : Shape := ⟨3, ![1, 2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x1024 : Shape := ⟨2, ![2048, 1024]⟩
abbrev S2048x704 : Shape := ⟨2, ![2048, 704]⟩

abbrev nBuf : Space → Nat
  | .hbm => 4
  | .vmem => 8
  | .smem => 0
  | _ => 0

abbrev bufTy : (tb : Table) → Fin (tcTables nBuf tb) → BufTy
  | .hbm, ⟨0, _⟩ => ⟨S4x8192x1024, .bf16⟩
  | .hbm, ⟨1, _⟩ => ⟨S8x8192x704, .bf16⟩
  | .hbm, ⟨2, _⟩ => ⟨S8x1024x704, .f32⟩
  | .hbm, ⟨3, _⟩ => ⟨S8x1024x704, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .bf16⟩
  | .local _ .vmem, ⟨7, _⟩ => ⟨S1x1024x704, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_12 : BitVec 32 := 0#32
  let v16 : BitVec 1 := Scalar.cmpi .ne v15 c0_i32_12
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DWinRefIdeal.lean ====
abbrev S4x8192x1024 : Shape := ⟨3, ![4, 8192, 1024]⟩
abbrev S8x8192x704 : Shape := ⟨3, ![8, 8192, 704]⟩
abbrev S_ : Shape := ⟨0, ![]⟩
abbrev S8x1024x704 : Shape := ⟨3, ![8, 1024, 704]⟩
abbrev S1x8192x1024 : Shape := ⟨3, ![1, 8192, 1024]⟩
abbrev S8192x1024 : Shape := ⟨2, ![8192, 1024]⟩
abbrev S8x704x8192 : Shape := ⟨3, ![8, 704, 8192]⟩
abbrev S8x704x1024 : Shape := ⟨3, ![8, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S8x8192x704, .bf16⟩
  | .hbm, ⟨2, _⟩ => ⟨S_, .f32⟩
  | .hbm, ⟨3, _⟩ => ⟨S8x1024x704, .f32⟩
  | .hbm, ⟨4, _⟩ => ⟨S1x8192x1024, .bf16⟩
  | .hbm, ⟨5, _⟩ => ⟨S8192x1024, .bf16⟩
  | .hbm, ⟨6, _⟩ => ⟨S8192x1024, .f32⟩
  | .hbm, ⟨7, _⟩ => ⟨S8x704x8192, .f32⟩
  | .hbm, ⟨8, _⟩ => ⟨S8x8192x704, .f32⟩
  | .hbm, ⟨9, _⟩ => ⟨S8x8192x704, .f32⟩
  | .hbm, ⟨10, _⟩ => ⟨S8x704x8192, .f32⟩
  | .hbm, ⟨11, _⟩ => ⟨S8x704x1024, .f32⟩
  | .hbm, ⟨12, _⟩ => ⟨S8x1024x704, .f32⟩
  | .hbm, ⟨13, _⟩ => ⟨S8x1024x704, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DWout.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 4
  | .vmem => 8
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | .local _ .vmem, ⟨6, _⟩ => ⟨S1x704x1024, .bf16⟩
  | .local _ .vmem, ⟨7, _⟩ => ⟨S1x704x1024, .bf16⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DWoutRefIdeal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S4x704x1024, .f32⟩
  | .hbm, ⟨4, _⟩ => ⟨S4x8192x704, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | .hbm, ⟨9, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AtInB.lean ====
abbrev S8192x9216 : Shape := ⟨2, ![8192, 9216]⟩
abbrev S8x1024x1152 : Shape := ⟨3, ![8, 1024, 1152]⟩
abbrev S8192x1024 : Shape := ⟨2, ![8192, 1024]⟩
abbrev S2x3x1024 : Shape := ⟨3, ![2, 3, 1024]⟩
abbrev S2x1x1024 : Shape := ⟨3, ![2, 1, 1024]⟩
abbrev S1024x1152 : Shape := ⟨2, ![1024, 1152]⟩
abbrev S1x1024x1152 : Shape := ⟨3, ![1, 1024, 1152]⟩
abbrev S1024x1024 : Shape := ⟨2, ![1024, 1024]⟩
abbrev S1x3x1024 : Shape := ⟨3, ![1, 3, 1024]⟩
abbrev S1x1x1024 : Shape := ⟨3, ![1, 1, 1024]⟩
abbrev S3x1024 : Shape := ⟨2, ![3, 1024]⟩
abbrev S1x1024 : Shape := ⟨2, ![1, 1024]⟩
abbrev S1024 : Shape := ⟨1, ![1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x9216, .bf16⟩
  | .hbm, ⟨1, _⟩ => ⟨S8x1024x1152, .bf16⟩
  | .hbm, ⟨2, _⟩ => ⟨S8192x1024, .f32⟩
  | .hbm, ⟨3, _⟩ => ⟨S2x3x1024, .f32⟩
  | .hbm, ⟨4, _⟩ => ⟨S8192x1024, .f32⟩
  | .hbm, ⟨5, _⟩ => ⟨S8192x1024, .f32⟩
  | .hbm, ⟨6, _⟩ => ⟨S2x1x1024, .f32⟩
  | .hbm, ⟨7, _⟩ => ⟨S2x1x1024, .f32⟩
  | .local _ .vmem, ⟨0, _⟩ => ⟨S1024x1152, .bf16⟩
  | .local _ .vmem, ⟨1, _⟩ => ⟨S1024x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1x3x1024, .f32⟩
  | .local _ .vmem, ⟨7, _⟩ => ⟨S1x3x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c4_i32 : BitVec 32 := 4#32
  let c0_i32_22 : BitVec 32 := 0#32
  let v27 : BitVec 1 := Scalar.cmpi .eq c4_i32 c0_i32_22
  let c1_i32 : BitVec 32 := 1#32
  let v28 : BitVec 32 := Scalar.select v27 c1_i32 c4_i32
  let v29 : BitVec 32 := Scalar.remsi arg0 v28
  let c0_i32_24 : BitVec 32 := 0#32
  let v31 : BitVec 1 := Scalar.cmpi .slt v29 c0_i32_24
  let c0_i32_25 : BitVec 32 := 0#32
  let v32 : BitVec 1 := Scalar.cmpi .slt v28 c0_i32_25
  let v33 : BitVec 1 := Scalar.xori v31 v32
  let c0_i32_23 : BitVec 32 := 0#32
  let v30 : BitVec 1 := Scalar.cmpi .ne v29 c0_i32_23
  let v34 : BitVec 1 := Scalar.andi v33 v30
  let v35 : BitVec 32 := Scalar.addi v29 v28
  let v36 : BitVec 32 := Scalar.select v34 v35 v29
  let c0_i32_26 : BitVec 32 := 0#32
  let v37 : BitVec 1 := Scalar.cmpi .eq v36 c0_i32_26
  let v38 : BitVec 32 := Scalar.extui v37
  let c0_i32_27 : BitVec 32 := 0#32
  let v39 : BitVec 1 := Scalar.cmpi .ne v38 c0_i32_27
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== AtInBRefIdeal.lean ====
abbrev S8192x9216 : Shape := ⟨2, ![8192, 9216]⟩
abbrev S8x1024x1152 : Shape := ⟨3, ![8, 1024, 1152]⟩
abbrev S8192x1024 : Shape := ⟨2, ![8192, 1024]⟩
abbrev S2x3x1024 : Shape := ⟨3, ![2, 3, 1024]⟩
abbrev S2x1x1024 : Shape := ⟨3, ![2, 1, 1024]⟩
abbrev S2x4096x1024 : Shape := ⟨3, ![2, 4096, 1024]⟩
abbrev S_ : Shape := ⟨0, ![]⟩
abbrev S8192x8x1152 : Shape := ⟨3, ![8192, 8, 1152]⟩
abbrev S2x1024 : Shape := ⟨2, ![2, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S8x1024x1152, .bf16⟩
  | .hbm, ⟨2, _⟩ => ⟨S8192x1024, .f32⟩
  | .hbm, ⟨3, _⟩ => ⟨S2x3x1024, .f32⟩
  | .hbm, ⟨4, _⟩ => ⟨S8192x1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x1024, .bf16⟩
  | .hbm, ⟨17, _⟩ => ⟨S8192x8x1152, .f32⟩
  | .hbm, ⟨18, _⟩ => ⟨S8192x9216, .f32⟩
  | .hbm, ⟨19, _⟩ => ⟨S8192x9216, .f32⟩
  | .hbm, ⟨20, _⟩ => ⟨S8192x8x1152, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S2x4096x1024, .f32⟩
  | .hbm, ⟨25, _⟩ => ⟨S_, .f32⟩
  | .hbm, ⟨26, _⟩ => ⟨S2x1024, .f32⟩
  | .hbm, ⟨27, _⟩ => ⟨S2x1x1024, .f32⟩
  | .hbm, ⟨28, _⟩ => ⟨S2x4096x1024, .f32⟩
  | .hbm, ⟨29, _⟩ => ⟨S_, .f32⟩
  | .hbm, ⟨30, _⟩ => ⟨S2x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S8192x1024, .f32⟩
  | .hbm, ⟨35, _⟩ => ⟨S8192x1024, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== MlInB.lean ====
abbrev S8192x3200 : Shape := ⟨2, ![8192, 3200]⟩
abbrev S1024x3200 : Shape := ⟨2, ![1024, 3200]⟩
abbrev S8192x1024 : Shape := ⟨2, ![8192, 1024]⟩
abbrev S2x3x1024 : Shape := ⟨3, ![2, 3, 1024]⟩
abbrev S2x1x1024 : Shape := ⟨3, ![2, 1, 1024]⟩
abbrev S1024x640 : Shape := ⟨2, ![1024, 640]⟩
abbrev S1024x1024 : Shape := ⟨2, ![1024, 1024]⟩
abbrev S1x3x1024 : Shape := ⟨3, ![1, 3, 1024]⟩
abbrev S1x1x1024 : Shape := ⟨3, ![1, 1, 1024]⟩
abbrev S3x1024 : Shape := ⟨2, ![3, 1024]⟩
abbrev S1x1024 : Shape := ⟨2, ![1, 1024]⟩
abbrev S1024 : Shape := ⟨1, ![1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .hbm, ⟨3, _⟩ => ⟨S2x3x1024, .f32⟩
  | .hbm, ⟨4, _⟩ => ⟨S8192x1024, .f32⟩
  | .hbm, ⟨5, _⟩ => ⟨S8192x1024, .f32⟩
  | .hbm, ⟨6, _⟩ => ⟨S2x1x1024, .f32⟩
  | .hbm, ⟨7, _⟩ => ⟨S2x1x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1x3x1024, .f32⟩
  | .local _ .vmem, ⟨7, _⟩ => ⟨S1x3x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c4_i32_21 : BitVec 32 := 4#32
  let c0_i32_22 : BitVec 32 := 0#32
  let v26 : BitVec 1 := Scalar.cmpi .eq c4_i32_21 c0_i32_22
  let c1_i32 : BitVec 32 := 1#32
  let v27 : BitVec 32 := Scalar.select v26 c1_i32 c4_i32_21
  let v28 : BitVec 32 := Scalar.remsi arg0 v27
  let c0_i32_24 : BitVec 32 := 0#32
  let v30 : BitVec 1 := Scalar.cmpi .slt v28 c0_i32_24
  let c0_i32_25 : BitVec 32 := 0#32
  let v31 : BitVec 1 := Scalar.cmpi .slt v27 c0_i32_25
  let v32 : BitVec 1 := Scalar.xori v30 v31
  let c0_i32_23 : BitVec 32 := 0#32
  let v29 : BitVec 1 := Scalar.cmpi .ne v28 c0_i32_23
  let v33 : BitVec 1 := Scalar.andi v32 v29
  let v34 : BitVec 32 := Scalar.addi v28 v27
  let v35 : BitVec 32 := Scalar.select v33 v34 v28
  let c0_i32_26 : BitVec 32 := 0#32
  let v36 : BitVec 1 := Scalar.cmpi .eq v35 c0_i32_26
  let v37 : BitVec 32 := Scalar.extui v36
  let c0_i32_27 : BitVec 32 := 0#32
  let v38 : BitVec 1 := Scalar.cmpi .ne v37 c0_i32_27
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlInBRefIdeal.lean ====
abbrev S8192x3200 : Shape := ⟨2, ![8192, 3200]⟩
abbrev S1024x3200 : Shape := ⟨2, ![1024, 3200]⟩
abbrev S8192x1024 : Shape := ⟨2, ![8192, 1024]⟩
abbrev S2x3x1024 : Shape := ⟨3, ![2, 3, 1024]⟩
abbrev S2x1x1024 : Shape := ⟨3, ![2, 1, 1024]⟩
abbrev S2x4096x1024 : Shape := ⟨3, ![2, 4096, 1024]⟩
abbrev S_ : Shape := ⟨0, ![]⟩
abbrev S2x1024 : Shape := ⟨2, ![2, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .hbm, ⟨3, _⟩ => ⟨S2x3x1024, .f32⟩
  | .hbm, ⟨4, _⟩ => ⟨S8192x1024, .f32⟩
  | .hbm, ⟨5, _⟩ => ⟨S2x1x1024, .f32⟩
  | .hbm, ⟨6, _⟩ => ⟨S2x1x1024, .f32⟩
  | .hbm, ⟨7, _⟩ => ⟨S2x4096x1024, .f32⟩
  | .hbm, ⟨8, _⟩ => ⟨S_, .f32⟩
  | .hbm, ⟨9, _⟩ => ⟨S2x1x1024, .f32⟩
  | .hbm, ⟨10, _⟩ => ⟨S2x1x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S8192x1024, .f32⟩
  | .hbm, ⟨16, _⟩ => ⟨S8192x1024, .bf16⟩
  | .hbm, ⟨17, _⟩ => ⟨S8192x3200, .f32⟩
  | .hbm, ⟨18, _⟩ => ⟨S8192x3200, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S2x4096x1024, .f32⟩
  | .hbm, ⟨23, _⟩ => ⟨S_, .f32⟩
  | .hbm, ⟨24, _⟩ => ⟨S2x1024, .f32⟩
  | .hbm, ⟨25, _⟩ => ⟨S2x1x1024, .f32⟩
  | .hbm, ⟨26, _⟩ => ⟨S2x4096x1024, .f32⟩
  | .hbm, ⟨27, _⟩ => ⟨S_, .f32⟩
  | .hbm, ⟨28, _⟩ => ⟨S2x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S8192x1024, .f32⟩
  | .hbm, ⟨33, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== AtDWin.lean ====
abbrev S8192x1024 : Shape := ⟨2, ![8192, 1024]⟩
abbrev S8192x9216 : Shape := ⟨2, ![8192, 9216]⟩
abbrev S8x1024x1152 : Shape := ⟨3, ![8, 1024, 1152]⟩
abbrev S2048x1024 : Shape := ⟨2, ![2048, 1024]⟩
abbrev S2048x1152 : Shape := ⟨2, ![2048, 1152]⟩
abbrev S1x1024x1152 : Shape := ⟨3, ![1, 1024, 1152]⟩
abbrev S1024x1152 : Shape := ⟨2, ![1024, 1152]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S8x1024x1152, .f32⟩
  | .hbm, ⟨3, _⟩ => ⟨S8x1024x1152, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1x1024x1152, .f32⟩
  | .local _ .vmem, ⟨5, _⟩ => ⟨S1x1024x1152, .f32⟩
  | .local _ .vmem, ⟨6, _⟩ => ⟨S1x1024x1152, .bf16⟩
  | .local _ .vmem, ⟨7, _⟩ => ⟨S1x1024x1152, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AtDWinRefIdeal.lean ====
abbrev S8192x1024 : Shape := ⟨2, ![8192, 1024]⟩
abbrev S8192x9216 : Shape := ⟨2, ![8192, 9216]⟩
abbrev S_ : Shape := ⟨0, ![]⟩
abbrev S8x1024x1152 : Shape := ⟨3, ![8, 1024, 1152]⟩
abbrev S8192x8x1152 : Shape := ⟨3, ![8192, 8, 1152]⟩
abbrev S8x1152x1024 : Shape := ⟨3, ![8, 1152, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x9216, .bf16⟩
  | .hbm, ⟨2, _⟩ => ⟨S_, .f32⟩
  | .hbm, ⟨3, _⟩ => ⟨S8x1024x1152, .f32⟩
  | .hbm, ⟨4, _⟩ => ⟨S8192x1024, .f32⟩
  | .hbm, ⟨5, _⟩ => ⟨S8192x8x1152, .f32⟩
  | .hbm, ⟨6, _⟩ => ⟨S8192x9216, .f32⟩
  | .hbm, ⟨7, _⟩ => ⟨S8192x9216, .f32⟩
  | .hbm, ⟨8, _⟩ => ⟨S8192x8x1152, .f32⟩
  | .hbm, ⟨9, _⟩ => ⟨S8x1152x1024, .f32⟩
  | .hbm, ⟨10, _⟩ => ⟨S8x1024x1152, .f32⟩
  | .hbm, ⟨11, _⟩ => ⟨S8x1024x1152, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlDWin.lean ====
abbrev S8192x1024 : Shape := ⟨2, ![8192, 1024]⟩
abbrev S8192x3200 : Shape := ⟨2, ![8192, 3200]⟩
abbrev S5x1024x640 : Shape := ⟨3, ![5, 1024, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S5x1024x640, .f32⟩
  | .hbm, ⟨3, _⟩ => ⟨S5x1024x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .f32⟩
  | .local _ .vmem, ⟨5, _⟩ => ⟨S1x1024x640, .f32⟩
  | .local _ .vmem, ⟨6, _⟩ => ⟨S1x1024x640, .bf16⟩
  | .local _ .vmem, ⟨7, _⟩ => ⟨S1x1024x640, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlDWinRefIdeal.lean ====
abbrev S8192x1024 : Shape := ⟨2, ![8192, 1024]⟩
abbrev S8192x3200 : Shape := ⟨2, ![8192, 3200]⟩
abbrev S_ : Shape := ⟨0, ![]⟩
abbrev S5x1024x640 : Shape := ⟨3, ![5, 1024, 640]⟩
abbrev S8192x5x640 : Shape := ⟨3, ![8192, 5, 640]⟩
abbrev S5x640x1024 : Shape := ⟨3, ![5, 640, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S_, .f32⟩
  | .hbm, ⟨3, _⟩ => ⟨S5x1024x640, .f32⟩
  | .hbm, ⟨4, _⟩ => ⟨S8192x1024, .f32⟩
  | .hbm, ⟨5, _⟩ => ⟨S8192x5x640, .f32⟩
  | .hbm, ⟨6, _⟩ => ⟨S8192x3200, .f32⟩
  | .hbm, ⟨7, _⟩ => ⟨S8192x3200, .f32⟩
  | .hbm, ⟨8, _⟩ => ⟨S8192x5x640, .f32⟩
  | .hbm, ⟨9, _⟩ => ⟨S5x640x1024, .f32⟩
  | .hbm, ⟨10, _⟩ => ⟨S5x1024x640, .f32⟩
  | .hbm, ⟨11, _⟩ => ⟨S5x1024x640, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MxDWout.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x1024x1024, .f32⟩
  | .hbm, ⟨3, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== MxDWoutRefIdeal.lean ====
abbrev S8192x1024 : Shape := ⟨2, ![8192, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1x1024x1024, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1x1024x1024, .f32⟩
  | .hbm, ⟨12, _⟩ => ⟨S1x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MxOut.lean ====
abbrev S8192x1024 : Shape := ⟨2, ![8192, 1024]⟩
abbrev S1x1024x1024 : Shape := ⟨3, ![1, 1024, 1024]⟩
abbrev S2x3x1024 : Shape := ⟨3, ![2, 3, 1024]⟩
abbrev S1x1024 : Shape := ⟨2, ![1, 1024]⟩
abbrev S1x8192x1024 : Shape := ⟨3, ![1, 8192, 1024]⟩
abbrev S1024x1024 : Shape := ⟨2, ![1024, 1024]⟩
abbrev S1x3x1024 : Shape := ⟨3, ![1, 3, 1024]⟩
abbrev S3x1024 : Shape := ⟨2, ![3, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S2x3x1024, .f32⟩
  | .hbm, ⟨4, _⟩ => ⟨S1x1024, .f32⟩
  | .hbm, ⟨5, _⟩ => ⟨S1x1024, .f32⟩
  | .hbm, ⟨6, _⟩ => ⟨S1x8192x1024, .bf16⟩
  | .hbm, ⟨7, _⟩ => ⟨S8192x1024, .f32⟩
  | .hbm, ⟨8, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MxOutRefIdeal.lean ====
abbrev S8192x1024 : Shape := ⟨2, ![8192, 1024]⟩
abbrev S1x1024x1024 : Shape := ⟨3, ![1, 1024, 1024]⟩
abbrev S2x3x1024 : Shape := ⟨3, ![2, 3, 1024]⟩
abbrev S1x1024 : Shape := ⟨2, ![1, 1024]⟩
abbrev S1024x1024 : Shape := ⟨2, ![1024, 1024]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S2x3x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S2x4096x1024, .f32⟩
  | .hbm, ⟨9, _⟩ => ⟨S_, .f32⟩
  | .hbm, ⟨10, _⟩ => ⟨S2x4096x1024, .f32⟩
  | .hbm, ⟨11, _⟩ => ⟨S2x4096x1024, .f32⟩
  | .hbm, ⟨12, _⟩ => ⟨S2x1x1024, .f32⟩
  | .hbm, ⟨13, _⟩ => ⟨S_, .f32⟩
  | .hbm, ⟨14, _⟩ => ⟨S2x1x1024, .f32⟩
  | .hbm, ⟨15, _⟩ => ⟨S2x1x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S_, .f32⟩
  | .hbm, ⟨21, _⟩ => ⟨S2x4096, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x1024, .f32⟩
  | .hbm, ⟨36, _⟩ => ⟨S2x4096x1024, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S2x4096x1, .f32⟩
  | .hbm, ⟨41, _⟩ => ⟨S2x4096x1024, .f32⟩
  | .hbm, ⟨42, _⟩ => ⟨S2x4096x1024, .f32⟩
  | .hbm, ⟨43, _⟩ => ⟨S1x1x1024, .f32⟩
  | .hbm, ⟨44, _⟩ => ⟨S2x4096x1024, .f32⟩
  | .hbm, ⟨45, _⟩ => ⟨S2x4096x1024, .f32⟩
  | .hbm, ⟨46, _⟩ => ⟨S1x1x1024, .f32⟩
  | .hbm, ⟨47, _⟩ => ⟨S2x4096x1024, .f32⟩
  | .hbm, ⟨48, _⟩ => ⟨S2x4096x1024, .f32⟩
  | .hbm, ⟨49, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== AdamW.lean ====
abbrev S2048x1152 : Shape := ⟨2, ![2048, 1152]⟩
abbrev S512x1152 : Shape := ⟨2, ![512, 1152]⟩

abbrev nBuf : Space → Nat
  | .hbm => 7
  | .vmem => 14
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .local _ .vmem, ⟨0, _⟩ => ⟨S512x1152, .f32⟩
  | .local _ .vmem, ⟨1, _⟩ => ⟨S512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S2048x1152 : Shape := ⟨2, ![2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1152, .f32⟩
  | .hbm, ⟨1, _⟩ => ⟨S2048x1152, .f32⟩
  | .hbm, ⟨2, _⟩ => ⟨S2048x1152, .f32⟩
  | .hbm, ⟨3, _⟩ => ⟨S2048x1152, .f32⟩
  | .hbm, ⟨4, _⟩ => ⟨S_, .f32⟩
  | .hbm, ⟨5, _⟩ => ⟨S2048x1152, .f32⟩
  | .hbm, ⟨6, _⟩ => ⟨S2048x1152, .f32⟩
  | .hbm, ⟨7, _⟩ => ⟨S_, .f32⟩
  | .hbm, ⟨8, _⟩ => ⟨S2048x1152, .f32⟩
  | .hbm, ⟨9, _⟩ => ⟨S2048x1152, .f32⟩
  | .hbm, ⟨10, _⟩ => ⟨S2048x1152, .f32⟩
  | .hbm, ⟨11, _⟩ => ⟨S_, .f32⟩
  | .hbm, ⟨12, _⟩ => ⟨S2048x1152, .f32⟩
  | .hbm, ⟨13, _⟩ => ⟨S2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S2048x1152, .f32⟩
  | .hbm, ⟨19, _⟩ => ⟨S_, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S2048x1152, .f32⟩
  | .hbm, ⟨34, _⟩ => ⟨S_, .f32⟩
  | .hbm, ⟨35, _⟩ => ⟨S2048x1152, .f32⟩
  | .hbm, ⟨36, _⟩ => ⟨S2048x1152, .f32⟩
  | _, _ => ⟨S2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaB.lean ====
abbrev S16x1024 : Shape := ⟨2, ![16, 1024]⟩
abbrev S2x16x1152 : Shape := ⟨3, ![2, 16, 1152]⟩
abbrev S2x16x9216 : Shape := ⟨3, ![2, 16, 9216]⟩
abbrev S1024x16 : Shape := ⟨2, ![1024, 16]⟩
abbrev S2x1024x1152 : Shape := ⟨3, ![2, 1024, 1152]⟩
abbrev S2x1x9216 : Shape := ⟨3, ![2, 1, 9216]⟩
abbrev S1x16x1152 : Shape := ⟨3, ![1, 16, 1152]⟩
abbrev S1x16x9216 : Shape := ⟨3, ![1, 16, 9216]⟩
abbrev S1x1024x1152 : Shape := ⟨3, ![1, 1024, 1152]⟩
abbrev S1x1x9216 : Shape := ⟨3, ![1, 1, 9216]⟩
abbrev S16x1152 : Shape := ⟨2, ![16, 1152]⟩
abbrev S1024x1152 : Shape := ⟨2, ![1024, 1152]⟩
abbrev S16x9216 : Shape := ⟨2, ![16, 9216]⟩
abbrev S9216 : Shape := ⟨1, ![9216]⟩
abbrev S1x9216 : Shape := ⟨2, ![1, 9216]⟩

abbrev nBuf : Space → Nat
  | .hbm => 6
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S2x16x1152, .f32⟩
  | .hbm, ⟨2, _⟩ => ⟨S2x16x9216, .f32⟩
  | .hbm, ⟨3, _⟩ => ⟨S1024x16, .f32⟩
  | .hbm, ⟨4, _⟩ => ⟨S2x1024x1152, .f32⟩
  | .hbm, ⟨5, _⟩ => ⟨S2x1x9216, .f32⟩
  | .local _ .vmem, ⟨0, _⟩ => ⟨S1024x16, .f32⟩
  | .local _ .vmem, ⟨1, _⟩ => ⟨S1x16x1152, .f32⟩
  | .local _ .vmem, ⟨2, _⟩ => ⟨S1x16x1152, .f32⟩
  | .local _ .vmem, ⟨3, _⟩ => ⟨S1x16x9216, .f32⟩
  | .local _ .vmem, ⟨4, _⟩ => ⟨S1x16x9216, .f32⟩
  | .local _ .vmem, ⟨5, _⟩ => ⟨S1x1024x1152, .f32⟩
  | .local _ .vmem, ⟨6, _⟩ => ⟨S1x1024x1152, .f32⟩
  | .local _ .vmem, ⟨7, _⟩ => ⟨S1x1x9216, .f32⟩
  | .local _ .vmem, ⟨8, _⟩ => ⟨S1x1x9216, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x9216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdaBRefIdeal.lean ====
abbrev S16x1024 : Shape := ⟨2, ![16, 1024]⟩
abbrev S2x16x1152 : Shape := ⟨3, ![2, 16, 1152]⟩
abbrev S2x16x9216 : Shape := ⟨3, ![2, 16, 9216]⟩
abbrev S_ : Shape := ⟨0, ![]⟩
abbrev S2x1024x1152 : Shape := ⟨3, ![2, 1024, 1152]⟩
abbrev S2x1152x16 : Shape := ⟨3, ![2, 1152, 16]⟩
abbrev S2x1152x1024 : Shape := ⟨3, ![2, 1152, 1024]⟩
abbrev S2x1x9216 : Shape := ⟨3, ![2, 1, 9216]⟩
abbrev S2x9216 : Shape := ⟨2, ![2, 9216]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x16x1152, .f32⟩
  | .hbm, ⟨2, _⟩ => ⟨S2x16x9216, .f32⟩
  | .hbm, ⟨3, _⟩ => ⟨S_, .f32⟩
  | .hbm, ⟨4, _⟩ => ⟨S2x1024x1152, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S2x1152x16, .f32⟩
  | .hbm, ⟨15, _⟩ => ⟨S2x16x1152, .f32⟩
  | .hbm, ⟨16, _⟩ => ⟨S2x1152x16, .f32⟩
  | .hbm, ⟨17, _⟩ => ⟨S2x1152x1024, .f32⟩
  | .hbm, ⟨18, _⟩ => ⟨S2x1024x1152, .f32⟩
  | .hbm, ⟨19, _⟩ => ⟨S_, .f32⟩
  | .hbm, ⟨20, _⟩ => ⟨S2x1x9216, .f32⟩
  | .hbm, ⟨21, _⟩ => ⟨S2x16x9216, .f32⟩
  | .hbm, ⟨22, _⟩ => ⟨S_, .f32⟩
  | .hbm, ⟨23, _⟩ => ⟨S2x9216, .f32⟩
  | .hbm, ⟨24, _⟩ => ⟨S2x1x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== AdamB.lean ====
abbrev S2x9216 : Shape := ⟨2, ![2, 9216]⟩

abbrev nBuf : Space → Nat
  | .hbm => 7
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBRefIdeal.lean ====
abbrev S2x9216 : Shape := ⟨2, ![2, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S_, .f32⟩
  | .hbm, ⟨5, _⟩ => ⟨S2x9216, .f32⟩
  | .hbm, ⟨6, _⟩ => ⟨S2x9216, .f32⟩
  | .hbm, ⟨7, _⟩ => ⟨S_, .f32⟩
  | .hbm, ⟨8, _⟩ => ⟨S2x9216, .f32⟩
  | .hbm, ⟨9, _⟩ => ⟨S2x9216, .f32⟩
  | .hbm, ⟨10, _⟩ => ⟨S2x9216, .f32⟩
  | .hbm, ⟨11, _⟩ => ⟨S_, .f32⟩
  | .hbm, ⟨12, _⟩ => ⟨S2x9216, .f32⟩
  | .hbm, ⟨13, _⟩ => ⟨S2x9216, .f32⟩
  | .hbm, ⟨14, _⟩ => ⟨S2x9216, .f32⟩
  | .hbm, ⟨15, _⟩ => ⟨S_, .f32⟩
  | .hbm, ⟨16, _⟩ => ⟨S2x9216, .f32⟩
  | .hbm, ⟨17, _⟩ => ⟨S2x9216, .f32⟩
  | .hbm, ⟨18, _⟩ => ⟨S2x9216, .f32⟩
  | .hbm, ⟨19, _⟩ => ⟨S_, .f32⟩
  | .hbm, ⟨20, _⟩ => ⟨S2x9216, .f32⟩
  | .hbm, ⟨21, _⟩ => ⟨S2x9216, .f32⟩
  | .hbm, ⟨22, _⟩ => ⟨S_, .f32⟩
  | .hbm, ⟨23, _⟩ => ⟨S2x9216, .f32⟩
  | .hbm, ⟨24, _⟩ => ⟨S2x9216, .f32⟩
  | .hbm, ⟨25, _⟩ => ⟨S2x9216, .f32⟩
  | .hbm, ⟨26, _⟩ => ⟨S_, .f32⟩
  | .hbm, ⟨27, _⟩ => ⟨S2x9216, .f32⟩
  | .hbm, ⟨28, _⟩ => ⟨S2x9216, .f32⟩
  | .hbm, ⟨29, _⟩ => ⟨S2x9216, .f32⟩
  | .hbm, ⟨30, _⟩ => ⟨S_, .f32⟩
  | .hbm, ⟨31, _⟩ => ⟨S2x9216, .f32⟩
  | .hbm, ⟨32, _⟩ => ⟨S2x9216, .f32⟩
  | .hbm, ⟨33, _⟩ => ⟨S2x9216, .f32⟩
  | .hbm, ⟨34, _⟩ => ⟨S_, .f32⟩
  | .hbm, ⟨35, _⟩ => ⟨S2x9216, .f32⟩
  | .hbm, ⟨36, _⟩ => ⟨S2x9216, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamL.lean ====
abbrev S6x128 : Shape := ⟨2, ![6, 128]⟩

abbrev nBuf : Space → Nat
  | .hbm => 7
  | .vmem => 7
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S6x128, .f32⟩
  | .local _ .vmem, ⟨0, _⟩ => ⟨S6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | _, _ => ⟨S6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLRefIdeal.lean ====
abbrev S6x128 : Shape := ⟨2, ![6, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x128, .f32⟩
  | .hbm, ⟨1, _⟩ => ⟨S6x128, .f32⟩
  | .hbm, ⟨2, _⟩ => ⟨S6x128, .f32⟩
  | .hbm, ⟨3, _⟩ => ⟨S6x128, .f32⟩
  | .hbm, ⟨4, _⟩ => ⟨S_, .f32⟩
  | .hbm, ⟨5, _⟩ => ⟨S6x128, .f32⟩
  | .hbm, ⟨6, _⟩ => ⟨S6x128, .f32⟩
  | .hbm, ⟨7, _⟩ => ⟨S_, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S_, .f32⟩
  | .hbm, ⟨12, _⟩ => ⟨S6x128, .f32⟩
  | .hbm, ⟨13, _⟩ => ⟨S6x128, .f32⟩
  | .hbm, ⟨14, _⟩ => ⟨S6x128, .f32⟩
  | .hbm, ⟨15, _⟩ => ⟨S_, .f32⟩
  | .hbm, ⟨16, _⟩ => ⟨S6x128, .f32⟩
  | .hbm, ⟨17, _⟩ => ⟨S6x128, .f32⟩
  | .hbm, ⟨18, _⟩ => ⟨S6x128, .f32⟩
  | .hbm, ⟨19, _⟩ => ⟨S_, .f32⟩
  | .hbm, ⟨20, _⟩ => ⟨S6x128, .f32⟩
  | .hbm, ⟨21, _⟩ => ⟨S6x128, .f32⟩
  | .hbm, ⟨22, _⟩ => ⟨S_, .f32⟩
  | .hbm, ⟨23, _⟩ => ⟨S6x128, .f32⟩
  | .hbm, ⟨24, _⟩ => ⟨S6x128, .f32⟩
  | .hbm, ⟨25, _⟩ => ⟨S6x128, .f32⟩
  | .hbm, ⟨26, _⟩ => ⟨S_, .f32⟩
  | .hbm, ⟨27, _⟩ => ⟨S6x128, .f32⟩
  | .hbm, ⟨28, _⟩ => ⟨S6x128, .f32⟩
  | .hbm, ⟨29, _⟩ => ⟨S6x128, .f32⟩
  | .hbm, ⟨30, _⟩ => ⟨S_, .f32⟩
  | .hbm, ⟨31, _⟩ => ⟨S6x128, .f32⟩
  | .hbm, ⟨32, _⟩ => ⟨S6x128, .f32⟩
  | .hbm, ⟨33, _⟩ => ⟨S6x128, .f32⟩
  | .hbm, ⟨34, _⟩ => ⟨S_, .f32⟩
  | .hbm, ⟨35, _⟩ => ⟨S6x128, .f32⟩
  | .hbm, ⟨36, _⟩ => ⟨S6x128, .f32⟩
  | _, _ => ⟨S6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamG.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGRefIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamC.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCRefIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamH.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RedO.lean ====
abbrev S128x1024 : Shape := ⟨2, ![128, 1024]⟩
abbrev S8x128x1024 : Shape := ⟨3, ![8, 128, 1024]⟩
abbrev S8 : Shape := ⟨1, ![8]⟩
abbrev S1 : Shape := ⟨1, ![1]⟩
abbrev S1x128x1024 : Shape := ⟨3, ![1, 128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S8x128x1024, .bf16⟩
  | .hbm, ⟨3, _⟩ => ⟨S8, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S8, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  ![v3.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]
-- ==== RedORefIdeal.lean ====
abbrev S128x1024 : Shape := ⟨2, ![128, 1024]⟩
abbrev S8x128x1024 : Shape := ⟨3, ![8, 128, 1024]⟩
abbrev S8 : Shape := ⟨1, ![8]⟩
abbrev S8x1x1 : Shape := ⟨3, ![8, 1, 1]⟩
abbrev S_ : Shape := ⟨0, ![]⟩
abbrev S1x128x1024 : Shape := ⟨3, ![1, 128, 1024]⟩

abbrev nBuf : Space → Nat
  | .hbm => 50
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S8x128x1024, .bf16⟩
  | .hbm, ⟨3, _⟩ => ⟨S8, .f32⟩
  | .hbm, ⟨4, _⟩ => ⟨S128x1024, .f32⟩
  | .hbm, ⟨5, _⟩ => ⟨S128x1024, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .i1⟩
  | .hbm, ⟨10, _⟩ => ⟨S1x128x1024, .f32⟩
  | .hbm, ⟨11, _⟩ => ⟨S8x128x1024, .f32⟩
  | .hbm, ⟨12, _⟩ => ⟨S8x128x1024, .i1⟩
  | .hbm, ⟨13, _⟩ => ⟨S8x128x1024, .f32⟩
  | .hbm, ⟨14, _⟩ => ⟨S8x128x1024, .f32⟩
  | .hbm, ⟨15, _⟩ => ⟨S_, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== RedM.lean ====
abbrev S1024x386 : Shape := ⟨2, ![1024, 386]⟩
abbrev S8x1024x386 : Shape := ⟨3, ![8, 1024, 386]⟩
abbrev S8 : Shape := ⟨1, ![8]⟩
abbrev S128x386 : Shape := ⟨2, ![128, 386]⟩
abbrev S8x128x386 : Shape := ⟨3, ![8, 128, 386]⟩
abbrev S1 : Shape := ⟨1, ![1]⟩
abbrev S1x128x386 : Shape := ⟨3, ![1, 128, 386]⟩

abbrev nBuf : Space → Nat
  | .hbm => 10
  | .vmem => 18
  | .smem => 1
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S8x1024x386, .bf16⟩
  | .hbm, ⟨3, _⟩ => ⟨S8, .f32⟩
  | .hbm, ⟨4, _⟩ => ⟨S1024x386, .f32⟩
  | .hbm, ⟨5, _⟩ => ⟨S1024x386, .f32⟩
  | .hbm, ⟨6, _⟩ => ⟨S1024x386, .f32⟩
  | .hbm, ⟨7, _⟩ => ⟨S1024x386, .f32⟩
  | .hbm, ⟨8, _⟩ => ⟨S1024x386, .f32⟩
  | .hbm, ⟨9, _⟩ => ⟨S1024x386, .f32⟩
  | .local _ .vmem, ⟨0, _⟩ => ⟨S128x386, .f32⟩
  | .local _ .vmem, ⟨1, _⟩ => ⟨S128x386, .f32⟩
  | .local _ .vmem, ⟨2, _⟩ => ⟨S128x386, .f32⟩
  | .local _ .vmem, ⟨3, _⟩ => ⟨S128x386, .f32⟩
  | .local _ .vmem, ⟨4, _⟩ => ⟨S128x386, .f32⟩
  | .local _ .vmem, ⟨5, _⟩ => ⟨S128x386, .f32⟩
  | .local _ .vmem, ⟨6, _⟩ => ⟨S128x386, .f32⟩
  | .local _ .vmem, ⟨7, _⟩ => ⟨S128x386, .f32⟩
  | .local _ .vmem, ⟨8, _⟩ => ⟨S8x128x386, .bf16⟩
  | .local _ .vmem, ⟨9, _⟩ => ⟨S8x128x386, .bf16⟩
  | .local _ .vmem, ⟨10, _⟩ => ⟨S128x386, .f32⟩
  | .local _ .vmem, ⟨11, _⟩ => ⟨S128x386, .f32⟩
  | .local _ .vmem, ⟨12, _⟩ => ⟨S128x386, .f32⟩
  | .local _ .vmem, ⟨13, _⟩ => ⟨S128x386, .f32⟩
  | .local _ .vmem, ⟨14, _⟩ => ⟨S128x386, .f32⟩
  | .local _ .vmem, ⟨15, _⟩ => ⟨S128x386, .f32⟩
  | .local _ .vmem, ⟨16, _⟩ => ⟨S128x386, .f32⟩
  | .local _ .vmem, ⟨17, _⟩ => ⟨S128x386, .f32⟩
  | .local _ .smem, ⟨0, _⟩ => ⟨S8, .f32⟩
  | _, _ => ⟨S1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x386 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x386 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x386 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x386 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RedMRefIdeal.lean ====
abbrev S1024x386 : Shape := ⟨2, ![1024, 386]⟩
abbrev S8x1024x386 : Shape := ⟨3, ![8, 1024, 386]⟩
abbrev S8 : Shape := ⟨1, ![8]⟩
abbrev S8x1x1 : Shape := ⟨3, ![8, 1, 1]⟩
abbrev S_ : Shape := ⟨0, ![]⟩
abbrev S1x1024x386 : Shape := ⟨3, ![1, 1024, 386]⟩

abbrev nBuf : Space → Nat
  | .hbm => 50
  | .vmem => 0
  | .smem => 0
  | _ => 0

abbrev bufTy : (tb : Table) → Fin (tcTables nBuf tb) → BufTy
  | .hbm, ⟨0, _⟩ => ⟨S1024x386, .f32⟩
  | .hbm, ⟨1, _⟩ => ⟨S1024x386, .f32⟩
  | .hbm, ⟨2, _⟩ => ⟨S8x1024x386, .bf16⟩
  | .hbm, ⟨3, _⟩ => ⟨S8, .f32⟩
  | .hbm, ⟨4, _⟩ => ⟨S1024x386, .f32⟩
  | .hbm, ⟨5, _⟩ => ⟨S1024x386, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .i1⟩
  | .hbm, ⟨10, _⟩ => ⟨S1x1024x386, .f32⟩
  | .hbm, ⟨11, _⟩ => ⟨S8x1024x386, .f32⟩
  | .hbm, ⟨12, _⟩ => ⟨S8x1024x386, .i1⟩
  | .hbm, ⟨13, _⟩ => ⟨S8x1024x386, .f32⟩
  | .hbm, ⟨14, _⟩ => ⟨S8x1024x386, .f32⟩
  | .hbm, ⟨15, _⟩ => ⟨S_, .f32⟩
  | .hbm, ⟨16, _⟩ => ⟨S1024x386, .f32⟩
  | .hbm, ⟨17, _⟩ => ⟨S_, .f32⟩
  | .hbm, ⟨18, _⟩ => ⟨S1024x386, .f32⟩
  | .hbm, ⟨19, _⟩ => ⟨S1024x386, .f32⟩
  | .hbm, ⟨20, _⟩ => ⟨S_, .f32⟩
  | .hbm, ⟨21, _⟩ => ⟨S1024x386, .f32⟩
  | .hbm, ⟨22, _⟩ => ⟨S1024x386, .f32⟩
  | .hbm, ⟨23, _⟩ => ⟨S1024x386, .f32⟩
  | .hbm, ⟨24, _⟩ => ⟨S_, .f32⟩
  | .hbm, ⟨25, _⟩ => ⟨S1024x386, .f32⟩
  | .hbm, ⟨26, _⟩ => ⟨S1024x386, .f32⟩
  | .hbm, ⟨27, _⟩ => ⟨S1024x386, .f32⟩
  | .hbm, ⟨28, _⟩ => ⟨S_, .f32⟩
  | .hbm, ⟨29, _⟩ => ⟨S1024x386, .f32⟩
  | .hbm, ⟨30, _⟩ => ⟨S1024x386, .f32⟩
  | .hbm, ⟨31, _⟩ => ⟨S1024x386, .f32⟩
  | .hbm, ⟨32, _⟩ => ⟨S_, .f32⟩
  | .hbm, ⟨33, _⟩ => ⟨S1024x386, .f32⟩
  | .hbm, ⟨34, _⟩ => ⟨S1024x386, .f32⟩
  | .hbm, ⟨35, _⟩ => ⟨S_, .f32⟩
  | .hbm, ⟨36, _⟩ => ⟨S1024x386, .f32⟩
  | .hbm, ⟨37, _⟩ => ⟨S1024x386, .f32⟩
  | .hbm, ⟨38, _⟩ => ⟨S1024x386, .f32⟩
  | .hbm, ⟨39, _⟩ => ⟨S_, .f32⟩
  | .hbm, ⟨40, _⟩ => ⟨S1024x386, .f32⟩
  | .hbm, ⟨41, _⟩ => ⟨S1024x386, .f32⟩
  | .hbm, ⟨42, _⟩ => ⟨S1024x386, .f32⟩
  | .hbm, ⟨43, _⟩ => ⟨S_, .f32⟩
  | .hbm, ⟨44, _⟩ => ⟨S1024x386, .f32⟩
  | .hbm, ⟨45, _⟩ => ⟨S1024x386, .f32⟩
  | .hbm, ⟨46, _⟩ => ⟨S1024x386, .f32⟩
  | .hbm, ⟨47, _⟩ => ⟨S_, .f32⟩
  | .hbm, ⟨48, _⟩ => ⟨S1024x386, .f32⟩
  | .hbm, ⟨49, _⟩ => ⟨S1024x386, .f32⟩
  | _, _ => ⟨S1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== RedA.lean ====
abbrev S1024x1152 : Shape := ⟨2, ![1024, 1152]⟩
abbrev S8x1024x1152 : Shape := ⟨3, ![8, 1024, 1152]⟩
abbrev S8 : Shape := ⟨1, ![8]⟩
abbrev S128x1152 : Shape := ⟨2, ![128, 1152]⟩
abbrev S8x128x1152 : Shape := ⟨3, ![8, 128, 1152]⟩
abbrev S1 : Shape := ⟨1, ![1]⟩
abbrev S1x128x1152 : Shape := ⟨3, ![1, 128, 1152]⟩

abbrev nBuf : Space → Nat
  | .hbm => 10
  | .vmem => 18
  | .smem => 1
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S8x1024x1152, .bf16⟩
  | .hbm, ⟨3, _⟩ => ⟨S8, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .hbm, ⟨8, _⟩ => ⟨S1024x1152, .f32⟩
  | .hbm, ⟨9, _⟩ => ⟨S1024x1152, .f32⟩
  | .local _ .vmem, ⟨0, _⟩ => ⟨S128x1152, .f32⟩
  | .local _ .vmem, ⟨1, _⟩ => ⟨S128x1152, .f32⟩
  | .local _ .vmem, ⟨2, _⟩ => ⟨S128x1152, .f32⟩
  | .local _ .vmem, ⟨3, _⟩ => ⟨S128x1152, .f32⟩
  | .local _ .vmem, ⟨4, _⟩ => ⟨S128x1152, .f32⟩
  | .local _ .vmem, ⟨5, _⟩ => ⟨S128x1152, .f32⟩
  | .local _ .vmem, ⟨6, _⟩ => ⟨S128x1152, .f32⟩
  | .local _ .vmem, ⟨7, _⟩ => ⟨S128x1152, .f32⟩
  | .local _ .vmem, ⟨8, _⟩ => ⟨S8x128x1152, .bf16⟩
  | .local _ .vmem, ⟨9, _⟩ => ⟨S8x128x1152, .bf16⟩
  | .local _ .vmem, ⟨10, _⟩ => ⟨S128x1152, .f32⟩
  | .local _ .vmem, ⟨11, _⟩ => ⟨S128x1152, .f32⟩
  | .local _ .vmem, ⟨12, _⟩ => ⟨S128x1152, .f32⟩
  | .local _ .vmem, ⟨13, _⟩ => ⟨S128x1152, .f32⟩
  | .local _ .vmem, ⟨14, _⟩ => ⟨S128x1152, .f32⟩
  | .local _ .vmem, ⟨15, _⟩ => ⟨S128x1152, .f32⟩
  | .local _ .vmem, ⟨16, _⟩ => ⟨S128x1152, .f32⟩
  | .local _ .vmem, ⟨17, _⟩ => ⟨S128x1152, .f32⟩
  | .local _ .smem, ⟨0, _⟩ => ⟨S8, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RedARefIdeal.lean ====
abbrev S1024x1152 : Shape := ⟨2, ![1024, 1152]⟩
abbrev S8x1024x1152 : Shape := ⟨3, ![8, 1024, 1152]⟩
abbrev S8 : Shape := ⟨1, ![8]⟩
abbrev S8x1x1 : Shape := ⟨3, ![8, 1, 1]⟩
abbrev S_ : Shape := ⟨0, ![]⟩
abbrev S1x1024x1152 : Shape := ⟨3, ![1, 1024, 1152]⟩

abbrev nBuf : Space → Nat
  | .hbm => 50
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S8x1024x1152, .bf16⟩
  | .hbm, ⟨3, _⟩ => ⟨S8, .f32⟩
  | .hbm, ⟨4, _⟩ => ⟨S1024x1152, .f32⟩
  | .hbm, ⟨5, _⟩ => ⟨S1024x1152, .f32⟩
  | .hbm, ⟨6, _⟩ => ⟨S8x1x1, .f32⟩
  | .hbm, ⟨7, _⟩ => ⟨S_, .f32⟩
  | .hbm, ⟨8, _⟩ => ⟨S8x1x1, .f32⟩
  | .hbm, ⟨9, _⟩ => ⟨S8x1x1, .i1⟩
  | .hbm, ⟨10, _⟩ => ⟨S1x1024x1152, .f32⟩
  | .hbm, ⟨11, _⟩ => ⟨S8x1024x1152, .f32⟩
  | .hbm, ⟨12, _⟩ => ⟨S8x1024x1152, .i1⟩
  | .hbm, ⟨13, _⟩ => ⟨S8x1024x1152, .f32⟩
  | .hbm, ⟨14, _⟩ => ⟨S8x1024x1152, .f32⟩
  | .hbm, ⟨15, _⟩ => ⟨S_, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S_, .f32⟩
  | .hbm, ⟨21, _⟩ => ⟨S1024x1152, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S_, .f32⟩
  | .hbm, ⟨36, _⟩ => ⟨S1024x1152, .f32⟩
  | .hbm, ⟨37, _⟩ => ⟨S1024x1152, .f32⟩
  | .hbm, ⟨38, _⟩ => ⟨S1024x1152, .f32⟩
  | .hbm, ⟨39, _⟩ => ⟨S_, .f32⟩
  | .hbm, ⟨40, _⟩ => ⟨S1024x1152, .f32⟩
  | .hbm, ⟨41, _⟩ => ⟨S1024x1152, .f32⟩
  | .hbm, ⟨42, _⟩ => ⟨S1024x1152, .f32⟩
  | .hbm, ⟨43, _⟩ => ⟨S_, .f32⟩
  | .hbm, ⟨44, _⟩ => ⟨S1024x1152, .f32⟩
  | .hbm, ⟨45, _⟩ => ⟨S1024x1152, .f32⟩
  | .hbm, ⟨46, _⟩ => ⟨S1024x1152, .f32⟩
  | .hbm, ⟨47, _⟩ => ⟨S_, .f32⟩
  | .hbm, ⟨48, _⟩ => ⟨S1024x1152, .f32⟩
  | .hbm, ⟨49, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== RedFi.lean ====
abbrev S4096x704 : Shape := ⟨2, ![4096, 704]⟩
abbrev S1024x704 : Shape := ⟨2, ![1024, 704]⟩
abbrev S8x1024x704 : Shape := ⟨3, ![8, 1024, 704]⟩
abbrev S8 : Shape := ⟨1, ![8]⟩
abbrev S128x704 : Shape := ⟨2, ![128, 704]⟩
abbrev S8x128x704 : Shape := ⟨3, ![8, 128, 704]⟩
abbrev S1 : Shape := ⟨1, ![1]⟩
abbrev S1x128x704 : Shape := ⟨3, ![1, 128, 704]⟩

abbrev nBuf : Space → Nat
  | .hbm => 16
  | .vmem => 30
  | .smem => 1
  | _ => 0

abbrev bufTy : (tb : Table) → Fin (tcTables nBuf tb) → BufTy
  | .hbm, ⟨0, _⟩ => ⟨S4096x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S8x1024x704, .bf16⟩
  | .hbm, ⟨6, _⟩ => ⟨S8x1024x704, .bf16⟩
  | .hbm, ⟨7, _⟩ => ⟨S8x1024x704, .bf16⟩
  | .hbm, ⟨8, _⟩ => ⟨S8x1024x704, .bf16⟩
  | .hbm, ⟨9, _⟩ => ⟨S8, .f32⟩
  | .hbm, ⟨10, _⟩ => ⟨S4096x704, .f32⟩
  | .hbm, ⟨11, _⟩ => ⟨S4096x704, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S4096x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S8x128x704, .bf16⟩
  | .local _ .vmem, ⟨15, _⟩ => ⟨S8x128x704, .bf16⟩
  | .local _ .vmem, ⟨16, _⟩ => ⟨S8x128x704, .bf16⟩
  | .local _ .vmem, ⟨17, _⟩ => ⟨S8x128x704, .bf16⟩
  | .local _ .vmem, ⟨18, _⟩ => ⟨S8x128x704, .bf16⟩
  | .local _ .vmem, ⟨19, _⟩ => ⟨S8x128x704, .bf16⟩
  | .local _ .vmem, ⟨20, _⟩ => ⟨S8x128x704, .bf16⟩
  | .local _ .vmem, ⟨21, _⟩ => ⟨S8x128x704, .bf16⟩
  | .local _ .vmem, ⟨22, _⟩ => ⟨S128x704, .f32⟩
  | .local _ .vmem, ⟨23, _⟩ => ⟨S128x704, .f32⟩
  | .local _ .vmem, ⟨24, _⟩ => ⟨S128x704, .f32⟩
  | .local _ .vmem, ⟨25, _⟩ => ⟨S128x704, .f32⟩
  | .local _ .vmem, ⟨26, _⟩ => ⟨S128x704, .f32⟩
  | .local _ .vmem, ⟨27, _⟩ => ⟨S128x704, .f32⟩
  | .local _ .vmem, ⟨28, _⟩ => ⟨S128x704, .f32⟩
  | .local _ .vmem, ⟨29, _⟩ => ⟨S128x704, .f32⟩
  | .local _ .smem, ⟨0, _⟩ => ⟨S8, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  ![v3.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x128x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x128x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x128x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x704 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x704 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RedFiRefIdeal.lean ====
abbrev S4096x704 : Shape := ⟨2, ![4096, 704]⟩
abbrev S1024x704 : Shape := ⟨2, ![1024, 704]⟩
abbrev S8x1024x704 : Shape := ⟨3, ![8, 1024, 704]⟩
abbrev S8 : Shape := ⟨1, ![8]⟩
abbrev S8x1x1 : Shape := ⟨3, ![8, 1, 1]⟩
abbrev S_ : Shape := ⟨0, ![]⟩
abbrev S1x1024x704 : Shape := ⟨3, ![1, 1024, 704]⟩

abbrev nBuf : Space → Nat
  | .hbm => 90
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S8x1024x704, .bf16⟩
  | .hbm, ⟨6, _⟩ => ⟨S8x1024x704, .bf16⟩
  | .hbm, ⟨7, _⟩ => ⟨S8x1024x704, .bf16⟩
  | .hbm, ⟨8, _⟩ => ⟨S8x1024x704, .bf16⟩
  | .hbm, ⟨9, _⟩ => ⟨S8, .f32⟩
  | .hbm, ⟨10, _⟩ => ⟨S4096x704, .f32⟩
  | .hbm, ⟨11, _⟩ => ⟨S4096x704, .f32⟩
  | .hbm, ⟨12, _⟩ => ⟨S8x1x1, .f32⟩
  | .hbm, ⟨13, _⟩ => ⟨S_, .f32⟩
  | .hbm, ⟨14, _⟩ => ⟨S8x1x1, .f32⟩
  | .hbm, ⟨15, _⟩ => ⟨S8x1x1, .i1⟩
  | .hbm, ⟨16, _⟩ => ⟨S1x1024x704, .f32⟩
  | .hbm, ⟨17, _⟩ => ⟨S8x1024x704, .f32⟩
  | .hbm, ⟨18, _⟩ => ⟨S8x1024x704, .i1⟩
  | .hbm, ⟨19, _⟩ => ⟨S8x1024x704, .f32⟩
  | .hbm, ⟨20, _⟩ => ⟨S8x1024x704, .f32⟩
  | .hbm, ⟨21, _⟩ => ⟨S_, .f32⟩
  | .hbm, ⟨22, _⟩ => ⟨S1024x704, .f32⟩
  | .hbm, ⟨23, _⟩ => ⟨S8x1x1, .f32⟩
  | .hbm, ⟨24, _⟩ => ⟨S_, .f32⟩
  | .hbm, ⟨25, _⟩ => ⟨S8x1x1, .f32⟩
  | .hbm, ⟨26, _⟩ => ⟨S8x1x1, .i1⟩
  | .hbm, ⟨27, _⟩ => ⟨S1x1024x704, .f32⟩
  | .hbm, ⟨28, _⟩ => ⟨S8x1024x704, .f32⟩
  | .hbm, ⟨29, _⟩ => ⟨S8x1024x704, .i1⟩
  | .hbm, ⟨30, _⟩ => ⟨S8x1024x704, .f32⟩
  | .hbm, ⟨31, _⟩ => ⟨S8x1024x704, .f32⟩
  | .hbm, ⟨32, _⟩ => ⟨S_, .f32⟩
  | .hbm, ⟨33, _⟩ => ⟨S1024x704, .f32⟩
  | .hbm, ⟨34, _⟩ => ⟨S8x1x1, .f32⟩
  | .hbm, ⟨35, _⟩ => ⟨S_, .f32⟩
  | .hbm, ⟨36, _⟩ => ⟨S8x1x1, .f32⟩
  | .hbm, ⟨37, _⟩ => ⟨S8x1x1, .i1⟩
  | .hbm, ⟨38, _⟩ => ⟨S1x1024x704, .f32⟩
  | .hbm, ⟨39, _⟩ => ⟨S8x1024x704, .f32⟩
  | .hbm, ⟨40, _⟩ => ⟨S8x1024x704, .i1⟩
  | .hbm, ⟨41, _⟩ => ⟨S8x1024x704, .f32⟩
  | .hbm, ⟨42, _⟩ => ⟨S8x1024x704, .f32⟩
  | .hbm, ⟨43, _⟩ => ⟨S_, .f32⟩
  | .hbm, ⟨44, _⟩ => ⟨S1024x704, .f32⟩
  | .hbm, ⟨45, _⟩ => ⟨S8x1x1, .f32⟩
  | .hbm, ⟨46, _⟩ => ⟨S_, .f32⟩
  | .hbm, ⟨47, _⟩ => ⟨S8x1x1, .f32⟩
  | .hbm, ⟨48, _⟩ => ⟨S8x1x1, .i1⟩
  | .hbm, ⟨49, _⟩ => ⟨S1x1024x704, .f32⟩
  | .hbm, ⟨50, _⟩ => ⟨S8x1024x704, .f32⟩
  | .hbm, ⟨51, _⟩ => ⟨S8x1024x704, .i1⟩
  | .hbm, ⟨52, _⟩ => ⟨S8x1024x704, .f32⟩
  | .hbm, ⟨53, _⟩ => ⟨S8x1024x704, .f32⟩
  | .hbm, ⟨54, _⟩ => ⟨S_, .f32⟩
  | .hbm, ⟨55, _⟩ => ⟨S1024x704, .f32⟩
  | .hbm, ⟨56, _⟩ => ⟨S4096x704, .f32⟩
  | .hbm, ⟨57, _⟩ => ⟨S_, .f32⟩
  | .hbm, ⟨58, _⟩ => ⟨S4096x704, .f32⟩
  | .hbm, ⟨59, _⟩ => ⟨S4096x704, .f32⟩
  | .hbm, ⟨60, _⟩ => ⟨S_, .f32⟩
  | .hbm, ⟨61, _⟩ => ⟨S4096x704, .f32⟩
  | .hbm, ⟨62, _⟩ => ⟨S4096x704, .f32⟩
  | .hbm, ⟨63, _⟩ => ⟨S4096x704, .f32⟩
  | .hbm, ⟨64, _⟩ => ⟨S_, .f32⟩
  | .hbm, ⟨65, _⟩ => ⟨S4096x704, .f32⟩
  | .hbm, ⟨66, _⟩ => ⟨S4096x704, .f32⟩
  | .hbm, ⟨67, _⟩ => ⟨S4096x704, .f32⟩
  | .hbm, ⟨68, _⟩ => ⟨S_, .f32⟩
  | .hbm, ⟨69, _⟩ => ⟨S4096x704, .f32⟩
  | .hbm, ⟨70, _⟩ => ⟨S4096x704, .f32⟩
  | .hbm, ⟨71, _⟩ => ⟨S4096x704, .f32⟩
  | .hbm, ⟨72, _⟩ => ⟨S_, .f32⟩
  | .hbm, ⟨73, _⟩ => ⟨S4096x704, .f32⟩
  | .hbm, ⟨74, _⟩ => ⟨S4096x704, .f32⟩
  | .hbm, ⟨75, _⟩ => ⟨S_, .f32⟩
  | .hbm, ⟨76, _⟩ => ⟨S4096x704, .f32⟩
  | .hbm, ⟨77, _⟩ => ⟨S4096x704, .f32⟩
  | .hbm, ⟨78, _⟩ => ⟨S4096x704, .f32⟩
  | .hbm, ⟨79, _⟩ => ⟨S_, .f32⟩
  | .hbm, ⟨80, _⟩ => ⟨S4096x704, .f32⟩
  | .hbm, ⟨81, _⟩ => ⟨S4096x704, .f32⟩
  | .hbm, ⟨82, _⟩ => ⟨S4096x704, .f32⟩
  | .hbm, ⟨83, _⟩ => ⟨S_, .f32⟩
  | .hbm, ⟨84, _⟩ => ⟨S4096x704, .f32⟩
  | .hbm, ⟨85, _⟩ => ⟨S4096x704, .f32⟩
  | .hbm, ⟨86, _⟩ => ⟨S4096x704, .f32⟩
  | .hbm, ⟨87, _⟩ => ⟨S_, .f32⟩
  | .hbm, ⟨88, _⟩ => ⟨S4096x704, .f32⟩
  | .hbm, ⟨89, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_v0 : Ref sig .tc := ⟨.hbm, 18, rfl⟩
abbrev main_call0_v1 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call3_v0 : Ref sig .tc := ⟨.hbm, 51, rfl⟩
abbrev main_call3_v1 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_cst_12 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_13 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_14 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== RedFo.lean ====
abbrev S1408x1024 : Shape := ⟨2, ![1408, 1024]⟩
abbrev S352x1024 : Shape := ⟨2, ![352, 1024]⟩
abbrev S8x352x1024 : Shape := ⟨3, ![8, 352, 1024]⟩
abbrev S8 : Shape := ⟨1, ![8]⟩
abbrev S32x1024 : Shape := ⟨2, ![32, 1024]⟩
abbrev S8x32x1024 : Shape := ⟨3, ![8, 32, 1024]⟩
abbrev S1 : Shape := ⟨1, ![1]⟩
abbrev S1x32x1024 : Shape := ⟨3, ![1, 32, 1024]⟩

abbrev nBuf : Space → Nat
  | .hbm => 16
  | .vmem => 30
  | .smem => 1
  | _ => 0

abbrev bufTy : (tb : Table) → Fin (tcTables nBuf tb) → BufTy
  | .hbm, ⟨0, _⟩ => ⟨S1408x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x352x1024, .bf16⟩
  | .hbm, ⟨6, _⟩ => ⟨S8x352x1024, .bf16⟩
  | .hbm, ⟨7, _⟩ => ⟨S8x352x1024, .bf16⟩
  | .hbm, ⟨8, _⟩ => ⟨S8x352x1024, .bf16⟩
  | .hbm, ⟨9, _⟩ => ⟨S8, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S1408x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S8x32x1024, .bf16⟩
  | .local _ .vmem, ⟨15, _⟩ => ⟨S8x32x1024, .bf16⟩
  | .local _ .vmem, ⟨16, _⟩ => ⟨S8x32x1024, .bf16⟩
  | .local _ .vmem, ⟨17, _⟩ => ⟨S8x32x1024, .bf16⟩
  | .local _ .vmem, ⟨18, _⟩ => ⟨S8x32x1024, .bf16⟩
  | .local _ .vmem, ⟨19, _⟩ => ⟨S8x32x1024, .bf16⟩
  | .local _ .vmem, ⟨20, _⟩ => ⟨S8x32x1024, .bf16⟩
  | .local _ .vmem, ⟨21, _⟩ => ⟨S8x32x1024, .bf16⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .smem, ⟨0, _⟩ => ⟨S8, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  ![v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  ![v3.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x32x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== RedFoRefIdeal.lean ====
abbrev S1408x1024 : Shape := ⟨2, ![1408, 1024]⟩
abbrev S352x1024 : Shape := ⟨2, ![352, 1024]⟩
abbrev S8x352x1024 : Shape := ⟨3, ![8, 352, 1024]⟩
abbrev S8 : Shape := ⟨1, ![8]⟩
abbrev S8x1x1 : Shape := ⟨3, ![8, 1, 1]⟩
abbrev S_ : Shape := ⟨0, ![]⟩
abbrev S1x352x1024 : Shape := ⟨3, ![1, 352, 1024]⟩

abbrev nBuf : Space → Nat
  | .hbm => 90
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x352x1024, .bf16⟩
  | .hbm, ⟨6, _⟩ => ⟨S8x352x1024, .bf16⟩
  | .hbm, ⟨7, _⟩ => ⟨S8x352x1024, .bf16⟩
  | .hbm, ⟨8, _⟩ => ⟨S8x352x1024, .bf16⟩
  | .hbm, ⟨9, _⟩ => ⟨S8, .f32⟩
  | .hbm, ⟨10, _⟩ => ⟨S1408x1024, .f32⟩
  | .hbm, ⟨11, _⟩ => ⟨S1408x1024, .f32⟩
  | .hbm, ⟨12, _⟩ => ⟨S8x1x1, .f32⟩
  | .hbm, ⟨13, _⟩ => ⟨S_, .f32⟩
  | .hbm, ⟨14, _⟩ => ⟨S8x1x1, .f32⟩
  | .hbm, ⟨15, _⟩ => ⟨S8x1x1, .i1⟩
  | .hbm, ⟨16, _⟩ => ⟨S1x352x1024, .f32⟩
  | .hbm, ⟨17, _⟩ => ⟨S8x352x1024, .f32⟩
  | .hbm, ⟨18, _⟩ => ⟨S8x352x1024, .i1⟩
  | .hbm, ⟨19, _⟩ => ⟨S8x352x1024, .f32⟩
  | .hbm, ⟨20, _⟩ => ⟨S8x352x1024, .f32⟩
  | .hbm, ⟨21, _⟩ => ⟨S_, .f32⟩
  | .hbm, ⟨22, _⟩ => ⟨S352x1024, .f32⟩
  | .hbm, ⟨23, _⟩ => ⟨S8x1x1, .f32⟩
  | .hbm, ⟨24, _⟩ => ⟨S_, .f32⟩
  | .hbm, ⟨25, _⟩ => ⟨S8x1x1, .f32⟩
  | .hbm, ⟨26, _⟩ => ⟨S8x1x1, .i1⟩
  | .hbm, ⟨27, _⟩ => ⟨S1x352x1024, .f32⟩
  | .hbm, ⟨28, _⟩ => ⟨S8x352x1024, .f32⟩
  | .hbm, ⟨29, _⟩ => ⟨S8x352x1024, .i1⟩
  | .hbm, ⟨30, _⟩ => ⟨S8x352x1024, .f32⟩
  | .hbm, ⟨31, _⟩ => ⟨S8x352x1024, .f32⟩
  | .hbm, ⟨32, _⟩ => ⟨S_, .f32⟩
  | .hbm, ⟨33, _⟩ => ⟨S352x1024, .f32⟩
  | .hbm, ⟨34, _⟩ => ⟨S8x1x1, .f32⟩
  | .hbm, ⟨35, _⟩ => ⟨S_, .f32⟩
  | .hbm, ⟨36, _⟩ => ⟨S8x1x1, .f32⟩
  | .hbm, ⟨37, _⟩ => ⟨S8x1x1, .i1⟩
  | .hbm, ⟨38, _⟩ => ⟨S1x352x1024, .f32⟩
  | .hbm, ⟨39, _⟩ => ⟨S8x352x1024, .f32⟩
  | .hbm, ⟨40, _⟩ => ⟨S8x352x1024, .i1⟩
  | .hbm, ⟨41, _⟩ => ⟨S8x352x1024, .f32⟩
  | .hbm, ⟨42, _⟩ => ⟨S8x352x1024, .f32⟩
  | .hbm, ⟨43, _⟩ => ⟨S_, .f32⟩
  | .hbm, ⟨44, _⟩ => ⟨S352x1024, .f32⟩
  | .hbm, ⟨45, _⟩ => ⟨S8x1x1, .f32⟩
  | .hbm, ⟨46, _⟩ => ⟨S_, .f32⟩
  | .hbm, ⟨47, _⟩ => ⟨S8x1x1, .f32⟩
  | .hbm, ⟨48, _⟩ => ⟨S8x1x1, .i1⟩
  | .hbm, ⟨49, _⟩ => ⟨S1x352x1024, .f32⟩
  | .hbm, ⟨50, _⟩ => ⟨S8x352x1024, .f32⟩
  | .hbm, ⟨51, _⟩ => ⟨S8x352x1024, .i1⟩
  | .hbm, ⟨52, _⟩ => ⟨S8x352x1024, .f32⟩
  | .hbm, ⟨53, _⟩ => ⟨S8x352x1024, .f32⟩
  | .hbm, ⟨54, _⟩ => ⟨S_, .f32⟩
  | .hbm, ⟨55, _⟩ => ⟨S352x1024, .f32⟩
  | .hbm, ⟨56, _⟩ => ⟨S1408x1024, .f32⟩
  | .hbm, ⟨57, _⟩ => ⟨S_, .f32⟩
  | .hbm, ⟨58, _⟩ => ⟨S1408x1024, .f32⟩
  | .hbm, ⟨59, _⟩ => ⟨S1408x1024, .f32⟩
  | .hbm, ⟨60, _⟩ => ⟨S_, .f32⟩
  | .hbm, ⟨61, _⟩ => ⟨S1408x1024, .f32⟩
  | .hbm, ⟨62, _⟩ => ⟨S1408x1024, .f32⟩
  | .hbm, ⟨63, _⟩ => ⟨S1408x1024, .f32⟩
  | .hbm, ⟨64, _⟩ => ⟨S_, .f32⟩
  | .hbm, ⟨65, _⟩ => ⟨S1408x1024, .f32⟩
  | .hbm, ⟨66, _⟩ => ⟨S1408x1024, .f32⟩
  | .hbm, ⟨67, _⟩ => ⟨S1408x1024, .f32⟩
  | .hbm, ⟨68, _⟩ => ⟨S_, .f32⟩
  | .hbm, ⟨69, _⟩ => ⟨S1408x1024, .f32⟩
  | .hbm, ⟨70, _⟩ => ⟨S1408x1024, .f32⟩
  | .hbm, ⟨71, _⟩ => ⟨S1408x1024, .f32⟩
  | .hbm, ⟨72, _⟩ => ⟨S_, .f32⟩
  | .hbm, ⟨73, _⟩ => ⟨S1408x1024, .f32⟩
  | .hbm, ⟨74, _⟩ => ⟨S1408x1024, .f32⟩
  | .hbm, ⟨75, _⟩ => ⟨S_, .f32⟩
  | .hbm, ⟨76, _⟩ => ⟨S1408x1024, .f32⟩
  | .hbm, ⟨77, _⟩ => ⟨S1408x1024, .f32⟩
  | .hbm, ⟨78, _⟩ => ⟨S1408x1024, .f32⟩
  | .hbm, ⟨79, _⟩ => ⟨S_, .f32⟩
  | .hbm, ⟨80, _⟩ => ⟨S1408x1024, .f32⟩
  | .hbm, ⟨81, _⟩ => ⟨S1408x1024, .f32⟩
  | .hbm, ⟨82, _⟩ => ⟨S1408x1024, .f32⟩
  | .hbm, ⟨83, _⟩ => ⟨S_, .f32⟩
  | .hbm, ⟨84, _⟩ => ⟨S1408x1024, .f32⟩
  | .hbm, ⟨85, _⟩ => ⟨S1408x1024, .f32⟩
  | .hbm, ⟨86, _⟩ => ⟨S1408x1024, .f32⟩
  | .hbm, ⟨87, _⟩ => ⟨S_, .f32⟩
  | .hbm, ⟨88, _⟩ => ⟨S1408x1024, .f32⟩
  | .hbm, ⟨89, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_v0 : Ref sig .tc := ⟨.hbm, 18, rfl⟩
abbrev main_call0_v1 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_v0 : Ref sig .tc := ⟨.hbm, 40, rfl⟩
abbrev main_call2_v1 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call3_v0 : Ref sig .tc := ⟨.hbm, 51, rfl⟩
abbrev main_call3_v1 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_10 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_cst_12 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_13 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_14 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Loss.lean ====
abbrev S8192x1024 : Shape := ⟨2, ![8192, 1024]⟩
abbrev S1x128 : Shape := ⟨2, ![1, 128]⟩
abbrev S512x1024 : Shape := ⟨2, ![512, 1024]⟩
abbrev S1x1024 : Shape := ⟨2, ![1, 1024]⟩
abbrev S1024 : Shape := ⟨1, ![1024]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v17 : BitVec 1 := Scalar.cmpi .eq arg0 c15_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SSum.lean ====
abbrev S8x56x1024 : Shape := ⟨3, ![8, 56, 1024]⟩
abbrev S56x1024 : Shape := ⟨2, ![56, 1024]⟩
abbrev S1x56x1024 : Shape := ⟨3, ![1, 56, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x56x1024, .f32⟩
  | .hbm, ⟨1, _⟩ => ⟨S56x1024, .f32⟩
  | .local _ .vmem, ⟨0, _⟩ => ⟨S8x56x1024, .f32⟩
  | .local _ .vmem, ⟨1, _⟩ => ⟨S56x1024, .f32⟩
  | _, _ => ⟨S8x56x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x56x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SSumRefIdeal.lean ====
abbrev S8x56x1024 : Shape := ⟨3, ![8, 56, 1024]⟩
abbrev S_ : Shape := ⟨0, ![]⟩
abbrev S56x1024 : Shape := ⟨2, ![56, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x56x1024, .f32⟩
  | .hbm, ⟨1, _⟩ => ⟨S_, .f32⟩
  | .hbm, ⟨2, _⟩ => ⟨S56x1024, .f32⟩
  | _, _ => ⟨S8x56x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.K.Off.lean ====
module

public import proofs.«01_k».proof.Proof.Gen.Kernel.Loops

@[expose] public section

namespace Cert.Kernel.Gen

open Idealize.ShloMosaic

/-- The offset of the block before the loop's current one: at the first trip the first block itself. -/
theorem k0_off2_eq : ∀ t : Fin k0_t1_loop.trips, k0_off2 t = ![128 * (t.val - 1), 0] := by decide +kernel

instance (t : Fin k0_t1_loop.trips) : ClosedOff (k0_off2 t) := ⟨_, k0_off2_eq t⟩

end Cert.Kernel.Gen

end
-- ==== Proof.KI.Off.lean ====
module

public import proofs.«01_k».proof.Proof.Gen.KernelIdeal.Loops

@[expose] public section

namespace Cert.KernelIdeal.Gen

open Idealize.ShloMosaic

/-- The offset of the block before the loop's current one: at the first trip the first block itself. -/
theorem k0_off2_eq : ∀ t : Fin k0_t1_loop.trips, k0_off2 t = ![128 * (t.val - 1), 0] := by decide +kernel

instance (t : Fin k0_t1_loop.trips) : ClosedOff (k0_off2 t) := ⟨_, k0_off2_eq t⟩

end Cert.KernelIdeal.Gen

end
-- ==== Proof.KI.Loop.lean ====
module

public import proofs.«01_k».proof.Proof.KI.Off

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none

local notation "𝕄" => MT nD τ sig Unit (Elt F) ℕ (UU nD τ) ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

section Trip

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .bf16) (harg8 : arg8.IsWhole)
  (arg9 : Memref sig .tc .vmem S1x4096x128 .bf16) (harg9 : arg9.IsWhole)
  (arg10 : Memref sig .tc .vmem S1x4096x128 .bf16) (harg10 : arg10.IsWhole)
  (arg11 : Memref sig .tc .vmem S4096x128 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S4096x128 .f32) (harg20 : arg20.IsWhole)
  (v0 : IVec S128x128 32) (v1 : IVec S128x128 32)
  (f12 : Bf (F := F) c arg12) (f13 : Bf (F := F) c arg13) (f14 : Bf (F := F) c arg14) (f15 : Bf (F := F) c arg15)
  (f16 : Bf (F := F) c arg16) (f17 : Bf (F := F) c arg17)

/-- What one trip of the loop touches. -/
abbrev Trip (f18 : Bf (F := F) c arg18) (f19 : Bf (F := F) c arg19) (f20 : Bf (F := F) c arg20) : sProp 𝕄 :=
  iprop(pt c arg12 f12 ∗ pt c arg13 f13 ∗ pt c arg14 f14 ∗ pt c arg15 f15 ∗ pt c arg16 f16 ∗ pt c arg17 f17
    ∗ pt c arg18 f18 ∗ pt c arg19 f19 ∗ pt c arg20 f20)

set_option backward.proofsInPublic true in
/-- One trip at a symbolic `k`: what it leaves in the three accumulators is found by the run. -/
def tripRun (k : Fin k0_t1_loop.trips) (f18 : Bf (F := F) c arg18) (f19 : Bf (F := F) c arg19) (f20 : Bf (F := F) c arg20) :
    { p : Bf (F := F) c arg18 × Bf (F := F) c arg19 × Bf (F := F) c arg20 //
      Trip c arg12 arg13 arg14 arg15 arg16 arg17 arg18 arg19 arg20 f12 f13 f14 f15 f16 f17 f18 f19 f20
        ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 k ())
          (fun _ => Trip c arg12 arg13 arg14 arg15 arg16 arg17 arg18 arg19 arg20 f12 f13 f14 f15 f16 f17 p.1 p.2.1 p.2.2) } := by
  refine ⟨⟨?_, ?_, ?_⟩, ?run⟩
  case run =>
    unfold Trip
    iintro ⟨H12, H13, H14, H15, H16, H17, H18, H19, H20⟩
    unfold k0_t1_body
    sl_exec
    sl_step
    sl_close

/-- The three accumulators before trip `k`, from what they hold at the loop's entry. -/
def St (g18 : Bf (F := F) c arg18) (g19 : Bf (F := F) c arg19) (g20 : Bf (F := F) c arg20) :
    ℕ → Bf (F := F) c arg18 × Bf (F := F) c arg19 × Bf (F := F) c arg20
  | 0 => (g18, g19, g20)
  | k + 1 =>
    if h : k < k0_t1_loop.trips then
      (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 ⟨k, h⟩ (St g18 g19 g20 k).1 (St g18 g19 g20 k).2.1 (St g18 g19 g20 k).2.2).1
    else St g18 g19 g20 k

theorem St_succ (g18 : Bf (F := F) c arg18) (g19 : Bf (F := F) c arg19) (g20 : Bf (F := F) c arg20) (k : Fin k0_t1_loop.trips) :
    St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k.val + 1)
      = (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 k (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).1
          (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).2.1 (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).2.2).1 := by
  rw [St.eq_2]; exact dif_pos k.isLt

/-- Each of the three by itself: at trip 0 what it holds at the loop's entry. -/
def S18 (g18 : Bf (F := F) c arg18) (g19 : Bf (F := F) c arg19) (g20 : Bf (F := F) c arg20) : ℕ → Bf (F := F) c arg18
  | 0 => g18
  | k + 1 => (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k + 1)).1
def S19 (g18 : Bf (F := F) c arg18) (g19 : Bf (F := F) c arg19) (g20 : Bf (F := F) c arg20) : ℕ → Bf (F := F) c arg19
  | 0 => g19
  | k + 1 => (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k + 1)).2.1
def S20 (g18 : Bf (F := F) c arg18) (g19 : Bf (F := F) c arg19) (g20 : Bf (F := F) c arg20) : ℕ → Bf (F := F) c arg20
  | 0 => g20
  | k + 1 => (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k + 1)).2.2

theorem S_eq (g18 : Bf (F := F) c arg18) (g19 : Bf (F := F) c arg19) (g20 : Bf (F := F) c arg20) (k : ℕ) :
    (S18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k, S19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k, S20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k)
      = St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k := by
  cases k <;> rfl

set_option warn.classDefReducibility false in
/-- The loop's invariant: the three accumulators at their recursion, the other buffers as they are. -/
@[sl_loop] def loopInv_k0_t1 (g18 : Bf (F := F) c arg18) (g19 : Bf (F := F) c arg19) (g20 : Bf (F := F) c arg20) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 where
  inv k _ := Trip c arg12 arg13 arg14 arg15 arg16 arg17 arg18 arg19 arg20 f12 f13 f14 f15 f16 f17
    (S18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k) (S19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k)
    (S20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k)
  step k _ := by
    have e := S_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k.val
    have e' := (S_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k.val + 1)).trans (St_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k)
    rw [← e] at e'
    rw [show S18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k.val + 1) = _ from congrArg (·.1) e',
      show S19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k.val + 1) = _ from congrArg (·.2.1) e',
      show S20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 (k.val + 1) = _ from congrArg (·.2.2) e']
    exact (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 k _ _ _).2

end Trip

end Cert.Proof.KernelIdeal

end

end
-- ==== Proof.KI.Body.lean ====
module

public import proofs.«01_k».proof.Proof.KI.Loop

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UU nD τ) ℕ

section Body

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .bf16) (harg8 : arg8.IsWhole)
  (arg9 : Memref sig .tc .vmem S1x4096x128 .bf16) (harg9 : arg9.IsWhole)
  (arg10 : Memref sig .tc .vmem S1x4096x128 .bf16) (harg10 : arg10.IsWhole)
  (arg11 : Memref sig .tc .vmem S4096x128 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S4096x128 .f32) (harg20 : arg20.IsWhole)

set_option backward.proofsInPublic true in
/-- The kernel's body on its windows and its scratch buffers, each held whole: what it leaves in the three results is found by the run. -/
def bodyRun
    (g2 : Bf (F := F) c arg2) (g3 : Bf (F := F) c arg3) (g4 : Bf (F := F) c arg4) (g5 : Bf (F := F) c arg5) (g6 : Bf (F := F) c arg6) (g7 : Bf (F := F) c arg7) (g8 : Bf (F := F) c arg8) (g9 : Bf (F := F) c arg9) (g10 : Bf (F := F) c arg10) (g11 : Bf (F := F) c arg11) (g12 : Bf (F := F) c arg12) (g13 : Bf (F := F) c arg13) (g14 : Bf (F := F) c arg14) (g15 : Bf (F := F) c arg15) (g16 : Bf (F := F) c arg16) (g17 : Bf (F := F) c arg17) (g18 : Bf (F := F) c arg18) (g19 : Bf (F := F) c arg19) (g20 : Bf (F := F) c arg20) :
    { p : Bf (F := F) c arg8 × Bf (F := F) c arg9 × Bf (F := F) c arg10 //
      iprop(pt c arg2 g2 ∗ pt c arg3 g3 ∗ pt c arg4 g4 ∗ pt c arg5 g5 ∗ pt c arg6 g6 ∗ pt c arg7 g7 ∗ pt c arg8 g8 ∗ pt c arg9 g9 ∗ pt c arg10 g10 ∗ pt c arg11 g11 ∗ pt c arg12 g12 ∗ pt c arg13 g13 ∗ pt c arg14 g14 ∗ pt c arg15 g15 ∗ pt c arg16 g16 ∗ pt c arg17 g17 ∗ pt c arg18 g18 ∗ pt c arg19 g19 ∗ pt c arg20 g20)
        ⊢ wp frame (wpE (defs₀ (F := F)) 𝒱₀ (c : Thread nD τ) none) Set.univ
          (cc0_at_coreb0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(pt c arg2 g2 ∗ pt c arg3 g3 ∗ pt c arg4 g4 ∗ pt c arg5 g5 ∗ pt c arg6 g6 ∗ pt c arg7 g7 ∗ pt c arg8 p.1 ∗ pt c arg9 p.2.1 ∗ pt c arg10 p.2.2
            ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f))) } := by
  refine ⟨⟨?_, ?_, ?_⟩, ?run⟩
  case run =>
    iintro ⟨H2, H3, H4, H5, H6, H7, H8, H9, H10, H11, H12, H13, H14, H15, H16, H17, H18, H19, H20⟩
    sl_unfold [cc0_at_coreb0]
    sl_exec
    sl_step
    isplitl [H2]; iexact H2; isplitl [H3]; iexact H3; isplitl [H4]; iexact H4; isplitl [H5]; iexact H5; isplitl [H6]; iexact H6; isplitl [H7]; iexact H7; isplitl [H8]; iexact H8; isplitl [H9]; iexact H9; isplitl [H10]; iexact H10
    isplitl [H11]; (iexists _; iexact H11); isplitl [H12]; (iexists _; iexact H12); isplitl [H13]; (iexists _; iexact H13); isplitl [H14]; (iexists _; iexact H14); isplitl [H15]; (iexists _; iexact H15); isplitl [H16]; (iexists _; iexact H16); isplitl [H17]; (iexists _; iexact H17); isplitl [H18]; (iexists _; iexact H18); isplitl [H19]; (iexists _; iexact H19)
    iexists _; iexact H20

end Body

end Cert.Proof.KernelIdeal

end

end
-- ==== Proof.KI.Vec.lean ====
module

public import proofs.«01_k».proof.Proof.KI.Body

public import Idealize.ShloMosaic.Lib.VecWindow

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # The loop on vectors: what each trip puts into the three accumulators -/

/-- The rows `128 k … 128 k + 127` of `x`. -/
abbrev b1 {e : EltTy} (x : S4096x128.Idx → Elt F e) (k : Fin k0_t1_loop.trips) : S128x128.Idx → Elt F e :=
  VecWindow.window x (k0_off1 k) S128x128.size (k0_off1_inb k)
/-- The block of rows before them (the first block for the first trip). -/
abbrev b2 {e : EltTy} (x : S4096x128.Idx → Elt F e) (k : Fin k0_t1_loop.trips) : S128x128.Idx → Elt F e :=
  VecWindow.window x (k0_off2 k) S128x128.size (k0_off2_inb k)
/-- The trip's number, as the kernel computes it. -/
abbrev trip32 (k : Fin k0_t1_loop.trips) : BitVec 32 :=
  tripRun.sl.v89 k

section Vec

variable (v0 v1 : IVec S128x128 32) (XQ XK XV XD : FVec F S4096x128 .bf16) (XO XL : FVec F S4096x128 .f32)

/-- The weights of a block against itself and against the block before it. -/
def pCur (k : Fin k0_t1_loop.trips) : FVec F S128x128 .f32 :=
  k0_pay11 (k0_pay8 (b1 XL k)) (k0_pay9 v0 v1) (k0_pay10 (b1 XQ k) (b1 XK k)) (Named.named κ "mask" 0xF149F2CA#32 : F .f32)
def pPrev (k : Fin k0_t1_loop.trips) : FVec F S128x128 .f32 :=
  k0_pay12 v0 v1 (trip32 k) (b1 XQ k) (b2 XK k) (k0_pay8 (b1 XL k))
/-- The gradients of the two blocks' scores. -/
def dsCur (k : Fin k0_t1_loop.trips) : FVec F S128x128 .bf16 :=
  k0_pay13 (b1 XV k) (b1 XD k) (k0_pay7 (b1 XO k)) (k0_pay8 (b1 XL k)) (k0_pay9 v0 v1) (k0_pay10 (b1 XQ k) (b1 XK k)) (Named.named κ "mask" 0xF149F2CA#32 : F .f32)
def dsPrev (k : Fin k0_t1_loop.trips) : FVec F S128x128 .bf16 :=
  k0_pay14 v0 v1 (trip32 k) (b1 XQ k) (b2 XK k) (b2 XV k) (b1 XD k) (k0_pay7 (b1 XO k)) (k0_pay8 (b1 XL k))
/-- The block of the query's gradient. -/
def dqBlk (k : Fin k0_t1_loop.trips) : FVec F S128x128 .f32 :=
  k0_pay15 v0 v1 (trip32 k) (b1 XQ k) (b1 XK k) (b2 XK k) (b1 XV k) (b2 XV k) (b1 XD k) (k0_pay7 (b1 XO k)) (k0_pay8 (b1 XL k)) (k0_pay9 v0 v1) (k0_pay10 (b1 XQ k) (b1 XK k)) (Named.named κ "mask" 0xF149F2CA#32 : F .f32)

/-- One trip on each accumulator. -/
def step18 (k : Fin k0_t1_loop.trips) (x : FVec F S4096x128 .f32) : FVec F S4096x128 .f32 :=
  VecWindow.put x (k0_off1 k) S128x128.size (dqBlk v0 v1 XQ XK XV XD XO XL k)
def half19 (k : Fin k0_t1_loop.trips) (x : FVec F S4096x128 .f32) : FVec F S4096x128 .f32 :=
  VecWindow.put x (k0_off1 k) S128x128.size (k0_pay26 (k0_pay16 (b1 XQ k) (b1 XV k) (b1 XD k) (k0_pay7 (b1 XO k)) (k0_pay8 (b1 XL k)) (k0_pay9 v0 v1) (k0_pay10 (b1 XQ k) (b1 XK k)) (Named.named κ "mask" 0xF149F2CA#32 : F .f32) (b1 x k)))
def step19 (k : Fin k0_t1_loop.trips) (x : FVec F S4096x128 .f32) : FVec F S4096x128 .f32 :=
  VecWindow.put (half19 v0 v1 XQ XK XV XD XO XL k x) (k0_off2 k) S128x128.size (k0_pay27 (b1 XQ k) (dsPrev v0 v1 XQ XK XV XD XO XL k) (b2 (half19 v0 v1 XQ XK XV XD XO XL k x) k))
def half20 (k : Fin k0_t1_loop.trips) (x : FVec F S4096x128 .f32) : FVec F S4096x128 .f32 :=
  VecWindow.put x (k0_off1 k) S128x128.size (k0_pay28 (b1 XD k) (pCur v0 v1 XQ XK XL k) (b1 x k))
def step20 (k : Fin k0_t1_loop.trips) (x : FVec F S4096x128 .f32) : FVec F S4096x128 .f32 :=
  VecWindow.put (half20 v0 v1 XQ XK XD XL k x) (k0_off2 k) S128x128.size (k0_pay29 (b1 XD k) (pPrev v0 v1 XQ XK XL k) (b2 (half20 v0 v1 XQ XK XD XL k x) k))

/-- A step run over the trips before `k`. -/
def iter (step : Fin k0_t1_loop.trips → FVec F S4096x128 .f32 → FVec F S4096x128 .f32) (x : FVec F S4096x128 .f32) : ℕ → FVec F S4096x128 .f32
  | 0 => x
  | k + 1 => if h : k < k0_t1_loop.trips then step ⟨k, h⟩ (iter step x k) else iter step x k

theorem iter_succ (step : Fin k0_t1_loop.trips → FVec F S4096x128 .f32 → FVec F S4096x128 .f32) (x : FVec F S4096x128 .f32)
    (k : ℕ) (h : k < k0_t1_loop.trips) : iter step x (k + 1) = step ⟨k, h⟩ (iter step x k) := by
  rw [iter.eq_2]; exact dif_pos h

end Vec

section Read

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .bf16) (harg8 : arg8.IsWhole)
  (arg9 : Memref sig .tc .vmem S1x4096x128 .bf16) (harg9 : arg9.IsWhole)
  (arg10 : Memref sig .tc .vmem S1x4096x128 .bf16) (harg10 : arg10.IsWhole)
  (arg11 : Memref sig .tc .vmem S4096x128 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S4096x128 .f32) (harg20 : arg20.IsWhole)
  (v0 : IVec S128x128 32) (v1 : IVec S128x128 32)
  (f12 : Bf (F := F) c arg12) (f13 : Bf (F := F) c arg13) (f14 : Bf (F := F) c arg14) (f15 : Bf (F := F) c arg15)
  (f16 : Bf (F := F) c arg16) (f17 : Bf (F := F) c arg17)

set_option backward.proofsInPublic true in
theorem read_trip18 (k : Fin k0_t1_loop.trips) (f18 : Bf (F := F) c arg18) (f19 : Bf (F := F) c arg19) (f20 : Bf (F := F) c arg20) :
    arg18.view.read (Elt F) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 k f18 f19 f20).1.1
      = step18 v0 v1 (arg12.view.read (Elt F) f12) (arg13.view.read (Elt F) f13) (arg14.view.read (Elt F) f14) (arg15.view.read (Elt F) f15) (arg16.view.read (Elt F) f16) (arg17.view.read (Elt F) f17) k (arg18.view.read (Elt F) f18) :=
  View.read_writes_cons_put arg18.view f18 (k0_off1_inb k) _ [] rfl

set_option backward.proofsInPublic true in
theorem read_trip19 (k : Fin k0_t1_loop.trips) (f18 : Bf (F := F) c arg18) (f19 : Bf (F := F) c arg19) (f20 : Bf (F := F) c arg20) :
    arg19.view.read (Elt F) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 k f18 f19 f20).1.2.1
      = step19 v0 v1 (arg12.view.read (Elt F) f12) (arg13.view.read (Elt F) f13) (arg14.view.read (Elt F) f14) (arg15.view.read (Elt F) f15) (arg16.view.read (Elt F) f16) (arg17.view.read (Elt F) f17) k (arg19.view.read (Elt F) f19) := by
  refine (View.read_writes_cons_put arg19.view f19 (k0_off2_inb k) _ _ rfl).trans ?_
  have h : ∀ w, arg19.view.read (Elt F) (arg19.view.writes (Elt F) f19 [⟨Rect.unit (s := S4096x128) (k0_off1 k) S128x128.size (k0_off1_inb k), w⟩])
      = VecWindow.put (arg19.view.read (Elt F) f19) (k0_off1 k) S128x128.size w := fun w => View.read_writes_cons_put arg19.view f19 (k0_off1_inb k) w [] rfl
  unfold step19 half19
  rw [← h]
  rfl

set_option backward.proofsInPublic true in
theorem read_trip20 (k : Fin k0_t1_loop.trips) (f18 : Bf (F := F) c arg18) (f19 : Bf (F := F) c arg19) (f20 : Bf (F := F) c arg20) :
    arg20.view.read (Elt F) (tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 k f18 f19 f20).1.2.2
      = step20 v0 v1 (arg12.view.read (Elt F) f12) (arg13.view.read (Elt F) f13) (arg15.view.read (Elt F) f15) (arg17.view.read (Elt F) f17) k (arg20.view.read (Elt F) f20) := by
  refine (View.read_writes_cons_put arg20.view f20 (k0_off2_inb k) _ _ rfl).trans ?_
  have h : ∀ w, arg20.view.read (Elt F) (arg20.view.writes (Elt F) f20 [⟨Rect.unit (s := S4096x128) (k0_off1 k) S128x128.size (k0_off1_inb k), w⟩])
      = VecWindow.put (arg20.view.read (Elt F) f20) (k0_off1 k) S128x128.size w := fun w => View.read_writes_cons_put arg20.view f20 (k0_off1_inb k) w [] rfl
  unfold step20 half20
  rw [← h]
  rfl

end Read

end Cert.Proof.KernelIdeal

end

end
-- ==== Proof.KI.Iter.lean ====
module

public import proofs.«01_k».proof.Proof.KI.Vec

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Read

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .bf16) (harg8 : arg8.IsWhole)
  (arg9 : Memref sig .tc .vmem S1x4096x128 .bf16) (harg9 : arg9.IsWhole)
  (arg10 : Memref sig .tc .vmem S1x4096x128 .bf16) (harg10 : arg10.IsWhole)
  (arg11 : Memref sig .tc .vmem S4096x128 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S4096x128 .f32) (harg20 : arg20.IsWhole)
  (v0 : IVec S128x128 32) (v1 : IVec S128x128 32)

section
variable (f12 : Bf (F := F) c arg12) (f13 : Bf (F := F) c arg13) (f14 : Bf (F := F) c arg14) (f15 : Bf (F := F) c arg15)
  (f16 : Bf (F := F) c arg16) (f17 : Bf (F := F) c arg17) (g18 : Bf (F := F) c arg18) (g19 : Bf (F := F) c arg19) (g20 : Bf (F := F) c arg20)

theorem read_St (k : ℕ) :
    arg18.view.read (Elt F) (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).1 = iter (step18 v0 v1 (arg12.view.read (Elt F) f12) (arg13.view.read (Elt F) f13) (arg14.view.read (Elt F) f14) (arg15.view.read (Elt F) f15) (arg16.view.read (Elt F) f16) (arg17.view.read (Elt F) f17)) (arg18.view.read (Elt F) g18) k
    ∧ arg19.view.read (Elt F) (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).2.1 = iter (step19 v0 v1 (arg12.view.read (Elt F) f12) (arg13.view.read (Elt F) f13) (arg14.view.read (Elt F) f14) (arg15.view.read (Elt F) f15) (arg16.view.read (Elt F) f16) (arg17.view.read (Elt F) f17)) (arg19.view.read (Elt F) g19) k
    ∧ arg20.view.read (Elt F) (St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).2.2 = iter (step20 v0 v1 (arg12.view.read (Elt F) f12) (arg13.view.read (Elt F) f13) (arg15.view.read (Elt F) f15) (arg17.view.read (Elt F) f17)) (arg20.view.read (Elt F) g20) k := by
  induction k with
  | zero => exact ⟨rfl, rfl, rfl⟩
  | succ k ih =>
    by_cases h : k < k0_t1_loop.trips
    · have e := St_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 ⟨k, h⟩
      dsimp only at e
      rw [e, iter_succ _ _ k h, iter_succ _ _ k h, iter_succ _ _ k h, ← ih.1, ← ih.2.1, ← ih.2.2]
      exact ⟨read_trip18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 _ _ _ _, read_trip19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 _ _ _ _, read_trip20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 _ _ _ _⟩
    · rw [St.eq_2, dif_neg h, iter.eq_2, dif_neg h, iter.eq_2, dif_neg h, iter.eq_2, dif_neg h]
      exact ih

theorem read_S18 (k : ℕ) : arg18.view.read (Elt F) (S18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k) = iter (step18 v0 v1 (arg12.view.read (Elt F) f12) (arg13.view.read (Elt F) f13) (arg14.view.read (Elt F) f14) (arg15.view.read (Elt F) f15) (arg16.view.read (Elt F) f16) (arg17.view.read (Elt F) f17)) (arg18.view.read (Elt F) g18) k :=
  (congrArg (fun p => arg18.view.read (Elt F) p.1) (S_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k)).trans (read_St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).1
theorem read_S19 (k : ℕ) : arg19.view.read (Elt F) (S19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k) = iter (step19 v0 v1 (arg12.view.read (Elt F) f12) (arg13.view.read (Elt F) f13) (arg14.view.read (Elt F) f14) (arg15.view.read (Elt F) f15) (arg16.view.read (Elt F) f16) (arg17.view.read (Elt F) f17)) (arg19.view.read (Elt F) g19) k :=
  (congrArg (fun p => arg19.view.read (Elt F) p.2.1) (S_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k)).trans (read_St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).2.1
theorem read_S20 (k : ℕ) : arg20.view.read (Elt F) (S20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k) = iter (step20 v0 v1 (arg12.view.read (Elt F) f12) (arg13.view.read (Elt F) f13) (arg15.view.read (Elt F) f15) (arg17.view.read (Elt F) f17)) (arg20.view.read (Elt F) g20) k :=
  (congrArg (fun p => arg20.view.read (Elt F) p.2.2) (S_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k)).trans (read_St c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v0 v1 f12 f13 f14 f15 f16 f17 g18 g19 g20 k).2.2

end

end Read

/-! # The three results as functions of the six blocks -/

/-- The rows and the columns of a block, numbered. -/
abbrev io0 : IVec S128x128 32 := bodyRun.sl.v0
abbrev io1 : IVec S128x128 32 := bodyRun.sl.v1

section Out

variable (x2 x3 x4 x5 : Vec F S1x4096x128 .bf16) (x6 x7 : Vec F S1x4096x128 .f32)

/-- The query's gradient, the key's and the value's, as the loop leaves them. -/
def accQ (x : FVec F S4096x128 .f32) : FVec F S4096x128 .f32 := iter (step18 io0 io1 (k0_pay17 x2) (k0_pay18 x3) (k0_pay19 x4) (k0_pay20 x5) (k0_pay23 (k0_pay22 x5 x6)) (k0_pay21 x7)) x k0_t1_loop.trips
def accK : FVec F S4096x128 .f32 := iter (step19 io0 io1 (k0_pay17 x2) (k0_pay18 x3) (k0_pay19 x4) (k0_pay20 x5) (k0_pay23 (k0_pay22 x5 x6)) (k0_pay21 x7)) k0_pay24 k0_t1_loop.trips
def accV : FVec F S4096x128 .f32 := iter (step20 io0 io1 (k0_pay17 x2) (k0_pay18 x3) (k0_pay20 x5) (k0_pay21 x7)) k0_pay25 k0_t1_loop.trips
def outQ : FVec F S1x4096x128 .bf16 := k0_pay2 (k0_pay1 (accQ x2 x3 x4 x5 x6 x7 k0_pay24))
def outK : FVec F S1x4096x128 .bf16 := k0_pay4 (k0_pay3 (accK x2 x3 x4 x5 x6 x7))
def outV : FVec F S1x4096x128 .bf16 := k0_pay6 (k0_pay5 (accV x2 x3 x5 x7))

/-- Every row of the query's gradient is stored by some trip: what the buffer held before does not matter. -/
theorem accQ_eq (x y : FVec F S4096x128 .f32) : accQ x2 x3 x4 x5 x6 x7 x = accQ x2 x3 x4 x5 x6 x7 y := by
  have h : ∀ k, k ≤ k0_t1_loop.trips → ∀ j : S4096x128.Idx, (j (0 : Fin 2)).val < 128 * k →
      iter (step18 io0 io1 (k0_pay17 x2) (k0_pay18 x3) (k0_pay19 x4) (k0_pay20 x5) (k0_pay23 (k0_pay22 x5 x6)) (k0_pay21 x7)) x k j = iter (step18 io0 io1 (k0_pay17 x2) (k0_pay18 x3) (k0_pay19 x4) (k0_pay20 x5) (k0_pay23 (k0_pay22 x5 x6)) (k0_pay21 x7)) y k j := by
    intro k
    induction k with
    | zero => intro _ j hj; omega
    | succ k ih =>
      intro hk j hj
      rw [iter_succ _ _ k (by omega), iter_succ _ _ k (by omega)]
      unfold step18 VecWindow.put
      by_cases hh : ∀ a, k0_off1 ⟨k, by omega⟩ a ≤ (j a).val ∧ (j a).val < k0_off1 ⟨k, by omega⟩ a + S128x128.size a
      · rw [dif_pos hh, dif_pos hh]
      · rw [dif_neg hh, dif_neg hh]
        refine ih (by omega) j ?_
        by_contra hlt
        apply hh
        rw [k0_off1_eq]
        refine Fin.forall_fin_two.mpr ⟨⟨?_, ?_⟩, ⟨Nat.zero_le _, ?_⟩⟩
        · show 128 * k ≤ (j (0 : Fin 2)).val; omega
        · show (j (0 : Fin 2)).val < 128 * k + 128; omega
        · show (j (1 : Fin 2)).val < 0 + 128
          have : (j (1 : Fin 2)).val < 128 := (j (1 : Fin 2)).isLt
          omega
  funext j
  exact h _ (le_refl _) j (by
    have h1 : (j (0 : Fin 2)).val < 4096 := (j (0 : Fin 2)).isLt
    have h2 : k0_t1_loop.trips = 32 := by decide +kernel
    omega)

end Out

end Cert.Proof.KernelIdeal

end

end
-- ==== Proof.KI.Out.lean ====
module

public import proofs.«01_k».proof.Proof.KI.Iter

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section ReadBody

variable (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .bf16) (harg8 : arg8.IsWhole)
  (arg9 : Memref sig .tc .vmem S1x4096x128 .bf16) (harg9 : arg9.IsWhole)
  (arg10 : Memref sig .tc .vmem S1x4096x128 .bf16) (harg10 : arg10.IsWhole)
  (arg11 : Memref sig .tc .vmem S4096x128 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S4096x128 .f32) (harg20 : arg20.IsWhole)
  (g2 : Bf (F := F) c arg2) (g3 : Bf (F := F) c arg3) (g4 : Bf (F := F) c arg4) (g5 : Bf (F := F) c arg5) (g6 : Bf (F := F) c arg6) (g7 : Bf (F := F) c arg7) (g8 : Bf (F := F) c arg8) (g9 : Bf (F := F) c arg9) (g10 : Bf (F := F) c arg10) (g11 : Bf (F := F) c arg11) (g12 : Bf (F := F) c arg12) (g13 : Bf (F := F) c arg13) (g14 : Bf (F := F) c arg14) (g15 : Bf (F := F) c arg15) (g16 : Bf (F := F) c arg16) (g17 : Bf (F := F) c arg17) (g18 : Bf (F := F) c arg18) (g19 : Bf (F := F) c arg19) (g20 : Bf (F := F) c arg20)

theorem rd12 : arg12.view.read (Elt F) (arg12.view.writes (Elt F) arg12.view.junk (bodyRun.sl.H12_1 c arg2 g2)) = k0_pay17 (arg2.view.read (Elt F) g2) :=
  (View.read_writes_full arg12.view _ inb_S4096x128_S4096x128_0_0 _ []).trans
    (congrArg k0_pay17 (View.readAt_full arg2.view g2 inb_S1x4096x128_S1x4096x128_0_0_0))
theorem rd13 : arg13.view.read (Elt F) (arg13.view.writes (Elt F) arg13.view.junk (bodyRun.sl.H13_1 c arg3 g3)) = k0_pay18 (arg3.view.read (Elt F) g3) :=
  (View.read_writes_full arg13.view _ inb_S4096x128_S4096x128_0_0 _ []).trans
    (congrArg k0_pay18 (View.readAt_full arg3.view g3 inb_S1x4096x128_S1x4096x128_0_0_0))
theorem rd14 : arg14.view.read (Elt F) (arg14.view.writes (Elt F) arg14.view.junk (bodyRun.sl.H14_1 c arg4 g4)) = k0_pay19 (arg4.view.read (Elt F) g4) :=
  (View.read_writes_full arg14.view _ inb_S4096x128_S4096x128_0_0 _ []).trans
    (congrArg k0_pay19 (View.readAt_full arg4.view g4 inb_S1x4096x128_S1x4096x128_0_0_0))
theorem rd15 : arg15.view.read (Elt F) (arg15.view.writes (Elt F) arg15.view.junk (bodyRun.sl.H15_1 c arg5 g5)) = k0_pay20 (arg5.view.read (Elt F) g5) :=
  (View.read_writes_full arg15.view _ inb_S4096x128_S4096x128_0_0 _ []).trans
    (congrArg k0_pay20 (View.readAt_full arg5.view g5 inb_S1x4096x128_S1x4096x128_0_0_0))
theorem rd17 : arg17.view.read (Elt F) (arg17.view.writes (Elt F) arg17.view.junk (bodyRun.sl.H17_1 c arg7 g7)) = k0_pay21 (arg7.view.read (Elt F) g7) :=
  (View.read_writes_full arg17.view _ inb_S4096x128_S4096x128_0_0 _ []).trans
    (congrArg k0_pay21 (View.readAt_full arg7.view g7 inb_S1x4096x128_S1x4096x128_0_0_0))
theorem rd16 : arg16.view.read (Elt F) (arg16.view.writes (Elt F) arg16.view.junk (bodyRun.sl.H16_1 c arg5 arg6 arg11 g5 g6)) = k0_pay23 (k0_pay22 (arg5.view.read (Elt F) g5) (arg6.view.read (Elt F) g6)) := by
  refine (View.read_writes_full arg16.view _ inb_S4096x128_S4096x128_0_0 _ []).trans (congrArg k0_pay23 ?_)
  unfold bodyRun.sl.v40 bodyRun.sl.H11_1
  rw [View.readCov_full, View.readAt_full, View.readAt_full]

set_option backward.proofsInPublic true in
theorem read_body8 : arg8.view.read (Elt F) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g2 g3 g4 g5 g6 g7 g8 g9 g10 g11 g12 g13 g14 g15 g16 g17 g18 g19 g20).1.1 = outQ (arg2.view.read (Elt F) g2) (arg3.view.read (Elt F) g3) (arg4.view.read (Elt F) g4) (arg5.view.read (Elt F) g5) (arg6.view.read (Elt F) g6) (arg7.view.read (Elt F) g7) := by
  unfold outQ bodyRun
  dsimp only
  rw [View.read_writes_full]
  unfold bodyRun.sl.v57 bodyRun.sl.H11_2
  rw [View.readCov_full]
  unfold bodyRun.sl.v53
  rw [View.readAt_full, read_S18, rd12, rd13, rd15, rd17, rd14, rd16]
  rw [accQ_eq (arg2.view.read (Elt F) g2) (arg3.view.read (Elt F) g3) (arg4.view.read (Elt F) g4) (arg5.view.read (Elt F) g5) (arg6.view.read (Elt F) g6) (arg7.view.read (Elt F) g7) k0_pay24 (arg18.view.read (Elt F) g18)]; rfl

set_option backward.proofsInPublic true in
theorem read_body9 : arg9.view.read (Elt F) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g2 g3 g4 g5 g6 g7 g8 g9 g10 g11 g12 g13 g14 g15 g16 g17 g18 g19 g20).1.2.1 = outK (arg2.view.read (Elt F) g2) (arg3.view.read (Elt F) g3) (arg4.view.read (Elt F) g4) (arg5.view.read (Elt F) g5) (arg6.view.read (Elt F) g6) (arg7.view.read (Elt F) g7) := by
  unfold outK bodyRun
  dsimp only
  rw [View.read_writes_full]
  unfold bodyRun.sl.v66 bodyRun.sl.H11_3
  rw [View.readCov_full]
  unfold bodyRun.sl.v62
  rw [View.readAt_full, read_S19, rd12, rd13, rd15, rd17, rd14, rd16]
  have h0 : arg19.view.read (Elt F) (View.write (Elt F) (arg19.view.slice (⟨Rect.unit (s := S4096x128) ![0, 0] S4096x128.size inb_S4096x128_S4096x128_0_0, k0_pay24⟩ : View.Piece (Elt F) S4096x128 .f32).fst) (arg19.view.writes (Elt F) arg19.view.junk []) (⟨Rect.unit (s := S4096x128) ![0, 0] S4096x128.size inb_S4096x128_S4096x128_0_0, k0_pay24⟩ : View.Piece (Elt F) S4096x128 .f32).snd Finset.univ) = k0_pay24 :=
    View.read_writes_full arg19.view _ inb_S4096x128_S4096x128_0_0 _ []
  rw [h0]; rfl

set_option backward.proofsInPublic true in
theorem read_body10 : arg10.view.read (Elt F) (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g2 g3 g4 g5 g6 g7 g8 g9 g10 g11 g12 g13 g14 g15 g16 g17 g18 g19 g20).1.2.2 = outV (arg2.view.read (Elt F) g2) (arg3.view.read (Elt F) g3) (arg5.view.read (Elt F) g5) (arg7.view.read (Elt F) g7) := by
  unfold outV bodyRun
  dsimp only
  rw [View.read_writes_full]
  unfold bodyRun.sl.v75 bodyRun.sl.H11_4
  rw [View.readCov_full]
  unfold bodyRun.sl.v71
  rw [View.readAt_full, read_S20, rd12, rd13, rd15, rd17]
  have h0 : arg20.view.read (Elt F) (View.write (Elt F) (arg20.view.slice (⟨Rect.unit (s := S4096x128) ![0, 0] S4096x128.size inb_S4096x128_S4096x128_0_0, k0_pay25⟩ : View.Piece (Elt F) S4096x128 .f32).fst) (arg20.view.writes (Elt F) arg20.view.junk []) (⟨Rect.unit (s := S4096x128) ![0, 0] S4096x128.size inb_S4096x128_S4096x128_0_0, k0_pay25⟩ : View.Piece (Elt F) S4096x128 .f32).snd Finset.univ) = k0_pay25 :=
    View.read_writes_full arg20.view _ inb_S4096x128_S4096x128_0_0 _ []
  rw [h0]; rfl

end ReadBody

end Cert.Proof.KernelIdeal

end

end
-- ==== Proof.KI.Run.lean ====
module

public import proofs.«01_k».proof.Proof.KI.Out
public import proofs.«01_k».proof.Proof.Gen.KernelIdeal.Frame

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

set_option backward.proofsInPublic true in
/-- The body's triple with its three results named only by what they read as. -/
theorem body_ex (c : Dev nD) (i : grid0.Coords)
  (arg2 : Memref sig .tc .vmem S1x4096x128 .bf16) (harg2 : arg2.IsWhole)
  (arg3 : Memref sig .tc .vmem S1x4096x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .bf16) (harg8 : arg8.IsWhole)
  (arg9 : Memref sig .tc .vmem S1x4096x128 .bf16) (harg9 : arg9.IsWhole)
  (arg10 : Memref sig .tc .vmem S1x4096x128 .bf16) (harg10 : arg10.IsWhole)
  (arg11 : Memref sig .tc .vmem S4096x128 .f32) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .bf16) (harg14 : arg14.IsWhole)
  (arg15 : Memref sig .tc .vmem S4096x128 .bf16) (harg15 : arg15.IsWhole)
  (arg16 : Memref sig .tc .vmem S4096x128 .f32) (harg16 : arg16.IsWhole)
  (arg17 : Memref sig .tc .vmem S4096x128 .f32) (harg17 : arg17.IsWhole)
  (arg18 : Memref sig .tc .vmem S4096x128 .f32) (harg18 : arg18.IsWhole)
  (arg19 : Memref sig .tc .vmem S4096x128 .f32) (harg19 : arg19.IsWhole)
  (arg20 : Memref sig .tc .vmem S4096x128 .f32) (harg20 : arg20.IsWhole)
  (g2 : Bf (F := F) c arg2) (g3 : Bf (F := F) c arg3) (g4 : Bf (F := F) c arg4) (g5 : Bf (F := F) c arg5) (g6 : Bf (F := F) c arg6) (g7 : Bf (F := F) c arg7) (g8 : Bf (F := F) c arg8) (g9 : Bf (F := F) c arg9) (g10 : Bf (F := F) c arg10) (g11 : Bf (F := F) c arg11) (g12 : Bf (F := F) c arg12) (g13 : Bf (F := F) c arg13) (g14 : Bf (F := F) c arg14) (g15 : Bf (F := F) c arg15) (g16 : Bf (F := F) c arg16) (g17 : Bf (F := F) c arg17) (g18 : Bf (F := F) c arg18) (g19 : Bf (F := F) c arg19) (g20 : Bf (F := F) c arg20) :
    ∃ (p8 : Bf (F := F) c arg8) (p9 : Bf (F := F) c arg9) (p10 : Bf (F := F) c arg10),
      (iprop(pt c arg2 g2 ∗ pt c arg3 g3 ∗ pt c arg4 g4 ∗ pt c arg5 g5 ∗ pt c arg6 g6 ∗ pt c arg7 g7 ∗ pt c arg8 g8 ∗ pt c arg9 g9 ∗ pt c arg10 g10 ∗ pt c arg11 g11 ∗ pt c arg12 g12 ∗ pt c arg13 g13 ∗ pt c arg14 g14 ∗ pt c arg15 g15 ∗ pt c arg16 g16 ∗ pt c arg17 g17 ∗ pt c arg18 g18 ∗ pt c arg19 g19 ∗ pt c arg20 g20)
        ⊢ wp frame (wpE (defs₀ (F := F)) 𝒱₀ (c : Thread nD τ) none) Set.univ (cc0_at_coreb0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(pt c arg2 g2 ∗ pt c arg3 g3 ∗ pt c arg4 g4 ∗ pt c arg5 g5 ∗ pt c arg6 g6 ∗ pt c arg7 g7 ∗ pt c arg8 p8 ∗ pt c arg9 p9 ∗ pt c arg10 p10 ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f))))
      ∧ arg8.view.read (Elt F) p8 = outQ (arg2.view.read (Elt F) g2) (arg3.view.read (Elt F) g3) (arg4.view.read (Elt F) g4) (arg5.view.read (Elt F) g5) (arg6.view.read (Elt F) g6) (arg7.view.read (Elt F) g7)
      ∧ arg9.view.read (Elt F) p9 = outK (arg2.view.read (Elt F) g2) (arg3.view.read (Elt F) g3) (arg4.view.read (Elt F) g4) (arg5.view.read (Elt F) g5) (arg6.view.read (Elt F) g6) (arg7.view.read (Elt F) g7)
      ∧ arg10.view.read (Elt F) p10 = outV (arg2.view.read (Elt F) g2) (arg3.view.read (Elt F) g3) (arg5.view.read (Elt F) g5) (arg7.view.read (Elt F) g7) :=
  ⟨_, _, _, (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g2 g3 g4 g5 g6 g7 g8 g9 g10 g11 g12 g13 g14 g15 g16 g17 g18 g19 g20).2, read_body8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g2 g3 g4 g5 g6 g7 g8 g9 g10 g11 g12 g13 g14 g15 g16 g17 g18 g19 g20, read_body9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g2 g3 g4 g5 g6 g7 g8 g9 g10 g11 g12 g13 g14 g15 g16 g17 g18 g19 g20, read_body10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 g2 g3 g4 g5 g6 g7 g8 g9 g10 g11 g12 g13 g14 g15 g16 g17 g18 g19 g20⟩

theorem ent {M : Type} [URA M] {P Q : sProp M} (e : P = Q) : P ⊢ Q := e ▸ .rfl

/-- A scratch buffer held whole, in the run's spelling and in the region's. -/
theorem pt_whole (c : Dev nD) (r : Ref sig .tc) (f : Buf (Elt F) ((c : Thread nD τ).loc r)) :
    (pt c (Memref.whole r) f : sProp _) = (((c : Thread nD τ).loc r) ↦{fullShare} f) := by
  unfold pt; unfold Memref.whole; dsimp only; rw [View.set_whole]

variable (m : (ℓ : Loc nD τ sig) → Buf (Elt F) ℓ) (ρ : Dev nD → PrngReg)

/-- The region's proof data: each input's staging buffer keeps its block, each result's receives the body's result of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t) (iblk m c 2 t) (iblk m c 3 t) (iblk m c 4 t) (iblk m c 5 t)
    | ⟨7, _⟩ => outK (iblk m c 0 t) (iblk m c 1 t) (iblk m c 2 t) (iblk m c 3 t) (iblk m c 4 t) (iblk m c 5 t)
    | ⟨8, _⟩ => outV (iblk m c 0 t) (iblk m c 1 t) (iblk m c 3 t) (iblk m c 5 t)
  Φ _ := Pipeline.ΦA spec0 c
  q w := Pipeline.shareOf spec0 w
  owed _ := 0

theorem before_w0 (c : Dev nD) (t : Fin cfg0.N) (d) : (dats m 0 c).before 0 t d = iblk m c 0 t :=
  before0_0_of m (dats m 0 c) rfl (fun _ => by dsimp only [dats]) t d
theorem before_w1 (c : Dev nD) (t : Fin cfg0.N) (d) : (dats m 0 c).before 1 t d = iblk m c 1 t :=
  before0_1_of m (dats m 0 c) rfl (fun _ => by dsimp only [dats]) t d
theorem before_w2 (c : Dev nD) (t : Fin cfg0.N) (d) : (dats m 0 c).before 2 t d = iblk m c 2 t :=
  before0_2_of m (dats m 0 c) rfl (fun _ => by dsimp only [dats]) t d
theorem before_w3 (c : Dev nD) (t : Fin cfg0.N) (d) : (dats m 0 c).before 3 t d = iblk m c 3 t :=
  before0_3_of m (dats m 0 c) rfl (fun _ => by dsimp only [dats]) t d
theorem before_w4 (c : Dev nD) (t : Fin cfg0.N) (d) : (dats m 0 c).before 4 t d = iblk m c 4 t :=
  before0_4_of m (dats m 0 c) rfl (fun _ => by dsimp only [dats]) t d
theorem before_w5 (c : Dev nD) (t : Fin cfg0.N) (d) : (dats m 0 c).before 5 t d = iblk m c 5 t :=
  before0_5_of m (dats m 0 c) rfl (fun _ => by dsimp only [dats]) t d
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = outQ (iblk m c 0 t) (iblk m c 1 t) (iblk m c 2 t) (iblk m c 3 t) (iblk m c 4 t) (iblk m c 5 t) := by dsimp only [dats]
theorem after_w7 (c : Dev nD) (t : Fin cfg0.N) : (dats m 0 c).after 7 t = outK (iblk m c 0 t) (iblk m c 1 t) (iblk m c 2 t) (iblk m c 3 t) (iblk m c 4 t) (iblk m c 5 t) := by dsimp only [dats]
theorem after_w8 (c : Dev nD) (t : Fin cfg0.N) : (dats m 0 c).after 8 t = outV (iblk m c 0 t) (iblk m c 1 t) (iblk m c 3 t) (iblk m c 5 t) := by dsimp only [dats]

theorem defs₀_row (t : Fin cfg0.N) : (defs₀ (F := F)) .tc cfg0.body (cfg0.bodyArgs t (cfg0.slots t)) = bodyAt0 t := by
  unfold defs₀; rw [Defs.onTc_tc]

set_option backward.isDefEq.respectTransparency.types false in
set_option backward.proofsInPublic true in
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, after_w0, after_w1, after_w2, after_w3, after_w4, after_w5, after_w6, after_w7, after_w8]
  rw [show (dats m 0 c).Φ t.castSucc = Pipeline.ΦA spec0 c from rfl, show (dats m 0 c).Φ t.succ = Pipeline.ΦA spec0 c from rfl]
  rw [show (dats m 0 c).owesAt () t.succ = (dats m 0 c).owesAt () t.castSucc from rfl]
  unfold owns Pipeline.ΦA
  rw [scopedRest0_eq, defs₀_row]
  iintro ⟨⟨⟨⟨%f0, F0⟩, ⟨%f1, F1⟩, ⟨%f2, F2⟩, ⟨%f3, F3⟩, ⟨%f4, F4⟩, ⟨%f5, F5⟩, ⟨%f6, F6⟩, ⟨%f7, F7⟩, ⟨%f8, F8⟩, ⟨%f9, F9⟩⟩, HR⟩, HW, ⟨%d0, %g0, %h0, G0⟩, ⟨%d1, %g1, %h1, G1⟩, ⟨%d2, %g2, %h2, G2⟩, ⟨%d3, %g3, %h3, G3⟩, ⟨%d4, %g4, %h4, G4⟩, ⟨%d5, %g5, %h5, G5⟩, ⟨%d6, %g6, %h6, G6⟩, ⟨%d7, %g7, %h7, G7⟩, ⟨%d8, %g8, %h8, G8⟩⟩
  obtain ⟨p8, p9, p10, hb, e8, e9, e10⟩ := body_ex c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) g0 g1 g2 g3 g4 g5 g6 g7 g8 f0 f1 f2 f3 f4 f5 f6 f7 f8 f9
  rw [h0, h1, h2, h3, h4, h5] at e8 e9
  rw [h0, h1, h3, h5] at e10
  ihave H := hb $$ [G0 G1 G2 G3 G4 G5 G6 G7 G8 F0 F1 F2 F3 F4 F5 F6 F7 F8 F9]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [F0]; · iapply (ent (pt_whole c cc0_scratch0 f0).symm); iexact F0
    isplitl [F1]; · iapply (ent (pt_whole c cc0_scratch1 f1).symm); iexact F1
    isplitl [F2]; · iapply (ent (pt_whole c cc0_scratch2 f2).symm); iexact F2
    isplitl [F3]; · iapply (ent (pt_whole c cc0_scratch3 f3).symm); iexact F3
    isplitl [F4]; · iapply (ent (pt_whole c cc0_scratch4 f4).symm); iexact F4
    isplitl [F5]; · iapply (ent (pt_whole c cc0_scratch5 f5).symm); iexact F5
    isplitl [F6]; · iapply (ent (pt_whole c cc0_scratch6 f6).symm); iexact F6
    isplitl [F7]; · iapply (ent (pt_whole c cc0_scratch7 f7).symm); iexact F7
    isplitl [F8]; · iapply (ent (pt_whole c cc0_scratch8 f8).symm); iexact F8
    iapply (ent (pt_whole c cc0_scratch9 f9).symm); iexact F9
  iapply wp_wand_r
  isplitl [H]; · iexact H
  iintro %_ ⟨G0, G1, G2, G3, G4, G5, G6, G7, G8, ⟨%f0, F0⟩, ⟨%f1, F1⟩, ⟨%f2, F2⟩, ⟨%f3, F3⟩, ⟨%f4, F4⟩, ⟨%f5, F5⟩, ⟨%f6, F6⟩, ⟨%f7, F7⟩, ⟨%f8, F8⟩, ⟨%f9, F9⟩⟩
  isplitl [HR F0 F1 F2 F3 F4 F5 F6 F7 F8 F9]
  · isplitr [HR]
    · isplitl [F0]; · (iexists _; iapply (ent (pt_whole c cc0_scratch0 _)); iexact F0)
      isplitl [F1]; · (iexists _; iapply (ent (pt_whole c cc0_scratch1 _)); iexact F1)
      isplitl [F2]; · (iexists _; iapply (ent (pt_whole c cc0_scratch2 _)); iexact F2)
      isplitl [F3]; · (iexists _; iapply (ent (pt_whole c cc0_scratch3 _)); iexact F3)
      isplitl [F4]; · (iexists _; iapply (ent (pt_whole c cc0_scratch4 _)); iexact F4)
      isplitl [F5]; · (iexists _; iapply (ent (pt_whole c cc0_scratch5 _)); iexact F5)
      isplitl [F6]; · (iexists _; iapply (ent (pt_whole c cc0_scratch6 _)); iexact F6)
      isplitl [F7]; · (iexists _; iapply (ent (pt_whole c cc0_scratch7 _)); iexact F7)
      isplitl [F8]; · (iexists _; iapply (ent (pt_whole c cc0_scratch8 _)); iexact F8)
      iexists _; iapply (ent (pt_whole c cc0_scratch9 _)); iexact F9
    · iexact HR
  isplitl [HW]; · iexact HW
  isplitl [G0]
  · iexists _; isplitr; · ipureintro; exact h0
    iexact G0
  isplitl [G1]
  · iexists _; isplitr; · ipureintro; exact h1
    iexact G1
  isplitl [G2]
  · iexists _; isplitr; · ipureintro; exact h2
    iexact G2
  isplitl [G3]
  · iexists _; isplitr; · ipureintro; exact h3
    iexact G3
  isplitl [G4]
  · iexists _; isplitr; · ipureintro; exact h4
    iexact G4
  isplitl [G5]
  · iexists _; isplitr; · ipureintro; exact h5
    iexact G5
  isplitl [G6]
  · iexists _; isplitr; · ipureintro; exact e8
    iexact G6
  isplitl [G7]
  · iexists _; isplitr; · ipureintro; exact e9
    iexact G7
  iexists _; isplitr; · ipureintro; exact e10
  iexact G8

/-- The frame run: every execution terminates with the arrays at the region's final contents, every counter at zero. -/
theorem run_main : θ_run defs (onTc (τ := τ) (main (F := F))) (s₀ m ρ)
    (fun r => Pipeline.FramePost cfgs (dats m) 0 (V m) r ∧ r.2.sem = fun _ => 0) :=
  Pipeline.θ_run_frame_shared cfgs (dats m) 0 launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)
    (Q' := fun r => Pipeline.FramePost cfgs (dats m) 0 (V m) r ∧ r.2.sem = fun _ => 0) (hQ' := fun _ h => h)

/-- The arguments end unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Proof.KernelIdeal

end

end
-- ==== Proof.InBValue.lean ====
module

public import proofs.«01_k».proof.Defs
public import proofs.«01_k».proof.Proof.Gen.InBIdeal.Value
public import Idealize.ShloMosaic.Lib.Pipeline.ValueKit
public import Idealize.ShloMosaic.Lib.Pipeline.ReadBack

/-!
The value of the backward product of the feed-forward block's input projection (`kernel_inb`), over the extended reals.

At a grid point the kernel works on 256 tokens: eight partial products, one per block of the hidden width, are added
into a scratch block (`dh`), which is the gradient `g` of the modulated input.  From it come the gradient of the layer's
input (`dxres + g * (1 + scale)`), and, summed over the tokens of one example, the gradients of the shift (`g`) and of
the scale (`g * x`).  The reference forms the same sums in one go; the two agree because addition is commutative and
associative.
-/

@[expose] public section

set_option maxRecDepth 16384

noncomputable section

namespace Cert.Proof.InB

open Cert.InBIdeal Cert.InBIdeal.Gen Idealize.ShloMosaic Idealize.ShloMosaic.TcCoe Idealize.SL.Sem
open Idealize.ShloMosaic.Pipeline (Dat)

/-! ## One grid point -/

/-- What the scratch block holds once the eight partial products of a grid point are added. -/
def dh {F : FTy → Type} [FloatOps F] (x0 : Vec F S8x256x704 .bf16) (x1 : Vec F S8x1024x704 .bf16) : FVec F S256x1024 .f32 :=
  k0_pay1 (k0_pay17 (k0_pay16 (k0_pay15 (k0_pay14 (k0_pay13 (k0_pay12 (k0_pay10 (k0_pay9 k0_pay8
    (View.ld x0 (Rect.unit ![0, 0, 0] ![1, 256, 704] inb_S8x256x704_S1x256x704_0_0_0))
    (View.ld x1 (Rect.unit ![0, 0, 0] ![1, 1024, 704] inb_S8x1024x704_S1x1024x704_0_0_0)))
    (View.ld x0 (Rect.unit ![1, 0, 0] ![1, 256, 704] inb_S8x256x704_S1x256x704_1_0_0))
    (View.ld x1 (Rect.unit ![1, 0, 0] ![1, 1024, 704] inb_S8x1024x704_S1x1024x704_1_0_0)))
    (k0_pay11 (View.ld x0 (Rect.unit ![2, 0, 0] ![1, 256, 704] inb_S8x256x704_S1x256x704_2_0_0)))
    (View.ld x1 (Rect.unit ![2, 0, 0] ![1, 1024, 704] inb_S8x1024x704_S1x1024x704_2_0_0)))
    (View.ld x0 (Rect.unit ![3, 0, 0] ![1, 256, 704] inb_S8x256x704_S1x256x704_3_0_0))
    (View.ld x1 (Rect.unit ![3, 0, 0] ![1, 1024, 704] inb_S8x1024x704_S1x1024x704_3_0_0)))
    (View.ld x0 (Rect.unit ![4, 0, 0] ![1, 256, 704] inb_S8x256x704_S1x256x704_4_0_0))
    (View.ld x1 (Rect.unit ![4, 0, 0] ![1, 1024, 704] inb_S8x1024x704_S1x1024x704_4_0_0)))
    (View.ld x0 (Rect.unit ![5, 0, 0] ![1, 256, 704] inb_S8x256x704_S1x256x704_5_0_0))
    (View.ld x1 (Rect.unit ![5, 0, 0] ![1, 1024, 704] inb_S8x1024x704_S1x1024x704_5_0_0)))
    (View.ld x0 (Rect.unit ![6, 0, 0] ![1, 256, 704] inb_S8x256x704_S1x256x704_6_0_0))
    (View.ld x1 (Rect.unit ![6, 0, 0] ![1, 1024, 704] inb_S8x1024x704_S1x1024x704_6_0_0)))
    (View.ld x0 (Rect.unit ![7, 0, 0] ![1, 256, 704] inb_S8x256x704_S1x256x704_7_0_0))
    (View.ld x1 (Rect.unit ![7, 0, 0] ![1, 1024, 704] inb_S8x1024x704_S1x1024x704_7_0_0)))

/-- An element of it: the product summed over the eight blocks and their 704 columns. -/
theorem dh_apply (x0 : Vec Ideal S8x256x704 .bf16) (x1 : Vec Ideal S8x1024x704 .bf16) (y : S256x1024.Idx) :
    dh x0 x1 y = ∑ q : Fin 8, ∑ f : Fin 704, x0 (ix3 q (y 0) f) * x1 (ix3 q (y 1) f) := by
  unfold dh
  pointwise [k0_pay1, k0_pay8, k0_pay9, k0_pay10, k0_pay11, k0_pay12, k0_pay13, k0_pay14, k0_pay15, k0_pay16, k0_pay17]
  rw [Fin.sum_univ_eight]

variable (m : (ℓ : Loc nD τ sig) → Buf (Elt Ideal) ℓ)

/-- The three windows of one point's outputs, at either kind of point, by the scratch block. -/
theorem out5 (c : Dev nD) (t : Fin cfg0.N) :
    (outsAt0 m c t.val t.isLt).1 = k0_pay4 (dh (iblk m c 0 t) (iblk m c 1 t)) (iblk m c 4 t) (iblk m c 3 t) := by
  by_cases h : t.val % 16 = 0
  · rw [Gen.outsAt0_A m c t h]
    frame_open
    simp (disch := decide) only [↓ View.readCov_skip, ↓ View.readCov_cons_toLoadRect, ↓ View.readCov_fill]
    frame_out
    rfl
  · rw [Gen.outsAt0_B m c t h]
    frame_open
    simp (disch := decide) only [↓ View.readCov_skip, ↓ View.readCov_cons_toLoadRect, ↓ View.readCov_fill]
    frame_out
    rfl

theorem out6_A (c : Dev nD) (t : Fin cfg0.N) (h : t.val % 16 = 0) :
    (outsAt0 m c t.val t.isLt).2.1 = k0_pay2 (k0_pay7 (dh (iblk m c 0 t) (iblk m c 1 t)) (k0_pay5 (F := Ideal))) := by
  rw [Gen.outsAt0_A m c t h]
  frame_open
  simp (disch := decide) only [↓ View.readCov_skip, ↓ View.readCov_cons_toLoadRect, ↓ View.readCov_fill]
  frame_out
  rfl

theorem out6_B (c : Dev nD) (t : Fin cfg0.N) (h : ¬ t.val % 16 = 0) :
    (outsAt0 m c t.val t.isLt).2.1 = k0_pay2 (k0_pay7 (dh (iblk m c 0 t) (iblk m c 1 t))
      (outsAt0 m c (t.val - 1) (Nat.lt_of_le_of_lt (Nat.sub_le _ _) t.isLt)).2.1) := by
  rw [Gen.outsAt0_B m c t h]
  frame_open
  simp (disch := decide) only [↓ View.readCov_skip, ↓ View.readCov_cons_toLoadRect, ↓ View.readCov_fill]
  frame_out
  rfl

theorem out7_A (c : Dev nD) (t : Fin cfg0.N) (h : t.val % 16 = 0) :
    (outsAt0 m c t.val t.isLt).2.2 = k0_pay3 (dh (iblk m c 0 t) (iblk m c 1 t)) (iblk m c 2 t) (k0_pay6 (F := Ideal)) := by
  rw [Gen.outsAt0_A m c t h]
  frame_open
  simp (disch := decide) only [↓ View.readCov_skip, ↓ View.readCov_cons_toLoadRect, ↓ View.readCov_fill]
  frame_out
  rfl

theorem out7_B (c : Dev nD) (t : Fin cfg0.N) (h : ¬ t.val % 16 = 0) :
    (outsAt0 m c t.val t.isLt).2.2 = k0_pay3 (dh (iblk m c 0 t) (iblk m c 1 t)) (iblk m c 2 t)
      (outsAt0 m c (t.val - 1) (Nat.lt_of_le_of_lt (Nat.sub_le _ _) t.isLt)).2.2 := by
  rw [Gen.outsAt0_B m c t h]
  frame_open
  simp (disch := decide) only [↓ View.readCov_skip, ↓ View.readCov_cons_toLoadRect, ↓ View.readCov_fill]
  frame_out
  rfl

/-! ## The whole arrays -/

/-- The gradient of the modulated input: the product over the whole hidden width. -/
def grad (a0 : Vec Ideal S8x8192x704 .bf16) (a1 : Vec Ideal S8x1024x704 .bf16) : Vec Ideal S8192x1024 .f32 :=
  fun i => ∑ q : Fin 8, ∑ f : Fin 704, a0 (ix3 q (i 0) f) * a1 (ix3 q (i 1) f)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![t.val / 16, 0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val / 16, 0, 0] := by decide +kernel
theorem idx7 : ∀ t : Fin grid0.N, win0_7.index t = ![t.val / 16, 0, 0] := by decide +kernel

/-- Row `r` of the block of point `t` is a token. -/
theorem tok_lt (t : Fin grid0.N) (r : Fin 256) : t.val * 256 + r.val < 8192 := by
  have h : t.val < 32 := t.isLt
  omega

/-- The scratch block of point `t` is that block of `grad`. -/
theorem dh_iblk (c : Dev nD) (t : Fin cfg0.N) (y : S256x1024.Idx) :
    dh (iblk m c 0 t) (iblk m c 1 t) y
      = grad (m (c.tc.loc main_arg0)) (m (c.tc.loc main_arg1)) (ix2 ⟨t.val * 256 + (y 0).val, tok_lt t (y 0)⟩ (y 1)) := by
  rw [dh_apply]
  unfold grad
  blk_point [iblk, V, idx0 t, idx1 t]

/-- The gradient of the layer's input. -/
def gradX (a0 : Vec Ideal S8x8192x704 .bf16) (a1 : Vec Ideal S8x1024x704 .bf16) (a3 : Vec Ideal S2x3x1024 .f32)
    (a4 : Vec Ideal S8192x1024 .f32) : Vec Ideal S8192x1024 .f32 :=
  fun i => a4 i + grad a0 a1 i * (1 + a3 (ix3 ⟨(i 0).val / 4096, by have h : (i 0).val < 8192 := (i 0).isLt; omega⟩ 1 (i 1)))

/-- The gradient of the shift: `grad` summed over an example's tokens. -/
def gradShift (a0 : Vec Ideal S8x8192x704 .bf16) (a1 : Vec Ideal S8x1024x704 .bf16) : Vec Ideal S2x1x1024 .f32 :=
  fun j => ∑ r : Fin 4096, grad a0 a1 (ix2 ⟨(j 0).val * 4096 + r.val, by have h : (j 0).val < 2 := (j 0).isLt; omega⟩ (j 2))

/-- The gradient of the scale: `grad` times the input, summed over an example's tokens. -/
def gradScale (a0 : Vec Ideal S8x8192x704 .bf16) (a1 : Vec Ideal S8x1024x704 .bf16) (a2 : Vec Ideal S8192x1024 .f32) :
    Vec Ideal S2x1x1024 .f32 :=
  fun j => ∑ r : Fin 4096, grad a0 a1 (ix2 ⟨(j 0).val * 4096 + r.val, by have h : (j 0).val < 2 := (j 0).isLt; omega⟩ (j 2))
    * a2 (ix2 ⟨(j 0).val * 4096 + r.val, by have h : (j 0).val < 2 := (j 0).isLt; omega⟩ (j 2))

theorem gradScale_comm (a0 : Vec Ideal S8x8192x704 .bf16) (a1 : Vec Ideal S8x1024x704 .bf16) (a2 : Vec Ideal S8192x1024 .f32)
    (j : S2x1x1024.Idx) : gradScale a0 a1 a2 j
      = ∑ r : Fin 4096, a2 (ix2 ⟨(j 0).val * 4096 + r.val, by have h : (j 0).val < 2 := (j 0).isLt; omega⟩ (j 2))
        * grad a0 a1 (ix2 ⟨(j 0).val * 4096 + r.val, by have h : (j 0).val < 2 := (j 0).isLt; omega⟩ (j 2)) :=
  Finset.sum_congr rfl fun _ _ => mul_comm _ _

theorem arr5 (c : Dev nD) : (dats m 0 c).arrAt 5 cfg0.N
    = gradX (m (c.tc.loc main_arg0)) (m (c.tc.loc main_arg1)) (m (c.tc.loc main_arg3)) (m (c.tc.loc main_arg4)) := by
  refine (dats m 0 c).arrAt_eq_of_covers 5 _ (by decide +kernel) fun t hf y => ?_
  blk_simp
  rw [after0_5, out5]
  unfold gradX
  pointwise [k0_pay4]
  rw [dh_iblk]
  blk_point [iblk, V, idx3 t, idx4 t, idx5 t]

/-- The first point of an example's run starts the sums from zero. -/
theorem step6_A (c : Dev nD) (t : Fin cfg0.N) (h : t.val % 16 = 0) (j : S1x1x1024.Idx) :
    (outsAt0 m c t.val t.isLt).2.1 j = 0 + ∑ r : Fin 256, dh (iblk m c 0 t) (iblk m c 1 t) (ix2 r (j 2)) := by
  rw [out6_A m c t h]
  generalize dh (iblk m c 0 t) (iblk m c 1 t) = d
  pointwise [k0_pay2, k0_pay7, k0_pay5]

/-- A later point adds its block's rows. -/
theorem step6_B (c : Dev nD) (t : Fin cfg0.N) (h : ¬ t.val % 16 = 0) (j : S1x1x1024.Idx) :
    (outsAt0 m c t.val t.isLt).2.1 j = (outsAt0 m c (t.val - 1) (Nat.lt_of_le_of_lt (Nat.sub_le _ _) t.isLt)).2.1 j
      + ∑ r : Fin 256, dh (iblk m c 0 t) (iblk m c 1 t) (ix2 r (j 2)) := by
  rw [out6_B m c t h]
  generalize dh (iblk m c 0 t) (iblk m c 1 t) = d
  generalize (outsAt0 m c (t.val - 1) (Nat.lt_of_le_of_lt (Nat.sub_le _ _) t.isLt)).2.1 = o
  pointwise [k0_pay2, k0_pay7]

theorem step7_A (c : Dev nD) (t : Fin cfg0.N) (h : t.val % 16 = 0) (j : S1x1x1024.Idx) :
    (outsAt0 m c t.val t.isLt).2.2 j
      = 0 + ∑ r : Fin 256, dh (iblk m c 0 t) (iblk m c 1 t) (ix2 r (j 2)) * iblk m c 2 t (ix2 r (j 2)) := by
  rw [out7_A m c t h]
  generalize dh (iblk m c 0 t) (iblk m c 1 t) = d
  generalize iblk m c 2 t = x
  pointwise [k0_pay3, k0_pay6]

theorem step7_B (c : Dev nD) (t : Fin cfg0.N) (h : ¬ t.val % 16 = 0) (j : S1x1x1024.Idx) :
    (outsAt0 m c t.val t.isLt).2.2 j = (outsAt0 m c (t.val - 1) (Nat.lt_of_le_of_lt (Nat.sub_le _ _) t.isLt)).2.2 j
      + ∑ r : Fin 256, dh (iblk m c 0 t) (iblk m c 1 t) (ix2 r (j 2)) * iblk m c 2 t (ix2 r (j 2)) := by
  rw [out7_B m c t h]
  generalize dh (iblk m c 0 t) (iblk m c 1 t) = d
  generalize iblk m c 2 t = x
  generalize (outsAt0 m c (t.val - 1) (Nat.lt_of_le_of_lt (Nat.sub_le _ _) t.isLt)).2.2 = o
  pointwise [k0_pay3]

theorem arr6 (c : Dev nD) : (dats m 0 c).arrAt 6 cfg0.N
    = gradShift (m (c.tc.loc main_arg0)) (m (c.tc.loc main_arg1)) := by
  refine (dats m 0 c).arrAt_eq_of_covers 6 _ (by decide +kernel) fun t hf y => ?_
  blk_simp
  rw [after0_6]
  rw [Pipeline.eq_sum_fin_of_reset_step_apply_of_flush (fun n h => (outsAt0 m c n h).2.1) 16 (fun _ => 0)
    (fun t j => ∑ r : Fin 256, dh (iblk m c 0 t) (iblk m c 1 t) (ix2 r (j 2)))
    (step6_A m c) (step6_B m c) t ((Gen.flush0_6 t).mp hf)]
  simp only [dh_iblk]
  unfold gradShift
  rw [zero_add]
  refine Fin.sum_mul_add_congr fun s k hl => ?_
  refine congrArg _ ?_
  blk_ext [idx6 t]

theorem arr7 (c : Dev nD) : (dats m 0 c).arrAt 7 cfg0.N
    = gradScale (m (c.tc.loc main_arg0)) (m (c.tc.loc main_arg1)) (m (c.tc.loc main_arg2)) := by
  refine (dats m 0 c).arrAt_eq_of_covers 7 _ (by decide +kernel) fun t hf y => ?_
  blk_simp
  rw [after0_7]
  rw [Pipeline.eq_sum_fin_of_reset_step_apply_of_flush (fun n h => (outsAt0 m c n h).2.2) 16 (fun _ => 0)
    (fun t j => ∑ r : Fin 256, dh (iblk m c 0 t) (iblk m c 1 t) (ix2 r (j 2)) * iblk m c 2 t (ix2 r (j 2)))
    (step7_A m c) (step7_B m c) t ((Gen.flush0_7 t).mp hf)]
  simp only [dh_iblk]
  unfold gradScale
  rw [zero_add]
  refine Fin.sum_mul_add_congr fun s k hl => ?_
  refine congrArg₂ (· * ·) (congrArg _ ?_) ?_
  · blk_ext [idx7 t]
  · blk_point [iblk, V, idx2 _, idx7 t]

end Cert.Proof.InB

end
-- ==== Proof.InBClaim.lean ====
module

public import proofs.«01_k».proof.Defs
public import proofs.«01_k».proof.Proof.InBValue
public import proofs.«01_k».proof.Proof.Gen.InBRefIdeal.Run
public import Idealize.ShloMosaic.Lib.Pipeline.ValueKit
public import Idealize.ShloMosaic.Lib.Pipeline.ReadBack

/-!
The value claim of the input projection's backward product (`kernel_inb`): the kernel's three arrays, computed in
`InBValue`, are the ones the reference's host operations compute.
-/

@[expose] public section

set_option maxRecDepth 16384

noncomputable section

namespace Cert.Proof.InB

open Cert.InBIdeal Cert.InBIdeal.Gen Idealize.ShloMosaic Idealize.ShloMosaic.TcCoe Idealize.SL.Sem
open scoped BigOperators

/-! ## The claim -/

/-- The reference's sum over an example's tokens of two arrays' product. -/
theorem scale_apply (x d : Vec Ideal InBRefIdeal.S8192x1024 .f32) (e : Fin 2) (o : Fin 1) (k : Fin 1024) :
    shapeCast InBRefIdeal.S2x1x1024 (Host.reduceAdd (F := Ideal) (mulf (F := Ideal) (shapeCast InBRefIdeal.S2x4096x1024 x InBRefIdeal.Gen.shapeCasts_S8192x1024_S2x4096x1024)
      (shapeCast InBRefIdeal.S2x4096x1024 d InBRefIdeal.Gen.shapeCasts_S8192x1024_S2x4096x1024)) (constant (F := Ideal) InBRefIdeal.S_ FTy.f32 0#32)
      InBRefIdeal.Gen.reducesTo_S2x4096x1024_S2x1024_d1 InBRefIdeal.Gen.h_S_) InBRefIdeal.Gen.shapeCasts_S2x1024_S2x1x1024 (ix3 e o k)
    = ∑ r : Fin 4096, x (ix2 ⟨e.val * 4096 + r.val, by omega⟩ k) * d (ix2 ⟨e.val * 4096 + r.val, by omega⟩ k) := by
  pointwise
/-- The idealized kernel and the idealized reference, from the same arguments, end with the same three gradients. -/
theorem algebraic : Cert.algebraic_InBIdeal_InBRefIdeal := by
  intro m g m' g' _ hagree
  refine ⟨fun c => gradX (m (c.tc.loc main_arg0)) (m (c.tc.loc main_arg1)) (m (c.tc.loc main_arg3)) (m (c.tc.loc main_arg4)),
    fun c => gradShift (m (c.tc.loc main_arg0)) (m (c.tc.loc main_arg1)),
    fun c => gradScale (m (c.tc.loc main_arg0)) (m (c.tc.loc main_arg1)) (m (c.tc.loc main_arg2)), ?_, ?_⟩
  · refine (θ_run _ _ _).mono (fun r h c => ?_) (Cert.InBIdeal.Value.run_blocks (F := Ideal) m g)
    obtain ⟨h5, h6, h7, h⟩ := h c
    exact ⟨h5.trans (arr5 m c), h6.trans (arr6 m c), h7.trans (arr7 m c), h⟩
  · refine (θ_run _ _ _).mono (fun r h c => ?_) (Cert.InBRefIdeal.Value.run (F := Ideal) m' g')
    obtain ⟨h27, h20, h23, h⟩ := h c
    obtain ⟨e0, e1, e2, e3, e4⟩ := hagree c
    rw [e0, e1, e3, e4] at h27
    rw [e0, e1] at h20
    rw [e0, e1, e2] at h23
    refine ⟨h27.trans ?_, h20.trans ?_, h23.trans ?_, h⟩
    · funext y
      unfold gradX grad
      pointwise
    · funext y
      unfold gradShift grad
      pointwise
    · funext y
      idx_vars y
      refine (scale_apply _ _ _ _ _).trans ((Finset.sum_congr rfl fun r _ => ?_).trans (gradScale_comm _ _ _ _).symm)
      refine congrArg₂ (fun a b : EReal => a * b) rfl ?_
      unfold grad
      pointwise

end Cert.Proof.InB

end
-- ==== Proof.FInValue.lean ====
module

public import proofs.«01_k».proof.Defs
public import proofs.«01_k».proof.Proof.Gen.FInIdeal.Value
public import proofs.«01_k».proof.Proof.Gen.FInRefIdeal.Run
public import Idealize.ShloMosaic.Lib.Pipeline.ValueKit
public import Idealize.ShloMosaic.Lib.Pipeline.ReadBack

/-!
The value of the feed-forward layer's input call (`kernel_in`): the modulated input in its four copies, the gate, the linear
half, and their gated product, as functions of the whole arrays.
-/

@[expose] public section

set_option maxRecDepth 16384

noncomputable section

namespace Cert.Proof.FIn

open Cert.FInIdeal Cert.FInIdeal.Gen Idealize.ShloMosaic Idealize.ShloMosaic.TcCoe Idealize.SL.Sem
open Idealize.ShloMosaic.Pipeline (Dat)
open scoped BigOperators

/-- The modulated input. -/
def modx (x : Vec Ideal S8192x1024 .f32) (md : Vec Ideal S2x3x1024 .f32) : Vec Ideal S8192x1024 .f32 :=
  fun i => x i * (1 + md (ix3 ⟨(i 0).val / 4096, by have h : (i 0).val < 8192 := (i 0).isLt; omega⟩ 1 (i 1)))
    + md (ix3 ⟨(i 0).val / 4096, by have h : (i 0).val < 8192 := (i 0).isLt; omega⟩ 0 (i 1))

/-- Its four copies. -/
def modx4 (x : Vec Ideal S8192x1024 .f32) (md : Vec Ideal S2x3x1024 .f32) : Vec Ideal S4x8192x1024 .bf16 :=
  fun i => modx x md (ix2 (i 1) (i 2))

/-- The gate's blocks: the first four of the weight. -/
def gate (x : Vec Ideal S8192x1024 .f32) (md : Vec Ideal S2x3x1024 .f32) (w : Vec Ideal S8x1024x704 .bf16) :
    Vec Ideal S4x8192x704 .bf16 :=
  fun i => ∑ k : Fin 1024, modx x md (ix2 (i 1) k)
    * w (ix3 ⟨(i 0).val, by have h : (i 0).val < 4 := (i 0).isLt; omega⟩ k (i 2))

/-- The linear half's blocks: the last four of the weight. -/
def lin (x : Vec Ideal S8192x1024 .f32) (md : Vec Ideal S2x3x1024 .f32) (w : Vec Ideal S8x1024x704 .bf16) :
    Vec Ideal S4x8192x704 .bf16 :=
  fun i => ∑ k : Fin 1024, modx x md (ix2 (i 1) k)
    * w (ix3 ⟨4 + (i 0).val, by have h : (i 0).val < 4 := (i 0).isLt; omega⟩ k (i 2))

/-- The gated unit of one element. -/
def unit (g u : EReal) : EReal := g * Ideal.div 1 (1 + Ideal.exp (-g)) * u

/-- The gated product. -/
def act (x : Vec Ideal S8192x1024 .f32) (md : Vec Ideal S2x3x1024 .f32) (w : Vec Ideal S8x1024x704 .bf16) :
    Vec Ideal S4x8192x704 .bf16 :=
  fun i => unit (gate x md w i) (lin x md w i)

/-! ## The kernel's values, at variable blocks -/

theorem pay3_apply (v0 : Vec Ideal S1x3x1024 .f32) (v2 : Vec Ideal S1024x1024 .f32) (r k : Fin 1024) :
    k0_pay3 v0 v2 (ix2 r k) = v2 (ix2 r k) * (1 + v0 (ix3 0 1 k)) + v0 (ix3 0 0 k) := by
  pointwise [k0_pay3]

theorem pay5_apply (v0 : Vec Ideal S1x3x1024 .f32) (v2 : Vec Ideal S1024x1024 .f32) (w : Vec Ideal S1x1024x704 .bf16)
    (r : Fin 1024) (f : Fin 704) :
    k0_pay5 v0 v2 w (ix2 r f) = ∑ k : Fin 1024, k0_pay3 v0 v2 (ix2 r k) * w (ix3 0 k f) := by
  unfold k0_pay5
  generalize k0_pay3 v0 v2 = h
  pointwise

theorem pay6_apply (v0 : Vec Ideal S1x3x1024 .f32) (v2 : Vec Ideal S1024x1024 .f32) (w : Vec Ideal S1x1024x704 .bf16)
    (r : Fin 1024) (f : Fin 704) :
    k0_pay6 v0 v2 w (ix2 r f) = ∑ k : Fin 1024, k0_pay3 v0 v2 (ix2 r k) * w (ix3 0 k f) := by
  unfold k0_pay6
  generalize k0_pay3 v0 v2 = h
  pointwise

theorem pay7_apply (v0 : Vec Ideal S1x3x1024 .f32) (v2 : Vec Ideal S1024x1024 .f32) (a b : Vec Ideal S1x1024x704 .bf16)
    (y : S1x1024x704.Idx) :
    k0_pay7 v0 v2 a b y = unit (k0_pay5 v0 v2 a (ix2 (y 1) (y 2))) (k0_pay6 v0 v2 b (ix2 (y 1) (y 2))) := by
  unfold k0_pay7 unit
  generalize k0_pay5 v0 v2 a = g
  generalize k0_pay6 v0 v2 b = u
  pointwise
  rw [sub_eq_add_neg, zero_add]

/-! ## The whole arrays -/

variable (m : (ℓ : Loc nD τ sig) → Buf (Elt Ideal) ℓ)

theorem idx0 : ∀ t : Fin grid0.N, win0_0.index t = ![t.val % 8, 0] := by decide +kernel
theorem idx1 : ∀ t : Fin grid0.N, win0_1.index t = ![t.val % 8 / 4, 0, 0] := by decide +kernel
theorem idx2 : ∀ t : Fin grid0.N, win0_2.index t = ![t.val / 8, 0, 0] := by decide +kernel
theorem idx3 : ∀ t : Fin grid0.N, win0_3.index t = ![t.val / 8 + 4, 0, 0] := by decide +kernel
theorem idx4 : ∀ t : Fin grid0.N, win0_4.index t = ![t.val / 8, t.val % 8, 0] := by decide +kernel
theorem idx5 : ∀ t : Fin grid0.N, win0_5.index t = ![t.val / 8, t.val % 8, 0] := by decide +kernel
theorem idx6 : ∀ t : Fin grid0.N, win0_6.index t = ![t.val / 8, t.val % 8, 0] := by decide +kernel
theorem idx7 : ∀ t : Fin grid0.N, win0_7.index t = ![t.val / 8, t.val % 8, 0] := by decide +kernel

/-- Row `r` of the block of point `t` is a token. -/
theorem tok_lt (t : Fin grid0.N) (r : Fin 1024) : t.val % 8 * 1024 + r.val < 8192 := by
  omega

/-- The block of the weight at point `t` is one of its first four. -/
theorem blk_lt (t : Fin grid0.N) : t.val / 8 < 4 := by
  have h : t.val < 32 := t.isLt
  omega

theorem pay3_iblk (c : Dev nD) (t : Fin cfg0.N) (r k : Fin 1024) :
    k0_pay3 (iblk m c 1 t) (iblk m c 0 t) (ix2 r k)
      = modx (m (c.tc.loc main_arg0)) (m (c.tc.loc main_arg1)) (ix2 ⟨t.val % 8 * 1024 + r.val, tok_lt t r⟩ k) := by
  refine (pay3_apply _ _ _ _).trans ?_
  unfold modx
  blk_point [iblk, V, idx0 t, idx1 t]

theorem pay5_iblk (c : Dev nD) (t : Fin cfg0.N) (r : Fin 1024) (f : Fin 704) :
    k0_pay5 (iblk m c 1 t) (iblk m c 0 t) (iblk m c 2 t) (ix2 r f)
      = gate (m (c.tc.loc main_arg0)) (m (c.tc.loc main_arg1)) (m (c.tc.loc main_arg2))
          (ix3 ⟨t.val / 8, blk_lt t⟩ ⟨t.val % 8 * 1024 + r.val, tok_lt t r⟩ f) := by
  refine (pay5_apply _ _ _ _ _).trans (Finset.sum_congr rfl fun k _ => ?_)
  refine congrArg₂ (fun a b : EReal => a * b) (pay3_iblk m c t r k) ?_
  blk_point [iblk, V, idx2 t]

theorem pay6_iblk (c : Dev nD) (t : Fin cfg0.N) (r : Fin 1024) (f : Fin 704) :
    k0_pay6 (iblk m c 1 t) (iblk m c 0 t) (iblk m c 3 t) (ix2 r f)
      = lin (m (c.tc.loc main_arg0)) (m (c.tc.loc main_arg1)) (m (c.tc.loc main_arg2))
          (ix3 ⟨t.val / 8, blk_lt t⟩ ⟨t.val % 8 * 1024 + r.val, tok_lt t r⟩ f) := by
  refine (pay6_apply _ _ _ _ _).trans (Finset.sum_congr rfl fun k _ => ?_)
  refine congrArg₂ (fun a b : EReal => a * b) (pay3_iblk m c t r k) ?_
  blk_point [iblk, V, idx3 t]

theorem arr7 (c : Dev nD) : (dats m 0 c).arrAt 7 cfg0.N = modx4 (m (c.tc.loc main_arg0)) (m (c.tc.loc main_arg1)) := by
  refine (dats m 0 c).arrAt_eq_of_covers 7 _ (by decide +kernel) fun t hf y => ?_
  blk_simp
  rw [after0_7]
  frame_out
  unfold modx4
  refine Eq.trans (b := k0_pay3 (iblk m c 1 t) (iblk m c 0 t) (ix2 (y 1) (y 2))) ?_ ((pay3_iblk m c t _ _).trans (congrArg _ ?_))
  · generalize iblk m c 1 t = v0
    generalize iblk m c 0 t = v2
    unfold k0_pay4
    pointwise
  · blk_ext [idx7 t]

theorem arr5 (c : Dev nD) : (dats m 0 c).arrAt 5 cfg0.N
    = gate (m (c.tc.loc main_arg0)) (m (c.tc.loc main_arg1)) (m (c.tc.loc main_arg2)) := by
  refine (dats m 0 c).arrAt_eq_of_covers 5 _ (by decide +kernel) fun t hf y => ?_
  blk_simp
  rw [after0_5]
  frame_out
  refine Eq.trans ?_ ((pay5_iblk m c t (y 1) (y 2)).trans (congrArg _ ?_))
  · generalize k0_pay5 (iblk m c 1 t) (iblk m c 0 t) (iblk m c 2 t) = g
    pointwise [k0_pay1]
  · blk_ext [idx5 t]

theorem arr6 (c : Dev nD) : (dats m 0 c).arrAt 6 cfg0.N
    = lin (m (c.tc.loc main_arg0)) (m (c.tc.loc main_arg1)) (m (c.tc.loc main_arg2)) := by
  refine (dats m 0 c).arrAt_eq_of_covers 6 _ (by decide +kernel) fun t hf y => ?_
  blk_simp
  rw [after0_6]
  frame_out
  refine Eq.trans ?_ ((pay6_iblk m c t (y 1) (y 2)).trans (congrArg _ ?_))
  · generalize k0_pay6 (iblk m c 1 t) (iblk m c 0 t) (iblk m c 3 t) = g
    pointwise [k0_pay2]
  · blk_ext [idx6 t]

theorem arr4 (c : Dev nD) : (dats m 0 c).arrAt 4 cfg0.N
    = act (m (c.tc.loc main_arg0)) (m (c.tc.loc main_arg1)) (m (c.tc.loc main_arg2)) := by
  refine (dats m 0 c).arrAt_eq_of_covers 4 _ (by decide +kernel) fun t hf y => ?_
  blk_simp
  rw [after0_4]
  frame_out
  refine (pay7_apply _ _ _ _ y).trans ?_
  unfold act
  refine congrArg₂ unit ((pay5_iblk m c t (y 1) (y 2)).trans (congrArg _ ?_)) ((pay6_iblk m c t (y 1) (y 2)).trans (congrArg _ ?_))
  · blk_ext [idx4 t]
  · blk_ext [idx4 t]

end Cert.Proof.FIn

end
-- ==== Proof.FInClaim.lean ====
module

public import proofs.«01_k».proof.Defs
public import proofs.«01_k».proof.Proof.Gen.FInIdeal.Value
public import proofs.«01_k».proof.Proof.FInValue
public import proofs.«01_k».proof.Proof.Gen.FInRefIdeal.Run
public import Idealize.ShloMosaic.Lib.Pipeline.ValueKit
public import Idealize.ShloMosaic.Lib.Pipeline.ReadBack

/-!
The value claim of the feed-forward layer's input call (`kernel_in`): the kernel's four arrays, computed in `FInValue`, are the
ones the reference's host operations compute.
-/

@[expose] public section

set_option maxRecDepth 16384

noncomputable section

namespace Cert.Proof.FIn

open Cert.FInIdeal Cert.FInIdeal.Gen Idealize.ShloMosaic Idealize.ShloMosaic.TcCoe Idealize.SL.Sem
open scoped BigOperators

/-! ## The reference's operations, at variable arrays -/

theorem ref_mod (x : Vec Ideal FInRefIdeal.S8192x1024 .f32) (md : Vec Ideal FInRefIdeal.S2x3x1024 .f32) (r : Fin 8192) (k : Fin 1024) :
    truncf (F := Ideal) .bf16 (shapeCast FInRefIdeal.S8192x1024 (addf (F := Ideal) (mulf (F := Ideal) (shapeCast FInRefIdeal.S2x4096x1024 x FInRefIdeal.Gen.shapeCasts_S8192x1024_S2x4096x1024)
      (broadcastInDim FInRefIdeal.S2x4096x1024 ![0, 1, 2] FInRefIdeal.Gen.bcast_S2x1x1024_S2x4096x1024_0_1_2 (addf (F := Ideal)
        (broadcastInDim FInRefIdeal.S2x1x1024 ![] FInRefIdeal.Gen.bcast_S_S2x1x1024 (constant (F := Ideal) FInRefIdeal.S_ .f32 0x3F800000#32))
        (extractStridedSlice FInRefIdeal.S2x1x1024 ![0, 1, 0] md FInRefIdeal.Gen.slices_S2x3x1024_S2x1x1024_0_1_0))))
      (broadcastInDim FInRefIdeal.S2x4096x1024 ![0, 1, 2] FInRefIdeal.Gen.bcast_S2x1x1024_S2x4096x1024_0_1_2
        (extractStridedSlice FInRefIdeal.S2x1x1024 ![0, 0, 0] md FInRefIdeal.Gen.slices_S2x3x1024_S2x1x1024_0_0_0)))
      FInRefIdeal.Gen.shapeCasts_S2x4096x1024_S8192x1024) FInRefIdeal.Gen.bitsLt_bf16_f32 (ix2 r k)
    = modx x md (ix2 r k) := by
  unfold modx
  pointwise

theorem ref_dot (w : FVec Ideal FInRefIdeal.S8x1024x704 .bf16) (h : FVec Ideal FInRefIdeal.S8192x1024 .bf16) (q : Fin 8) (r : Fin 8192) (f : Fin 704) :
    (transpose FInRefIdeal.S8x8192x704 [0, 2, 1] (Host.dotGeneral (F := Ideal) FInRefIdeal.dot_S8x1024x704_S8192x1024_S8x704x8192_1_1_02_0_n_n none w h)
      FInRefIdeal.Gen.transposes_S8x704x8192_S8x8192x704_0_2_1 : FVec Ideal FInRefIdeal.S8x8192x704 .f32) (ix3 q r f)
    = ∑ k : Fin 1024, w (ix3 q k f) * h (ix2 r k) := by
  pointwise

theorem ref_lo (s : Vec Ideal FInRefIdeal.S8x8192x704 .f32) (q : Fin 4) (r : Fin 8192) (f : Fin 704) :
    truncf (F := Ideal) .bf16 (extractStridedSlice FInRefIdeal.S4x8192x704 ![0, 0, 0] s FInRefIdeal.Gen.slices_S8x8192x704_S4x8192x704_0_0_0)
      FInRefIdeal.Gen.bitsLt_bf16_f32 (ix3 q r f) = s (ix3 ⟨q.val, by omega⟩ r f) := by
  pointwise

theorem ref_hi (s : Vec Ideal FInRefIdeal.S8x8192x704 .f32) (q : Fin 4) (r : Fin 8192) (f : Fin 704) :
    truncf (F := Ideal) .bf16 (extractStridedSlice FInRefIdeal.S4x8192x704 ![4, 0, 0] s FInRefIdeal.Gen.slices_S8x8192x704_S4x8192x704_4_0_0)
      FInRefIdeal.Gen.bitsLt_bf16_f32 (ix3 q r f) = s (ix3 ⟨4 + q.val, by omega⟩ r f) := by
  pointwise

theorem ref_act (s : Vec Ideal FInRefIdeal.S8x8192x704 .f32) (q : Fin 4) (r : Fin 8192) (f : Fin 704) :
    truncf (F := Ideal) .bf16 (mulf (F := Ideal) (mulf (F := Ideal) (extractStridedSlice FInRefIdeal.S4x8192x704 ![0, 0, 0] s FInRefIdeal.Gen.slices_S8x8192x704_S4x8192x704_0_0_0)
      (Host.divf (F := Ideal) (broadcastInDim FInRefIdeal.S4x8192x704 ![] FInRefIdeal.Gen.bcast_S_S4x8192x704 (constant (F := Ideal) FInRefIdeal.S_ .f32 0x3F800000#32))
        (addf (F := Ideal) (broadcastInDim FInRefIdeal.S4x8192x704 ![] FInRefIdeal.Gen.bcast_S_S4x8192x704 (constant (F := Ideal) FInRefIdeal.S_ .f32 0x3F800000#32))
          (Host.exp (F := Ideal) (Host.negf (F := Ideal) (extractStridedSlice FInRefIdeal.S4x8192x704 ![0, 0, 0] s FInRefIdeal.Gen.slices_S8x8192x704_S4x8192x704_0_0_0))))))
      (extractStridedSlice FInRefIdeal.S4x8192x704 ![4, 0, 0] s FInRefIdeal.Gen.slices_S8x8192x704_S4x8192x704_4_0_0)) FInRefIdeal.Gen.bitsLt_bf16_f32 (ix3 q r f)
    = unit (s (ix3 ⟨q.val, by omega⟩ r f)) (s (ix3 ⟨4 + q.val, by omega⟩ r f)) := by
  unfold unit
  pointwise

theorem ref_copies (h : Vec Ideal FInRefIdeal.S8192x1024 .bf16) (q : Fin 4) (r : Fin 8192) (k : Fin 1024) :
    broadcastInDim FInRefIdeal.S4x8192x1024 ![1, 2] FInRefIdeal.Gen.bcast_S8192x1024_S4x8192x1024_1_2 h (ix3 q r k) = h (ix2 r k) := by
  pointwise

/-! ## The claim -/

/-- The idealized kernel and the idealized reference, from the same arguments, end with the same four arrays. -/
theorem algebraic : Cert.algebraic_FInIdeal_FInRefIdeal := by
  intro m g m' g' _ hagree
  refine ⟨fun c => act (m (c.tc.loc main_arg0)) (m (c.tc.loc main_arg1)) (m (c.tc.loc main_arg2)),
    fun c => gate (m (c.tc.loc main_arg0)) (m (c.tc.loc main_arg1)) (m (c.tc.loc main_arg2)),
    fun c => lin (m (c.tc.loc main_arg0)) (m (c.tc.loc main_arg1)) (m (c.tc.loc main_arg2)),
    fun c => modx4 (m (c.tc.loc main_arg0)) (m (c.tc.loc main_arg1)), ?_, ?_⟩
  · refine (θ_run _ _ _).mono (fun r h c => ?_) (Cert.FInIdeal.Value.run_blocks (F := Ideal) m g)
    obtain ⟨h4, h5, h6, h7, h⟩ := h c
    exact ⟨h4.trans (arr4 m c), h5.trans (arr5 m c), h6.trans (arr6 m c), h7.trans (arr7 m c), h⟩
  · refine (θ_run _ _ _).mono (fun r h c => ?_) (Cert.FInRefIdeal.Value.run (F := Ideal) m' g')
    obtain ⟨h4, h5, h6, h7, h⟩ := h c
    obtain ⟨e0, e1, e2⟩ := hagree c
    rw [e0, e1, e2] at h4 h5 h6
    rw [e0, e1] at h7
    refine ⟨h4.trans ?_, h5.trans ?_, h6.trans ?_, h7.trans ?_, h⟩
    · funext y
      idx_vars y
      refine (ref_act _ _ _ _).trans (congrArg₂ unit ?_ ?_)
      · exact (ref_dot _ _ _ _ _).trans (Finset.sum_congr rfl fun k _ =>
          (mul_comm _ _).trans (congrArg (fun a : EReal => a * _) (ref_mod _ _ _ _)))
      · exact (ref_dot _ _ _ _ _).trans (Finset.sum_congr rfl fun k _ =>
          (mul_comm _ _).trans (congrArg (fun a : EReal => a * _) (ref_mod _ _ _ _)))
    · funext y
      idx_vars y
      exact (ref_lo _ _ _ _).trans ((ref_dot _ _ _ _ _).trans (Finset.sum_congr rfl fun k _ =>
          (mul_comm _ _).trans (congrArg (fun a : EReal => a * _) (ref_mod _ _ _ _))))
    · funext y
      idx_vars y
      exact (ref_hi _ _ _ _).trans ((ref_dot _ _ _ _ _).trans (Finset.sum_congr rfl fun k _ =>
          (mul_comm _ _).trans (congrArg (fun a : EReal => a * _) (ref_mod _ _ _ _))))
    · funext y
      idx_vars y
      exact (ref_copies _ _ _ _).trans (ref_mod _ _ _ _)

end Cert.Proof.FIn

end
-- ==== Proof.FOutValue.lean ====
module

public import proofs.«01_k».proof.Defs
public import proofs.«01_k».proof.Proof.Gen.FOutIdeal.Value
public import proofs.«01_k».proof.Proof.Gen.FOutRefIdeal.Run
public import Idealize.ShloMosaic.Lib.Pipeline.ValueKit
public import Idealize.ShloMosaic.Lib.Pipeline.ReadBack

/-!
The value of the feed-forward layer's output call (`kernel_out`): the output projection, and the layer norm of the weighted
residual, as functions of the whole arrays.
-/

@[expose] public section

set_option maxRecDepth 16384

noncomputable section

namespace Cert.Proof.FOut

open Cert.FOutIdeal Cert.FOutIdeal.Gen Idealize.ShloMosaic Idealize.ShloMosaic.TcCoe Idealize.SL.Sem
open Idealize.ShloMosaic.Pipeline (Dat)
open scoped BigOperators

/-- One element of the weighted residual, before the norm. -/
def resid (x md o : EReal) : EReal :=
  Ideal.ofBits .f32 0x3FB504F3#32 * x + Ideal.ofBits .f32 0x3F000000#32 * (1 + md) * o

/-- The layer norm of one row. -/
def norm (z : Fin 1024 → EReal) (g b : EReal) (k : Fin 1024) : EReal :=
  (z k - Ideal.div (∑ j, z j) (Ideal.ofBits .f32 0x44800000#32))
    * Ideal.rsqrt (Ideal.div (∑ i, (z i - Ideal.div (∑ j, z j) (Ideal.ofBits .f32 0x44800000#32))
        * (z i - Ideal.div (∑ j, z j) (Ideal.ofBits .f32 0x44800000#32))) (Ideal.ofBits .f32 0x44800000#32)
      + Ideal.ofBits .f32 0x3727C5AC#32) * g + b

/-- The output projection. -/
def proj (a : Vec Ideal S4x8192x704 .bf16) (w : Vec Ideal S4x704x1024 .bf16) : Vec Ideal S8192x1024 .f32 :=
  fun i => ∑ q : Fin 4, ∑ f : Fin 704, a (ix3 q (i 0) f) * w (ix3 q f (i 1))

/-- The layer's output. -/
def post (a : Vec Ideal S4x8192x704 .bf16) (w : Vec Ideal S4x704x1024 .bf16) (x : Vec Ideal S8192x1024 .f32)
    (md : Vec Ideal S2x3x1024 .f32) (g b : Vec Ideal S1x1024 .f32) : Vec Ideal S8192x1024 .f32 :=
  fun i => norm (fun j => resid (x (ix2 (i 0) j))
      (md (ix3 ⟨(i 0).val / 4096, by have h : (i 0).val < 8192 := (i 0).isLt; omega⟩ 2 j)) (proj a w (ix2 (i 0) j)))
    (g (ix2 0 (i 1))) (b (ix2 0 (i 1))) (i 1)

/-! ## The kernel's values, at variable blocks -/

theorem pay1_apply (o x : Vec Ideal S512x1024 .f32) (md : Vec Ideal S1x3x1024 .f32) (g b : Vec Ideal S1x1024 .f32)
    (r : Fin 512) (k : Fin 1024) :
    k0_pay1 o x (Scalar.ofBits .f32 0x3FB504F3#32) md g b (ix2 r k)
      = norm (fun j => resid (x (ix2 r j)) (md (ix3 0 2 j)) (o (ix2 r j))) (g (ix2 0 k)) (b (ix2 0 k)) k := by
  unfold norm resid
  pointwise [k0_pay1]

/-- The projection of one block of tokens. -/
def blkProj (x0 : Vec Ideal S4x512x704 .bf16) (x1 : Vec Ideal S4x704x1024 .bf16) : Vec Ideal S512x1024 .f32 :=
  k0_pay2 (View.ld x0 r0_0) (View.ld x1 r0_1) (View.ld x0 r0_2) (View.ld x1 r0_3)
    (View.ld x0 r0_4) (View.ld x1 r0_5) (View.ld x0 r0_6) (View.ld x1 r0_7)

theorem blkProj_apply (x0 : Vec Ideal S4x512x704 .bf16) (x1 : Vec Ideal S4x704x1024 .bf16) (r : Fin 512) (k : Fin 1024) :
    blkProj x0 x1 (ix2 r k) = ∑ q : Fin 4, ∑ f : Fin 704, x0 (ix3 q r f) * x1 (ix3 q f k) := by
  unfold blkProj
  pointwise [k0_pay2]
  rw [Fin.sum_univ_four]

variable (m : (ℓ : Loc nD τ sig) → Buf (Elt Ideal) ℓ)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![t.val / 8, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel

/-- Row `r` of the block of point `t` is a token. -/
theorem tok_lt (t : Fin grid0.N) (r : Fin 512) : t.val * 512 + r.val < 8192 := by
  have h : t.val < 16 := t.isLt
  omega

/-- The example of point `t`. -/
theorem ex_lt (t : Fin grid0.N) : t.val / 8 < 2 := by
  have h : t.val < 16 := t.isLt
  omega

theorem proj_iblk (c : Dev nD) (t : Fin cfg0.N) (r : Fin 512) (k : Fin 1024) :
    blkProj (iblk m c 0 t) (iblk m c 1 t) (ix2 r k)
      = proj (m (c.tc.loc main_arg0)) (m (c.tc.loc main_arg1)) (ix2 ⟨t.val * 512 + r.val, tok_lt t r⟩ k) := by
  refine (blkProj_apply _ _ _ _).trans ?_
  unfold proj
  blk_point [iblk, V, idx0 t, idx1 t]

theorem x_iblk (c : Dev nD) (t : Fin cfg0.N) (r : Fin 512) (k : Fin 1024) :
    (iblk m c 2 t : Vec Ideal S512x1024 .f32) (ix2 r k) = (m (c.tc.loc main_arg2) : Vec Ideal S8192x1024 .f32) (ix2 ⟨t.val * 512 + r.val, tok_lt t r⟩ k) := by
  blk_point [iblk, V, idx2 t]

theorem md_iblk (c : Dev nD) (t : Fin cfg0.N) (k : Fin 1024) :
    (iblk m c 3 t : Vec Ideal S1x3x1024 .f32) (ix3 0 2 k) = (m (c.tc.loc main_arg3) : Vec Ideal S2x3x1024 .f32) (ix3 ⟨t.val / 8, ex_lt t⟩ 2 k) := by
  blk_point [iblk, V, idx3 t]

theorem g_iblk (c : Dev nD) (t : Fin cfg0.N) (k : Fin 1024) :
    (iblk m c 4 t : Vec Ideal S1x1024 .f32) (ix2 0 k) = (m (c.tc.loc main_arg4) : Vec Ideal S1x1024 .f32) (ix2 0 k) := by
  blk_point [iblk, V, idx4 t]

theorem b_iblk (c : Dev nD) (t : Fin cfg0.N) (k : Fin 1024) :
    (iblk m c 5 t : Vec Ideal S1x1024 .f32) (ix2 0 k) = (m (c.tc.loc main_arg5) : Vec Ideal S1x1024 .f32) (ix2 0 k) := by
  blk_point [iblk, V, idx5 t]

theorem post_iblk (c : Dev nD) (t : Fin cfg0.N) (r : Fin 512) (k : Fin 1024) :
    k0_pay1 (blkProj (iblk m c 0 t) (iblk m c 1 t)) (iblk m c 2 t) (Scalar.ofBits .f32 0x3FB504F3#32) (iblk m c 3 t)
        (iblk m c 4 t) (iblk m c 5 t) (ix2 r k)
      = post (m (c.tc.loc main_arg0)) (m (c.tc.loc main_arg1)) (m (c.tc.loc main_arg2)) (m (c.tc.loc main_arg3))
          (m (c.tc.loc main_arg4)) (m (c.tc.loc main_arg5)) (ix2 ⟨t.val * 512 + r.val, tok_lt t r⟩ k) := by
  refine (pay1_apply _ _ _ _ _ _ _).trans ?_
  have hz : (fun j => resid ((iblk m c 2 t : Vec Ideal S512x1024 .f32) (ix2 r j)) ((iblk m c 3 t : Vec Ideal S1x3x1024 .f32) (ix3 0 2 j))
        (blkProj (iblk m c 0 t) (iblk m c 1 t) (ix2 r j)))
      = fun j => resid ((m (c.tc.loc main_arg2) : Vec Ideal S8192x1024 .f32) (ix2 ⟨t.val * 512 + r.val, tok_lt t r⟩ j))
        ((m (c.tc.loc main_arg3) : Vec Ideal S2x3x1024 .f32) (ix3 ⟨(t.val * 512 + r.val) / 4096, by have h := tok_lt t r; omega⟩ 2 j))
        (proj (m (c.tc.loc main_arg0)) (m (c.tc.loc main_arg1)) (ix2 ⟨t.val * 512 + r.val, tok_lt t r⟩ j)) := by
    funext j
    have he : (⟨t.val / 8, ex_lt t⟩ : Fin 2) = ⟨(t.val * 512 + r.val) / 4096, by have h := tok_lt t r; omega⟩ := by
      apply Fin.ext
      have hr := r.isLt
      show t.val / 8 = (t.val * 512 + r.val) / 4096
      omega
    rw [← he]
    exact congr (congrArg₂ resid (x_iblk m c t r j) (md_iblk m c t j)) (proj_iblk m c t r j)
  unfold post
  exact congrFun (congr (congr (congrArg norm hz) (g_iblk m c t k)) (b_iblk m c t k)) k

theorem arr6 (c : Dev nD) : (dats m 0 c).arrAt 6 cfg0.N = proj (m (c.tc.loc main_arg0)) (m (c.tc.loc main_arg1)) := by
  refine (dats m 0 c).arrAt_eq_of_covers 6 _ (by decide +kernel) fun t hf y => ?_
  blk_simp
  rw [after0_6]
  frame_out
  idx_vars y
  refine (proj_iblk m c t _ _).trans (congrArg _ ?_)
  blk_ext [idx6 t]

theorem arr7 (c : Dev nD) : (dats m 0 c).arrAt 7 cfg0.N
    = post (m (c.tc.loc main_arg0)) (m (c.tc.loc main_arg1)) (m (c.tc.loc main_arg2)) (m (c.tc.loc main_arg3))
        (m (c.tc.loc main_arg4)) (m (c.tc.loc main_arg5)) := by
  refine (dats m 0 c).arrAt_eq_of_covers 7 _ (by decide +kernel) fun t hf y => ?_
  blk_simp
  rw [after0_7]
  frame_out
  idx_vars y
  refine (post_iblk m c t _ _).trans (congrArg _ ?_)
  blk_ext [idx7 t]

end Cert.Proof.FOut

end
-- ==== Proof.FOutClaim.lean ====
module

public import proofs.«01_k».proof.Defs
public import proofs.«01_k».proof.Proof.Gen.FOutIdeal.Value
public import proofs.«01_k».proof.Proof.Gen.FOutRefIdeal.Run
public import proofs.«01_k».proof.Proof.FOutValue
public import Idealize.ShloMosaic.Lib.Pipeline.ValueKit
public import Idealize.ShloMosaic.Lib.Pipeline.ReadBack

/-!
The value claim of the feed-forward layer's output call (`kernel_out`): the kernel's two arrays, computed in `FOutValue`, are
the ones the reference's host operations compute.
-/

@[expose] public section

set_option maxRecDepth 16384

noncomputable section

namespace Cert.Proof.FOut

open Cert.FOutIdeal Cert.FOutIdeal.Gen Idealize.ShloMosaic Idealize.ShloMosaic.TcCoe Idealize.SL.Sem
open Idealize.ShloMosaic.Pipeline (Dat)
open scoped BigOperators

/-! ## The reference's operations, at variable arrays -/

theorem ref_dot (a : FVec Ideal FOutRefIdeal.S4x8192x704 .bf16) (w : FVec Ideal FOutRefIdeal.S4x704x1024 .bf16) (r : Fin 8192) (k : Fin 1024) :
    (Host.dotGeneral (F := Ideal) FOutRefIdeal.dot_S4x8192x704_S4x704x1024_S8192x1024_02_01_1_2_n_n none a w
      : FVec Ideal FOutRefIdeal.S8192x1024 .f32) (ix2 r k) = proj a w (ix2 r k) := by
  unfold proj
  pointwise

theorem ref_norm (z : Vec Ideal FOutRefIdeal.S2x4096x1024 .f32) (g b : Vec Ideal FOutRefIdeal.S1x1024 .f32) (r : Fin 8192) (k : Fin 1024) :
    (shapeCast FOutRefIdeal.S8192x1024 (addf (F := Ideal) (mulf (F := Ideal) (mulf (F := Ideal) (subf (F := Ideal) z (broadcastInDim FOutRefIdeal.S2x4096x1024 ![0, 1, 2] FOutRefIdeal.Gen.bcast_S2x4096x1_S2x4096x1024_0_1_2 (Host.divf (F := Ideal) (broadcastInDim FOutRefIdeal.S2x4096x1 ![0, 1] FOutRefIdeal.Gen.bcast_S2x4096_S2x4096x1_0_1 (Host.reduceAdd (F := Ideal) z (constant (F := Ideal) FOutRefIdeal.S_ .f32 0x00000000#32) FOutRefIdeal.Gen.reducesTo_S2x4096x1024_S2x4096_d2 FOutRefIdeal.Gen.h_S_)) (broadcastInDim FOutRefIdeal.S2x4096x1 ![] FOutRefIdeal.Gen.bcast_S_S2x4096x1 (constant (F := Ideal) FOutRefIdeal.S_ .f32 0x44800000#32))))) (broadcastInDim FOutRefIdeal.S2x4096x1024 ![0, 1, 2] FOutRefIdeal.Gen.bcast_S2x4096x1_S2x4096x1024_0_1_2 (Host.rsqrt (F := Ideal) (addf (F := Ideal) (Host.divf (F := Ideal) (broadcastInDim FOutRefIdeal.S2x4096x1 ![0, 1] FOutRefIdeal.Gen.bcast_S2x4096_S2x4096x1_0_1 (Host.reduceAdd (F := Ideal) (mulf (F := Ideal) (subf (F := Ideal) z (broadcastInDim FOutRefIdeal.S2x4096x1024 ![0, 1, 2] FOutRefIdeal.Gen.bcast_S2x4096x1_S2x4096x1024_0_1_2 (Host.divf (F := Ideal) (broadcastInDim FOutRefIdeal.S2x4096x1 ![0, 1] FOutRefIdeal.Gen.bcast_S2x4096_S2x4096x1_0_1 (Host.reduceAdd (F := Ideal) z (constant (F := Ideal) FOutRefIdeal.S_ .f32 0x00000000#32) FOutRefIdeal.Gen.reducesTo_S2x4096x1024_S2x4096_d2 FOutRefIdeal.Gen.h_S_)) (broadcastInDim FOutRefIdeal.S2x4096x1 ![] FOutRefIdeal.Gen.bcast_S_S2x4096x1 (constant (F := Ideal) FOutRefIdeal.S_ .f32 0x44800000#32))))) (subf (F := Ideal) z (broadcastInDim FOutRefIdeal.S2x4096x1024 ![0, 1, 2] FOutRefIdeal.Gen.bcast_S2x4096x1_S2x4096x1024_0_1_2 (Host.divf (F := Ideal) (broadcastInDim FOutRefIdeal.S2x4096x1 ![0, 1] FOutRefIdeal.Gen.bcast_S2x4096_S2x4096x1_0_1 (Host.reduceAdd (F := Ideal) z (constant (F := Ideal) FOutRefIdeal.S_ .f32 0x00000000#32) FOutRefIdeal.Gen.reducesTo_S2x4096x1024_S2x4096_d2 FOutRefIdeal.Gen.h_S_)) (broadcastInDim FOutRefIdeal.S2x4096x1 ![] FOutRefIdeal.Gen.bcast_S_S2x4096x1 (constant (F := Ideal) FOutRefIdeal.S_ .f32 0x44800000#32)))))) (constant (F := Ideal) FOutRefIdeal.S_ .f32 0x00000000#32) FOutRefIdeal.Gen.reducesTo_S2x4096x1024_S2x4096_d2 FOutRefIdeal.Gen.h_S_)) (broadcastInDim FOutRefIdeal.S2x4096x1 ![] FOutRefIdeal.Gen.bcast_S_S2x4096x1 (constant (F := Ideal) FOutRefIdeal.S_ .f32 0x44800000#32))) (broadcastInDim FOutRefIdeal.S2x4096x1 ![] FOutRefIdeal.Gen.bcast_S_S2x4096x1 (constant (F := Ideal) FOutRefIdeal.S_ .f32 0x3727C5AC#32)))))) (broadcastInDim FOutRefIdeal.S2x4096x1024 ![0, 1, 2] FOutRefIdeal.Gen.bcast_S1x1x1024_S2x4096x1024_0_1_2 (broadcastInDim FOutRefIdeal.S1x1x1024 ![1, 2] FOutRefIdeal.Gen.bcast_S1x1024_S1x1x1024_1_2 g))) (broadcastInDim FOutRefIdeal.S2x4096x1024 ![0, 1, 2] FOutRefIdeal.Gen.bcast_S1x1x1024_S2x4096x1024_0_1_2 (broadcastInDim FOutRefIdeal.S1x1x1024 ![1, 2] FOutRefIdeal.Gen.bcast_S1x1024_S1x1x1024_1_2 b))) FOutRefIdeal.Gen.shapeCasts_S2x4096x1024_S8192x1024 : Vec Ideal FOutRefIdeal.S8192x1024 .f32) (ix2 r k)
    = norm (fun j => z (ix3 ⟨r.val / 4096, by omega⟩ ⟨r.val % 4096, by omega⟩ j)) (g (ix2 0 k)) (b (ix2 0 k)) k := by
  unfold norm
  pointwise

theorem ref_resid (x o : Vec Ideal FOutRefIdeal.S8192x1024 .f32) (md : Vec Ideal FOutRefIdeal.S2x3x1024 .f32) (r : Fin 8192) (j : Fin 1024) :
    (addf (F := Ideal) (mulf (F := Ideal) (broadcastInDim FOutRefIdeal.S2x4096x1024 ![] FOutRefIdeal.Gen.bcast_S_S2x4096x1024 (constant (F := Ideal) FOutRefIdeal.S_ .f32 0x3FB504F3#32)) (shapeCast FOutRefIdeal.S2x4096x1024 x FOutRefIdeal.Gen.shapeCasts_S8192x1024_S2x4096x1024)) (mulf (F := Ideal) (broadcastInDim FOutRefIdeal.S2x4096x1024 ![0, 1, 2] FOutRefIdeal.Gen.bcast_S2x1x1024_S2x4096x1024_0_1_2 (mulf (F := Ideal) (broadcastInDim FOutRefIdeal.S2x1x1024 ![] FOutRefIdeal.Gen.bcast_S_S2x1x1024 (constant (F := Ideal) FOutRefIdeal.S_ .f32 0x3F000000#32)) (addf (F := Ideal) (broadcastInDim FOutRefIdeal.S2x1x1024 ![] FOutRefIdeal.Gen.bcast_S_S2x1x1024 (constant (F := Ideal) FOutRefIdeal.S_ .f32 0x3F800000#32)) (extractStridedSlice FOutRefIdeal.S2x1x1024 ![0, 2, 0] md FOutRefIdeal.Gen.slices_S2x3x1024_S2x1x1024_0_2_0)))) (shapeCast FOutRefIdeal.S2x4096x1024 o FOutRefIdeal.Gen.shapeCasts_S8192x1024_S2x4096x1024)) : Vec Ideal FOutRefIdeal.S2x4096x1024 .f32)
      (ix3 ⟨r.val / 4096, by omega⟩ ⟨r.val % 4096, by omega⟩ j)
    = resid (x (ix2 r j)) (md (ix3 ⟨r.val / 4096, by omega⟩ 2 j)) (o (ix2 r j)) := by
  unfold resid
  pointwise

/-! ## The claim -/

/-- The idealized kernel and the idealized reference, from the same arguments, end with the same two arrays. -/
theorem algebraic : Cert.algebraic_FOutIdeal_FOutRefIdeal := by
  intro m g m' g' _ hagree
  refine ⟨fun c => proj (m (c.tc.loc main_arg0)) (m (c.tc.loc main_arg1)),
    fun c => post (m (c.tc.loc main_arg0)) (m (c.tc.loc main_arg1)) (m (c.tc.loc main_arg2)) (m (c.tc.loc main_arg3))
        (m (c.tc.loc main_arg4)) (m (c.tc.loc main_arg5)), ?_, ?_⟩
  · refine (θ_run _ _ _).mono (fun r h c => ?_) (Cert.FOutIdeal.Value.run_blocks (F := Ideal) m g)
    obtain ⟨h6, h7, h⟩ := h c
    exact ⟨h6.trans (arr6 m c), h7.trans (arr7 m c), h⟩
  · refine (θ_run _ _ _).mono (fun r h c => ?_) (Cert.FOutRefIdeal.Value.run (F := Ideal) m' g')
    obtain ⟨h6, h7, h⟩ := h c
    obtain ⟨e0, e1, e2, e3, e4, e5⟩ := hagree c
    unfold FOutRefIdeal.Value.res_main_v37 at h7
    rw [e0, e1] at h6
    rw [e0, e1, e2, e3, e4, e5] at h7
    refine ⟨h6.trans ?_, h7.trans ?_, h⟩
    · funext y
      idx_vars y
      exact ref_dot _ _ _ _
    · funext y
      idx_vars y
      refine (ref_norm _ _ _ _ _).trans ?_
      refine congrArg (fun z : Fin 1024 → EReal => norm z _ _ _) (funext fun j => ?_)
      refine (ref_resid _ _ _ _ j).trans ?_
      exact congrArg (fun p : EReal => resid _ _ p) (ref_dot _ _ _ _)

end Cert.Proof.FOut

end
-- ==== Proof.DWinValue.lean ====
module

public import proofs.«01_k».proof.Defs
public import proofs.«01_k».proof.Proof.Gen.DWinIdeal.Value
public import proofs.«01_k».proof.Proof.Gen.DWinRefIdeal.Run
public import Idealize.ShloMosaic.Lib.Pipeline.ValueKit
public import Idealize.ShloMosaic.Lib.Pipeline.ReadBack

/-!
The value of the input weight's gradient (`kernel_dwin`): the eight blocks of the weight, each accumulated over four
blocks of 2048 tokens, are the product over all tokens, and the second result is its bfloat16 copy.
-/

@[expose] public section

set_option maxRecDepth 16384

noncomputable section

namespace Cert.Proof.DWin

open Cert.DWinIdeal Cert.DWinIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- What one point adds: the product of its tokens' two blocks. -/
def term (x0 : Vec Ideal S1x2048x1024 .bf16) (x1 : Vec Ideal S1x2048x704 .bf16) : Vec Ideal S1x1024x704 .f32 :=
  fun j => ∑ r : Fin 2048, x0 (ix3 0 r (j 1)) * x1 (ix3 0 r (j 2))

theorem out2_A (c : Dev nD) (t : Fin cfg0.N) (h : t.val % 4 = 0) :
    (outsAt0 m c t.val t.isLt).1 = k0_pay2 (k0_pay1 (F := Ideal)) (iblk m c 0 t) (iblk m c 1 t) := by
  rw [Gen.outsAt0_A m c t h (by omega)]
  frame_open
  simp (disch := decide) only [↓ View.readCov_skip, ↓ View.readCov_cons_toLoadRect, ↓ View.readCov_fill]
  frame_out

theorem out2_B (c : Dev nD) (t : Fin cfg0.N) (h : ¬ t.val % 4 = 0) :
    (outsAt0 m c t.val t.isLt).1
      = k0_pay2 (outsAt0 m c (t.val - 1) (Nat.lt_of_le_of_lt (Nat.sub_le _ _) t.isLt)).1 (iblk m c 0 t) (iblk m c 1 t) := by
  by_cases h3 : t.val % 4 = 3
  · rw [Gen.outsAt0_C m c t h h3]
    frame_open
    simp (disch := decide) only [↓ View.readCov_skip, ↓ View.readCov_cons_toLoadRect, ↓ View.readCov_fill]
    frame_out
  · rw [Gen.outsAt0_B m c t h h3]
    frame_open
    simp (disch := decide) only [↓ View.readCov_skip, ↓ View.readCov_cons_toLoadRect, ↓ View.readCov_fill]
    frame_out

/-- At a run's last point the bfloat16 copy is the accumulated block's cast. -/
theorem out3_C (c : Dev nD) (t : Fin cfg0.N) (h : t.val % 4 = 3) :
    (outsAt0 m c t.val t.isLt).2 = k0_pay3 (outsAt0 m c t.val t.isLt).1 := by
  rw [out2_B m c t (by omega)]
  rw [Gen.outsAt0_C m c t (by omega) h]
  frame_open
  simp (disch := decide) only [↓ View.readCov_skip, ↓ View.readCov_cons_toLoadRect, ↓ View.readCov_fill]
  frame_out

/-- The first point of a run starts the sum from zero. -/
theorem step_A (c : Dev nD) (t : Fin cfg0.N) (h : t.val % 4 = 0) (j : S1x1024x704.Idx) :
    (outsAt0 m c t.val t.isLt).1 j = 0 + term (iblk m c 0 t) (iblk m c 1 t) j := by
  rw [out2_A m c t h]
  generalize iblk m c 0 t = x0
  generalize iblk m c 1 t = x1
  pointwise [k0_pay2, k0_pay1, term]

/-- A later point adds its tokens. -/
theorem step_B (c : Dev nD) (t : Fin cfg0.N) (h : ¬ t.val % 4 = 0) (j : S1x1024x704.Idx) :
    (outsAt0 m c t.val t.isLt).1 j = (outsAt0 m c (t.val - 1) (Nat.lt_of_le_of_lt (Nat.sub_le _ _) t.isLt)).1 j
      + term (iblk m c 0 t) (iblk m c 1 t) j := by
  rw [out2_B m c t h]
  generalize iblk m c 0 t = x0
  generalize iblk m c 1 t = x1
  generalize (outsAt0 m c (t.val - 1) (Nat.lt_of_le_of_lt (Nat.sub_le _ _) t.isLt)).1 = o
  pointwise [k0_pay2, term]

/-- The gradient of the weight: the product over all tokens. -/
def gradW (a0 : Vec Ideal S4x8192x1024 .bf16) (a1 : Vec Ideal S8x8192x704 .bf16) : Vec Ideal S8x1024x704 .f32 :=
  fun i => ∑ r : Fin 8192, a0 (ix3 0 r (i 1)) * a1 (ix3 (i 0) r (i 2))

/-- Its bfloat16 copy. -/
def gradB (a0 : Vec Ideal S4x8192x1024 .bf16) (a1 : Vec Ideal S8x8192x704 .bf16) : Vec Ideal S8x1024x704 .bf16 :=
  fun i => gradW a0 a1 i

theorem gradW_comm (a0 : Vec Ideal S4x8192x1024 .bf16) (a1 : Vec Ideal S8x8192x704 .bf16) (i : S8x1024x704.Idx) :
    gradW a0 a1 i = ∑ r : Fin 8192, a1 (ix3 (i 0) r (i 2)) * a0 (ix3 0 r (i 1)) :=
  Finset.sum_congr rfl fun _ _ => mul_comm _ _

theorem idx0 : ∀ t : Fin grid0.N, win0_0.index t = ![0, t.val % 4, 0] := by decide +kernel
theorem idx1 : ∀ t : Fin grid0.N, win0_1.index t = ![t.val / 4, t.val % 4, 0] := by decide +kernel
theorem idx2 : ∀ t : Fin grid0.N, win0_2.index t = ![t.val / 4, 0, 0] := by decide +kernel
theorem idx3 : ∀ t : Fin grid0.N, win0_3.index t = ![t.val / 4, 0, 0] := by decide +kernel

/-- A run's last point holds its block of the gradient. -/
theorem block_last (c : Dev nD) (t : Fin cfg0.N) (h : t.val % 4 = 3) (y : S1x1024x704.Idx) :
    (outsAt0 m c t.val t.isLt).1 y = gradW (m (c.tc.loc main_arg0)) (m (c.tc.loc main_arg1))
      (ix3 ⟨t.val / 4, by have h : t.val < 32 := t.isLt; omega⟩ (y 1) (y 2)) := by
  rw [Pipeline.eq_sum_fin_of_reset_step_apply_of_flush (fun n h => (outsAt0 m c n h).1) 4 (fun _ => 0)
    (fun t j => term (iblk m c 0 t) (iblk m c 1 t) j) (step_A m c) (step_B m c) t h]
  unfold gradW term
  rw [zero_add]
  refine Fin.sum_mul_add_congr fun s k hl => ?_
  have ht : t.val < 32 := t.isLt
  refine congrArg₂ (fun a b : EReal => a * b) ?_ ?_
  · blk_point [iblk, V, idx0 _]
  · blk_point [iblk, V, idx1 _]

theorem arr2 (c : Dev nD) : (dats m 0 c).arrAt 2 cfg0.N = gradW (m (c.tc.loc main_arg0)) (m (c.tc.loc main_arg1)) := by
  refine (dats m 0 c).arrAt_eq_of_covers 2 _ (by decide +kernel) fun t hf y => ?_
  blk_simp
  rw [after0_2]
  refine (block_last m c t ((Gen.flush0_2 t).mp hf) _).trans (congrArg _ ?_)
  blk_ext [idx2 t]

theorem arr3 (c : Dev nD) : (dats m 0 c).arrAt 3 cfg0.N = gradB (m (c.tc.loc main_arg0)) (m (c.tc.loc main_arg1)) := by
  refine (dats m 0 c).arrAt_eq_of_covers 3 _ (by decide +kernel) fun t hf y => ?_
  blk_simp
  rw [after0_3, out3_C m c t ((Gen.flush0_3 t).mp hf)]
  unfold gradB
  refine Eq.trans ?_ ((block_last m c t ((Gen.flush0_3 t).mp hf) y).trans (congrArg _ ?_))
  · pointwise [k0_pay3]
  · blk_ext [idx3 t]

end Cert.Proof.DWin

end
-- ==== Proof.DWinClaim.lean ====
module

public import proofs.«01_k».proof.Defs
public import proofs.«01_k».proof.Proof.Gen.DWinIdeal.Value
public import proofs.«01_k».proof.Proof.DWinValue
public import proofs.«01_k».proof.Proof.Gen.DWinRefIdeal.Run
public import Idealize.ShloMosaic.Lib.Pipeline.ValueKit
public import Idealize.ShloMosaic.Lib.Pipeline.ReadBack

/-!
The value claim of the input weight's gradient (`kernel_dwin`): the kernel's two arrays, computed in `DWinValue`, are the
ones the reference's host operations compute.
-/

@[expose] public section

set_option maxRecDepth 16384

noncomputable section

namespace Cert.Proof.DWin

open Cert.DWinIdeal Cert.DWinIdeal.Gen Idealize.ShloMosaic Idealize.ShloMosaic.TcCoe Idealize.SL.Sem
open Idealize.ShloMosaic.Pipeline (Dat)
open scoped BigOperators

/-- The idealized kernel and the idealized reference, from the same arguments, end with the same two gradients. -/
theorem algebraic : Cert.algebraic_DWinIdeal_DWinRefIdeal := by
  intro m g m' g' _ hagree
  refine ⟨fun c => gradW (m (c.tc.loc main_arg0)) (m (c.tc.loc main_arg1)),
    fun c => gradB (m (c.tc.loc main_arg0)) (m (c.tc.loc main_arg1)), ?_, ?_⟩
  · refine (θ_run _ _ _).mono (fun r h c => ?_) (Cert.DWinIdeal.Value.run_blocks (F := Ideal) m g)
    obtain ⟨h2, h3, h⟩ := h c
    exact ⟨h2.trans (arr2 m c), h3.trans (arr3 m c), h⟩
  · refine (θ_run _ _ _).mono (fun r h c => ?_) (Cert.DWinRefIdeal.Value.run (F := Ideal) m' g')
    obtain ⟨h2, h3, h⟩ := h c
    obtain ⟨e0, e1⟩ := hagree c
    rw [e0, e1] at h2 h3
    refine ⟨h2.trans ?_, h3.trans ?_, h⟩
    · funext y
      refine Eq.trans ?_ (gradW_comm _ _ _).symm
      pointwise
    · funext y
      refine Eq.trans ?_ (gradW_comm _ _ _).symm
      pointwise

end Cert.Proof.DWin

end
-- ==== Proof.DWoutValue.lean ====
module

public import proofs.«01_k».proof.Defs
public import proofs.«01_k».proof.Proof.Gen.DWoutIdeal.Value
public import proofs.«01_k».proof.Proof.Gen.DWoutRefIdeal.Run
public import Idealize.ShloMosaic.Lib.Pipeline.ValueKit
public import Idealize.ShloMosaic.Lib.Pipeline.ReadBack

/-!
The value of the output weight's gradient (`kernel_dwout`): the four blocks of the weight, each accumulated over four
blocks of 2048 tokens, are the product over all tokens, and the second result is its bfloat16 copy.
-/

@[expose] public section

set_option maxRecDepth 16384

noncomputable section

namespace Cert.Proof.DWout

open Cert.DWoutIdeal Cert.DWoutIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- What one point adds: the product of its tokens' two blocks. -/
def term (x0 : Vec Ideal S1x2048x704 .bf16) (x1 : Vec Ideal S2048x1024 .bf16) : Vec Ideal S1x704x1024 .f32 :=
  fun j => ∑ r : Fin 2048, x0 (ix3 0 r (j 1)) * x1 (ix2 r (j 2))

theorem out2_A (c : Dev nD) (t : Fin cfg0.N) (h : t.val % 4 = 0) :
    (outsAt0 m c t.val t.isLt).1 = k0_pay2 (k0_pay1 (F := Ideal)) (iblk m c 0 t) (iblk m c 1 t) := by
  rw [Gen.outsAt0_A m c t h (by omega)]
  frame_open
  simp (disch := decide) only [↓ View.readCov_skip, ↓ View.readCov_cons_toLoadRect, ↓ View.readCov_fill]
  frame_out

theorem out2_B (c : Dev nD) (t : Fin cfg0.N) (h : ¬ t.val % 4 = 0) :
    (outsAt0 m c t.val t.isLt).1
      = k0_pay2 (outsAt0 m c (t.val - 1) (Nat.lt_of_le_of_lt (Nat.sub_le _ _) t.isLt)).1 (iblk m c 0 t) (iblk m c 1 t) := by
  by_cases h3 : t.val % 4 = 3
  · rw [Gen.outsAt0_C m c t h h3]
    frame_open
    simp (disch := decide) only [↓ View.readCov_skip, ↓ View.readCov_cons_toLoadRect, ↓ View.readCov_fill]
    frame_out
  · rw [Gen.outsAt0_B m c t h h3]
    frame_open
    simp (disch := decide) only [↓ View.readCov_skip, ↓ View.readCov_cons_toLoadRect, ↓ View.readCov_fill]
    frame_out

/-- At a run's last point the bfloat16 copy is the accumulated block's cast. -/
theorem out3_C (c : Dev nD) (t : Fin cfg0.N) (h : t.val % 4 = 3) :
    (outsAt0 m c t.val t.isLt).2 = k0_pay3 (outsAt0 m c t.val t.isLt).1 := by
  rw [out2_B m c t (by omega)]
  rw [Gen.outsAt0_C m c t (by omega) h]
  frame_open
  simp (disch := decide) only [↓ View.readCov_skip, ↓ View.readCov_cons_toLoadRect, ↓ View.readCov_fill]
  frame_out

/-- The first point of a run starts the sum from zero. -/
theorem step_A (c : Dev nD) (t : Fin cfg0.N) (h : t.val % 4 = 0) (j : S1x704x1024.Idx) :
    (outsAt0 m c t.val t.isLt).1 j = 0 + term (iblk m c 0 t) (iblk m c 1 t) j := by
  rw [out2_A m c t h]
  generalize iblk m c 0 t = x0
  generalize iblk m c 1 t = x1
  pointwise [k0_pay2, k0_pay1, term]

/-- A later point adds its tokens. -/
theorem step_B (c : Dev nD) (t : Fin cfg0.N) (h : ¬ t.val % 4 = 0) (j : S1x704x1024.Idx) :
    (outsAt0 m c t.val t.isLt).1 j = (outsAt0 m c (t.val - 1) (Nat.lt_of_le_of_lt (Nat.sub_le _ _) t.isLt)).1 j
      + term (iblk m c 0 t) (iblk m c 1 t) j := by
  rw [out2_B m c t h]
  generalize iblk m c 0 t = x0
  generalize iblk m c 1 t = x1
  generalize (outsAt0 m c (t.val - 1) (Nat.lt_of_le_of_lt (Nat.sub_le _ _) t.isLt)).1 = o
  pointwise [k0_pay2, term]

/-- The gradient of the weight: the product over all tokens. -/
def gradW (a0 : Vec Ideal S4x8192x704 .bf16) (a1 : Vec Ideal S8192x1024 .bf16) : Vec Ideal S4x704x1024 .f32 :=
  fun i => ∑ r : Fin 8192, a0 (ix3 (i 0) r (i 1)) * a1 (ix2 r (i 2))

/-- Its bfloat16 copy. -/
def gradB (a0 : Vec Ideal S4x8192x704 .bf16) (a1 : Vec Ideal S8192x1024 .bf16) : Vec Ideal S4x704x1024 .bf16 :=
  fun i => gradW a0 a1 i

theorem gradW_comm (a0 : Vec Ideal S4x8192x704 .bf16) (a1 : Vec Ideal S8192x1024 .bf16) (i : S4x704x1024.Idx) :
    gradW a0 a1 i = ∑ r : Fin 8192, a1 (ix2 r (i 2)) * a0 (ix3 (i 0) r (i 1)) :=
  Finset.sum_congr rfl fun _ _ => mul_comm _ _

theorem idx0 : ∀ t : Fin grid0.N, win0_0.index t = ![t.val / 4, t.val % 4, 0] := by decide +kernel
theorem idx1 : ∀ t : Fin grid0.N, win0_1.index t = ![t.val % 4, 0] := by decide +kernel
theorem idx2 : ∀ t : Fin grid0.N, win0_2.index t = ![t.val / 4, 0, 0] := by decide +kernel
theorem idx3 : ∀ t : Fin grid0.N, win0_3.index t = ![t.val / 4, 0, 0] := by decide +kernel

/-- A run's last point holds its block of the gradient. -/
theorem block_last (c : Dev nD) (t : Fin cfg0.N) (h : t.val % 4 = 3) (y : S1x704x1024.Idx) :
    (outsAt0 m c t.val t.isLt).1 y = gradW (m (c.tc.loc main_arg0)) (m (c.tc.loc main_arg1))
      (ix3 ⟨t.val / 4, by have h : t.val < 16 := t.isLt; omega⟩ (y 1) (y 2)) := by
  rw [Pipeline.eq_sum_fin_of_reset_step_apply_of_flush (fun n h => (outsAt0 m c n h).1) 4 (fun _ => 0)
    (fun t j => term (iblk m c 0 t) (iblk m c 1 t) j) (step_A m c) (step_B m c) t h]
  unfold gradW term
  rw [zero_add]
  refine Fin.sum_mul_add_congr fun s k hl => ?_
  have ht : t.val < 16 := t.isLt
  refine congrArg₂ (fun a b : EReal => a * b) ?_ ?_
  · blk_point [iblk, V, idx0 _]
  · blk_point [iblk, V, idx1 _]

theorem arr2 (c : Dev nD) : (dats m 0 c).arrAt 2 cfg0.N = gradW (m (c.tc.loc main_arg0)) (m (c.tc.loc main_arg1)) := by
  refine (dats m 0 c).arrAt_eq_of_covers 2 _ (by decide +kernel) fun t hf y => ?_
  blk_simp
  rw [after0_2]
  refine (block_last m c t ((Gen.flush0_2 t).mp hf) _).trans (congrArg _ ?_)
  blk_ext [idx2 t]

theorem arr3 (c : Dev nD) : (dats m 0 c).arrAt 3 cfg0.N = gradB (m (c.tc.loc main_arg0)) (m (c.tc.loc main_arg1)) := by
  refine (dats m 0 c).arrAt_eq_of_covers 3 _ (by decide +kernel) fun t hf y => ?_
  blk_simp
  rw [after0_3, out3_C m c t ((Gen.flush0_3 t).mp hf)]
  unfold gradB
  refine Eq.trans ?_ ((block_last m c t ((Gen.flush0_3 t).mp hf) y).trans (congrArg _ ?_))
  · pointwise [k0_pay3]
  · blk_ext [idx3 t]

end Cert.Proof.DWout

end
-- ==== Proof.DWoutClaim.lean ====
module

public import proofs.«01_k».proof.Defs
public import proofs.«01_k».proof.Proof.Gen.DWoutIdeal.Value
public import proofs.«01_k».proof.Proof.DWoutValue
public import proofs.«01_k».proof.Proof.Gen.DWoutRefIdeal.Run
public import Idealize.ShloMosaic.Lib.Pipeline.ValueKit
public import Idealize.ShloMosaic.Lib.Pipeline.ReadBack

/-!
The value claim of the output weight's gradient (`kernel_dwout`): the kernel's two arrays, computed in `DWoutValue`, are
the ones the reference's host operations compute.
-/

@[expose] public section

set_option maxRecDepth 16384

noncomputable section

namespace Cert.Proof.DWout

open Cert.DWoutIdeal Cert.DWoutIdeal.Gen Idealize.ShloMosaic Idealize.ShloMosaic.TcCoe Idealize.SL.Sem
open Idealize.ShloMosaic.Pipeline (Dat)
open scoped BigOperators

/-- The idealized kernel and the idealized reference, from the same arguments, end with the same two gradients. -/
theorem algebraic : Cert.algebraic_DWoutIdeal_DWoutRefIdeal := by
  intro m g m' g' _ hagree
  refine ⟨fun c => gradW (m (c.tc.loc main_arg0)) (m (c.tc.loc main_arg1)),
    fun c => gradB (m (c.tc.loc main_arg0)) (m (c.tc.loc main_arg1)), ?_, ?_⟩
  · refine (θ_run _ _ _).mono (fun r h c => ?_) (Cert.DWoutIdeal.Value.run_blocks (F := Ideal) m g)
    obtain ⟨h2, h3, h⟩ := h c
    exact ⟨h2.trans (arr2 m c), h3.trans (arr3 m c), h⟩
  · refine (θ_run _ _ _).mono (fun r h c => ?_) (Cert.DWoutRefIdeal.Value.run (F := Ideal) m' g')
    obtain ⟨h2, h3, h⟩ := h c
    obtain ⟨e0, e1⟩ := hagree c
    rw [e0, e1] at h2 h3
    refine ⟨h2.trans ?_, h3.trans ?_, h⟩
    · funext y
      refine Eq.trans ?_ (gradW_comm _ _ _).symm
      pointwise
    · funext y
      refine Eq.trans ?_ (gradW_comm _ _ _).symm
      pointwise

end Cert.Proof.DWout

end
-- ==== Proof.AtInBValue.lean ====
module

public import proofs.«01_k».proof.Defs
public import proofs.«01_k».proof.Proof.Gen.AtInBIdeal.Value
public import Idealize.ShloMosaic.Lib.Pipeline.ValueKit
public import Idealize.ShloMosaic.Lib.Pipeline.ReadBack

/-!
The value of the backward product of the attention's input projection (`kernel_atinb`), over the extended reals: the
gradients of the layer's input, of its shift and of its scale, as functions of the whole arrays.
-/

@[expose] public section

set_option maxRecDepth 16384

noncomputable section

namespace Cert.Proof.AtInB

open Cert.AtInBIdeal Cert.AtInBIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## One grid point

The grid's 64 points are the eight blocks of 1024 tokens, each visited once per block of 1152 columns.  The scratch block
carries the sum over the columns' blocks; at the last of them the three outputs are written. -/

/-- What one point adds to the scratch block: the product over its columns. -/
def term (x0 : Vec Ideal S1024x1152 .bf16) (x1 : Vec Ideal S1x1024x1152 .bf16) : Vec Ideal S1024x1024 .f32 :=
  fun j => ∑ f : Fin 1152, x0 (ix2 (j 0) f) * x1 (ix3 0 (j 1) f)

theorem acc_A (c : Dev nD) (t : Fin cfg0.N) (h : t.val % 8 = 0) :
    (outsAt0 m c t.val t.isLt).2.2.2 = k0_pay2 (k0_pay1 (F := Ideal)) (iblk m c 0 t) (iblk m c 1 t) := by
  rw [Gen.outsAt0_A m c t h (by omega)]
  frame_open
  simp (disch := decide) only [↓ View.readCov_skip, ↓ View.readCov_cons_toLoadRect, ↓ View.readCov_fill]
  frame_out

theorem acc_B (c : Dev nD) (t : Fin cfg0.N) (h : ¬ t.val % 8 = 0) :
    (outsAt0 m c t.val t.isLt).2.2.2 = k0_pay2 (outsAt0 m c (t.val - 1) (Nat.lt_of_le_of_lt (Nat.sub_le _ _) t.isLt)).2.2.2 (iblk m c 0 t) (iblk m c 1 t) := by
  by_cases h1 : t.val % 8 = 7
  · by_cases h2 : t.val % 32 = 7
    · rw [Gen.outsAt0_C m c t h h1 (by omega)]
      frame_open
      simp (disch := decide) only [↓ View.readCov_skip, ↓ View.readCov_cons_toLoadRect, ↓ View.readCov_fill]
      frame_out
      rw [read_unread_whole]
    · rw [Gen.outsAt0_D m c t h h1 (by omega)]
      frame_open
      simp (disch := decide) only [↓ View.readCov_skip, ↓ View.readCov_cons_toLoadRect, ↓ View.readCov_fill]
      frame_out
      rw [read_unread_whole]
  · rw [Gen.outsAt0_B m c t h h1]
    frame_open
    simp (disch := decide) only [↓ View.readCov_skip, ↓ View.readCov_cons_toLoadRect, ↓ View.readCov_fill]
    frame_out
    rw [read_unread_whole]

/-- Between the last blocks of columns the two sums are kept. -/
theorem keep6 (c : Dev nD) (t : Fin cfg0.N) (h : ¬ t.val % 8 = 7) :
    (outsAt0 m c t.val t.isLt).2.1 = (outsAt0 m c (t.val - 1) (Nat.lt_of_le_of_lt (Nat.sub_le _ _) t.isLt)).2.1 := by
  by_cases h0 : t.val % 8 = 0
  · rw [Gen.outsAt0_A m c t h0 h]
    frame_open
    rfl
  · rw [Gen.outsAt0_B m c t h0 h]
    frame_open
    rfl

theorem keep7 (c : Dev nD) (t : Fin cfg0.N) (h : ¬ t.val % 8 = 7) :
    (outsAt0 m c t.val t.isLt).2.2.1 = (outsAt0 m c (t.val - 1) (Nat.lt_of_le_of_lt (Nat.sub_le _ _) t.isLt)).2.2.1 := by
  by_cases h0 : t.val % 8 = 0
  · rw [Gen.outsAt0_A m c t h0 h]
    frame_open
    rfl
  · rw [Gen.outsAt0_B m c t h0 h]
    frame_open
    rfl

theorem out5 (c : Dev nD) (t : Fin cfg0.N) (h : t.val % 8 = 7) :
    (outsAt0 m c t.val t.isLt).1 = k0_pay5 (outsAt0 m c t.val t.isLt).2.2.2 (iblk m c 4 t) (iblk m c 3 t) := by
  rw [acc_B m c t (by omega)]
  by_cases h2 : t.val % 32 = 7
  · rw [Gen.outsAt0_C m c t (by omega) h (by omega)]
    frame_open
    simp (disch := decide) only [↓ View.readCov_skip, ↓ View.readCov_cons_toLoadRect, ↓ View.readCov_fill]
    frame_out
    rw [read_unread_whole]
  · rw [Gen.outsAt0_D m c t (by omega) h (by omega)]
    frame_open
    simp (disch := decide) only [↓ View.readCov_skip, ↓ View.readCov_cons_toLoadRect, ↓ View.readCov_fill]
    frame_out
    rw [read_unread_whole]

theorem out6_C (c : Dev nD) (t : Fin cfg0.N) (h : t.val % 32 = 7) :
    (outsAt0 m c t.val t.isLt).2.1 = k0_pay3 (k0_pay8 (outsAt0 m c t.val t.isLt).2.2.2 (k0_pay6 (F := Ideal))) := by
  rw [acc_B m c t (by omega)]
  rw [Gen.outsAt0_C m c t (by omega) (by omega) (by omega)]
  frame_open
  simp (disch := decide) only [↓ View.readCov_skip, ↓ View.readCov_cons_toLoadRect, ↓ View.readCov_fill]
  frame_out
  rw [read_unread_whole]

theorem out6_D (c : Dev nD) (t : Fin cfg0.N) (h : t.val % 8 = 7) (h2 : ¬ t.val % 32 = 7) :
    (outsAt0 m c t.val t.isLt).2.1 = k0_pay3 (k0_pay8 (outsAt0 m c t.val t.isLt).2.2.2 (outsAt0 m c (t.val - 1) (Nat.lt_of_le_of_lt (Nat.sub_le _ _) t.isLt)).2.1) := by
  rw [acc_B m c t (by omega)]
  rw [Gen.outsAt0_D m c t (by omega) h (by omega)]
  frame_open
  simp (disch := decide) only [↓ View.readCov_skip, ↓ View.readCov_cons_toLoadRect, ↓ View.readCov_fill]
  frame_out
  rw [read_unread_whole]

theorem out7_C (c : Dev nD) (t : Fin cfg0.N) (h : t.val % 32 = 7) :
    (outsAt0 m c t.val t.isLt).2.2.1 = k0_pay4 (outsAt0 m c t.val t.isLt).2.2.2 (iblk m c 2 t) (k0_pay7 (F := Ideal)) := by
  rw [acc_B m c t (by omega)]
  rw [Gen.outsAt0_C m c t (by omega) (by omega) (by omega)]
  frame_open
  simp (disch := decide) only [↓ View.readCov_skip, ↓ View.readCov_cons_toLoadRect, ↓ View.readCov_fill]
  frame_out
  rw [read_unread_whole]

theorem out7_D (c : Dev nD) (t : Fin cfg0.N) (h : t.val % 8 = 7) (h2 : ¬ t.val % 32 = 7) :
    (outsAt0 m c t.val t.isLt).2.2.1 = k0_pay4 (outsAt0 m c t.val t.isLt).2.2.2 (iblk m c 2 t) (outsAt0 m c (t.val - 1) (Nat.lt_of_le_of_lt (Nat.sub_le _ _) t.isLt)).2.2.1 := by
  rw [acc_B m c t (by omega)]
  rw [Gen.outsAt0_D m c t (by omega) h (by omega)]
  frame_open
  simp (disch := decide) only [↓ View.readCov_skip, ↓ View.readCov_cons_toLoadRect, ↓ View.readCov_fill]
  frame_out
  rw [read_unread_whole]

theorem step_A (c : Dev nD) (t : Fin cfg0.N) (h : t.val % 8 = 0) (j : S1024x1024.Idx) :
    (outsAt0 m c t.val t.isLt).2.2.2 j = 0 + term (iblk m c 0 t) (iblk m c 1 t) j := by
  rw [acc_A m c t h]
  generalize iblk m c 0 t = x0
  generalize iblk m c 1 t = x1
  pointwise [k0_pay2, k0_pay1, term]

theorem step_B (c : Dev nD) (t : Fin cfg0.N) (h : ¬ t.val % 8 = 0) (j : S1024x1024.Idx) :
    (outsAt0 m c t.val t.isLt).2.2.2 j = (outsAt0 m c (t.val - 1) (Nat.lt_of_le_of_lt (Nat.sub_le _ _) t.isLt)).2.2.2 j + term (iblk m c 0 t) (iblk m c 1 t) j := by
  rw [acc_B m c t h]
  generalize iblk m c 0 t = x0
  generalize iblk m c 1 t = x1
  generalize (outsAt0 m c (t.val - 1) (Nat.lt_of_le_of_lt (Nat.sub_le _ _) t.isLt)).2.2.2 = o
  pointwise [k0_pay2, term]

/-! ## The whole arrays -/

/-- Column `f` of block `q`. -/
theorem col_lt (q : Fin 8) (f : Fin 1152) : q.val * 1152 + f.val < 9216 := by omega

/-- The gradient of the modulated input: the product over all columns. -/
def grad (a0 : Vec Ideal S8192x9216 .bf16) (a1 : Vec Ideal S8x1024x1152 .bf16) : Vec Ideal S8192x1024 .f32 :=
  fun i => ∑ q : Fin 8, ∑ f : Fin 1152, a0 (ix2 (i 0) ⟨q.val * 1152 + f.val, col_lt q f⟩) * a1 (ix3 q (i 1) f)

theorem idx0 : ∀ t : Fin grid0.N, win0_0.index t = ![t.val / 8, t.val % 8] := by decide +kernel
theorem idx1 : ∀ t : Fin grid0.N, win0_1.index t = ![t.val % 8, 0, 0] := by decide +kernel
theorem idx2 : ∀ t : Fin grid0.N, win0_2.index t = ![t.val / 8, 0] := by decide +kernel
theorem idx3 : ∀ t : Fin grid0.N, win0_3.index t = ![t.val / 32, 0, 0] := by decide +kernel
theorem idx4 : ∀ t : Fin grid0.N, win0_4.index t = ![t.val / 8, 0] := by decide +kernel
theorem idx5 : ∀ t : Fin grid0.N, win0_5.index t = ![t.val / 8, 0] := by decide +kernel
theorem idx6 : ∀ t : Fin grid0.N, win0_6.index t = ![t.val / 32, 0, 0] := by decide +kernel
theorem idx7 : ∀ t : Fin grid0.N, win0_7.index t = ![t.val / 32, 0, 0] := by decide +kernel

/-- Row `r` of the block of point `t` is a token. -/
theorem tok_lt (t : Fin grid0.N) (r : Fin 1024) : t.val / 8 * 1024 + r.val < 8192 := by
  have h : t.val < 64 := t.isLt
  omega

/-- At the last block of columns the scratch block is that block of `grad`. -/
theorem acc_last (c : Dev nD) (t : Fin cfg0.N) (h : t.val % 8 = 7) (y : S1024x1024.Idx) :
    (outsAt0 m c t.val t.isLt).2.2.2 y
      = grad (m (c.tc.loc main_arg0)) (m (c.tc.loc main_arg1)) (ix2 ⟨t.val / 8 * 1024 + (y 0).val, tok_lt t (y 0)⟩ (y 1)) := by
  rw [Pipeline.eq_sum_fin_of_reset_step_apply_of_flush (fun n h => (outsAt0 m c n h).2.2.2) 8 (fun _ => 0)
    (fun t j => term (iblk m c 0 t) (iblk m c 1 t) j) (step_A m c) (step_B m c) t h]
  unfold grad term
  rw [zero_add]
  have ht : t.val < 64 := t.isLt
  refine Finset.sum_congr rfl fun s _ => Finset.sum_congr rfl fun f _ => ?_
  refine congrArg₂ (fun a b : EReal => a * b) ?_ ?_
  · blk_point [iblk, V, idx0 _]
  · blk_point [iblk, V, idx1 _]

/-- The gradient of the layer's input. -/
def gradX (a0 : Vec Ideal S8192x9216 .bf16) (a1 : Vec Ideal S8x1024x1152 .bf16) (a3 : Vec Ideal S2x3x1024 .f32)
    (a4 : Vec Ideal S8192x1024 .f32) : Vec Ideal S8192x1024 .f32 :=
  fun i => a4 i + grad a0 a1 i * (1 + a3 (ix3 ⟨(i 0).val / 4096, by have h : (i 0).val < 8192 := (i 0).isLt; omega⟩ 1 (i 1)))

/-- The gradient of the shift: `grad` summed over an example's tokens. -/
def gradShift (a0 : Vec Ideal S8192x9216 .bf16) (a1 : Vec Ideal S8x1024x1152 .bf16) : Vec Ideal S2x1x1024 .f32 :=
  fun j => ∑ r : Fin 4096, grad a0 a1 (ix2 ⟨(j 0).val * 4096 + r.val, by have h : (j 0).val < 2 := (j 0).isLt; omega⟩ (j 2))

/-- The gradient of the scale: `grad` times the input, summed over an example's tokens. -/
def gradScale (a0 : Vec Ideal S8192x9216 .bf16) (a1 : Vec Ideal S8x1024x1152 .bf16) (a2 : Vec Ideal S8192x1024 .f32) :
    Vec Ideal S2x1x1024 .f32 :=
  fun j => ∑ r : Fin 4096, grad a0 a1 (ix2 ⟨(j 0).val * 4096 + r.val, by have h : (j 0).val < 2 := (j 0).isLt; omega⟩ (j 2))
    * a2 (ix2 ⟨(j 0).val * 4096 + r.val, by have h : (j 0).val < 2 := (j 0).isLt; omega⟩ (j 2))

theorem gradScale_comm (a0 : Vec Ideal S8192x9216 .bf16) (a1 : Vec Ideal S8x1024x1152 .bf16) (a2 : Vec Ideal S8192x1024 .f32)
    (j : S2x1x1024.Idx) : gradScale a0 a1 a2 j
      = ∑ r : Fin 4096, a2 (ix2 ⟨(j 0).val * 4096 + r.val, by have h : (j 0).val < 2 := (j 0).isLt; omega⟩ (j 2))
        * grad a0 a1 (ix2 ⟨(j 0).val * 4096 + r.val, by have h : (j 0).val < 2 := (j 0).isLt; omega⟩ (j 2)) :=
  Finset.sum_congr rfl fun _ _ => mul_comm _ _

theorem pay5_apply (a d : Vec Ideal S1024x1024 .f32) (md : Vec Ideal S1x3x1024 .f32) (y : S1024x1024.Idx) :
    k0_pay5 a d md y = d y + a y * (1 + md (ix3 0 1 (y 1))) := by
  pointwise [k0_pay5]

theorem arr5 (c : Dev nD) : (dats m 0 c).arrAt 5 cfg0.N
    = gradX (m (c.tc.loc main_arg0)) (m (c.tc.loc main_arg1)) (m (c.tc.loc main_arg3)) (m (c.tc.loc main_arg4)) := by
  refine (dats m 0 c).arrAt_eq_of_covers 5 _ (by decide +kernel) fun t hf y => ?_
  blk_simp
  have hl := (Gen.flush0_5 t).mp hf
  rw [after0_5, out5 m c t hl, pay5_apply, acc_last m c t hl]
  unfold gradX
  have ht : t.val < 64 := t.isLt
  blk_point [iblk, V, idx3 t, idx4 t, idx5 t]

/-! ## The sums over an example's tokens -/

/-- Point of the last block of columns of token block `n`. -/
theorem last_lt (n : ℕ) (h : n < 8) : 8 * n + 7 < cfg0.N := by
  show 8 * n + 7 < 64
  omega

/-- The point of the last block of columns of token block `t`. -/
abbrev lastPt (t : Fin 8) : Fin cfg0.N := ⟨8 * t.val + 7, last_lt t.val t.isLt⟩

theorem keep6_last (c : Dev nD) (n : ℕ) (h : n + 1 < 8) (k : ℕ) (hk : k ≤ 7) :
    (outsAt0 m c (8 * n + 7 + k) (by have := last_lt (n + 1) h; omega)).2.1 = (outsAt0 m c (8 * n + 7) (last_lt n (by omega))).2.1 := by
  induction k with
  | zero => rfl
  | succ k ih => exact (keep6 m c ⟨8 * n + 7 + (k + 1), by have := last_lt (n + 1) h; omega⟩ (by dsimp only; omega)).trans (ih (by omega))

theorem keep7_last (c : Dev nD) (n : ℕ) (h : n + 1 < 8) (k : ℕ) (hk : k ≤ 7) :
    (outsAt0 m c (8 * n + 7 + k) (by have := last_lt (n + 1) h; omega)).2.2.1 = (outsAt0 m c (8 * n + 7) (last_lt n (by omega))).2.2.1 := by
  induction k with
  | zero => rfl
  | succ k ih => exact (keep7 m c ⟨8 * n + 7 + (k + 1), by have := last_lt (n + 1) h; omega⟩ (by dsimp only; omega)).trans (ih (by omega))

/-- Just before the last point of a token block, the sums are those of the token block before. -/
theorem before6 (c : Dev nD) (t : Fin 8) (h : ¬ t.val % 4 = 0) :
    (outsAt0 m c ((lastPt t).val - 1) (Nat.lt_of_le_of_lt (Nat.sub_le _ _) (lastPt t).isLt)).2.1
      = (outsAt0 m c (8 * (t.val - 1) + 7) (last_lt _ (by omega))).2.1 := by
  have h1 : t.val - 1 + 1 = t.val := by omega
  have e : (lastPt t).val - 1 = 8 * (t.val - 1) + 7 + 7 := by
    show 8 * t.val + 7 - 1 = _
    omega
  simp only [e]
  exact keep6_last m c (t.val - 1) (by omega) 7 (le_refl _)

theorem before7 (c : Dev nD) (t : Fin 8) (h : ¬ t.val % 4 = 0) :
    (outsAt0 m c ((lastPt t).val - 1) (Nat.lt_of_le_of_lt (Nat.sub_le _ _) (lastPt t).isLt)).2.2.1
      = (outsAt0 m c (8 * (t.val - 1) + 7) (last_lt _ (by omega))).2.2.1 := by
  have h1 : t.val - 1 + 1 = t.val := by omega
  have e : (lastPt t).val - 1 = 8 * (t.val - 1) + 7 + 7 := by
    show 8 * t.val + 7 - 1 = _
    omega
  simp only [e]
  exact keep7_last m c (t.val - 1) (by omega) 7 (le_refl _)

/-- What a token block adds to the shift's gradient. -/
def shiftTerm (a : Vec Ideal S1024x1024 .f32) : Vec Ideal S1x1x1024 .f32 := fun j => ∑ r : Fin 1024, a (ix2 r (j 2))

/-- What a token block adds to the scale's gradient. -/
def scaleTerm (a x : Vec Ideal S1024x1024 .f32) : Vec Ideal S1x1x1024 .f32 :=
  fun j => ∑ r : Fin 1024, a (ix2 r (j 2)) * x (ix2 r (j 2))

theorem step6_A (c : Dev nD) (t : Fin 8) (h : t.val % 4 = 0) (j : S1x1x1024.Idx) :
    (outsAt0 m c (8 * t.val + 7) (last_lt t.val t.isLt)).2.1 j = 0 + shiftTerm (outsAt0 m c (lastPt t).val (lastPt t).isLt).2.2.2 j := by
  refine (congrFun (out6_C m c (lastPt t) (by dsimp only; omega)) j).trans ?_
  generalize (outsAt0 m c (lastPt t).val (lastPt t).isLt).2.2.2 = d
  pointwise [k0_pay3, k0_pay8, k0_pay6, shiftTerm]

theorem step6_B (c : Dev nD) (t : Fin 8) (h : ¬ t.val % 4 = 0) (j : S1x1x1024.Idx) :
    (outsAt0 m c (8 * t.val + 7) (last_lt t.val t.isLt)).2.1 j
      = (outsAt0 m c (8 * (t.val - 1) + 7) (last_lt _ (Nat.lt_of_le_of_lt (Nat.sub_le _ _) t.isLt))).2.1 j
        + shiftTerm (outsAt0 m c (lastPt t).val (lastPt t).isLt).2.2.2 j := by
  refine (congrFun (out6_D m c (lastPt t) (by dsimp only; omega) (by dsimp only; omega)) j).trans ?_
  rw [before6 m c t h]
  generalize (outsAt0 m c (lastPt t).val (lastPt t).isLt).2.2.2 = d
  generalize (outsAt0 m c (8 * (t.val - 1) + 7) (last_lt _ (Nat.lt_of_le_of_lt (Nat.sub_le _ _) t.isLt))).2.1 = o
  pointwise [k0_pay3, k0_pay8, shiftTerm]

theorem step7_A (c : Dev nD) (t : Fin 8) (h : t.val % 4 = 0) (j : S1x1x1024.Idx) :
    (outsAt0 m c (8 * t.val + 7) (last_lt t.val t.isLt)).2.2.1 j
      = 0 + scaleTerm (outsAt0 m c (lastPt t).val (lastPt t).isLt).2.2.2 (iblk m c 2 (lastPt t)) j := by
  refine (congrFun (out7_C m c (lastPt t) (by dsimp only; omega)) j).trans ?_
  generalize (outsAt0 m c (lastPt t).val (lastPt t).isLt).2.2.2 = d
  generalize iblk m c 2 (lastPt t) = x
  pointwise [k0_pay4, k0_pay7, scaleTerm]

theorem step7_B (c : Dev nD) (t : Fin 8) (h : ¬ t.val % 4 = 0) (j : S1x1x1024.Idx) :
    (outsAt0 m c (8 * t.val + 7) (last_lt t.val t.isLt)).2.2.1 j
      = (outsAt0 m c (8 * (t.val - 1) + 7) (last_lt _ (Nat.lt_of_le_of_lt (Nat.sub_le _ _) t.isLt))).2.2.1 j
        + scaleTerm (outsAt0 m c (lastPt t).val (lastPt t).isLt).2.2.2 (iblk m c 2 (lastPt t)) j := by
  refine (congrFun (out7_D m c (lastPt t) (by dsimp only; omega) (by dsimp only; omega)) j).trans ?_
  rw [before7 m c t h]
  generalize (outsAt0 m c (lastPt t).val (lastPt t).isLt).2.2.2 = d
  generalize iblk m c 2 (lastPt t) = x
  generalize (outsAt0 m c (8 * (t.val - 1) + 7) (last_lt _ (Nat.lt_of_le_of_lt (Nat.sub_le _ _) t.isLt))).2.2.1 = o
  pointwise [k0_pay4, scaleTerm]

/-- Row `r` of token block `t` is a token. -/
theorem row_lt (t : Fin 8) (r : Fin 1024) : t.val * 1024 + r.val < 8192 := by omega

theorem acc_row (c : Dev nD) (t : Fin 8) (r k : Fin 1024) :
    (outsAt0 m c (lastPt t).val (lastPt t).isLt).2.2.2 (ix2 r k)
      = grad (m (c.tc.loc main_arg0)) (m (c.tc.loc main_arg1)) (ix2 ⟨t.val * 1024 + r.val, row_lt t r⟩ k) := by
  refine (acc_last m c (lastPt t) (by dsimp only; omega) _).trans (congrArg _ ?_)
  have e : (lastPt t).val / 8 = t.val := by dsimp only; omega
  simp only [e]
  rfl

theorem x_row (c : Dev nD) (t : Fin 8) (r k : Fin 1024) :
    (iblk m c 2 (lastPt t) : Vec Ideal S1024x1024 .f32) (ix2 r k)
      = (m (c.tc.loc main_arg2) : Vec Ideal S8192x1024 .f32) (ix2 ⟨t.val * 1024 + r.val, row_lt t r⟩ k) := by
  have e : (lastPt t).val / 8 = t.val := by dsimp only; omega
  blk_point [iblk, V, idx2 (lastPt t), e]

/-- At an example's last token block the shift's sum is complete. -/
theorem shift_last (c : Dev nD) (t : Fin 8) (h : t.val % 4 = 3) (y : S1x1x1024.Idx) :
    (outsAt0 m c (lastPt t).val (lastPt t).isLt).2.1 y
      = gradShift (m (c.tc.loc main_arg0)) (m (c.tc.loc main_arg1)) (ix3 ⟨t.val / 4, by omega⟩ 0 (y 2)) := by
  refine (Pipeline.eq_sum_fin_of_reset_step_apply_of_flush
    (fun n h => (outsAt0 m c (8 * n + 7) (last_lt n h)).2.1) 4 (fun _ => 0)
    (fun t j => shiftTerm (outsAt0 m c (lastPt t).val (lastPt t).isLt).2.2.2 j) (step6_A m c) (step6_B m c) t h y).trans ?_
  unfold gradShift shiftTerm
  rw [zero_add]
  refine Fin.sum_mul_add_congr fun s k hl => ?_
  refine (acc_row m c _ _ _).trans (congrArg _ ?_)
  refine congrArg (fun r : Fin 8192 => ix2 r (y 2)) (Fin.ext ?_)
  show (4 * (t.val / 4) + s.val) * 1024 + k.val = t.val / 4 * 4096 + (s.val * 1024 + k.val)
  omega

/-- At an example's last token block the scale's sum is complete. -/
theorem scale_last (c : Dev nD) (t : Fin 8) (h : t.val % 4 = 3) (y : S1x1x1024.Idx) :
    (outsAt0 m c (lastPt t).val (lastPt t).isLt).2.2.1 y
      = gradScale (m (c.tc.loc main_arg0)) (m (c.tc.loc main_arg1)) (m (c.tc.loc main_arg2)) (ix3 ⟨t.val / 4, by omega⟩ 0 (y 2)) := by
  refine (Pipeline.eq_sum_fin_of_reset_step_apply_of_flush
    (fun n h => (outsAt0 m c (8 * n + 7) (last_lt n h)).2.2.1) 4 (fun _ => 0)
    (fun t j => scaleTerm (outsAt0 m c (lastPt t).val (lastPt t).isLt).2.2.2 (iblk m c 2 (lastPt t)) j) (step7_A m c) (step7_B m c) t h y).trans ?_
  unfold gradScale scaleTerm
  rw [zero_add]
  refine Fin.sum_mul_add_congr fun s k hl => ?_
  have e : ∀ p q, (⟨(4 * (t.val / 4) + s.val) * 1024 + k.val, p⟩ : Fin 8192) = ⟨t.val / 4 * 4096 + (s.val * 1024 + k.val), q⟩ := by
    intro p q
    refine Fin.ext ?_
    show (4 * (t.val / 4) + s.val) * 1024 + k.val = t.val / 4 * 4096 + (s.val * 1024 + k.val)
    omega
  refine congrArg₂ (fun a b : EReal => a * b) ((acc_row m c _ _ _).trans (congrArg _ ?_)) ((x_row m c _ _ _).trans (congrArg _ ?_))
  · exact congrArg (fun r : Fin 8192 => ix2 r (y 2)) (e _ _)
  · exact congrArg (fun r : Fin 8192 => ix2 r (y 2)) (e _ _)

/-- A point that writes the sums back is the last of its example's last token block. -/
theorem flush_pt (t : Fin cfg0.N) (h : t.val % 32 = 31) : t = lastPt ⟨t.val / 8, by have h : t.val < 64 := t.isLt; omega⟩ := by
  refine Fin.ext ?_
  show t.val = 8 * (t.val / 8) + 7
  omega

theorem arr6 (c : Dev nD) : (dats m 0 c).arrAt 6 cfg0.N
    = gradShift (m (c.tc.loc main_arg0)) (m (c.tc.loc main_arg1)) := by
  refine (dats m 0 c).arrAt_eq_of_covers 6 _ (by decide +kernel) fun t hf y => ?_
  blk_simp
  rw [after0_6]
  have hl := (Gen.flush0_6 t).mp hf
  have ht : t.val < 64 := t.isLt
  have hp := flush_pt t hl
  refine (congrArg (fun q : Fin cfg0.N => (outsAt0 m c q.val q.isLt).2.1 y) hp).trans ?_
  refine (shift_last m c ⟨t.val / 8, by omega⟩ (by dsimp only; omega) y).trans (congrArg _ ?_)
  blk_ext [idx6 t]

theorem arr7 (c : Dev nD) : (dats m 0 c).arrAt 7 cfg0.N
    = gradScale (m (c.tc.loc main_arg0)) (m (c.tc.loc main_arg1)) (m (c.tc.loc main_arg2)) := by
  refine (dats m 0 c).arrAt_eq_of_covers 7 _ (by decide +kernel) fun t hf y => ?_
  blk_simp
  rw [after0_7]
  have hl := (Gen.flush0_7 t).mp hf
  have ht : t.val < 64 := t.isLt
  have hp := flush_pt t hl
  refine (congrArg (fun q : Fin cfg0.N => (outsAt0 m c q.val q.isLt).2.2.1 y) hp).trans ?_
  refine (scale_last m c ⟨t.val / 8, by omega⟩ (by dsimp only; omega) y).trans (congrArg _ ?_)
  blk_ext [idx7 t]

end Cert.Proof.AtInB

end
-- ==== Proof.AtInBClaim.lean ====
module

public import proofs.«01_k».proof.Defs
public import proofs.«01_k».proof.Proof.Gen.AtInBIdeal.Value
public import proofs.«01_k».proof.Proof.AtInBValue
public import proofs.«01_k».proof.Proof.Gen.AtInBRefIdeal.Run
public import Idealize.ShloMosaic.Lib.Pipeline.ValueKit
public import Idealize.ShloMosaic.Lib.Pipeline.ReadBack

/-!
The value claim of the backward product of the attention's input projection (`kernel_atinb`): the kernel's three arrays,
computed in `AtInBValue`, are the ones the reference's host operations compute.
-/

@[expose] public section

set_option maxRecDepth 16384

noncomputable section

namespace Cert.Proof.AtInB

open Cert.AtInBIdeal Cert.AtInBIdeal.Gen Idealize.ShloMosaic Idealize.ShloMosaic.TcCoe Idealize.SL.Sem
open Idealize.ShloMosaic.Pipeline (Dat)
open scoped BigOperators

/-- The reference's sum over an example's tokens of two arrays' product. -/
theorem scale_apply (x d : Vec Ideal AtInBRefIdeal.S8192x1024 .f32) (e : Fin 2) (o : Fin 1) (k : Fin 1024) :
    shapeCast AtInBRefIdeal.S2x1x1024 (Host.reduceAdd (F := Ideal) (mulf (F := Ideal) (shapeCast AtInBRefIdeal.S2x4096x1024 x AtInBRefIdeal.Gen.shapeCasts_S8192x1024_S2x4096x1024)
      (shapeCast AtInBRefIdeal.S2x4096x1024 d AtInBRefIdeal.Gen.shapeCasts_S8192x1024_S2x4096x1024)) (constant (F := Ideal) AtInBRefIdeal.S_ FTy.f32 0#32)
      AtInBRefIdeal.Gen.reducesTo_S2x4096x1024_S2x1024_d1 AtInBRefIdeal.Gen.h_S_) AtInBRefIdeal.Gen.shapeCasts_S2x1024_S2x1x1024 (ix3 e o k)
    = ∑ r : Fin 4096, x (ix2 ⟨e.val * 4096 + r.val, by omega⟩ k) * d (ix2 ⟨e.val * 4096 + r.val, by omega⟩ k) := by
  pointwise

/-- The idealized kernel and the idealized reference, from the same arguments, end with the same three gradients. -/
theorem algebraic : Cert.algebraic_AtInBIdeal_AtInBRefIdeal := by
  intro m g m' g' _ hagree
  refine ⟨fun c => gradX (m (c.tc.loc main_arg0)) (m (c.tc.loc main_arg1)) (m (c.tc.loc main_arg3)) (m (c.tc.loc main_arg4)),
    fun c => gradShift (m (c.tc.loc main_arg0)) (m (c.tc.loc main_arg1)),
    fun c => gradScale (m (c.tc.loc main_arg0)) (m (c.tc.loc main_arg1)) (m (c.tc.loc main_arg2)), ?_, ?_⟩
  · refine (θ_run _ _ _).mono (fun r h c => ?_) (Cert.AtInBIdeal.Value.run_blocks (F := Ideal) m g)
    obtain ⟨h5, h6, h7, h⟩ := h c
    exact ⟨h5.trans (arr5 m c), h6.trans (arr6 m c), h7.trans (arr7 m c), h⟩
  · refine (θ_run _ _ _).mono (fun r h c => ?_) (Cert.AtInBRefIdeal.Value.run (F := Ideal) m' g')
    obtain ⟨h5, h6, h7, h⟩ := h c
    obtain ⟨e0, e1, e2, e3, e4⟩ := hagree c
    rw [e0, e1, e3, e4] at h5
    rw [e0, e1] at h6
    rw [e0, e1, e2] at h7
    refine ⟨h5.trans ?_, h6.trans ?_, h7.trans ?_, h⟩
    · funext y
      unfold gradX grad
      pointwise
    · funext y
      unfold gradShift grad
      pointwise
    · funext y
      idx_vars y
      refine (scale_apply _ _ _ _ _).trans ((Finset.sum_congr rfl fun r _ => ?_).trans (gradScale_comm _ _ _ _).symm)
      refine congrArg₂ (fun a b : EReal => a * b) rfl ?_
      unfold grad
      pointwise

end Cert.Proof.AtInB

end
-- ==== Proof.MlInBValue.lean ====
module

public import proofs.«01_k».proof.Defs
public import proofs.«01_k».proof.Proof.Gen.MlInBIdeal.Value
public import Idealize.ShloMosaic.Lib.Pipeline.ValueKit
public import Idealize.ShloMosaic.Lib.Pipeline.ReadBack

/-!
The value of the backward product of the mLSTM's input projection (`kernel_mlinb`), over the extended reals: the
gradients of the layer's input, of its shift and of its scale, as functions of the whole arrays.
-/

@[expose] public section

set_option maxRecDepth 16384

noncomputable section

namespace Cert.Proof.MlInB

open Cert.MlInBIdeal Cert.MlInBIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-! ## One grid point

The grid's 40 points are the eight blocks of 1024 tokens, each visited once per block of 640 columns.  The scratch block
carries the sum over the columns' blocks; at the last of them the three outputs are written. -/

/-- What one point adds to the scratch block: the product over its columns. -/
def term (x0 : Vec Ideal S1024x640 .bf16) (x1 : Vec Ideal S1024x640 .bf16) : Vec Ideal S1024x1024 .f32 :=
  fun j => ∑ f : Fin 640, x0 (ix2 (j 0) f) * x1 (ix2 (j 1) f)

theorem acc_A (c : Dev nD) (t : Fin cfg0.N) (h : t.val % 5 = 0) :
    (outsAt0 m c t.val t.isLt).2.2.2 = k0_pay2 (k0_pay1 (F := Ideal)) (iblk m c 0 t) (iblk m c 1 t) := by
  rw [Gen.outsAt0_A m c t h (by omega)]
  frame_open
  simp (disch := decide) only [↓ View.readCov_skip, ↓ View.readCov_cons_toLoadRect, ↓ View.readCov_fill]
  frame_out

theorem acc_B (c : Dev nD) (t : Fin cfg0.N) (h : ¬ t.val % 5 = 0) :
    (outsAt0 m c t.val t.isLt).2.2.2 = k0_pay2 (outsAt0 m c (t.val - 1) (Nat.lt_of_le_of_lt (Nat.sub_le _ _) t.isLt)).2.2.2 (iblk m c 0 t) (iblk m c 1 t) := by
  by_cases h1 : t.val % 5 = 4
  · by_cases h2 : t.val % 20 = 4
    · rw [Gen.outsAt0_C m c t h h1 (by omega)]
      frame_open
      simp (disch := decide) only [↓ View.readCov_skip, ↓ View.readCov_cons_toLoadRect, ↓ View.readCov_fill]
      frame_out
      rw [read_unread_whole]
    · rw [Gen.outsAt0_D m c t h h1 (by omega)]
      frame_open
      simp (disch := decide) only [↓ View.readCov_skip, ↓ View.readCov_cons_toLoadRect, ↓ View.readCov_fill]
      frame_out
      rw [read_unread_whole]
  · rw [Gen.outsAt0_B m c t h h1]
    frame_open
    simp (disch := decide) only [↓ View.readCov_skip, ↓ View.readCov_cons_toLoadRect, ↓ View.readCov_fill]
    frame_out
    rw [read_unread_whole]

/-- Between the last blocks of columns the two sums are kept. -/
theorem keep6 (c : Dev nD) (t : Fin cfg0.N) (h : ¬ t.val % 5 = 4) :
    (outsAt0 m c t.val t.isLt).2.1 = (outsAt0 m c (t.val - 1) (Nat.lt_of_le_of_lt (Nat.sub_le _ _) t.isLt)).2.1 := by
  by_cases h0 : t.val % 5 = 0
  · rw [Gen.outsAt0_A m c t h0 h]
    frame_open
    rfl
  · rw [Gen.outsAt0_B m c t h0 h]
    frame_open
    rfl

theorem keep7 (c : Dev nD) (t : Fin cfg0.N) (h : ¬ t.val % 5 = 4) :
    (outsAt0 m c t.val t.isLt).2.2.1 = (outsAt0 m c (t.val - 1) (Nat.lt_of_le_of_lt (Nat.sub_le _ _) t.isLt)).2.2.1 := by
  by_cases h0 : t.val % 5 = 0
  · rw [Gen.outsAt0_A m c t h0 h]
    frame_open
    rfl
  · rw [Gen.outsAt0_B m c t h0 h]
    frame_open
    rfl

theorem out5 (c : Dev nD) (t : Fin cfg0.N) (h : t.val % 5 = 4) :
    (outsAt0 m c t.val t.isLt).1 = k0_pay5 (outsAt0 m c t.val t.isLt).2.2.2 (iblk m c 4 t) (iblk m c 3 t) := by
  rw [acc_B m c t (by omega)]
  by_cases h2 : t.val % 20 = 4
  · rw [Gen.outsAt0_C m c t (by omega) h (by omega)]
    frame_open
    simp (disch := decide) only [↓ View.readCov_skip, ↓ View.readCov_cons_toLoadRect, ↓ View.readCov_fill]
    frame_out
    rw [read_unread_whole]
  · rw [Gen.outsAt0_D m c t (by omega) h (by omega)]
    frame_open
    simp (disch := decide) only [↓ View.readCov_skip, ↓ View.readCov_cons_toLoadRect, ↓ View.readCov_fill]
    frame_out
    rw [read_unread_whole]

theorem out6_C (c : Dev nD) (t : Fin cfg0.N) (h : t.val % 20 = 4) :
    (outsAt0 m c t.val t.isLt).2.1 = k0_pay3 (k0_pay8 (outsAt0 m c t.val t.isLt).2.2.2 (k0_pay6 (F := Ideal))) := by
  rw [acc_B m c t (by omega)]
  rw [Gen.outsAt0_C m c t (by omega) (by omega) (by omega)]
  frame_open
  simp (disch := decide) only [↓ View.readCov_skip, ↓ View.readCov_cons_toLoadRect, ↓ View.readCov_fill]
  frame_out
  rw [read_unread_whole]

theorem out6_D (c : Dev nD) (t : Fin cfg0.N) (h : t.val % 5 = 4) (h2 : ¬ t.val % 20 = 4) :
    (outsAt0 m c t.val t.isLt).2.1 = k0_pay3 (k0_pay8 (outsAt0 m c t.val t.isLt).2.2.2 (outsAt0 m c (t.val - 1) (Nat.lt_of_le_of_lt (Nat.sub_le _ _) t.isLt)).2.1) := by
  rw [acc_B m c t (by omega)]
  rw [Gen.outsAt0_D m c t (by omega) h (by omega)]
  frame_open
  simp (disch := decide) only [↓ View.readCov_skip, ↓ View.readCov_cons_toLoadRect, ↓ View.readCov_fill]
  frame_out
  rw [read_unread_whole]

theorem out7_C (c : Dev nD) (t : Fin cfg0.N) (h : t.val % 20 = 4) :
    (outsAt0 m c t.val t.isLt).2.2.1 = k0_pay4 (outsAt0 m c t.val t.isLt).2.2.2 (iblk m c 2 t) (k0_pay7 (F := Ideal)) := by
  rw [acc_B m c t (by omega)]
  rw [Gen.outsAt0_C m c t (by omega) (by omega) (by omega)]
  frame_open
  simp (disch := decide) only [↓ View.readCov_skip, ↓ View.readCov_cons_toLoadRect, ↓ View.readCov_fill]
  frame_out
  rw [read_unread_whole]

theorem out7_D (c : Dev nD) (t : Fin cfg0.N) (h : t.val % 5 = 4) (h2 : ¬ t.val % 20 = 4) :
    (outsAt0 m c t.val t.isLt).2.2.1 = k0_pay4 (outsAt0 m c t.val t.isLt).2.2.2 (iblk m c 2 t) (outsAt0 m c (t.val - 1) (Nat.lt_of_le_of_lt (Nat.sub_le _ _) t.isLt)).2.2.1 := by
  rw [acc_B m c t (by omega)]
  rw [Gen.outsAt0_D m c t (by omega) h (by omega)]
  frame_open
  simp (disch := decide) only [↓ View.readCov_skip, ↓ View.readCov_cons_toLoadRect, ↓ View.readCov_fill]
  frame_out
  rw [read_unread_whole]

theorem step_A (c : Dev nD) (t : Fin cfg0.N) (h : t.val % 5 = 0) (j : S1024x1024.Idx) :
    (outsAt0 m c t.val t.isLt).2.2.2 j = 0 + term (iblk m c 0 t) (iblk m c 1 t) j := by
  rw [acc_A m c t h]
  generalize iblk m c 0 t = x0
  generalize iblk m c 1 t = x1
  pointwise [k0_pay2, k0_pay1, term]

theorem step_B (c : Dev nD) (t : Fin cfg0.N) (h : ¬ t.val % 5 = 0) (j : S1024x1024.Idx) :
    (outsAt0 m c t.val t.isLt).2.2.2 j = (outsAt0 m c (t.val - 1) (Nat.lt_of_le_of_lt (Nat.sub_le _ _) t.isLt)).2.2.2 j + term (iblk m c 0 t) (iblk m c 1 t) j := by
  rw [acc_B m c t h]
  generalize iblk m c 0 t = x0
  generalize iblk m c 1 t = x1
  generalize (outsAt0 m c (t.val - 1) (Nat.lt_of_le_of_lt (Nat.sub_le _ _) t.isLt)).2.2.2 = o
  pointwise [k0_pay2, term]

/-! ## The whole arrays -/

/-- The gradient of the modulated input: the product over all columns. -/
def grad (a0 : Vec Ideal S8192x3200 .bf16) (a1 : Vec Ideal S1024x3200 .bf16) : Vec Ideal S8192x1024 .f32 :=
  fun i => ∑ f : Fin 3200, a0 (ix2 (i 0) f) * a1 (ix2 (i 1) f)

theorem idx0 : ∀ t : Fin grid0.N, win0_0.index t = ![t.val / 5, t.val % 5] := by decide +kernel
theorem idx1 : ∀ t : Fin grid0.N, win0_1.index t = ![0, t.val % 5] := by decide +kernel
theorem idx2 : ∀ t : Fin grid0.N, win0_2.index t = ![t.val / 5, 0] := by decide +kernel
theorem idx3 : ∀ t : Fin grid0.N, win0_3.index t = ![t.val / 20, 0, 0] := by decide +kernel
theorem idx4 : ∀ t : Fin grid0.N, win0_4.index t = ![t.val / 5, 0] := by decide +kernel
theorem idx5 : ∀ t : Fin grid0.N, win0_5.index t = ![t.val / 5, 0] := by decide +kernel
theorem idx6 : ∀ t : Fin grid0.N, win0_6.index t = ![t.val / 20, 0, 0] := by decide +kernel
theorem idx7 : ∀ t : Fin grid0.N, win0_7.index t = ![t.val / 20, 0, 0] := by decide +kernel

/-- Row `r` of the block of point `t` is a token. -/
theorem tok_lt (t : Fin grid0.N) (r : Fin 1024) : t.val / 5 * 1024 + r.val < 8192 := by
  have h : t.val < 40 := t.isLt
  omega

/-- At the last block of columns the scratch block is that block of `grad`. -/
theorem acc_last (c : Dev nD) (t : Fin cfg0.N) (h : t.val % 5 = 4) (y : S1024x1024.Idx) :
    (outsAt0 m c t.val t.isLt).2.2.2 y
      = grad (m (c.tc.loc main_arg0)) (m (c.tc.loc main_arg1)) (ix2 ⟨t.val / 5 * 1024 + (y 0).val, tok_lt t (y 0)⟩ (y 1)) := by
  rw [Pipeline.eq_sum_fin_of_reset_step_apply_of_flush (fun n h => (outsAt0 m c n h).2.2.2) 5 (fun _ => 0)
    (fun t j => term (iblk m c 0 t) (iblk m c 1 t) j) (step_A m c) (step_B m c) t h]
  unfold grad term
  rw [zero_add]
  have ht : t.val < 40 := t.isLt
  refine Fin.sum_mul_add_congr fun s k hl => ?_
  refine congrArg₂ (fun a b : EReal => a * b) ?_ ?_
  · blk_point [iblk, V, idx0 _]
  · blk_point [iblk, V, idx1 _]

/-- The gradient of the layer's input. -/
def gradX (a0 : Vec Ideal S8192x3200 .bf16) (a1 : Vec Ideal S1024x3200 .bf16) (a3 : Vec Ideal S2x3x1024 .f32)
    (a4 : Vec Ideal S8192x1024 .f32) : Vec Ideal S8192x1024 .f32 :=
  fun i => a4 i + grad a0 a1 i * (1 + a3 (ix3 ⟨(i 0).val / 4096, by have h : (i 0).val < 8192 := (i 0).isLt; omega⟩ 1 (i 1)))

/-- The gradient of the shift: `grad` summed over an example's tokens. -/
def gradShift (a0 : Vec Ideal S8192x3200 .bf16) (a1 : Vec Ideal S1024x3200 .bf16) : Vec Ideal S2x1x1024 .f32 :=
  fun j => ∑ r : Fin 4096, grad a0 a1 (ix2 ⟨(j 0).val * 4096 + r.val, by have h : (j 0).val < 2 := (j 0).isLt; omega⟩ (j 2))

/-- The gradient of the scale: `grad` times the input, summed over an example's tokens. -/
def gradScale (a0 : Vec Ideal S8192x3200 .bf16) (a1 : Vec Ideal S1024x3200 .bf16) (a2 : Vec Ideal S8192x1024 .f32) :
    Vec Ideal S2x1x1024 .f32 :=
  fun j => ∑ r : Fin 4096, grad a0 a1 (ix2 ⟨(j 0).val * 4096 + r.val, by have h : (j 0).val < 2 := (j 0).isLt; omega⟩ (j 2))
    * a2 (ix2 ⟨(j 0).val * 4096 + r.val, by have h : (j 0).val < 2 := (j 0).isLt; omega⟩ (j 2))

theorem gradScale_comm (a0 : Vec Ideal S8192x3200 .bf16) (a1 : Vec Ideal S1024x3200 .bf16) (a2 : Vec Ideal S8192x1024 .f32)
    (j : S2x1x1024.Idx) : gradScale a0 a1 a2 j
      = ∑ r : Fin 4096, a2 (ix2 ⟨(j 0).val * 4096 + r.val, by have h : (j 0).val < 2 := (j 0).isLt; omega⟩ (j 2))
        * grad a0 a1 (ix2 ⟨(j 0).val * 4096 + r.val, by have h : (j 0).val < 2 := (j 0).isLt; omega⟩ (j 2)) :=
  Finset.sum_congr rfl fun _ _ => mul_comm _ _

theorem pay5_apply (a d : Vec Ideal S1024x1024 .f32) (md : Vec Ideal S1x3x1024 .f32) (y : S1024x1024.Idx) :
    k0_pay5 a d md y = d y + a y * (1 + md (ix3 0 1 (y 1))) := by
  pointwise [k0_pay5]

theorem arr5 (c : Dev nD) : (dats m 0 c).arrAt 5 cfg0.N
    = gradX (m (c.tc.loc main_arg0)) (m (c.tc.loc main_arg1)) (m (c.tc.loc main_arg3)) (m (c.tc.loc main_arg4)) := by
  refine (dats m 0 c).arrAt_eq_of_covers 5 _ (by decide +kernel) fun t hf y => ?_
  blk_simp
  have hl := (Gen.flush0_5 t).mp hf
  rw [after0_5, out5 m c t hl, pay5_apply, acc_last m c t hl]
  unfold gradX
  have ht : t.val < 40 := t.isLt
  blk_point [iblk, V, idx3 t, idx4 t, idx5 t]

/-! ## The sums over an example's tokens -/

/-- Point of the last block of columns of token block `n`. -/
theorem last_lt (n : ℕ) (h : n < 8) : 5 * n + 4 < cfg0.N := by
  show 5 * n + 4 < 40
  omega

/-- The point of the last block of columns of token block `t`. -/
abbrev lastPt (t : Fin 8) : Fin cfg0.N := ⟨5 * t.val + 4, last_lt t.val t.isLt⟩

theorem keep6_last (c : Dev nD) (n : ℕ) (h : n + 1 < 8) (k : ℕ) (hk : k ≤ 4) :
    (outsAt0 m c (5 * n + 4 + k) (by have := last_lt (n + 1) h; omega)).2.1 = (outsAt0 m c (5 * n + 4) (last_lt n (by omega))).2.1 := by
  induction k with
  | zero => rfl
  | succ k ih => exact (keep6 m c ⟨5 * n + 4 + (k + 1), by have := last_lt (n + 1) h; omega⟩ (by dsimp only; omega)).trans (ih (by omega))

theorem keep7_last (c : Dev nD) (n : ℕ) (h : n + 1 < 8) (k : ℕ) (hk : k ≤ 4) :
    (outsAt0 m c (5 * n + 4 + k) (by have := last_lt (n + 1) h; omega)).2.2.1 = (outsAt0 m c (5 * n + 4) (last_lt n (by omega))).2.2.1 := by
  induction k with
  | zero => rfl
  | succ k ih => exact (keep7 m c ⟨5 * n + 4 + (k + 1), by have := last_lt (n + 1) h; omega⟩ (by dsimp only; omega)).trans (ih (by omega))

/-- Just before the last point of a token block, the sums are those of the token block before. -/
theorem before6 (c : Dev nD) (t : Fin 8) (h : ¬ t.val % 4 = 0) :
    (outsAt0 m c ((lastPt t).val - 1) (Nat.lt_of_le_of_lt (Nat.sub_le _ _) (lastPt t).isLt)).2.1
      = (outsAt0 m c (5 * (t.val - 1) + 4) (last_lt _ (by omega))).2.1 := by
  have h1 : t.val - 1 + 1 = t.val := by omega
  have e : (lastPt t).val - 1 = 5 * (t.val - 1) + 4 + 4 := by
    show 5 * t.val + 4 - 1 = _
    omega
  simp only [e]
  exact keep6_last m c (t.val - 1) (by omega) 4 (le_refl _)

theorem before7 (c : Dev nD) (t : Fin 8) (h : ¬ t.val % 4 = 0) :
    (outsAt0 m c ((lastPt t).val - 1) (Nat.lt_of_le_of_lt (Nat.sub_le _ _) (lastPt t).isLt)).2.2.1
      = (outsAt0 m c (5 * (t.val - 1) + 4) (last_lt _ (by omega))).2.2.1 := by
  have h1 : t.val - 1 + 1 = t.val := by omega
  have e : (lastPt t).val - 1 = 5 * (t.val - 1) + 4 + 4 := by
    show 5 * t.val + 4 - 1 = _
    omega
  simp only [e]
  exact keep7_last m c (t.val - 1) (by omega) 4 (le_refl _)

/-- What a token block adds to the shift's gradient. -/
def shiftTerm (a : Vec Ideal S1024x1024 .f32) : Vec Ideal S1x1x1024 .f32 := fun j => ∑ r : Fin 1024, a (ix2 r (j 2))

/-- What a token block adds to the scale's gradient. -/
def scaleTerm (a x : Vec Ideal S1024x1024 .f32) : Vec Ideal S1x1x1024 .f32 :=
  fun j => ∑ r : Fin 1024, a (ix2 r (j 2)) * x (ix2 r (j 2))

theorem step6_A (c : Dev nD) (t : Fin 8) (h : t.val % 4 = 0) (j : S1x1x1024.Idx) :
    (outsAt0 m c (5 * t.val + 4) (last_lt t.val t.isLt)).2.1 j = 0 + shiftTerm (outsAt0 m c (lastPt t).val (lastPt t).isLt).2.2.2 j := by
  refine (congrFun (out6_C m c (lastPt t) (by dsimp only; omega)) j).trans ?_
  generalize (outsAt0 m c (lastPt t).val (lastPt t).isLt).2.2.2 = d
  pointwise [k0_pay3, k0_pay8, k0_pay6, shiftTerm]

theorem step6_B (c : Dev nD) (t : Fin 8) (h : ¬ t.val % 4 = 0) (j : S1x1x1024.Idx) :
    (outsAt0 m c (5 * t.val + 4) (last_lt t.val t.isLt)).2.1 j
      = (outsAt0 m c (5 * (t.val - 1) + 4) (last_lt _ (Nat.lt_of_le_of_lt (Nat.sub_le _ _) t.isLt))).2.1 j
        + shiftTerm (outsAt0 m c (lastPt t).val (lastPt t).isLt).2.2.2 j := by
  refine (congrFun (out6_D m c (lastPt t) (by dsimp only; omega) (by dsimp only; omega)) j).trans ?_
  rw [before6 m c t h]
  generalize (outsAt0 m c (lastPt t).val (lastPt t).isLt).2.2.2 = d
  generalize (outsAt0 m c (5 * (t.val - 1) + 4) (last_lt _ (Nat.lt_of_le_of_lt (Nat.sub_le _ _) t.isLt))).2.1 = o
  pointwise [k0_pay3, k0_pay8, shiftTerm]

theorem step7_A (c : Dev nD) (t : Fin 8) (h : t.val % 4 = 0) (j : S1x1x1024.Idx) :
    (outsAt0 m c (5 * t.val + 4) (last_lt t.val t.isLt)).2.2.1 j
      = 0 + scaleTerm (outsAt0 m c (lastPt t).val (lastPt t).isLt).2.2.2 (iblk m c 2 (lastPt t)) j := by
  refine (congrFun (out7_C m c (lastPt t) (by dsimp only; omega)) j).trans ?_
  generalize (outsAt0 m c (lastPt t).val (lastPt t).isLt).2.2.2 = d
  generalize iblk m c 2 (lastPt t) = x
  pointwise [k0_pay4, k0_pay7, scaleTerm]

theorem step7_B (c : Dev nD) (t : Fin 8) (h : ¬ t.val % 4 = 0) (j : S1x1x1024.Idx) :
    (outsAt0 m c (5 * t.val + 4) (last_lt t.val t.isLt)).2.2.1 j
      = (outsAt0 m c (5 * (t.val - 1) + 4) (last_lt _ (Nat.lt_of_le_of_lt (Nat.sub_le _ _) t.isLt))).2.2.1 j
        + scaleTerm (outsAt0 m c (lastPt t).val (lastPt t).isLt).2.2.2 (iblk m c 2 (lastPt t)) j := by
  refine (congrFun (out7_D m c (lastPt t) (by dsimp only; omega) (by dsimp only; omega)) j).trans ?_
  rw [before7 m c t h]
  generalize (outsAt0 m c (lastPt t).val (lastPt t).isLt).2.2.2 = d
  generalize iblk m c 2 (lastPt t) = x
  generalize (outsAt0 m c (5 * (t.val - 1) + 4) (last_lt _ (Nat.lt_of_le_of_lt (Nat.sub_le _ _) t.isLt))).2.2.1 = o
  pointwise [k0_pay4, scaleTerm]

/-- Row `r` of token block `t` is a token. -/
theorem row_lt (t : Fin 8) (r : Fin 1024) : t.val * 1024 + r.val < 8192 := by omega

theorem acc_row (c : Dev nD) (t : Fin 8) (r k : Fin 1024) :
    (outsAt0 m c (lastPt t).val (lastPt t).isLt).2.2.2 (ix2 r k)
      = grad (m (c.tc.loc main_arg0)) (m (c.tc.loc main_arg1)) (ix2 ⟨t.val * 1024 + r.val, row_lt t r⟩ k) := by
  refine (acc_last m c (lastPt t) (by dsimp only; omega) _).trans (congrArg _ ?_)
  have e : (lastPt t).val / 5 = t.val := by dsimp only; omega
  simp only [e]
  rfl

theorem x_row (c : Dev nD) (t : Fin 8) (r k : Fin 1024) :
    (iblk m c 2 (lastPt t) : Vec Ideal S1024x1024 .f32) (ix2 r k)
      = (m (c.tc.loc main_arg2) : Vec Ideal S8192x1024 .f32) (ix2 ⟨t.val * 1024 + r.val, row_lt t r⟩ k) := by
  have e : (lastPt t).val / 5 = t.val := by dsimp only; omega
  blk_point [iblk, V, idx2 (lastPt t), e]

/-- At an example's last token block the shift's sum is complete. -/
theorem shift_last (c : Dev nD) (t : Fin 8) (h : t.val % 4 = 3) (y : S1x1x1024.Idx) :
    (outsAt0 m c (lastPt t).val (lastPt t).isLt).2.1 y
      = gradShift (m (c.tc.loc main_arg0)) (m (c.tc.loc main_arg1)) (ix3 ⟨t.val / 4, by omega⟩ 0 (y 2)) := by
  refine (Pipeline.eq_sum_fin_of_reset_step_apply_of_flush
    (fun n h => (outsAt0 m c (5 * n + 4) (last_lt n h)).2.1) 4 (fun _ => 0)
    (fun t j => shiftTerm (outsAt0 m c (lastPt t).val (lastPt t).isLt).2.2.2 j) (step6_A m c) (step6_B m c) t h y).trans ?_
  unfold gradShift shiftTerm
  rw [zero_add]
  refine Fin.sum_mul_add_congr fun s k hl => ?_
  refine (acc_row m c _ _ _).trans (congrArg _ ?_)
  refine congrArg (fun r : Fin 8192 => ix2 r (y 2)) (Fin.ext ?_)
  show (4 * (t.val / 4) + s.val) * 1024 + k.val = t.val / 4 * 4096 + (s.val * 1024 + k.val)
  omega

/-- At an example's last token block the scale's sum is complete. -/
theorem scale_last (c : Dev nD) (t : Fin 8) (h : t.val % 4 = 3) (y : S1x1x1024.Idx) :
    (outsAt0 m c (lastPt t).val (lastPt t).isLt).2.2.1 y
      = gradScale (m (c.tc.loc main_arg0)) (m (c.tc.loc main_arg1)) (m (c.tc.loc main_arg2)) (ix3 ⟨t.val / 4, by omega⟩ 0 (y 2)) := by
  refine (Pipeline.eq_sum_fin_of_reset_step_apply_of_flush
    (fun n h => (outsAt0 m c (5 * n + 4) (last_lt n h)).2.2.1) 4 (fun _ => 0)
    (fun t j => scaleTerm (outsAt0 m c (lastPt t).val (lastPt t).isLt).2.2.2 (iblk m c 2 (lastPt t)) j) (step7_A m c) (step7_B m c) t h y).trans ?_
  unfold gradScale scaleTerm
  rw [zero_add]
  refine Fin.sum_mul_add_congr fun s k hl => ?_
  have e : ∀ p q, (⟨(4 * (t.val / 4) + s.val) * 1024 + k.val, p⟩ : Fin 8192) = ⟨t.val / 4 * 4096 + (s.val * 1024 + k.val), q⟩ := by
    intro p q
    refine Fin.ext ?_
    show (4 * (t.val / 4) + s.val) * 1024 + k.val = t.val / 4 * 4096 + (s.val * 1024 + k.val)
    omega
  refine congrArg₂ (fun a b : EReal => a * b) ((acc_row m c _ _ _).trans (congrArg _ ?_)) ((x_row m c _ _ _).trans (congrArg _ ?_))
  · exact congrArg (fun r : Fin 8192 => ix2 r (y 2)) (e _ _)
  · exact congrArg (fun r : Fin 8192 => ix2 r (y 2)) (e _ _)

/-- A point that writes the sums back is the last of its example's last token block. -/
theorem flush_pt (t : Fin cfg0.N) (h : t.val % 20 = 19) : t = lastPt ⟨t.val / 5, by have h : t.val < 40 := t.isLt; omega⟩ := by
  refine Fin.ext ?_
  show t.val = 5 * (t.val / 5) + 4
  omega

theorem arr6 (c : Dev nD) : (dats m 0 c).arrAt 6 cfg0.N
    = gradShift (m (c.tc.loc main_arg0)) (m (c.tc.loc main_arg1)) := by
  refine (dats m 0 c).arrAt_eq_of_covers 6 _ (by decide +kernel) fun t hf y => ?_
  blk_simp
  rw [after0_6]
  have hl := (Gen.flush0_6 t).mp hf
  have ht : t.val < 40 := t.isLt
  have hp := flush_pt t hl
  refine (congrArg (fun q : Fin cfg0.N => (outsAt0 m c q.val q.isLt).2.1 y) hp).trans ?_
  refine (shift_last m c ⟨t.val / 5, by omega⟩ (by dsimp only; omega) y).trans (congrArg _ ?_)
  blk_ext [idx6 t]

theorem arr7 (c : Dev nD) : (dats m 0 c).arrAt 7 cfg0.N
    = gradScale (m (c.tc.loc main_arg0)) (m (c.tc.loc main_arg1)) (m (c.tc.loc main_arg2)) := by
  refine (dats m 0 c).arrAt_eq_of_covers 7 _ (by decide +kernel) fun t hf y => ?_
  blk_simp
  rw [after0_7]
  have hl := (Gen.flush0_7 t).mp hf
  have ht : t.val < 40 := t.isLt
  have hp := flush_pt t hl
  refine (congrArg (fun q : Fin cfg0.N => (outsAt0 m c q.val q.isLt).2.2.1 y) hp).trans ?_
  refine (scale_last m c ⟨t.val / 5, by omega⟩ (by dsimp only; omega) y).trans (congrArg _ ?_)
  blk_ext [idx7 t]

end Cert.Proof.MlInB

end
-- ==== Proof.MlInBClaim.lean ====
module

public import proofs.«01_k».proof.Defs
public import proofs.«01_k».proof.Proof.Gen.MlInBIdeal.Value
public import proofs.«01_k».proof.Proof.MlInBValue
public import proofs.«01_k».proof.Proof.Gen.MlInBRefIdeal.Run
public import Idealize.ShloMosaic.Lib.Pipeline.ValueKit
public import Idealize.ShloMosaic.Lib.Pipeline.ReadBack

/-!
The value claim of the backward product of the mLSTM's input projection (`kernel_mlinb`): the kernel's three arrays,
computed in `MlInBValue`, are the ones the reference's host operations compute.
-/

@[expose] public section

set_option maxRecDepth 16384

noncomputable section

namespace Cert.Proof.MlInB

open Cert.MlInBIdeal Cert.MlInBIdeal.Gen Idealize.ShloMosaic Idealize.ShloMosaic.TcCoe Idealize.SL.Sem
open Idealize.ShloMosaic.Pipeline (Dat)
open scoped BigOperators

/-- The reference's sum over an example's tokens of two arrays' product. -/
theorem scale_apply (x d : Vec Ideal MlInBRefIdeal.S8192x1024 .f32) (e : Fin 2) (o : Fin 1) (k : Fin 1024) :
    shapeCast MlInBRefIdeal.S2x1x1024 (Host.reduceAdd (F := Ideal) (mulf (F := Ideal) (shapeCast MlInBRefIdeal.S2x4096x1024 x MlInBRefIdeal.Gen.shapeCasts_S8192x1024_S2x4096x1024)
      (shapeCast MlInBRefIdeal.S2x4096x1024 d MlInBRefIdeal.Gen.shapeCasts_S8192x1024_S2x4096x1024)) (constant (F := Ideal) MlInBRefIdeal.S_ FTy.f32 0#32)
      MlInBRefIdeal.Gen.reducesTo_S2x4096x1024_S2x1024_d1 MlInBRefIdeal.Gen.h_S_) MlInBRefIdeal.Gen.shapeCasts_S2x1024_S2x1x1024 (ix3 e o k)
    = ∑ r : Fin 4096, x (ix2 ⟨e.val * 4096 + r.val, by omega⟩ k) * d (ix2 ⟨e.val * 4096 + r.val, by omega⟩ k) := by
  pointwise

/-- The idealized kernel and the idealized reference, from the same arguments, end with the same three gradients. -/
theorem algebraic : Cert.algebraic_MlInBIdeal_MlInBRefIdeal := by
  intro m g m' g' _ hagree
  refine ⟨fun c => gradX (m (c.tc.loc main_arg0)) (m (c.tc.loc main_arg1)) (m (c.tc.loc main_arg3)) (m (c.tc.loc main_arg4)),
    fun c => gradShift (m (c.tc.loc main_arg0)) (m (c.tc.loc main_arg1)),
    fun c => gradScale (m (c.tc.loc main_arg0)) (m (c.tc.loc main_arg1)) (m (c.tc.loc main_arg2)), ?_, ?_⟩
  · refine (θ_run _ _ _).mono (fun r h c => ?_) (Cert.MlInBIdeal.Value.run_blocks (F := Ideal) m g)
    obtain ⟨h5, h6, h7, h⟩ := h c
    exact ⟨h5.trans (arr5 m c), h6.trans (arr6 m c), h7.trans (arr7 m c), h⟩
  · refine (θ_run _ _ _).mono (fun r h c => ?_) (Cert.MlInBRefIdeal.Value.run (F := Ideal) m' g')
    obtain ⟨h5, h6, h7, h⟩ := h c
    obtain ⟨e0, e1, e2, e3, e4⟩ := hagree c
    rw [e0, e1, e3, e4] at h5
    rw [e0, e1] at h6
    rw [e0, e1, e2] at h7
    refine ⟨h5.trans ?_, h6.trans ?_, h7.trans ?_, h⟩
    · funext y
      unfold gradX grad
      pointwise
    · funext y
      unfold gradShift grad
      pointwise
    · funext y
      idx_vars y
      refine (scale_apply _ _ _ _ _).trans ((Finset.sum_congr rfl fun r _ => ?_).trans (gradScale_comm _ _ _ _).symm)
      refine congrArg₂ (fun a b : EReal => a * b) rfl ?_
      unfold grad
      pointwise

end Cert.Proof.MlInB

end
-- ==== Proof.AtDWinValue.lean ====
module

public import proofs.«01_k».proof.Defs
public import proofs.«01_k».proof.Proof.Gen.AtDWinIdeal.Value
public import proofs.«01_k».proof.Proof.Gen.AtDWinRefIdeal.Run
public import Idealize.ShloMosaic.Lib.Pipeline.ValueKit
public import Idealize.ShloMosaic.Lib.Pipeline.ReadBack

/-!
The value of the attention's input weight's gradient (`kernel_atdwin`): the blocks of 1152 columns of the weight, each accumulated
over four blocks of 2048 tokens, are the product over all tokens, and the second result is its bfloat16 copy.
-/

@[expose] public section

set_option maxRecDepth 16384

noncomputable section

namespace Cert.Proof.AtDWin

open Cert.AtDWinIdeal Cert.AtDWinIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The column of the projection that an element of the weight's gradient belongs to. -/
theorem col_lt (i : S8x1024x1152.Idx) : (i 0).val * 1152 + (i 2).val < 9216 := by
  have h0 : (i 0).val < 8 := (i 0).isLt
  have h2 : (i 2).val < 1152 := (i 2).isLt
  omega

/-- What one point adds: the product of its tokens' two blocks. -/
def term (x0 : Vec Ideal S2048x1024 .bf16) (x1 : Vec Ideal S2048x1152 .bf16) : Vec Ideal S1x1024x1152 .f32 :=
  fun j => ∑ r : Fin 2048, x0 (ix2 r (j 1)) * x1 (ix2 r (j 2))

theorem out2_A (c : Dev nD) (t : Fin cfg0.N) (h : t.val % 4 = 0) :
    (outsAt0 m c t.val t.isLt).1 = k0_pay2 (k0_pay1 (F := Ideal)) (iblk m c 0 t) (iblk m c 1 t) := by
  rw [Gen.outsAt0_A m c t h (by omega)]
  frame_open
  simp (disch := decide) only [↓ View.readCov_skip, ↓ View.readCov_cons_toLoadRect, ↓ View.readCov_fill]
  frame_out

theorem out2_B (c : Dev nD) (t : Fin cfg0.N) (h : ¬ t.val % 4 = 0) :
    (outsAt0 m c t.val t.isLt).1
      = k0_pay2 (outsAt0 m c (t.val - 1) (Nat.lt_of_le_of_lt (Nat.sub_le _ _) t.isLt)).1 (iblk m c 0 t) (iblk m c 1 t) := by
  by_cases h3 : t.val % 4 = 3
  · rw [Gen.outsAt0_C m c t h h3]
    frame_open
    simp (disch := decide) only [↓ View.readCov_skip, ↓ View.readCov_cons_toLoadRect, ↓ View.readCov_fill]
    frame_out
  · rw [Gen.outsAt0_B m c t h h3]
    frame_open
    simp (disch := decide) only [↓ View.readCov_skip, ↓ View.readCov_cons_toLoadRect, ↓ View.readCov_fill]
    frame_out

/-- At a run's last point the bfloat16 copy is the accumulated block's cast. -/
theorem out3_C (c : Dev nD) (t : Fin cfg0.N) (h : t.val % 4 = 3) :
    (outsAt0 m c t.val t.isLt).2 = k0_pay3 (outsAt0 m c t.val t.isLt).1 := by
  rw [out2_B m c t (by omega)]
  rw [Gen.outsAt0_C m c t (by omega) h]
  frame_open
  simp (disch := decide) only [↓ View.readCov_skip, ↓ View.readCov_cons_toLoadRect, ↓ View.readCov_fill]
  frame_out

/-- The first point of a run starts the sum from zero. -/
theorem step_A (c : Dev nD) (t : Fin cfg0.N) (h : t.val % 4 = 0) (j : S1x1024x1152.Idx) :
    (outsAt0 m c t.val t.isLt).1 j = 0 + term (iblk m c 0 t) (iblk m c 1 t) j := by
  rw [out2_A m c t h]
  generalize iblk m c 0 t = x0
  generalize iblk m c 1 t = x1
  pointwise [k0_pay2, k0_pay1, term]

/-- A later point adds its tokens. -/
theorem step_B (c : Dev nD) (t : Fin cfg0.N) (h : ¬ t.val % 4 = 0) (j : S1x1024x1152.Idx) :
    (outsAt0 m c t.val t.isLt).1 j = (outsAt0 m c (t.val - 1) (Nat.lt_of_le_of_lt (Nat.sub_le _ _) t.isLt)).1 j
      + term (iblk m c 0 t) (iblk m c 1 t) j := by
  rw [out2_B m c t h]
  generalize iblk m c 0 t = x0
  generalize iblk m c 1 t = x1
  generalize (outsAt0 m c (t.val - 1) (Nat.lt_of_le_of_lt (Nat.sub_le _ _) t.isLt)).1 = o
  pointwise [k0_pay2, term]

/-- The gradient of the weight: the product over all tokens. -/
def gradW (a0 : Vec Ideal S8192x1024 .bf16) (a1 : Vec Ideal S8192x9216 .bf16) : Vec Ideal S8x1024x1152 .f32 :=
  fun i => ∑ r : Fin 8192, a0 (ix2 r (i 1)) * a1 (ix2 r ⟨(i 0).val * 1152 + (i 2).val, col_lt i⟩)

/-- Its bfloat16 copy. -/
def gradB (a0 : Vec Ideal S8192x1024 .bf16) (a1 : Vec Ideal S8192x9216 .bf16) : Vec Ideal S8x1024x1152 .bf16 :=
  fun i => gradW a0 a1 i

theorem gradW_comm (a0 : Vec Ideal S8192x1024 .bf16) (a1 : Vec Ideal S8192x9216 .bf16) (i : S8x1024x1152.Idx) :
    gradW a0 a1 i = ∑ r : Fin 8192, a1 (ix2 r ⟨(i 0).val * 1152 + (i 2).val, col_lt i⟩) * a0 (ix2 r (i 1)) :=
  Finset.sum_congr rfl fun _ _ => mul_comm _ _

theorem idx0 : ∀ t : Fin grid0.N, win0_0.index t = ![t.val % 4, 0] := by decide +kernel
theorem idx1 : ∀ t : Fin grid0.N, win0_1.index t = ![t.val % 4, t.val / 4] := by decide +kernel
theorem idx2 : ∀ t : Fin grid0.N, win0_2.index t = ![t.val / 4, 0, 0] := by decide +kernel
theorem idx3 : ∀ t : Fin grid0.N, win0_3.index t = ![t.val / 4, 0, 0] := by decide +kernel

/-- A run's last point holds its block of the gradient. -/
theorem block_last (c : Dev nD) (t : Fin cfg0.N) (h : t.val % 4 = 3) (y : S1x1024x1152.Idx) :
    (outsAt0 m c t.val t.isLt).1 y = gradW (m (c.tc.loc main_arg0)) (m (c.tc.loc main_arg1))
      (ix3 ⟨t.val / 4, by have h : t.val < 32 := t.isLt; omega⟩ (y 1) (y 2)) := by
  rw [Pipeline.eq_sum_fin_of_reset_step_apply_of_flush (fun n h => (outsAt0 m c n h).1) 4 (fun _ => 0)
    (fun t j => term (iblk m c 0 t) (iblk m c 1 t) j) (step_A m c) (step_B m c) t h]
  unfold gradW term
  rw [zero_add]
  refine Fin.sum_mul_add_congr fun s k hl => ?_
  have ht : t.val < 32 := t.isLt
  refine congrArg₂ (fun a b : EReal => a * b) ?_ ?_
  · blk_point [iblk, V, idx0 _]
  · blk_point [iblk, V, idx1 _]

theorem arr2 (c : Dev nD) : (dats m 0 c).arrAt 2 cfg0.N = gradW (m (c.tc.loc main_arg0)) (m (c.tc.loc main_arg1)) := by
  refine (dats m 0 c).arrAt_eq_of_covers 2 _ (by decide +kernel) fun t hf y => ?_
  blk_simp
  rw [after0_2]
  refine (block_last m c t ((Gen.flush0_2 t).mp hf) _).trans (congrArg _ ?_)
  blk_ext [idx2 t]

theorem arr3 (c : Dev nD) : (dats m 0 c).arrAt 3 cfg0.N = gradB (m (c.tc.loc main_arg0)) (m (c.tc.loc main_arg1)) := by
  refine (dats m 0 c).arrAt_eq_of_covers 3 _ (by decide +kernel) fun t hf y => ?_
  blk_simp
  rw [after0_3, out3_C m c t ((Gen.flush0_3 t).mp hf)]
  unfold gradB
  refine Eq.trans ?_ ((block_last m c t ((Gen.flush0_3 t).mp hf) y).trans (congrArg _ ?_))
  · pointwise [k0_pay3]
  · blk_ext [idx3 t]

end Cert.Proof.AtDWin

end
-- ==== Proof.AtDWinClaim.lean ====
module

public import proofs.«01_k».proof.Defs
public import proofs.«01_k».proof.Proof.Gen.AtDWinIdeal.Value
public import proofs.«01_k».proof.Proof.AtDWinValue
public import proofs.«01_k».proof.Proof.Gen.AtDWinRefIdeal.Run
public import Idealize.ShloMosaic.Lib.Pipeline.ValueKit
public import Idealize.ShloMosaic.Lib.Pipeline.ReadBack

/-!
The value claim of the attention's input weight's gradient (`kernel_atdwin`): the kernel's two arrays, computed in
`AtDWinValue`, are the ones the reference's host operations compute.
-/

@[expose] public section

set_option maxRecDepth 16384

noncomputable section

namespace Cert.Proof.AtDWin

open Cert.AtDWinIdeal Cert.AtDWinIdeal.Gen Idealize.ShloMosaic Idealize.ShloMosaic.TcCoe Idealize.SL.Sem
open Idealize.ShloMosaic.Pipeline (Dat)
open scoped BigOperators

/-- The idealized kernel and the idealized reference, from the same arguments, end with the same two gradients. -/
theorem algebraic : Cert.algebraic_AtDWinIdeal_AtDWinRefIdeal := by
  intro m g m' g' _ hagree
  refine ⟨fun c => gradW (m (c.tc.loc main_arg0)) (m (c.tc.loc main_arg1)),
    fun c => gradB (m (c.tc.loc main_arg0)) (m (c.tc.loc main_arg1)), ?_, ?_⟩
  · refine (θ_run _ _ _).mono (fun r h c => ?_) (Cert.AtDWinIdeal.Value.run_blocks (F := Ideal) m g)
    obtain ⟨h2, h3, h⟩ := h c
    exact ⟨h2.trans (arr2 m c), h3.trans (arr3 m c), h⟩
  · refine (θ_run _ _ _).mono (fun r h c => ?_) (Cert.AtDWinRefIdeal.Value.run (F := Ideal) m' g')
    obtain ⟨h2, h3, h⟩ := h c
    obtain ⟨e0, e1⟩ := hagree c
    rw [e0, e1] at h2 h3
    refine ⟨h2.trans ?_, h3.trans ?_, h⟩
    · funext y
      refine Eq.trans ?_ (gradW_comm _ _ _).symm
      pointwise
    · funext y
      refine Eq.trans ?_ (gradW_comm _ _ _).symm
      pointwise

end Cert.Proof.AtDWin

end
-- ==== Proof.MlDWinValue.lean ====
module

public import proofs.«01_k».proof.Defs
public import proofs.«01_k».proof.Proof.Gen.MlDWinIdeal.Value
public import proofs.«01_k».proof.Proof.Gen.MlDWinRefIdeal.Run
public import Idealize.ShloMosaic.Lib.Pipeline.ValueKit
public import Idealize.ShloMosaic.Lib.Pipeline.ReadBack

/-!
The value of the mLSTM's input weight's gradient (`kernel_mldwin`): the blocks of 640 columns of the weight, each accumulated
over four blocks of 2048 tokens, are the product over all tokens, and the second result is its bfloat16 copy.
-/

@[expose] public section

set_option maxRecDepth 16384

noncomputable section

namespace Cert.Proof.MlDWin

open Cert.MlDWinIdeal Cert.MlDWinIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The column of the projection that an element of the weight's gradient belongs to. -/
theorem col_lt (i : S5x1024x640.Idx) : (i 0).val * 640 + (i 2).val < 3200 := by
  have h0 : (i 0).val < 5 := (i 0).isLt
  have h2 : (i 2).val < 640 := (i 2).isLt
  omega

/-- What one point adds: the product of its tokens' two blocks. -/
def term (x0 : Vec Ideal S2048x1024 .bf16) (x1 : Vec Ideal S2048x640 .bf16) : Vec Ideal S1x1024x640 .f32 :=
  fun j => ∑ r : Fin 2048, x0 (ix2 r (j 1)) * x1 (ix2 r (j 2))

theorem out2_A (c : Dev nD) (t : Fin cfg0.N) (h : t.val % 4 = 0) :
    (outsAt0 m c t.val t.isLt).1 = k0_pay2 (k0_pay1 (F := Ideal)) (iblk m c 0 t) (iblk m c 1 t) := by
  rw [Gen.outsAt0_A m c t h (by omega)]
  frame_open
  simp (disch := decide) only [↓ View.readCov_skip, ↓ View.readCov_cons_toLoadRect, ↓ View.readCov_fill]
  frame_out

theorem out2_B (c : Dev nD) (t : Fin cfg0.N) (h : ¬ t.val % 4 = 0) :
    (outsAt0 m c t.val t.isLt).1
      = k0_pay2 (outsAt0 m c (t.val - 1) (Nat.lt_of_le_of_lt (Nat.sub_le _ _) t.isLt)).1 (iblk m c 0 t) (iblk m c 1 t) := by
  by_cases h3 : t.val % 4 = 3
  · rw [Gen.outsAt0_C m c t h h3]
    frame_open
    simp (disch := decide) only [↓ View.readCov_skip, ↓ View.readCov_cons_toLoadRect, ↓ View.readCov_fill]
    frame_out
  · rw [Gen.outsAt0_B m c t h h3]
    frame_open
    simp (disch := decide) only [↓ View.readCov_skip, ↓ View.readCov_cons_toLoadRect, ↓ View.readCov_fill]
    frame_out

/-- At a run's last point the bfloat16 copy is the accumulated block's cast. -/
theorem out3_C (c : Dev nD) (t : Fin cfg0.N) (h : t.val % 4 = 3) :
    (outsAt0 m c t.val t.isLt).2 = k0_pay3 (outsAt0 m c t.val t.isLt).1 := by
  rw [out2_B m c t (by omega)]
  rw [Gen.outsAt0_C m c t (by omega) h]
  frame_open
  simp (disch := decide) only [↓ View.readCov_skip, ↓ View.readCov_cons_toLoadRect, ↓ View.readCov_fill]
  frame_out

/-- The first point of a run starts the sum from zero. -/
theorem step_A (c : Dev nD) (t : Fin cfg0.N) (h : t.val % 4 = 0) (j : S1x1024x640.Idx) :
    (outsAt0 m c t.val t.isLt).1 j = 0 + term (iblk m c 0 t) (iblk m c 1 t) j := by
  rw [out2_A m c t h]
  generalize iblk m c 0 t = x0
  generalize iblk m c 1 t = x1
  pointwise [k0_pay2, k0_pay1, term]

/-- A later point adds its tokens. -/
theorem step_B (c : Dev nD) (t : Fin cfg0.N) (h : ¬ t.val % 4 = 0) (j : S1x1024x640.Idx) :
    (outsAt0 m c t.val t.isLt).1 j = (outsAt0 m c (t.val - 1) (Nat.lt_of_le_of_lt (Nat.sub_le _ _) t.isLt)).1 j
      + term (iblk m c 0 t) (iblk m c 1 t) j := by
  rw [out2_B m c t h]
  generalize iblk m c 0 t = x0
  generalize iblk m c 1 t = x1
  generalize (outsAt0 m c (t.val - 1) (Nat.lt_of_le_of_lt (Nat.sub_le _ _) t.isLt)).1 = o
  pointwise [k0_pay2, term]

/-- The gradient of the weight: the product over all tokens. -/
def gradW (a0 : Vec Ideal S8192x1024 .bf16) (a1 : Vec Ideal S8192x3200 .bf16) : Vec Ideal S5x1024x640 .f32 :=
  fun i => ∑ r : Fin 8192, a0 (ix2 r (i 1)) * a1 (ix2 r ⟨(i 0).val * 640 + (i 2).val, col_lt i⟩)

/-- Its bfloat16 copy. -/
def gradB (a0 : Vec Ideal S8192x1024 .bf16) (a1 : Vec Ideal S8192x3200 .bf16) : Vec Ideal S5x1024x640 .bf16 :=
  fun i => gradW a0 a1 i

theorem gradW_comm (a0 : Vec Ideal S8192x1024 .bf16) (a1 : Vec Ideal S8192x3200 .bf16) (i : S5x1024x640.Idx) :
    gradW a0 a1 i = ∑ r : Fin 8192, a1 (ix2 r ⟨(i 0).val * 640 + (i 2).val, col_lt i⟩) * a0 (ix2 r (i 1)) :=
  Finset.sum_congr rfl fun _ _ => mul_comm _ _

theorem idx0 : ∀ t : Fin grid0.N, win0_0.index t = ![t.val % 4, 0] := by decide +kernel
theorem idx1 : ∀ t : Fin grid0.N, win0_1.index t = ![t.val % 4, t.val / 4] := by decide +kernel
theorem idx2 : ∀ t : Fin grid0.N, win0_2.index t = ![t.val / 4, 0, 0] := by decide +kernel
theorem idx3 : ∀ t : Fin grid0.N, win0_3.index t = ![t.val / 4, 0, 0] := by decide +kernel

/-- A run's last point holds its block of the gradient. -/
theorem block_last (c : Dev nD) (t : Fin cfg0.N) (h : t.val % 4 = 3) (y : S1x1024x640.Idx) :
    (outsAt0 m c t.val t.isLt).1 y = gradW (m (c.tc.loc main_arg0)) (m (c.tc.loc main_arg1))
      (ix3 ⟨t.val / 4, by have h : t.val < 20 := t.isLt; omega⟩ (y 1) (y 2)) := by
  rw [Pipeline.eq_sum_fin_of_reset_step_apply_of_flush (fun n h => (outsAt0 m c n h).1) 4 (fun _ => 0)
    (fun t j => term (iblk m c 0 t) (iblk m c 1 t) j) (step_A m c) (step_B m c) t h]
  unfold gradW term
  rw [zero_add]
  refine Fin.sum_mul_add_congr fun s k hl => ?_
  have ht : t.val < 20 := t.isLt
  refine congrArg₂ (fun a b : EReal => a * b) ?_ ?_
  · blk_point [iblk, V, idx0 _]
  · blk_point [iblk, V, idx1 _]

theorem arr2 (c : Dev nD) : (dats m 0 c).arrAt 2 cfg0.N = gradW (m (c.tc.loc main_arg0)) (m (c.tc.loc main_arg1)) := by
  refine (dats m 0 c).arrAt_eq_of_covers 2 _ (by decide +kernel) fun t hf y => ?_
  blk_simp
  rw [after0_2]
  refine (block_last m c t ((Gen.flush0_2 t).mp hf) _).trans (congrArg _ ?_)
  blk_ext [idx2 t]

theorem arr3 (c : Dev nD) : (dats m 0 c).arrAt 3 cfg0.N = gradB (m (c.tc.loc main_arg0)) (m (c.tc.loc main_arg1)) := by
  refine (dats m 0 c).arrAt_eq_of_covers 3 _ (by decide +kernel) fun t hf y => ?_
  blk_simp
  rw [after0_3, out3_C m c t ((Gen.flush0_3 t).mp hf)]
  unfold gradB
  refine Eq.trans ?_ ((block_last m c t ((Gen.flush0_3 t).mp hf) y).trans (congrArg _ ?_))
  · pointwise [k0_pay3]
  · blk_ext [idx3 t]

end Cert.Proof.MlDWin

end
-- ==== Proof.MlDWinClaim.lean ====
module

public import proofs.«01_k».proof.Defs
public import proofs.«01_k».proof.Proof.Gen.MlDWinIdeal.Value
public import proofs.«01_k».proof.Proof.MlDWinValue
public import proofs.«01_k».proof.Proof.Gen.MlDWinRefIdeal.Run
public import Idealize.ShloMosaic.Lib.Pipeline.ValueKit
public import Idealize.ShloMosaic.Lib.Pipeline.ReadBack

/-!
The value claim of the mLSTM's input weight's gradient (`kernel_mldwin`): the kernel's two arrays, computed in
`MlDWinValue`, are the ones the reference's host operations compute.
-/

@[expose] public section

set_option maxRecDepth 16384

noncomputable section

namespace Cert.Proof.MlDWin

open Cert.MlDWinIdeal Cert.MlDWinIdeal.Gen Idealize.ShloMosaic Idealize.ShloMosaic.TcCoe Idealize.SL.Sem
open Idealize.ShloMosaic.Pipeline (Dat)
open scoped BigOperators

/-- The idealized kernel and the idealized reference, from the same arguments, end with the same two gradients. -/
theorem algebraic : Cert.algebraic_MlDWinIdeal_MlDWinRefIdeal := by
  intro m g m' g' _ hagree
  refine ⟨fun c => gradW (m (c.tc.loc main_arg0)) (m (c.tc.loc main_arg1)),
    fun c => gradB (m (c.tc.loc main_arg0)) (m (c.tc.loc main_arg1)), ?_, ?_⟩
  · refine (θ_run _ _ _).mono (fun r h c => ?_) (Cert.MlDWinIdeal.Value.run_blocks (F := Ideal) m g)
    obtain ⟨h2, h3, h⟩ := h c
    exact ⟨h2.trans (arr2 m c), h3.trans (arr3 m c), h⟩
  · refine (θ_run _ _ _).mono (fun r h c => ?_) (Cert.MlDWinRefIdeal.Value.run (F := Ideal) m' g')
    obtain ⟨h2, h3, h⟩ := h c
    obtain ⟨e0, e1⟩ := hagree c
    rw [e0, e1] at h2 h3
    refine ⟨h2.trans ?_, h3.trans ?_, h⟩
    · funext y
      refine Eq.trans ?_ (gradW_comm _ _ _).symm
      pointwise
    · funext y
      refine Eq.trans ?_ (gradW_comm _ _ _).symm
      pointwise

end Cert.Proof.MlDWin

end
-- ==== Proof.MxDWoutValue.lean ====
module

public import proofs.«01_k».proof.Defs
public import proofs.«01_k».proof.Proof.Gen.MxDWoutIdeal.Value
public import proofs.«01_k».proof.Proof.Gen.MxDWoutRefIdeal.Run
public import Idealize.ShloMosaic.Lib.Pipeline.ValueKit
public import Idealize.ShloMosaic.Lib.Pipeline.ReadBack

/-!
The value of a mixer's output weight's gradient (`kernel_mxdwout`): accumulated over four blocks of 2048 tokens, it is the
product over all tokens, and the second result is its bfloat16 copy.
-/

@[expose] public section

set_option maxRecDepth 16384

noncomputable section

namespace Cert.Proof.MxDWout

open Cert.MxDWoutIdeal Cert.MxDWoutIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- What one point adds: the product of its tokens' two blocks. -/
def term (x0 : Vec Ideal S2048x1024 .bf16) (x1 : Vec Ideal S2048x1024 .bf16) : Vec Ideal S1x1024x1024 .f32 :=
  fun j => ∑ r : Fin 2048, x0 (ix2 r (j 1)) * x1 (ix2 r (j 2))

theorem out2_A (c : Dev nD) (t : Fin cfg0.N) (h : t.val % 4 = 0) :
    (outsAt0 m c t.val t.isLt).1 = k0_pay2 (k0_pay1 (F := Ideal)) (iblk m c 0 t) (iblk m c 1 t) := by
  rw [Gen.outsAt0_A m c t h (by omega)]
  frame_open
  simp (disch := decide) only [↓ View.readCov_skip, ↓ View.readCov_cons_toLoadRect, ↓ View.readCov_fill]
  frame_out

theorem out2_B (c : Dev nD) (t : Fin cfg0.N) (h : ¬ t.val % 4 = 0) :
    (outsAt0 m c t.val t.isLt).1
      = k0_pay2 (outsAt0 m c (t.val - 1) (Nat.lt_of_le_of_lt (Nat.sub_le _ _) t.isLt)).1 (iblk m c 0 t) (iblk m c 1 t) := by
  by_cases h3 : t.val % 4 = 3
  · rw [Gen.outsAt0_C m c t h h3]
    frame_open
    simp (disch := decide) only [↓ View.readCov_skip, ↓ View.readCov_cons_toLoadRect, ↓ View.readCov_fill]
    frame_out
  · rw [Gen.outsAt0_B m c t h h3]
    frame_open
    simp (disch := decide) only [↓ View.readCov_skip, ↓ View.readCov_cons_toLoadRect, ↓ View.readCov_fill]
    frame_out

/-- At a run's last point the bfloat16 copy is the accumulated block's cast. -/
theorem out3_C (c : Dev nD) (t : Fin cfg0.N) (h : t.val % 4 = 3) :
    (outsAt0 m c t.val t.isLt).2 = k0_pay3 (outsAt0 m c t.val t.isLt).1 := by
  rw [out2_B m c t (by omega)]
  rw [Gen.outsAt0_C m c t (by omega) h]
  frame_open
  simp (disch := decide) only [↓ View.readCov_skip, ↓ View.readCov_cons_toLoadRect, ↓ View.readCov_fill]
  frame_out

/-- The first point of a run starts the sum from zero. -/
theorem step_A (c : Dev nD) (t : Fin cfg0.N) (h : t.val % 4 = 0) (j : S1x1024x1024.Idx) :
    (outsAt0 m c t.val t.isLt).1 j = 0 + term (iblk m c 0 t) (iblk m c 1 t) j := by
  rw [out2_A m c t h]
  generalize iblk m c 0 t = x0
  generalize iblk m c 1 t = x1
  pointwise [k0_pay2, k0_pay1, term]

/-- A later point adds its tokens. -/
theorem step_B (c : Dev nD) (t : Fin cfg0.N) (h : ¬ t.val % 4 = 0) (j : S1x1024x1024.Idx) :
    (outsAt0 m c t.val t.isLt).1 j = (outsAt0 m c (t.val - 1) (Nat.lt_of_le_of_lt (Nat.sub_le _ _) t.isLt)).1 j
      + term (iblk m c 0 t) (iblk m c 1 t) j := by
  rw [out2_B m c t h]
  generalize iblk m c 0 t = x0
  generalize iblk m c 1 t = x1
  generalize (outsAt0 m c (t.val - 1) (Nat.lt_of_le_of_lt (Nat.sub_le _ _) t.isLt)).1 = o
  pointwise [k0_pay2, term]

/-- The gradient of the weight: the product over all tokens. -/
def gradW (a0 : Vec Ideal S8192x1024 .bf16) (a1 : Vec Ideal S8192x1024 .bf16) : Vec Ideal S1x1024x1024 .f32 :=
  fun i => ∑ r : Fin 8192, a0 (ix2 r (i 1)) * a1 (ix2 r (i 2))

/-- Its bfloat16 copy. -/
def gradB (a0 : Vec Ideal S8192x1024 .bf16) (a1 : Vec Ideal S8192x1024 .bf16) : Vec Ideal S1x1024x1024 .bf16 :=
  fun i => gradW a0 a1 i

theorem gradW_comm (a0 : Vec Ideal S8192x1024 .bf16) (a1 : Vec Ideal S8192x1024 .bf16) (i : S1x1024x1024.Idx) :
    gradW a0 a1 i = ∑ r : Fin 8192, a1 (ix2 r (i 2)) * a0 (ix2 r (i 1)) :=
  Finset.sum_congr rfl fun _ _ => mul_comm _ _

theorem idx0 : ∀ t : Fin grid0.N, win0_0.index t = ![t.val % 4, 0] := by decide +kernel
theorem idx1 : ∀ t : Fin grid0.N, win0_1.index t = ![t.val % 4, 0] := by decide +kernel
theorem idx2 : ∀ t : Fin grid0.N, win0_2.index t = ![0, 0, 0] := by decide +kernel
theorem idx3 : ∀ t : Fin grid0.N, win0_3.index t = ![0, 0, 0] := by decide +kernel

/-- A run's last point holds its block of the gradient. -/
theorem block_last (c : Dev nD) (t : Fin cfg0.N) (h : t.val % 4 = 3) (y : S1x1024x1024.Idx) :
    (outsAt0 m c t.val t.isLt).1 y = gradW (m (c.tc.loc main_arg0)) (m (c.tc.loc main_arg1))
      (ix3 ⟨t.val / 4, by have h : t.val < 4 := t.isLt; omega⟩ (y 1) (y 2)) := by
  rw [Pipeline.eq_sum_fin_of_reset_step_apply_of_flush (fun n h => (outsAt0 m c n h).1) 4 (fun _ => 0)
    (fun t j => term (iblk m c 0 t) (iblk m c 1 t) j) (step_A m c) (step_B m c) t h]
  unfold gradW term
  rw [zero_add]
  refine Fin.sum_mul_add_congr fun s k hl => ?_
  have ht : t.val < 4 := t.isLt
  refine congrArg₂ (fun a b : EReal => a * b) ?_ ?_
  · blk_point [iblk, V, idx0 _]
  · blk_point [iblk, V, idx1 _]

theorem arr2 (c : Dev nD) : (dats m 0 c).arrAt 2 cfg0.N = gradW (m (c.tc.loc main_arg0)) (m (c.tc.loc main_arg1)) := by
  refine (dats m 0 c).arrAt_eq_of_covers 2 _ (by decide +kernel) fun t hf y => ?_
  blk_simp
  rw [after0_2]
  refine (block_last m c t ((Gen.flush0_2 t).mp hf) _).trans (congrArg _ ?_)
  blk_ext [idx2 t]

theorem arr3 (c : Dev nD) : (dats m 0 c).arrAt 3 cfg0.N = gradB (m (c.tc.loc main_arg0)) (m (c.tc.loc main_arg1)) := by
  refine (dats m 0 c).arrAt_eq_of_covers 3 _ (by decide +kernel) fun t hf y => ?_
  blk_simp
  rw [after0_3, out3_C m c t ((Gen.flush0_3 t).mp hf)]
  unfold gradB
  refine Eq.trans ?_ ((block_last m c t ((Gen.flush0_3 t).mp hf) y).trans (congrArg _ ?_))
  · pointwise [k0_pay3]
  · blk_ext [idx3 t]

end Cert.Proof.MxDWout

end
-- ==== Proof.MxDWoutClaim.lean ====
module

public import proofs.«01_k».proof.Defs
public import proofs.«01_k».proof.Proof.Gen.MxDWoutIdeal.Value
public import proofs.«01_k».proof.Proof.MxDWoutValue
public import proofs.«01_k».proof.Proof.Gen.MxDWoutRefIdeal.Run
public import Idealize.ShloMosaic.Lib.Pipeline.ValueKit
public import Idealize.ShloMosaic.Lib.Pipeline.ReadBack

/-!
The value claim of a mixer's output weight's gradient (`kernel_mxdwout`): the kernel's two arrays, computed in
`MxDWoutValue`, are the ones the reference's host operations compute.
-/

@[expose] public section

set_option maxRecDepth 16384

noncomputable section

namespace Cert.Proof.MxDWout

open Cert.MxDWoutIdeal Cert.MxDWoutIdeal.Gen Idealize.ShloMosaic Idealize.ShloMosaic.TcCoe Idealize.SL.Sem
open Idealize.ShloMosaic.Pipeline (Dat)
open scoped BigOperators

/-- The idealized kernel and the idealized reference, from the same arguments, end with the same two gradients. -/
theorem algebraic : Cert.algebraic_MxDWoutIdeal_MxDWoutRefIdeal := by
  intro m g m' g' _ hagree
  refine ⟨fun c => gradW (m (c.tc.loc main_arg0)) (m (c.tc.loc main_arg1)),
    fun c => gradB (m (c.tc.loc main_arg0)) (m (c.tc.loc main_arg1)), ?_, ?_⟩
  · refine (θ_run _ _ _).mono (fun r h c => ?_) (Cert.MxDWoutIdeal.Value.run_blocks (F := Ideal) m g)
    obtain ⟨h2, h3, h⟩ := h c
    exact ⟨h2.trans (arr2 m c), h3.trans (arr3 m c), h⟩
  · refine (θ_run _ _ _).mono (fun r h c => ?_) (Cert.MxDWoutRefIdeal.Value.run (F := Ideal) m' g')
    obtain ⟨h2, h3, h⟩ := h c
    obtain ⟨e0, e1⟩ := hagree c
    rw [e0, e1] at h2 h3
    refine ⟨h2.trans ?_, h3.trans ?_, h⟩
    · funext y
      refine Eq.trans ?_ (gradW_comm _ _ _).symm
      pointwise
    · funext y
      refine Eq.trans ?_ (gradW_comm _ _ _).symm
      pointwise

end Cert.Proof.MxDWout

end
-- ==== Proof.MxOutValue.lean ====
module

public import proofs.«01_k».proof.Defs
public import proofs.«01_k».proof.Proof.Gen.MxOutIdeal.Value
public import proofs.«01_k».proof.Proof.FOutValue
public import Idealize.ShloMosaic.Lib.Pipeline.ValueKit
public import Idealize.ShloMosaic.Lib.Pipeline.ReadBack

/-!
The value of the output call of the attention and of the mLSTM (`at_out`): the output projection, and the layer norm of the
residual, as functions of the whole arrays.
-/

@[expose] public section

set_option maxRecDepth 16384

noncomputable section

namespace Cert.Proof.MxOut

open Cert.MxOutIdeal Cert.MxOutIdeal.Gen Idealize.ShloMosaic Idealize.ShloMosaic.TcCoe Idealize.SL.Sem
open Idealize.ShloMosaic.Pipeline (Dat)
open scoped BigOperators

/-- One element of the residual, before the norm. -/
def resid (x md o : EReal) : EReal := Ideal.ofBits .f32 0x3FB504F3#32 * x + (1 + md) * o

/-- The output projection. -/
def proj (a : Vec Ideal S8192x1024 .bf16) (w : Vec Ideal S1x1024x1024 .bf16) : Vec Ideal S8192x1024 .f32 :=
  fun i => ∑ f : Fin 1024, a (ix2 (i 0) f) * w (ix3 0 f (i 1))

/-- The layer's output. -/
def post (a : Vec Ideal S8192x1024 .bf16) (w : Vec Ideal S1x1024x1024 .bf16) (x : Vec Ideal S8192x1024 .f32)
    (md : Vec Ideal S2x3x1024 .f32) (g b : Vec Ideal S1x1024 .f32) : Vec Ideal S8192x1024 .f32 :=
  fun i => FOut.norm (fun j => resid (x (ix2 (i 0) j))
      (md (ix3 ⟨(i 0).val / 4096, by have h : (i 0).val < 8192 := (i 0).isLt; omega⟩ 2 j)) (proj a w (ix2 (i 0) j)))
    (g (ix2 0 (i 1))) (b (ix2 0 (i 1))) (i 1)

/-! ## The kernel's values, at variable blocks -/

theorem pay2_apply (x0 : Vec Ideal S1x1024x1024 .bf16) (x1 : Vec Ideal S1x1024x1024 .bf16) (r : Fin 1024) (k : Fin 1024) :
    k0_pay2 x0 x1 (ix2 r k) = ∑ f : Fin 1024, x0 (ix3 0 r f) * x1 (ix3 0 f k) := by
  pointwise [k0_pay2]

theorem pay1_apply (x0 : Vec Ideal S1x1024x1024 .bf16) (x1 : Vec Ideal S1x1024x1024 .bf16) (x : Vec Ideal S1024x1024 .f32)
    (md : Vec Ideal S1x3x1024 .f32) (g b : Vec Ideal S1x1024 .f32) (r : Fin 1024) (k : Fin 1024) :
    k0_pay1 (k0_pay3 x0 x1 x md) g b (ix2 r k)
      = FOut.norm (fun j => resid (x (ix2 r j)) (md (ix3 0 2 j)) (k0_pay2 x0 x1 (ix2 r j))) (g (ix2 0 k)) (b (ix2 0 k)) k := by
  unfold k0_pay1 k0_pay3
  generalize k0_pay2 x0 x1 = o
  unfold FOut.norm resid
  pointwise

variable (m : (ℓ : Loc nD τ sig) → Buf (Elt Ideal) ℓ)

theorem idx0 : ∀ t : Fin grid0.N, win0_0.index t = ![0, t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![t.val / 4, 0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel

/-- Row `r` of the block of point `t` is a token. -/
theorem tok_lt (t : Fin grid0.N) (r : Fin 1024) : t.val * 1024 + r.val < 8192 := by
  have h : t.val < 8 := t.isLt
  omega

/-- The example of point `t`. -/
theorem ex_lt (t : Fin grid0.N) : t.val / 4 < 2 := by
  have h : t.val < 8 := t.isLt
  omega

theorem V_v0 (c : Dev nD) : V m c main_v0
    = broadcastInDim S1x8192x1024 ![1, 2] bcast_S8192x1024_S1x8192x1024_1_2 (m (c.tc.loc main_arg0)) := by
  unfold V
  after_results

theorem a_iblk (c : Dev nD) (t : Fin cfg0.N) (r : Fin 1024) (f : Fin 1024) :
    (iblk m c 0 t : Vec Ideal S1x1024x1024 .bf16) (ix3 0 r f) = ((m (c.tc.loc main_arg0)) : Vec Ideal S8192x1024 .bf16) (ix2 ⟨t.val * 1024 + r.val, tok_lt t r⟩ f) := by
  refine Eq.trans (b := (V m c main_v0 : Vec Ideal S1x8192x1024 .bf16) (ix3 0 ⟨t.val * 1024 + r.val, tok_lt t r⟩ f)) ?_ ?_
  · blk_point [iblk, idx0 t]
  · rw [V_v0]
    pointwise

theorem w_iblk (c : Dev nD) (t : Fin cfg0.N) (f : Fin 1024) (k : Fin 1024) :
    (iblk m c 1 t : Vec Ideal S1x1024x1024 .bf16) (ix3 0 f k) = ((m (c.tc.loc main_arg1)) : Vec Ideal S1x1024x1024 .bf16) (ix3 0 f k) := by
  blk_point [iblk, V, idx1 t]

theorem proj_iblk (c : Dev nD) (t : Fin cfg0.N) (r : Fin 1024) (k : Fin 1024) :
    k0_pay2 (iblk m c 0 t) (iblk m c 1 t) (ix2 r k)
      = proj (m (c.tc.loc main_arg0)) (m (c.tc.loc main_arg1)) (ix2 ⟨t.val * 1024 + r.val, tok_lt t r⟩ k) :=
  (pay2_apply _ _ _ _).trans (Finset.sum_congr rfl fun f _ =>
    congrArg₂ (fun a b : EReal => a * b) (a_iblk m c t r f) (w_iblk m c t f k))

theorem x_iblk (c : Dev nD) (t : Fin cfg0.N) (r : Fin 1024) (k : Fin 1024) :
    (iblk m c 2 t : Vec Ideal S1024x1024 .f32) (ix2 r k) = (m (c.tc.loc main_arg2) : Vec Ideal S8192x1024 .f32) (ix2 ⟨t.val * 1024 + r.val, tok_lt t r⟩ k) := by
  blk_point [iblk, V, idx2 t]

theorem md_iblk (c : Dev nD) (t : Fin cfg0.N) (k : Fin 1024) :
    (iblk m c 3 t : Vec Ideal S1x3x1024 .f32) (ix3 0 2 k) = (m (c.tc.loc main_arg3) : Vec Ideal S2x3x1024 .f32) (ix3 ⟨t.val / 4, ex_lt t⟩ 2 k) := by
  blk_point [iblk, V, idx3 t]

theorem g_iblk (c : Dev nD) (t : Fin cfg0.N) (k : Fin 1024) :
    (iblk m c 4 t : Vec Ideal S1x1024 .f32) (ix2 0 k) = (m (c.tc.loc main_arg4) : Vec Ideal S1x1024 .f32) (ix2 0 k) := by
  blk_point [iblk, V, idx4 t]

theorem b_iblk (c : Dev nD) (t : Fin cfg0.N) (k : Fin 1024) :
    (iblk m c 5 t : Vec Ideal S1x1024 .f32) (ix2 0 k) = (m (c.tc.loc main_arg5) : Vec Ideal S1x1024 .f32) (ix2 0 k) := by
  blk_point [iblk, V, idx5 t]

theorem post_iblk (c : Dev nD) (t : Fin cfg0.N) (r : Fin 1024) (k : Fin 1024) :
    k0_pay1 (k0_pay3 (iblk m c 0 t) (iblk m c 1 t) (iblk m c 2 t) (iblk m c 3 t)) (iblk m c 4 t) (iblk m c 5 t) (ix2 r k)
      = post (m (c.tc.loc main_arg0)) (m (c.tc.loc main_arg1)) (m (c.tc.loc main_arg2)) (m (c.tc.loc main_arg3)) (m (c.tc.loc main_arg4)) (m (c.tc.loc main_arg5)) (ix2 ⟨t.val * 1024 + r.val, tok_lt t r⟩ k) := by
  refine (pay1_apply _ _ _ _ _ _ _ _).trans ?_
  have hz : (fun j => resid ((iblk m c 2 t : Vec Ideal S1024x1024 .f32) (ix2 r j)) ((iblk m c 3 t : Vec Ideal S1x3x1024 .f32) (ix3 0 2 j))
        (k0_pay2 (iblk m c 0 t) (iblk m c 1 t) (ix2 r j)))
      = fun j => resid ((m (c.tc.loc main_arg2) : Vec Ideal S8192x1024 .f32) (ix2 ⟨t.val * 1024 + r.val, tok_lt t r⟩ j))
        ((m (c.tc.loc main_arg3) : Vec Ideal S2x3x1024 .f32) (ix3 ⟨(t.val * 1024 + r.val) / 4096, by have h := tok_lt t r; omega⟩ 2 j))
        (proj (m (c.tc.loc main_arg0)) (m (c.tc.loc main_arg1)) (ix2 ⟨t.val * 1024 + r.val, tok_lt t r⟩ j)) := by
    funext j
    have he : (⟨t.val / 4, ex_lt t⟩ : Fin 2) = ⟨(t.val * 1024 + r.val) / 4096, by have h := tok_lt t r; omega⟩ := by
      apply Fin.ext
      have hr := r.isLt
      show t.val / 4 = (t.val * 1024 + r.val) / 4096
      omega
    rw [← he]
    exact congr (congrArg₂ resid (x_iblk m c t r j) (md_iblk m c t j)) (proj_iblk m c t r j)
  unfold post
  exact congrFun (congr (congr (congrArg FOut.norm hz) (g_iblk m c t k)) (b_iblk m c t k)) k

theorem arr6 (c : Dev nD) : (dats m 0 c).arrAt 6 cfg0.N = proj (m (c.tc.loc main_arg0)) (m (c.tc.loc main_arg1)) := by
  refine (dats m 0 c).arrAt_eq_of_covers 6 _ (by decide +kernel) fun t hf y => ?_
  blk_simp
  rw [after0_6]
  frame_out
  idx_vars y
  refine (proj_iblk m c t _ _).trans (congrArg _ ?_)
  blk_ext [idx6 t]

theorem arr7 (c : Dev nD) : (dats m 0 c).arrAt 7 cfg0.N
    = post (m (c.tc.loc main_arg0)) (m (c.tc.loc main_arg1)) (m (c.tc.loc main_arg2)) (m (c.tc.loc main_arg3)) (m (c.tc.loc main_arg4)) (m (c.tc.loc main_arg5)) := by
  refine (dats m 0 c).arrAt_eq_of_covers 7 _ (by decide +kernel) fun t hf y => ?_
  blk_simp
  rw [after0_7]
  frame_out
  idx_vars y
  refine (post_iblk m c t _ _).trans (congrArg _ ?_)
  blk_ext [idx7 t]

end Cert.Proof.MxOut

end
-- ==== Proof.MxOutClaim.lean ====
module

public import proofs.«01_k».proof.Defs
public import proofs.«01_k».proof.Proof.Gen.MxOutIdeal.Value
public import proofs.«01_k».proof.Proof.MxOutValue
public import proofs.«01_k».proof.Proof.Gen.MxOutRefIdeal.Run
public import Idealize.ShloMosaic.Lib.Pipeline.ValueKit
public import Idealize.ShloMosaic.Lib.Pipeline.ReadBack

/-!
The value claim of the output call of the attention and of the mLSTM: the kernel's two arrays, computed in `MxOutValue`, are
the ones the reference's host operations compute.
-/

@[expose] public section

set_option maxRecDepth 16384

noncomputable section

namespace Cert.Proof.MxOut

open Cert.MxOutIdeal Cert.MxOutIdeal.Gen Idealize.ShloMosaic Idealize.ShloMosaic.TcCoe Idealize.SL.Sem
open Idealize.ShloMosaic.Pipeline (Dat)
open scoped BigOperators

/-! ## The reference's operations, at variable arrays -/

theorem ref_dot (a : FVec Ideal MxOutRefIdeal.S8192x1024 .bf16) (w : FVec Ideal MxOutRefIdeal.S1x1024x1024 .bf16) (r : Fin 8192) (k : Fin 1024) :
    (Host.dotGeneral (F := Ideal) MxOutRefIdeal.dot_S8192x1024_S1024x1024_S8192x1024_1_0_0_1_n_n none a
      (shapeCast MxOutRefIdeal.S1024x1024 w MxOutRefIdeal.Gen.shapeCasts_S1x1024x1024_S1024x1024)
      : FVec Ideal MxOutRefIdeal.S8192x1024 .f32) (ix2 r k) = proj a w (ix2 r k) := by
  unfold proj
  pointwise

theorem ref_norm (z : Vec Ideal MxOutRefIdeal.S2x4096x1024 .f32) (g b : Vec Ideal MxOutRefIdeal.S1x1024 .f32) (r : Fin 8192) (k : Fin 1024) :
    (shapeCast MxOutRefIdeal.S8192x1024 (addf (F := Ideal) (mulf (F := Ideal) (mulf (F := Ideal) (subf (F := Ideal) z (broadcastInDim MxOutRefIdeal.S2x4096x1024 ![0, 1, 2] MxOutRefIdeal.Gen.bcast_S2x4096x1_S2x4096x1024_0_1_2 (Host.divf (F := Ideal) (broadcastInDim MxOutRefIdeal.S2x4096x1 ![0, 1] MxOutRefIdeal.Gen.bcast_S2x4096_S2x4096x1_0_1 (Host.reduceAdd (F := Ideal) z (constant (F := Ideal) MxOutRefIdeal.S_ .f32 0x00000000#32) MxOutRefIdeal.Gen.reducesTo_S2x4096x1024_S2x4096_d2 MxOutRefIdeal.Gen.h_S_)) (broadcastInDim MxOutRefIdeal.S2x4096x1 ![] MxOutRefIdeal.Gen.bcast_S_S2x4096x1 (constant (F := Ideal) MxOutRefIdeal.S_ .f32 0x44800000#32))))) (broadcastInDim MxOutRefIdeal.S2x4096x1024 ![0, 1, 2] MxOutRefIdeal.Gen.bcast_S2x4096x1_S2x4096x1024_0_1_2 (Host.rsqrt (F := Ideal) (addf (F := Ideal) (Host.divf (F := Ideal) (broadcastInDim MxOutRefIdeal.S2x4096x1 ![0, 1] MxOutRefIdeal.Gen.bcast_S2x4096_S2x4096x1_0_1 (Host.reduceAdd (F := Ideal) (mulf (F := Ideal) (subf (F := Ideal) z (broadcastInDim MxOutRefIdeal.S2x4096x1024 ![0, 1, 2] MxOutRefIdeal.Gen.bcast_S2x4096x1_S2x4096x1024_0_1_2 (Host.divf (F := Ideal) (broadcastInDim MxOutRefIdeal.S2x4096x1 ![0, 1] MxOutRefIdeal.Gen.bcast_S2x4096_S2x4096x1_0_1 (Host.reduceAdd (F := Ideal) z (constant (F := Ideal) MxOutRefIdeal.S_ .f32 0x00000000#32) MxOutRefIdeal.Gen.reducesTo_S2x4096x1024_S2x4096_d2 MxOutRefIdeal.Gen.h_S_)) (broadcastInDim MxOutRefIdeal.S2x4096x1 ![] MxOutRefIdeal.Gen.bcast_S_S2x4096x1 (constant (F := Ideal) MxOutRefIdeal.S_ .f32 0x44800000#32))))) (subf (F := Ideal) z (broadcastInDim MxOutRefIdeal.S2x4096x1024 ![0, 1, 2] MxOutRefIdeal.Gen.bcast_S2x4096x1_S2x4096x1024_0_1_2 (Host.divf (F := Ideal) (broadcastInDim MxOutRefIdeal.S2x4096x1 ![0, 1] MxOutRefIdeal.Gen.bcast_S2x4096_S2x4096x1_0_1 (Host.reduceAdd (F := Ideal) z (constant (F := Ideal) MxOutRefIdeal.S_ .f32 0x00000000#32) MxOutRefIdeal.Gen.reducesTo_S2x4096x1024_S2x4096_d2 MxOutRefIdeal.Gen.h_S_)) (broadcastInDim MxOutRefIdeal.S2x4096x1 ![] MxOutRefIdeal.Gen.bcast_S_S2x4096x1 (constant (F := Ideal) MxOutRefIdeal.S_ .f32 0x44800000#32)))))) (constant (F := Ideal) MxOutRefIdeal.S_ .f32 0x00000000#32) MxOutRefIdeal.Gen.reducesTo_S2x4096x1024_S2x4096_d2 MxOutRefIdeal.Gen.h_S_)) (broadcastInDim MxOutRefIdeal.S2x4096x1 ![] MxOutRefIdeal.Gen.bcast_S_S2x4096x1 (constant (F := Ideal) MxOutRefIdeal.S_ .f32 0x44800000#32))) (broadcastInDim MxOutRefIdeal.S2x4096x1 ![] MxOutRefIdeal.Gen.bcast_S_S2x4096x1 (constant (F := Ideal) MxOutRefIdeal.S_ .f32 0x3727C5AC#32)))))) (broadcastInDim MxOutRefIdeal.S2x4096x1024 ![0, 1, 2] MxOutRefIdeal.Gen.bcast_S1x1x1024_S2x4096x1024_0_1_2 (broadcastInDim MxOutRefIdeal.S1x1x1024 ![1, 2] MxOutRefIdeal.Gen.bcast_S1x1024_S1x1x1024_1_2 g))) (broadcastInDim MxOutRefIdeal.S2x4096x1024 ![0, 1, 2] MxOutRefIdeal.Gen.bcast_S1x1x1024_S2x4096x1024_0_1_2 (broadcastInDim MxOutRefIdeal.S1x1x1024 ![1, 2] MxOutRefIdeal.Gen.bcast_S1x1024_S1x1x1024_1_2 b))) MxOutRefIdeal.Gen.shapeCasts_S2x4096x1024_S8192x1024 : Vec Ideal MxOutRefIdeal.S8192x1024 .f32) (ix2 r k)
    = FOut.norm (fun j => z (ix3 ⟨r.val / 4096, by omega⟩ ⟨r.val % 4096, by omega⟩ j)) (g (ix2 0 k)) (b (ix2 0 k)) k := by
  unfold FOut.norm
  pointwise

theorem ref_resid (x o : Vec Ideal MxOutRefIdeal.S8192x1024 .f32) (md : Vec Ideal MxOutRefIdeal.S2x3x1024 .f32) (r : Fin 8192) (j : Fin 1024) :
    (addf (F := Ideal) (mulf (F := Ideal) (broadcastInDim MxOutRefIdeal.S2x4096x1024 ![] MxOutRefIdeal.Gen.bcast_S_S2x4096x1024 (constant (F := Ideal) MxOutRefIdeal.S_ .f32 0x3FB504F3#32)) (shapeCast MxOutRefIdeal.S2x4096x1024 x MxOutRefIdeal.Gen.shapeCasts_S8192x1024_S2x4096x1024)) (mulf (F := Ideal) (broadcastInDim MxOutRefIdeal.S2x4096x1024 ![0, 1, 2] MxOutRefIdeal.Gen.bcast_S2x1x1024_S2x4096x1024_0_1_2 (addf (F := Ideal) (broadcastInDim MxOutRefIdeal.S2x1x1024 ![] MxOutRefIdeal.Gen.bcast_S_S2x1x1024 (constant (F := Ideal) MxOutRefIdeal.S_ .f32 0x3F800000#32)) (extractStridedSlice MxOutRefIdeal.S2x1x1024 ![0, 2, 0] md MxOutRefIdeal.Gen.slices_S2x3x1024_S2x1x1024_0_2_0))) (shapeCast MxOutRefIdeal.S2x4096x1024 o MxOutRefIdeal.Gen.shapeCasts_S8192x1024_S2x4096x1024)) : Vec Ideal MxOutRefIdeal.S2x4096x1024 .f32)
      (ix3 ⟨r.val / 4096, by omega⟩ ⟨r.val % 4096, by omega⟩ j)
    = resid (x (ix2 r j)) (md (ix3 ⟨r.val / 4096, by omega⟩ 2 j)) (o (ix2 r j)) := by
  unfold resid
  pointwise

/-! ## The claim -/

/-- The idealized kernel and the idealized reference, from the same arguments, end with the same two arrays. -/
theorem algebraic : Cert.algebraic_MxOutIdeal_MxOutRefIdeal := by
  intro m g m' g' _ hagree
  refine ⟨fun c => proj (m (c.tc.loc main_arg0)) (m (c.tc.loc main_arg1)),
    fun c => post (m (c.tc.loc main_arg0)) (m (c.tc.loc main_arg1)) (m (c.tc.loc main_arg2)) (m (c.tc.loc main_arg3)) (m (c.tc.loc main_arg4)) (m (c.tc.loc main_arg5)), ?_, ?_⟩
  · refine (θ_run _ _ _).mono (fun r h c => ?_) (Cert.MxOutIdeal.Value.run_blocks (F := Ideal) m g)
    obtain ⟨h6, h7, h⟩ := h c
    exact ⟨h6.trans (arr6 m c), h7.trans (arr7 m c), h⟩
  · refine (θ_run _ _ _).mono (fun r h c => ?_) (Cert.MxOutRefIdeal.Value.run (F := Ideal) m' g')
    obtain ⟨h6, h7, h⟩ := h c
    obtain ⟨e0, e1, e2, e3, e4, e5⟩ := hagree c
    unfold MxOutRefIdeal.Value.res_main_v36 at h7
    rw [e0, e1] at h6
    rw [e0, e1, e2, e3, e4, e5] at h7
    refine ⟨h6.trans ?_, h7.trans ?_, h⟩
    · funext y
      idx_vars y
      exact ref_dot _ _ _ _
    · funext y
      idx_vars y
      refine (ref_norm _ _ _ _ _).trans ?_
      refine congrArg (fun z : Fin 1024 → EReal => FOut.norm z _ _ _) (funext fun j => ?_)
      refine (ref_resid _ _ _ _ j).trans ?_
      exact congrArg (fun p : EReal => resid _ _ p) (ref_dot _ _ _ _)

end Cert.Proof.MxOut

end
-- ==== Proof.AdamWValue.lean ====
module

public import proofs.«01_k».proof.Defs
public import proofs.«01_k».proof.Proof.Gen.AdamWIdeal.Value
public import Idealize.ShloMosaic.Lib.Pipeline.ValueKit
public import Idealize.ShloMosaic.Lib.Pipeline.ReadBack

/-!
The value of the optimiser call on one weight (`adamw_ada_w`): the step and the two new moments, element by element.
-/

@[expose] public section

set_option maxRecDepth 16384

noncomputable section

namespace Cert.Proof.AdamW

open Cert.AdamWIdeal Cert.AdamWIdeal.Gen Idealize.ShloMosaic Idealize.ShloMosaic.TcCoe Idealize.SL.Sem
open Idealize.ShloMosaic.Pipeline (Dat)
open scoped BigOperators

/-- The new first moment of one element. -/
def moment1 (g m : EReal) : EReal := Ideal.ofBits .f32 0x3F666666#32 * m + Ideal.ofBits .f32 0x3DCCCCCD#32 * g

/-- The new second moment of one element. -/
def moment2 (g v : EReal) : EReal := Ideal.ofBits .f32 0x3F7FBE77#32 * v + Ideal.ofBits .f32 0x3A83126F#32 * (g * g)

/-- The step of one element. -/
def delta (w g m v : EReal) : EReal :=
  Ideal.ofBits .f32 0xBA83126F#32 * (Ideal.div (Ideal.div (moment1 g m) (Ideal.ofBits .f32 0x3F26BD02#32))
      (Ideal.sqrt (Ideal.div (moment2 g v) (Ideal.ofBits .f32 0x3C231ACC#32)) + Ideal.ofBits .f32 0x322BCC77#32)
    + Ideal.ofBits .f32 0x3C23D70A#32 * w)

def deltaArr (w g m v : Vec Ideal S2048x1152 .f32) : Vec Ideal S2048x1152 .f32 := fun i => delta (w i) (g i) (m i) (v i)
def moment1Arr (g m : Vec Ideal S2048x1152 .f32) : Vec Ideal S2048x1152 .f32 := fun i => moment1 (g i) (m i)
def moment2Arr (g v : Vec Ideal S2048x1152 .f32) : Vec Ideal S2048x1152 .f32 := fun i => moment2 (g i) (v i)

theorem pay1_apply (g m : Vec Ideal S512x1152 .f32) (y : S512x1152.Idx) : k0_pay1 g m y = moment1 (g y) (m y) := by
  unfold moment1
  pointwise [k0_pay1]

theorem pay2_apply (g v : Vec Ideal S512x1152 .f32) (y : S512x1152.Idx) : k0_pay2 g v y = moment2 (g y) (v y) := by
  unfold moment2
  pointwise [k0_pay2]

theorem pay3_apply (g m v w : Vec Ideal S512x1152 .f32) (y : S512x1152.Idx) :
    k0_pay3 g m v w y = delta (w y) (g y) (m y) (v y) := by
  unfold delta moment1 moment2
  pointwise [k0_pay3, k0_pay1, k0_pay2]

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

/-- Row `r` of the block of point `t`. -/
theorem row_lt (t : Fin grid0.N) (r : Fin 512) : t.val * 512 + r.val < 2048 := by
  have h : t.val < 4 := t.isLt
  omega

theorem iblk0_apply (c : Dev nD) (t : Fin cfg0.N) (r : Fin 512) (k : Fin 1152) :
    (iblk m c 0 t : Vec Ideal S512x1152 .f32) (ix2 r k) = (m (c.tc.loc main_arg0) : Vec Ideal S2048x1152 .f32) (ix2 ⟨t.val * 512 + r.val, row_lt t r⟩ k) := by
  blk_point [iblk, V, idx0 t]

theorem iblk1_apply (c : Dev nD) (t : Fin cfg0.N) (r : Fin 512) (k : Fin 1152) :
    (iblk m c 1 t : Vec Ideal S512x1152 .f32) (ix2 r k) = (m (c.tc.loc main_arg1) : Vec Ideal S2048x1152 .f32) (ix2 ⟨t.val * 512 + r.val, row_lt t r⟩ k) := by
  blk_point [iblk, V, idx1 t]

theorem iblk2_apply (c : Dev nD) (t : Fin cfg0.N) (r : Fin 512) (k : Fin 1152) :
    (iblk m c 2 t : Vec Ideal S512x1152 .f32) (ix2 r k) = (m (c.tc.loc main_arg2) : Vec Ideal S2048x1152 .f32) (ix2 ⟨t.val * 512 + r.val, row_lt t r⟩ k) := by
  blk_point [iblk, V, idx2 t]

theorem iblk3_apply (c : Dev nD) (t : Fin cfg0.N) (r : Fin 512) (k : Fin 1152) :
    (iblk m c 3 t : Vec Ideal S512x1152 .f32) (ix2 r k) = (m (c.tc.loc main_arg3) : Vec Ideal S2048x1152 .f32) (ix2 ⟨t.val * 512 + r.val, row_lt t r⟩ k) := by
  blk_point [iblk, V, idx3 t]

theorem arr4 (c : Dev nD) : (dats m 0 c).arrAt 4 cfg0.N = deltaArr (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  idx_vars y
  refine (pay3_apply _ _ _ _ _).trans ((congr (congr (congrArg₂ delta (iblk0_apply m c t _ _) (iblk1_apply m c t _ _)) (iblk2_apply m c t _ _)) (iblk3_apply m c t _ _)).trans ?_)
  refine congrArg (deltaArr (m (c.tc.loc main_arg0)) (m (c.tc.loc main_arg1)) (m (c.tc.loc main_arg2)) (m (c.tc.loc main_arg3))) ?_
  blk_ext [idx4 t]

theorem arr5 (c : Dev nD) : (dats m 0 c).arrAt 5 cfg0.N = moment1Arr (m (c.tc.loc main_arg1)) (m (c.tc.loc main_arg2)) := by
  refine (dats m 0 c).arrAt_eq_of_covers 5 _ (by decide +kernel) fun t hf y => ?_
  blk_simp
  rw [after0_5]
  frame_out
  idx_vars y
  refine (pay1_apply _ _ _).trans ((congrArg₂ moment1 (iblk1_apply m c t _ _) (iblk2_apply m c t _ _)).trans ?_)
  refine congrArg (moment1Arr (m (c.tc.loc main_arg1)) (m (c.tc.loc main_arg2))) ?_
  blk_ext [idx5 t]

theorem arr6 (c : Dev nD) : (dats m 0 c).arrAt 6 cfg0.N = moment2Arr (m (c.tc.loc main_arg1)) (m (c.tc.loc main_arg3)) := by
  refine (dats m 0 c).arrAt_eq_of_covers 6 _ (by decide +kernel) fun t hf y => ?_
  blk_simp
  rw [after0_6]
  frame_out
  idx_vars y
  refine (pay2_apply _ _ _).trans ((congrArg₂ moment2 (iblk1_apply m c t _ _) (iblk3_apply m c t _ _)).trans ?_)
  refine congrArg (moment2Arr (m (c.tc.loc main_arg1)) (m (c.tc.loc main_arg3))) ?_
  blk_ext [idx6 t]

end Cert.Proof.AdamW

end
-- ==== Proof.AdamWClaim.lean ====
module

public import proofs.«01_k».proof.Defs
public import proofs.«01_k».proof.Proof.Gen.AdamWIdeal.Value
public import proofs.«01_k».proof.Proof.AdamWValue
public import proofs.«01_k».proof.Proof.Gen.AdamWRefIdeal.Run
public import Idealize.ShloMosaic.Lib.Pipeline.ValueKit
public import Idealize.ShloMosaic.Lib.Pipeline.ReadBack

/-!
The value claim of the optimiser call on one weight: the kernel's three arrays, computed in `AdamWValue`, are the ones the
reference's host operations compute.
-/

@[expose] public section

set_option maxRecDepth 16384

noncomputable section

namespace Cert.Proof.AdamW

open Cert.AdamWIdeal Cert.AdamWIdeal.Gen Idealize.ShloMosaic Idealize.ShloMosaic.TcCoe Idealize.SL.Sem
open Idealize.ShloMosaic.Pipeline (Dat)
open scoped BigOperators

/-- The idealized kernel and the idealized reference, from the same arguments, end with the same three arrays. -/
theorem algebraic : Cert.algebraic_AdamWIdeal_AdamWRefIdeal := by
  intro m g m' g' _ hagree
  refine ⟨fun c => deltaArr (m (c.tc.loc main_arg0)) (m (c.tc.loc main_arg1)) (m (c.tc.loc main_arg2)) (m (c.tc.loc main_arg3)),
    fun c => moment1Arr (m (c.tc.loc main_arg1)) (m (c.tc.loc main_arg2)), fun c => moment2Arr (m (c.tc.loc main_arg1)) (m (c.tc.loc main_arg3)), ?_, ?_⟩
  · refine (θ_run _ _ _).mono (fun r h c => ?_) (Cert.AdamWIdeal.Value.run_blocks (F := Ideal) m g)
    obtain ⟨h4, h5, h6, h⟩ := h c
    exact ⟨h4.trans (arr4 m c), h5.trans (arr5 m c), h6.trans (arr6 m c), h⟩
  · refine (θ_run _ _ _).mono (fun r h c => ?_) (Cert.AdamWRefIdeal.Value.run (F := Ideal) m' g')
    obtain ⟨h4, h5, h6, h⟩ := h c
    obtain ⟨e0, e1, e2, e3⟩ := hagree c
    rw [e0, e1, e2, e3] at h4
    rw [e1, e2] at h5
    rw [e1, e3] at h6
    refine ⟨h4.trans ?_, h5.trans ?_, h6.trans ?_, h⟩
    · funext y
      unfold deltaArr delta moment1 moment2
      pointwise
    · funext y
      unfold moment1Arr moment1
      pointwise
    · funext y
      unfold moment2Arr moment2
      pointwise

end Cert.Proof.AdamW

end
-- ==== Proof.AdaBValue.lean ====
module

public import proofs.«01_k».proof.Defs
public import proofs.«01_k».proof.Proof.Gen.AdaBIdeal.Value
public import Idealize.ShloMosaic.Lib.Pipeline.ValueKit
public import Idealize.ShloMosaic.Lib.Pipeline.ReadBack

/-!
The value of the backward call of the conditioning layer (`ada_bwd`): the gradients of its weight and of its bias, as
functions of the whole arrays.
-/

@[expose] public section

set_option maxRecDepth 16384

noncomputable section

namespace Cert.Proof.AdaB

open Cert.AdaBIdeal Cert.AdaBIdeal.Gen Idealize.ShloMosaic Idealize.ShloMosaic.TcCoe Idealize.SL.Sem
open Idealize.ShloMosaic.Pipeline (Dat)
open scoped BigOperators

/-- The conditioning value of one element. -/
def silu (x : EReal) : EReal := x * Ideal.div 1 (1 + Ideal.exp (-x))

/-- The gradient of the weight, from the conditioning vectors and the modulation's gradient. -/
def gradW (a0 : Vec Ideal S16x1024 .f32) (a1 : Vec Ideal S2x16x1152 .f32) : Vec Ideal S2x1024x1152 .f32 :=
  fun i => ∑ b : Fin 16, silu (a0 (ix2 b (i 1))) * a1 (ix3 (i 0) b (i 2))

theorem gradW_comm (a0 : Vec Ideal S16x1024 .f32) (a1 : Vec Ideal S2x16x1152 .f32) (i : S2x1024x1152.Idx) :
    gradW a0 a1 i = ∑ b : Fin 16, a1 (ix3 (i 0) b (i 2)) * silu (a0 (ix2 b (i 1))) :=
  Finset.sum_congr rfl fun _ _ => mul_comm _ _

/-- The gradient of the bias: the modulation's gradient summed over the examples. -/
def gradB (a2 : Vec Ideal S2x16x9216 .f32) : Vec Ideal S2x1x9216 .f32 :=
  fun i => ∑ b : Fin 16, a2 (ix3 (i 0) b (i 2))

theorem pay1_apply (x0 : Vec Ideal S1024x16 .f32) (x1 : Vec Ideal S1x16x1152 .f32) (o : Fin 1) (d : Fin 1024) (k : Fin 1152) :
    k0_pay1 x0 x1 (ix3 o d k) = ∑ b : Fin 16, silu (x0 (ix2 d b)) * x1 (ix3 0 b k) := by
  unfold silu
  pointwise [k0_pay1]
  simp only [sub_eq_add_neg, zero_add]

theorem pay2_apply (x2 : Vec Ideal S1x16x9216 .f32) (o p : Fin 1) (k : Fin 9216) :
    k0_pay2 x2 (ix3 o p k) = ∑ b : Fin 16, x2 (ix3 0 b k) := by
  pointwise [k0_pay2]

variable (m : (ℓ : Loc nD τ sig) → Buf (Elt Ideal) ℓ)

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx4 : ∀ t : Fin grid0.N, win0_4.index t = ![t.val, 0, 0] := by decide +kernel

theorem V_v0 (c : Dev nD) : V m c main_v0
    = transpose S1024x16 [1, 0] (m (c.tc.loc main_arg0)) transposes_S16x1024_S1024x16_1_0 := by
  unfold V
  after_results

/-- The layer of point `t`. -/
theorem lay_lt (t : Fin grid0.N) : t.val < 2 := t.isLt

theorem iblk0_apply (c : Dev nD) (t : Fin cfg0.N) (d : Fin 1024) (b : Fin 16) :
    (iblk m c 0 t : Vec Ideal S1024x16 .f32) (ix2 d b) = (m (c.tc.loc main_arg0) : Vec Ideal S16x1024 .f32) (ix2 b d) := by
  refine Eq.trans (b := (V m c main_v0 : Vec Ideal S1024x16 .f32) (ix2 d b)) ?_ ?_
  · blk_point [iblk, idx0 t]
  · rw [V_v0]
    pointwise

theorem iblk1_apply (c : Dev nD) (t : Fin cfg0.N) (b : Fin 16) (k : Fin 1152) :
    (iblk m c 1 t : Vec Ideal S1x16x1152 .f32) (ix3 0 b k) = (m (c.tc.loc main_arg1) : Vec Ideal S2x16x1152 .f32) (ix3 ⟨t.val, lay_lt t⟩ b k) := by
  blk_point [iblk, V, idx1 t]

theorem iblk2_apply (c : Dev nD) (t : Fin cfg0.N) (b : Fin 16) (k : Fin 9216) :
    (iblk m c 2 t : Vec Ideal S1x16x9216 .f32) (ix3 0 b k) = (m (c.tc.loc main_arg2) : Vec Ideal S2x16x9216 .f32) (ix3 ⟨t.val, lay_lt t⟩ b k) := by
  blk_point [iblk, V, idx2 t]

theorem sum2 (c : Dev nD) (t : Fin cfg0.N) (o p : Fin 1) (k : Fin 9216) :
    k0_pay2 (iblk m c 2 t) (ix3 o p k) = gradB (m (c.tc.loc main_arg2)) (ix3 ⟨t.val, lay_lt t⟩ p k) := by
  refine (pay2_apply _ _ _ _).trans ?_
  unfold gradB
  exact congrArg (fun f : Fin 16 → EReal => ∑ b, f b) (funext fun b => iblk2_apply m c t b k)

theorem arr3 (c : Dev nD) : (dats m 0 c).arrAt 3 cfg0.N = gradW (m (c.tc.loc main_arg0)) (m (c.tc.loc main_arg1)) := by
  refine (dats m 0 c).arrAt_eq_of_covers 3 _ (by decide +kernel) fun t hf y => ?_
  blk_simp
  rw [after0_3]
  frame_out
  idx_vars y
  refine (pay1_apply _ _ _ _ _).trans ((Finset.sum_congr rfl fun b _ =>
    congrArg₂ (fun a b : EReal => silu a * b) (iblk0_apply m c t _ b) (iblk1_apply m c t b _)).trans ?_)
  refine congrArg (gradW (m (c.tc.loc main_arg0)) (m (c.tc.loc main_arg1))) (a₁ := ix3 ⟨t.val, lay_lt t⟩ _ _) ?_
  blk_ext [idx3 t]

theorem arr4 (c : Dev nD) : (dats m 0 c).arrAt 4 cfg0.N = gradB (m (c.tc.loc main_arg2)) := by
  refine (dats m 0 c).arrAt_eq_of_covers 4 _ (by decide +kernel) fun t hf y => ?_
  blk_simp
  rw [after0_4]
  frame_out
  idx_vars y
  refine (sum2 m c t _ _ _).trans (congrArg _ ?_)
  blk_ext [idx4 t]

end Cert.Proof.AdaB

end
-- ==== Proof.AdaBClaim.lean ====
module

public import proofs.«01_k».proof.Defs
public import proofs.«01_k».proof.Proof.Gen.AdaBIdeal.Value
public import proofs.«01_k».proof.Proof.AdaBValue
public import proofs.«01_k».proof.Proof.Gen.AdaBRefIdeal.Run
public import Idealize.ShloMosaic.Lib.Pipeline.ValueKit
public import Idealize.ShloMosaic.Lib.Pipeline.ReadBack

/-!
The value claim of the backward call of the conditioning layer: the kernel's two arrays, computed in `AdaBValue`, are the
ones the reference's host operations compute.
-/

@[expose] public section

set_option maxRecDepth 16384

noncomputable section

namespace Cert.Proof.AdaB

open Cert.AdaBIdeal Cert.AdaBIdeal.Gen Idealize.ShloMosaic Idealize.ShloMosaic.TcCoe Idealize.SL.Sem
open Idealize.ShloMosaic.Pipeline (Dat)
open scoped BigOperators

/-- The idealized kernel and the idealized reference, from the same arguments, end with the same two gradients. -/
theorem algebraic : Cert.algebraic_AdaBIdeal_AdaBRefIdeal := by
  intro m g m' g' _ hagree
  refine ⟨fun c => gradW (m (c.tc.loc main_arg0)) (m (c.tc.loc main_arg1)), fun c => gradB (m (c.tc.loc main_arg2)), ?_, ?_⟩
  · refine (θ_run _ _ _).mono (fun r h c => ?_) (Cert.AdaBIdeal.Value.run_blocks (F := Ideal) m g)
    obtain ⟨h3, h4, h⟩ := h c
    exact ⟨h3.trans (arr3 m c), h4.trans (arr4 m c), h⟩
  · refine (θ_run _ _ _).mono (fun r h c => ?_) (Cert.AdaBRefIdeal.Value.run (F := Ideal) m' g')
    obtain ⟨h3, h4, h⟩ := h c
    obtain ⟨e0, e1, e2⟩ := hagree c
    rw [e0, e1] at h3
    rw [e2] at h4
    refine ⟨h3.trans ?_, h4.trans ?_, h⟩
    · funext y
      idx_vars y
      refine Eq.trans ?_ (gradW_comm _ _ _).symm
      unfold silu
      pointwise
    · funext y
      idx_vars y
      unfold gradB
      pointwise

end Cert.Proof.AdaB

end
-- ==== Proof.AdamBValue.lean ====
module

public import proofs.«01_k».proof.Defs
public import proofs.«01_k».proof.Proof.Gen.AdamBIdeal.Value
public import proofs.«01_k».proof.Proof.AdamWValue
public import Idealize.ShloMosaic.Lib.Pipeline.ValueKit
public import Idealize.ShloMosaic.Lib.Pipeline.ReadBack

/-!
The value of the optimiser call on one weight (`adamw_ada_b`): the step and the two new moments, element by element.
-/

@[expose] public section

set_option maxRecDepth 16384

noncomputable section

namespace Cert.Proof.AdamB

open Cert.AdamBIdeal Cert.AdamBIdeal.Gen Idealize.ShloMosaic Idealize.ShloMosaic.TcCoe Idealize.SL.Sem
open Idealize.ShloMosaic.Pipeline (Dat)
open Cert.Proof.AdamW (moment1 moment2 delta)
open scoped BigOperators

def deltaArr (w g m v : Vec Ideal S2x9216 .f32) : Vec Ideal S2x9216 .f32 := fun i => delta (w i) (g i) (m i) (v i)
def moment1Arr (g m : Vec Ideal S2x9216 .f32) : Vec Ideal S2x9216 .f32 := fun i => moment1 (g i) (m i)
def moment2Arr (g v : Vec Ideal S2x9216 .f32) : Vec Ideal S2x9216 .f32 := fun i => moment2 (g i) (v i)

theorem pay1_apply (g m : Vec Ideal S2x9216 .f32) (y : S2x9216.Idx) : k0_pay1 g m y = moment1 (g y) (m y) := by
  unfold moment1
  pointwise [k0_pay1]

theorem pay2_apply (g v : Vec Ideal S2x9216 .f32) (y : S2x9216.Idx) : k0_pay2 g v y = moment2 (g y) (v y) := by
  unfold moment2
  pointwise [k0_pay2]

theorem pay3_apply (g m v w : Vec Ideal S2x9216 .f32) (y : S2x9216.Idx) :
    k0_pay3 g m v w y = delta (w y) (g y) (m y) (v y) := by
  unfold delta moment1 moment2
  pointwise [k0_pay3, k0_pay1, k0_pay2]

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

/-- Row `r` of the block of point `t`. -/
theorem row_lt (t : Fin grid0.N) (r : Fin 2) : t.val * 2 + r.val < 2 := by
  have h : t.val < 1 := t.isLt
  omega

theorem iblk0_apply (c : Dev nD) (t : Fin cfg0.N) (r : Fin 2) (k : Fin 9216) :
    (iblk m c 0 t : Vec Ideal S2x9216 .f32) (ix2 r k) = (m (c.tc.loc main_arg0) : Vec Ideal S2x9216 .f32) (ix2 ⟨t.val * 2 + r.val, row_lt t r⟩ k) := by
  blk_point [iblk, V, idx0 t]

theorem iblk1_apply (c : Dev nD) (t : Fin cfg0.N) (r : Fin 2) (k : Fin 9216) :
    (iblk m c 1 t : Vec Ideal S2x9216 .f32) (ix2 r k) = (m (c.tc.loc main_arg1) : Vec Ideal S2x9216 .f32) (ix2 ⟨t.val * 2 + r.val, row_lt t r⟩ k) := by
  blk_point [iblk, V, idx1 t]

theorem iblk2_apply (c : Dev nD) (t : Fin cfg0.N) (r : Fin 2) (k : Fin 9216) :
    (iblk m c 2 t : Vec Ideal S2x9216 .f32) (ix2 r k) = (m (c.tc.loc main_arg2) : Vec Ideal S2x9216 .f32) (ix2 ⟨t.val * 2 + r.val, row_lt t r⟩ k) := by
  blk_point [iblk, V, idx2 t]

theorem iblk3_apply (c : Dev nD) (t : Fin cfg0.N) (r : Fin 2) (k : Fin 9216) :
    (iblk m c 3 t : Vec Ideal S2x9216 .f32) (ix2 r k) = (m (c.tc.loc main_arg3) : Vec Ideal S2x9216 .f32) (ix2 ⟨t.val * 2 + r.val, row_lt t r⟩ k) := by
  blk_point [iblk, V, idx3 t]

theorem arr4 (c : Dev nD) : (dats m 0 c).arrAt 4 cfg0.N = deltaArr (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  idx_vars y
  refine (pay3_apply _ _ _ _ _).trans ((congr (congr (congrArg₂ delta (iblk0_apply m c t _ _) (iblk1_apply m c t _ _)) (iblk2_apply m c t _ _)) (iblk3_apply m c t _ _)).trans ?_)
  refine congrArg (deltaArr (m (c.tc.loc main_arg0)) (m (c.tc.loc main_arg1)) (m (c.tc.loc main_arg2)) (m (c.tc.loc main_arg3))) ?_
  blk_ext [idx4 t]

theorem arr5 (c : Dev nD) : (dats m 0 c).arrAt 5 cfg0.N = moment1Arr (m (c.tc.loc main_arg1)) (m (c.tc.loc main_arg2)) := by
  refine (dats m 0 c).arrAt_eq_of_covers 5 _ (by decide +kernel) fun t hf y => ?_
  blk_simp
  rw [after0_5]
  frame_out
  idx_vars y
  refine (pay1_apply _ _ _).trans ((congrArg₂ moment1 (iblk1_apply m c t _ _) (iblk2_apply m c t _ _)).trans ?_)
  refine congrArg (moment1Arr (m (c.tc.loc main_arg1)) (m (c.tc.loc main_arg2))) ?_
  blk_ext [idx5 t]

theorem arr6 (c : Dev nD) : (dats m 0 c).arrAt 6 cfg0.N = moment2Arr (m (c.tc.loc main_arg1)) (m (c.tc.loc main_arg3)) := by
  refine (dats m 0 c).arrAt_eq_of_covers 6 _ (by decide +kernel) fun t hf y => ?_
  blk_simp
  rw [after0_6]
  frame_out
  idx_vars y
  refine (pay2_apply _ _ _).trans ((congrArg₂ moment2 (iblk1_apply m c t _ _) (iblk3_apply m c t _ _)).trans ?_)
  refine congrArg (moment2Arr (m (c.tc.loc main_arg1)) (m (c.tc.loc main_arg3))) ?_
  blk_ext [idx6 t]

end Cert.Proof.AdamB

end
-- ==== Proof.AdamBClaim.lean ====
module

public import proofs.«01_k».proof.Defs
public import proofs.«01_k».proof.Proof.Gen.AdamBIdeal.Value
public import proofs.«01_k».proof.Proof.AdamBValue
public import proofs.«01_k».proof.Proof.Gen.AdamBRefIdeal.Run
public import Idealize.ShloMosaic.Lib.Pipeline.ValueKit
public import Idealize.ShloMosaic.Lib.Pipeline.ReadBack

/-!
The value claim of the optimiser call on one weight: the kernel's three arrays, computed in `AdamBValue`, are the ones the
reference's host operations compute.
-/

@[expose] public section

set_option maxRecDepth 16384

noncomputable section

namespace Cert.Proof.AdamB

open Cert.AdamBIdeal Cert.AdamBIdeal.Gen Idealize.ShloMosaic Idealize.ShloMosaic.TcCoe Idealize.SL.Sem
open Idealize.ShloMosaic.Pipeline (Dat)
open Cert.Proof.AdamW (moment1 moment2 delta)
open scoped BigOperators

/-- The idealized kernel and the idealized reference, from the same arguments, end with the same three arrays. -/
theorem algebraic : Cert.algebraic_AdamBIdeal_AdamBRefIdeal := by
  intro m g m' g' _ hagree
  refine ⟨fun c => deltaArr (m (c.tc.loc main_arg0)) (m (c.tc.loc main_arg1)) (m (c.tc.loc main_arg2)) (m (c.tc.loc main_arg3)),
    fun c => moment1Arr (m (c.tc.loc main_arg1)) (m (c.tc.loc main_arg2)), fun c => moment2Arr (m (c.tc.loc main_arg1)) (m (c.tc.loc main_arg3)), ?_, ?_⟩
  · refine (θ_run _ _ _).mono (fun r h c => ?_) (Cert.AdamBIdeal.Value.run_blocks (F := Ideal) m g)
    obtain ⟨h4, h5, h6, h⟩ := h c
    exact ⟨h4.trans (arr4 m c), h5.trans (arr5 m c), h6.trans (arr6 m c), h⟩
  · refine (θ_run _ _ _).mono (fun r h c => ?_) (Cert.AdamBRefIdeal.Value.run (F := Ideal) m' g')
    obtain ⟨h4, h5, h6, h⟩ := h c
    obtain ⟨e0, e1, e2, e3⟩ := hagree c
    rw [e0, e1, e2, e3] at h4
    rw [e1, e2] at h5
    rw [e1, e3] at h6
    refine ⟨h4.trans ?_, h5.trans ?_, h6.trans ?_, h⟩
    · funext y
      unfold deltaArr delta moment1 moment2
      pointwise
    · funext y
      unfold moment1Arr moment1
      pointwise
    · funext y
      unfold moment2Arr moment2
      pointwise

end Cert.Proof.AdamB

end
-- ==== Proof.AdamLValue.lean ====
module

public import proofs.«01_k».proof.Defs
public import proofs.«01_k».proof.Proof.Gen.AdamLIdeal.Value
public import proofs.«01_k».proof.Proof.AdamWValue
public import Idealize.ShloMosaic.Lib.Pipeline.ValueKit
public import Idealize.ShloMosaic.Lib.Pipeline.ReadBack

/-!
The value of the optimiser call on one weight (`adamw_ln_g`): the step and the two new moments, element by element.
-/

@[expose] public section

set_option maxRecDepth 16384

noncomputable section

namespace Cert.Proof.AdamL

open Cert.AdamLIdeal Cert.AdamLIdeal.Gen Idealize.ShloMosaic Idealize.ShloMosaic.TcCoe Idealize.SL.Sem
open Idealize.ShloMosaic.Pipeline (Dat)
open Cert.Proof.AdamW (moment1 moment2 delta)
open scoped BigOperators

def deltaArr (w g m v : Vec Ideal S6x128 .f32) : Vec Ideal S6x128 .f32 := fun i => delta (w i) (g i) (m i) (v i)
def moment1Arr (g m : Vec Ideal S6x128 .f32) : Vec Ideal S6x128 .f32 := fun i => moment1 (g i) (m i)
def moment2Arr (g v : Vec Ideal S6x128 .f32) : Vec Ideal S6x128 .f32 := fun i => moment2 (g i) (v i)

theorem pay1_apply (g m : Vec Ideal S6x128 .f32) (y : S6x128.Idx) : k0_pay1 g m y = moment1 (g y) (m y) := by
  unfold moment1
  pointwise [k0_pay1]

theorem pay2_apply (g v : Vec Ideal S6x128 .f32) (y : S6x128.Idx) : k0_pay2 g v y = moment2 (g y) (v y) := by
  unfold moment2
  pointwise [k0_pay2]

theorem pay3_apply (g m v w : Vec Ideal S6x128 .f32) (y : S6x128.Idx) :
    k0_pay3 g m v w y = delta (w y) (g y) (m y) (v y) := by
  unfold delta moment1 moment2
  pointwise [k0_pay3, k0_pay1, k0_pay2]

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

/-- Row `r` of the block of point `t`. -/
theorem row_lt (t : Fin grid0.N) (r : Fin 6) : t.val * 6 + r.val < 6 := by
  have h : t.val < 1 := t.isLt
  omega

theorem iblk0_apply (c : Dev nD) (t : Fin cfg0.N) (r : Fin 6) (k : Fin 128) :
    (iblk m c 0 t : Vec Ideal S6x128 .f32) (ix2 r k) = (m (c.tc.loc main_arg0) : Vec Ideal S6x128 .f32) (ix2 ⟨t.val * 6 + r.val, row_lt t r⟩ k) := by
  blk_point [iblk, V, idx0 t]

theorem iblk1_apply (c : Dev nD) (t : Fin cfg0.N) (r : Fin 6) (k : Fin 128) :
    (iblk m c 1 t : Vec Ideal S6x128 .f32) (ix2 r k) = (m (c.tc.loc main_arg1) : Vec Ideal S6x128 .f32) (ix2 ⟨t.val * 6 + r.val, row_lt t r⟩ k) := by
  blk_point [iblk, V, idx1 t]

theorem iblk2_apply (c : Dev nD) (t : Fin cfg0.N) (r : Fin 6) (k : Fin 128) :
    (iblk m c 2 t : Vec Ideal S6x128 .f32) (ix2 r k) = (m (c.tc.loc main_arg2) : Vec Ideal S6x128 .f32) (ix2 ⟨t.val * 6 + r.val, row_lt t r⟩ k) := by
  blk_point [iblk, V, idx2 t]

theorem iblk3_apply (c : Dev nD) (t : Fin cfg0.N) (r : Fin 6) (k : Fin 128) :
    (iblk m c 3 t : Vec Ideal S6x128 .f32) (ix2 r k) = (m (c.tc.loc main_arg3) : Vec Ideal S6x128 .f32) (ix2 ⟨t.val * 6 + r.val, row_lt t r⟩ k) := by
  blk_point [iblk, V, idx3 t]

theorem arr4 (c : Dev nD) : (dats m 0 c).arrAt 4 cfg0.N = deltaArr (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  idx_vars y
  refine (pay3_apply _ _ _ _ _).trans ((congr (congr (congrArg₂ delta (iblk0_apply m c t _ _) (iblk1_apply m c t _ _)) (iblk2_apply m c t _ _)) (iblk3_apply m c t _ _)).trans ?_)
  refine congrArg (deltaArr (m (c.tc.loc main_arg0)) (m (c.tc.loc main_arg1)) (m (c.tc.loc main_arg2)) (m (c.tc.loc main_arg3))) ?_
  blk_ext [idx4 t]

theorem arr5 (c : Dev nD) : (dats m 0 c).arrAt 5 cfg0.N = moment1Arr (m (c.tc.loc main_arg1)) (m (c.tc.loc main_arg2)) := by
  refine (dats m 0 c).arrAt_eq_of_covers 5 _ (by decide +kernel) fun t hf y => ?_
  blk_simp
  rw [after0_5]
  frame_out
  idx_vars y
  refine (pay1_apply _ _ _).trans ((congrArg₂ moment1 (iblk1_apply m c t _ _) (iblk2_apply m c t _ _)).trans ?_)
  refine congrArg (moment1Arr (m (c.tc.loc main_arg1)) (m (c.tc.loc main_arg2))) ?_
  blk_ext [idx5 t]

theorem arr6 (c : Dev nD) : (dats m 0 c).arrAt 6 cfg0.N = moment2Arr (m (c.tc.loc main_arg1)) (m (c.tc.loc main_arg3)) := by
  refine (dats m 0 c).arrAt_eq_of_covers 6 _ (by decide +kernel) fun t hf y => ?_
  blk_simp
  rw [after0_6]
  frame_out
  idx_vars y
  refine (pay2_apply _ _ _).trans ((congrArg₂ moment2 (iblk1_apply m c t _ _) (iblk3_apply m c t _ _)).trans ?_)
  refine congrArg (moment2Arr (m (c.tc.loc main_arg1)) (m (c.tc.loc main_arg3))) ?_
  blk_ext [idx6 t]

end Cert.Proof.AdamL

end
-- ==== Proof.AdamLClaim.lean ====
module

public import proofs.«01_k».proof.Defs
public import proofs.«01_k».proof.Proof.Gen.AdamLIdeal.Value
public import proofs.«01_k».proof.Proof.AdamLValue
public import proofs.«01_k».proof.Proof.Gen.AdamLRefIdeal.Run
public import Idealize.ShloMosaic.Lib.Pipeline.ValueKit
public import Idealize.ShloMosaic.Lib.Pipeline.ReadBack

/-!
The value claim of the optimiser call on one weight: the kernel's three arrays, computed in `AdamLValue`, are the ones the
reference's host operations compute.
-/

@[expose] public section

set_option maxRecDepth 16384

noncomputable section

namespace Cert.Proof.AdamL

open Cert.AdamLIdeal Cert.AdamLIdeal.Gen Idealize.ShloMosaic Idealize.ShloMosaic.TcCoe Idealize.SL.Sem
open Idealize.ShloMosaic.Pipeline (Dat)
open Cert.Proof.AdamW (moment1 moment2 delta)
open scoped BigOperators

/-- The idealized kernel and the idealized reference, from the same arguments, end with the same three arrays. -/
theorem algebraic : Cert.algebraic_AdamLIdeal_AdamLRefIdeal := by
  intro m g m' g' _ hagree
  refine ⟨fun c => deltaArr (m (c.tc.loc main_arg0)) (m (c.tc.loc main_arg1)) (m (c.tc.loc main_arg2)) (m (c.tc.loc main_arg3)),
    fun c => moment1Arr (m (c.tc.loc main_arg1)) (m (c.tc.loc main_arg2)), fun c => moment2Arr (m (c.tc.loc main_arg1)) (m (c.tc.loc main_arg3)), ?_, ?_⟩
  · refine (θ_run _ _ _).mono (fun r h c => ?_) (Cert.AdamLIdeal.Value.run_blocks (F := Ideal) m g)
    obtain ⟨h4, h5, h6, h⟩ := h c
    exact ⟨h4.trans (arr4 m c), h5.trans (arr5 m c), h6.trans (arr6 m c), h⟩
  · refine (θ_run _ _ _).mono (fun r h c => ?_) (Cert.AdamLRefIdeal.Value.run (F := Ideal) m' g')
    obtain ⟨h4, h5, h6, h⟩ := h c
    obtain ⟨e0, e1, e2, e3⟩ := hagree c
    rw [e0, e1, e2, e3] at h4
    rw [e1, e2] at h5
    rw [e1, e3] at h6
    refine ⟨h4.trans ?_, h5.trans ?_, h6.trans ?_, h⟩
    · funext y
      unfold deltaArr delta moment1 moment2
      pointwise
    · funext y
      unfold moment1Arr moment1
      pointwise
    · funext y
      unfold moment2Arr moment2
      pointwise

end Cert.Proof.AdamL

end
-- ==== Proof.AdamGValue.lean ====
module

public import proofs.«01_k».proof.Defs
public import proofs.«01_k».proof.Proof.Gen.AdamGIdeal.Value
public import proofs.«01_k».proof.Proof.AdamWValue
public import Idealize.ShloMosaic.Lib.Pipeline.ValueKit
public import Idealize.ShloMosaic.Lib.Pipeline.ReadBack

/-!
The value of the optimiser call on one weight (`adamw_mlstm_gate_bias`): the step and the two new moments, element by element.
-/

@[expose] public section

set_option maxRecDepth 16384

noncomputable section

namespace Cert.Proof.AdamG

open Cert.AdamGIdeal Cert.AdamGIdeal.Gen Idealize.ShloMosaic Idealize.ShloMosaic.TcCoe Idealize.SL.Sem
open Idealize.ShloMosaic.Pipeline (Dat)
open Cert.Proof.AdamW (moment1 moment2 delta)
open scoped BigOperators

def deltaArr (w g m v : Vec Ideal S1x16 .f32) : Vec Ideal S1x16 .f32 := fun i => delta (w i) (g i) (m i) (v i)
def moment1Arr (g m : Vec Ideal S1x16 .f32) : Vec Ideal S1x16 .f32 := fun i => moment1 (g i) (m i)
def moment2Arr (g v : Vec Ideal S1x16 .f32) : Vec Ideal S1x16 .f32 := fun i => moment2 (g i) (v i)

theorem pay1_apply (g m : Vec Ideal S1x16 .f32) (y : S1x16.Idx) : k0_pay1 g m y = moment1 (g y) (m y) := by
  unfold moment1
  pointwise [k0_pay1]

theorem pay2_apply (g v : Vec Ideal S1x16 .f32) (y : S1x16.Idx) : k0_pay2 g v y = moment2 (g y) (v y) := by
  unfold moment2
  pointwise [k0_pay2]

theorem pay3_apply (g m v w : Vec Ideal S1x16 .f32) (y : S1x16.Idx) :
    k0_pay3 g m v w y = delta (w y) (g y) (m y) (v y) := by
  unfold delta moment1 moment2
  pointwise [k0_pay3, k0_pay1, k0_pay2]

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

/-- Row `r` of the block of point `t`. -/
theorem row_lt (t : Fin grid0.N) (r : Fin 1) : t.val * 1 + r.val < 1 := by
  have h : t.val < 1 := t.isLt
  omega

theorem iblk0_apply (c : Dev nD) (t : Fin cfg0.N) (r : Fin 1) (k : Fin 16) :
    (iblk m c 0 t : Vec Ideal S1x16 .f32) (ix2 r k) = (m (c.tc.loc main_arg0) : Vec Ideal S1x16 .f32) (ix2 ⟨t.val * 1 + r.val, row_lt t r⟩ k) := by
  blk_point [iblk, V, idx0 t]

theorem iblk1_apply (c : Dev nD) (t : Fin cfg0.N) (r : Fin 1) (k : Fin 16) :
    (iblk m c 1 t : Vec Ideal S1x16 .f32) (ix2 r k) = (m (c.tc.loc main_arg1) : Vec Ideal S1x16 .f32) (ix2 ⟨t.val * 1 + r.val, row_lt t r⟩ k) := by
  blk_point [iblk, V, idx1 t]

theorem iblk2_apply (c : Dev nD) (t : Fin cfg0.N) (r : Fin 1) (k : Fin 16) :
    (iblk m c 2 t : Vec Ideal S1x16 .f32) (ix2 r k) = (m (c.tc.loc main_arg2) : Vec Ideal S1x16 .f32) (ix2 ⟨t.val * 1 + r.val, row_lt t r⟩ k) := by
  blk_point [iblk, V, idx2 t]

theorem iblk3_apply (c : Dev nD) (t : Fin cfg0.N) (r : Fin 1) (k : Fin 16) :
    (iblk m c 3 t : Vec Ideal S1x16 .f32) (ix2 r k) = (m (c.tc.loc main_arg3) : Vec Ideal S1x16 .f32) (ix2 ⟨t.val * 1 + r.val, row_lt t r⟩ k) := by
  blk_point [iblk, V, idx3 t]

theorem arr4 (c : Dev nD) : (dats m 0 c).arrAt 4 cfg0.N = deltaArr (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  idx_vars y
  refine (pay3_apply _ _ _ _ _).trans ((congr (congr (congrArg₂ delta (iblk0_apply m c t _ _) (iblk1_apply m c t _ _)) (iblk2_apply m c t _ _)) (iblk3_apply m c t _ _)).trans ?_)
  refine congrArg (deltaArr (m (c.tc.loc main_arg0)) (m (c.tc.loc main_arg1)) (m (c.tc.loc main_arg2)) (m (c.tc.loc main_arg3))) ?_
  blk_ext [idx4 t]

theorem arr5 (c : Dev nD) : (dats m 0 c).arrAt 5 cfg0.N = moment1Arr (m (c.tc.loc main_arg1)) (m (c.tc.loc main_arg2)) := by
  refine (dats m 0 c).arrAt_eq_of_covers 5 _ (by decide +kernel) fun t hf y => ?_
  blk_simp
  rw [after0_5]
  frame_out
  idx_vars y
  refine (pay1_apply _ _ _).trans ((congrArg₂ moment1 (iblk1_apply m c t _ _) (iblk2_apply m c t _ _)).trans ?_)
  refine congrArg (moment1Arr (m (c.tc.loc main_arg1)) (m (c.tc.loc main_arg2))) ?_
  blk_ext [idx5 t]

theorem arr6 (c : Dev nD) : (dats m 0 c).arrAt 6 cfg0.N = moment2Arr (m (c.tc.loc main_arg1)) (m (c.tc.loc main_arg3)) := by
  refine (dats m 0 c).arrAt_eq_of_covers 6 _ (by decide +kernel) fun t hf y => ?_
  blk_simp
  rw [after0_6]
  frame_out
  idx_vars y
  refine (pay2_apply _ _ _).trans ((congrArg₂ moment2 (iblk1_apply m c t _ _) (iblk3_apply m c t _ _)).trans ?_)
  refine congrArg (moment2Arr (m (c.tc.loc main_arg1)) (m (c.tc.loc main_arg3))) ?_
  blk_ext [idx6 t]

end Cert.Proof.AdamG

end
-- ==== Proof.AdamGClaim.lean ====
module

public import proofs.«01_k».proof.Defs
public import proofs.«01_k».proof.Proof.Gen.AdamGIdeal.Value
public import proofs.«01_k».proof.Proof.AdamGValue
public import proofs.«01_k».proof.Proof.Gen.AdamGRefIdeal.Run
public import Idealize.ShloMosaic.Lib.Pipeline.ValueKit
public import Idealize.ShloMosaic.Lib.Pipeline.ReadBack

/-!
The value claim of the optimiser call on one weight: the kernel's three arrays, computed in `AdamGValue`, are the ones the
reference's host operations compute.
-/

@[expose] public section

set_option maxRecDepth 16384

noncomputable section

namespace Cert.Proof.AdamG

open Cert.AdamGIdeal Cert.AdamGIdeal.Gen Idealize.ShloMosaic Idealize.ShloMosaic.TcCoe Idealize.SL.Sem
open Idealize.ShloMosaic.Pipeline (Dat)
open Cert.Proof.AdamW (moment1 moment2 delta)
open scoped BigOperators

/-- The idealized kernel and the idealized reference, from the same arguments, end with the same three arrays. -/
theorem algebraic : Cert.algebraic_AdamGIdeal_AdamGRefIdeal := by
  intro m g m' g' _ hagree
  refine ⟨fun c => deltaArr (m (c.tc.loc main_arg0)) (m (c.tc.loc main_arg1)) (m (c.tc.loc main_arg2)) (m (c.tc.loc main_arg3)),
    fun c => moment1Arr (m (c.tc.loc main_arg1)) (m (c.tc.loc main_arg2)), fun c => moment2Arr (m (c.tc.loc main_arg1)) (m (c.tc.loc main_arg3)), ?_, ?_⟩
  · refine (θ_run _ _ _).mono (fun r h c => ?_) (Cert.AdamGIdeal.Value.run_blocks (F := Ideal) m g)
    obtain ⟨h4, h5, h6, h⟩ := h c
    exact ⟨h4.trans (arr4 m c), h5.trans (arr5 m c), h6.trans (arr6 m c), h⟩
  · refine (θ_run _ _ _).mono (fun r h c => ?_) (Cert.AdamGRefIdeal.Value.run (F := Ideal) m' g')
    obtain ⟨h4, h5, h6, h⟩ := h c
    obtain ⟨e0, e1, e2, e3⟩ := hagree c
    rw [e0, e1, e2, e3] at h4
    rw [e1, e2] at h5
    rw [e1, e3] at h6
    refine ⟨h4.trans ?_, h5.trans ?_, h6.trans ?_, h⟩
    · funext y
      unfold deltaArr delta moment1 moment2
      pointwise
    · funext y
      unfold moment1Arr moment1
      pointwise
    · funext y
      unfold moment2Arr moment2
      pointwise

end Cert.Proof.AdamG

end
-- ==== Proof.AdamCValue.lean ====
module

public import proofs.«01_k».proof.Defs
public import proofs.«01_k».proof.Proof.Gen.AdamCIdeal.Value
public import proofs.«01_k».proof.Proof.AdamWValue
public import Idealize.ShloMosaic.Lib.Pipeline.ValueKit
public import Idealize.ShloMosaic.Lib.Pipeline.ReadBack

/-!
The value of the optimiser call on one weight (`adamw_mlstm_conv_w`): the step and the two new moments, element by element.
-/

@[expose] public section

set_option maxRecDepth 16384

noncomputable section

namespace Cert.Proof.AdamC

open Cert.AdamCIdeal Cert.AdamCIdeal.Gen Idealize.ShloMosaic Idealize.ShloMosaic.TcCoe Idealize.SL.Sem
open Idealize.ShloMosaic.Pipeline (Dat)
open Cert.Proof.AdamW (moment1 moment2 delta)
open scoped BigOperators

def deltaArr (w g m v : Vec Ideal S4x128 .f32) : Vec Ideal S4x128 .f32 := fun i => delta (w i) (g i) (m i) (v i)
def moment1Arr (g m : Vec Ideal S4x128 .f32) : Vec Ideal S4x128 .f32 := fun i => moment1 (g i) (m i)
def moment2Arr (g v : Vec Ideal S4x128 .f32) : Vec Ideal S4x128 .f32 := fun i => moment2 (g i) (v i)

theorem pay1_apply (g m : Vec Ideal S4x128 .f32) (y : S4x128.Idx) : k0_pay1 g m y = moment1 (g y) (m y) := by
  unfold moment1
  pointwise [k0_pay1]

theorem pay2_apply (g v : Vec Ideal S4x128 .f32) (y : S4x128.Idx) : k0_pay2 g v y = moment2 (g y) (v y) := by
  unfold moment2
  pointwise [k0_pay2]

theorem pay3_apply (g m v w : Vec Ideal S4x128 .f32) (y : S4x128.Idx) :
    k0_pay3 g m v w y = delta (w y) (g y) (m y) (v y) := by
  unfold delta moment1 moment2
  pointwise [k0_pay3, k0_pay1, k0_pay2]

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

/-- Row `r` of the block of point `t`. -/
theorem row_lt (t : Fin grid0.N) (r : Fin 4) : t.val * 4 + r.val < 4 := by
  have h : t.val < 1 := t.isLt
  omega

theorem iblk0_apply (c : Dev nD) (t : Fin cfg0.N) (r : Fin 4) (k : Fin 128) :
    (iblk m c 0 t : Vec Ideal S4x128 .f32) (ix2 r k) = (m (c.tc.loc main_arg0) : Vec Ideal S4x128 .f32) (ix2 ⟨t.val * 4 + r.val, row_lt t r⟩ k) := by
  blk_point [iblk, V, idx0 t]

theorem iblk1_apply (c : Dev nD) (t : Fin cfg0.N) (r : Fin 4) (k : Fin 128) :
    (iblk m c 1 t : Vec Ideal S4x128 .f32) (ix2 r k) = (m (c.tc.loc main_arg1) : Vec Ideal S4x128 .f32) (ix2 ⟨t.val * 4 + r.val, row_lt t r⟩ k) := by
  blk_point [iblk, V, idx1 t]

theorem iblk2_apply (c : Dev nD) (t : Fin cfg0.N) (r : Fin 4) (k : Fin 128) :
    (iblk m c 2 t : Vec Ideal S4x128 .f32) (ix2 r k) = (m (c.tc.loc main_arg2) : Vec Ideal S4x128 .f32) (ix2 ⟨t.val * 4 + r.val, row_lt t r⟩ k) := by
  blk_point [iblk, V, idx2 t]

theorem iblk3_apply (c : Dev nD) (t : Fin cfg0.N) (r : Fin 4) (k : Fin 128) :
    (iblk m c 3 t : Vec Ideal S4x128 .f32) (ix2 r k) = (m (c.tc.loc main_arg3) : Vec Ideal S4x128 .f32) (ix2 ⟨t.val * 4 + r.val, row_lt t r⟩ k) := by
  blk_point [iblk, V, idx3 t]

theorem arr4 (c : Dev nD) : (dats m 0 c).arrAt 4 cfg0.N = deltaArr (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  idx_vars y
  refine (pay3_apply _ _ _ _ _).trans ((congr (congr (congrArg₂ delta (iblk0_apply m c t _ _) (iblk1_apply m c t _ _)) (iblk2_apply m c t _ _)) (iblk3_apply m c t _ _)).trans ?_)
  refine congrArg (deltaArr (m (c.tc.loc main_arg0)) (m (c.tc.loc main_arg1)) (m (c.tc.loc main_arg2)) (m (c.tc.loc main_arg3))) ?_
  blk_ext [idx4 t]

theorem arr5 (c : Dev nD) : (dats m 0 c).arrAt 5 cfg0.N = moment1Arr (m (c.tc.loc main_arg1)) (m (c.tc.loc main_arg2)) := by
  refine (dats m 0 c).arrAt_eq_of_covers 5 _ (by decide +kernel) fun t hf y => ?_
  blk_simp
  rw [after0_5]
  frame_out
  idx_vars y
  refine (pay1_apply _ _ _).trans ((congrArg₂ moment1 (iblk1_apply m c t _ _) (iblk2_apply m c t _ _)).trans ?_)
  refine congrArg (moment1Arr (m (c.tc.loc main_arg1)) (m (c.tc.loc main_arg2))) ?_
  blk_ext [idx5 t]

theorem arr6 (c : Dev nD) : (dats m 0 c).arrAt 6 cfg0.N = moment2Arr (m (c.tc.loc main_arg1)) (m (c.tc.loc main_arg3)) := by
  refine (dats m 0 c).arrAt_eq_of_covers 6 _ (by decide +kernel) fun t hf y => ?_
  blk_simp
  rw [after0_6]
  frame_out
  idx_vars y
  refine (pay2_apply _ _ _).trans ((congrArg₂ moment2 (iblk1_apply m c t _ _) (iblk3_apply m c t _ _)).trans ?_)
  refine congrArg (moment2Arr (m (c.tc.loc main_arg1)) (m (c.tc.loc main_arg3))) ?_
  blk_ext [idx6 t]

end Cert.Proof.AdamC

end
-- ==== Proof.AdamCClaim.lean ====
module

public import proofs.«01_k».proof.Defs
public import proofs.«01_k».proof.Proof.Gen.AdamCIdeal.Value
public import proofs.«01_k».proof.Proof.AdamCValue
public import proofs.«01_k».proof.Proof.Gen.AdamCRefIdeal.Run
public import Idealize.ShloMosaic.Lib.Pipeline.ValueKit
public import Idealize.ShloMosaic.Lib.Pipeline.ReadBack

/-!
The value claim of the optimiser call on one weight: the kernel's three arrays, computed in `AdamCValue`, are the ones the
reference's host operations compute.
-/

@[expose] public section

set_option maxRecDepth 16384

noncomputable section

namespace Cert.Proof.AdamC

open Cert.AdamCIdeal Cert.AdamCIdeal.Gen Idealize.ShloMosaic Idealize.ShloMosaic.TcCoe Idealize.SL.Sem
open Idealize.ShloMosaic.Pipeline (Dat)
open Cert.Proof.AdamW (moment1 moment2 delta)
open scoped BigOperators

/-- The idealized kernel and the idealized reference, from the same arguments, end with the same three arrays. -/
theorem algebraic : Cert.algebraic_AdamCIdeal_AdamCRefIdeal := by
  intro m g m' g' _ hagree
  refine ⟨fun c => deltaArr (m (c.tc.loc main_arg0)) (m (c.tc.loc main_arg1)) (m (c.tc.loc main_arg2)) (m (c.tc.loc main_arg3)),
    fun c => moment1Arr (m (c.tc.loc main_arg1)) (m (c.tc.loc main_arg2)), fun c => moment2Arr (m (c.tc.loc main_arg1)) (m (c.tc.loc main_arg3)), ?_, ?_⟩
  · refine (θ_run _ _ _).mono (fun r h c => ?_) (Cert.AdamCIdeal.Value.run_blocks (F := Ideal) m g)
    obtain ⟨h4, h5, h6, h⟩ := h c
    exact ⟨h4.trans (arr4 m c), h5.trans (arr5 m c), h6.trans (arr6 m c), h⟩
  · refine (θ_run _ _ _).mono (fun r h c => ?_) (Cert.AdamCRefIdeal.Value.run (F := Ideal) m' g')
    obtain ⟨h4, h5, h6, h⟩ := h c
    obtain ⟨e0, e1, e2, e3⟩ := hagree c
    rw [e0, e1, e2, e3] at h4
    rw [e1, e2] at h5
    rw [e1, e3] at h6
    refine ⟨h4.trans ?_, h5.trans ?_, h6.trans ?_, h⟩
    · funext y
      unfold deltaArr delta moment1 moment2
      pointwise
    · funext y
      unfold moment1Arr moment1
      pointwise
    · funext y
      unfold moment2Arr moment2
      pointwise

end Cert.Proof.AdamC

end
-- ==== Proof.AdamHValue.lean ====
module

public import proofs.«01_k».proof.Defs
public import proofs.«01_k».proof.Proof.Gen.AdamHIdeal.Value
public import proofs.«01_k».proof.Proof.AdamWValue
public import Idealize.ShloMosaic.Lib.Pipeline.ValueKit
public import Idealize.ShloMosaic.Lib.Pipeline.ReadBack

/-!
The value of the optimiser call on one weight (`adamw_mlstm_head_gain`): the step and the two new moments, element by element.
-/

@[expose] public section

set_option maxRecDepth 16384

noncomputable section

namespace Cert.Proof.AdamH

open Cert.AdamHIdeal Cert.AdamHIdeal.Gen Idealize.ShloMosaic Idealize.ShloMosaic.TcCoe Idealize.SL.Sem
open Idealize.ShloMosaic.Pipeline (Dat)
open Cert.Proof.AdamW (moment1 moment2 delta)
open scoped BigOperators

def deltaArr (w g m v : Vec Ideal S1x1024 .f32) : Vec Ideal S1x1024 .f32 := fun i => delta (w i) (g i) (m i) (v i)
def moment1Arr (g m : Vec Ideal S1x1024 .f32) : Vec Ideal S1x1024 .f32 := fun i => moment1 (g i) (m i)
def moment2Arr (g v : Vec Ideal S1x1024 .f32) : Vec Ideal S1x1024 .f32 := fun i => moment2 (g i) (v i)

theorem pay1_apply (g m : Vec Ideal S1x1024 .f32) (y : S1x1024.Idx) : k0_pay1 g m y = moment1 (g y) (m y) := by
  unfold moment1
  pointwise [k0_pay1]

theorem pay2_apply (g v : Vec Ideal S1x1024 .f32) (y : S1x1024.Idx) : k0_pay2 g v y = moment2 (g y) (v y) := by
  unfold moment2
  pointwise [k0_pay2]

theorem pay3_apply (g m v w : Vec Ideal S1x1024 .f32) (y : S1x1024.Idx) :
    k0_pay3 g m v w y = delta (w y) (g y) (m y) (v y) := by
  unfold delta moment1 moment2
  pointwise [k0_pay3, k0_pay1, k0_pay2]

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel

/-- Row `r` of the block of point `t`. -/
theorem row_lt (t : Fin grid0.N) (r : Fin 1) : t.val * 1 + r.val < 1 := by
  have h : t.val < 1 := t.isLt
  omega

theorem iblk0_apply (c : Dev nD) (t : Fin cfg0.N) (r : Fin 1) (k : Fin 1024) :
    (iblk m c 0 t : Vec Ideal S1x1024 .f32) (ix2 r k) = (m (c.tc.loc main_arg0) : Vec Ideal S1x1024 .f32) (ix2 ⟨t.val * 1 + r.val, row_lt t r⟩ k) := by
  blk_point [iblk, V, idx0 t]

theorem iblk1_apply (c : Dev nD) (t : Fin cfg0.N) (r : Fin 1) (k : Fin 1024) :
    (iblk m c 1 t : Vec Ideal S1x1024 .f32) (ix2 r k) = (m (c.tc.loc main_arg1) : Vec Ideal S1x1024 .f32) (ix2 ⟨t.val * 1 + r.val, row_lt t r⟩ k) := by
  blk_point [iblk, V, idx1 t]

theorem iblk2_apply (c : Dev nD) (t : Fin cfg0.N) (r : Fin 1) (k : Fin 1024) :
    (iblk m c 2 t : Vec Ideal S1x1024 .f32) (ix2 r k) = (m (c.tc.loc main_arg2) : Vec Ideal S1x1024 .f32) (ix2 ⟨t.val * 1 + r.val, row_lt t r⟩ k) := by
  blk_point [iblk, V, idx2 t]

theorem iblk3_apply (c : Dev nD) (t : Fin cfg0.N) (r : Fin 1) (k : Fin 1024) :
    (iblk m c 3 t : Vec Ideal S1x1024 .f32) (ix2 r k) = (m (c.tc.loc main_arg3) : Vec Ideal S1x1024 .f32) (ix2 ⟨t.val * 1 + r.val, row_lt t r⟩ k) := by
  blk_point [iblk, V, idx3 t]

theorem arr4 (c : Dev nD) : (dats m 0 c).arrAt 4 cfg0.N = deltaArr (m (c.tc.loc main_arg0)) (m (c.tc.loc main_arg1)) (m (c.tc.loc main_arg2)) (m (c.tc.loc main_arg3)) := by
  refine (dats m 0 c).arrAt_eq_of_covers 4 _ (by decide +kernel) fun t hf y => ?_
  blk_simp
  rw [after0_4]
  frame_out
  idx_vars y
  refine (pay3_apply _ _ _ _ _).trans ((congr (congr (congrArg₂ delta (iblk0_apply m c t _ _) (iblk1_apply m c t _ _)) (iblk2_apply m c t _ _)) (iblk3_apply m c t _ _)).trans ?_)
  refine congrArg (deltaArr (m (c.tc.loc main_arg0)) (m (c.tc.loc main_arg1)) (m (c.tc.loc main_arg2)) (m (c.tc.loc main_arg3))) ?_
  blk_ext [idx4 t]

theorem arr5 (c : Dev nD) : (dats m 0 c).arrAt 5 cfg0.N = moment1Arr (m (c.tc.loc main_arg1)) (m (c.tc.loc main_arg2)) := by
  refine (dats m 0 c).arrAt_eq_of_covers 5 _ (by decide +kernel) fun t hf y => ?_
  blk_simp
  rw [after0_5]
  frame_out
  idx_vars y
  refine (pay1_apply _ _ _).trans ((congrArg₂ moment1 (iblk1_apply m c t _ _) (iblk2_apply m c t _ _)).trans ?_)
  refine congrArg (moment1Arr (m (c.tc.loc main_arg1)) (m (c.tc.loc main_arg2))) ?_
  blk_ext [idx5 t]

theorem arr6 (c : Dev nD) : (dats m 0 c).arrAt 6 cfg0.N = moment2Arr (m (c.tc.loc main_arg1)) (m (c.tc.loc main_arg3)) := by
  refine (dats m 0 c).arrAt_eq_of_covers 6 _ (by decide +kernel) fun t hf y => ?_
  blk_simp
  rw [after0_6]
  frame_out
  idx_vars y
  refine (pay2_apply _ _ _).trans ((congrArg₂ moment2 (iblk1_apply m c t _ _) (iblk3_apply m c t _ _)).trans ?_)
  refine congrArg (moment2Arr (m (c.tc.loc main_arg1)) (m (c.tc.loc main_arg3))) ?_
  blk_ext [idx6 t]

end Cert.Proof.AdamH

end
-- ==== Proof.AdamHClaim.lean ====
module

public import proofs.«01_k».proof.Defs
public import proofs.«01_k».proof.Proof.Gen.AdamHIdeal.Value
public import proofs.«01_k».proof.Proof.AdamHValue
public import proofs.«01_k».proof.Proof.Gen.AdamHRefIdeal.Run
public import Idealize.ShloMosaic.Lib.Pipeline.ValueKit
public import Idealize.ShloMosaic.Lib.Pipeline.ReadBack

/-!
The value claim of the optimiser call on one weight: the kernel's three arrays, computed in `AdamHValue`, are the ones the
reference's host operations compute.
-/

@[expose] public section

set_option maxRecDepth 16384

noncomputable section

namespace Cert.Proof.AdamH

open Cert.AdamHIdeal Cert.AdamHIdeal.Gen Idealize.ShloMosaic Idealize.ShloMosaic.TcCoe Idealize.SL.Sem
open Idealize.ShloMosaic.Pipeline (Dat)
open Cert.Proof.AdamW (moment1 moment2 delta)
open scoped BigOperators

/-- The idealized kernel and the idealized reference, from the same arguments, end with the same three arrays. -/
theorem algebraic : Cert.algebraic_AdamHIdeal_AdamHRefIdeal := by
  intro m g m' g' _ hagree
  refine ⟨fun c => deltaArr (m (c.tc.loc main_arg0)) (m (c.tc.loc main_arg1)) (m (c.tc.loc main_arg2)) (m (c.tc.loc main_arg3)),
    fun c => moment1Arr (m (c.tc.loc main_arg1)) (m (c.tc.loc main_arg2)), fun c => moment2Arr (m (c.tc.loc main_arg1)) (m (c.tc.loc main_arg3)), ?_, ?_⟩
  · refine (θ_run _ _ _).mono (fun r h c => ?_) (Cert.AdamHIdeal.Value.run_blocks (F := Ideal) m g)
    obtain ⟨h4, h5, h6, h⟩ := h c
    exact ⟨h4.trans (arr4 m c), h5.trans (arr5 m c), h6.trans (arr6 m c), h⟩
  · refine (θ_run _ _ _).mono (fun r h c => ?_) (Cert.AdamHRefIdeal.Value.run (F := Ideal) m' g')
    obtain ⟨h4, h5, h6, h⟩ := h c
    obtain ⟨e0, e1, e2, e3⟩ := hagree c
    rw [e0, e1, e2, e3] at h4
    rw [e1, e2] at h5
    rw [e1, e3] at h6
    refine ⟨h4.trans ?_, h5.trans ?_, h6.trans ?_, h⟩
    · funext y
      unfold deltaArr delta moment1 moment2
      pointwise
    · funext y
      unfold moment1Arr moment1
      pointwise
    · funext y
      unfold moment2Arr moment2
      pointwise

end Cert.Proof.AdamH

end
-- ==== Proof.Reduce.lean ====
module

public import Idealize.ShloMosaic.Lib.Pipeline.ValueKit

/-!
One element of a gradient summed over the eight devices: the own one where the mark says so, the received ones elsewhere.
-/

@[expose] public section

noncomputable section

namespace Cert.Proof.Reduce

open Idealize.ShloMosaic
open scoped BigOperators

/-- The own element at the marked device, the received one at the others. -/
def pick (mark own recv : EReal) : EReal := if Ideal.ofBits .f32 0x3F000000#32 < mark then own else recv

/-- The sum over the eight devices. -/
def total (mark : Fin 8 → EReal) (own : EReal) (recv : Fin 8 → EReal) : EReal := ∑ j, pick (mark j) own (recv j)

theorem total_eq (mark : Fin 8 → EReal) (own : EReal) (recv : Fin 8 → EReal) :
    total mark own recv = pick (mark 0) own (recv 0) + pick (mark 1) own (recv 1) + pick (mark 2) own (recv 2)
      + pick (mark 3) own (recv 3) + pick (mark 4) own (recv 4) + pick (mark 5) own (recv 5) + pick (mark 6) own (recv 6)
      + pick (mark 7) own (recv 7) := Fin.sum_univ_eight _

end Cert.Proof.Reduce

end
-- ==== Proof.RedOValue.lean ====
module

public import proofs.«01_k».proof.Defs
public import proofs.«01_k».proof.Proof.Gen.RedOIdeal.Value
public import proofs.«01_k».proof.Proof.AdamWValue
public import proofs.«01_k».proof.Proof.Reduce
public import Idealize.ShloMosaic.Lib.Pipeline.ValueKit
public import Idealize.ShloMosaic.Lib.Pipeline.ReadBack

/-!
The value of the reducing optimiser call (`adamw_mlstm_w_out`): the gradient summed over the devices, the step and the two new
moments, element by element.
-/

@[expose] public section

set_option maxRecDepth 16384

noncomputable section

namespace Cert.Proof.RedO

open Cert.RedOIdeal Cert.RedOIdeal.Gen Idealize.ShloMosaic Idealize.ShloMosaic.TcCoe Idealize.SL.Sem
open Idealize.ShloMosaic.Pipeline (Dat)
open Cert.Proof.AdamW (moment1 moment2 delta)
open Cert.Proof.Reduce (pick total total_eq)
open scoped BigOperators

/-- The gradient summed over the devices. -/
def gradArr (own : Vec Ideal S128x1024 .f32) (recv : Vec Ideal S8x128x1024 .bf16) (mark : Vec Ideal S8 .f32) : Vec Ideal S128x1024 .f32 :=
  fun i => total (fun j => mark (ix1 j)) (own i) (fun j => recv (ix3 j (i 0) (i 1)))

def deltaArr (w g m v : Vec Ideal S128x1024 .f32) : Vec Ideal S128x1024 .f32 := fun i => delta (w i) (g i) (m i) (v i)
def moment1Arr (g m : Vec Ideal S128x1024 .f32) : Vec Ideal S128x1024 .f32 := fun i => moment1 (g i) (m i)
def moment2Arr (g v : Vec Ideal S128x1024 .f32) : Vec Ideal S128x1024 .f32 := fun i => moment2 (g i) (v i)

/-! ## The kernel's values, at variable blocks -/

theorem pay1_apply (a0 a1 a2 a3 : EReal) (x : Vec Ideal S128x1024 .f32) (b0 b1 b2 b3 : Vec Ideal S1x128x1024 .bf16) (r : Fin 128) (k : Fin 1024) :
    k0_pay1 (F := Ideal) a0 x b0 a1 x b1 a2 x b2 a3 x b3 (ix2 r k)
      = pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay1]
  simp only [ite_apply]
  pointwise

theorem pay2_apply (s : Vec Ideal S128x1024 .f32) (a0 a1 a2 a3 : EReal) (x : Vec Ideal S128x1024 .f32) (b0 b1 b2 b3 : Vec Ideal S1x128x1024 .bf16) (r : Fin 128) (k : Fin 1024) :
    k0_pay2 (F := Ideal) s a0 x b0 a1 x b1 a2 x b2 a3 x b3 (ix2 r k)
      = s (ix2 r k) + pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay2]
  simp only [ite_apply]
  pointwise

/-- What one point stores as the gradient's block. -/
def gblk (x0 : Vec Ideal S8 .f32) (x4 : Vec Ideal S128x1024 .f32) (x5 : Vec Ideal S8x128x1024 .bf16) : Vec Ideal S128x1024 .f32 :=
  k0_pay2 (k0_pay1 (View.ld x0 (Rect.unit ![0] ![1] inb_S8_S1_0) (Shape.Idx.first (by decide))) x4 (View.ld x5 (Rect.unit ![0, 0, 0] ![1, 128, 1024] inb_S8x128x1024_S1x128x1024_0_0_0)) (View.ld x0 (Rect.unit ![1] ![1] inb_S8_S1_1) (Shape.Idx.first (by decide))) x4 (View.ld x5 (Rect.unit ![1, 0, 0] ![1, 128, 1024] inb_S8x128x1024_S1x128x1024_1_0_0)) (View.ld x0 (Rect.unit ![2] ![1] inb_S8_S1_2) (Shape.Idx.first (by decide))) x4 (View.ld x5 (Rect.unit ![2, 0, 0] ![1, 128, 1024] inb_S8x128x1024_S1x128x1024_2_0_0)) (View.ld x0 (Rect.unit ![3] ![1] inb_S8_S1_3) (Shape.Idx.first (by decide))) x4 (View.ld x5 (Rect.unit ![3, 0, 0] ![1, 128, 1024] inb_S8x128x1024_S1x128x1024_3_0_0))) (View.ld x0 (Rect.unit ![4] ![1] inb_S8_S1_4) (Shape.Idx.first (by decide))) x4 (View.ld x5 (Rect.unit ![4, 0, 0] ![1, 128, 1024] inb_S8x128x1024_S1x128x1024_4_0_0)) (View.ld x0 (Rect.unit ![5] ![1] inb_S8_S1_5) (Shape.Idx.first (by decide))) x4 (View.ld x5 (Rect.unit ![5, 0, 0] ![1, 128, 1024] inb_S8x128x1024_S1x128x1024_5_0_0)) (View.ld x0 (Rect.unit ![6] ![1] inb_S8_S1_6) (Shape.Idx.first (by decide))) x4 (View.ld x5 (Rect.unit ![6, 0, 0] ![1, 128, 1024] inb_S8x128x1024_S1x128x1024_6_0_0)) (View.ld x0 (Rect.unit ![7] ![1] inb_S8_S1_7) (Shape.Idx.first (by decide))) x4 (View.ld x5 (Rect.unit ![7, 0, 0] ![1, 128, 1024] inb_S8x128x1024_S1x128x1024_7_0_0))

theorem gblk_apply (x0 : Vec Ideal S8 .f32) (x4 : Vec Ideal S128x1024 .f32) (x5 : Vec Ideal S8x128x1024 .bf16) (r : Fin 128) (k : Fin 1024) :
    gblk x0 x4 x5 (ix2 r k) = total (fun j => x0 (ix1 j)) (x4 (ix2 r k)) (fun j => x5 (ix3 j r k)) := by
  rw [total_eq]
  unfold gblk
  rw [pay2_apply, pay1_apply]
  pointwise

theorem pay4_apply (g m : Vec Ideal S128x1024 .f32) (y : S128x1024.Idx) : k0_pay4 g m y = moment1 (g y) (m y) := by
  unfold moment1
  pointwise [k0_pay4, k0_pay3]

theorem pay5_apply (g v : Vec Ideal S128x1024 .f32) (y : S128x1024.Idx) : k0_pay5 g v y = moment2 (g y) (v y) := by
  unfold moment2
  pointwise [k0_pay5, k0_pay3]

theorem pay6_apply (g m v w : Vec Ideal S128x1024 .f32) (y : S128x1024.Idx) :
    k0_pay6 g m v w y = delta (w y) (g y) (m y) (v y) := by
  unfold delta moment1 moment2
  pointwise [k0_pay6, k0_pay4, k0_pay5, k0_pay3]

variable (m : (ℓ : Loc nD τ sig) → Buf (Elt Ideal) ℓ)

theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx5 : ∀ t : Fin grid0.N, win0_5.index t = ![0, t.val, 0] := by decide +kernel

/-- Row `r` of the block of point `t`. -/
theorem row_lt (t : Fin grid0.N) (r : Fin 128) : t.val * 128 + r.val < 128 := by
  have h : t.val < 1 := t.isLt
  omega

theorem mark_iblk (c : Dev nD) (t : Fin cfg0.N) (j : Fin 8) :
    (iblk m c 0 t : Vec Ideal S8 .f32) (ix1 j) = ((m (c.tc.loc main_arg3)) : Vec Ideal S8 .f32) (ix1 j) := by
  blk_point [iblk, V, idx0 t]

theorem iblk1_apply (c : Dev nD) (t : Fin cfg0.N) (r : Fin 128) (k : Fin 1024) :
    (iblk m c 1 t : Vec Ideal S128x1024 .f32) (ix2 r k) = ((m (c.tc.loc main_arg0)) : Vec Ideal S128x1024 .f32) (ix2 ⟨t.val * 128 + r.val, row_lt t r⟩ k) := by
  blk_point [iblk, V, idx1 t]

theorem iblk2_apply (c : Dev nD) (t : Fin cfg0.N) (r : Fin 128) (k : Fin 1024) :
    (iblk m c 2 t : Vec Ideal S128x1024 .f32) (ix2 r k) = ((m (c.tc.loc main_arg4)) : Vec Ideal S128x1024 .f32) (ix2 ⟨t.val * 128 + r.val, row_lt t r⟩ k) := by
  blk_point [iblk, V, idx2 t]

theorem iblk3_apply (c : Dev nD) (t : Fin cfg0.N) (r : Fin 128) (k : Fin 1024) :
    (iblk m c 3 t : Vec Ideal S128x1024 .f32) (ix2 r k) = ((m (c.tc.loc main_arg5)) : Vec Ideal S128x1024 .f32) (ix2 ⟨t.val * 128 + r.val, row_lt t r⟩ k) := by
  blk_point [iblk, V, idx3 t]

theorem iblk4_apply (c : Dev nD) (t : Fin cfg0.N) (r : Fin 128) (k : Fin 1024) :
    (iblk m c 4 t : Vec Ideal S128x1024 .f32) (ix2 r k) = ((m (c.tc.loc main_arg1)) : Vec Ideal S128x1024 .f32) (ix2 ⟨t.val * 128 + r.val, row_lt t r⟩ k) := by
  blk_point [iblk, V, idx4 t]

theorem recv_iblk (c : Dev nD) (t : Fin cfg0.N) (j : Fin 8) (r : Fin 128) (k : Fin 1024) :
    (iblk m c 5 t : Vec Ideal S8x128x1024 .bf16) (ix3 j r k) = ((m (c.tc.loc main_arg2)) : Vec Ideal S8x128x1024 .bf16) (ix3 j ⟨t.val * 128 + r.val, row_lt t r⟩ k) := by
  blk_point [iblk, V, idx5 t]

theorem g_iblk (c : Dev nD) (t : Fin cfg0.N) (r : Fin 128) (k : Fin 1024) :
    gblk (iblk m c 0 t) (iblk m c 4 t) (iblk m c 5 t) (ix2 r k)
      = gradArr (m (c.tc.loc main_arg1)) (m (c.tc.loc main_arg2)) (m (c.tc.loc main_arg3)) (ix2 ⟨t.val * 128 + r.val, row_lt t r⟩ k) :=
  (gblk_apply _ _ _ _ _).trans (congr (congrArg₂ total (funext fun j => mark_iblk m c t j) (iblk4_apply m c t r k))
    (funext fun j => recv_iblk m c t j r k))

theorem out6 (c : Dev nD) (t : Fin cfg0.N) : (outsAt0 m c t).1 = (gblk (iblk m c 0 t) (iblk m c 4 t) (iblk m c 5 t)) := by
  unfold outsAt0 gblk
  frame_out

theorem arr6 (c : Dev nD) : (dats m 0 c).arrAt 6 cfg0.N = gradArr (m (c.tc.loc main_arg1)) (m (c.tc.loc main_arg2)) (m (c.tc.loc main_arg3)) := by
  refine (dats m 0 c).arrAt_eq_of_covers 6 _ (by decide +kernel) fun t hf y => ?_
  blk_simp
  rw [after0_6, out6]
  idx_vars y
  refine ((g_iblk m c t _ _)).trans ?_
  refine congrArg (gradArr (m (c.tc.loc main_arg1)) (m (c.tc.loc main_arg2)) (m (c.tc.loc main_arg3))) ?_
  blk_ext [idx6 t]

theorem out7 (c : Dev nD) (t : Fin cfg0.N) : (outsAt0 m c t).2.1 = k0_pay6 (gblk (iblk m c 0 t) (iblk m c 4 t) (iblk m c 5 t)) (iblk m c 2 t) (iblk m c 3 t) (iblk m c 1 t) := by
  unfold outsAt0 gblk
  frame_out

theorem arr7 (c : Dev nD) : (dats m 0 c).arrAt 7 cfg0.N = deltaArr (m (c.tc.loc main_arg0)) (gradArr (m (c.tc.loc main_arg1)) (m (c.tc.loc main_arg2)) (m (c.tc.loc main_arg3))) (m (c.tc.loc main_arg4)) (m (c.tc.loc main_arg5)) := by
  refine (dats m 0 c).arrAt_eq_of_covers 7 _ (by decide +kernel) fun t hf y => ?_
  blk_simp
  rw [after0_7, out7]
  idx_vars y
  refine (pay6_apply _ _ _ _ _).trans ((congr (congr (congrArg₂ delta (iblk1_apply m c t _ _) (g_iblk m c t _ _)) (iblk2_apply m c t _ _)) (iblk3_apply m c t _ _)).trans ?_)
  refine congrArg (deltaArr (m (c.tc.loc main_arg0)) (gradArr (m (c.tc.loc main_arg1)) (m (c.tc.loc main_arg2)) (m (c.tc.loc main_arg3))) (m (c.tc.loc main_arg4)) (m (c.tc.loc main_arg5))) (a₁ := ix2 ⟨t.val * 128 + _, row_lt t _⟩ _) ?_
  blk_ext [idx7 t]

theorem out8 (c : Dev nD) (t : Fin cfg0.N) : (outsAt0 m c t).2.2.1 = k0_pay4 (gblk (iblk m c 0 t) (iblk m c 4 t) (iblk m c 5 t)) (iblk m c 2 t) := by
  unfold outsAt0 gblk
  frame_out

theorem arr8 (c : Dev nD) : (dats m 0 c).arrAt 8 cfg0.N = moment1Arr (gradArr (m (c.tc.loc main_arg1)) (m (c.tc.loc main_arg2)) (m (c.tc.loc main_arg3))) (m (c.tc.loc main_arg4)) := by
  refine (dats m 0 c).arrAt_eq_of_covers 8 _ (by decide +kernel) fun t hf y => ?_
  blk_simp
  rw [after0_8, out8]
  idx_vars y
  refine (pay4_apply _ _ _).trans ((congrArg₂ moment1 (g_iblk m c t _ _) (iblk2_apply m c t _ _)).trans ?_)
  refine congrArg (moment1Arr (gradArr (m (c.tc.loc main_arg1)) (m (c.tc.loc main_arg2)) (m (c.tc.loc main_arg3))) (m (c.tc.loc main_arg4))) (a₁ := ix2 ⟨t.val * 128 + _, row_lt t _⟩ _) ?_
  blk_ext [idx8 t]

theorem out9 (c : Dev nD) (t : Fin cfg0.N) : (outsAt0 m c t).2.2.2 = k0_pay5 (gblk (iblk m c 0 t) (iblk m c 4 t) (iblk m c 5 t)) (iblk m c 3 t) := by
  unfold outsAt0 gblk
  frame_out

theorem arr9 (c : Dev nD) : (dats m 0 c).arrAt 9 cfg0.N = moment2Arr (gradArr (m (c.tc.loc main_arg1)) (m (c.tc.loc main_arg2)) (m (c.tc.loc main_arg3))) (m (c.tc.loc main_arg5)) := by
  refine (dats m 0 c).arrAt_eq_of_covers 9 _ (by decide +kernel) fun t hf y => ?_
  blk_simp
  rw [after0_9, out9]
  idx_vars y
  refine (pay5_apply _ _ _).trans ((congrArg₂ moment2 (g_iblk m c t _ _) (iblk3_apply m c t _ _)).trans ?_)
  refine congrArg (moment2Arr (gradArr (m (c.tc.loc main_arg1)) (m (c.tc.loc main_arg2)) (m (c.tc.loc main_arg3))) (m (c.tc.loc main_arg5))) (a₁ := ix2 ⟨t.val * 128 + _, row_lt t _⟩ _) ?_
  blk_ext [idx9 t]

end Cert.Proof.RedO

end
-- ==== Proof.RedOClaim.lean ====
module

public import proofs.«01_k».proof.Defs
public import proofs.«01_k».proof.Proof.Gen.RedOIdeal.Value
public import proofs.«01_k».proof.Proof.RedOValue
public import proofs.«01_k».proof.Proof.Gen.RedORefIdeal.Run
public import Idealize.ShloMosaic.Lib.Pipeline.ValueKit
public import Idealize.ShloMosaic.Lib.Pipeline.ReadBack

/-!
The value claim of the reducing optimiser call: the kernel's four arrays, computed in `RedOValue`, are the ones the
reference's host operations compute.
-/

@[expose] public section

set_option maxRecDepth 16384

noncomputable section

namespace Cert.Proof.RedO

open Cert.RedOIdeal Cert.RedOIdeal.Gen Idealize.ShloMosaic Idealize.ShloMosaic.TcCoe Idealize.SL.Sem
open Idealize.ShloMosaic.Pipeline (Dat)
open Cert.Proof.AdamW (moment1 moment2 delta)
open Cert.Proof.Reduce (pick total)
open scoped BigOperators

/-- The reference's sum over the devices, at variable arrays. -/
theorem ref_grad (own : Vec Ideal Cert.RedORefIdeal.S128x1024 .f32) (recv : Vec Ideal Cert.RedORefIdeal.S8x128x1024 .bf16) (mark : Vec Ideal Cert.RedORefIdeal.S8 .f32) :
    (Host.reduceAdd (F := Ideal) (select (broadcastInDim Cert.RedORefIdeal.S8x128x1024 ![0, 1, 2] Cert.RedORefIdeal.Gen.bcast_S8x1x1_S8x128x1024_0_1_2
      (cmpf (F := Ideal) .ogt (broadcastInDim Cert.RedORefIdeal.S8x1x1 ![0] Cert.RedORefIdeal.Gen.bcast_S8_S8x1x1_0 mark)
        (broadcastInDim Cert.RedORefIdeal.S8x1x1 ![] Cert.RedORefIdeal.Gen.bcast_S_S8x1x1 (constant (F := Ideal) Cert.RedORefIdeal.S_ .f32 0x3F000000#32))))
      (broadcastInDim Cert.RedORefIdeal.S8x128x1024 ![0, 1, 2] Cert.RedORefIdeal.Gen.bcast_S1x128x1024_S8x128x1024_0_1_2
        (broadcastInDim Cert.RedORefIdeal.S1x128x1024 ![1, 2] Cert.RedORefIdeal.Gen.bcast_S128x1024_S1x128x1024_1_2 own))
      (extf (F := Ideal) .f32 recv Cert.RedORefIdeal.Gen.bitsLt_bf16_f32))
      (constant (F := Ideal) Cert.RedORefIdeal.S_ .f32 0x00000000#32) Cert.RedORefIdeal.Gen.reducesTo_S8x128x1024_S128x1024_d0 Cert.RedORefIdeal.Gen.h_S_
      : Vec Ideal Cert.RedORefIdeal.S128x1024 .f32) = gradArr own recv mark := by
  funext y
  idx_vars y
  unfold gradArr total pick
  pointwise

/-- The idealized kernel and the idealized reference, from the same arguments, end with the same four arrays. -/
theorem algebraic : Cert.algebraic_RedOIdeal_RedORefIdeal := by
  intro m g m' g' _ hagree
  refine ⟨fun c => gradArr (m (c.tc.loc main_arg1)) (m (c.tc.loc main_arg2)) (m (c.tc.loc main_arg3)), fun c => deltaArr (m (c.tc.loc main_arg0)) (gradArr (m (c.tc.loc main_arg1)) (m (c.tc.loc main_arg2)) (m (c.tc.loc main_arg3))) (m (c.tc.loc main_arg4)) (m (c.tc.loc main_arg5)),
    fun c => moment1Arr (gradArr (m (c.tc.loc main_arg1)) (m (c.tc.loc main_arg2)) (m (c.tc.loc main_arg3))) (m (c.tc.loc main_arg4)), fun c => moment2Arr (gradArr (m (c.tc.loc main_arg1)) (m (c.tc.loc main_arg2)) (m (c.tc.loc main_arg3))) (m (c.tc.loc main_arg5)), ?_, ?_⟩
  · refine (θ_run _ _ _).mono (fun r h c => ?_) (Cert.RedOIdeal.Value.run_blocks (F := Ideal) m g)
    obtain ⟨h6, h7, h8, h9, h⟩ := h c
    exact ⟨h6.trans (arr6 m c), h7.trans (arr7 m c), h8.trans (arr8 m c), h9.trans (arr9 m c), h⟩
  · refine (θ_run _ _ _).mono (fun r h c => ?_) (Cert.RedORefIdeal.Value.run (F := Ideal) m' g')
    obtain ⟨h6, h7, h8, h9, h⟩ := h c
    obtain ⟨e0, e1, e2, e3, e4, e5⟩ := hagree c
    rw [e1, e2, e3, ref_grad] at h6
    rw [e0, e1, e2, e3, e4, e5, ref_grad] at h7
    rw [e1, e2, e3, e4, ref_grad] at h8
    rw [e1, e2, e3, e5, ref_grad] at h9
    refine ⟨h6, h7.trans ?_, h8.trans ?_, h9.trans ?_, h⟩
    · funext y
      unfold deltaArr delta moment1 moment2
      pointwise
    · funext y
      unfold moment1Arr moment1
      pointwise
    · funext y
      unfold moment2Arr moment2
      pointwise

end Cert.Proof.RedO

end
-- ==== Proof.RedMValue.lean ====
module

public import proofs.«01_k».proof.Defs
public import proofs.«01_k».proof.Proof.Gen.RedMIdeal.Value
public import proofs.«01_k».proof.Proof.AdamWValue
public import proofs.«01_k».proof.Proof.Reduce
public import Idealize.ShloMosaic.Lib.Pipeline.ValueKit
public import Idealize.ShloMosaic.Lib.Pipeline.ReadBack

/-!
The value of the reducing optimiser call (`adamw_mlstm_w_in`): the gradient summed over the devices, the step and the two new
moments, element by element.
-/

@[expose] public section

set_option maxRecDepth 16384

noncomputable section

namespace Cert.Proof.RedM

open Cert.RedMIdeal Cert.RedMIdeal.Gen Idealize.ShloMosaic Idealize.ShloMosaic.TcCoe Idealize.SL.Sem
open Idealize.ShloMosaic.Pipeline (Dat)
open Cert.Proof.AdamW (moment1 moment2 delta)
open Cert.Proof.Reduce (pick total total_eq)
open scoped BigOperators

/-- The gradient summed over the devices. -/
def gradArr (own : Vec Ideal S1024x386 .f32) (recv : Vec Ideal S8x1024x386 .bf16) (mark : Vec Ideal S8 .f32) : Vec Ideal S1024x386 .f32 :=
  fun i => total (fun j => mark (ix1 j)) (own i) (fun j => recv (ix3 j (i 0) (i 1)))

def deltaArr (w g m v : Vec Ideal S1024x386 .f32) : Vec Ideal S1024x386 .f32 := fun i => delta (w i) (g i) (m i) (v i)
def moment1Arr (g m : Vec Ideal S1024x386 .f32) : Vec Ideal S1024x386 .f32 := fun i => moment1 (g i) (m i)
def moment2Arr (g v : Vec Ideal S1024x386 .f32) : Vec Ideal S1024x386 .f32 := fun i => moment2 (g i) (v i)

/-! ## The kernel's values, at variable blocks -/

theorem pay1_apply (a0 a1 a2 a3 : EReal) (x : Vec Ideal S128x386 .f32) (b0 b1 b2 b3 : Vec Ideal S1x128x386 .bf16) (r : Fin 128) (k : Fin 386) :
    k0_pay1 (F := Ideal) a0 x b0 a1 x b1 a2 x b2 a3 x b3 (ix2 r k)
      = pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay1]
  simp only [ite_apply]
  pointwise

theorem pay2_apply (s : Vec Ideal S128x386 .f32) (a0 a1 a2 a3 : EReal) (x : Vec Ideal S128x386 .f32) (b0 b1 b2 b3 : Vec Ideal S1x128x386 .bf16) (r : Fin 128) (k : Fin 386) :
    k0_pay2 (F := Ideal) s a0 x b0 a1 x b1 a2 x b2 a3 x b3 (ix2 r k)
      = s (ix2 r k) + pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay2]
  simp only [ite_apply]
  pointwise

/-- What one point stores as the gradient's block. -/
def gblk (x0 : Vec Ideal S8 .f32) (x4 : Vec Ideal S128x386 .f32) (x5 : Vec Ideal S8x128x386 .bf16) : Vec Ideal S128x386 .f32 :=
  k0_pay2 (k0_pay1 (View.ld x0 (Rect.unit ![0] ![1] inb_S8_S1_0) (Shape.Idx.first (by decide))) x4 (View.ld x5 (Rect.unit ![0, 0, 0] ![1, 128, 386] inb_S8x128x386_S1x128x386_0_0_0)) (View.ld x0 (Rect.unit ![1] ![1] inb_S8_S1_1) (Shape.Idx.first (by decide))) x4 (View.ld x5 (Rect.unit ![1, 0, 0] ![1, 128, 386] inb_S8x128x386_S1x128x386_1_0_0)) (View.ld x0 (Rect.unit ![2] ![1] inb_S8_S1_2) (Shape.Idx.first (by decide))) x4 (View.ld x5 (Rect.unit ![2, 0, 0] ![1, 128, 386] inb_S8x128x386_S1x128x386_2_0_0)) (View.ld x0 (Rect.unit ![3] ![1] inb_S8_S1_3) (Shape.Idx.first (by decide))) x4 (View.ld x5 (Rect.unit ![3, 0, 0] ![1, 128, 386] inb_S8x128x386_S1x128x386_3_0_0))) (View.ld x0 (Rect.unit ![4] ![1] inb_S8_S1_4) (Shape.Idx.first (by decide))) x4 (View.ld x5 (Rect.unit ![4, 0, 0] ![1, 128, 386] inb_S8x128x386_S1x128x386_4_0_0)) (View.ld x0 (Rect.unit ![5] ![1] inb_S8_S1_5) (Shape.Idx.first (by decide))) x4 (View.ld x5 (Rect.unit ![5, 0, 0] ![1, 128, 386] inb_S8x128x386_S1x128x386_5_0_0)) (View.ld x0 (Rect.unit ![6] ![1] inb_S8_S1_6) (Shape.Idx.first (by decide))) x4 (View.ld x5 (Rect.unit ![6, 0, 0] ![1, 128, 386] inb_S8x128x386_S1x128x386_6_0_0)) (View.ld x0 (Rect.unit ![7] ![1] inb_S8_S1_7) (Shape.Idx.first (by decide))) x4 (View.ld x5 (Rect.unit ![7, 0, 0] ![1, 128, 386] inb_S8x128x386_S1x128x386_7_0_0))

theorem gblk_apply (x0 : Vec Ideal S8 .f32) (x4 : Vec Ideal S128x386 .f32) (x5 : Vec Ideal S8x128x386 .bf16) (r : Fin 128) (k : Fin 386) :
    gblk x0 x4 x5 (ix2 r k) = total (fun j => x0 (ix1 j)) (x4 (ix2 r k)) (fun j => x5 (ix3 j r k)) := by
  rw [total_eq]
  unfold gblk
  rw [pay2_apply, pay1_apply]
  pointwise

theorem pay4_apply (g m : Vec Ideal S128x386 .f32) (y : S128x386.Idx) : k0_pay4 g m y = moment1 (g y) (m y) := by
  unfold moment1
  pointwise [k0_pay4, k0_pay3]

theorem pay5_apply (g v : Vec Ideal S128x386 .f32) (y : S128x386.Idx) : k0_pay5 g v y = moment2 (g y) (v y) := by
  unfold moment2
  pointwise [k0_pay5, k0_pay3]

theorem pay6_apply (g m v w : Vec Ideal S128x386 .f32) (y : S128x386.Idx) :
    k0_pay6 g m v w y = delta (w y) (g y) (m y) (v y) := by
  unfold delta moment1 moment2
  pointwise [k0_pay6, k0_pay4, k0_pay5, k0_pay3]

variable (m : (ℓ : Loc nD τ sig) → Buf (Elt Ideal) ℓ)

theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx5 : ∀ t : Fin grid0.N, win0_5.index t = ![0, t.val, 0] := by decide +kernel

/-- Row `r` of the block of point `t`. -/
theorem row_lt (t : Fin grid0.N) (r : Fin 128) : t.val * 128 + r.val < 1024 := by
  have h : t.val < 8 := t.isLt
  omega

theorem mark_iblk (c : Dev nD) (t : Fin cfg0.N) (j : Fin 8) :
    (iblk m c 0 t : Vec Ideal S8 .f32) (ix1 j) = ((m (c.tc.loc main_arg3)) : Vec Ideal S8 .f32) (ix1 j) := by
  blk_point [iblk, V, idx0 t]

theorem iblk1_apply (c : Dev nD) (t : Fin cfg0.N) (r : Fin 128) (k : Fin 386) :
    (iblk m c 1 t : Vec Ideal S128x386 .f32) (ix2 r k) = ((m (c.tc.loc main_arg0)) : Vec Ideal S1024x386 .f32) (ix2 ⟨t.val * 128 + r.val, row_lt t r⟩ k) := by
  blk_point [iblk, V, idx1 t]

theorem iblk2_apply (c : Dev nD) (t : Fin cfg0.N) (r : Fin 128) (k : Fin 386) :
    (iblk m c 2 t : Vec Ideal S128x386 .f32) (ix2 r k) = ((m (c.tc.loc main_arg4)) : Vec Ideal S1024x386 .f32) (ix2 ⟨t.val * 128 + r.val, row_lt t r⟩ k) := by
  blk_point [iblk, V, idx2 t]

theorem iblk3_apply (c : Dev nD) (t : Fin cfg0.N) (r : Fin 128) (k : Fin 386) :
    (iblk m c 3 t : Vec Ideal S128x386 .f32) (ix2 r k) = ((m (c.tc.loc main_arg5)) : Vec Ideal S1024x386 .f32) (ix2 ⟨t.val * 128 + r.val, row_lt t r⟩ k) := by
  blk_point [iblk, V, idx3 t]

theorem iblk4_apply (c : Dev nD) (t : Fin cfg0.N) (r : Fin 128) (k : Fin 386) :
    (iblk m c 4 t : Vec Ideal S128x386 .f32) (ix2 r k) = ((m (c.tc.loc main_arg1)) : Vec Ideal S1024x386 .f32) (ix2 ⟨t.val * 128 + r.val, row_lt t r⟩ k) := by
  blk_point [iblk, V, idx4 t]

theorem recv_iblk (c : Dev nD) (t : Fin cfg0.N) (j : Fin 8) (r : Fin 128) (k : Fin 386) :
    (iblk m c 5 t : Vec Ideal S8x128x386 .bf16) (ix3 j r k) = ((m (c.tc.loc main_arg2)) : Vec Ideal S8x1024x386 .bf16) (ix3 j ⟨t.val * 128 + r.val, row_lt t r⟩ k) := by
  blk_point [iblk, V, idx5 t]

theorem g_iblk (c : Dev nD) (t : Fin cfg0.N) (r : Fin 128) (k : Fin 386) :
    gblk (iblk m c 0 t) (iblk m c 4 t) (iblk m c 5 t) (ix2 r k)
      = gradArr (m (c.tc.loc main_arg1)) (m (c.tc.loc main_arg2)) (m (c.tc.loc main_arg3)) (ix2 ⟨t.val * 128 + r.val, row_lt t r⟩ k) :=
  (gblk_apply _ _ _ _ _).trans (congr (congrArg₂ total (funext fun j => mark_iblk m c t j) (iblk4_apply m c t r k))
    (funext fun j => recv_iblk m c t j r k))

theorem out6 (c : Dev nD) (t : Fin cfg0.N) : (outsAt0 m c t).1 = (gblk (iblk m c 0 t) (iblk m c 4 t) (iblk m c 5 t)) := by
  unfold outsAt0 gblk
  frame_out

theorem arr6 (c : Dev nD) : (dats m 0 c).arrAt 6 cfg0.N = gradArr (m (c.tc.loc main_arg1)) (m (c.tc.loc main_arg2)) (m (c.tc.loc main_arg3)) := by
  refine (dats m 0 c).arrAt_eq_of_covers 6 _ (by decide +kernel) fun t hf y => ?_
  blk_simp
  rw [after0_6, out6]
  idx_vars y
  refine ((g_iblk m c t _ _)).trans ?_
  refine congrArg (gradArr (m (c.tc.loc main_arg1)) (m (c.tc.loc main_arg2)) (m (c.tc.loc main_arg3))) ?_
  blk_ext [idx6 t]

theorem out7 (c : Dev nD) (t : Fin cfg0.N) : (outsAt0 m c t).2.1 = k0_pay6 (gblk (iblk m c 0 t) (iblk m c 4 t) (iblk m c 5 t)) (iblk m c 2 t) (iblk m c 3 t) (iblk m c 1 t) := by
  unfold outsAt0 gblk
  frame_out

theorem arr7 (c : Dev nD) : (dats m 0 c).arrAt 7 cfg0.N = deltaArr (m (c.tc.loc main_arg0)) (gradArr (m (c.tc.loc main_arg1)) (m (c.tc.loc main_arg2)) (m (c.tc.loc main_arg3))) (m (c.tc.loc main_arg4)) (m (c.tc.loc main_arg5)) := by
  refine (dats m 0 c).arrAt_eq_of_covers 7 _ (by decide +kernel) fun t hf y => ?_
  blk_simp
  rw [after0_7, out7]
  idx_vars y
  refine (pay6_apply _ _ _ _ _).trans ((congr (congr (congrArg₂ delta (iblk1_apply m c t _ _) (g_iblk m c t _ _)) (iblk2_apply m c t _ _)) (iblk3_apply m c t _ _)).trans ?_)
  refine congrArg (deltaArr (m (c.tc.loc main_arg0)) (gradArr (m (c.tc.loc main_arg1)) (m (c.tc.loc main_arg2)) (m (c.tc.loc main_arg3))) (m (c.tc.loc main_arg4)) (m (c.tc.loc main_arg5))) (a₁ := ix2 ⟨t.val * 128 + _, row_lt t _⟩ _) ?_
  blk_ext [idx7 t]

theorem out8 (c : Dev nD) (t : Fin cfg0.N) : (outsAt0 m c t).2.2.1 = k0_pay4 (gblk (iblk m c 0 t) (iblk m c 4 t) (iblk m c 5 t)) (iblk m c 2 t) := by
  unfold outsAt0 gblk
  frame_out

theorem arr8 (c : Dev nD) : (dats m 0 c).arrAt 8 cfg0.N = moment1Arr (gradArr (m (c.tc.loc main_arg1)) (m (c.tc.loc main_arg2)) (m (c.tc.loc main_arg3))) (m (c.tc.loc main_arg4)) := by
  refine (dats m 0 c).arrAt_eq_of_covers 8 _ (by decide +kernel) fun t hf y => ?_
  blk_simp
  rw [after0_8, out8]
  idx_vars y
  refine (pay4_apply _ _ _).trans ((congrArg₂ moment1 (g_iblk m c t _ _) (iblk2_apply m c t _ _)).trans ?_)
  refine congrArg (moment1Arr (gradArr (m (c.tc.loc main_arg1)) (m (c.tc.loc main_arg2)) (m (c.tc.loc main_arg3))) (m (c.tc.loc main_arg4))) (a₁ := ix2 ⟨t.val * 128 + _, row_lt t _⟩ _) ?_
  blk_ext [idx8 t]

theorem out9 (c : Dev nD) (t : Fin cfg0.N) : (outsAt0 m c t).2.2.2 = k0_pay5 (gblk (iblk m c 0 t) (iblk m c 4 t) (iblk m c 5 t)) (iblk m c 3 t) := by
  unfold outsAt0 gblk
  frame_out

theorem arr9 (c : Dev nD) : (dats m 0 c).arrAt 9 cfg0.N = moment2Arr (gradArr (m (c.tc.loc main_arg1)) (m (c.tc.loc main_arg2)) (m (c.tc.loc main_arg3))) (m (c.tc.loc main_arg5)) := by
  refine (dats m 0 c).arrAt_eq_of_covers 9 _ (by decide +kernel) fun t hf y => ?_
  blk_simp
  rw [after0_9, out9]
  idx_vars y
  refine (pay5_apply _ _ _).trans ((congrArg₂ moment2 (g_iblk m c t _ _) (iblk3_apply m c t _ _)).trans ?_)
  refine congrArg (moment2Arr (gradArr (m (c.tc.loc main_arg1)) (m (c.tc.loc main_arg2)) (m (c.tc.loc main_arg3))) (m (c.tc.loc main_arg5))) (a₁ := ix2 ⟨t.val * 128 + _, row_lt t _⟩ _) ?_
  blk_ext [idx9 t]

end Cert.Proof.RedM

end
-- ==== Proof.RedMClaim.lean ====
module

public import proofs.«01_k».proof.Defs
public import proofs.«01_k».proof.Proof.Gen.RedMIdeal.Value
public import proofs.«01_k».proof.Proof.RedMValue
public import proofs.«01_k».proof.Proof.Gen.RedMRefIdeal.Run
public import Idealize.ShloMosaic.Lib.Pipeline.ValueKit
public import Idealize.ShloMosaic.Lib.Pipeline.ReadBack

/-!
The value claim of the reducing optimiser call: the kernel's four arrays, computed in `RedMValue`, are the ones the
reference's host operations compute.
-/

@[expose] public section

set_option maxRecDepth 16384

noncomputable section

namespace Cert.Proof.RedM

open Cert.RedMIdeal Cert.RedMIdeal.Gen Idealize.ShloMosaic Idealize.ShloMosaic.TcCoe Idealize.SL.Sem
open Idealize.ShloMosaic.Pipeline (Dat)
open Cert.Proof.AdamW (moment1 moment2 delta)
open Cert.Proof.Reduce (pick total)
open scoped BigOperators

/-- The reference's sum over the devices, at variable arrays. -/
theorem ref_grad (own : Vec Ideal Cert.RedMRefIdeal.S1024x386 .f32) (recv : Vec Ideal Cert.RedMRefIdeal.S8x1024x386 .bf16) (mark : Vec Ideal Cert.RedMRefIdeal.S8 .f32) :
    (Host.reduceAdd (F := Ideal) (select (broadcastInDim Cert.RedMRefIdeal.S8x1024x386 ![0, 1, 2] Cert.RedMRefIdeal.Gen.bcast_S8x1x1_S8x1024x386_0_1_2
      (cmpf (F := Ideal) .ogt (broadcastInDim Cert.RedMRefIdeal.S8x1x1 ![0] Cert.RedMRefIdeal.Gen.bcast_S8_S8x1x1_0 mark)
        (broadcastInDim Cert.RedMRefIdeal.S8x1x1 ![] Cert.RedMRefIdeal.Gen.bcast_S_S8x1x1 (constant (F := Ideal) Cert.RedMRefIdeal.S_ .f32 0x3F000000#32))))
      (broadcastInDim Cert.RedMRefIdeal.S8x1024x386 ![0, 1, 2] Cert.RedMRefIdeal.Gen.bcast_S1x1024x386_S8x1024x386_0_1_2
        (broadcastInDim Cert.RedMRefIdeal.S1x1024x386 ![1, 2] Cert.RedMRefIdeal.Gen.bcast_S1024x386_S1x1024x386_1_2 own))
      (extf (F := Ideal) .f32 recv Cert.RedMRefIdeal.Gen.bitsLt_bf16_f32))
      (constant (F := Ideal) Cert.RedMRefIdeal.S_ .f32 0x00000000#32) Cert.RedMRefIdeal.Gen.reducesTo_S8x1024x386_S1024x386_d0 Cert.RedMRefIdeal.Gen.h_S_
      : Vec Ideal Cert.RedMRefIdeal.S1024x386 .f32) = gradArr own recv mark := by
  funext y
  idx_vars y
  unfold gradArr total pick
  pointwise

/-- The idealized kernel and the idealized reference, from the same arguments, end with the same four arrays. -/
theorem algebraic : Cert.algebraic_RedMIdeal_RedMRefIdeal := by
  intro m g m' g' _ hagree
  refine ⟨fun c => gradArr (m (c.tc.loc main_arg1)) (m (c.tc.loc main_arg2)) (m (c.tc.loc main_arg3)), fun c => deltaArr (m (c.tc.loc main_arg0)) (gradArr (m (c.tc.loc main_arg1)) (m (c.tc.loc main_arg2)) (m (c.tc.loc main_arg3))) (m (c.tc.loc main_arg4)) (m (c.tc.loc main_arg5)),
    fun c => moment1Arr (gradArr (m (c.tc.loc main_arg1)) (m (c.tc.loc main_arg2)) (m (c.tc.loc main_arg3))) (m (c.tc.loc main_arg4)), fun c => moment2Arr (gradArr (m (c.tc.loc main_arg1)) (m (c.tc.loc main_arg2)) (m (c.tc.loc main_arg3))) (m (c.tc.loc main_arg5)), ?_, ?_⟩
  · refine (θ_run _ _ _).mono (fun r h c => ?_) (Cert.RedMIdeal.Value.run_blocks (F := Ideal) m g)
    obtain ⟨h6, h7, h8, h9, h⟩ := h c
    exact ⟨h6.trans (arr6 m c), h7.trans (arr7 m c), h8.trans (arr8 m c), h9.trans (arr9 m c), h⟩
  · refine (θ_run _ _ _).mono (fun r h c => ?_) (Cert.RedMRefIdeal.Value.run (F := Ideal) m' g')
    obtain ⟨h6, h7, h8, h9, h⟩ := h c
    obtain ⟨e0, e1, e2, e3, e4, e5⟩ := hagree c
    rw [e1, e2, e3, ref_grad] at h6
    rw [e0, e1, e2, e3, e4, e5, ref_grad] at h7
    rw [e1, e2, e3, e4, ref_grad] at h8
    rw [e1, e2, e3, e5, ref_grad] at h9
    refine ⟨h6, h7.trans ?_, h8.trans ?_, h9.trans ?_, h⟩
    · funext y
      unfold deltaArr delta moment1 moment2
      pointwise
    · funext y
      unfold moment1Arr moment1
      pointwise
    · funext y
      unfold moment2Arr moment2
      pointwise

end Cert.Proof.RedM

end
-- ==== Proof.RedAValue.lean ====
module

public import proofs.«01_k».proof.Defs
public import proofs.«01_k».proof.Proof.Gen.RedAIdeal.Value
public import proofs.«01_k».proof.Proof.AdamWValue
public import proofs.«01_k».proof.Proof.Reduce
public import Idealize.ShloMosaic.Lib.Pipeline.ValueKit
public import Idealize.ShloMosaic.Lib.Pipeline.ReadBack

/-!
The value of the reducing optimiser call (`adamw_attn_w_in`): the gradient summed over the devices, the step and the two new
moments, element by element.
-/

@[expose] public section

set_option maxRecDepth 16384

noncomputable section

namespace Cert.Proof.RedA

open Cert.RedAIdeal Cert.RedAIdeal.Gen Idealize.ShloMosaic Idealize.ShloMosaic.TcCoe Idealize.SL.Sem
open Idealize.ShloMosaic.Pipeline (Dat)
open Cert.Proof.AdamW (moment1 moment2 delta)
open Cert.Proof.Reduce (pick total total_eq)
open scoped BigOperators

/-- The gradient summed over the devices. -/
def gradArr (own : Vec Ideal S1024x1152 .f32) (recv : Vec Ideal S8x1024x1152 .bf16) (mark : Vec Ideal S8 .f32) : Vec Ideal S1024x1152 .f32 :=
  fun i => total (fun j => mark (ix1 j)) (own i) (fun j => recv (ix3 j (i 0) (i 1)))

def deltaArr (w g m v : Vec Ideal S1024x1152 .f32) : Vec Ideal S1024x1152 .f32 := fun i => delta (w i) (g i) (m i) (v i)
def moment1Arr (g m : Vec Ideal S1024x1152 .f32) : Vec Ideal S1024x1152 .f32 := fun i => moment1 (g i) (m i)
def moment2Arr (g v : Vec Ideal S1024x1152 .f32) : Vec Ideal S1024x1152 .f32 := fun i => moment2 (g i) (v i)

/-! ## The kernel's values, at variable blocks -/

theorem pay1_apply (a0 a1 a2 a3 : EReal) (x : Vec Ideal S128x1152 .f32) (b0 b1 b2 b3 : Vec Ideal S1x128x1152 .bf16) (r : Fin 128) (k : Fin 1152) :
    k0_pay1 (F := Ideal) a0 x b0 a1 x b1 a2 x b2 a3 x b3 (ix2 r k)
      = pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay1]
  simp only [ite_apply]
  pointwise

theorem pay2_apply (s : Vec Ideal S128x1152 .f32) (a0 a1 a2 a3 : EReal) (x : Vec Ideal S128x1152 .f32) (b0 b1 b2 b3 : Vec Ideal S1x128x1152 .bf16) (r : Fin 128) (k : Fin 1152) :
    k0_pay2 (F := Ideal) s a0 x b0 a1 x b1 a2 x b2 a3 x b3 (ix2 r k)
      = s (ix2 r k) + pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay2]
  simp only [ite_apply]
  pointwise

/-- What one point stores as the gradient's block. -/
def gblk (x0 : Vec Ideal S8 .f32) (x4 : Vec Ideal S128x1152 .f32) (x5 : Vec Ideal S8x128x1152 .bf16) : Vec Ideal S128x1152 .f32 :=
  k0_pay2 (k0_pay1 (View.ld x0 (Rect.unit ![0] ![1] inb_S8_S1_0) (Shape.Idx.first (by decide))) x4 (View.ld x5 (Rect.unit ![0, 0, 0] ![1, 128, 1152] inb_S8x128x1152_S1x128x1152_0_0_0)) (View.ld x0 (Rect.unit ![1] ![1] inb_S8_S1_1) (Shape.Idx.first (by decide))) x4 (View.ld x5 (Rect.unit ![1, 0, 0] ![1, 128, 1152] inb_S8x128x1152_S1x128x1152_1_0_0)) (View.ld x0 (Rect.unit ![2] ![1] inb_S8_S1_2) (Shape.Idx.first (by decide))) x4 (View.ld x5 (Rect.unit ![2, 0, 0] ![1, 128, 1152] inb_S8x128x1152_S1x128x1152_2_0_0)) (View.ld x0 (Rect.unit ![3] ![1] inb_S8_S1_3) (Shape.Idx.first (by decide))) x4 (View.ld x5 (Rect.unit ![3, 0, 0] ![1, 128, 1152] inb_S8x128x1152_S1x128x1152_3_0_0))) (View.ld x0 (Rect.unit ![4] ![1] inb_S8_S1_4) (Shape.Idx.first (by decide))) x4 (View.ld x5 (Rect.unit ![4, 0, 0] ![1, 128, 1152] inb_S8x128x1152_S1x128x1152_4_0_0)) (View.ld x0 (Rect.unit ![5] ![1] inb_S8_S1_5) (Shape.Idx.first (by decide))) x4 (View.ld x5 (Rect.unit ![5, 0, 0] ![1, 128, 1152] inb_S8x128x1152_S1x128x1152_5_0_0)) (View.ld x0 (Rect.unit ![6] ![1] inb_S8_S1_6) (Shape.Idx.first (by decide))) x4 (View.ld x5 (Rect.unit ![6, 0, 0] ![1, 128, 1152] inb_S8x128x1152_S1x128x1152_6_0_0)) (View.ld x0 (Rect.unit ![7] ![1] inb_S8_S1_7) (Shape.Idx.first (by decide))) x4 (View.ld x5 (Rect.unit ![7, 0, 0] ![1, 128, 1152] inb_S8x128x1152_S1x128x1152_7_0_0))

theorem gblk_apply (x0 : Vec Ideal S8 .f32) (x4 : Vec Ideal S128x1152 .f32) (x5 : Vec Ideal S8x128x1152 .bf16) (r : Fin 128) (k : Fin 1152) :
    gblk x0 x4 x5 (ix2 r k) = total (fun j => x0 (ix1 j)) (x4 (ix2 r k)) (fun j => x5 (ix3 j r k)) := by
  rw [total_eq]
  unfold gblk
  rw [pay2_apply, pay1_apply]
  pointwise

theorem pay4_apply (g m : Vec Ideal S128x1152 .f32) (y : S128x1152.Idx) : k0_pay4 g m y = moment1 (g y) (m y) := by
  unfold moment1
  pointwise [k0_pay4, k0_pay3]

theorem pay5_apply (g v : Vec Ideal S128x1152 .f32) (y : S128x1152.Idx) : k0_pay5 g v y = moment2 (g y) (v y) := by
  unfold moment2
  pointwise [k0_pay5, k0_pay3]

theorem pay6_apply (g m v w : Vec Ideal S128x1152 .f32) (y : S128x1152.Idx) :
    k0_pay6 g m v w y = delta (w y) (g y) (m y) (v y) := by
  unfold delta moment1 moment2
  pointwise [k0_pay6, k0_pay4, k0_pay5, k0_pay3]

variable (m : (ℓ : Loc nD τ sig) → Buf (Elt Ideal) ℓ)

theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx5 : ∀ t : Fin grid0.N, win0_5.index t = ![0, t.val, 0] := by decide +kernel

/-- Row `r` of the block of point `t`. -/
theorem row_lt (t : Fin grid0.N) (r : Fin 128) : t.val * 128 + r.val < 1024 := by
  have h : t.val < 8 := t.isLt
  omega

theorem mark_iblk (c : Dev nD) (t : Fin cfg0.N) (j : Fin 8) :
    (iblk m c 0 t : Vec Ideal S8 .f32) (ix1 j) = ((m (c.tc.loc main_arg3)) : Vec Ideal S8 .f32) (ix1 j) := by
  blk_point [iblk, V, idx0 t]

theorem iblk1_apply (c : Dev nD) (t : Fin cfg0.N) (r : Fin 128) (k : Fin 1152) :
    (iblk m c 1 t : Vec Ideal S128x1152 .f32) (ix2 r k) = ((m (c.tc.loc main_arg0)) : Vec Ideal S1024x1152 .f32) (ix2 ⟨t.val * 128 + r.val, row_lt t r⟩ k) := by
  blk_point [iblk, V, idx1 t]

theorem iblk2_apply (c : Dev nD) (t : Fin cfg0.N) (r : Fin 128) (k : Fin 1152) :
    (iblk m c 2 t : Vec Ideal S128x1152 .f32) (ix2 r k) = ((m (c.tc.loc main_arg4)) : Vec Ideal S1024x1152 .f32) (ix2 ⟨t.val * 128 + r.val, row_lt t r⟩ k) := by
  blk_point [iblk, V, idx2 t]

theorem iblk3_apply (c : Dev nD) (t : Fin cfg0.N) (r : Fin 128) (k : Fin 1152) :
    (iblk m c 3 t : Vec Ideal S128x1152 .f32) (ix2 r k) = ((m (c.tc.loc main_arg5)) : Vec Ideal S1024x1152 .f32) (ix2 ⟨t.val * 128 + r.val, row_lt t r⟩ k) := by
  blk_point [iblk, V, idx3 t]

theorem iblk4_apply (c : Dev nD) (t : Fin cfg0.N) (r : Fin 128) (k : Fin 1152) :
    (iblk m c 4 t : Vec Ideal S128x1152 .f32) (ix2 r k) = ((m (c.tc.loc main_arg1)) : Vec Ideal S1024x1152 .f32) (ix2 ⟨t.val * 128 + r.val, row_lt t r⟩ k) := by
  blk_point [iblk, V, idx4 t]

theorem recv_iblk (c : Dev nD) (t : Fin cfg0.N) (j : Fin 8) (r : Fin 128) (k : Fin 1152) :
    (iblk m c 5 t : Vec Ideal S8x128x1152 .bf16) (ix3 j r k) = ((m (c.tc.loc main_arg2)) : Vec Ideal S8x1024x1152 .bf16) (ix3 j ⟨t.val * 128 + r.val, row_lt t r⟩ k) := by
  blk_point [iblk, V, idx5 t]

theorem g_iblk (c : Dev nD) (t : Fin cfg0.N) (r : Fin 128) (k : Fin 1152) :
    gblk (iblk m c 0 t) (iblk m c 4 t) (iblk m c 5 t) (ix2 r k)
      = gradArr (m (c.tc.loc main_arg1)) (m (c.tc.loc main_arg2)) (m (c.tc.loc main_arg3)) (ix2 ⟨t.val * 128 + r.val, row_lt t r⟩ k) :=
  (gblk_apply _ _ _ _ _).trans (congr (congrArg₂ total (funext fun j => mark_iblk m c t j) (iblk4_apply m c t r k))
    (funext fun j => recv_iblk m c t j r k))

theorem out6 (c : Dev nD) (t : Fin cfg0.N) : (outsAt0 m c t).1 = (gblk (iblk m c 0 t) (iblk m c 4 t) (iblk m c 5 t)) := by
  unfold outsAt0 gblk
  frame_out

theorem arr6 (c : Dev nD) : (dats m 0 c).arrAt 6 cfg0.N = gradArr (m (c.tc.loc main_arg1)) (m (c.tc.loc main_arg2)) (m (c.tc.loc main_arg3)) := by
  refine (dats m 0 c).arrAt_eq_of_covers 6 _ (by decide +kernel) fun t hf y => ?_
  blk_simp
  rw [after0_6, out6]
  idx_vars y
  refine ((g_iblk m c t _ _)).trans ?_
  refine congrArg (gradArr (m (c.tc.loc main_arg1)) (m (c.tc.loc main_arg2)) (m (c.tc.loc main_arg3))) ?_
  blk_ext [idx6 t]

theorem out7 (c : Dev nD) (t : Fin cfg0.N) : (outsAt0 m c t).2.1 = k0_pay6 (gblk (iblk m c 0 t) (iblk m c 4 t) (iblk m c 5 t)) (iblk m c 2 t) (iblk m c 3 t) (iblk m c 1 t) := by
  unfold outsAt0 gblk
  frame_out

theorem arr7 (c : Dev nD) : (dats m 0 c).arrAt 7 cfg0.N = deltaArr (m (c.tc.loc main_arg0)) (gradArr (m (c.tc.loc main_arg1)) (m (c.tc.loc main_arg2)) (m (c.tc.loc main_arg3))) (m (c.tc.loc main_arg4)) (m (c.tc.loc main_arg5)) := by
  refine (dats m 0 c).arrAt_eq_of_covers 7 _ (by decide +kernel) fun t hf y => ?_
  blk_simp
  rw [after0_7, out7]
  idx_vars y
  refine (pay6_apply _ _ _ _ _).trans ((congr (congr (congrArg₂ delta (iblk1_apply m c t _ _) (g_iblk m c t _ _)) (iblk2_apply m c t _ _)) (iblk3_apply m c t _ _)).trans ?_)
  refine congrArg (deltaArr (m (c.tc.loc main_arg0)) (gradArr (m (c.tc.loc main_arg1)) (m (c.tc.loc main_arg2)) (m (c.tc.loc main_arg3))) (m (c.tc.loc main_arg4)) (m (c.tc.loc main_arg5))) (a₁ := ix2 ⟨t.val * 128 + _, row_lt t _⟩ _) ?_
  blk_ext [idx7 t]

theorem out8 (c : Dev nD) (t : Fin cfg0.N) : (outsAt0 m c t).2.2.1 = k0_pay4 (gblk (iblk m c 0 t) (iblk m c 4 t) (iblk m c 5 t)) (iblk m c 2 t) := by
  unfold outsAt0 gblk
  frame_out

theorem arr8 (c : Dev nD) : (dats m 0 c).arrAt 8 cfg0.N = moment1Arr (gradArr (m (c.tc.loc main_arg1)) (m (c.tc.loc main_arg2)) (m (c.tc.loc main_arg3))) (m (c.tc.loc main_arg4)) := by
  refine (dats m 0 c).arrAt_eq_of_covers 8 _ (by decide +kernel) fun t hf y => ?_
  blk_simp
  rw [after0_8, out8]
  idx_vars y
  refine (pay4_apply _ _ _).trans ((congrArg₂ moment1 (g_iblk m c t _ _) (iblk2_apply m c t _ _)).trans ?_)
  refine congrArg (moment1Arr (gradArr (m (c.tc.loc main_arg1)) (m (c.tc.loc main_arg2)) (m (c.tc.loc main_arg3))) (m (c.tc.loc main_arg4))) (a₁ := ix2 ⟨t.val * 128 + _, row_lt t _⟩ _) ?_
  blk_ext [idx8 t]

theorem out9 (c : Dev nD) (t : Fin cfg0.N) : (outsAt0 m c t).2.2.2 = k0_pay5 (gblk (iblk m c 0 t) (iblk m c 4 t) (iblk m c 5 t)) (iblk m c 3 t) := by
  unfold outsAt0 gblk
  frame_out

theorem arr9 (c : Dev nD) : (dats m 0 c).arrAt 9 cfg0.N = moment2Arr (gradArr (m (c.tc.loc main_arg1)) (m (c.tc.loc main_arg2)) (m (c.tc.loc main_arg3))) (m (c.tc.loc main_arg5)) := by
  refine (dats m 0 c).arrAt_eq_of_covers 9 _ (by decide +kernel) fun t hf y => ?_
  blk_simp
  rw [after0_9, out9]
  idx_vars y
  refine (pay5_apply _ _ _).trans ((congrArg₂ moment2 (g_iblk m c t _ _) (iblk3_apply m c t _ _)).trans ?_)
  refine congrArg (moment2Arr (gradArr (m (c.tc.loc main_arg1)) (m (c.tc.loc main_arg2)) (m (c.tc.loc main_arg3))) (m (c.tc.loc main_arg5))) (a₁ := ix2 ⟨t.val * 128 + _, row_lt t _⟩ _) ?_
  blk_ext [idx9 t]

end Cert.Proof.RedA

end
-- ==== Proof.RedAClaim.lean ====
module

public import proofs.«01_k».proof.Defs
public import proofs.«01_k».proof.Proof.Gen.RedAIdeal.Value
public import proofs.«01_k».proof.Proof.RedAValue
public import proofs.«01_k».proof.Proof.Gen.RedARefIdeal.Run
public import Idealize.ShloMosaic.Lib.Pipeline.ValueKit
public import Idealize.ShloMosaic.Lib.Pipeline.ReadBack

/-!
The value claim of the reducing optimiser call: the kernel's four arrays, computed in `RedAValue`, are the ones the
reference's host operations compute.
-/

@[expose] public section

set_option maxRecDepth 16384

noncomputable section

namespace Cert.Proof.RedA

open Cert.RedAIdeal Cert.RedAIdeal.Gen Idealize.ShloMosaic Idealize.ShloMosaic.TcCoe Idealize.SL.Sem
open Idealize.ShloMosaic.Pipeline (Dat)
open Cert.Proof.AdamW (moment1 moment2 delta)
open Cert.Proof.Reduce (pick total)
open scoped BigOperators

/-- The reference's sum over the devices, at variable arrays. -/
theorem ref_grad (own : Vec Ideal Cert.RedARefIdeal.S1024x1152 .f32) (recv : Vec Ideal Cert.RedARefIdeal.S8x1024x1152 .bf16) (mark : Vec Ideal Cert.RedARefIdeal.S8 .f32) :
    (Host.reduceAdd (F := Ideal) (select (broadcastInDim Cert.RedARefIdeal.S8x1024x1152 ![0, 1, 2] Cert.RedARefIdeal.Gen.bcast_S8x1x1_S8x1024x1152_0_1_2
      (cmpf (F := Ideal) .ogt (broadcastInDim Cert.RedARefIdeal.S8x1x1 ![0] Cert.RedARefIdeal.Gen.bcast_S8_S8x1x1_0 mark)
        (broadcastInDim Cert.RedARefIdeal.S8x1x1 ![] Cert.RedARefIdeal.Gen.bcast_S_S8x1x1 (constant (F := Ideal) Cert.RedARefIdeal.S_ .f32 0x3F000000#32))))
      (broadcastInDim Cert.RedARefIdeal.S8x1024x1152 ![0, 1, 2] Cert.RedARefIdeal.Gen.bcast_S1x1024x1152_S8x1024x1152_0_1_2
        (broadcastInDim Cert.RedARefIdeal.S1x1024x1152 ![1, 2] Cert.RedARefIdeal.Gen.bcast_S1024x1152_S1x1024x1152_1_2 own))
      (extf (F := Ideal) .f32 recv Cert.RedARefIdeal.Gen.bitsLt_bf16_f32))
      (constant (F := Ideal) Cert.RedARefIdeal.S_ .f32 0x00000000#32) Cert.RedARefIdeal.Gen.reducesTo_S8x1024x1152_S1024x1152_d0 Cert.RedARefIdeal.Gen.h_S_
      : Vec Ideal Cert.RedARefIdeal.S1024x1152 .f32) = gradArr own recv mark := by
  funext y
  idx_vars y
  unfold gradArr total pick
  pointwise

/-- The idealized kernel and the idealized reference, from the same arguments, end with the same four arrays. -/
theorem algebraic : Cert.algebraic_RedAIdeal_RedARefIdeal := by
  intro m g m' g' _ hagree
  refine ⟨fun c => gradArr (m (c.tc.loc main_arg1)) (m (c.tc.loc main_arg2)) (m (c.tc.loc main_arg3)), fun c => deltaArr (m (c.tc.loc main_arg0)) (gradArr (m (c.tc.loc main_arg1)) (m (c.tc.loc main_arg2)) (m (c.tc.loc main_arg3))) (m (c.tc.loc main_arg4)) (m (c.tc.loc main_arg5)),
    fun c => moment1Arr (gradArr (m (c.tc.loc main_arg1)) (m (c.tc.loc main_arg2)) (m (c.tc.loc main_arg3))) (m (c.tc.loc main_arg4)), fun c => moment2Arr (gradArr (m (c.tc.loc main_arg1)) (m (c.tc.loc main_arg2)) (m (c.tc.loc main_arg3))) (m (c.tc.loc main_arg5)), ?_, ?_⟩
  · refine (θ_run _ _ _).mono (fun r h c => ?_) (Cert.RedAIdeal.Value.run_blocks (F := Ideal) m g)
    obtain ⟨h6, h7, h8, h9, h⟩ := h c
    exact ⟨h6.trans (arr6 m c), h7.trans (arr7 m c), h8.trans (arr8 m c), h9.trans (arr9 m c), h⟩
  · refine (θ_run _ _ _).mono (fun r h c => ?_) (Cert.RedARefIdeal.Value.run (F := Ideal) m' g')
    obtain ⟨h6, h7, h8, h9, h⟩ := h c
    obtain ⟨e0, e1, e2, e3, e4, e5⟩ := hagree c
    rw [e1, e2, e3, ref_grad] at h6
    rw [e0, e1, e2, e3, e4, e5, ref_grad] at h7
    rw [e1, e2, e3, e4, ref_grad] at h8
    rw [e1, e2, e3, e5, ref_grad] at h9
    refine ⟨h6, h7.trans ?_, h8.trans ?_, h9.trans ?_, h⟩
    · funext y
      unfold deltaArr delta moment1 moment2
      pointwise
    · funext y
      unfold moment1Arr moment1
      pointwise
    · funext y
      unfold moment2Arr moment2
      pointwise

end Cert.Proof.RedA

end
-- ==== Proof.RedFiValue.lean ====
module

public import proofs.«01_k».proof.Defs
public import proofs.«01_k».proof.Proof.Gen.RedFiIdeal.Value
public import proofs.«01_k».proof.Proof.AdamWValue
public import proofs.«01_k».proof.Proof.Reduce
public import Idealize.ShloMosaic.Lib.Pipeline.ValueKit
public import Idealize.ShloMosaic.Lib.Pipeline.ReadBack

/-!
The value of the reducing optimiser call (`adamw_ffn_w_in`), whose gradient comes in four pieces: the gradient summed over the
devices, the step and the two new moments, element by element.
-/

@[expose] public section

set_option maxRecDepth 16384

noncomputable section

namespace Cert.Proof.RedFi

open Cert.RedFiIdeal Cert.RedFiIdeal.Gen Idealize.ShloMosaic Idealize.ShloMosaic.TcCoe Idealize.SL.Sem
open Idealize.ShloMosaic.Pipeline (Dat)
open Cert.Proof.AdamW (moment1 moment2 delta)
open Cert.Proof.Reduce (pick total total_eq)
open scoped BigOperators

/-- One piece of the gradient, summed over the devices. -/
def pieceArr (own : Vec Ideal S1024x704 .f32) (recv : Vec Ideal S8x1024x704 .bf16) (mark : Vec Ideal S8 .f32) : Vec Ideal S1024x704 .f32 :=
  fun i => total (fun j => mark (ix1 j)) (own i) (fun j => recv (ix3 j (i 0) (i 1)))

/-- The four pieces, one below the other. -/
def gradAt (o0 o1 o2 o3 : Vec Ideal S1024x704 .f32) (r0 r1 r2 r3 : Vec Ideal S8x1024x704 .bf16) (mark : Vec Ideal S8 .f32) (a : Fin 4096) (k : Fin 704) : EReal :=
  if h0 : a.val < 1024 then pieceArr o0 r0 mark (ix2 ⟨a.val, h0⟩ k)
  else if h1 : a.val - 1024 < 1024 then pieceArr o1 r1 mark (ix2 ⟨a.val - 1024, h1⟩ k)
  else if h2 : a.val - 1024 - 1024 < 1024 then pieceArr o2 r2 mark (ix2 ⟨a.val - 1024 - 1024, h2⟩ k)
  else pieceArr o3 r3 mark (ix2 ⟨a.val - 1024 - 1024 - 1024, by have h := a.isLt; omega⟩ k)

def gradArr (o0 o1 o2 o3 : Vec Ideal S1024x704 .f32) (r0 r1 r2 r3 : Vec Ideal S8x1024x704 .bf16) (mark : Vec Ideal S8 .f32) : Vec Ideal S4096x704 .f32 := fun i => gradAt o0 o1 o2 o3 r0 r1 r2 r3 mark (i 0) (i 1)

theorem gradAt_0 (o0 o1 o2 o3 : Vec Ideal S1024x704 .f32) (r0 r1 r2 r3 : Vec Ideal S8x1024x704 .bf16) (mark : Vec Ideal S8 .f32) (a : Fin 4096) (k : Fin 704) (b : Fin 1024) (h : a.val = 0 + b.val) :
    gradAt o0 o1 o2 o3 r0 r1 r2 r3 mark a k = pieceArr o0 r0 mark (ix2 b k) := by
  have hb := b.isLt
  unfold gradAt
  rw [dif_pos (by omega)]
  exact congrArg (fun z => pieceArr o0 r0 mark (ix2 z k)) (Fin.ext (by show a.val = b.val; omega))

theorem gradAt_1 (o0 o1 o2 o3 : Vec Ideal S1024x704 .f32) (r0 r1 r2 r3 : Vec Ideal S8x1024x704 .bf16) (mark : Vec Ideal S8 .f32) (a : Fin 4096) (k : Fin 704) (b : Fin 1024) (h : a.val = 1024 + b.val) :
    gradAt o0 o1 o2 o3 r0 r1 r2 r3 mark a k = pieceArr o1 r1 mark (ix2 b k) := by
  have hb := b.isLt
  unfold gradAt
  rw [dif_neg (by omega)]
  rw [dif_pos (by omega)]
  exact congrArg (fun z => pieceArr o1 r1 mark (ix2 z k)) (Fin.ext (by show a.val - 1024 = b.val; omega))

theorem gradAt_2 (o0 o1 o2 o3 : Vec Ideal S1024x704 .f32) (r0 r1 r2 r3 : Vec Ideal S8x1024x704 .bf16) (mark : Vec Ideal S8 .f32) (a : Fin 4096) (k : Fin 704) (b : Fin 1024) (h : a.val = 2048 + b.val) :
    gradAt o0 o1 o2 o3 r0 r1 r2 r3 mark a k = pieceArr o2 r2 mark (ix2 b k) := by
  have hb := b.isLt
  unfold gradAt
  rw [dif_neg (by omega)]
  rw [dif_neg (by omega)]
  rw [dif_pos (by omega)]
  exact congrArg (fun z => pieceArr o2 r2 mark (ix2 z k)) (Fin.ext (by show a.val - 1024 - 1024 = b.val; omega))

theorem gradAt_3 (o0 o1 o2 o3 : Vec Ideal S1024x704 .f32) (r0 r1 r2 r3 : Vec Ideal S8x1024x704 .bf16) (mark : Vec Ideal S8 .f32) (a : Fin 4096) (k : Fin 704) (b : Fin 1024) (h : a.val = 3072 + b.val) :
    gradAt o0 o1 o2 o3 r0 r1 r2 r3 mark a k = pieceArr o3 r3 mark (ix2 b k) := by
  have hb := b.isLt
  unfold gradAt
  rw [dif_neg (by omega)]
  rw [dif_neg (by omega)]
  rw [dif_neg (by omega)]
  exact congrArg (fun z => pieceArr o3 r3 mark (ix2 z k)) (Fin.ext (by show a.val - 1024 - 1024 - 1024 = b.val; omega))

def deltaArr (w g m v : Vec Ideal S4096x704 .f32) : Vec Ideal S4096x704 .f32 := fun i => delta (w i) (g i) (m i) (v i)
def moment1Arr (g m : Vec Ideal S4096x704 .f32) : Vec Ideal S4096x704 .f32 := fun i => moment1 (g i) (m i)
def moment2Arr (g v : Vec Ideal S4096x704 .f32) : Vec Ideal S4096x704 .f32 := fun i => moment2 (g i) (v i)

/-! ## The kernel's values, at variable blocks -/

theorem pay2_apply (a0 a1 a2 a3 : EReal) (x : Vec Ideal S128x704 .f32) (b0 b1 b2 b3 : Vec Ideal S1x128x704 .bf16) (r : Fin 128) (k : Fin 704) :
    k0_pay2 (F := Ideal) a0 x b0 a1 x b1 a2 x b2 a3 x b3 (ix2 r k)
      = pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay2]
  simp only [ite_apply]
  pointwise

theorem pay3_apply (s : Vec Ideal S128x704 .f32) (a0 a1 a2 a3 : EReal) (x : Vec Ideal S128x704 .f32) (b0 b1 b2 b3 : Vec Ideal S1x128x704 .bf16) (r : Fin 128) (k : Fin 704) :
    k0_pay3 (F := Ideal) s a0 x b0 a1 x b1 a2 x b2 a3 x b3 (ix2 r k)
      = s (ix2 r k) + pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay3]
  simp only [ite_apply]
  pointwise

/-- What a point of piece 0 stores as the gradient's block. -/
def gblk (x0 : Vec Ideal S8 .f32) (x4 : Vec Ideal S128x704 .f32) (x5 : Vec Ideal S8x128x704 .bf16) : Vec Ideal S128x704 .f32 :=
  k0_pay3 (k0_pay2 (View.ld x0 (Rect.unit ![0] ![1] inb_S8_S1_0) (Shape.Idx.first (by decide))) x4 (View.ld x5 (Rect.unit ![0, 0, 0] ![1, 128, 704] inb_S8x128x704_S1x128x704_0_0_0)) (View.ld x0 (Rect.unit ![1] ![1] inb_S8_S1_1) (Shape.Idx.first (by decide))) x4 (View.ld x5 (Rect.unit ![1, 0, 0] ![1, 128, 704] inb_S8x128x704_S1x128x704_1_0_0)) (View.ld x0 (Rect.unit ![2] ![1] inb_S8_S1_2) (Shape.Idx.first (by decide))) x4 (View.ld x5 (Rect.unit ![2, 0, 0] ![1, 128, 704] inb_S8x128x704_S1x128x704_2_0_0)) (View.ld x0 (Rect.unit ![3] ![1] inb_S8_S1_3) (Shape.Idx.first (by decide))) x4 (View.ld x5 (Rect.unit ![3, 0, 0] ![1, 128, 704] inb_S8x128x704_S1x128x704_3_0_0))) (View.ld x0 (Rect.unit ![4] ![1] inb_S8_S1_4) (Shape.Idx.first (by decide))) x4 (View.ld x5 (Rect.unit ![4, 0, 0] ![1, 128, 704] inb_S8x128x704_S1x128x704_4_0_0)) (View.ld x0 (Rect.unit ![5] ![1] inb_S8_S1_5) (Shape.Idx.first (by decide))) x4 (View.ld x5 (Rect.unit ![5, 0, 0] ![1, 128, 704] inb_S8x128x704_S1x128x704_5_0_0)) (View.ld x0 (Rect.unit ![6] ![1] inb_S8_S1_6) (Shape.Idx.first (by decide))) x4 (View.ld x5 (Rect.unit ![6, 0, 0] ![1, 128, 704] inb_S8x128x704_S1x128x704_6_0_0)) (View.ld x0 (Rect.unit ![7] ![1] inb_S8_S1_7) (Shape.Idx.first (by decide))) x4 (View.ld x5 (Rect.unit ![7, 0, 0] ![1, 128, 704] inb_S8x128x704_S1x128x704_7_0_0))

/-- The same at a point of piece 1. -/
def gblk1 (x0 : Vec Ideal S8 .f32) (x4 : Vec Ideal S128x704 .f32) (x5 : Vec Ideal S8x128x704 .bf16) : Vec Ideal S128x704 .f32 :=
  k0_pay5 (k0_pay4 (View.ld x0 (Rect.unit ![0] ![1] inb_S8_S1_0) (Shape.Idx.first (by decide))) x4 (View.ld x5 (Rect.unit ![0, 0, 0] ![1, 128, 704] inb_S8x128x704_S1x128x704_0_0_0)) (View.ld x0 (Rect.unit ![1] ![1] inb_S8_S1_1) (Shape.Idx.first (by decide))) x4 (View.ld x5 (Rect.unit ![1, 0, 0] ![1, 128, 704] inb_S8x128x704_S1x128x704_1_0_0)) (View.ld x0 (Rect.unit ![2] ![1] inb_S8_S1_2) (Shape.Idx.first (by decide))) x4 (View.ld x5 (Rect.unit ![2, 0, 0] ![1, 128, 704] inb_S8x128x704_S1x128x704_2_0_0)) (View.ld x0 (Rect.unit ![3] ![1] inb_S8_S1_3) (Shape.Idx.first (by decide))) x4 (View.ld x5 (Rect.unit ![3, 0, 0] ![1, 128, 704] inb_S8x128x704_S1x128x704_3_0_0))) (View.ld x0 (Rect.unit ![4] ![1] inb_S8_S1_4) (Shape.Idx.first (by decide))) x4 (View.ld x5 (Rect.unit ![4, 0, 0] ![1, 128, 704] inb_S8x128x704_S1x128x704_4_0_0)) (View.ld x0 (Rect.unit ![5] ![1] inb_S8_S1_5) (Shape.Idx.first (by decide))) x4 (View.ld x5 (Rect.unit ![5, 0, 0] ![1, 128, 704] inb_S8x128x704_S1x128x704_5_0_0)) (View.ld x0 (Rect.unit ![6] ![1] inb_S8_S1_6) (Shape.Idx.first (by decide))) x4 (View.ld x5 (Rect.unit ![6, 0, 0] ![1, 128, 704] inb_S8x128x704_S1x128x704_6_0_0)) (View.ld x0 (Rect.unit ![7] ![1] inb_S8_S1_7) (Shape.Idx.first (by decide))) x4 (View.ld x5 (Rect.unit ![7, 0, 0] ![1, 128, 704] inb_S8x128x704_S1x128x704_7_0_0))

theorem gblk1_eq (x0 : Vec Ideal S8 .f32) (x4 : Vec Ideal S128x704 .f32) (x5 : Vec Ideal S8x128x704 .bf16) : gblk1 x0 x4 x5 = gblk x0 x4 x5 := rfl

/-- The same at a point of piece 2. -/
def gblk2 (x0 : Vec Ideal S8 .f32) (x4 : Vec Ideal S128x704 .f32) (x5 : Vec Ideal S8x128x704 .bf16) : Vec Ideal S128x704 .f32 :=
  k0_pay7 (k0_pay6 (View.ld x0 (Rect.unit ![0] ![1] inb_S8_S1_0) (Shape.Idx.first (by decide))) x4 (View.ld x5 (Rect.unit ![0, 0, 0] ![1, 128, 704] inb_S8x128x704_S1x128x704_0_0_0)) (View.ld x0 (Rect.unit ![1] ![1] inb_S8_S1_1) (Shape.Idx.first (by decide))) x4 (View.ld x5 (Rect.unit ![1, 0, 0] ![1, 128, 704] inb_S8x128x704_S1x128x704_1_0_0)) (View.ld x0 (Rect.unit ![2] ![1] inb_S8_S1_2) (Shape.Idx.first (by decide))) x4 (View.ld x5 (Rect.unit ![2, 0, 0] ![1, 128, 704] inb_S8x128x704_S1x128x704_2_0_0)) (View.ld x0 (Rect.unit ![3] ![1] inb_S8_S1_3) (Shape.Idx.first (by decide))) x4 (View.ld x5 (Rect.unit ![3, 0, 0] ![1, 128, 704] inb_S8x128x704_S1x128x704_3_0_0))) (View.ld x0 (Rect.unit ![4] ![1] inb_S8_S1_4) (Shape.Idx.first (by decide))) x4 (View.ld x5 (Rect.unit ![4, 0, 0] ![1, 128, 704] inb_S8x128x704_S1x128x704_4_0_0)) (View.ld x0 (Rect.unit ![5] ![1] inb_S8_S1_5) (Shape.Idx.first (by decide))) x4 (View.ld x5 (Rect.unit ![5, 0, 0] ![1, 128, 704] inb_S8x128x704_S1x128x704_5_0_0)) (View.ld x0 (Rect.unit ![6] ![1] inb_S8_S1_6) (Shape.Idx.first (by decide))) x4 (View.ld x5 (Rect.unit ![6, 0, 0] ![1, 128, 704] inb_S8x128x704_S1x128x704_6_0_0)) (View.ld x0 (Rect.unit ![7] ![1] inb_S8_S1_7) (Shape.Idx.first (by decide))) x4 (View.ld x5 (Rect.unit ![7, 0, 0] ![1, 128, 704] inb_S8x128x704_S1x128x704_7_0_0))

theorem gblk2_eq (x0 : Vec Ideal S8 .f32) (x4 : Vec Ideal S128x704 .f32) (x5 : Vec Ideal S8x128x704 .bf16) : gblk2 x0 x4 x5 = gblk x0 x4 x5 := rfl

/-- The same at a point of piece 3. -/
def gblk3 (x0 : Vec Ideal S8 .f32) (x4 : Vec Ideal S128x704 .f32) (x5 : Vec Ideal S8x128x704 .bf16) : Vec Ideal S128x704 .f32 :=
  k0_pay9 (k0_pay8 (View.ld x0 (Rect.unit ![0] ![1] inb_S8_S1_0) (Shape.Idx.first (by decide))) x4 (View.ld x5 (Rect.unit ![0, 0, 0] ![1, 128, 704] inb_S8x128x704_S1x128x704_0_0_0)) (View.ld x0 (Rect.unit ![1] ![1] inb_S8_S1_1) (Shape.Idx.first (by decide))) x4 (View.ld x5 (Rect.unit ![1, 0, 0] ![1, 128, 704] inb_S8x128x704_S1x128x704_1_0_0)) (View.ld x0 (Rect.unit ![2] ![1] inb_S8_S1_2) (Shape.Idx.first (by decide))) x4 (View.ld x5 (Rect.unit ![2, 0, 0] ![1, 128, 704] inb_S8x128x704_S1x128x704_2_0_0)) (View.ld x0 (Rect.unit ![3] ![1] inb_S8_S1_3) (Shape.Idx.first (by decide))) x4 (View.ld x5 (Rect.unit ![3, 0, 0] ![1, 128, 704] inb_S8x128x704_S1x128x704_3_0_0))) (View.ld x0 (Rect.unit ![4] ![1] inb_S8_S1_4) (Shape.Idx.first (by decide))) x4 (View.ld x5 (Rect.unit ![4, 0, 0] ![1, 128, 704] inb_S8x128x704_S1x128x704_4_0_0)) (View.ld x0 (Rect.unit ![5] ![1] inb_S8_S1_5) (Shape.Idx.first (by decide))) x4 (View.ld x5 (Rect.unit ![5, 0, 0] ![1, 128, 704] inb_S8x128x704_S1x128x704_5_0_0)) (View.ld x0 (Rect.unit ![6] ![1] inb_S8_S1_6) (Shape.Idx.first (by decide))) x4 (View.ld x5 (Rect.unit ![6, 0, 0] ![1, 128, 704] inb_S8x128x704_S1x128x704_6_0_0)) (View.ld x0 (Rect.unit ![7] ![1] inb_S8_S1_7) (Shape.Idx.first (by decide))) x4 (View.ld x5 (Rect.unit ![7, 0, 0] ![1, 128, 704] inb_S8x128x704_S1x128x704_7_0_0))

theorem gblk3_eq (x0 : Vec Ideal S8 .f32) (x4 : Vec Ideal S128x704 .f32) (x5 : Vec Ideal S8x128x704 .bf16) : gblk3 x0 x4 x5 = gblk x0 x4 x5 := rfl

theorem gblk_apply (x0 : Vec Ideal S8 .f32) (x4 : Vec Ideal S128x704 .f32) (x5 : Vec Ideal S8x128x704 .bf16) (r : Fin 128) (k : Fin 704) :
    gblk x0 x4 x5 (ix2 r k) = total (fun j => x0 (ix1 j)) (x4 (ix2 r k)) (fun j => x5 (ix3 j r k)) := by
  rw [total_eq]
  unfold gblk
  rw [pay3_apply, pay2_apply]
  pointwise

/-- The step's block, from the gradient's, the moments' and the weight's. -/
def dblk (g m v w : Vec Ideal S128x704 .f32) : Vec Ideal S128x704 .f32 := k0_pay1 (k0_pay13 g m) (k0_pay14 g v) k0_pay15 w

theorem pay11_apply (g m : Vec Ideal S128x704 .f32) (y : S128x704.Idx) : k0_pay11 g m y = moment1 (g y) (m y) := by
  unfold moment1
  pointwise [k0_pay11, k0_pay10]

theorem pay12_apply (g v : Vec Ideal S128x704 .f32) (y : S128x704.Idx) : k0_pay12 g v y = moment2 (g y) (v y) := by
  unfold moment2
  pointwise [k0_pay12, k0_pay10]

theorem dblk_apply (g m v w : Vec Ideal S128x704 .f32) (y : S128x704.Idx) : dblk g m v w y = delta (w y) (g y) (m y) (v y) := by
  unfold delta moment1 moment2 dblk
  pointwise [k0_pay1, k0_pay13, k0_pay14, k0_pay15, k0_pay11, k0_pay12, k0_pay10]

variable (m : (ℓ : Loc nD τ sig) → Buf (Elt Ideal) ℓ)

theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx12 : ∀ t : Fin grid0.N, win0_12.index t = ![t.val, 0] := by decide +kernel
theorem idx13 : ∀ t : Fin grid0.N, win0_13.index t = ![t.val, 0] := by decide +kernel
theorem idx14 : ∀ t : Fin grid0.N, win0_14.index t = ![t.val, 0] := by decide +kernel
theorem idx15 : ∀ t : Fin grid0.N, win0_15.index t = ![t.val, 0] := by decide +kernel
theorem idx4 : ∀ t : Fin grid0.N, 0 ≤ t.val → t.val < 8 → win0_4.index t = ![t.val, 0] := by decide +kernel
theorem idx8 : ∀ t : Fin grid0.N, 0 ≤ t.val → t.val < 8 → win0_8.index t = ![0, t.val, 0] := by decide +kernel
theorem idx5 : ∀ t : Fin grid0.N, 8 ≤ t.val → t.val < 16 → win0_5.index t = ![(t.val - 8), 0] := by decide +kernel
theorem idx9 : ∀ t : Fin grid0.N, 8 ≤ t.val → t.val < 16 → win0_9.index t = ![0, (t.val - 8), 0] := by decide +kernel
theorem idx6 : ∀ t : Fin grid0.N, 16 ≤ t.val → t.val < 24 → win0_6.index t = ![(t.val - 16), 0] := by decide +kernel
theorem idx10 : ∀ t : Fin grid0.N, 16 ≤ t.val → t.val < 24 → win0_10.index t = ![0, (t.val - 16), 0] := by decide +kernel
theorem idx7 : ∀ t : Fin grid0.N, 24 ≤ t.val → t.val < 32 → win0_7.index t = ![(t.val - 24), 0] := by decide +kernel
theorem idx11 : ∀ t : Fin grid0.N, 24 ≤ t.val → t.val < 32 → win0_11.index t = ![0, (t.val - 24), 0] := by decide +kernel

/-- Row `r` of the block of point `t`. -/
theorem row_lt (t : Fin grid0.N) (r : Fin 128) : t.val * 128 + r.val < 4096 := by
  have h : t.val < 32 := t.isLt
  omega

/-- Row `r` of the block of point `s` of a piece. -/
theorem prow_lt {s : ℕ} (hs : s < 8) (r : Fin 128) : s * 128 + r.val < 1024 := by omega

theorem mark_iblk (c : Dev nD) (t : Fin cfg0.N) (j : Fin 8) :
    (iblk m c 0 t : Vec Ideal S8 .f32) (ix1 j) = ((m (c.tc.loc main_arg9)) : Vec Ideal S8 .f32) (ix1 j) := by
  blk_point [iblk, V, idx0 t]

theorem iblk1_apply (c : Dev nD) (t : Fin cfg0.N) (r : Fin 128) (k : Fin 704) :
    (iblk m c 1 t : Vec Ideal S128x704 .f32) (ix2 r k) = ((m (c.tc.loc main_arg0)) : Vec Ideal S4096x704 .f32) (ix2 ⟨t.val * 128 + r.val, row_lt t r⟩ k) := by
  blk_point [iblk, V, idx1 t]

theorem iblk2_apply (c : Dev nD) (t : Fin cfg0.N) (r : Fin 128) (k : Fin 704) :
    (iblk m c 2 t : Vec Ideal S128x704 .f32) (ix2 r k) = ((m (c.tc.loc main_arg10)) : Vec Ideal S4096x704 .f32) (ix2 ⟨t.val * 128 + r.val, row_lt t r⟩ k) := by
  blk_point [iblk, V, idx2 t]

theorem iblk3_apply (c : Dev nD) (t : Fin cfg0.N) (r : Fin 128) (k : Fin 704) :
    (iblk m c 3 t : Vec Ideal S128x704 .f32) (ix2 r k) = ((m (c.tc.loc main_arg11)) : Vec Ideal S4096x704 .f32) (ix2 ⟨t.val * 128 + r.val, row_lt t r⟩ k) := by
  blk_point [iblk, V, idx3 t]

theorem own0 (c : Dev nD) (t : Fin cfg0.N) (h0 : 0 ≤ t.val) (h1 : t.val < 8) (hs : t.val < 8) (r : Fin 128) (k : Fin 704) :
    (iblk m c 4 t : Vec Ideal S128x704 .f32) (ix2 r k) = ((m (c.tc.loc main_arg1)) : Vec Ideal S1024x704 .f32) (ix2 ⟨t.val * 128 + r.val, prow_lt hs r⟩ k) := by
  blk_point [iblk, V, idx4 t h0 h1]

theorem recv0 (c : Dev nD) (t : Fin cfg0.N) (h0 : 0 ≤ t.val) (h1 : t.val < 8) (hs : t.val < 8) (j : Fin 8) (r : Fin 128) (k : Fin 704) :
    (iblk m c 8 t : Vec Ideal S8x128x704 .bf16) (ix3 j r k) = ((m (c.tc.loc main_arg5)) : Vec Ideal S8x1024x704 .bf16) (ix3 j ⟨t.val * 128 + r.val, prow_lt hs r⟩ k) := by
  blk_point [iblk, V, idx8 t h0 h1]

theorem own1 (c : Dev nD) (t : Fin cfg0.N) (h0 : 8 ≤ t.val) (h1 : t.val < 16) (hs : (t.val - 8) < 8) (r : Fin 128) (k : Fin 704) :
    (iblk m c 5 t : Vec Ideal S128x704 .f32) (ix2 r k) = ((m (c.tc.loc main_arg2)) : Vec Ideal S1024x704 .f32) (ix2 ⟨(t.val - 8) * 128 + r.val, prow_lt hs r⟩ k) := by
  blk_point [iblk, V, idx5 t h0 h1]

theorem recv1 (c : Dev nD) (t : Fin cfg0.N) (h0 : 8 ≤ t.val) (h1 : t.val < 16) (hs : (t.val - 8) < 8) (j : Fin 8) (r : Fin 128) (k : Fin 704) :
    (iblk m c 9 t : Vec Ideal S8x128x704 .bf16) (ix3 j r k) = ((m (c.tc.loc main_arg6)) : Vec Ideal S8x1024x704 .bf16) (ix3 j ⟨(t.val - 8) * 128 + r.val, prow_lt hs r⟩ k) := by
  blk_point [iblk, V, idx9 t h0 h1]

theorem own2 (c : Dev nD) (t : Fin cfg0.N) (h0 : 16 ≤ t.val) (h1 : t.val < 24) (hs : (t.val - 16) < 8) (r : Fin 128) (k : Fin 704) :
    (iblk m c 6 t : Vec Ideal S128x704 .f32) (ix2 r k) = ((m (c.tc.loc main_arg3)) : Vec Ideal S1024x704 .f32) (ix2 ⟨(t.val - 16) * 128 + r.val, prow_lt hs r⟩ k) := by
  blk_point [iblk, V, idx6 t h0 h1]

theorem recv2 (c : Dev nD) (t : Fin cfg0.N) (h0 : 16 ≤ t.val) (h1 : t.val < 24) (hs : (t.val - 16) < 8) (j : Fin 8) (r : Fin 128) (k : Fin 704) :
    (iblk m c 10 t : Vec Ideal S8x128x704 .bf16) (ix3 j r k) = ((m (c.tc.loc main_arg7)) : Vec Ideal S8x1024x704 .bf16) (ix3 j ⟨(t.val - 16) * 128 + r.val, prow_lt hs r⟩ k) := by
  blk_point [iblk, V, idx10 t h0 h1]

theorem own3 (c : Dev nD) (t : Fin cfg0.N) (h0 : 24 ≤ t.val) (h1 : t.val < 32) (hs : (t.val - 24) < 8) (r : Fin 128) (k : Fin 704) :
    (iblk m c 7 t : Vec Ideal S128x704 .f32) (ix2 r k) = ((m (c.tc.loc main_arg4)) : Vec Ideal S1024x704 .f32) (ix2 ⟨(t.val - 24) * 128 + r.val, prow_lt hs r⟩ k) := by
  blk_point [iblk, V, idx7 t h0 h1]

theorem recv3 (c : Dev nD) (t : Fin cfg0.N) (h0 : 24 ≤ t.val) (h1 : t.val < 32) (hs : (t.val - 24) < 8) (j : Fin 8) (r : Fin 128) (k : Fin 704) :
    (iblk m c 11 t : Vec Ideal S8x128x704 .bf16) (ix3 j r k) = ((m (c.tc.loc main_arg8)) : Vec Ideal S8x1024x704 .bf16) (ix3 j ⟨(t.val - 24) * 128 + r.val, prow_lt hs r⟩ k) := by
  blk_point [iblk, V, idx11 t h0 h1]

theorem g_iblk0 (c : Dev nD) (t : Fin cfg0.N) (h0 : 0 ≤ t.val) (h1 : t.val < 8) (r : Fin 128) (k : Fin 704) :
    gblk (iblk m c 0 t) (iblk m c 4 t) (iblk m c 8 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 128 + r.val, row_lt t r⟩ k) := by
  have hs : t.val < 8 := by omega
  exact (gblk_apply _ _ _ _ _).trans ((congr (congrArg₂ total (funext fun j => mark_iblk m c t j) (own0 m c t h0 h1 hs r k))
    (funext fun j => recv0 m c t h0 h1 hs j r k)).trans
    (gradAt_0 _ _ _ _ _ _ _ _ _ ⟨t.val * 128 + r.val, row_lt t r⟩ k ⟨t.val * 128 + r.val, prow_lt hs r⟩
      (by show t.val * 128 + r.val = 0 + (t.val * 128 + r.val); omega)).symm)

theorem g_iblk1 (c : Dev nD) (t : Fin cfg0.N) (h0 : 8 ≤ t.val) (h1 : t.val < 16) (r : Fin 128) (k : Fin 704) :
    gblk (iblk m c 0 t) (iblk m c 5 t) (iblk m c 9 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 128 + r.val, row_lt t r⟩ k) := by
  have hs : (t.val - 8) < 8 := by omega
  exact (gblk_apply _ _ _ _ _).trans ((congr (congrArg₂ total (funext fun j => mark_iblk m c t j) (own1 m c t h0 h1 hs r k))
    (funext fun j => recv1 m c t h0 h1 hs j r k)).trans
    (gradAt_1 _ _ _ _ _ _ _ _ _ ⟨t.val * 128 + r.val, row_lt t r⟩ k ⟨(t.val - 8) * 128 + r.val, prow_lt hs r⟩
      (by show t.val * 128 + r.val = 1024 + ((t.val - 8) * 128 + r.val); omega)).symm)

theorem g_iblk2 (c : Dev nD) (t : Fin cfg0.N) (h0 : 16 ≤ t.val) (h1 : t.val < 24) (r : Fin 128) (k : Fin 704) :
    gblk (iblk m c 0 t) (iblk m c 6 t) (iblk m c 10 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 128 + r.val, row_lt t r⟩ k) := by
  have hs : (t.val - 16) < 8 := by omega
  exact (gblk_apply _ _ _ _ _).trans ((congr (congrArg₂ total (funext fun j => mark_iblk m c t j) (own2 m c t h0 h1 hs r k))
    (funext fun j => recv2 m c t h0 h1 hs j r k)).trans
    (gradAt_2 _ _ _ _ _ _ _ _ _ ⟨t.val * 128 + r.val, row_lt t r⟩ k ⟨(t.val - 16) * 128 + r.val, prow_lt hs r⟩
      (by show t.val * 128 + r.val = 2048 + ((t.val - 16) * 128 + r.val); omega)).symm)

theorem g_iblk3 (c : Dev nD) (t : Fin cfg0.N) (h0 : 24 ≤ t.val) (h1 : t.val < 32) (r : Fin 128) (k : Fin 704) :
    gblk (iblk m c 0 t) (iblk m c 7 t) (iblk m c 11 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 128 + r.val, row_lt t r⟩ k) := by
  have hs : (t.val - 24) < 8 := by omega
  exact (gblk_apply _ _ _ _ _).trans ((congr (congrArg₂ total (funext fun j => mark_iblk m c t j) (own3 m c t h0 h1 hs r k))
    (funext fun j => recv3 m c t h0 h1 hs j r k)).trans
    (gradAt_3 _ _ _ _ _ _ _ _ _ ⟨t.val * 128 + r.val, row_lt t r⟩ k ⟨(t.val - 24) * 128 + r.val, prow_lt hs r⟩
      (by show t.val * 128 + r.val = 3072 + ((t.val - 24) * 128 + r.val); omega)).symm)

/-- What point `t` stores as the gradient's block. -/
def gB (c : Dev nD) (t : Fin cfg0.N) : Vec Ideal S128x704 .f32 :=
  if t.val < 8 then gblk (iblk m c 0 t) (iblk m c 4 t) (iblk m c 8 t)
  else if t.val < 16 then gblk (iblk m c 0 t) (iblk m c 5 t) (iblk m c 9 t)
  else if t.val < 24 then gblk (iblk m c 0 t) (iblk m c 6 t) (iblk m c 10 t)
  else gblk (iblk m c 0 t) (iblk m c 7 t) (iblk m c 11 t)

theorem gB_0 (c : Dev nD) (t : Fin cfg0.N) (h0 : 0 ≤ t.val) (h1 : t.val < 8) : gB m c t = gblk (iblk m c 0 t) (iblk m c 4 t) (iblk m c 8 t) := by
  unfold gB
  rw [if_pos (by omega)]

theorem gB_1 (c : Dev nD) (t : Fin cfg0.N) (h0 : 8 ≤ t.val) (h1 : t.val < 16) : gB m c t = gblk (iblk m c 0 t) (iblk m c 5 t) (iblk m c 9 t) := by
  unfold gB
  rw [if_neg (by omega)]; rw [if_pos (by omega)]

theorem gB_2 (c : Dev nD) (t : Fin cfg0.N) (h0 : 16 ≤ t.val) (h1 : t.val < 24) : gB m c t = gblk (iblk m c 0 t) (iblk m c 6 t) (iblk m c 10 t) := by
  unfold gB
  rw [if_neg (by omega)]; rw [if_neg (by omega)]; rw [if_pos (by omega)]

theorem gB_3 (c : Dev nD) (t : Fin cfg0.N) (h0 : 24 ≤ t.val) (h1 : t.val < 32) : gB m c t = gblk (iblk m c 0 t) (iblk m c 7 t) (iblk m c 11 t) := by
  unfold gB
  rw [if_neg (by omega)]; rw [if_neg (by omega)]; rw [if_neg (by omega)]

theorem outs0 (c : Dev nD) (t : Fin cfg0.N) (h0 : 0 ≤ t.val) (h1 : t.val < 8) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_0 m c t h0 h1, outsAt0_A m c t (by omega) (by omega) (by omega) (by omega)]
  refine Prod.ext ?_ (Prod.ext ?_ (Prod.ext ?_ ?_))
  · unfold gblk
    frame_out
  · unfold dblk gblk
    frame_out
  · unfold gblk
    frame_out
  · unfold gblk
    frame_out

theorem outs1 (c : Dev nD) (t : Fin cfg0.N) (h0 : 8 ≤ t.val) (h1 : t.val < 16) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_1 m c t h0 h1, ← gblk1_eq, outsAt0_B m c t (by omega) (by omega) (by omega) (by omega)]
  refine Prod.ext ?_ (Prod.ext ?_ (Prod.ext ?_ ?_))
  · unfold gblk1
    frame_out
  · unfold dblk gblk1
    frame_out
  · unfold gblk1
    frame_out
  · unfold gblk1
    frame_out

theorem outs2 (c : Dev nD) (t : Fin cfg0.N) (h0 : 16 ≤ t.val) (h1 : t.val < 24) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_2 m c t h0 h1, ← gblk2_eq, outsAt0_C m c t (by omega) (by omega) (by omega) (by omega)]
  refine Prod.ext ?_ (Prod.ext ?_ (Prod.ext ?_ ?_))
  · unfold gblk2
    frame_out
  · unfold dblk gblk2
    frame_out
  · unfold gblk2
    frame_out
  · unfold gblk2
    frame_out

theorem outs3 (c : Dev nD) (t : Fin cfg0.N) (h0 : 24 ≤ t.val) (h1 : t.val < 32) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_3 m c t h0 h1, ← gblk3_eq, outsAt0_D m c t (by omega) (by omega) (by omega) (by omega)]
  refine Prod.ext ?_ (Prod.ext ?_ (Prod.ext ?_ ?_))
  · unfold gblk3
    frame_out
  · unfold dblk gblk3
    frame_out
  · unfold gblk3
    frame_out
  · unfold gblk3
    frame_out

theorem outs (c : Dev nD) (t : Fin cfg0.N) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  have h : t.val < 32 := t.isLt
  by_cases h1 : t.val < 8
  · exact outs0 m c t (by omega) h1
  by_cases h2 : t.val < 16
  · exact outs1 m c t (by omega) h2
  by_cases h3 : t.val < 24
  · exact outs2 m c t (by omega) h3
  · exact outs3 m c t (by omega) (by omega)

theorem g_iblk (c : Dev nD) (t : Fin cfg0.N) (r : Fin 128) (k : Fin 704) :
    gB m c t (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 128 + r.val, row_lt t r⟩ k) := by
  have h : t.val < 32 := t.isLt
  by_cases h1 : t.val < 8
  · rw [gB_0 m c t (by omega) h1]; exact g_iblk0 m c t (by omega) h1 r k
  by_cases h2 : t.val < 16
  · rw [gB_1 m c t (by omega) h2]; exact g_iblk1 m c t (by omega) h2 r k
  by_cases h3 : t.val < 24
  · rw [gB_2 m c t (by omega) h3]; exact g_iblk2 m c t (by omega) h3 r k
  · rw [gB_3 m c t (by omega) (by omega)]; exact g_iblk3 m c t (by omega) (by omega) r k

theorem arr12 (c : Dev nD) : (dats m 0 c).arrAt 12 cfg0.N = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
  refine (dats m 0 c).arrAt_eq_of_covers 12 _ (by decide +kernel) fun t hf y => ?_
  blk_simp
  rw [after0_12, outs]
  idx_vars y
  refine ((g_iblk m c t _ _)).trans ?_
  refine congrArg (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (a₁ := ix2 ⟨t.val * 128 + _, row_lt t _⟩ _) ?_
  blk_ext [idx12 t]

theorem arr13 (c : Dev nD) : (dats m 0 c).arrAt 13 cfg0.N = deltaArr (m (c.tc.loc main_arg0)) (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) (m (c.tc.loc main_arg11)) := by
  refine (dats m 0 c).arrAt_eq_of_covers 13 _ (by decide +kernel) fun t hf y => ?_
  blk_simp
  rw [after0_13, outs]
  idx_vars y
  refine (dblk_apply _ _ _ _ _).trans ((congr (congr (congrArg₂ delta (iblk1_apply m c t _ _) (g_iblk m c t _ _)) (iblk2_apply m c t _ _)) (iblk3_apply m c t _ _)).trans ?_)
  refine congrArg (deltaArr (m (c.tc.loc main_arg0)) (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) (m (c.tc.loc main_arg11))) (a₁ := ix2 ⟨t.val * 128 + _, row_lt t _⟩ _) ?_
  blk_ext [idx13 t]

theorem arr14 (c : Dev nD) : (dats m 0 c).arrAt 14 cfg0.N = moment1Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) := by
  refine (dats m 0 c).arrAt_eq_of_covers 14 _ (by decide +kernel) fun t hf y => ?_
  blk_simp
  rw [after0_14, outs]
  idx_vars y
  refine (pay11_apply _ _ _).trans ((congrArg₂ moment1 (g_iblk m c t _ _) (iblk2_apply m c t _ _)).trans ?_)
  refine congrArg (moment1Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10))) (a₁ := ix2 ⟨t.val * 128 + _, row_lt t _⟩ _) ?_
  blk_ext [idx14 t]

theorem arr15 (c : Dev nD) : (dats m 0 c).arrAt 15 cfg0.N = moment2Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg11)) := by
  refine (dats m 0 c).arrAt_eq_of_covers 15 _ (by decide +kernel) fun t hf y => ?_
  blk_simp
  rw [after0_15, outs]
  idx_vars y
  refine (pay12_apply _ _ _).trans ((congrArg₂ moment2 (g_iblk m c t _ _) (iblk3_apply m c t _ _)).trans ?_)
  refine congrArg (moment2Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg11))) (a₁ := ix2 ⟨t.val * 128 + _, row_lt t _⟩ _) ?_
  blk_ext [idx15 t]

end Cert.Proof.RedFi

end
-- ==== Proof.RedFiClaim.lean ====
module

public import proofs.«01_k».proof.Defs
public import proofs.«01_k».proof.Proof.Gen.RedFiIdeal.Value
public import proofs.«01_k».proof.Proof.RedFiValue
public import proofs.«01_k».proof.Proof.Gen.RedFiRefIdeal.Run
public import Idealize.ShloMosaic.Lib.Pipeline.ValueKit
public import Idealize.ShloMosaic.Lib.Pipeline.ReadBack

/-!
The value claim of the reducing optimiser call: the kernel's four arrays, computed in `RedFiValue`, are the ones the
reference's host operations compute.
-/

@[expose] public section

set_option maxRecDepth 16384

noncomputable section

namespace Cert.Proof.RedFi

open Cert.RedFiIdeal Cert.RedFiIdeal.Gen Idealize.ShloMosaic Idealize.ShloMosaic.TcCoe Idealize.SL.Sem
open Idealize.ShloMosaic.Pipeline (Dat)
open Cert.Proof.AdamW (moment1 moment2 delta)
open Cert.Proof.Reduce (pick total)
open scoped BigOperators

/-- The reference's sum of one piece over the devices. -/
abbrev sumOver (own : Vec Ideal Cert.RedFiRefIdeal.S1024x704 .f32) (recv : Vec Ideal Cert.RedFiRefIdeal.S8x1024x704 .bf16) (mark : Vec Ideal Cert.RedFiRefIdeal.S8 .f32) : (⟨Cert.RedFiRefIdeal.S1024x704, .f32⟩ : BufTy).Contents (Elt Ideal) :=
    (Host.reduceAdd (F := Ideal) (select (broadcastInDim Cert.RedFiRefIdeal.S8x1024x704 ![0, 1, 2] Cert.RedFiRefIdeal.Gen.bcast_S8x1x1_S8x1024x704_0_1_2
      (cmpf (F := Ideal) .ogt (broadcastInDim Cert.RedFiRefIdeal.S8x1x1 ![0] Cert.RedFiRefIdeal.Gen.bcast_S8_S8x1x1_0 mark)
        (broadcastInDim Cert.RedFiRefIdeal.S8x1x1 ![] Cert.RedFiRefIdeal.Gen.bcast_S_S8x1x1 (constant (F := Ideal) Cert.RedFiRefIdeal.S_ .f32 0x3F000000#32))))
      (broadcastInDim Cert.RedFiRefIdeal.S8x1024x704 ![0, 1, 2] Cert.RedFiRefIdeal.Gen.bcast_S1x1024x704_S8x1024x704_0_1_2
        (broadcastInDim Cert.RedFiRefIdeal.S1x1024x704 ![1, 2] Cert.RedFiRefIdeal.Gen.bcast_S1024x704_S1x1024x704_1_2 own))
      (extf (F := Ideal) .f32 recv Cert.RedFiRefIdeal.Gen.bitsLt_bf16_f32))
      (constant (F := Ideal) Cert.RedFiRefIdeal.S_ .f32 0x00000000#32) Cert.RedFiRefIdeal.Gen.reducesTo_S8x1024x704_S1024x704_d0 Cert.RedFiRefIdeal.Gen.h_S_
      : (⟨Cert.RedFiRefIdeal.S1024x704, .f32⟩ : BufTy).Contents (Elt Ideal))

theorem sumOver_eq (own : Vec Ideal Cert.RedFiRefIdeal.S1024x704 .f32) (recv : Vec Ideal Cert.RedFiRefIdeal.S8x1024x704 .bf16) (mark : Vec Ideal Cert.RedFiRefIdeal.S8 .f32) :
    sumOver own recv mark = pieceArr own recv mark := by
  funext y
  idx_vars y
  unfold pieceArr total pick
  pointwise

/-- Four pieces laid one below the other, as the reference does it. -/
theorem concat_eq (x0 x1 x2 x3 : Vec Ideal Cert.RedFiRefIdeal.S1024x704 .f32) (a : Fin 4096) (k : Fin 704) :
    (concatenate Cert.RedFiRefIdeal.S4096x704 0 [⟨Cert.RedFiRefIdeal.S1024x704, x0⟩, ⟨Cert.RedFiRefIdeal.S1024x704, x1⟩, ⟨Cert.RedFiRefIdeal.S1024x704, x2⟩, ⟨Cert.RedFiRefIdeal.S1024x704, x3⟩] Cert.RedFiRefIdeal.Gen.concatenates_S1024x704_S1024x704_S1024x704_S1024x704_S4096x704_d0 : Vec Ideal Cert.RedFiRefIdeal.S4096x704 .f32) (ix2 a k)
      = if h0 : a.val < 1024 then x0 (ix2 ⟨a.val, h0⟩ k)
        else if h1 : a.val - 1024 < 1024 then x1 (ix2 ⟨a.val - 1024, h1⟩ k)
        else if h2 : a.val - 1024 - 1024 < 1024 then x2 (ix2 ⟨a.val - 1024 - 1024, h2⟩ k)
        else x3 (ix2 ⟨a.val - 1024 - 1024 - 1024, by have h := a.isLt; omega⟩ k) := by
  pointwise

/-- The reference's gradient, at variable arrays. -/
theorem ref_grad (o0 o1 o2 o3 : Vec Ideal S1024x704 .f32) (r0 r1 r2 r3 : Vec Ideal S8x1024x704 .bf16) (mark : Vec Ideal S8 .f32) :
    (concatenate Cert.RedFiRefIdeal.S4096x704 0 [⟨Cert.RedFiRefIdeal.S1024x704, (sumOver o0 r0 mark : (⟨Cert.RedFiRefIdeal.S1024x704, .f32⟩ : BufTy).Contents (Elt Ideal))⟩,
      ⟨Cert.RedFiRefIdeal.S1024x704, (sumOver o1 r1 mark : (⟨Cert.RedFiRefIdeal.S1024x704, .f32⟩ : BufTy).Contents (Elt Ideal))⟩,
      ⟨Cert.RedFiRefIdeal.S1024x704, (sumOver o2 r2 mark : (⟨Cert.RedFiRefIdeal.S1024x704, .f32⟩ : BufTy).Contents (Elt Ideal))⟩,
      ⟨Cert.RedFiRefIdeal.S1024x704, (sumOver o3 r3 mark : (⟨Cert.RedFiRefIdeal.S1024x704, .f32⟩ : BufTy).Contents (Elt Ideal))⟩] Cert.RedFiRefIdeal.Gen.concatenates_S1024x704_S1024x704_S1024x704_S1024x704_S4096x704_d0 : (⟨Cert.RedFiRefIdeal.S4096x704, .f32⟩ : BufTy).Contents (Elt Ideal)) = gradArr o0 o1 o2 o3 r0 r1 r2 r3 mark := by
  rw [sumOver_eq, sumOver_eq, sumOver_eq, sumOver_eq]
  funext y
  idx_vars y
  exact concat_eq _ _ _ _ _ _

set_option maxHeartbeats 2000000 in
/-- The idealized kernel and the idealized reference, from the same arguments, end with the same four arrays. -/
theorem algebraic : Cert.algebraic_RedFiIdeal_RedFiRefIdeal := by
  intro m g m' g' _ hagree
  refine ⟨fun c => gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)), fun c => deltaArr (m (c.tc.loc main_arg0)) (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) (m (c.tc.loc main_arg11)),
    fun c => moment1Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)), fun c => moment2Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg11)), ?_, ?_⟩
  · refine (θ_run _ _ _).mono (fun r h c => ?_) (Cert.RedFiIdeal.Value.run_blocks (F := Ideal) m g)
    obtain ⟨h6, h7, h8, h9, h⟩ := h c
    exact ⟨h6.trans (arr12 m c), h7.trans (arr13 m c), h8.trans (arr14 m c), h9.trans (arr15 m c), h⟩
  · refine (θ_run _ _ _).mono (fun r h c => ?_) (Cert.RedFiRefIdeal.Value.run (F := Ideal) m' g')
    obtain ⟨h6, h7, h8, h9, h⟩ := h c
    obtain ⟨e0, e1, e2, e3, e4, e5, e6, e7, e8, e9, e10, e11⟩ := hagree c
    unfold Cert.RedFiRefIdeal.Value.res_main_v52 at h7
    unfold Cert.RedFiRefIdeal.Value.res_main_v39 at h9
    rw [e1, e2, e3, e4, e5, e6, e7, e8, e9, ref_grad] at h6
    rw [e0, e1, e2, e3, e4, e5, e6, e7, e8, e9, e10, e11, ref_grad] at h7
    rw [e1, e2, e3, e4, e5, e6, e7, e8, e9, e10, ref_grad] at h8
    rw [e1, e2, e3, e4, e5, e6, e7, e8, e9, e11, ref_grad] at h9
    refine ⟨h6, h7.trans ?_, h8.trans ?_, h9.trans ?_, h⟩
    · funext y
      unfold deltaArr delta moment1 moment2
      pointwise
    · funext y
      unfold moment1Arr moment1
      pointwise
    · funext y
      unfold moment2Arr moment2
      pointwise

end Cert.Proof.RedFi

end
-- ==== Proof.RedFoValue.lean ====
module

public import proofs.«01_k».proof.Defs
public import proofs.«01_k».proof.Proof.Gen.RedFoIdeal.Value
public import proofs.«01_k».proof.Proof.AdamWValue
public import proofs.«01_k».proof.Proof.Reduce
public import Idealize.ShloMosaic.Lib.Pipeline.ValueKit
public import Idealize.ShloMosaic.Lib.Pipeline.ReadBack

/-!
The value of the reducing optimiser call (`adamw_ffn_w_out`), whose gradient comes in four pieces: the gradient summed over the
devices, the step and the two new moments, element by element.
-/

@[expose] public section

set_option maxRecDepth 16384

noncomputable section

namespace Cert.Proof.RedFo

open Cert.RedFoIdeal Cert.RedFoIdeal.Gen Idealize.ShloMosaic Idealize.ShloMosaic.TcCoe Idealize.SL.Sem
open Idealize.ShloMosaic.Pipeline (Dat)
open Cert.Proof.AdamW (moment1 moment2 delta)
open Cert.Proof.Reduce (pick total total_eq)
open scoped BigOperators

/-- One piece of the gradient, summed over the devices. -/
def pieceArr (own : Vec Ideal S352x1024 .f32) (recv : Vec Ideal S8x352x1024 .bf16) (mark : Vec Ideal S8 .f32) : Vec Ideal S352x1024 .f32 :=
  fun i => total (fun j => mark (ix1 j)) (own i) (fun j => recv (ix3 j (i 0) (i 1)))

/-- The four pieces, one below the other. -/
def gradAt (o0 o1 o2 o3 : Vec Ideal S352x1024 .f32) (r0 r1 r2 r3 : Vec Ideal S8x352x1024 .bf16) (mark : Vec Ideal S8 .f32) (a : Fin 1408) (k : Fin 1024) : EReal :=
  if h0 : a.val < 352 then pieceArr o0 r0 mark (ix2 ⟨a.val, h0⟩ k)
  else if h1 : a.val - 352 < 352 then pieceArr o1 r1 mark (ix2 ⟨a.val - 352, h1⟩ k)
  else if h2 : a.val - 352 - 352 < 352 then pieceArr o2 r2 mark (ix2 ⟨a.val - 352 - 352, h2⟩ k)
  else pieceArr o3 r3 mark (ix2 ⟨a.val - 352 - 352 - 352, by have h := a.isLt; omega⟩ k)

def gradArr (o0 o1 o2 o3 : Vec Ideal S352x1024 .f32) (r0 r1 r2 r3 : Vec Ideal S8x352x1024 .bf16) (mark : Vec Ideal S8 .f32) : Vec Ideal S1408x1024 .f32 := fun i => gradAt o0 o1 o2 o3 r0 r1 r2 r3 mark (i 0) (i 1)

theorem gradAt_0 (o0 o1 o2 o3 : Vec Ideal S352x1024 .f32) (r0 r1 r2 r3 : Vec Ideal S8x352x1024 .bf16) (mark : Vec Ideal S8 .f32) (a : Fin 1408) (k : Fin 1024) (b : Fin 352) (h : a.val = 0 + b.val) :
    gradAt o0 o1 o2 o3 r0 r1 r2 r3 mark a k = pieceArr o0 r0 mark (ix2 b k) := by
  have hb := b.isLt
  unfold gradAt
  rw [dif_pos (by omega)]
  exact congrArg (fun z => pieceArr o0 r0 mark (ix2 z k)) (Fin.ext (by show a.val = b.val; omega))

theorem gradAt_1 (o0 o1 o2 o3 : Vec Ideal S352x1024 .f32) (r0 r1 r2 r3 : Vec Ideal S8x352x1024 .bf16) (mark : Vec Ideal S8 .f32) (a : Fin 1408) (k : Fin 1024) (b : Fin 352) (h : a.val = 352 + b.val) :
    gradAt o0 o1 o2 o3 r0 r1 r2 r3 mark a k = pieceArr o1 r1 mark (ix2 b k) := by
  have hb := b.isLt
  unfold gradAt
  rw [dif_neg (by omega)]
  rw [dif_pos (by omega)]
  exact congrArg (fun z => pieceArr o1 r1 mark (ix2 z k)) (Fin.ext (by show a.val - 352 = b.val; omega))

theorem gradAt_2 (o0 o1 o2 o3 : Vec Ideal S352x1024 .f32) (r0 r1 r2 r3 : Vec Ideal S8x352x1024 .bf16) (mark : Vec Ideal S8 .f32) (a : Fin 1408) (k : Fin 1024) (b : Fin 352) (h : a.val = 704 + b.val) :
    gradAt o0 o1 o2 o3 r0 r1 r2 r3 mark a k = pieceArr o2 r2 mark (ix2 b k) := by
  have hb := b.isLt
  unfold gradAt
  rw [dif_neg (by omega)]
  rw [dif_neg (by omega)]
  rw [dif_pos (by omega)]
  exact congrArg (fun z => pieceArr o2 r2 mark (ix2 z k)) (Fin.ext (by show a.val - 352 - 352 = b.val; omega))

theorem gradAt_3 (o0 o1 o2 o3 : Vec Ideal S352x1024 .f32) (r0 r1 r2 r3 : Vec Ideal S8x352x1024 .bf16) (mark : Vec Ideal S8 .f32) (a : Fin 1408) (k : Fin 1024) (b : Fin 352) (h : a.val = 1056 + b.val) :
    gradAt o0 o1 o2 o3 r0 r1 r2 r3 mark a k = pieceArr o3 r3 mark (ix2 b k) := by
  have hb := b.isLt
  unfold gradAt
  rw [dif_neg (by omega)]
  rw [dif_neg (by omega)]
  rw [dif_neg (by omega)]
  exact congrArg (fun z => pieceArr o3 r3 mark (ix2 z k)) (Fin.ext (by show a.val - 352 - 352 - 352 = b.val; omega))

def deltaArr (w g m v : Vec Ideal S1408x1024 .f32) : Vec Ideal S1408x1024 .f32 := fun i => delta (w i) (g i) (m i) (v i)
def moment1Arr (g m : Vec Ideal S1408x1024 .f32) : Vec Ideal S1408x1024 .f32 := fun i => moment1 (g i) (m i)
def moment2Arr (g v : Vec Ideal S1408x1024 .f32) : Vec Ideal S1408x1024 .f32 := fun i => moment2 (g i) (v i)

/-! ## The kernel's values, at variable blocks -/

theorem pay2_apply (a0 a1 a2 a3 : EReal) (x : Vec Ideal S32x1024 .f32) (b0 b1 b2 b3 : Vec Ideal S1x32x1024 .bf16) (r : Fin 32) (k : Fin 1024) :
    k0_pay2 (F := Ideal) a0 x b0 a1 x b1 a2 x b2 a3 x b3 (ix2 r k)
      = pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay2]
  simp only [ite_apply]
  pointwise

theorem pay3_apply (s : Vec Ideal S32x1024 .f32) (a0 a1 a2 a3 : EReal) (x : Vec Ideal S32x1024 .f32) (b0 b1 b2 b3 : Vec Ideal S1x32x1024 .bf16) (r : Fin 32) (k : Fin 1024) :
    k0_pay3 (F := Ideal) s a0 x b0 a1 x b1 a2 x b2 a3 x b3 (ix2 r k)
      = s (ix2 r k) + pick a0 (x (ix2 r k)) (b0 (ix3 0 r k)) + pick a1 (x (ix2 r k)) (b1 (ix3 0 r k)) + pick a2 (x (ix2 r k)) (b2 (ix3 0 r k))
        + pick a3 (x (ix2 r k)) (b3 (ix3 0 r k)) := by
  unfold pick
  pointwise [k0_pay3]
  simp only [ite_apply]
  pointwise

/-- What a point of piece 0 stores as the gradient's block. -/
def gblk (x0 : Vec Ideal S8 .f32) (x4 : Vec Ideal S32x1024 .f32) (x5 : Vec Ideal S8x32x1024 .bf16) : Vec Ideal S32x1024 .f32 :=
  k0_pay3 (k0_pay2 (View.ld x0 (Rect.unit ![0] ![1] inb_S8_S1_0) (Shape.Idx.first (by decide))) x4 (View.ld x5 (Rect.unit ![0, 0, 0] ![1, 32, 1024] inb_S8x32x1024_S1x32x1024_0_0_0)) (View.ld x0 (Rect.unit ![1] ![1] inb_S8_S1_1) (Shape.Idx.first (by decide))) x4 (View.ld x5 (Rect.unit ![1, 0, 0] ![1, 32, 1024] inb_S8x32x1024_S1x32x1024_1_0_0)) (View.ld x0 (Rect.unit ![2] ![1] inb_S8_S1_2) (Shape.Idx.first (by decide))) x4 (View.ld x5 (Rect.unit ![2, 0, 0] ![1, 32, 1024] inb_S8x32x1024_S1x32x1024_2_0_0)) (View.ld x0 (Rect.unit ![3] ![1] inb_S8_S1_3) (Shape.Idx.first (by decide))) x4 (View.ld x5 (Rect.unit ![3, 0, 0] ![1, 32, 1024] inb_S8x32x1024_S1x32x1024_3_0_0))) (View.ld x0 (Rect.unit ![4] ![1] inb_S8_S1_4) (Shape.Idx.first (by decide))) x4 (View.ld x5 (Rect.unit ![4, 0, 0] ![1, 32, 1024] inb_S8x32x1024_S1x32x1024_4_0_0)) (View.ld x0 (Rect.unit ![5] ![1] inb_S8_S1_5) (Shape.Idx.first (by decide))) x4 (View.ld x5 (Rect.unit ![5, 0, 0] ![1, 32, 1024] inb_S8x32x1024_S1x32x1024_5_0_0)) (View.ld x0 (Rect.unit ![6] ![1] inb_S8_S1_6) (Shape.Idx.first (by decide))) x4 (View.ld x5 (Rect.unit ![6, 0, 0] ![1, 32, 1024] inb_S8x32x1024_S1x32x1024_6_0_0)) (View.ld x0 (Rect.unit ![7] ![1] inb_S8_S1_7) (Shape.Idx.first (by decide))) x4 (View.ld x5 (Rect.unit ![7, 0, 0] ![1, 32, 1024] inb_S8x32x1024_S1x32x1024_7_0_0))

/-- The same at a point of piece 1. -/
def gblk1 (x0 : Vec Ideal S8 .f32) (x4 : Vec Ideal S32x1024 .f32) (x5 : Vec Ideal S8x32x1024 .bf16) : Vec Ideal S32x1024 .f32 :=
  k0_pay5 (k0_pay4 (View.ld x0 (Rect.unit ![0] ![1] inb_S8_S1_0) (Shape.Idx.first (by decide))) x4 (View.ld x5 (Rect.unit ![0, 0, 0] ![1, 32, 1024] inb_S8x32x1024_S1x32x1024_0_0_0)) (View.ld x0 (Rect.unit ![1] ![1] inb_S8_S1_1) (Shape.Idx.first (by decide))) x4 (View.ld x5 (Rect.unit ![1, 0, 0] ![1, 32, 1024] inb_S8x32x1024_S1x32x1024_1_0_0)) (View.ld x0 (Rect.unit ![2] ![1] inb_S8_S1_2) (Shape.Idx.first (by decide))) x4 (View.ld x5 (Rect.unit ![2, 0, 0] ![1, 32, 1024] inb_S8x32x1024_S1x32x1024_2_0_0)) (View.ld x0 (Rect.unit ![3] ![1] inb_S8_S1_3) (Shape.Idx.first (by decide))) x4 (View.ld x5 (Rect.unit ![3, 0, 0] ![1, 32, 1024] inb_S8x32x1024_S1x32x1024_3_0_0))) (View.ld x0 (Rect.unit ![4] ![1] inb_S8_S1_4) (Shape.Idx.first (by decide))) x4 (View.ld x5 (Rect.unit ![4, 0, 0] ![1, 32, 1024] inb_S8x32x1024_S1x32x1024_4_0_0)) (View.ld x0 (Rect.unit ![5] ![1] inb_S8_S1_5) (Shape.Idx.first (by decide))) x4 (View.ld x5 (Rect.unit ![5, 0, 0] ![1, 32, 1024] inb_S8x32x1024_S1x32x1024_5_0_0)) (View.ld x0 (Rect.unit ![6] ![1] inb_S8_S1_6) (Shape.Idx.first (by decide))) x4 (View.ld x5 (Rect.unit ![6, 0, 0] ![1, 32, 1024] inb_S8x32x1024_S1x32x1024_6_0_0)) (View.ld x0 (Rect.unit ![7] ![1] inb_S8_S1_7) (Shape.Idx.first (by decide))) x4 (View.ld x5 (Rect.unit ![7, 0, 0] ![1, 32, 1024] inb_S8x32x1024_S1x32x1024_7_0_0))

theorem gblk1_eq (x0 : Vec Ideal S8 .f32) (x4 : Vec Ideal S32x1024 .f32) (x5 : Vec Ideal S8x32x1024 .bf16) : gblk1 x0 x4 x5 = gblk x0 x4 x5 := rfl

/-- The same at a point of piece 2. -/
def gblk2 (x0 : Vec Ideal S8 .f32) (x4 : Vec Ideal S32x1024 .f32) (x5 : Vec Ideal S8x32x1024 .bf16) : Vec Ideal S32x1024 .f32 :=
  k0_pay7 (k0_pay6 (View.ld x0 (Rect.unit ![0] ![1] inb_S8_S1_0) (Shape.Idx.first (by decide))) x4 (View.ld x5 (Rect.unit ![0, 0, 0] ![1, 32, 1024] inb_S8x32x1024_S1x32x1024_0_0_0)) (View.ld x0 (Rect.unit ![1] ![1] inb_S8_S1_1) (Shape.Idx.first (by decide))) x4 (View.ld x5 (Rect.unit ![1, 0, 0] ![1, 32, 1024] inb_S8x32x1024_S1x32x1024_1_0_0)) (View.ld x0 (Rect.unit ![2] ![1] inb_S8_S1_2) (Shape.Idx.first (by decide))) x4 (View.ld x5 (Rect.unit ![2, 0, 0] ![1, 32, 1024] inb_S8x32x1024_S1x32x1024_2_0_0)) (View.ld x0 (Rect.unit ![3] ![1] inb_S8_S1_3) (Shape.Idx.first (by decide))) x4 (View.ld x5 (Rect.unit ![3, 0, 0] ![1, 32, 1024] inb_S8x32x1024_S1x32x1024_3_0_0))) (View.ld x0 (Rect.unit ![4] ![1] inb_S8_S1_4) (Shape.Idx.first (by decide))) x4 (View.ld x5 (Rect.unit ![4, 0, 0] ![1, 32, 1024] inb_S8x32x1024_S1x32x1024_4_0_0)) (View.ld x0 (Rect.unit ![5] ![1] inb_S8_S1_5) (Shape.Idx.first (by decide))) x4 (View.ld x5 (Rect.unit ![5, 0, 0] ![1, 32, 1024] inb_S8x32x1024_S1x32x1024_5_0_0)) (View.ld x0 (Rect.unit ![6] ![1] inb_S8_S1_6) (Shape.Idx.first (by decide))) x4 (View.ld x5 (Rect.unit ![6, 0, 0] ![1, 32, 1024] inb_S8x32x1024_S1x32x1024_6_0_0)) (View.ld x0 (Rect.unit ![7] ![1] inb_S8_S1_7) (Shape.Idx.first (by decide))) x4 (View.ld x5 (Rect.unit ![7, 0, 0] ![1, 32, 1024] inb_S8x32x1024_S1x32x1024_7_0_0))

theorem gblk2_eq (x0 : Vec Ideal S8 .f32) (x4 : Vec Ideal S32x1024 .f32) (x5 : Vec Ideal S8x32x1024 .bf16) : gblk2 x0 x4 x5 = gblk x0 x4 x5 := rfl

/-- The same at a point of piece 3. -/
def gblk3 (x0 : Vec Ideal S8 .f32) (x4 : Vec Ideal S32x1024 .f32) (x5 : Vec Ideal S8x32x1024 .bf16) : Vec Ideal S32x1024 .f32 :=
  k0_pay9 (k0_pay8 (View.ld x0 (Rect.unit ![0] ![1] inb_S8_S1_0) (Shape.Idx.first (by decide))) x4 (View.ld x5 (Rect.unit ![0, 0, 0] ![1, 32, 1024] inb_S8x32x1024_S1x32x1024_0_0_0)) (View.ld x0 (Rect.unit ![1] ![1] inb_S8_S1_1) (Shape.Idx.first (by decide))) x4 (View.ld x5 (Rect.unit ![1, 0, 0] ![1, 32, 1024] inb_S8x32x1024_S1x32x1024_1_0_0)) (View.ld x0 (Rect.unit ![2] ![1] inb_S8_S1_2) (Shape.Idx.first (by decide))) x4 (View.ld x5 (Rect.unit ![2, 0, 0] ![1, 32, 1024] inb_S8x32x1024_S1x32x1024_2_0_0)) (View.ld x0 (Rect.unit ![3] ![1] inb_S8_S1_3) (Shape.Idx.first (by decide))) x4 (View.ld x5 (Rect.unit ![3, 0, 0] ![1, 32, 1024] inb_S8x32x1024_S1x32x1024_3_0_0))) (View.ld x0 (Rect.unit ![4] ![1] inb_S8_S1_4) (Shape.Idx.first (by decide))) x4 (View.ld x5 (Rect.unit ![4, 0, 0] ![1, 32, 1024] inb_S8x32x1024_S1x32x1024_4_0_0)) (View.ld x0 (Rect.unit ![5] ![1] inb_S8_S1_5) (Shape.Idx.first (by decide))) x4 (View.ld x5 (Rect.unit ![5, 0, 0] ![1, 32, 1024] inb_S8x32x1024_S1x32x1024_5_0_0)) (View.ld x0 (Rect.unit ![6] ![1] inb_S8_S1_6) (Shape.Idx.first (by decide))) x4 (View.ld x5 (Rect.unit ![6, 0, 0] ![1, 32, 1024] inb_S8x32x1024_S1x32x1024_6_0_0)) (View.ld x0 (Rect.unit ![7] ![1] inb_S8_S1_7) (Shape.Idx.first (by decide))) x4 (View.ld x5 (Rect.unit ![7, 0, 0] ![1, 32, 1024] inb_S8x32x1024_S1x32x1024_7_0_0))

theorem gblk3_eq (x0 : Vec Ideal S8 .f32) (x4 : Vec Ideal S32x1024 .f32) (x5 : Vec Ideal S8x32x1024 .bf16) : gblk3 x0 x4 x5 = gblk x0 x4 x5 := rfl

theorem gblk_apply (x0 : Vec Ideal S8 .f32) (x4 : Vec Ideal S32x1024 .f32) (x5 : Vec Ideal S8x32x1024 .bf16) (r : Fin 32) (k : Fin 1024) :
    gblk x0 x4 x5 (ix2 r k) = total (fun j => x0 (ix1 j)) (x4 (ix2 r k)) (fun j => x5 (ix3 j r k)) := by
  rw [total_eq]
  unfold gblk
  rw [pay3_apply, pay2_apply]
  pointwise

/-- The step's block, from the gradient's, the moments' and the weight's. -/
def dblk (g m v w : Vec Ideal S32x1024 .f32) : Vec Ideal S32x1024 .f32 := k0_pay1 (k0_pay13 g m) (k0_pay14 g v) k0_pay15 w

theorem pay11_apply (g m : Vec Ideal S32x1024 .f32) (y : S32x1024.Idx) : k0_pay11 g m y = moment1 (g y) (m y) := by
  unfold moment1
  pointwise [k0_pay11, k0_pay10]

theorem pay12_apply (g v : Vec Ideal S32x1024 .f32) (y : S32x1024.Idx) : k0_pay12 g v y = moment2 (g y) (v y) := by
  unfold moment2
  pointwise [k0_pay12, k0_pay10]

theorem dblk_apply (g m v w : Vec Ideal S32x1024 .f32) (y : S32x1024.Idx) : dblk g m v w y = delta (w y) (g y) (m y) (v y) := by
  unfold delta moment1 moment2 dblk
  pointwise [k0_pay1, k0_pay13, k0_pay14, k0_pay15, k0_pay11, k0_pay12, k0_pay10]

variable (m : (ℓ : Loc nD τ sig) → Buf (Elt Ideal) ℓ)

theorem idx0 : ∀ t : Fin grid0.N, win0_0.index t = ![0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx12 : ∀ t : Fin grid0.N, win0_12.index t = ![t.val, 0] := by decide +kernel
theorem idx13 : ∀ t : Fin grid0.N, win0_13.index t = ![t.val, 0] := by decide +kernel
theorem idx14 : ∀ t : Fin grid0.N, win0_14.index t = ![t.val, 0] := by decide +kernel
theorem idx15 : ∀ t : Fin grid0.N, win0_15.index t = ![t.val, 0] := by decide +kernel
theorem idx4 : ∀ t : Fin grid0.N, 0 ≤ t.val → t.val < 11 → win0_4.index t = ![t.val, 0] := by decide +kernel
theorem idx8 : ∀ t : Fin grid0.N, 0 ≤ t.val → t.val < 11 → win0_8.index t = ![0, t.val, 0] := by decide +kernel
theorem idx5 : ∀ t : Fin grid0.N, 11 ≤ t.val → t.val < 22 → win0_5.index t = ![(t.val - 11), 0] := by decide +kernel
theorem idx9 : ∀ t : Fin grid0.N, 11 ≤ t.val → t.val < 22 → win0_9.index t = ![0, (t.val - 11), 0] := by decide +kernel
theorem idx6 : ∀ t : Fin grid0.N, 22 ≤ t.val → t.val < 33 → win0_6.index t = ![(t.val - 22), 0] := by decide +kernel
theorem idx10 : ∀ t : Fin grid0.N, 22 ≤ t.val → t.val < 33 → win0_10.index t = ![0, (t.val - 22), 0] := by decide +kernel
theorem idx7 : ∀ t : Fin grid0.N, 33 ≤ t.val → t.val < 44 → win0_7.index t = ![(t.val - 33), 0] := by decide +kernel
theorem idx11 : ∀ t : Fin grid0.N, 33 ≤ t.val → t.val < 44 → win0_11.index t = ![0, (t.val - 33), 0] := by decide +kernel

/-- Row `r` of the block of point `t`. -/
theorem row_lt (t : Fin grid0.N) (r : Fin 32) : t.val * 32 + r.val < 1408 := by
  have h : t.val < 44 := t.isLt
  omega

/-- Row `r` of the block of point `s` of a piece. -/
theorem prow_lt {s : ℕ} (hs : s < 11) (r : Fin 32) : s * 32 + r.val < 352 := by omega

theorem mark_iblk (c : Dev nD) (t : Fin cfg0.N) (j : Fin 8) :
    (iblk m c 0 t : Vec Ideal S8 .f32) (ix1 j) = ((m (c.tc.loc main_arg9)) : Vec Ideal S8 .f32) (ix1 j) := by
  blk_point [iblk, V, idx0 t]

theorem iblk1_apply (c : Dev nD) (t : Fin cfg0.N) (r : Fin 32) (k : Fin 1024) :
    (iblk m c 1 t : Vec Ideal S32x1024 .f32) (ix2 r k) = ((m (c.tc.loc main_arg0)) : Vec Ideal S1408x1024 .f32) (ix2 ⟨t.val * 32 + r.val, row_lt t r⟩ k) := by
  blk_point [iblk, V, idx1 t]

theorem iblk2_apply (c : Dev nD) (t : Fin cfg0.N) (r : Fin 32) (k : Fin 1024) :
    (iblk m c 2 t : Vec Ideal S32x1024 .f32) (ix2 r k) = ((m (c.tc.loc main_arg10)) : Vec Ideal S1408x1024 .f32) (ix2 ⟨t.val * 32 + r.val, row_lt t r⟩ k) := by
  blk_point [iblk, V, idx2 t]

theorem iblk3_apply (c : Dev nD) (t : Fin cfg0.N) (r : Fin 32) (k : Fin 1024) :
    (iblk m c 3 t : Vec Ideal S32x1024 .f32) (ix2 r k) = ((m (c.tc.loc main_arg11)) : Vec Ideal S1408x1024 .f32) (ix2 ⟨t.val * 32 + r.val, row_lt t r⟩ k) := by
  blk_point [iblk, V, idx3 t]

theorem own0 (c : Dev nD) (t : Fin cfg0.N) (h0 : 0 ≤ t.val) (h1 : t.val < 11) (hs : t.val < 11) (r : Fin 32) (k : Fin 1024) :
    (iblk m c 4 t : Vec Ideal S32x1024 .f32) (ix2 r k) = ((m (c.tc.loc main_arg1)) : Vec Ideal S352x1024 .f32) (ix2 ⟨t.val * 32 + r.val, prow_lt hs r⟩ k) := by
  blk_point [iblk, V, idx4 t h0 h1]

theorem recv0 (c : Dev nD) (t : Fin cfg0.N) (h0 : 0 ≤ t.val) (h1 : t.val < 11) (hs : t.val < 11) (j : Fin 8) (r : Fin 32) (k : Fin 1024) :
    (iblk m c 8 t : Vec Ideal S8x32x1024 .bf16) (ix3 j r k) = ((m (c.tc.loc main_arg5)) : Vec Ideal S8x352x1024 .bf16) (ix3 j ⟨t.val * 32 + r.val, prow_lt hs r⟩ k) := by
  blk_point [iblk, V, idx8 t h0 h1]

theorem own1 (c : Dev nD) (t : Fin cfg0.N) (h0 : 11 ≤ t.val) (h1 : t.val < 22) (hs : (t.val - 11) < 11) (r : Fin 32) (k : Fin 1024) :
    (iblk m c 5 t : Vec Ideal S32x1024 .f32) (ix2 r k) = ((m (c.tc.loc main_arg2)) : Vec Ideal S352x1024 .f32) (ix2 ⟨(t.val - 11) * 32 + r.val, prow_lt hs r⟩ k) := by
  blk_point [iblk, V, idx5 t h0 h1]

theorem recv1 (c : Dev nD) (t : Fin cfg0.N) (h0 : 11 ≤ t.val) (h1 : t.val < 22) (hs : (t.val - 11) < 11) (j : Fin 8) (r : Fin 32) (k : Fin 1024) :
    (iblk m c 9 t : Vec Ideal S8x32x1024 .bf16) (ix3 j r k) = ((m (c.tc.loc main_arg6)) : Vec Ideal S8x352x1024 .bf16) (ix3 j ⟨(t.val - 11) * 32 + r.val, prow_lt hs r⟩ k) := by
  blk_point [iblk, V, idx9 t h0 h1]

theorem own2 (c : Dev nD) (t : Fin cfg0.N) (h0 : 22 ≤ t.val) (h1 : t.val < 33) (hs : (t.val - 22) < 11) (r : Fin 32) (k : Fin 1024) :
    (iblk m c 6 t : Vec Ideal S32x1024 .f32) (ix2 r k) = ((m (c.tc.loc main_arg3)) : Vec Ideal S352x1024 .f32) (ix2 ⟨(t.val - 22) * 32 + r.val, prow_lt hs r⟩ k) := by
  blk_point [iblk, V, idx6 t h0 h1]

theorem recv2 (c : Dev nD) (t : Fin cfg0.N) (h0 : 22 ≤ t.val) (h1 : t.val < 33) (hs : (t.val - 22) < 11) (j : Fin 8) (r : Fin 32) (k : Fin 1024) :
    (iblk m c 10 t : Vec Ideal S8x32x1024 .bf16) (ix3 j r k) = ((m (c.tc.loc main_arg7)) : Vec Ideal S8x352x1024 .bf16) (ix3 j ⟨(t.val - 22) * 32 + r.val, prow_lt hs r⟩ k) := by
  blk_point [iblk, V, idx10 t h0 h1]

theorem own3 (c : Dev nD) (t : Fin cfg0.N) (h0 : 33 ≤ t.val) (h1 : t.val < 44) (hs : (t.val - 33) < 11) (r : Fin 32) (k : Fin 1024) :
    (iblk m c 7 t : Vec Ideal S32x1024 .f32) (ix2 r k) = ((m (c.tc.loc main_arg4)) : Vec Ideal S352x1024 .f32) (ix2 ⟨(t.val - 33) * 32 + r.val, prow_lt hs r⟩ k) := by
  blk_point [iblk, V, idx7 t h0 h1]

theorem recv3 (c : Dev nD) (t : Fin cfg0.N) (h0 : 33 ≤ t.val) (h1 : t.val < 44) (hs : (t.val - 33) < 11) (j : Fin 8) (r : Fin 32) (k : Fin 1024) :
    (iblk m c 11 t : Vec Ideal S8x32x1024 .bf16) (ix3 j r k) = ((m (c.tc.loc main_arg8)) : Vec Ideal S8x352x1024 .bf16) (ix3 j ⟨(t.val - 33) * 32 + r.val, prow_lt hs r⟩ k) := by
  blk_point [iblk, V, idx11 t h0 h1]

theorem g_iblk0 (c : Dev nD) (t : Fin cfg0.N) (h0 : 0 ≤ t.val) (h1 : t.val < 11) (r : Fin 32) (k : Fin 1024) :
    gblk (iblk m c 0 t) (iblk m c 4 t) (iblk m c 8 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 32 + r.val, row_lt t r⟩ k) := by
  have hs : t.val < 11 := by omega
  exact (gblk_apply _ _ _ _ _).trans ((congr (congrArg₂ total (funext fun j => mark_iblk m c t j) (own0 m c t h0 h1 hs r k))
    (funext fun j => recv0 m c t h0 h1 hs j r k)).trans
    (gradAt_0 _ _ _ _ _ _ _ _ _ ⟨t.val * 32 + r.val, row_lt t r⟩ k ⟨t.val * 32 + r.val, prow_lt hs r⟩
      (by show t.val * 32 + r.val = 0 + (t.val * 32 + r.val); omega)).symm)

theorem g_iblk1 (c : Dev nD) (t : Fin cfg0.N) (h0 : 11 ≤ t.val) (h1 : t.val < 22) (r : Fin 32) (k : Fin 1024) :
    gblk (iblk m c 0 t) (iblk m c 5 t) (iblk m c 9 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 32 + r.val, row_lt t r⟩ k) := by
  have hs : (t.val - 11) < 11 := by omega
  exact (gblk_apply _ _ _ _ _).trans ((congr (congrArg₂ total (funext fun j => mark_iblk m c t j) (own1 m c t h0 h1 hs r k))
    (funext fun j => recv1 m c t h0 h1 hs j r k)).trans
    (gradAt_1 _ _ _ _ _ _ _ _ _ ⟨t.val * 32 + r.val, row_lt t r⟩ k ⟨(t.val - 11) * 32 + r.val, prow_lt hs r⟩
      (by show t.val * 32 + r.val = 352 + ((t.val - 11) * 32 + r.val); omega)).symm)

theorem g_iblk2 (c : Dev nD) (t : Fin cfg0.N) (h0 : 22 ≤ t.val) (h1 : t.val < 33) (r : Fin 32) (k : Fin 1024) :
    gblk (iblk m c 0 t) (iblk m c 6 t) (iblk m c 10 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 32 + r.val, row_lt t r⟩ k) := by
  have hs : (t.val - 22) < 11 := by omega
  exact (gblk_apply _ _ _ _ _).trans ((congr (congrArg₂ total (funext fun j => mark_iblk m c t j) (own2 m c t h0 h1 hs r k))
    (funext fun j => recv2 m c t h0 h1 hs j r k)).trans
    (gradAt_2 _ _ _ _ _ _ _ _ _ ⟨t.val * 32 + r.val, row_lt t r⟩ k ⟨(t.val - 22) * 32 + r.val, prow_lt hs r⟩
      (by show t.val * 32 + r.val = 704 + ((t.val - 22) * 32 + r.val); omega)).symm)

theorem g_iblk3 (c : Dev nD) (t : Fin cfg0.N) (h0 : 33 ≤ t.val) (h1 : t.val < 44) (r : Fin 32) (k : Fin 1024) :
    gblk (iblk m c 0 t) (iblk m c 7 t) (iblk m c 11 t) (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 32 + r.val, row_lt t r⟩ k) := by
  have hs : (t.val - 33) < 11 := by omega
  exact (gblk_apply _ _ _ _ _).trans ((congr (congrArg₂ total (funext fun j => mark_iblk m c t j) (own3 m c t h0 h1 hs r k))
    (funext fun j => recv3 m c t h0 h1 hs j r k)).trans
    (gradAt_3 _ _ _ _ _ _ _ _ _ ⟨t.val * 32 + r.val, row_lt t r⟩ k ⟨(t.val - 33) * 32 + r.val, prow_lt hs r⟩
      (by show t.val * 32 + r.val = 1056 + ((t.val - 33) * 32 + r.val); omega)).symm)

/-- What point `t` stores as the gradient's block. -/
def gB (c : Dev nD) (t : Fin cfg0.N) : Vec Ideal S32x1024 .f32 :=
  if t.val < 11 then gblk (iblk m c 0 t) (iblk m c 4 t) (iblk m c 8 t)
  else if t.val < 22 then gblk (iblk m c 0 t) (iblk m c 5 t) (iblk m c 9 t)
  else if t.val < 33 then gblk (iblk m c 0 t) (iblk m c 6 t) (iblk m c 10 t)
  else gblk (iblk m c 0 t) (iblk m c 7 t) (iblk m c 11 t)

theorem gB_0 (c : Dev nD) (t : Fin cfg0.N) (h0 : 0 ≤ t.val) (h1 : t.val < 11) : gB m c t = gblk (iblk m c 0 t) (iblk m c 4 t) (iblk m c 8 t) := by
  unfold gB
  rw [if_pos (by omega)]

theorem gB_1 (c : Dev nD) (t : Fin cfg0.N) (h0 : 11 ≤ t.val) (h1 : t.val < 22) : gB m c t = gblk (iblk m c 0 t) (iblk m c 5 t) (iblk m c 9 t) := by
  unfold gB
  rw [if_neg (by omega)]; rw [if_pos (by omega)]

theorem gB_2 (c : Dev nD) (t : Fin cfg0.N) (h0 : 22 ≤ t.val) (h1 : t.val < 33) : gB m c t = gblk (iblk m c 0 t) (iblk m c 6 t) (iblk m c 10 t) := by
  unfold gB
  rw [if_neg (by omega)]; rw [if_neg (by omega)]; rw [if_pos (by omega)]

theorem gB_3 (c : Dev nD) (t : Fin cfg0.N) (h0 : 33 ≤ t.val) (h1 : t.val < 44) : gB m c t = gblk (iblk m c 0 t) (iblk m c 7 t) (iblk m c 11 t) := by
  unfold gB
  rw [if_neg (by omega)]; rw [if_neg (by omega)]; rw [if_neg (by omega)]

theorem outs0 (c : Dev nD) (t : Fin cfg0.N) (h0 : 0 ≤ t.val) (h1 : t.val < 11) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_0 m c t h0 h1, outsAt0_A m c t (by omega) (by omega) (by omega) (by omega)]
  refine Prod.ext ?_ (Prod.ext ?_ (Prod.ext ?_ ?_))
  · unfold gblk
    frame_out
  · unfold dblk gblk
    frame_out
  · unfold gblk
    frame_out
  · unfold gblk
    frame_out

theorem outs1 (c : Dev nD) (t : Fin cfg0.N) (h0 : 11 ≤ t.val) (h1 : t.val < 22) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_1 m c t h0 h1, ← gblk1_eq, outsAt0_B m c t (by omega) (by omega) (by omega) (by omega)]
  refine Prod.ext ?_ (Prod.ext ?_ (Prod.ext ?_ ?_))
  · unfold gblk1
    frame_out
  · unfold dblk gblk1
    frame_out
  · unfold gblk1
    frame_out
  · unfold gblk1
    frame_out

theorem outs2 (c : Dev nD) (t : Fin cfg0.N) (h0 : 22 ≤ t.val) (h1 : t.val < 33) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_2 m c t h0 h1, ← gblk2_eq, outsAt0_C m c t (by omega) (by omega) (by omega) (by omega)]
  refine Prod.ext ?_ (Prod.ext ?_ (Prod.ext ?_ ?_))
  · unfold gblk2
    frame_out
  · unfold dblk gblk2
    frame_out
  · unfold gblk2
    frame_out
  · unfold gblk2
    frame_out

theorem outs3 (c : Dev nD) (t : Fin cfg0.N) (h0 : 33 ≤ t.val) (h1 : t.val < 44) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  rw [gB_3 m c t h0 h1, ← gblk3_eq, outsAt0_D m c t (by omega) (by omega) (by omega) (by omega)]
  refine Prod.ext ?_ (Prod.ext ?_ (Prod.ext ?_ ?_))
  · unfold gblk3
    frame_out
  · unfold dblk gblk3
    frame_out
  · unfold gblk3
    frame_out
  · unfold gblk3
    frame_out

theorem outs (c : Dev nD) (t : Fin cfg0.N) : outsAt0 m c t.val t.isLt = ((gB m c t), dblk (gB m c t) (iblk m c 2 t) (iblk m c 3 t) (iblk m c 1 t), k0_pay11 (gB m c t) (iblk m c 2 t), k0_pay12 (gB m c t) (iblk m c 3 t)) := by
  have h : t.val < 44 := t.isLt
  by_cases h1 : t.val < 11
  · exact outs0 m c t (by omega) h1
  by_cases h2 : t.val < 22
  · exact outs1 m c t (by omega) h2
  by_cases h3 : t.val < 33
  · exact outs2 m c t (by omega) h3
  · exact outs3 m c t (by omega) (by omega)

theorem g_iblk (c : Dev nD) (t : Fin cfg0.N) (r : Fin 32) (k : Fin 1024) :
    gB m c t (ix2 r k) = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (ix2 ⟨t.val * 32 + r.val, row_lt t r⟩ k) := by
  have h : t.val < 44 := t.isLt
  by_cases h1 : t.val < 11
  · rw [gB_0 m c t (by omega) h1]; exact g_iblk0 m c t (by omega) h1 r k
  by_cases h2 : t.val < 22
  · rw [gB_1 m c t (by omega) h2]; exact g_iblk1 m c t (by omega) h2 r k
  by_cases h3 : t.val < 33
  · rw [gB_2 m c t (by omega) h3]; exact g_iblk2 m c t (by omega) h3 r k
  · rw [gB_3 m c t (by omega) (by omega)]; exact g_iblk3 m c t (by omega) (by omega) r k

theorem arr12 (c : Dev nD) : (dats m 0 c).arrAt 12 cfg0.N = gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) := by
  refine (dats m 0 c).arrAt_eq_of_covers 12 _ (by decide +kernel) fun t hf y => ?_
  blk_simp
  rw [after0_12, outs]
  idx_vars y
  refine ((g_iblk m c t _ _)).trans ?_
  refine congrArg (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (a₁ := ix2 ⟨t.val * 32 + _, row_lt t _⟩ _) ?_
  blk_ext [idx12 t]

theorem arr13 (c : Dev nD) : (dats m 0 c).arrAt 13 cfg0.N = deltaArr (m (c.tc.loc main_arg0)) (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) (m (c.tc.loc main_arg11)) := by
  refine (dats m 0 c).arrAt_eq_of_covers 13 _ (by decide +kernel) fun t hf y => ?_
  blk_simp
  rw [after0_13, outs]
  idx_vars y
  refine (dblk_apply _ _ _ _ _).trans ((congr (congr (congrArg₂ delta (iblk1_apply m c t _ _) (g_iblk m c t _ _)) (iblk2_apply m c t _ _)) (iblk3_apply m c t _ _)).trans ?_)
  refine congrArg (deltaArr (m (c.tc.loc main_arg0)) (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) (m (c.tc.loc main_arg11))) (a₁ := ix2 ⟨t.val * 32 + _, row_lt t _⟩ _) ?_
  blk_ext [idx13 t]

theorem arr14 (c : Dev nD) : (dats m 0 c).arrAt 14 cfg0.N = moment1Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) := by
  refine (dats m 0 c).arrAt_eq_of_covers 14 _ (by decide +kernel) fun t hf y => ?_
  blk_simp
  rw [after0_14, outs]
  idx_vars y
  refine (pay11_apply _ _ _).trans ((congrArg₂ moment1 (g_iblk m c t _ _) (iblk2_apply m c t _ _)).trans ?_)
  refine congrArg (moment1Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10))) (a₁ := ix2 ⟨t.val * 32 + _, row_lt t _⟩ _) ?_
  blk_ext [idx14 t]

theorem arr15 (c : Dev nD) : (dats m 0 c).arrAt 15 cfg0.N = moment2Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg11)) := by
  refine (dats m 0 c).arrAt_eq_of_covers 15 _ (by decide +kernel) fun t hf y => ?_
  blk_simp
  rw [after0_15, outs]
  idx_vars y
  refine (pay12_apply _ _ _).trans ((congrArg₂ moment2 (g_iblk m c t _ _) (iblk3_apply m c t _ _)).trans ?_)
  refine congrArg (moment2Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg11))) (a₁ := ix2 ⟨t.val * 32 + _, row_lt t _⟩ _) ?_
  blk_ext [idx15 t]

end Cert.Proof.RedFo

end
-- ==== Proof.RedFoClaim.lean ====
module

public import proofs.«01_k».proof.Defs
public import proofs.«01_k».proof.Proof.Gen.RedFoIdeal.Value
public import proofs.«01_k».proof.Proof.RedFoValue
public import proofs.«01_k».proof.Proof.Gen.RedFoRefIdeal.Run
public import Idealize.ShloMosaic.Lib.Pipeline.ValueKit
public import Idealize.ShloMosaic.Lib.Pipeline.ReadBack

/-!
The value claim of the reducing optimiser call: the kernel's four arrays, computed in `RedFoValue`, are the ones the
reference's host operations compute.
-/

@[expose] public section

set_option maxRecDepth 16384

noncomputable section

namespace Cert.Proof.RedFo

open Cert.RedFoIdeal Cert.RedFoIdeal.Gen Idealize.ShloMosaic Idealize.ShloMosaic.TcCoe Idealize.SL.Sem
open Idealize.ShloMosaic.Pipeline (Dat)
open Cert.Proof.AdamW (moment1 moment2 delta)
open Cert.Proof.Reduce (pick total)
open scoped BigOperators

/-- The reference's sum of one piece over the devices. -/
abbrev sumOver (own : Vec Ideal Cert.RedFoRefIdeal.S352x1024 .f32) (recv : Vec Ideal Cert.RedFoRefIdeal.S8x352x1024 .bf16) (mark : Vec Ideal Cert.RedFoRefIdeal.S8 .f32) : (⟨Cert.RedFoRefIdeal.S352x1024, .f32⟩ : BufTy).Contents (Elt Ideal) :=
    (Host.reduceAdd (F := Ideal) (select (broadcastInDim Cert.RedFoRefIdeal.S8x352x1024 ![0, 1, 2] Cert.RedFoRefIdeal.Gen.bcast_S8x1x1_S8x352x1024_0_1_2
      (cmpf (F := Ideal) .ogt (broadcastInDim Cert.RedFoRefIdeal.S8x1x1 ![0] Cert.RedFoRefIdeal.Gen.bcast_S8_S8x1x1_0 mark)
        (broadcastInDim Cert.RedFoRefIdeal.S8x1x1 ![] Cert.RedFoRefIdeal.Gen.bcast_S_S8x1x1 (constant (F := Ideal) Cert.RedFoRefIdeal.S_ .f32 0x3F000000#32))))
      (broadcastInDim Cert.RedFoRefIdeal.S8x352x1024 ![0, 1, 2] Cert.RedFoRefIdeal.Gen.bcast_S1x352x1024_S8x352x1024_0_1_2
        (broadcastInDim Cert.RedFoRefIdeal.S1x352x1024 ![1, 2] Cert.RedFoRefIdeal.Gen.bcast_S352x1024_S1x352x1024_1_2 own))
      (extf (F := Ideal) .f32 recv Cert.RedFoRefIdeal.Gen.bitsLt_bf16_f32))
      (constant (F := Ideal) Cert.RedFoRefIdeal.S_ .f32 0x00000000#32) Cert.RedFoRefIdeal.Gen.reducesTo_S8x352x1024_S352x1024_d0 Cert.RedFoRefIdeal.Gen.h_S_
      : (⟨Cert.RedFoRefIdeal.S352x1024, .f32⟩ : BufTy).Contents (Elt Ideal))

theorem sumOver_eq (own : Vec Ideal Cert.RedFoRefIdeal.S352x1024 .f32) (recv : Vec Ideal Cert.RedFoRefIdeal.S8x352x1024 .bf16) (mark : Vec Ideal Cert.RedFoRefIdeal.S8 .f32) :
    sumOver own recv mark = pieceArr own recv mark := by
  funext y
  idx_vars y
  unfold pieceArr total pick
  pointwise

/-- Four pieces laid one below the other, as the reference does it. -/
theorem concat_eq (x0 x1 x2 x3 : Vec Ideal Cert.RedFoRefIdeal.S352x1024 .f32) (a : Fin 1408) (k : Fin 1024) :
    (concatenate Cert.RedFoRefIdeal.S1408x1024 0 [⟨Cert.RedFoRefIdeal.S352x1024, x0⟩, ⟨Cert.RedFoRefIdeal.S352x1024, x1⟩, ⟨Cert.RedFoRefIdeal.S352x1024, x2⟩, ⟨Cert.RedFoRefIdeal.S352x1024, x3⟩] Cert.RedFoRefIdeal.Gen.concatenates_S352x1024_S352x1024_S352x1024_S352x1024_S1408x1024_d0 : Vec Ideal Cert.RedFoRefIdeal.S1408x1024 .f32) (ix2 a k)
      = if h0 : a.val < 352 then x0 (ix2 ⟨a.val, h0⟩ k)
        else if h1 : a.val - 352 < 352 then x1 (ix2 ⟨a.val - 352, h1⟩ k)
        else if h2 : a.val - 352 - 352 < 352 then x2 (ix2 ⟨a.val - 352 - 352, h2⟩ k)
        else x3 (ix2 ⟨a.val - 352 - 352 - 352, by have h := a.isLt; omega⟩ k) := by
  pointwise

/-- The reference's gradient, at variable arrays. -/
theorem ref_grad (o0 o1 o2 o3 : Vec Ideal S352x1024 .f32) (r0 r1 r2 r3 : Vec Ideal S8x352x1024 .bf16) (mark : Vec Ideal S8 .f32) :
    (concatenate Cert.RedFoRefIdeal.S1408x1024 0 [⟨Cert.RedFoRefIdeal.S352x1024, (sumOver o0 r0 mark : (⟨Cert.RedFoRefIdeal.S352x1024, .f32⟩ : BufTy).Contents (Elt Ideal))⟩,
      ⟨Cert.RedFoRefIdeal.S352x1024, (sumOver o1 r1 mark : (⟨Cert.RedFoRefIdeal.S352x1024, .f32⟩ : BufTy).Contents (Elt Ideal))⟩,
      ⟨Cert.RedFoRefIdeal.S352x1024, (sumOver o2 r2 mark : (⟨Cert.RedFoRefIdeal.S352x1024, .f32⟩ : BufTy).Contents (Elt Ideal))⟩,
      ⟨Cert.RedFoRefIdeal.S352x1024, (sumOver o3 r3 mark : (⟨Cert.RedFoRefIdeal.S352x1024, .f32⟩ : BufTy).Contents (Elt Ideal))⟩] Cert.RedFoRefIdeal.Gen.concatenates_S352x1024_S352x1024_S352x1024_S352x1024_S1408x1024_d0 : (⟨Cert.RedFoRefIdeal.S1408x1024, .f32⟩ : BufTy).Contents (Elt Ideal)) = gradArr o0 o1 o2 o3 r0 r1 r2 r3 mark := by
  rw [sumOver_eq, sumOver_eq, sumOver_eq, sumOver_eq]
  funext y
  idx_vars y
  exact concat_eq _ _ _ _ _ _

set_option maxHeartbeats 2000000 in
/-- The idealized kernel and the idealized reference, from the same arguments, end with the same four arrays. -/
theorem algebraic : Cert.algebraic_RedFoIdeal_RedFoRefIdeal := by
  intro m g m' g' _ hagree
  refine ⟨fun c => gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)), fun c => deltaArr (m (c.tc.loc main_arg0)) (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)) (m (c.tc.loc main_arg11)),
    fun c => moment1Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg10)), fun c => moment2Arr (gradArr (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9))) (m (c.tc.loc main_arg11)), ?_, ?_⟩
  · refine (θ_run _ _ _).mono (fun r h c => ?_) (Cert.RedFoIdeal.Value.run_blocks (F := Ideal) m g)
    obtain ⟨h6, h7, h8, h9, h⟩ := h c
    exact ⟨h6.trans (arr12 m c), h7.trans (arr13 m c), h8.trans (arr14 m c), h9.trans (arr15 m c), h⟩
  · refine (θ_run _ _ _).mono (fun r h c => ?_) (Cert.RedFoRefIdeal.Value.run (F := Ideal) m' g')
    obtain ⟨h6, h7, h8, h9, h⟩ := h c
    obtain ⟨e0, e1, e2, e3, e4, e5, e6, e7, e8, e9, e10, e11⟩ := hagree c
    unfold Cert.RedFoRefIdeal.Value.res_main_v52 at h7
    unfold Cert.RedFoRefIdeal.Value.res_main_v39 at h9
    rw [e1, e2, e3, e4, e5, e6, e7, e8, e9, ref_grad] at h6
    rw [e0, e1, e2, e3, e4, e5, e6, e7, e8, e9, e10, e11, ref_grad] at h7
    rw [e1, e2, e3, e4, e5, e6, e7, e8, e9, e10, ref_grad] at h8
    rw [e1, e2, e3, e4, e5, e6, e7, e8, e9, e11, ref_grad] at h9
    refine ⟨h6, h7.trans ?_, h8.trans ?_, h9.trans ?_, h⟩
    · funext y
      unfold deltaArr delta moment1 moment2
      pointwise
    · funext y
      unfold moment1Arr moment1
      pointwise
    · funext y
      unfold moment2Arr moment2
      pointwise

end Cert.Proof.RedFo

end
-- ==== Proof.LossValue.lean ====
module

public import proofs.«01_k».proof.Defs
public import proofs.«01_k».proof.Proof.Gen.LossIdeal.Value
public import Idealize.ShloMosaic.Lib.Pipeline.ValueKit
public import Idealize.ShloMosaic.Lib.Pipeline.ReadBack

/-!
The value of the loss call: the gradient of the output, element by element, and the loss, a sum over every element of the squared
difference.
-/

@[expose] public section

set_option maxRecDepth 16384

noncomputable section

namespace Cert.Proof.Loss

open Cert.LossIdeal Cert.LossIdeal.Gen Idealize.ShloMosaic Idealize.ShloMosaic.TcCoe Idealize.SL.Sem
open Idealize.ShloMosaic.Pipeline (Dat)
open scoped BigOperators

/-- A squared difference. -/
def sq (a b : EReal) : EReal := (a - b) * (a - b)

/-- The gradient of the output. -/
def dyArr (y z : Vec Ideal S8192x1024 .f32) : Vec Ideal S8192x1024 .f32 :=
  fun i => (y i - z i) * Ideal.ofBits .f32 0x3A800000#32

/-- The sum of the squared differences. -/
def sqSum (y z : Vec Ideal S8192x1024 .f32) : EReal := ∑ k : Fin 1024, ∑ i : Fin 8192, sq (y (ix2 i k)) (z (ix2 i k))

/-- The loss, once per lane. -/
def lossArr (y z : Vec Ideal S8192x1024 .f32) : Vec Ideal S1x128 .f32 := fun _ => sqSum y z * Ideal.ofBits .f32 0x3A000000#32

variable (m : (ℓ : Loc nD τ sig) → Buf (Elt Ideal) ℓ)

/-! ## What the points leave -/

theorem out2 (c : Dev nD) (t : Fin cfg0.N) : (outsAt0 m c t.val t.isLt).1 = k0_pay3 (iblk m c 0 t) (iblk m c 1 t) := by
  by_cases h0 : t.val % 16 = 0
  · rw [Gen.outsAt0_A m c t h0 (by omega)]
    frame_out
  by_cases h1 : t.val % 16 = 15
  · rw [Gen.outsAt0_C m c t h0 h1]
    frame_out
  · rw [Gen.outsAt0_B m c t h0 h1]
    frame_out

theorem acc_A (c : Dev nD) (t : Fin cfg0.N) (h0 : t.val % 16 = 0) :
    (outsAt0 m c t.val t.isLt).2.2 = k0_pay4 (iblk m c 0 t) (iblk m c 1 t) (k0_pay1 (F := Ideal)) := by
  rw [Gen.outsAt0_A m c t h0 (by omega)]
  frame_open
  simp (disch := decide) only [↓ View.readCov_skip, ↓ View.readCov_cons_toLoadRect, ↓ View.readCov_fill]
  frame_out

theorem acc_B (c : Dev nD) (t : Fin cfg0.N) (h0 : ¬ t.val % 16 = 0) :
    (outsAt0 m c t.val t.isLt).2.2 = k0_pay4 (iblk m c 0 t) (iblk m c 1 t)
      (outsAt0 m c (t.val - 1) (Nat.lt_of_le_of_lt (Nat.sub_le _ _) t.isLt)).2.2 := by
  by_cases h1 : t.val % 16 = 15
  · rw [Gen.outsAt0_C m c t h0 h1]
    frame_open
    simp (disch := decide) only [↓ View.readCov_skip, ↓ View.readCov_cons_toLoadRect, ↓ View.readCov_fill]
    frame_out
    rw [read_unread_whole]
  · rw [Gen.outsAt0_B m c t h0 h1]
    frame_open
    simp (disch := decide) only [↓ View.readCov_skip, ↓ View.readCov_cons_toLoadRect, ↓ View.readCov_fill]
    frame_out
    rw [read_unread_whole]

theorem out3 (c : Dev nD) (t : Fin cfg0.N) (h1 : t.val % 16 = 15) :
    (outsAt0 m c t.val t.isLt).2.1 = k0_pay5 (outsAt0 m c t.val t.isLt).2.2 := by
  rw [acc_B m c t (by omega)]
  rw [Gen.outsAt0_C m c t (by omega) h1]
  frame_open
  simp (disch := decide) only [↓ View.readCov_skip, ↓ View.readCov_cons_toLoadRect, ↓ View.readCov_fill]
  frame_out
  rw [read_unread_whole]

/-! ## The kernel's values, at variable blocks -/

theorem pay4_apply (x y : Vec Ideal S512x1024 .f32) (a : Vec Ideal S1x1024 .f32) (j : S1x1024.Idx) :
    k0_pay4 x y a j = a j + ∑ r : Fin 512, sq (x (ix2 r (j 1))) (y (ix2 r (j 1))) := by
  idx_vars j
  unfold sq
  pointwise [k0_pay4, k0_pay2]

theorem pay1_apply (j : S1x1024.Idx) : k0_pay1 (F := Ideal) j = 0 := by
  pointwise [k0_pay1]

theorem pay5_apply (s : Vec Ideal S1x1024 .f32) (j : S1x128.Idx) :
    k0_pay5 s j = (∑ k : Fin 1024, s (ix2 0 k)) * Ideal.ofBits .f32 0x3A000000#32 := by
  pointwise [k0_pay5]

/-! ## The whole arrays -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel

/-- Row `r` of the block of point `t`. -/
theorem row_lt (t : Fin grid0.N) (r : Fin 512) : t.val * 512 + r.val < 8192 := by
  have h : t.val < 16 := t.isLt
  omega

theorem iblk0_apply (c : Dev nD) (t : Fin cfg0.N) (r : Fin 512) (k : Fin 1024) :
    (iblk m c 0 t : Vec Ideal S512x1024 .f32) (ix2 r k)
      = ((m (c.tc.loc main_arg0)) : Vec Ideal S8192x1024 .f32) (ix2 ⟨t.val * 512 + r.val, row_lt t r⟩ k) := by
  blk_point [iblk, V, idx0 t]

theorem iblk1_apply (c : Dev nD) (t : Fin cfg0.N) (r : Fin 512) (k : Fin 1024) :
    (iblk m c 1 t : Vec Ideal S512x1024 .f32) (ix2 r k)
      = ((m (c.tc.loc main_arg1)) : Vec Ideal S8192x1024 .f32) (ix2 ⟨t.val * 512 + r.val, row_lt t r⟩ k) := by
  blk_point [iblk, V, idx1 t]

theorem dy_apply (x y : Vec Ideal S512x1024 .f32) (j : S512x1024.Idx) :
    k0_pay3 x y j = (x j - y j) * Ideal.ofBits .f32 0x3A800000#32 := by
  pointwise [k0_pay3, k0_pay2]

theorem arr2 (c : Dev nD) : (dats m 0 c).arrAt 2 cfg0.N = dyArr (m (c.tc.loc main_arg0)) (m (c.tc.loc main_arg1)) := by
  refine (dats m 0 c).arrAt_eq_of_covers 2 _ (by decide +kernel) fun t hf y => ?_
  blk_simp
  rw [after0_2, out2]
  idx_vars y
  refine (dy_apply _ _ _).trans ((congrArg (· * Ideal.ofBits .f32 0x3A800000#32)
    (congrArg₂ (fun a b : EReal => a - b) (iblk0_apply m c t _ _) (iblk1_apply m c t _ _))).trans ?_)
  refine congrArg (dyArr (m (c.tc.loc main_arg0)) (m (c.tc.loc main_arg1))) (a₁ := ix2 ⟨t.val * 512 + _, row_lt t _⟩ _) ?_
  blk_ext [idx2 t]

/-- What one point adds to the accumulator. -/
def term (c : Dev nD) (t : Fin cfg0.N) (j : S1x1024.Idx) : EReal :=
  ∑ r : Fin 512, sq ((m (c.tc.loc main_arg0) : Vec Ideal S8192x1024 .f32) (ix2 ⟨t.val * 512 + r.val, row_lt t r⟩ (j 1)))
    ((m (c.tc.loc main_arg1) : Vec Ideal S8192x1024 .f32) (ix2 ⟨t.val * 512 + r.val, row_lt t r⟩ (j 1)))

theorem term_eq (c : Dev nD) (t : Fin cfg0.N) (j : S1x1024.Idx) (a : Vec Ideal S1x1024 .f32) :
    k0_pay4 (iblk m c 0 t) (iblk m c 1 t) a j = a j + term m c t j :=
  (pay4_apply _ _ _ _).trans (congrArg (fun f : Fin 512 → EReal => a j + ∑ r, f r)
    (funext fun r => congrArg₂ sq (iblk0_apply m c t r (j 1)) (iblk1_apply m c t r (j 1))))

theorem step_A (c : Dev nD) (t : Fin cfg0.N) (h : t.val % 16 = 0) (j : S1x1024.Idx) :
    (outsAt0 m c t.val t.isLt).2.2 j = 0 + term m c t j := by
  rw [acc_A m c t h, term_eq, pay1_apply]

theorem step_B (c : Dev nD) (t : Fin cfg0.N) (h : ¬ t.val % 16 = 0) (j : S1x1024.Idx) :
    (outsAt0 m c t.val t.isLt).2.2 j
      = (outsAt0 m c (t.val - 1) (Nat.lt_of_le_of_lt (Nat.sub_le _ _) t.isLt)).2.2 j + term m c t j := by
  rw [acc_B m c t h, term_eq]

/-- The accumulator after the last point. -/
theorem acc_last (c : Dev nD) (t : Fin cfg0.N) (h : t.val % 16 = 15) (k : Fin 1024) :
    (outsAt0 m c t.val t.isLt).2.2 (ix2 0 k)
      = ∑ i : Fin 8192, sq ((m (c.tc.loc main_arg0) : Vec Ideal S8192x1024 .f32) (ix2 i k))
        ((m (c.tc.loc main_arg1) : Vec Ideal S8192x1024 .f32) (ix2 i k)) := by
  have ht : t.val < 16 := t.isLt
  rw [Pipeline.eq_sum_fin_of_reset_step_apply_of_flush (fun n h => (outsAt0 m c n h).2.2) 16 (fun _ => 0)
    (fun t j => term m c t j) (step_A m c) (step_B m c) t h]
  rw [zero_add]
  refine Fin.sum_mul_add_congr fun s r hl => ?_
  refine congrArg (fun i : Fin 8192 => sq ((m (c.tc.loc main_arg0) : Vec Ideal S8192x1024 .f32) (ix2 i k))
        ((m (c.tc.loc main_arg1) : Vec Ideal S8192x1024 .f32) (ix2 i k))) (Fin.ext ?_)
  show (16 * (t.val / 16) + s.val) * 512 + r.val = s.val * 512 + r.val
  omega

theorem arr3 (c : Dev nD) : (dats m 0 c).arrAt 3 cfg0.N = lossArr (m (c.tc.loc main_arg0)) (m (c.tc.loc main_arg1)) := by
  refine (dats m 0 c).arrAt_eq_of_covers 3 _ (by decide +kernel) fun t hf y => ?_
  have h := (Gen.flush0_3 t).mp hf
  blk_simp
  rw [after0_3, out3 m c t h]
  exact (pay5_apply _ _).trans (congrArg (fun f : Fin 1024 → EReal => (∑ k, f k) * Ideal.ofBits .f32 0x3A000000#32)
    (funext fun k => acc_last m c t h k))

end Cert.Proof.Loss

end
-- ==== Proof.LossClaim.lean ====
module

public import proofs.«01_k».proof.Defs
public import proofs.«01_k».proof.Proof.Gen.LossIdeal.Value
public import proofs.«01_k».proof.Proof.LossValue
public import proofs.«01_k».proof.Proof.Gen.LossRefIdeal.Run
public import Idealize.ShloMosaic.Lib.Pipeline.ValueKit
public import Idealize.ShloMosaic.Lib.Pipeline.ReadBack

/-!
The value claim of the loss call. The reference divides each row's mean by the width and halves the sum of the means; the kernel
scales the whole sum once. Scaling by a real that is not negative passes through a sum of extended reals, so the two agree.
-/

@[expose] public section

set_option maxRecDepth 16384

noncomputable section

namespace Cert.Proof.Loss

open Cert.LossIdeal Cert.LossIdeal.Gen Idealize.ShloMosaic Idealize.ShloMosaic.TcCoe Idealize.SL.Sem
open Idealize.ShloMosaic.Pipeline (Dat)
open scoped BigOperators

/-! ## The constants -/

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem width : Ideal.ofBits .f32 0x44800000#32 = ((1024 : ℝ) : EReal) := by
  simp [Ideal.ofBits, Ideal.ieee, -EReal.coe_mul]; norm_num

theorem inv1024 : Ideal.ofBits .f32 0x3A800000#32 = ((1 / 1024 : ℝ) : EReal) := by
  simp [Ideal.ofBits, Ideal.ieee, -EReal.coe_mul]; norm_num

theorem inv2048 : Ideal.ofBits .f32 0x3A000000#32 = ((1 / 2048 : ℝ) : EReal) := by
  simp [Ideal.ofBits, Ideal.ieee, -EReal.coe_mul]; norm_num

/-- A real factor that is not negative passes out of a sum. -/
theorem sum_scale {n : ℕ} (f : Fin n → EReal) (r : ℝ) (hr : 0 ≤ r) : ∑ i, f i * (r : EReal) = (∑ i, f i) * (r : EReal) := by
  induction n with
  | zero => simp
  | succ n ih =>
    rw [Fin.sum_univ_castSucc, Fin.sum_univ_castSucc, ih,
      EReal.right_distrib_of_nonneg_of_ne_top (EReal.coe_nonneg.mpr hr) (EReal.coe_ne_top r)]

theorem dy_scale (e : EReal) :
    Ideal.div (Ideal.ofBits .f32 0x3F000000#32) (Ideal.ofBits .f32 0x44800000#32) * (Ideal.ofBits .f32 0x40000000#32 * e)
      = e * Ideal.ofBits .f32 0x3A800000#32 := by
  rw [half, two, width, inv1024, Ideal.div_coe (by norm_num), ← mul_assoc, ← EReal.coe_mul, ← EReal.coe_mul, mul_comm]
  norm_num

theorem loss_scale (f : Fin 8192 → EReal) :
    Ideal.ofBits .f32 0x3F000000#32 * ∑ i, Ideal.div (f i) (Ideal.ofBits .f32 0x44800000#32)
      = (∑ i, f i) * Ideal.ofBits .f32 0x3A000000#32 := by
  have e : ∀ i, Ideal.div (f i) (Ideal.ofBits .f32 0x44800000#32) = f i * ((1 / 1024 : ℝ) : EReal) := fun i => by
    rw [width, Ideal.div_coe (by norm_num)]
  rw [Finset.sum_congr rfl fun i _ => e i, sum_scale f _ (by norm_num), half, inv2048, mul_comm, mul_assoc, ← EReal.coe_mul]
  norm_num

/-- The gradient of the output, in the reference's scales. -/
theorem dy_form (y z : Vec Ideal S8192x1024 .f32) (i : S8192x1024.Idx) : dyArr y z i
    = Ideal.div (Ideal.ofBits .f32 0x3F000000#32) (Ideal.ofBits .f32 0x44800000#32) * (Ideal.ofBits .f32 0x40000000#32 * (y i - z i)) :=
  (dy_scale _).symm

/-- The loss, in the reference's scales. -/
theorem loss_form (y z : Vec Ideal S8192x1024 .f32) (j : S1x128.Idx) : lossArr y z j
    = Ideal.ofBits .f32 0x3F000000#32 * ∑ i : Fin 8192, Ideal.div (∑ k : Fin 1024, (y (ix2 i k) - z (ix2 i k)) * (y (ix2 i k) - z (ix2 i k)))
      (Ideal.ofBits .f32 0x44800000#32) := by
  rw [loss_scale]
  unfold lossArr sqSum sq
  rw [Finset.sum_comm]

/-- The idealized kernel and the idealized reference, from the same arguments, end with the same gradient and loss. -/
theorem algebraic : Cert.algebraic_LossIdeal_LossRefIdeal := by
  intro m g m' g' _ hagree
  refine ⟨fun c => dyArr (m (c.tc.loc main_arg0)) (m (c.tc.loc main_arg1)), fun c => lossArr (m (c.tc.loc main_arg0)) (m (c.tc.loc main_arg1)), ?_, ?_⟩
  · refine (θ_run _ _ _).mono (fun r h c => ?_) (Cert.LossIdeal.Value.run_blocks (F := Ideal) m g)
    obtain ⟨h2, h3, h⟩ := h c
    exact ⟨h2.trans (arr2 m c), h3.trans (arr3 m c), h⟩
  · refine (θ_run _ _ _).mono (fun r h c => ?_) (Cert.LossRefIdeal.Value.run (F := Ideal) m' g')
    obtain ⟨h2, h3, h⟩ := h c
    obtain ⟨e0, e1⟩ := hagree c
    rw [e0, e1] at h2 h3
    refine ⟨h2.trans ?_, h3.trans ?_, h⟩
    · funext y
      refine Eq.trans ?_ (dy_form _ _ _).symm
      pointwise
    · funext y
      refine Eq.trans ?_ (loss_form _ _ _).symm
      pointwise

end Cert.Proof.Loss

end
-- ==== Proof.SSumClaim.lean ====
module

public import proofs.«01_k».proof.Defs
public import proofs.«01_k».proof.Proof.Gen.SSumIdeal.Value
public import proofs.«01_k».proof.Proof.Gen.SSumRefIdeal.Run
public import Idealize.ShloMosaic.Lib.Pipeline.ValueKit
public import Idealize.ShloMosaic.Lib.Pipeline.ReadBack

/-!
The value claim of the call that adds the eight devices' packed gradients: the kernel's eight additions and the reference's sum
are one array.
-/

@[expose] public section

set_option maxRecDepth 16384

noncomputable section

namespace Cert.Proof.SSum

open Cert.SSumIdeal Cert.SSumIdeal.Gen Idealize.ShloMosaic Idealize.ShloMosaic.TcCoe Idealize.SL.Sem
open scoped BigOperators

/-- The sum over the leading axis. -/
def sumArr (a : Vec Ideal S8x56x1024 .f32) : Vec Ideal S56x1024 .f32 := fun i => ∑ j : Fin 8, a (ix3 j (i 0) (i 1))

theorem kernel_eq (a : Vec Ideal S8x56x1024 .f32) : Value.G1 (F := Ideal) a = sumArr a := by
  funext y
  idx_vars y
  unfold sumArr
  rw [Fin.sum_univ_eight]
  pointwise [Value.G1, k0_pay1]

/-- The idealized kernel and the idealized reference, from the same array, end with the same sum. -/
theorem algebraic : Cert.algebraic_SSumIdeal_SSumRefIdeal := by
  intro m g m' g' _ hagree
  refine ⟨fun c => sumArr (m (c.tc.loc main_arg0)), ?_, ?_⟩
  · refine (θ_run _ _ _).mono (fun r h c => ?_) (Cert.SSumIdeal.Value.run (F := Ideal) m g)
    obtain ⟨h1, h⟩ := h c
    exact ⟨h1.trans (kernel_eq _), h⟩
  · refine (θ_run _ _ _).mono (fun r h c => ?_) (Cert.SSumRefIdeal.Value.run (F := Ideal) m' g')
    obtain ⟨h1, h⟩ := h c
    rw [hagree c] at h1
    refine ⟨h1.trans ?_, h⟩
    funext y
    idx_vars y
    unfold sumArr
    pointwise

end Cert.Proof.SSum

end
-- ==== Proof.lean ====
module

public import proofs.«01_k».proof.Defs
public import proofs.«01_k».proof.Proof.K.Run
public import proofs.«01_k».proof.Proof.KI.Run
public import proofs.«01_k».proof.Proof.Gen.InB.Frame
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.FIn.Frame
public import proofs.«01_k».proof.Proof.Gen.FInIdeal.Frame
public import proofs.«01_k».proof.Proof.Gen.FInIdeal.Value
public import proofs.«01_k».proof.Proof.Gen.FInRefIdeal
public import proofs.«01_k».proof.Proof.Gen.FInRefIdeal.Run
public import proofs.«01_k».proof.Proof.Gen.FOut.Frame
public import proofs.«01_k».proof.Proof.Gen.FOutIdeal.Frame
public import proofs.«01_k».proof.Proof.Gen.FOutIdeal.Value
public import proofs.«01_k».proof.Proof.Gen.FOutRefIdeal
public import proofs.«01_k».proof.Proof.Gen.FOutRefIdeal.Run
public import proofs.«01_k».proof.Proof.Gen.DWin.Frame
public import proofs.«01_k».proof.Proof.Gen.DWinIdeal.Frame
public import proofs.«01_k».proof.Proof.Gen.DWinIdeal.Value
public import proofs.«01_k».proof.Proof.Gen.DWinRefIdeal
public import proofs.«01_k».proof.Proof.Gen.DWinRefIdeal.Run
public import proofs.«01_k».proof.Proof.Gen.DWout.Frame
public import proofs.«01_k».proof.Proof.Gen.DWoutIdeal.Frame
public import proofs.«01_k».proof.Proof.Gen.DWoutIdeal.Value
public import proofs.«01_k».proof.Proof.Gen.DWoutRefIdeal
public import proofs.«01_k».proof.Proof.Gen.DWoutRefIdeal.Run
public import proofs.«01_k».proof.Proof.Gen.AtInB.Frame
public import proofs.«01_k».proof.Proof.Gen.AtInBIdeal.Frame
public import proofs.«01_k».proof.Proof.Gen.AtInBIdeal.Value
public import proofs.«01_k».proof.Proof.Gen.AtInBRefIdeal
public import proofs.«01_k».proof.Proof.Gen.AtInBRefIdeal.Run
public import proofs.«01_k».proof.Proof.Gen.MlInB.Frame
public import proofs.«01_k».proof.Proof.Gen.MlInBIdeal.Frame
public import proofs.«01_k».proof.Proof.Gen.MlInBIdeal.Value
public import proofs.«01_k».proof.Proof.Gen.MlInBRefIdeal
public import proofs.«01_k».proof.Proof.Gen.MlInBRefIdeal.Run
public import proofs.«01_k».proof.Proof.Gen.AtDWin.Frame
public import proofs.«01_k».proof.Proof.Gen.AtDWinIdeal.Frame
public import proofs.«01_k».proof.Proof.Gen.AtDWinIdeal.Value
public import proofs.«01_k».proof.Proof.Gen.AtDWinRefIdeal
public import proofs.«01_k».proof.Proof.Gen.AtDWinRefIdeal.Run
public import proofs.«01_k».proof.Proof.Gen.MlDWin.Frame
public import proofs.«01_k».proof.Proof.Gen.MlDWinIdeal.Frame
public import proofs.«01_k».proof.Proof.Gen.MlDWinIdeal.Value
public import proofs.«01_k».proof.Proof.Gen.MlDWinRefIdeal
public import proofs.«01_k».proof.Proof.Gen.MlDWinRefIdeal.Run
public import proofs.«01_k».proof.Proof.Gen.MxDWout.Frame
public import proofs.«01_k».proof.Proof.Gen.MxDWoutIdeal.Frame
public import proofs.«01_k».proof.Proof.Gen.MxDWoutIdeal.Value
public import proofs.«01_k».proof.Proof.Gen.MxDWoutRefIdeal
public import proofs.«01_k».proof.Proof.Gen.MxDWoutRefIdeal.Run
public import proofs.«01_k».proof.Proof.Gen.MxOut.Frame
public import proofs.«01_k».proof.Proof.Gen.MxOutIdeal.Frame
public import proofs.«01_k».proof.Proof.Gen.MxOutIdeal.Value
public import proofs.«01_k».proof.Proof.Gen.MxOutRefIdeal
public import proofs.«01_k».proof.Proof.Gen.MxOutRefIdeal.Run
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdaB.Frame
public import proofs.«01_k».proof.Proof.Gen.AdaBIdeal.Frame
public import proofs.«01_k».proof.Proof.Gen.AdaBIdeal.Value
public import proofs.«01_k».proof.Proof.Gen.AdaBRefIdeal
public import proofs.«01_k».proof.Proof.Gen.AdaBRefIdeal.Run
public import proofs.«01_k».proof.Proof.Gen.AdamB.Frame
public import proofs.«01_k».proof.Proof.Gen.AdamBIdeal.Frame
public import proofs.«01_k».proof.Proof.Gen.AdamBIdeal.Value
public import proofs.«01_k».proof.Proof.Gen.AdamBRefIdeal
public import proofs.«01_k».proof.Proof.Gen.AdamBRefIdeal.Run
public import proofs.«01_k».proof.Proof.Gen.AdamL.Frame
public import proofs.«01_k».proof.Proof.Gen.AdamLIdeal.Frame
public import proofs.«01_k».proof.Proof.Gen.AdamLIdeal.Value
public import proofs.«01_k».proof.Proof.Gen.AdamLRefIdeal
public import proofs.«01_k».proof.Proof.Gen.AdamLRefIdeal.Run
public import proofs.«01_k».proof.Proof.Gen.AdamG.Frame
public import proofs.«01_k».proof.Proof.Gen.AdamGIdeal.Frame
public import proofs.«01_k».proof.Proof.Gen.AdamGIdeal.Value
public import proofs.«01_k».proof.Proof.Gen.AdamGRefIdeal
public import proofs.«01_k».proof.Proof.Gen.AdamGRefIdeal.Run
public import proofs.«01_k».proof.Proof.Gen.AdamC.Frame
public import proofs.«01_k».proof.Proof.Gen.AdamCIdeal.Frame
public import proofs.«01_k».proof.Proof.Gen.AdamCIdeal.Value
public import proofs.«01_k».proof.Proof.Gen.AdamCRefIdeal
public import proofs.«01_k».proof.Proof.Gen.AdamCRefIdeal.Run
public import proofs.«01_k».proof.Proof.Gen.AdamH.Frame
public import proofs.«01_k».proof.Proof.Gen.AdamHIdeal.Frame
public import proofs.«01_k».proof.Proof.Gen.AdamHIdeal.Value
public import proofs.«01_k».proof.Proof.Gen.AdamHRefIdeal
public import proofs.«01_k».proof.Proof.Gen.AdamHRefIdeal.Run
public import proofs.«01_k».proof.Proof.Gen.RedO.Frame
public import proofs.«01_k».proof.Proof.Gen.RedOIdeal.Frame
public import proofs.«01_k».proof.Proof.Gen.RedOIdeal.Value
public import proofs.«01_k».proof.Proof.Gen.RedORefIdeal
public import proofs.«01_k».proof.Proof.Gen.RedORefIdeal.Run
public import proofs.«01_k».proof.Proof.Gen.RedM.Frame
public import proofs.«01_k».proof.Proof.Gen.RedMIdeal.Frame
public import proofs.«01_k».proof.Proof.Gen.RedMIdeal.Value
public import proofs.«01_k».proof.Proof.Gen.RedMRefIdeal
public import proofs.«01_k».proof.Proof.Gen.RedMRefIdeal.Run
public import proofs.«01_k».proof.Proof.Gen.RedA.Frame
public import proofs.«01_k».proof.Proof.Gen.RedAIdeal.Frame
public import proofs.«01_k».proof.Proof.Gen.RedAIdeal.Value
public import proofs.«01_k».proof.Proof.Gen.RedARefIdeal
public import proofs.«01_k».proof.Proof.Gen.RedARefIdeal.Run
public import proofs.«01_k».proof.Proof.Gen.RedFi.Frame
public import proofs.«01_k».proof.Proof.Gen.RedFiIdeal.Frame
public import proofs.«01_k».proof.Proof.Gen.RedFiIdeal.Value
public import proofs.«01_k».proof.Proof.Gen.RedFiRefIdeal
public import proofs.«01_k».proof.Proof.Gen.RedFiRefIdeal.Run
public import proofs.«01_k».proof.Proof.Gen.RedFo.Frame
public import proofs.«01_k».proof.Proof.Gen.RedFoIdeal.Frame
public import proofs.«01_k».proof.Proof.Gen.RedFoIdeal.Value
public import proofs.«01_k».proof.Proof.Gen.RedFoRefIdeal
public import proofs.«01_k».proof.Proof.Gen.RedFoRefIdeal.Run
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.SSum.Frame
public import proofs.«01_k».proof.Proof.Gen.SSumIdeal.Frame
public import proofs.«01_k».proof.Proof.Gen.SSumIdeal.Value
public import proofs.«01_k».proof.Proof.Gen.SSumRefIdeal
public import proofs.«01_k».proof.Proof.Gen.SSumRefIdeal.Run
public import proofs.«01_k».proof.Proof.InBClaim
public import proofs.«01_k».proof.Proof.FInClaim
public import proofs.«01_k».proof.Proof.FOutClaim
public import proofs.«01_k».proof.Proof.DWinClaim
public import proofs.«01_k».proof.Proof.DWoutClaim
public import proofs.«01_k».proof.Proof.AtInBClaim
public import proofs.«01_k».proof.Proof.MlInBClaim
public import proofs.«01_k».proof.Proof.AtDWinClaim
public import proofs.«01_k».proof.Proof.MlDWinClaim
public import proofs.«01_k».proof.Proof.MxDWoutClaim
public import proofs.«01_k».proof.Proof.MxOutClaim
public import proofs.«01_k».proof.Proof.AdamWClaim
public import proofs.«01_k».proof.Proof.AdaBClaim
public import proofs.«01_k».proof.Proof.AdamBClaim
public import proofs.«01_k».proof.Proof.AdamLClaim
public import proofs.«01_k».proof.Proof.AdamGClaim
public import proofs.«01_k».proof.Proof.AdamCClaim
public import proofs.«01_k».proof.Proof.AdamHClaim
public import proofs.«01_k».proof.Proof.RedOClaim
public import proofs.«01_k».proof.Proof.RedMClaim
public import proofs.«01_k».proof.Proof.RedAClaim
public import proofs.«01_k».proof.Proof.RedFiClaim
public import proofs.«01_k».proof.Proof.RedFoClaim
public import proofs.«01_k».proof.Proof.LossClaim
public import proofs.«01_k».proof.Proof.SSumClaim
public import Idealize.ShloMosaic.Adequacy
public import Idealize.ShloMosaic.Init

/-! The claim, conjunct by conjunct. -/

@[expose] public section

noncomputable section

namespace Cert.Proof

open Idealize.ShloMosaic Idealize.ShloMosaic.TcCoe Idealize.SL.Sem

/-- The reference of the feed-forward input product runs and leaves its arguments as they were. -/
theorem frame_InBRefIdeal : Cert.quiescent_InBRefIdeal := by
  intro m g _
  exact (θ_run _ _ _).mono (fun r h => ⟨fun c => (h c).2.2.2, sem_eq_zero_of_no_sems (by decide) _⟩)
    (Cert.InBRefIdeal.Value.run (F := Ideal) m g)

/-- The reference of the feed-forward input call runs and leaves its arguments as they were. -/
theorem frame_FInRefIdeal : Cert.quiescent_FInRefIdeal := by
  intro m g _
  exact (θ_run _ _ _).mono (fun r h => ⟨fun c => (h c).2.2.2.2, sem_eq_zero_of_no_sems (by decide) _⟩)
    (Cert.FInRefIdeal.Value.run (F := Ideal) m g)

/-- The reference of the feed-forward output call runs and leaves its arguments as they were. -/
theorem frame_FOutRefIdeal : Cert.quiescent_FOutRefIdeal := by
  intro m g _
  exact (θ_run _ _ _).mono (fun r h => ⟨fun c => (h c).2.2, sem_eq_zero_of_no_sems (by decide) _⟩)
    (Cert.FOutRefIdeal.Value.run (F := Ideal) m g)

/-- The reference of the input weight's gradient runs and leaves its arguments as they were. -/
theorem frame_DWinRefIdeal : Cert.quiescent_DWinRefIdeal := by
  intro m g _
  exact (θ_run _ _ _).mono (fun r h => ⟨fun c => (h c).2.2, sem_eq_zero_of_no_sems (by decide) _⟩)
    (Cert.DWinRefIdeal.Value.run (F := Ideal) m g)

/-- The reference of the output weight's gradient runs and leaves its arguments as they were. -/
theorem frame_DWoutRefIdeal : Cert.quiescent_DWoutRefIdeal := by
  intro m g _
  exact (θ_run _ _ _).mono (fun r h => ⟨fun c => (h c).2.2, sem_eq_zero_of_no_sems (by decide) _⟩)
    (Cert.DWoutRefIdeal.Value.run (F := Ideal) m g)

/-- The reference of the attention's input projection, backward, runs and leaves its arguments as they were. -/
theorem frame_AtInBRefIdeal : Cert.quiescent_AtInBRefIdeal := by
  intro m g _
  exact (θ_run _ _ _).mono (fun r h => ⟨fun c => (h c).2.2.2, sem_eq_zero_of_no_sems (by decide) _⟩)
    (Cert.AtInBRefIdeal.Value.run (F := Ideal) m g)

/-- The reference of the mLSTM's input projection, backward, runs and leaves its arguments as they were. -/
theorem frame_MlInBRefIdeal : Cert.quiescent_MlInBRefIdeal := by
  intro m g _
  exact (θ_run _ _ _).mono (fun r h => ⟨fun c => (h c).2.2.2, sem_eq_zero_of_no_sems (by decide) _⟩)
    (Cert.MlInBRefIdeal.Value.run (F := Ideal) m g)

/-- The reference of the attention's input weight's gradient runs and leaves its arguments as they were. -/
theorem frame_AtDWinRefIdeal : Cert.quiescent_AtDWinRefIdeal := by
  intro m g _
  exact (θ_run _ _ _).mono (fun r h => ⟨fun c => (h c).2.2, sem_eq_zero_of_no_sems (by decide) _⟩)
    (Cert.AtDWinRefIdeal.Value.run (F := Ideal) m g)

/-- The reference of the mLSTM's input weight's gradient runs and leaves its arguments as they were. -/
theorem frame_MlDWinRefIdeal : Cert.quiescent_MlDWinRefIdeal := by
  intro m g _
  exact (θ_run _ _ _).mono (fun r h => ⟨fun c => (h c).2.2, sem_eq_zero_of_no_sems (by decide) _⟩)
    (Cert.MlDWinRefIdeal.Value.run (F := Ideal) m g)

/-- The reference of a mixer's output weight's gradient runs and leaves its arguments as they were. -/
theorem frame_MxDWoutRefIdeal : Cert.quiescent_MxDWoutRefIdeal := by
  intro m g _
  exact (θ_run _ _ _).mono (fun r h => ⟨fun c => (h c).2.2, sem_eq_zero_of_no_sems (by decide) _⟩)
    (Cert.MxDWoutRefIdeal.Value.run (F := Ideal) m g)

/-- The reference of a mixer's output call runs and leaves its arguments as they were. -/
theorem frame_MxOutRefIdeal : Cert.quiescent_MxOutRefIdeal := by
  intro m g _
  exact (θ_run _ _ _).mono (fun r h => ⟨fun c => (h c).2.2, sem_eq_zero_of_no_sems (by decide) _⟩)
    (Cert.MxOutRefIdeal.Value.run (F := Ideal) m g)

/-- The reference of the AdamW step runs and leaves its arguments as they were. -/
theorem frame_AdamWRefIdeal : Cert.quiescent_AdamWRefIdeal := by
  intro m g _
  exact (θ_run _ _ _).mono (fun r h => ⟨fun c => (h c).2.2.2, sem_eq_zero_of_no_sems (by decide) _⟩)
    (Cert.AdamWRefIdeal.Value.run (F := Ideal) m g)

/-- The reference of the adaLN projection's gradients runs and leaves its arguments as they were. -/
theorem frame_AdaBRefIdeal : Cert.quiescent_AdaBRefIdeal := by
  intro m g _
  exact (θ_run _ _ _).mono (fun r h => ⟨fun c => (h c).2.2, sem_eq_zero_of_no_sems (by decide) _⟩)
    (Cert.AdaBRefIdeal.Value.run (F := Ideal) m g)

/-- The reference of the AdamW step on the adaLN bias runs and leaves its arguments as they were. -/
theorem frame_AdamBRefIdeal : Cert.quiescent_AdamBRefIdeal := by
  intro m g _
  exact (θ_run _ _ _).mono (fun r h => ⟨fun c => (h c).2.2.2, sem_eq_zero_of_no_sems (by decide) _⟩)
    (Cert.AdamBRefIdeal.Value.run (F := Ideal) m g)

/-- The reference of the AdamW step on the layer norm runs and leaves its arguments as they were. -/
theorem frame_AdamLRefIdeal : Cert.quiescent_AdamLRefIdeal := by
  intro m g _
  exact (θ_run _ _ _).mono (fun r h => ⟨fun c => (h c).2.2.2, sem_eq_zero_of_no_sems (by decide) _⟩)
    (Cert.AdamLRefIdeal.Value.run (F := Ideal) m g)

/-- The reference of the AdamW step on the gate bias runs and leaves its arguments as they were. -/
theorem frame_AdamGRefIdeal : Cert.quiescent_AdamGRefIdeal := by
  intro m g _
  exact (θ_run _ _ _).mono (fun r h => ⟨fun c => (h c).2.2.2, sem_eq_zero_of_no_sems (by decide) _⟩)
    (Cert.AdamGRefIdeal.Value.run (F := Ideal) m g)

/-- The reference of the AdamW step on the convolution runs and leaves its arguments as they were. -/
theorem frame_AdamCRefIdeal : Cert.quiescent_AdamCRefIdeal := by
  intro m g _
  exact (θ_run _ _ _).mono (fun r h => ⟨fun c => (h c).2.2.2, sem_eq_zero_of_no_sems (by decide) _⟩)
    (Cert.AdamCRefIdeal.Value.run (F := Ideal) m g)

/-- The reference of the AdamW step on the head gain runs and leaves its arguments as they were. -/
theorem frame_AdamHRefIdeal : Cert.quiescent_AdamHRefIdeal := by
  intro m g _
  exact (θ_run _ _ _).mono (fun r h => ⟨fun c => (h c).2.2.2, sem_eq_zero_of_no_sems (by decide) _⟩)
    (Cert.AdamHRefIdeal.Value.run (F := Ideal) m g)

/-- The reference of the reduction and AdamW step of the mLSTM's output weight runs and leaves its arguments as they were. -/
theorem frame_RedORefIdeal : Cert.quiescent_RedORefIdeal := by
  intro m g _
  exact (θ_run _ _ _).mono (fun r h => ⟨fun c => (h c).2.2.2.2, sem_eq_zero_of_no_sems (by decide) _⟩)
    (Cert.RedORefIdeal.Value.run (F := Ideal) m g)

/-- The reference of the reduction and AdamW step of the mLSTM's input weight runs and leaves its arguments as they were. -/
theorem frame_RedMRefIdeal : Cert.quiescent_RedMRefIdeal := by
  intro m g _
  exact (θ_run _ _ _).mono (fun r h => ⟨fun c => (h c).2.2.2.2, sem_eq_zero_of_no_sems (by decide) _⟩)
    (Cert.RedMRefIdeal.Value.run (F := Ideal) m g)

/-- The reference of the reduction and AdamW step of the attention's input weight runs and leaves its arguments as they were. -/
theorem frame_RedARefIdeal : Cert.quiescent_RedARefIdeal := by
  intro m g _
  exact (θ_run _ _ _).mono (fun r h => ⟨fun c => (h c).2.2.2.2, sem_eq_zero_of_no_sems (by decide) _⟩)
    (Cert.RedARefIdeal.Value.run (F := Ideal) m g)

/-- The reference of the reduction and AdamW step of the feed-forward input weight runs and leaves its arguments as they were. -/
theorem frame_RedFiRefIdeal : Cert.quiescent_RedFiRefIdeal := by
  intro m g _
  exact (θ_run _ _ _).mono (fun r h => ⟨fun c => (h c).2.2.2.2, sem_eq_zero_of_no_sems (by decide) _⟩)
    (Cert.RedFiRefIdeal.Value.run (F := Ideal) m g)

/-- The reference of the reduction and AdamW step of the feed-forward output weight runs and leaves its arguments as they were. -/
theorem frame_RedFoRefIdeal : Cert.quiescent_RedFoRefIdeal := by
  intro m g _
  exact (θ_run _ _ _).mono (fun r h => ⟨fun c => (h c).2.2.2.2, sem_eq_zero_of_no_sems (by decide) _⟩)
    (Cert.RedFoRefIdeal.Value.run (F := Ideal) m g)

/-- The reference of the loss runs and leaves its arguments as they were. -/
theorem frame_LossRefIdeal : Cert.quiescent_LossRefIdeal := by
  intro m g _
  exact (θ_run _ _ _).mono (fun r h => ⟨fun c => (h c).2.2, sem_eq_zero_of_no_sems (by decide) _⟩)
    (Cert.LossRefIdeal.Value.run (F := Ideal) m g)

/-- The reference of the sum of the small gradients runs and leaves its arguments as they were. -/
theorem frame_SSumRefIdeal : Cert.quiescent_SSumRefIdeal := by
  intro m g _
  exact (θ_run _ _ _).mono (fun r h => ⟨fun c => (h c).2, sem_eq_zero_of_no_sems (by decide) _⟩)
    (Cert.SSumRefIdeal.Value.run (F := Ideal) m g)

theorem claim : Cert.Claim :=
  ⟨Cert.Kernel.Gen.facts, Cert.KernelIdeal.Gen.facts,
    Cert.InB.Gen.facts, Cert.InBIdeal.Gen.facts, Cert.InBRefIdeal.Gen.facts,
    Cert.FIn.Gen.facts, Cert.FInIdeal.Gen.facts, Cert.FInRefIdeal.Gen.facts,
    Cert.FOut.Gen.facts, Cert.FOutIdeal.Gen.facts, Cert.FOutRefIdeal.Gen.facts,
    Cert.DWin.Gen.facts, Cert.DWinIdeal.Gen.facts, Cert.DWinRefIdeal.Gen.facts,
    Cert.DWout.Gen.facts, Cert.DWoutIdeal.Gen.facts, Cert.DWoutRefIdeal.Gen.facts,
    Cert.AtInB.Gen.facts, Cert.AtInBIdeal.Gen.facts, Cert.AtInBRefIdeal.Gen.facts,
    Cert.MlInB.Gen.facts, Cert.MlInBIdeal.Gen.facts, Cert.MlInBRefIdeal.Gen.facts,
    Cert.AtDWin.Gen.facts, Cert.AtDWinIdeal.Gen.facts, Cert.AtDWinRefIdeal.Gen.facts,
    Cert.MlDWin.Gen.facts, Cert.MlDWinIdeal.Gen.facts, Cert.MlDWinRefIdeal.Gen.facts,
    Cert.MxDWout.Gen.facts, Cert.MxDWoutIdeal.Gen.facts, Cert.MxDWoutRefIdeal.Gen.facts,
    Cert.MxOut.Gen.facts, Cert.MxOutIdeal.Gen.facts, Cert.MxOutRefIdeal.Gen.facts,
    Cert.AdamW.Gen.facts, Cert.AdamWIdeal.Gen.facts, Cert.AdamWRefIdeal.Gen.facts,
    Cert.AdaB.Gen.facts, Cert.AdaBIdeal.Gen.facts, Cert.AdaBRefIdeal.Gen.facts,
    Cert.AdamB.Gen.facts, Cert.AdamBIdeal.Gen.facts, Cert.AdamBRefIdeal.Gen.facts,
    Cert.AdamL.Gen.facts, Cert.AdamLIdeal.Gen.facts, Cert.AdamLRefIdeal.Gen.facts,
    Cert.AdamG.Gen.facts, Cert.AdamGIdeal.Gen.facts, Cert.AdamGRefIdeal.Gen.facts,
    Cert.AdamC.Gen.facts, Cert.AdamCIdeal.Gen.facts, Cert.AdamCRefIdeal.Gen.facts,
    Cert.AdamH.Gen.facts, Cert.AdamHIdeal.Gen.facts, Cert.AdamHRefIdeal.Gen.facts,
    Cert.RedO.Gen.facts, Cert.RedOIdeal.Gen.facts, Cert.RedORefIdeal.Gen.facts,
    Cert.RedM.Gen.facts, Cert.RedMIdeal.Gen.facts, Cert.RedMRefIdeal.Gen.facts,
    Cert.RedA.Gen.facts, Cert.RedAIdeal.Gen.facts, Cert.RedARefIdeal.Gen.facts,
    Cert.RedFi.Gen.facts, Cert.RedFiIdeal.Gen.facts, Cert.RedFiRefIdeal.Gen.facts,
    Cert.RedFo.Gen.facts, Cert.RedFoIdeal.Gen.facts, Cert.RedFoRefIdeal.Gen.facts,
    Cert.Loss.Gen.facts, Cert.LossIdeal.Gen.facts, Cert.LossRefIdeal.Gen.facts,
    Cert.SSum.Gen.facts, Cert.SSumIdeal.Gen.facts, Cert.SSumRefIdeal.Gen.facts,
    fun m g _ => Cert.Proof.Kernel.frame_main m g,
    fun m g _ => Cert.Proof.KernelIdeal.frame_main m g,
    fun m g _ => Cert.InB.Gen.frame m g, fun m g _ => Cert.InBIdeal.Gen.frame m g, frame_InBRefIdeal,
    fun m g _ => Cert.FIn.Gen.frame m g, fun m g _ => Cert.FInIdeal.Gen.frame m g, frame_FInRefIdeal,
    fun m g _ => Cert.FOut.Gen.frame m g, fun m g _ => Cert.FOutIdeal.Gen.frame m g, frame_FOutRefIdeal,
    fun m g _ => Cert.DWin.Gen.frame m g, fun m g _ => Cert.DWinIdeal.Gen.frame m g, frame_DWinRefIdeal,
    fun m g _ => Cert.DWout.Gen.frame m g, fun m g _ => Cert.DWoutIdeal.Gen.frame m g, frame_DWoutRefIdeal,
    fun m g _ => Cert.AtInB.Gen.frame m g, fun m g _ => Cert.AtInBIdeal.Gen.frame m g, frame_AtInBRefIdeal,
    fun m g _ => Cert.MlInB.Gen.frame m g, fun m g _ => Cert.MlInBIdeal.Gen.frame m g, frame_MlInBRefIdeal,
    fun m g _ => Cert.AtDWin.Gen.frame m g, fun m g _ => Cert.AtDWinIdeal.Gen.frame m g, frame_AtDWinRefIdeal,
    fun m g _ => Cert.MlDWin.Gen.frame m g, fun m g _ => Cert.MlDWinIdeal.Gen.frame m g, frame_MlDWinRefIdeal,
    fun m g _ => Cert.MxDWout.Gen.frame m g, fun m g _ => Cert.MxDWoutIdeal.Gen.frame m g, frame_MxDWoutRefIdeal,
    fun m g _ => Cert.MxOut.Gen.frame m g, fun m g _ => Cert.MxOutIdeal.Gen.frame m g, frame_MxOutRefIdeal,
    fun m g _ => Cert.AdamW.Gen.frame m g, fun m g _ => Cert.AdamWIdeal.Gen.frame m g, frame_AdamWRefIdeal,
    fun m g _ => Cert.AdaB.Gen.frame m g, fun m g _ => Cert.AdaBIdeal.Gen.frame m g, frame_AdaBRefIdeal,
    fun m g _ => Cert.AdamB.Gen.frame m g, fun m g _ => Cert.AdamBIdeal.Gen.frame m g, frame_AdamBRefIdeal,
    fun m g _ => Cert.AdamL.Gen.frame m g, fun m g _ => Cert.AdamLIdeal.Gen.frame m g, frame_AdamLRefIdeal,
    fun m g _ => Cert.AdamG.Gen.frame m g, fun m g _ => Cert.AdamGIdeal.Gen.frame m g, frame_AdamGRefIdeal,
    fun m g _ => Cert.AdamC.Gen.frame m g, fun m g _ => Cert.AdamCIdeal.Gen.frame m g, frame_AdamCRefIdeal,
    fun m g _ => Cert.AdamH.Gen.frame m g, fun m g _ => Cert.AdamHIdeal.Gen.frame m g, frame_AdamHRefIdeal,
    fun m g _ => Cert.RedO.Gen.frame m g, fun m g _ => Cert.RedOIdeal.Gen.frame m g, frame_RedORefIdeal,
    fun m g _ => Cert.RedM.Gen.frame m g, fun m g _ => Cert.RedMIdeal.Gen.frame m g, frame_RedMRefIdeal,
    fun m g _ => Cert.RedA.Gen.frame m g, fun m g _ => Cert.RedAIdeal.Gen.frame m g, frame_RedARefIdeal,
    fun m g _ => Cert.RedFi.Gen.frame m g, fun m g _ => Cert.RedFiIdeal.Gen.frame m g, frame_RedFiRefIdeal,
    fun m g _ => Cert.RedFo.Gen.frame m g, fun m g _ => Cert.RedFoIdeal.Gen.frame m g, frame_RedFoRefIdeal,
    fun m g _ => Cert.Loss.Gen.frame m g, fun m g _ => Cert.LossIdeal.Gen.frame m g, frame_LossRefIdeal,
    fun m g _ => Cert.SSum.Gen.frame m g, fun m g _ => Cert.SSumIdeal.Gen.frame m g, frame_SSumRefIdeal,
    IdealRules.named_const.statement Cert.KernelIdeal.κ "mask" .f32 0xF149F2CA#32 ⊥ rfl,
    trivial, Cert.Proof.InB.algebraic,
    trivial, Cert.Proof.FIn.algebraic,
    trivial, Cert.Proof.FOut.algebraic,
    trivial, Cert.Proof.DWin.algebraic,
    trivial, Cert.Proof.DWout.algebraic,
    trivial, Cert.Proof.AtInB.algebraic,
    trivial, Cert.Proof.MlInB.algebraic,
    trivial, Cert.Proof.AtDWin.algebraic,
    trivial, Cert.Proof.MlDWin.algebraic,
    trivial, Cert.Proof.MxDWout.algebraic,
    trivial, Cert.Proof.MxOut.algebraic,
    trivial, Cert.Proof.AdamW.algebraic,
    trivial, Cert.Proof.AdaB.algebraic,
    trivial, Cert.Proof.AdamB.algebraic,
    trivial, Cert.Proof.AdamL.algebraic,
    trivial, Cert.Proof.AdamG.algebraic,
    trivial, Cert.Proof.AdamC.algebraic,
    trivial, Cert.Proof.AdamH.algebraic,
    trivial, Cert.Proof.RedO.algebraic,
    trivial, Cert.Proof.RedM.algebraic,
    trivial, Cert.Proof.RedA.algebraic,
    trivial, Cert.Proof.RedFi.algebraic,
    trivial, Cert.Proof.RedFo.algebraic,
    trivial, Cert.Proof.Loss.algebraic,
    trivial, Cert.Proof.SSum.algebraic⟩

end Cert.Proof

end
